-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite [hPre_finite : Cert.Pre_finite.Facts] (m : (ℓ : Loc Cert.GateIdeal.nD Cert.GateIdeal.τ Cert.GateIdeal.sig) → Buf (Elt Ideal) ℓ) : Prop :=
  ∀ c : Dev Cert.GateIdeal.nD,
    (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite [hPre_finite : Cert.Pre_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_FoxInRefIdeal (m : (ℓ : Loc Cert.FoxInRefIdeal.nD Cert.FoxInRefIdeal.τ Cert.FoxInRefIdeal.sig) → Buf (Elt Ideal) ℓ) : Prop :=
  True

def Pre_SbIn (m : (ℓ : Loc Cert.SbIn.nD Cert.SbIn.τ Cert.SbIn.sig) → Buf (Elt Bits) ℓ) : Prop :=
  True

def Pre_SbInIdeal (m : (ℓ : Loc Cert.SbInIdeal.nD Cert.SbInIdeal.τ Cert.SbInIdeal.sig) → Buf (Elt Ideal) ℓ) : Prop :=
  True

def Pre_SbInRefIdeal (m : (ℓ : Loc Cert.SbInRefIdeal.nD Cert.SbInRefIdeal.τ Cert.SbInRefIdeal.sig) → Buf (Elt Ideal) ℓ) : Prop :=
  True

def Pre_GmIn (m : (ℓ : Loc Cert.GmIn.nD Cert.GmIn.τ Cert.GmIn.sig) → Buf (Elt Bits) ℓ) : Prop :=
  True

def Pre_GmInIdeal (m : (ℓ : Loc Cert.GmInIdeal.nD Cert.GmInIdeal.τ Cert.GmInIdeal.sig) → Buf (Elt Ideal) ℓ) : Prop :=
  True

def Pre_GmInRefIdeal (m : (ℓ : Loc Cert.GmInRefIdeal.nD Cert.GmInRefIdeal.τ Cert.GmInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixDwout (m : (ℓ : Loc Cert.MixDwout.nD Cert.MixDwout.τ Cert.MixDwout.sig) → Buf (Elt Bits) ℓ) : Prop :=
  True

def Pre_MixDwoutIdeal (m : (ℓ : Loc Cert.MixDwoutIdeal.nD Cert.MixDwoutIdeal.τ Cert.MixDwoutIdeal.sig) → Buf (Elt Ideal) ℓ) : Prop :=
  True

def Pre_MixDwoutRefIdeal (m : (ℓ : Loc Cert.MixDwoutRefIdeal.nD Cert.MixDwoutRefIdeal.τ Cert.MixDwoutRefIdeal.sig) → Buf (Elt Ideal) ℓ) : Prop :=
  True

def Pre_GmDwin (m : (ℓ : Loc Cert.GmDwin.nD Cert.GmDwin.τ Cert.GmDwin.sig) → Buf (Elt Bits) ℓ) : Prop :=
  True

def Pre_GmDwinIdeal (m : (ℓ : Loc Cert.GmDwinIdeal.nD Cert.GmDwinIdeal.τ Cert.GmDwinIdeal.sig) → Buf (Elt Ideal) ℓ) : Prop :=
  True

def Pre_GmDwinRefIdeal (m : (ℓ : Loc Cert.GmDwinRefIdeal.nD Cert.GmDwinRefIdeal.τ Cert.GmDwinRefIdeal.sig) → Buf (Elt Ideal) ℓ) : Prop :=
  True

def Pre_SbDwin (m : (ℓ : Loc Cert.SbDwin.nD Cert.SbDwin.τ Cert.SbDwin.sig) → Buf (Elt Bits) ℓ) : Prop :=
  True

def Pre_SbDwinIdeal (m : (ℓ : Loc Cert.SbDwinIdeal.nD Cert.SbDwinIdeal.τ Cert.SbDwinIdeal.sig) → Buf (Elt Ideal) ℓ) : Prop :=
  True

def Pre_SbDwinRefIdeal (m : (ℓ : Loc Cert.SbDwinRefIdeal.nD Cert.SbDwinRefIdeal.τ Cert.SbDwinRefIdeal.sig) → Buf (Elt Ideal) ℓ) : Prop :=
  True

def Pre_FoxDwin (m : (ℓ : Loc Cert.FoxDwin.nD Cert.FoxDwin.τ Cert.FoxDwin.sig) → Buf (Elt Bits) ℓ) : Prop :=
  True

def Pre_FoxDwinIdeal (m : (ℓ : Loc Cert.FoxDwinIdeal.nD Cert.FoxDwinIdeal.τ Cert.FoxDwinIdeal.sig) → Buf (Elt Ideal) ℓ) : Prop :=
  True

def Pre_FoxDwinRefIdeal (m : (ℓ : Loc Cert.FoxDwinRefIdeal.nD Cert.FoxDwinRefIdeal.τ Cert.FoxDwinRefIdeal.sig) → Buf (Elt Ideal) ℓ) : Prop :=
  True

def Pre_GmDy (m : (ℓ : Loc Cert.GmDy.nD Cert.GmDy.τ Cert.GmDy.sig) → Buf (Elt Bits) ℓ) : Prop :=
  True

def Pre_GmDyIdeal (m : (ℓ : Loc Cert.GmDyIdeal.nD Cert.GmDyIdeal.τ Cert.GmDyIdeal.sig) → Buf (Elt Ideal) ℓ) : Prop :=
  True

def Pre_GmDyRefIdeal (m : (ℓ : Loc Cert.GmDyRefIdeal.nD Cert.GmDyRefIdeal.τ Cert.GmDyRefIdeal.sig) → Buf (Elt Ideal) ℓ) : Prop :=
  True

def Pre_FoxDo (m : (ℓ : Loc Cert.FoxDo.nD Cert.FoxDo.τ Cert.FoxDo.sig) → Buf (Elt Bits) ℓ) : Prop :=
  True

def Pre_FoxDoIdeal (m : (ℓ : Loc Cert.FoxDoIdeal.nD Cert.FoxDoIdeal.τ Cert.FoxDoIdeal.sig) → Buf (Elt Ideal) ℓ) : Prop :=
  True

def Pre_FoxDoRefIdeal (m : (ℓ : Loc Cert.FoxDoRefIdeal.nD Cert.FoxDoRefIdeal.τ Cert.FoxDoRefIdeal.sig) → Buf (Elt Ideal) ℓ) : Prop :=
  True

def Pre_GmDh (m : (ℓ : Loc Cert.GmDh.nD Cert.GmDh.τ Cert.GmDh.sig) → Buf (Elt Bits) ℓ) : Prop :=
  True

def Pre_GmDhIdeal (m : (ℓ : Loc Cert.GmDhIdeal.nD Cert.GmDhIdeal.τ Cert.GmDhIdeal.sig) → Buf (Elt Ideal) ℓ) : Prop :=
  True

def Pre_GmDhRefIdeal (m : (ℓ : Loc Cert.GmDhRefIdeal.nD Cert.GmDhRefIdeal.τ Cert.GmDhRefIdeal.sig) → Buf (Elt Ideal) ℓ) : Prop :=
  True

def Pre_SbDh (m : (ℓ : Loc Cert.SbDh.nD Cert.SbDh.τ Cert.SbDh.sig) → Buf (Elt Bits) ℓ) : Prop :=
  True

def Pre_SbDhIdeal (m : (ℓ : Loc Cert.SbDhIdeal.nD Cert.SbDhIdeal.τ Cert.SbDhIdeal.sig) → Buf (Elt Ideal) ℓ) : Prop :=
  True

def Pre_SbDhRefIdeal (m : (ℓ : Loc Cert.SbDhRefIdeal.nD Cert.SbDhRefIdeal.τ Cert.SbDhRefIdeal.sig) → Buf (Elt Ideal) ℓ) : Prop :=
  True

def Pre_FoxDh (m : (ℓ : Loc Cert.FoxDh.nD Cert.FoxDh.τ Cert.FoxDh.sig) → Buf (Elt Bits) ℓ) : Prop :=
  True

def Pre_FoxDhIdeal (m : (ℓ : Loc Cert.FoxDhIdeal.nD Cert.FoxDhIdeal.τ Cert.FoxDhIdeal.sig) → Buf (Elt Ideal) ℓ) : Prop :=
  True

def Pre_FoxDhRefIdeal (m : (ℓ : Loc Cert.FoxDhRefIdeal.nD Cert.FoxDhRefIdeal.τ Cert.FoxDhRefIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdRefIdeal (m : (ℓ : Loc Cert.ModBwdRefIdeal.nD Cert.ModBwdRefIdeal.τ Cert.ModBwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_SpatialRefIdeal (m : (ℓ : Loc Cert.SpatialRefIdeal.nD Cert.SpatialRefIdeal.τ Cert.SpatialRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_LnAct (m : (ℓ : Loc Cert.LnAct.nD Cert.LnAct.τ Cert.LnAct.sig) → Buf (Elt Bits) ℓ) : Prop :=
  True

def Pre_LnActIdeal (m : (ℓ : Loc Cert.LnActIdeal.nD Cert.LnActIdeal.τ Cert.LnActIdeal.sig) → Buf (Elt Ideal) ℓ) : Prop :=
  True

def Pre_LnActRefIdeal (m : (ℓ : Loc Cert.LnActRefIdeal.nD Cert.LnActRefIdeal.τ Cert.LnActRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_CAct (m : (ℓ : Loc Cert.CAct.nD Cert.CAct.τ Cert.CAct.sig) → Buf (Elt Bits) ℓ) : Prop :=
  True

def Pre_CActIdeal (m : (ℓ : Loc Cert.CActIdeal.nD Cert.CActIdeal.τ Cert.CActIdeal.sig) → Buf (Elt Ideal) ℓ) : Prop :=
  True

def Pre_CActRefIdeal (m : (ℓ : Loc Cert.CActRefIdeal.nD Cert.CActRefIdeal.τ Cert.CActRefIdeal.sig) → Buf (Elt Ideal) ℓ) : Prop :=
  True

def Pre_ModMm (m : (ℓ : Loc Cert.ModMm.nD Cert.ModMm.τ Cert.ModMm.sig) → Buf (Elt Bits) ℓ) : Prop :=
  True

def Pre_ModMmIdeal (m : (ℓ : Loc Cert.ModMmIdeal.nD Cert.ModMmIdeal.τ Cert.ModMmIdeal.sig) → Buf (Elt Ideal) ℓ) : Prop :=
  True

def Pre_ModMmRefIdeal (m : (ℓ : Loc Cert.ModMmRefIdeal.nD Cert.ModMmRefIdeal.τ Cert.ModMmRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def Pre_ModBias (m : (ℓ : Loc Cert.ModBias.nD Cert.ModBias.τ Cert.ModBias.sig) → Buf (Elt Bits) ℓ) : Prop :=
  True

def Pre_ModBiasIdeal (m : (ℓ : Loc Cert.ModBiasIdeal.nD Cert.ModBiasIdeal.τ Cert.ModBiasIdeal.sig) → Buf (Elt Ideal) ℓ) : Prop :=
  True

def Pre_ModBiasRefIdeal (m : (ℓ : Loc Cert.ModBiasRefIdeal.nD Cert.ModBiasRefIdeal.τ Cert.ModBiasRefIdeal.sig) → Buf (Elt Ideal) ℓ) : Prop :=
  True

def Pre_LnB (m : (ℓ : Loc Cert.LnB.nD Cert.LnB.τ Cert.LnB.sig) → Buf (Elt Bits) ℓ) : Prop :=
  True

def Pre_LnBIdeal (m : (ℓ : Loc Cert.LnBIdeal.nD Cert.LnBIdeal.τ Cert.LnBIdeal.sig) → Buf (Elt Ideal) ℓ) : Prop :=
  True

def Pre_LnBRefIdeal (m : (ℓ : Loc Cert.LnBRefIdeal.nD Cert.LnBRefIdeal.τ Cert.LnBRefIdeal.sig) → Buf (Elt Ideal) ℓ) : Prop :=
  True

def Pre_LnLast (m : (ℓ : Loc Cert.LnLast.nD Cert.LnLast.τ Cert.LnLast.sig) → Buf (Elt Bits) ℓ) : Prop :=
  True

def Pre_LnLastIdeal (m : (ℓ : Loc Cert.LnLastIdeal.nD Cert.LnLastIdeal.τ Cert.LnLastIdeal.sig) → Buf (Elt Ideal) ℓ) : Prop :=
  True

def Pre_LnLastRefIdeal (m : (ℓ : Loc Cert.LnLastRefIdeal.nD Cert.LnLastRefIdeal.τ Cert.LnLastRefIdeal.sig) → Buf (Elt Ideal) ℓ) : Prop :=
  True

def Pre_GmAct (m : (ℓ : Loc Cert.GmAct.nD Cert.GmAct.τ Cert.GmAct.sig) → Buf (Elt Bits) ℓ) : Prop :=
  True

def Pre_GmActIdeal (m : (ℓ : Loc Cert.GmActIdeal.nD Cert.GmActIdeal.τ Cert.GmActIdeal.sig) → Buf (Elt Ideal) ℓ) : Prop :=
  True

def Pre_GmActRefIdeal (m : (ℓ : Loc Cert.GmActRefIdeal.nD Cert.GmActRefIdeal.τ Cert.GmActRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite [hGateIdeal : Cert.GateIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite [hGateRefIdeal : Cert.GateRefIdeal.Facts] [hPre_finite : Cert.Pre_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ r.2.sem = fun _ => 0)

def quiescent_FoxInRefIdeal [hFoxInRefIdeal : Cert.FoxInRefIdeal.Facts] : Prop :=
  ∀ (m : (ℓ : Loc Cert.FoxInRefIdeal.nD Cert.FoxInRefIdeal.τ Cert.FoxInRefIdeal.sig) → Buf (Elt Ideal) ℓ) (g : Dev Cert.FoxInRefIdeal.nD → PrngReg), Pre_FoxInRefIdeal m →
    θ_run (Cert.FoxInRefIdeal.defs (F := Ideal)) (onTc (τ := Cert.FoxInRefIdeal.τ) (Cert.FoxInRefIdeal.main (F := Ideal))) ⟨m, fun _ => 0, g⟩ (fun r => (∀ c : Dev Cert.FoxInRefIdeal.nD,
      r.2.mem ((c.tc : Thread Cert.FoxInRefIdeal.nD Cert.FoxInRefIdeal.τ).loc Cert.FoxInRefIdeal.main_arg0) = m ((c.tc : Thread Cert.FoxInRefIdeal.nD Cert.FoxInRefIdeal.τ).loc Cert.FoxInRefIdeal.main_arg0)
      ∧ r.2.mem ((c.tc : Thread Cert.FoxInRefIdeal.nD Cert.FoxInRefIdeal.τ).loc Cert.FoxInRefIdeal.main_arg1) = m ((c.tc : Thread Cert.FoxInRefIdeal.nD Cert.FoxInRefIdeal.τ).loc Cert.FoxInRefIdeal.main_arg1))
      ∧ r.2.sem = fun _ => 0)

def quiescent_SbIn [hSbIn : Cert.SbIn.Facts] : Prop :=
  ∀ (m : (ℓ : Loc Cert.SbIn.nD Cert.SbIn.τ Cert.SbIn.sig) → Buf (Elt Bits) ℓ) (g : Dev Cert.SbIn.nD → PrngReg), Pre_SbIn m →
    θ_run (Cert.SbIn.defs (F := Bits)) (onTc (τ := Cert.SbIn.τ) (Cert.SbIn.main (F := Bits))) ⟨m, fun _ => 0, g⟩ (fun r => (∀ c : Dev Cert.SbIn.nD,
      r.2.mem ((c.tc : Thread Cert.SbIn.nD Cert.SbIn.τ).loc Cert.SbIn.main_arg0) = m ((c.tc : Thread Cert.SbIn.nD Cert.SbIn.τ).loc Cert.SbIn.main_arg0)
      ∧ r.2.mem ((c.tc : Thread Cert.SbIn.nD Cert.SbIn.τ).loc Cert.SbIn.main_arg1) = m ((c.tc : Thread Cert.SbIn.nD Cert.SbIn.τ).loc Cert.SbIn.main_arg1))
      ∧ r.2.sem = fun _ => 0)

def quiescent_SbInIdeal [hSbInIdeal : Cert.SbInIdeal.Facts] : Prop :=
  ∀ (m : (ℓ : Loc Cert.SbInIdeal.nD Cert.SbInIdeal.τ Cert.SbInIdeal.sig) → Buf (Elt Ideal) ℓ) (g : Dev Cert.SbInIdeal.nD → PrngReg), Pre_SbInIdeal m →
    θ_run (Cert.SbInIdeal.defs (F := Ideal)) (onTc (τ := Cert.SbInIdeal.τ) (Cert.SbInIdeal.main (F := Ideal))) ⟨m, fun _ => 0, g⟩ (fun r => (∀ c : Dev Cert.SbInIdeal.nD,
      r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
      ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1))
      ∧ r.2.sem = fun _ => 0)

def quiescent_SbInRefIdeal [hSbInRefIdeal : Cert.SbInRefIdeal.Facts] : Prop :=
  ∀ (m : (ℓ : Loc Cert.SbInRefIdeal.nD Cert.SbInRefIdeal.τ Cert.SbInRefIdeal.sig) → Buf (Elt Ideal) ℓ) (g : Dev Cert.SbInRefIdeal.nD → PrngReg), Pre_SbInRefIdeal m →
    θ_run (Cert.SbInRefIdeal.defs (F := Ideal)) (onTc (τ := Cert.SbInRefIdeal.τ) (Cert.SbInRefIdeal.main (F := Ideal))) ⟨m, fun _ => 0, g⟩ (fun r => (∀ c : Dev Cert.SbInRefIdeal.nD,
      r.2.mem ((c.tc : Thread Cert.SbInRefIdeal.nD Cert.SbInRefIdeal.τ).loc Cert.SbInRefIdeal.main_arg0) = m ((c.tc : Thread Cert.SbInRefIdeal.nD Cert.SbInRefIdeal.τ).loc Cert.SbInRefIdeal.main_arg0)
      ∧ r.2.mem ((c.tc : Thread Cert.SbInRefIdeal.nD Cert.SbInRefIdeal.τ).loc Cert.SbInRefIdeal.main_arg1) = m ((c.tc : Thread Cert.SbInRefIdeal.nD Cert.SbInRefIdeal.τ).loc Cert.SbInRefIdeal.main_arg1))
      ∧ r.2.sem = fun _ => 0)

def quiescent_GmIn [hGmIn : Cert.GmIn.Facts] : Prop :=
  ∀ (m : (ℓ : Loc Cert.GmIn.nD Cert.GmIn.τ Cert.GmIn.sig) → Buf (Elt Bits) ℓ) (g : Dev Cert.GmIn.nD → PrngReg), Pre_GmIn m →
    θ_run (Cert.GmIn.defs (F := Bits)) (onTc (τ := Cert.GmIn.τ) (Cert.GmIn.main (F := Bits))) ⟨m, fun _ => 0, g⟩ (fun r => (∀ c : Dev Cert.GmIn.nD,
      r.2.mem ((c.tc : Thread Cert.GmIn.nD Cert.GmIn.τ).loc Cert.GmIn.main_arg0) = m ((c.tc : Thread Cert.GmIn.nD Cert.GmIn.τ).loc Cert.GmIn.main_arg0)
      ∧ r.2.mem ((c.tc : Thread Cert.GmIn.nD Cert.GmIn.τ).loc Cert.GmIn.main_arg1) = m ((c.tc : Thread Cert.GmIn.nD Cert.GmIn.τ).loc Cert.GmIn.main_arg1))
      ∧ r.2.sem = fun _ => 0)

def quiescent_GmInIdeal [hGmInIdeal : Cert.GmInIdeal.Facts] : Prop :=
  ∀ (m : (ℓ : Loc Cert.GmInIdeal.nD Cert.GmInIdeal.τ Cert.GmInIdeal.sig) → Buf (Elt Ideal) ℓ) (g : Dev Cert.GmInIdeal.nD → PrngReg), Pre_GmInIdeal m →
    θ_run (Cert.GmInIdeal.defs (F := Ideal)) (onTc (τ := Cert.GmInIdeal.τ) (Cert.GmInIdeal.main (F := Ideal))) ⟨m, fun _ => 0, g⟩ (fun r => (∀ c : Dev Cert.GmInIdeal.nD,
      r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
      ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ r.2.sem = fun _ => 0)

def quiescent_GmInRefIdeal [hGmInRefIdeal : Cert.GmInRefIdeal.Facts] : Prop :=
  ∀ (m : (ℓ : Loc Cert.GmInRefIdeal.nD Cert.GmInRefIdeal.τ Cert.GmInRefIdeal.sig) → Buf (Elt Ideal) ℓ) (g : Dev Cert.GmInRefIdeal.nD → PrngReg), Pre_GmInRefIdeal m →
    θ_run (Cert.GmInRefIdeal.defs (F := Ideal)) (onTc (τ := Cert.GmInRefIdeal.τ) (Cert.GmInRefIdeal.main (F := Ideal))) ⟨m, fun _ => 0, g⟩ (fun r => (∀ c : Dev Cert.GmInRefIdeal.nD,
      r.2.mem ((c.tc : Thread Cert.GmInRefIdeal.nD Cert.GmInRefIdeal.τ).loc Cert.GmInRefIdeal.main_arg0) = m ((c.tc : Thread Cert.GmInRefIdeal.nD Cert.GmInRefIdeal.τ).loc Cert.GmInRefIdeal.main_arg0)
      ∧ r.2.mem ((c.tc : Thread Cert.GmInRefIdeal.nD Cert.GmInRefIdeal.τ).loc Cert.GmInRefIdeal.main_arg1) = m ((c.tc : Thread Cert.GmInRefIdeal.nD Cert.GmInRefIdeal.τ).loc Cert.GmInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixDwout [hMixDwout : Cert.MixDwout.Facts] : Prop :=
  ∀ (m : (ℓ : Loc Cert.MixDwout.nD Cert.MixDwout.τ Cert.MixDwout.sig) → Buf (Elt Bits) ℓ) (g : Dev Cert.MixDwout.nD → PrngReg), Pre_MixDwout m →
    θ_run (Cert.MixDwout.defs (F := Bits)) (onTc (τ := Cert.MixDwout.τ) (Cert.MixDwout.main (F := Bits))) ⟨m, fun _ => 0, g⟩ (fun r => (∀ c : Dev Cert.MixDwout.nD,
      r.2.mem ((c.tc : Thread Cert.MixDwout.nD Cert.MixDwout.τ).loc Cert.MixDwout.main_arg0) = m ((c.tc : Thread Cert.MixDwout.nD Cert.MixDwout.τ).loc Cert.MixDwout.main_arg0)
      ∧ r.2.mem ((c.tc : Thread Cert.MixDwout.nD Cert.MixDwout.τ).loc Cert.MixDwout.main_arg1) = m ((c.tc : Thread Cert.MixDwout.nD Cert.MixDwout.τ).loc Cert.MixDwout.main_arg1))
      ∧ r.2.sem = fun _ => 0)

def quiescent_MixDwoutIdeal [hMixDwoutIdeal : Cert.MixDwoutIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg), Pre_MixDwoutIdeal m →
    θ_run (Cert.MixDwoutIdeal.defs (F := Ideal)) (onTc (τ := Cert.MixDwoutIdeal.τ) (Cert.MixDwoutIdeal.main (F := Ideal))) ⟨m, fun _ => 0, g⟩ (fun r => (∀ c : Dev Cert.MixDwoutIdeal.nD,
      r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
      ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ r.2.sem = fun _ => 0)

def quiescent_MixDwoutRefIdeal [hMixDwoutRefIdeal : Cert.MixDwoutRefIdeal.Facts] : Prop :=
  ∀ (m : (ℓ : Loc Cert.MixDwoutRefIdeal.nD Cert.MixDwoutRefIdeal.τ Cert.MixDwoutRefIdeal.sig) → Buf (Elt Ideal) ℓ) (g : Dev Cert.MixDwoutRefIdeal.nD → PrngReg), Pre_MixDwoutRefIdeal m →
    θ_run (Cert.MixDwoutRefIdeal.defs (F := Ideal)) (onTc (τ := Cert.MixDwoutRefIdeal.τ) (Cert.MixDwoutRefIdeal.main (F := Ideal))) ⟨m, fun _ => 0, g⟩ (fun r => (∀ c : Dev Cert.MixDwoutRefIdeal.nD,
      r.2.mem ((c.tc : Thread Cert.MixDwoutRefIdeal.nD Cert.MixDwoutRefIdeal.τ).loc Cert.MixDwoutRefIdeal.main_arg0) = m ((c.tc : Thread Cert.MixDwoutRefIdeal.nD Cert.MixDwoutRefIdeal.τ).loc Cert.MixDwoutRefIdeal.main_arg0)
      ∧ r.2.mem ((c.tc : Thread Cert.MixDwoutRefIdeal.nD Cert.MixDwoutRefIdeal.τ).loc Cert.MixDwoutRefIdeal.main_arg1) = m ((c.tc : Thread Cert.MixDwoutRefIdeal.nD Cert.MixDwoutRefIdeal.τ).loc Cert.MixDwoutRefIdeal.main_arg1))
      ∧ r.2.sem = fun _ => 0)

def quiescent_GmDwin [hGmDwin : Cert.GmDwin.Facts] : Prop :=
  ∀ (m : (ℓ : Loc Cert.GmDwin.nD Cert.GmDwin.τ Cert.GmDwin.sig) → Buf (Elt Bits) ℓ) (g : Dev Cert.GmDwin.nD → PrngReg), Pre_GmDwin m →
    θ_run (Cert.GmDwin.defs (F := Bits)) (onTc (τ := Cert.GmDwin.τ) (Cert.GmDwin.main (F := Bits))) ⟨m, fun _ => 0, g⟩ (fun r => (∀ c : Dev Cert.GmDwin.nD,
      r.2.mem ((c.tc : Thread Cert.GmDwin.nD Cert.GmDwin.τ).loc Cert.GmDwin.main_arg0) = m ((c.tc : Thread Cert.GmDwin.nD Cert.GmDwin.τ).loc Cert.GmDwin.main_arg0)
      ∧ r.2.mem ((c.tc : Thread Cert.GmDwin.nD Cert.GmDwin.τ).loc Cert.GmDwin.main_arg1) = m ((c.tc : Thread Cert.GmDwin.nD Cert.GmDwin.τ).loc Cert.GmDwin.main_arg1))
      ∧ r.2.sem = fun _ => 0)

def quiescent_GmDwinIdeal [hGmDwinIdeal : Cert.GmDwinIdeal.Facts] : Prop :=
  ∀ (m : (ℓ : Loc Cert.GmDwinIdeal.nD Cert.GmDwinIdeal.τ Cert.GmDwinIdeal.sig) → Buf (Elt Ideal) ℓ) (g : Dev Cert.GmDwinIdeal.nD → PrngReg), Pre_GmDwinIdeal m →
    θ_run (Cert.GmDwinIdeal.defs (F := Ideal)) (onTc (τ := Cert.GmDwinIdeal.τ) (Cert.GmDwinIdeal.main (F := Ideal))) ⟨m, fun _ => 0, g⟩ (fun r => (∀ c : Dev Cert.GmDwinIdeal.nD,
      r.2.mem ((c.tc : Thread Cert.GmDwinIdeal.nD Cert.GmDwinIdeal.τ).loc Cert.GmDwinIdeal.main_arg0) = m ((c.tc : Thread Cert.GmDwinIdeal.nD Cert.GmDwinIdeal.τ).loc Cert.GmDwinIdeal.main_arg0)
      ∧ r.2.mem ((c.tc : Thread Cert.GmDwinIdeal.nD Cert.GmDwinIdeal.τ).loc Cert.GmDwinIdeal.main_arg1) = m ((c.tc : Thread Cert.GmDwinIdeal.nD Cert.GmDwinIdeal.τ).loc Cert.GmDwinIdeal.main_arg1))
      ∧ r.2.sem = fun _ => 0)

def quiescent_GmDwinRefIdeal [hGmDwinRefIdeal : Cert.GmDwinRefIdeal.Facts] : Prop :=
  ∀ (m : (ℓ : Loc Cert.GmDwinRefIdeal.nD Cert.GmDwinRefIdeal.τ Cert.GmDwinRefIdeal.sig) → Buf (Elt Ideal) ℓ) (g : Dev Cert.GmDwinRefIdeal.nD → PrngReg), Pre_GmDwinRefIdeal m →
    θ_run (Cert.GmDwinRefIdeal.defs (F := Ideal)) (onTc (τ := Cert.GmDwinRefIdeal.τ) (Cert.GmDwinRefIdeal.main (F := Ideal))) ⟨m, fun _ => 0, g⟩ (fun r => (∀ c : Dev Cert.GmDwinRefIdeal.nD,
      r.2.mem ((c.tc : Thread Cert.GmDwinRefIdeal.nD Cert.GmDwinRefIdeal.τ).loc Cert.GmDwinRefIdeal.main_arg0) = m ((c.tc : Thread Cert.GmDwinRefIdeal.nD Cert.GmDwinRefIdeal.τ).loc Cert.GmDwinRefIdeal.main_arg0)
      ∧ r.2.mem ((c.tc : Thread Cert.GmDwinRefIdeal.nD Cert.GmDwinRefIdeal.τ).loc Cert.GmDwinRefIdeal.main_arg1) = m ((c.tc : Thread Cert.GmDwinRefIdeal.nD Cert.GmDwinRefIdeal.τ).loc Cert.GmDwinRefIdeal.main_arg1))
      ∧ r.2.sem = fun _ => 0)

def quiescent_SbDwin [hSbDwin : Cert.SbDwin.Facts] : Prop :=
  ∀ (m : (ℓ : Loc Cert.SbDwin.nD Cert.SbDwin.τ Cert.SbDwin.sig) → Buf (Elt Bits) ℓ) (g : Dev Cert.SbDwin.nD → PrngReg), Pre_SbDwin m →
    θ_run (Cert.SbDwin.defs (F := Bits)) (onTc (τ := Cert.SbDwin.τ) (Cert.SbDwin.main (F := Bits))) ⟨m, fun _ => 0, g⟩ (fun r => (∀ c : Dev Cert.SbDwin.nD,
      r.2.mem ((c.tc : Thread Cert.SbDwin.nD Cert.SbDwin.τ).loc Cert.SbDwin.main_arg0) = m ((c.tc : Thread Cert.SbDwin.nD Cert.SbDwin.τ).loc Cert.SbDwin.main_arg0)
      ∧ r.2.mem ((c.tc : Thread Cert.SbDwin.nD Cert.SbDwin.τ).loc Cert.SbDwin.main_arg1) = m ((c.tc : Thread Cert.SbDwin.nD Cert.SbDwin.τ).loc Cert.SbDwin.main_arg1))
      ∧ r.2.sem = fun _ => 0)

def quiescent_SbDwinIdeal [hSbDwinIdeal : Cert.SbDwinIdeal.Facts] : Prop :=
  ∀ (m : (ℓ : Loc Cert.SbDwinIdeal.nD Cert.SbDwinIdeal.τ Cert.SbDwinIdeal.sig) → Buf (Elt Ideal) ℓ) (g : Dev Cert.SbDwinIdeal.nD → PrngReg), Pre_SbDwinIdeal m →
    θ_run (Cert.SbDwinIdeal.defs (F := Ideal)) (onTc (τ := Cert.SbDwinIdeal.τ) (Cert.SbDwinIdeal.main (F := Ideal))) ⟨m, fun _ => 0, g⟩ (fun r => (∀ c : Dev Cert.SbDwinIdeal.nD,
      r.2.mem ((c.tc : Thread Cert.SbDwinIdeal.nD Cert.SbDwinIdeal.τ).loc Cert.SbDwinIdeal.main_arg0) = m ((c.tc : Thread Cert.SbDwinIdeal.nD Cert.SbDwinIdeal.τ).loc Cert.SbDwinIdeal.main_arg0)
      ∧ r.2.mem ((c.tc : Thread Cert.SbDwinIdeal.nD Cert.SbDwinIdeal.τ).loc Cert.SbDwinIdeal.main_arg1) = m ((c.tc : Thread Cert.SbDwinIdeal.nD Cert.SbDwinIdeal.τ).loc Cert.SbDwinIdeal.main_arg1))
      ∧ r.2.sem = fun _ => 0)

def quiescent_SbDwinRefIdeal [hSbDwinRefIdeal : Cert.SbDwinRefIdeal.Facts] : Prop :=
  ∀ (m : (ℓ : Loc Cert.SbDwinRefIdeal.nD Cert.SbDwinRefIdeal.τ Cert.SbDwinRefIdeal.sig) → Buf (Elt Ideal) ℓ) (g : Dev Cert.SbDwinRefIdeal.nD → PrngReg), Pre_SbDwinRefIdeal m →
    θ_run (Cert.SbDwinRefIdeal.defs (F := Ideal)) (onTc (τ := Cert.SbDwinRefIdeal.τ) (Cert.SbDwinRefIdeal.main (F := Ideal))) ⟨m, fun _ => 0, g⟩ (fun r => (∀ c : Dev Cert.SbDwinRefIdeal.nD,
      r.2.mem ((c.tc : Thread Cert.SbDwinRefIdeal.nD Cert.SbDwinRefIdeal.τ).loc Cert.SbDwinRefIdeal.main_arg0) = m ((c.tc : Thread Cert.SbDwinRefIdeal.nD Cert.SbDwinRefIdeal.τ).loc Cert.SbDwinRefIdeal.main_arg0)
      ∧ r.2.mem ((c.tc : Thread Cert.SbDwinRefIdeal.nD Cert.SbDwinRefIdeal.τ).loc Cert.SbDwinRefIdeal.main_arg1) = m ((c.tc : Thread Cert.SbDwinRefIdeal.nD Cert.SbDwinRefIdeal.τ).loc Cert.SbDwinRefIdeal.main_arg1))
      ∧ r.2.sem = fun _ => 0)

def quiescent_FoxDwin [hFoxDwin : Cert.FoxDwin.Facts] : Prop :=
  ∀ (m : (ℓ : Loc Cert.FoxDwin.nD Cert.FoxDwin.τ Cert.FoxDwin.sig) → Buf (Elt Bits) ℓ) (g : Dev Cert.FoxDwin.nD → PrngReg), Pre_FoxDwin m →
    θ_run (Cert.FoxDwin.defs (F := Bits)) (onTc (τ := Cert.FoxDwin.τ) (Cert.FoxDwin.main (F := Bits))) ⟨m, fun _ => 0, g⟩ (fun r => (∀ c : Dev Cert.FoxDwin.nD,
      r.2.mem ((c.tc : Thread Cert.FoxDwin.nD Cert.FoxDwin.τ).loc Cert.FoxDwin.main_arg0) = m ((c.tc : Thread Cert.FoxDwin.nD Cert.FoxDwin.τ).loc Cert.FoxDwin.main_arg0)
      ∧ r.2.mem ((c.tc : Thread Cert.FoxDwin.nD Cert.FoxDwin.τ).loc Cert.FoxDwin.main_arg1) = m ((c.tc : Thread Cert.FoxDwin.nD Cert.FoxDwin.τ).loc Cert.FoxDwin.main_arg1))
      ∧ r.2.sem = fun _ => 0)

def quiescent_FoxDwinIdeal [hFoxDwinIdeal : Cert.FoxDwinIdeal.Facts] : Prop :=
  ∀ (m : (ℓ : Loc Cert.FoxDwinIdeal.nD Cert.FoxDwinIdeal.τ Cert.FoxDwinIdeal.sig) → Buf (Elt Ideal) ℓ) (g : Dev Cert.FoxDwinIdeal.nD → PrngReg), Pre_FoxDwinIdeal m →
    θ_run (Cert.FoxDwinIdeal.defs (F := Ideal)) (onTc (τ := Cert.FoxDwinIdeal.τ) (Cert.FoxDwinIdeal.main (F := Ideal))) ⟨m, fun _ => 0, g⟩ (fun r => (∀ c : Dev Cert.FoxDwinIdeal.nD,
      r.2.mem ((c.tc : Thread Cert.FoxDwinIdeal.nD Cert.FoxDwinIdeal.τ).loc Cert.FoxDwinIdeal.main_arg0) = m ((c.tc : Thread Cert.FoxDwinIdeal.nD Cert.FoxDwinIdeal.τ).loc Cert.FoxDwinIdeal.main_arg0)
      ∧ r.2.mem ((c.tc : Thread Cert.FoxDwinIdeal.nD Cert.FoxDwinIdeal.τ).loc Cert.FoxDwinIdeal.main_arg1) = m ((c.tc : Thread Cert.FoxDwinIdeal.nD Cert.FoxDwinIdeal.τ).loc Cert.FoxDwinIdeal.main_arg1))
      ∧ r.2.sem = fun _ => 0)

def quiescent_FoxDwinRefIdeal [hFoxDwinRefIdeal : Cert.FoxDwinRefIdeal.Facts] : Prop :=
  ∀ (m : (ℓ : Loc Cert.FoxDwinRefIdeal.nD Cert.FoxDwinRefIdeal.τ Cert.FoxDwinRefIdeal.sig) → Buf (Elt Ideal) ℓ) (g : Dev Cert.FoxDwinRefIdeal.nD → PrngReg), Pre_FoxDwinRefIdeal m →
    θ_run (Cert.FoxDwinRefIdeal.defs (F := Ideal)) (onTc (τ := Cert.FoxDwinRefIdeal.τ) (Cert.FoxDwinRefIdeal.main (F := Ideal))) ⟨m, fun _ => 0, g⟩ (fun r => (∀ c : Dev Cert.FoxDwinRefIdeal.nD,
      r.2.mem ((c.tc : Thread Cert.FoxDwinRefIdeal.nD Cert.FoxDwinRefIdeal.τ).loc Cert.FoxDwinRefIdeal.main_arg0) = m ((c.tc : Thread Cert.FoxDwinRefIdeal.nD Cert.FoxDwinRefIdeal.τ).loc Cert.FoxDwinRefIdeal.main_arg0)
      ∧ r.2.mem ((c.tc : Thread Cert.FoxDwinRefIdeal.nD Cert.FoxDwinRefIdeal.τ).loc Cert.FoxDwinRefIdeal.main_arg1) = m ((c.tc : Thread Cert.FoxDwinRefIdeal.nD Cert.FoxDwinRefIdeal.τ).loc Cert.FoxDwinRefIdeal.main_arg1))
      ∧ r.2.sem = fun _ => 0)

def quiescent_GmDy [hGmDy : Cert.GmDy.Facts] : Prop :=
  ∀ (m : (ℓ : Loc Cert.GmDy.nD Cert.GmDy.τ Cert.GmDy.sig) → Buf (Elt Bits) ℓ) (g : Dev Cert.GmDy.nD → PrngReg), Pre_GmDy m →
    θ_run (Cert.GmDy.defs (F := Bits)) (onTc (τ := Cert.GmDy.τ) (Cert.GmDy.main (F := Bits))) ⟨m, fun _ => 0, g⟩ (fun r => (∀ c : Dev Cert.GmDy.nD,
      r.2.mem ((c.tc : Thread Cert.GmDy.nD Cert.GmDy.τ).loc Cert.GmDy.main_arg0) = m ((c.tc : Thread Cert.GmDy.nD Cert.GmDy.τ).loc Cert.GmDy.main_arg0)
      ∧ r.2.mem ((c.tc : Thread Cert.GmDy.nD Cert.GmDy.τ).loc Cert.GmDy.main_arg1) = m ((c.tc : Thread Cert.GmDy.nD Cert.GmDy.τ).loc Cert.GmDy.main_arg1))
      ∧ r.2.sem = fun _ => 0)

def quiescent_GmDyIdeal [hGmDyIdeal : Cert.GmDyIdeal.Facts] : Prop :=
  ∀ (m : (ℓ : Loc Cert.GmDyIdeal.nD Cert.GmDyIdeal.τ Cert.GmDyIdeal.sig) → Buf (Elt Ideal) ℓ) (g : Dev Cert.GmDyIdeal.nD → PrngReg), Pre_GmDyIdeal m →
    θ_run (Cert.GmDyIdeal.defs (F := Ideal)) (onTc (τ := Cert.GmDyIdeal.τ) (Cert.GmDyIdeal.main (F := Ideal))) ⟨m, fun _ => 0, g⟩ (fun r => (∀ c : Dev Cert.GmDyIdeal.nD,
      r.2.mem ((c.tc : Thread Cert.GmDyIdeal.nD Cert.GmDyIdeal.τ).loc Cert.GmDyIdeal.main_arg0) = m ((c.tc : Thread Cert.GmDyIdeal.nD Cert.GmDyIdeal.τ).loc Cert.GmDyIdeal.main_arg0)
      ∧ r.2.mem ((c.tc : Thread Cert.GmDyIdeal.nD Cert.GmDyIdeal.τ).loc Cert.GmDyIdeal.main_arg1) = m ((c.tc : Thread Cert.GmDyIdeal.nD Cert.GmDyIdeal.τ).loc Cert.GmDyIdeal.main_arg1))
      ∧ r.2.sem = fun _ => 0)

def quiescent_GmDyRefIdeal [hGmDyRefIdeal : Cert.GmDyRefIdeal.Facts] : Prop :=
  ∀ (m : (ℓ : Loc Cert.GmDyRefIdeal.nD Cert.GmDyRefIdeal.τ Cert.GmDyRefIdeal.sig) → Buf (Elt Ideal) ℓ) (g : Dev Cert.GmDyRefIdeal.nD → PrngReg), Pre_GmDyRefIdeal m →
    θ_run (Cert.GmDyRefIdeal.defs (F := Ideal)) (onTc (τ := Cert.GmDyRefIdeal.τ) (Cert.GmDyRefIdeal.main (F := Ideal))) ⟨m, fun _ => 0, g⟩ (fun r => (∀ c : Dev Cert.GmDyRefIdeal.nD,
      r.2.mem ((c.tc : Thread Cert.GmDyRefIdeal.nD Cert.GmDyRefIdeal.τ).loc Cert.GmDyRefIdeal.main_arg0) = m ((c.tc : Thread Cert.GmDyRefIdeal.nD Cert.GmDyRefIdeal.τ).loc Cert.GmDyRefIdeal.main_arg0)
      ∧ r.2.mem ((c.tc : Thread Cert.GmDyRefIdeal.nD Cert.GmDyRefIdeal.τ).loc Cert.GmDyRefIdeal.main_arg1) = m ((c.tc : Thread Cert.GmDyRefIdeal.nD Cert.GmDyRefIdeal.τ).loc Cert.GmDyRefIdeal.main_arg1))
      ∧ r.2.sem = fun _ => 0)

def quiescent_FoxDo [hFoxDo : Cert.FoxDo.Facts] : Prop :=
  ∀ (m : (ℓ : Loc Cert.FoxDo.nD Cert.FoxDo.τ Cert.FoxDo.sig) → Buf (Elt Bits) ℓ) (g : Dev Cert.FoxDo.nD → PrngReg), Pre_FoxDo m →
    θ_run (Cert.FoxDo.defs (F := Bits)) (onTc (τ := Cert.FoxDo.τ) (Cert.FoxDo.main (F := Bits))) ⟨m, fun _ => 0, g⟩ (fun r => (∀ c : Dev Cert.FoxDo.nD,
      r.2.mem ((c.tc : Thread Cert.FoxDo.nD Cert.FoxDo.τ).loc Cert.FoxDo.main_arg0) = m ((c.tc : Thread Cert.FoxDo.nD Cert.FoxDo.τ).loc Cert.FoxDo.main_arg0)
      ∧ r.2.mem ((c.tc : Thread Cert.FoxDo.nD Cert.FoxDo.τ).loc Cert.FoxDo.main_arg1) = m ((c.tc : Thread Cert.FoxDo.nD Cert.FoxDo.τ).loc Cert.FoxDo.main_arg1))
      ∧ r.2.sem = fun _ => 0)

def quiescent_FoxDoIdeal [hFoxDoIdeal : Cert.FoxDoIdeal.Facts] : Prop :=
  ∀ (m : (ℓ : Loc Cert.FoxDoIdeal.nD Cert.FoxDoIdeal.τ Cert.FoxDoIdeal.sig) → Buf (Elt Ideal) ℓ) (g : Dev Cert.FoxDoIdeal.nD → PrngReg), Pre_FoxDoIdeal m →
    θ_run (Cert.FoxDoIdeal.defs (F := Ideal)) (onTc (τ := Cert.FoxDoIdeal.τ) (Cert.FoxDoIdeal.main (F := Ideal))) ⟨m, fun _ => 0, g⟩ (fun r => (∀ c : Dev Cert.FoxDoIdeal.nD,
      r.2.mem ((c.tc : Thread Cert.FoxDoIdeal.nD Cert.FoxDoIdeal.τ).loc Cert.FoxDoIdeal.main_arg0) = m ((c.tc : Thread Cert.FoxDoIdeal.nD Cert.FoxDoIdeal.τ).loc Cert.FoxDoIdeal.main_arg0)
      ∧ r.2.mem ((c.tc : Thread Cert.FoxDoIdeal.nD Cert.FoxDoIdeal.τ).loc Cert.FoxDoIdeal.main_arg1) = m ((c.tc : Thread Cert.FoxDoIdeal.nD Cert.FoxDoIdeal.τ).loc Cert.FoxDoIdeal.main_arg1))
      ∧ r.2.sem = fun _ => 0)

def quiescent_FoxDoRefIdeal [hFoxDoRefIdeal : Cert.FoxDoRefIdeal.Facts] : Prop :=
  ∀ (m : (ℓ : Loc Cert.FoxDoRefIdeal.nD Cert.FoxDoRefIdeal.τ Cert.FoxDoRefIdeal.sig) → Buf (Elt Ideal) ℓ) (g : Dev Cert.FoxDoRefIdeal.nD → PrngReg), Pre_FoxDoRefIdeal m →
    θ_run (Cert.FoxDoRefIdeal.defs (F := Ideal)) (onTc (τ := Cert.FoxDoRefIdeal.τ) (Cert.FoxDoRefIdeal.main (F := Ideal))) ⟨m, fun _ => 0, g⟩ (fun r => (∀ c : Dev Cert.FoxDoRefIdeal.nD,
      r.2.mem ((c.tc : Thread Cert.FoxDoRefIdeal.nD Cert.FoxDoRefIdeal.τ).loc Cert.FoxDoRefIdeal.main_arg0) = m ((c.tc : Thread Cert.FoxDoRefIdeal.nD Cert.FoxDoRefIdeal.τ).loc Cert.FoxDoRefIdeal.main_arg0)
      ∧ r.2.mem ((c.tc : Thread Cert.FoxDoRefIdeal.nD Cert.FoxDoRefIdeal.τ).loc Cert.FoxDoRefIdeal.main_arg1) = m ((c.tc : Thread Cert.FoxDoRefIdeal.nD Cert.FoxDoRefIdeal.τ).loc Cert.FoxDoRefIdeal.main_arg1))
      ∧ r.2.sem = fun _ => 0)

def quiescent_GmDh [hGmDh : Cert.GmDh.Facts] : Prop :=
  ∀ (m : (ℓ : Loc Cert.GmDh.nD Cert.GmDh.τ Cert.GmDh.sig) → Buf (Elt Bits) ℓ) (g : Dev Cert.GmDh.nD → PrngReg), Pre_GmDh m →
    θ_run (Cert.GmDh.defs (F := Bits)) (onTc (τ := Cert.GmDh.τ) (Cert.GmDh.main (F := Bits))) ⟨m, fun _ => 0, g⟩ (fun r => (∀ c : Dev Cert.GmDh.nD,
      r.2.mem ((c.tc : Thread Cert.GmDh.nD Cert.GmDh.τ).loc Cert.GmDh.main_arg0) = m ((c.tc : Thread Cert.GmDh.nD Cert.GmDh.τ).loc Cert.GmDh.main_arg0)
      ∧ r.2.mem ((c.tc : Thread Cert.GmDh.nD Cert.GmDh.τ).loc Cert.GmDh.main_arg1) = m ((c.tc : Thread Cert.GmDh.nD Cert.GmDh.τ).loc Cert.GmDh.main_arg1))
      ∧ r.2.sem = fun _ => 0)

def quiescent_GmDhIdeal [hGmDhIdeal : Cert.GmDhIdeal.Facts] : Prop :=
  ∀ (m : (ℓ : Loc Cert.GmDhIdeal.nD Cert.GmDhIdeal.τ Cert.GmDhIdeal.sig) → Buf (Elt Ideal) ℓ) (g : Dev Cert.GmDhIdeal.nD → PrngReg), Pre_GmDhIdeal m →
    θ_run (Cert.GmDhIdeal.defs (F := Ideal)) (onTc (τ := Cert.GmDhIdeal.τ) (Cert.GmDhIdeal.main (F := Ideal))) ⟨m, fun _ => 0, g⟩ (fun r => (∀ c : Dev Cert.GmDhIdeal.nD,
      r.2.mem ((c.tc : Thread Cert.GmDhIdeal.nD Cert.GmDhIdeal.τ).loc Cert.GmDhIdeal.main_arg0) = m ((c.tc : Thread Cert.GmDhIdeal.nD Cert.GmDhIdeal.τ).loc Cert.GmDhIdeal.main_arg0)
      ∧ r.2.mem ((c.tc : Thread Cert.GmDhIdeal.nD Cert.GmDhIdeal.τ).loc Cert.GmDhIdeal.main_arg1) = m ((c.tc : Thread Cert.GmDhIdeal.nD Cert.GmDhIdeal.τ).loc Cert.GmDhIdeal.main_arg1))
      ∧ r.2.sem = fun _ => 0)

def quiescent_GmDhRefIdeal [hGmDhRefIdeal : Cert.GmDhRefIdeal.Facts] : Prop :=
  ∀ (m : (ℓ : Loc Cert.GmDhRefIdeal.nD Cert.GmDhRefIdeal.τ Cert.GmDhRefIdeal.sig) → Buf (Elt Ideal) ℓ) (g : Dev Cert.GmDhRefIdeal.nD → PrngReg), Pre_GmDhRefIdeal m →
    θ_run (Cert.GmDhRefIdeal.defs (F := Ideal)) (onTc (τ := Cert.GmDhRefIdeal.τ) (Cert.GmDhRefIdeal.main (F := Ideal))) ⟨m, fun _ => 0, g⟩ (fun r => (∀ c : Dev Cert.GmDhRefIdeal.nD,
      r.2.mem ((c.tc : Thread Cert.GmDhRefIdeal.nD Cert.GmDhRefIdeal.τ).loc Cert.GmDhRefIdeal.main_arg0) = m ((c.tc : Thread Cert.GmDhRefIdeal.nD Cert.GmDhRefIdeal.τ).loc Cert.GmDhRefIdeal.main_arg0)
      ∧ r.2.mem ((c.tc : Thread Cert.GmDhRefIdeal.nD Cert.GmDhRefIdeal.τ).loc Cert.GmDhRefIdeal.main_arg1) = m ((c.tc : Thread Cert.GmDhRefIdeal.nD Cert.GmDhRefIdeal.τ).loc Cert.GmDhRefIdeal.main_arg1))
      ∧ r.2.sem = fun _ => 0)

def quiescent_SbDh [hSbDh : Cert.SbDh.Facts] : Prop :=
  ∀ (m : (ℓ : Loc Cert.SbDh.nD Cert.SbDh.τ Cert.SbDh.sig) → Buf (Elt Bits) ℓ) (g : Dev Cert.SbDh.nD → PrngReg), Pre_SbDh m →
    θ_run (Cert.SbDh.defs (F := Bits)) (onTc (τ := Cert.SbDh.τ) (Cert.SbDh.main (F := Bits))) ⟨m, fun _ => 0, g⟩ (fun r => (∀ c : Dev Cert.SbDh.nD,
      r.2.mem ((c.tc : Thread Cert.SbDh.nD Cert.SbDh.τ).loc Cert.SbDh.main_arg0) = m ((c.tc : Thread Cert.SbDh.nD Cert.SbDh.τ).loc Cert.SbDh.main_arg0)
      ∧ r.2.mem ((c.tc : Thread Cert.SbDh.nD Cert.SbDh.τ).loc Cert.SbDh.main_arg1) = m ((c.tc : Thread Cert.SbDh.nD Cert.SbDh.τ).loc Cert.SbDh.main_arg1))
      ∧ r.2.sem = fun _ => 0)

def quiescent_SbDhIdeal [hSbDhIdeal : Cert.SbDhIdeal.Facts] : Prop :=
  ∀ (m : (ℓ : Loc Cert.SbDhIdeal.nD Cert.SbDhIdeal.τ Cert.SbDhIdeal.sig) → Buf (Elt Ideal) ℓ) (g : Dev Cert.SbDhIdeal.nD → PrngReg), Pre_SbDhIdeal m →
    θ_run (Cert.SbDhIdeal.defs (F := Ideal)) (onTc (τ := Cert.SbDhIdeal.τ) (Cert.SbDhIdeal.main (F := Ideal))) ⟨m, fun _ => 0, g⟩ (fun r => (∀ c : Dev Cert.SbDhIdeal.nD,
      r.2.mem ((c.tc : Thread Cert.SbDhIdeal.nD Cert.SbDhIdeal.τ).loc Cert.SbDhIdeal.main_arg0) = m ((c.tc : Thread Cert.SbDhIdeal.nD Cert.SbDhIdeal.τ).loc Cert.SbDhIdeal.main_arg0)
      ∧ r.2.mem ((c.tc : Thread Cert.SbDhIdeal.nD Cert.SbDhIdeal.τ).loc Cert.SbDhIdeal.main_arg1) = m ((c.tc : Thread Cert.SbDhIdeal.nD Cert.SbDhIdeal.τ).loc Cert.SbDhIdeal.main_arg1))
      ∧ r.2.sem = fun _ => 0)

def quiescent_SbDhRefIdeal [hSbDhRefIdeal : Cert.SbDhRefIdeal.Facts] : Prop :=
  ∀ (m : (ℓ : Loc Cert.SbDhRefIdeal.nD Cert.SbDhRefIdeal.τ Cert.SbDhRefIdeal.sig) → Buf (Elt Ideal) ℓ) (g : Dev Cert.SbDhRefIdeal.nD → PrngReg), Pre_SbDhRefIdeal m →
    θ_run (Cert.SbDhRefIdeal.defs (F := Ideal)) (onTc (τ := Cert.SbDhRefIdeal.τ) (Cert.SbDhRefIdeal.main (F := Ideal))) ⟨m, fun _ => 0, g⟩ (fun r => (∀ c : Dev Cert.SbDhRefIdeal.nD,
      r.2.mem ((c.tc : Thread Cert.SbDhRefIdeal.nD Cert.SbDhRefIdeal.τ).loc Cert.SbDhRefIdeal.main_arg0) = m ((c.tc : Thread Cert.SbDhRefIdeal.nD Cert.SbDhRefIdeal.τ).loc Cert.SbDhRefIdeal.main_arg0)
      ∧ r.2.mem ((c.tc : Thread Cert.SbDhRefIdeal.nD Cert.SbDhRefIdeal.τ).loc Cert.SbDhRefIdeal.main_arg1) = m ((c.tc : Thread Cert.SbDhRefIdeal.nD Cert.SbDhRefIdeal.τ).loc Cert.SbDhRefIdeal.main_arg1))
      ∧ r.2.sem = fun _ => 0)

def quiescent_FoxDh [hFoxDh : Cert.FoxDh.Facts] : Prop :=
  ∀ (m : (ℓ : Loc Cert.FoxDh.nD Cert.FoxDh.τ Cert.FoxDh.sig) → Buf (Elt Bits) ℓ) (g : Dev Cert.FoxDh.nD → PrngReg), Pre_FoxDh m →
    θ_run (Cert.FoxDh.defs (F := Bits)) (onTc (τ := Cert.FoxDh.τ) (Cert.FoxDh.main (F := Bits))) ⟨m, fun _ => 0, g⟩ (fun r => (∀ c : Dev Cert.FoxDh.nD,
      r.2.mem ((c.tc : Thread Cert.FoxDh.nD Cert.FoxDh.τ).loc Cert.FoxDh.main_arg0) = m ((c.tc : Thread Cert.FoxDh.nD Cert.FoxDh.τ).loc Cert.FoxDh.main_arg0)
      ∧ r.2.mem ((c.tc : Thread Cert.FoxDh.nD Cert.FoxDh.τ).loc Cert.FoxDh.main_arg1) = m ((c.tc : Thread Cert.FoxDh.nD Cert.FoxDh.τ).loc Cert.FoxDh.main_arg1))
      ∧ r.2.sem = fun _ => 0)

def quiescent_FoxDhIdeal [hFoxDhIdeal : Cert.FoxDhIdeal.Facts] : Prop :=
  ∀ (m : (ℓ : Loc Cert.FoxDhIdeal.nD Cert.FoxDhIdeal.τ Cert.FoxDhIdeal.sig) → Buf (Elt Ideal) ℓ) (g : Dev Cert.FoxDhIdeal.nD → PrngReg), Pre_FoxDhIdeal m →
    θ_run (Cert.FoxDhIdeal.defs (F := Ideal)) (onTc (τ := Cert.FoxDhIdeal.τ) (Cert.FoxDhIdeal.main (F := Ideal))) ⟨m, fun _ => 0, g⟩ (fun r => (∀ c : Dev Cert.FoxDhIdeal.nD,
      r.2.mem ((c.tc : Thread Cert.FoxDhIdeal.nD Cert.FoxDhIdeal.τ).loc Cert.FoxDhIdeal.main_arg0) = m ((c.tc : Thread Cert.FoxDhIdeal.nD Cert.FoxDhIdeal.τ).loc Cert.FoxDhIdeal.main_arg0)
      ∧ r.2.mem ((c.tc : Thread Cert.FoxDhIdeal.nD Cert.FoxDhIdeal.τ).loc Cert.FoxDhIdeal.main_arg1) = m ((c.tc : Thread Cert.FoxDhIdeal.nD Cert.FoxDhIdeal.τ).loc Cert.FoxDhIdeal.main_arg1))
      ∧ r.2.sem = fun _ => 0)

def quiescent_FoxDhRefIdeal [hFoxDhRefIdeal : Cert.FoxDhRefIdeal.Facts] : Prop :=
  ∀ (m : (ℓ : Loc Cert.FoxDhRefIdeal.nD Cert.FoxDhRefIdeal.τ Cert.FoxDhRefIdeal.sig) → Buf (Elt Ideal) ℓ) (g : Dev Cert.FoxDhRefIdeal.nD → PrngReg), Pre_FoxDhRefIdeal m →
    θ_run (Cert.FoxDhRefIdeal.defs (F := Ideal)) (onTc (τ := Cert.FoxDhRefIdeal.τ) (Cert.FoxDhRefIdeal.main (F := Ideal))) ⟨m, fun _ => 0, g⟩ (fun r => (∀ c : Dev Cert.FoxDhRefIdeal.nD,
      r.2.mem ((c.tc : Thread Cert.FoxDhRefIdeal.nD Cert.FoxDhRefIdeal.τ).loc Cert.FoxDhRefIdeal.main_arg0) = m ((c.tc : Thread Cert.FoxDhRefIdeal.nD Cert.FoxDhRefIdeal.τ).loc Cert.FoxDhRefIdeal.main_arg0)
      ∧ r.2.mem ((c.tc : Thread Cert.FoxDhRefIdeal.nD Cert.FoxDhRefIdeal.τ).loc Cert.FoxDhRefIdeal.main_arg1) = m ((c.tc : Thread Cert.FoxDhRefIdeal.nD Cert.FoxDhRefIdeal.τ).loc Cert.FoxDhRefIdeal.main_arg1))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2)
      ∧ r.2.mem ((c.tc : Thread Cert.ModBwd.nD Cert.ModBwd.τ).loc Cert.ModBwd.main_arg3) = m ((c.tc : Thread Cert.ModBwd.nD Cert.ModBwd.τ).loc Cert.ModBwd.main_arg3))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3))
      ∧ r.2.sem = fun _ => 0)

def quiescent_ModBwdRefIdeal [hModBwdRefIdeal : Cert.ModBwdRefIdeal.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2)
      ∧ r.2.mem ((c.tc : Thread Cert.ModBwdRefIdeal.nD Cert.ModBwdRefIdeal.τ).loc Cert.ModBwdRefIdeal.main_arg3) = m ((c.tc : Thread Cert.ModBwdRefIdeal.nD Cert.ModBwdRefIdeal.τ).loc Cert.ModBwdRefIdeal.main_arg3))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0)
      ∧ r.2.mem ((c.tc : Thread Cert.Spatial.nD Cert.Spatial.τ).loc Cert.Spatial.main_arg1) = m ((c.tc : Thread Cert.Spatial.nD Cert.Spatial.τ).loc Cert.Spatial.main_arg1)
      ∧ r.2.mem ((c.tc : Thread Cert.Spatial.nD Cert.Spatial.τ).loc Cert.Spatial.main_arg2) = m ((c.tc : Thread Cert.Spatial.nD Cert.Spatial.τ).loc Cert.Spatial.main_arg2)
      ∧ r.2.mem ((c.tc : Thread Cert.Spatial.nD Cert.Spatial.τ).loc Cert.Spatial.main_arg3) = m ((c.tc : Thread Cert.Spatial.nD Cert.Spatial.τ).loc Cert.Spatial.main_arg3))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3))
      ∧ r.2.sem = fun _ => 0)

def quiescent_SpatialRefIdeal [hSpatialRefIdeal : Cert.SpatialRefIdeal.Facts] : Prop :=
  ∀ (m : (ℓ : Loc Cert.SpatialRefIdeal.nD Cert.SpatialRefIdeal.τ Cert.SpatialRefIdeal.sig) → Buf (Elt Ideal) ℓ) (g : Dev Cert.SpatialRefIdeal.nD → PrngReg), Pre_SpatialRefIdeal m →
    θ_run (Cert.SpatialRefIdeal.defs (F := Ideal)) (onTc (τ := Cert.SpatialRefIdeal.τ) (Cert.SpatialRefIdeal.main (F := Ideal))) ⟨m, fun _ => 0, g⟩ (fun r => (∀ c : Dev Cert.SpatialRefIdeal.nD,
      r.2.mem ((c.tc : Thread Cert.SpatialRefIdeal.nD Cert.SpatialRefIdeal.τ).loc Cert.SpatialRefIdeal.main_arg0) = m ((c.tc : Thread Cert.SpatialRefIdeal.nD Cert.SpatialRefIdeal.τ).loc Cert.SpatialRefIdeal.main_arg0)
      ∧ r.2.mem ((c.tc : Thread Cert.SpatialRefIdeal.nD Cert.SpatialRefIdeal.τ).loc Cert.SpatialRefIdeal.main_arg1) = m ((c.tc : Thread Cert.SpatialRefIdeal.nD Cert.SpatialRefIdeal.τ).loc Cert.SpatialRefIdeal.main_arg1)
      ∧ r.2.mem ((c.tc : Thread Cert.SpatialRefIdeal.nD Cert.SpatialRefIdeal.τ).loc Cert.SpatialRefIdeal.main_arg2) = m ((c.tc : Thread Cert.SpatialRefIdeal.nD Cert.SpatialRefIdeal.τ).loc Cert.SpatialRefIdeal.main_arg2)
      ∧ r.2.mem ((c.tc : Thread Cert.SpatialRefIdeal.nD Cert.SpatialRefIdeal.τ).loc Cert.SpatialRefIdeal.main_arg3) = m ((c.tc : Thread Cert.SpatialRefIdeal.nD Cert.SpatialRefIdeal.τ).loc Cert.SpatialRefIdeal.main_arg3))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5)
      ∧ r.2.mem ((c.tc : Thread Cert.Ln.nD Cert.Ln.τ).loc Cert.Ln.main_arg6) = m ((c.tc : Thread Cert.Ln.nD Cert.Ln.τ).loc Cert.Ln.main_arg6))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
      ∧ r.2.mem ((c.tc : Thread Cert.LnIdeal.nD Cert.LnIdeal.τ).loc Cert.LnIdeal.main_arg6) = m ((c.tc : Thread Cert.LnIdeal.nD Cert.LnIdeal.τ).loc Cert.LnIdeal.main_arg6))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5)
      ∧ r.2.mem ((c.tc : Thread Cert.LnRefIdeal.nD Cert.LnRefIdeal.τ).loc Cert.LnRefIdeal.main_arg6) = m ((c.tc : Thread Cert.LnRefIdeal.nD Cert.LnRefIdeal.τ).loc Cert.LnRefIdeal.main_arg6))
      ∧ r.2.sem = fun _ => 0)

def quiescent_LnAct [hLnAct : Cert.LnAct.Facts] : Prop :=
  ∀ (m : (ℓ : Loc Cert.LnAct.nD Cert.LnAct.τ Cert.LnAct.sig) → Buf (Elt Bits) ℓ) (g : Dev Cert.LnAct.nD → PrngReg), Pre_LnAct m →
    θ_run (Cert.LnAct.defs (F := Bits)) (onTc (τ := Cert.LnAct.τ) (Cert.LnAct.main (F := Bits))) ⟨m, fun _ => 0, g⟩ (fun r => (∀ c : Dev Cert.LnAct.nD,
      r.2.mem ((c.tc : Thread Cert.LnAct.nD Cert.LnAct.τ).loc Cert.LnAct.main_arg0) = m ((c.tc : Thread Cert.LnAct.nD Cert.LnAct.τ).loc Cert.LnAct.main_arg0)
      ∧ r.2.mem ((c.tc : Thread Cert.LnAct.nD Cert.LnAct.τ).loc Cert.LnAct.main_arg1) = m ((c.tc : Thread Cert.LnAct.nD Cert.LnAct.τ).loc Cert.LnAct.main_arg1)
      ∧ r.2.mem ((c.tc : Thread Cert.LnAct.nD Cert.LnAct.τ).loc Cert.LnAct.main_arg2) = m ((c.tc : Thread Cert.LnAct.nD Cert.LnAct.τ).loc Cert.LnAct.main_arg2))
      ∧ r.2.sem = fun _ => 0)

def quiescent_LnActIdeal [hLnActIdeal : Cert.LnActIdeal.Facts] : Prop :=
  ∀ (m : (ℓ : Loc Cert.LnActIdeal.nD Cert.LnActIdeal.τ Cert.LnActIdeal.sig) → Buf (Elt Ideal) ℓ) (g : Dev Cert.LnActIdeal.nD → PrngReg), Pre_LnActIdeal m →
    θ_run (Cert.LnActIdeal.defs (F := Ideal)) (onTc (τ := Cert.LnActIdeal.τ) (Cert.LnActIdeal.main (F := Ideal))) ⟨m, fun _ => 0, g⟩ (fun r => (∀ c : Dev Cert.LnActIdeal.nD,
      r.2.mem ((c.tc : Thread Cert.LnActIdeal.nD Cert.LnActIdeal.τ).loc Cert.LnActIdeal.main_arg0) = m ((c.tc : Thread Cert.LnActIdeal.nD Cert.LnActIdeal.τ).loc Cert.LnActIdeal.main_arg0)
      ∧ r.2.mem ((c.tc : Thread Cert.LnActIdeal.nD Cert.LnActIdeal.τ).loc Cert.LnActIdeal.main_arg1) = m ((c.tc : Thread Cert.LnActIdeal.nD Cert.LnActIdeal.τ).loc Cert.LnActIdeal.main_arg1)
      ∧ r.2.mem ((c.tc : Thread Cert.LnActIdeal.nD Cert.LnActIdeal.τ).loc Cert.LnActIdeal.main_arg2) = m ((c.tc : Thread Cert.LnActIdeal.nD Cert.LnActIdeal.τ).loc Cert.LnActIdeal.main_arg2))
      ∧ r.2.sem = fun _ => 0)

def quiescent_LnActRefIdeal [hLnActRefIdeal : Cert.LnActRefIdeal.Facts] : Prop :=
  ∀ (m : (ℓ : Loc Cert.LnActRefIdeal.nD Cert.LnActRefIdeal.τ Cert.LnActRefIdeal.sig) → Buf (Elt Ideal) ℓ) (g : Dev Cert.LnActRefIdeal.nD → PrngReg), Pre_LnActRefIdeal m →
    θ_run (Cert.LnActRefIdeal.defs (F := Ideal)) (onTc (τ := Cert.LnActRefIdeal.τ) (Cert.LnActRefIdeal.main (F := Ideal))) ⟨m, fun _ => 0, g⟩ (fun r => (∀ c : Dev Cert.LnActRefIdeal.nD,
      r.2.mem ((c.tc : Thread Cert.LnActRefIdeal.nD Cert.LnActRefIdeal.τ).loc Cert.LnActRefIdeal.main_arg0) = m ((c.tc : Thread Cert.LnActRefIdeal.nD Cert.LnActRefIdeal.τ).loc Cert.LnActRefIdeal.main_arg0)
      ∧ r.2.mem ((c.tc : Thread Cert.LnActRefIdeal.nD Cert.LnActRefIdeal.τ).loc Cert.LnActRefIdeal.main_arg1) = m ((c.tc : Thread Cert.LnActRefIdeal.nD Cert.LnActRefIdeal.τ).loc Cert.LnActRefIdeal.main_arg1)
      ∧ r.2.mem ((c.tc : Thread Cert.LnActRefIdeal.nD Cert.LnActRefIdeal.τ).loc Cert.LnActRefIdeal.main_arg2) = m ((c.tc : Thread Cert.LnActRefIdeal.nD Cert.LnActRefIdeal.τ).loc Cert.LnActRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_CAct [hCAct : Cert.CAct.Facts] : Prop :=
  ∀ (m : (ℓ : Loc Cert.CAct.nD Cert.CAct.τ Cert.CAct.sig) → Buf (Elt Bits) ℓ) (g : Dev Cert.CAct.nD → PrngReg), Pre_CAct m →
    θ_run (Cert.CAct.defs (F := Bits)) (onTc (τ := Cert.CAct.τ) (Cert.CAct.main (F := Bits))) ⟨m, fun _ => 0, g⟩ (fun r => (∀ c : Dev Cert.CAct.nD,
      r.2.mem ((c.tc : Thread Cert.CAct.nD Cert.CAct.τ).loc Cert.CAct.main_arg0) = m ((c.tc : Thread Cert.CAct.nD Cert.CAct.τ).loc Cert.CAct.main_arg0))
      ∧ r.2.sem = fun _ => 0)

def quiescent_CActIdeal [hCActIdeal : Cert.CActIdeal.Facts] : Prop :=
  ∀ (m : (ℓ : Loc Cert.CActIdeal.nD Cert.CActIdeal.τ Cert.CActIdeal.sig) → Buf (Elt Ideal) ℓ) (g : Dev Cert.CActIdeal.nD → PrngReg), Pre_CActIdeal m →
    θ_run (Cert.CActIdeal.defs (F := Ideal)) (onTc (τ := Cert.CActIdeal.τ) (Cert.CActIdeal.main (F := Ideal))) ⟨m, fun _ => 0, g⟩ (fun r => (∀ c : Dev Cert.CActIdeal.nD,
      r.2.mem ((c.tc : Thread Cert.CActIdeal.nD Cert.CActIdeal.τ).loc Cert.CActIdeal.main_arg0) = m ((c.tc : Thread Cert.CActIdeal.nD Cert.CActIdeal.τ).loc Cert.CActIdeal.main_arg0))
      ∧ r.2.sem = fun _ => 0)

def quiescent_CActRefIdeal [hCActRefIdeal : Cert.CActRefIdeal.Facts] : Prop :=
  ∀ (m : (ℓ : Loc Cert.CActRefIdeal.nD Cert.CActRefIdeal.τ Cert.CActRefIdeal.sig) → Buf (Elt Ideal) ℓ) (g : Dev Cert.CActRefIdeal.nD → PrngReg), Pre_CActRefIdeal m →
    θ_run (Cert.CActRefIdeal.defs (F := Ideal)) (onTc (τ := Cert.CActRefIdeal.τ) (Cert.CActRefIdeal.main (F := Ideal))) ⟨m, fun _ => 0, g⟩ (fun r => (∀ c : Dev Cert.CActRefIdeal.nD,
      r.2.mem ((c.tc : Thread Cert.CActRefIdeal.nD Cert.CActRefIdeal.τ).loc Cert.CActRefIdeal.main_arg0) = m ((c.tc : Thread Cert.CActRefIdeal.nD Cert.CActRefIdeal.τ).loc Cert.CActRefIdeal.main_arg0))
      ∧ r.2.sem = fun _ => 0)

def quiescent_ModMm [hModMm : Cert.ModMm.Facts] : Prop :=
  ∀ (m : (ℓ : Loc Cert.ModMm.nD Cert.ModMm.τ Cert.ModMm.sig) → Buf (Elt Bits) ℓ) (g : Dev Cert.ModMm.nD → PrngReg), Pre_ModMm m →
    θ_run (Cert.ModMm.defs (F := Bits)) (onTc (τ := Cert.ModMm.τ) (Cert.ModMm.main (F := Bits))) ⟨m, fun _ => 0, g⟩ (fun r => (∀ c : Dev Cert.ModMm.nD,
      r.2.mem ((c.tc : Thread Cert.ModMm.nD Cert.ModMm.τ).loc Cert.ModMm.main_arg0) = m ((c.tc : Thread Cert.ModMm.nD Cert.ModMm.τ).loc Cert.ModMm.main_arg0)
      ∧ r.2.mem ((c.tc : Thread Cert.ModMm.nD Cert.ModMm.τ).loc Cert.ModMm.main_arg1) = m ((c.tc : Thread Cert.ModMm.nD Cert.ModMm.τ).loc Cert.ModMm.main_arg1))
      ∧ r.2.sem = fun _ => 0)

def quiescent_ModMmIdeal [hModMmIdeal : Cert.ModMmIdeal.Facts] : Prop :=
  ∀ (m : (ℓ : Loc Cert.ModMmIdeal.nD Cert.ModMmIdeal.τ Cert.ModMmIdeal.sig) → Buf (Elt Ideal) ℓ) (g : Dev Cert.ModMmIdeal.nD → PrngReg), Pre_ModMmIdeal m →
    θ_run (Cert.ModMmIdeal.defs (F := Ideal)) (onTc (τ := Cert.ModMmIdeal.τ) (Cert.ModMmIdeal.main (F := Ideal))) ⟨m, fun _ => 0, g⟩ (fun r => (∀ c : Dev Cert.ModMmIdeal.nD,
      r.2.mem ((c.tc : Thread Cert.ModMmIdeal.nD Cert.ModMmIdeal.τ).loc Cert.ModMmIdeal.main_arg0) = m ((c.tc : Thread Cert.ModMmIdeal.nD Cert.ModMmIdeal.τ).loc Cert.ModMmIdeal.main_arg0)
      ∧ r.2.mem ((c.tc : Thread Cert.ModMmIdeal.nD Cert.ModMmIdeal.τ).loc Cert.ModMmIdeal.main_arg1) = m ((c.tc : Thread Cert.ModMmIdeal.nD Cert.ModMmIdeal.τ).loc Cert.ModMmIdeal.main_arg1))
      ∧ r.2.sem = fun _ => 0)

def quiescent_ModMmRefIdeal [hModMmRefIdeal : Cert.ModMmRefIdeal.Facts] : Prop :=
  ∀ (m : (ℓ : Loc Cert.ModMmRefIdeal.nD Cert.ModMmRefIdeal.τ Cert.ModMmRefIdeal.sig) → Buf (Elt Ideal) ℓ) (g : Dev Cert.ModMmRefIdeal.nD → PrngReg), Pre_ModMmRefIdeal m →
    θ_run (Cert.ModMmRefIdeal.defs (F := Ideal)) (onTc (τ := Cert.ModMmRefIdeal.τ) (Cert.ModMmRefIdeal.main (F := Ideal))) ⟨m, fun _ => 0, g⟩ (fun r => (∀ c : Dev Cert.ModMmRefIdeal.nD,
      r.2.mem ((c.tc : Thread Cert.ModMmRefIdeal.nD Cert.ModMmRefIdeal.τ).loc Cert.ModMmRefIdeal.main_arg0) = m ((c.tc : Thread Cert.ModMmRefIdeal.nD Cert.ModMmRefIdeal.τ).loc Cert.ModMmRefIdeal.main_arg0)
      ∧ r.2.mem ((c.tc : Thread Cert.ModMmRefIdeal.nD Cert.ModMmRefIdeal.τ).loc Cert.ModMmRefIdeal.main_arg1) = m ((c.tc : Thread Cert.ModMmRefIdeal.nD Cert.ModMmRefIdeal.τ).loc Cert.ModMmRefIdeal.main_arg1))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1))
      ∧ r.2.sem = fun _ => 0)

def quiescent_ModBias [hModBias : Cert.ModBias.Facts] : Prop :=
  ∀ (m : (ℓ : Loc Cert.ModBias.nD Cert.ModBias.τ Cert.ModBias.sig) → Buf (Elt Bits) ℓ) (g : Dev Cert.ModBias.nD → PrngReg), Pre_ModBias m →
    θ_run (Cert.ModBias.defs (F := Bits)) (onTc (τ := Cert.ModBias.τ) (Cert.ModBias.main (F := Bits))) ⟨m, fun _ => 0, g⟩ (fun r => (∀ c : Dev Cert.ModBias.nD,
      r.2.mem ((c.tc : Thread Cert.ModBias.nD Cert.ModBias.τ).loc Cert.ModBias.main_arg0) = m ((c.tc : Thread Cert.ModBias.nD Cert.ModBias.τ).loc Cert.ModBias.main_arg0)
      ∧ r.2.mem ((c.tc : Thread Cert.ModBias.nD Cert.ModBias.τ).loc Cert.ModBias.main_arg1) = m ((c.tc : Thread Cert.ModBias.nD Cert.ModBias.τ).loc Cert.ModBias.main_arg1))
      ∧ r.2.sem = fun _ => 0)

def quiescent_ModBiasIdeal [hModBiasIdeal : Cert.ModBiasIdeal.Facts] : Prop :=
  ∀ (m : (ℓ : Loc Cert.ModBiasIdeal.nD Cert.ModBiasIdeal.τ Cert.ModBiasIdeal.sig) → Buf (Elt Ideal) ℓ) (g : Dev Cert.ModBiasIdeal.nD → PrngReg), Pre_ModBiasIdeal m →
    θ_run (Cert.ModBiasIdeal.defs (F := Ideal)) (onTc (τ := Cert.ModBiasIdeal.τ) (Cert.ModBiasIdeal.main (F := Ideal))) ⟨m, fun _ => 0, g⟩ (fun r => (∀ c : Dev Cert.ModBiasIdeal.nD,
      r.2.mem ((c.tc : Thread Cert.ModBiasIdeal.nD Cert.ModBiasIdeal.τ).loc Cert.ModBiasIdeal.main_arg0) = m ((c.tc : Thread Cert.ModBiasIdeal.nD Cert.ModBiasIdeal.τ).loc Cert.ModBiasIdeal.main_arg0)
      ∧ r.2.mem ((c.tc : Thread Cert.ModBiasIdeal.nD Cert.ModBiasIdeal.τ).loc Cert.ModBiasIdeal.main_arg1) = m ((c.tc : Thread Cert.ModBiasIdeal.nD Cert.ModBiasIdeal.τ).loc Cert.ModBiasIdeal.main_arg1))
      ∧ r.2.sem = fun _ => 0)

def quiescent_ModBiasRefIdeal [hModBiasRefIdeal : Cert.ModBiasRefIdeal.Facts] : Prop :=
  ∀ (m : (ℓ : Loc Cert.ModBiasRefIdeal.nD Cert.ModBiasRefIdeal.τ Cert.ModBiasRefIdeal.sig) → Buf (Elt Ideal) ℓ) (g : Dev Cert.ModBiasRefIdeal.nD → PrngReg), Pre_ModBiasRefIdeal m →
    θ_run (Cert.ModBiasRefIdeal.defs (F := Ideal)) (onTc (τ := Cert.ModBiasRefIdeal.τ) (Cert.ModBiasRefIdeal.main (F := Ideal))) ⟨m, fun _ => 0, g⟩ (fun r => (∀ c : Dev Cert.ModBiasRefIdeal.nD,
      r.2.mem ((c.tc : Thread Cert.ModBiasRefIdeal.nD Cert.ModBiasRefIdeal.τ).loc Cert.ModBiasRefIdeal.main_arg0) = m ((c.tc : Thread Cert.ModBiasRefIdeal.nD Cert.ModBiasRefIdeal.τ).loc Cert.ModBiasRefIdeal.main_arg0)
      ∧ r.2.mem ((c.tc : Thread Cert.ModBiasRefIdeal.nD Cert.ModBiasRefIdeal.τ).loc Cert.ModBiasRefIdeal.main_arg1) = m ((c.tc : Thread Cert.ModBiasRefIdeal.nD Cert.ModBiasRefIdeal.τ).loc Cert.ModBiasRefIdeal.main_arg1))
      ∧ r.2.sem = fun _ => 0)

def quiescent_LnB [hLnB : Cert.LnB.Facts] : Prop :=
  ∀ (m : (ℓ : Loc Cert.LnB.nD Cert.LnB.τ Cert.LnB.sig) → Buf (Elt Bits) ℓ) (g : Dev Cert.LnB.nD → PrngReg), Pre_LnB m →
    θ_run (Cert.LnB.defs (F := Bits)) (onTc (τ := Cert.LnB.τ) (Cert.LnB.main (F := Bits))) ⟨m, fun _ => 0, g⟩ (fun r => (∀ c : Dev Cert.LnB.nD,
      r.2.mem ((c.tc : Thread Cert.LnB.nD Cert.LnB.τ).loc Cert.LnB.main_arg0) = m ((c.tc : Thread Cert.LnB.nD Cert.LnB.τ).loc Cert.LnB.main_arg0)
      ∧ r.2.mem ((c.tc : Thread Cert.LnB.nD Cert.LnB.τ).loc Cert.LnB.main_arg1) = m ((c.tc : Thread Cert.LnB.nD Cert.LnB.τ).loc Cert.LnB.main_arg1)
      ∧ r.2.mem ((c.tc : Thread Cert.LnB.nD Cert.LnB.τ).loc Cert.LnB.main_arg2) = m ((c.tc : Thread Cert.LnB.nD Cert.LnB.τ).loc Cert.LnB.main_arg2)
      ∧ r.2.mem ((c.tc : Thread Cert.LnB.nD Cert.LnB.τ).loc Cert.LnB.main_arg3) = m ((c.tc : Thread Cert.LnB.nD Cert.LnB.τ).loc Cert.LnB.main_arg3)
      ∧ r.2.mem ((c.tc : Thread Cert.LnB.nD Cert.LnB.τ).loc Cert.LnB.main_arg4) = m ((c.tc : Thread Cert.LnB.nD Cert.LnB.τ).loc Cert.LnB.main_arg4)
      ∧ r.2.mem ((c.tc : Thread Cert.LnB.nD Cert.LnB.τ).loc Cert.LnB.main_arg5) = m ((c.tc : Thread Cert.LnB.nD Cert.LnB.τ).loc Cert.LnB.main_arg5)
      ∧ r.2.mem ((c.tc : Thread Cert.LnB.nD Cert.LnB.τ).loc Cert.LnB.main_arg6) = m ((c.tc : Thread Cert.LnB.nD Cert.LnB.τ).loc Cert.LnB.main_arg6)
      ∧ r.2.mem ((c.tc : Thread Cert.LnB.nD Cert.LnB.τ).loc Cert.LnB.main_arg7) = m ((c.tc : Thread Cert.LnB.nD Cert.LnB.τ).loc Cert.LnB.main_arg7))
      ∧ r.2.sem = fun _ => 0)

def quiescent_LnBIdeal [hLnBIdeal : Cert.LnBIdeal.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
      ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3)
      ∧ r.2.mem ((c.tc : Thread Cert.LnBIdeal.nD Cert.LnBIdeal.τ).loc Cert.LnBIdeal.main_arg4) = m ((c.tc : Thread Cert.LnBIdeal.nD Cert.LnBIdeal.τ).loc Cert.LnBIdeal.main_arg4)
      ∧ r.2.mem ((c.tc : Thread Cert.LnBIdeal.nD Cert.LnBIdeal.τ).loc Cert.LnBIdeal.main_arg5) = m ((c.tc : Thread Cert.LnBIdeal.nD Cert.LnBIdeal.τ).loc Cert.LnBIdeal.main_arg5)
      ∧ r.2.mem ((c.tc : Thread Cert.LnBIdeal.nD Cert.LnBIdeal.τ).loc Cert.LnBIdeal.main_arg6) = m ((c.tc : Thread Cert.LnBIdeal.nD Cert.LnBIdeal.τ).loc Cert.LnBIdeal.main_arg6)
      ∧ r.2.mem ((c.tc : Thread Cert.LnBIdeal.nD Cert.LnBIdeal.τ).loc Cert.LnBIdeal.main_arg7) = m ((c.tc : Thread Cert.LnBIdeal.nD Cert.LnBIdeal.τ).loc Cert.LnBIdeal.main_arg7))
      ∧ r.2.sem = fun _ => 0)

def quiescent_LnBRefIdeal [hLnBRefIdeal : Cert.LnBRefIdeal.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2)
      ∧ r.2.mem ((c.tc : Thread Cert.LnBRefIdeal.nD Cert.LnBRefIdeal.τ).loc Cert.LnBRefIdeal.main_arg3) = m ((c.tc : Thread Cert.LnBRefIdeal.nD Cert.LnBRefIdeal.τ).loc Cert.LnBRefIdeal.main_arg3)
      ∧ r.2.mem ((c.tc : Thread Cert.LnBRefIdeal.nD Cert.LnBRefIdeal.τ).loc Cert.LnBRefIdeal.main_arg4) = m ((c.tc : Thread Cert.LnBRefIdeal.nD Cert.LnBRefIdeal.τ).loc Cert.LnBRefIdeal.main_arg4)
      ∧ r.2.mem ((c.tc : Thread Cert.LnBRefIdeal.nD Cert.LnBRefIdeal.τ).loc Cert.LnBRefIdeal.main_arg5) = m ((c.tc : Thread Cert.LnBRefIdeal.nD Cert.LnBRefIdeal.τ).loc Cert.LnBRefIdeal.main_arg5)
      ∧ r.2.mem ((c.tc : Thread Cert.LnBRefIdeal.nD Cert.LnBRefIdeal.τ).loc Cert.LnBRefIdeal.main_arg6) = m ((c.tc : Thread Cert.LnBRefIdeal.nD Cert.LnBRefIdeal.τ).loc Cert.LnBRefIdeal.main_arg6)
      ∧ r.2.mem ((c.tc : Thread Cert.LnBRefIdeal.nD Cert.LnBRefIdeal.τ).loc Cert.LnBRefIdeal.main_arg7) = m ((c.tc : Thread Cert.LnBRefIdeal.nD Cert.LnBRefIdeal.τ).loc Cert.LnBRefIdeal.main_arg7))
      ∧ r.2.sem = fun _ => 0)

def quiescent_LnLast [hLnLast : Cert.LnLast.Facts] : Prop :=
  ∀ (m : (ℓ : Loc Cert.LnLast.nD Cert.LnLast.τ Cert.LnLast.sig) → Buf (Elt Bits) ℓ) (g : Dev Cert.LnLast.nD → PrngReg), Pre_LnLast m →
    θ_run (Cert.LnLast.defs (F := Bits)) (onTc (τ := Cert.LnLast.τ) (Cert.LnLast.main (F := Bits))) ⟨m, fun _ => 0, g⟩ (fun r => (∀ c : Dev Cert.LnLast.nD,
      r.2.mem ((c.tc : Thread Cert.LnLast.nD Cert.LnLast.τ).loc Cert.LnLast.main_arg0) = m ((c.tc : Thread Cert.LnLast.nD Cert.LnLast.τ).loc Cert.LnLast.main_arg0)
      ∧ r.2.mem ((c.tc : Thread Cert.LnLast.nD Cert.LnLast.τ).loc Cert.LnLast.main_arg1) = m ((c.tc : Thread Cert.LnLast.nD Cert.LnLast.τ).loc Cert.LnLast.main_arg1)
      ∧ r.2.mem ((c.tc : Thread Cert.LnLast.nD Cert.LnLast.τ).loc Cert.LnLast.main_arg2) = m ((c.tc : Thread Cert.LnLast.nD Cert.LnLast.τ).loc Cert.LnLast.main_arg2)
      ∧ r.2.mem ((c.tc : Thread Cert.LnLast.nD Cert.LnLast.τ).loc Cert.LnLast.main_arg3) = m ((c.tc : Thread Cert.LnLast.nD Cert.LnLast.τ).loc Cert.LnLast.main_arg3)
      ∧ r.2.mem ((c.tc : Thread Cert.LnLast.nD Cert.LnLast.τ).loc Cert.LnLast.main_arg4) = m ((c.tc : Thread Cert.LnLast.nD Cert.LnLast.τ).loc Cert.LnLast.main_arg4))
      ∧ r.2.sem = fun _ => 0)

def quiescent_LnLastIdeal [hLnLastIdeal : Cert.LnLastIdeal.Facts] : Prop :=
  ∀ (m : (ℓ : Loc Cert.LnLastIdeal.nD Cert.LnLastIdeal.τ Cert.LnLastIdeal.sig) → Buf (Elt Ideal) ℓ) (g : Dev Cert.LnLastIdeal.nD → PrngReg), Pre_LnLastIdeal m →
    θ_run (Cert.LnLastIdeal.defs (F := Ideal)) (onTc (τ := Cert.LnLastIdeal.τ) (Cert.LnLastIdeal.main (F := Ideal))) ⟨m, fun _ => 0, g⟩ (fun r => (∀ c : Dev Cert.LnLastIdeal.nD,
      r.2.mem ((c.tc : Thread Cert.LnLastIdeal.nD Cert.LnLastIdeal.τ).loc Cert.LnLastIdeal.main_arg0) = m ((c.tc : Thread Cert.LnLastIdeal.nD Cert.LnLastIdeal.τ).loc Cert.LnLastIdeal.main_arg0)
      ∧ r.2.mem ((c.tc : Thread Cert.LnLastIdeal.nD Cert.LnLastIdeal.τ).loc Cert.LnLastIdeal.main_arg1) = m ((c.tc : Thread Cert.LnLastIdeal.nD Cert.LnLastIdeal.τ).loc Cert.LnLastIdeal.main_arg1)
      ∧ r.2.mem ((c.tc : Thread Cert.LnLastIdeal.nD Cert.LnLastIdeal.τ).loc Cert.LnLastIdeal.main_arg2) = m ((c.tc : Thread Cert.LnLastIdeal.nD Cert.LnLastIdeal.τ).loc Cert.LnLastIdeal.main_arg2)
      ∧ r.2.mem ((c.tc : Thread Cert.LnLastIdeal.nD Cert.LnLastIdeal.τ).loc Cert.LnLastIdeal.main_arg3) = m ((c.tc : Thread Cert.LnLastIdeal.nD Cert.LnLastIdeal.τ).loc Cert.LnLastIdeal.main_arg3)
      ∧ r.2.mem ((c.tc : Thread Cert.LnLastIdeal.nD Cert.LnLastIdeal.τ).loc Cert.LnLastIdeal.main_arg4) = m ((c.tc : Thread Cert.LnLastIdeal.nD Cert.LnLastIdeal.τ).loc Cert.LnLastIdeal.main_arg4))
      ∧ r.2.sem = fun _ => 0)

def quiescent_LnLastRefIdeal [hLnLastRefIdeal : Cert.LnLastRefIdeal.Facts] : Prop :=
  ∀ (m : (ℓ : Loc Cert.LnLastRefIdeal.nD Cert.LnLastRefIdeal.τ Cert.LnLastRefIdeal.sig) → Buf (Elt Ideal) ℓ) (g : Dev Cert.LnLastRefIdeal.nD → PrngReg), Pre_LnLastRefIdeal m →
    θ_run (Cert.LnLastRefIdeal.defs (F := Ideal)) (onTc (τ := Cert.LnLastRefIdeal.τ) (Cert.LnLastRefIdeal.main (F := Ideal))) ⟨m, fun _ => 0, g⟩ (fun r => (∀ c : Dev Cert.LnLastRefIdeal.nD,
      r.2.mem ((c.tc : Thread Cert.LnLastRefIdeal.nD Cert.LnLastRefIdeal.τ).loc Cert.LnLastRefIdeal.main_arg0) = m ((c.tc : Thread Cert.LnLastRefIdeal.nD Cert.LnLastRefIdeal.τ).loc Cert.LnLastRefIdeal.main_arg0)
      ∧ r.2.mem ((c.tc : Thread Cert.LnLastRefIdeal.nD Cert.LnLastRefIdeal.τ).loc Cert.LnLastRefIdeal.main_arg1) = m ((c.tc : Thread Cert.LnLastRefIdeal.nD Cert.LnLastRefIdeal.τ).loc Cert.LnLastRefIdeal.main_arg1)
      ∧ r.2.mem ((c.tc : Thread Cert.LnLastRefIdeal.nD Cert.LnLastRefIdeal.τ).loc Cert.LnLastRefIdeal.main_arg2) = m ((c.tc : Thread Cert.LnLastRefIdeal.nD Cert.LnLastRefIdeal.τ).loc Cert.LnLastRefIdeal.main_arg2)
      ∧ r.2.mem ((c.tc : Thread Cert.LnLastRefIdeal.nD Cert.LnLastRefIdeal.τ).loc Cert.LnLastRefIdeal.main_arg3) = m ((c.tc : Thread Cert.LnLastRefIdeal.nD Cert.LnLastRefIdeal.τ).loc Cert.LnLastRefIdeal.main_arg3)
      ∧ r.2.mem ((c.tc : Thread Cert.LnLastRefIdeal.nD Cert.LnLastRefIdeal.τ).loc Cert.LnLastRefIdeal.main_arg4) = m ((c.tc : Thread Cert.LnLastRefIdeal.nD Cert.LnLastRefIdeal.τ).loc Cert.LnLastRefIdeal.main_arg4))
      ∧ r.2.sem = fun _ => 0)

def quiescent_GmAct [hGmAct : Cert.GmAct.Facts] : Prop :=
  ∀ (m : (ℓ : Loc Cert.GmAct.nD Cert.GmAct.τ Cert.GmAct.sig) → Buf (Elt Bits) ℓ) (g : Dev Cert.GmAct.nD → PrngReg), Pre_GmAct m →
    θ_run (Cert.GmAct.defs (F := Bits)) (onTc (τ := Cert.GmAct.τ) (Cert.GmAct.main (F := Bits))) ⟨m, fun _ => 0, g⟩ (fun r => (∀ c : Dev Cert.GmAct.nD,
      r.2.mem ((c.tc : Thread Cert.GmAct.nD Cert.GmAct.τ).loc Cert.GmAct.main_arg0) = m ((c.tc : Thread Cert.GmAct.nD Cert.GmAct.τ).loc Cert.GmAct.main_arg0)
      ∧ r.2.mem ((c.tc : Thread Cert.GmAct.nD Cert.GmAct.τ).loc Cert.GmAct.main_arg1) = m ((c.tc : Thread Cert.GmAct.nD Cert.GmAct.τ).loc Cert.GmAct.main_arg1)
      ∧ r.2.mem ((c.tc : Thread Cert.GmAct.nD Cert.GmAct.τ).loc Cert.GmAct.main_arg2) = m ((c.tc : Thread Cert.GmAct.nD Cert.GmAct.τ).loc Cert.GmAct.main_arg2)
      ∧ r.2.mem ((c.tc : Thread Cert.GmAct.nD Cert.GmAct.τ).loc Cert.GmAct.main_arg3) = m ((c.tc : Thread Cert.GmAct.nD Cert.GmAct.τ).loc Cert.GmAct.main_arg3))
      ∧ r.2.sem = fun _ => 0)

def quiescent_GmActIdeal [hGmActIdeal : Cert.GmActIdeal.Facts] : Prop :=
  ∀ (m : (ℓ : Loc Cert.GmActIdeal.nD Cert.GmActIdeal.τ Cert.GmActIdeal.sig) → Buf (Elt Ideal) ℓ) (g : Dev Cert.GmActIdeal.nD → PrngReg), Pre_GmActIdeal m →
    θ_run (Cert.GmActIdeal.defs (F := Ideal)) (onTc (τ := Cert.GmActIdeal.τ) (Cert.GmActIdeal.main (F := Ideal))) ⟨m, fun _ => 0, g⟩ (fun r => (∀ c : Dev Cert.GmActIdeal.nD,
      r.2.mem ((c.tc : Thread Cert.GmActIdeal.nD Cert.GmActIdeal.τ).loc Cert.GmActIdeal.main_arg0) = m ((c.tc : Thread Cert.GmActIdeal.nD Cert.GmActIdeal.τ).loc Cert.GmActIdeal.main_arg0)
      ∧ r.2.mem ((c.tc : Thread Cert.GmActIdeal.nD Cert.GmActIdeal.τ).loc Cert.GmActIdeal.main_arg1) = m ((c.tc : Thread Cert.GmActIdeal.nD Cert.GmActIdeal.τ).loc Cert.GmActIdeal.main_arg1)
      ∧ r.2.mem ((c.tc : Thread Cert.GmActIdeal.nD Cert.GmActIdeal.τ).loc Cert.GmActIdeal.main_arg2) = m ((c.tc : Thread Cert.GmActIdeal.nD Cert.GmActIdeal.τ).loc Cert.GmActIdeal.main_arg2)
      ∧ r.2.mem ((c.tc : Thread Cert.GmActIdeal.nD Cert.GmActIdeal.τ).loc Cert.GmActIdeal.main_arg3) = m ((c.tc : Thread Cert.GmActIdeal.nD Cert.GmActIdeal.τ).loc Cert.GmActIdeal.main_arg3))
      ∧ r.2.sem = fun _ => 0)

def quiescent_GmActRefIdeal [hGmActRefIdeal : Cert.GmActRefIdeal.Facts] : Prop :=
  ∀ (m : (ℓ : Loc Cert.GmActRefIdeal.nD Cert.GmActRefIdeal.τ Cert.GmActRefIdeal.sig) → Buf (Elt Ideal) ℓ) (g : Dev Cert.GmActRefIdeal.nD → PrngReg), Pre_GmActRefIdeal m →
    θ_run (Cert.GmActRefIdeal.defs (F := Ideal)) (onTc (τ := Cert.GmActRefIdeal.τ) (Cert.GmActRefIdeal.main (F := Ideal))) ⟨m, fun _ => 0, g⟩ (fun r => (∀ c : Dev Cert.GmActRefIdeal.nD,
      r.2.mem ((c.tc : Thread Cert.GmActRefIdeal.nD Cert.GmActRefIdeal.τ).loc Cert.GmActRefIdeal.main_arg0) = m ((c.tc : Thread Cert.GmActRefIdeal.nD Cert.GmActRefIdeal.τ).loc Cert.GmActRefIdeal.main_arg0)
      ∧ r.2.mem ((c.tc : Thread Cert.GmActRefIdeal.nD Cert.GmActRefIdeal.τ).loc Cert.GmActRefIdeal.main_arg1) = m ((c.tc : Thread Cert.GmActRefIdeal.nD Cert.GmActRefIdeal.τ).loc Cert.GmActRefIdeal.main_arg1)
      ∧ r.2.mem ((c.tc : Thread Cert.GmActRefIdeal.nD Cert.GmActRefIdeal.τ).loc Cert.GmActRefIdeal.main_arg2) = m ((c.tc : Thread Cert.GmActRefIdeal.nD Cert.GmActRefIdeal.τ).loc Cert.GmActRefIdeal.main_arg2)
      ∧ r.2.mem ((c.tc : Thread Cert.GmActRefIdeal.nD Cert.GmActRefIdeal.τ).loc Cert.GmActRefIdeal.main_arg3) = m ((c.tc : Thread Cert.GmActRefIdeal.nD Cert.GmActRefIdeal.τ).loc Cert.GmActRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gate_GateIdeal : Prop :=
  True

def algebraic_GateIdeal_GateRefIdeal_pre_finite [hGateIdeal : Cert.GateIdeal.Facts] [hGateRefIdeal : Cert.GateRefIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v9) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v8) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v5) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v5) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)) (v2 : (c : Dev Cert.ActIdeal.nD) → Buf (Elt Ideal) ((c.tc : Thread Cert.ActIdeal.nD Cert.ActIdeal.τ).loc Cert.ActIdeal.main_v0_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_v0_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v3) = v0 c
          ∧ r.2.mem ((c.tc : Thread Cert.ActRefIdeal.nD Cert.ActRefIdeal.τ).loc Cert.ActRefIdeal.main_v4) = v1 c
          ∧ r.2.mem ((c.tc : Thread Cert.ActRefIdeal.nD Cert.ActRefIdeal.τ).loc Cert.ActRefIdeal.main_v7) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_FoxIn_FoxInIdeal : Prop :=
  True

def algebraic_FoxInIdeal_FoxInRefIdeal [hFoxInIdeal : Cert.FoxInIdeal.Facts] [hFoxInRefIdeal : Cert.FoxInRefIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.FoxInRefIdeal.nD Cert.FoxInRefIdeal.τ Cert.FoxInRefIdeal.sig) → Buf (Elt Ideal) ℓ) (g' : Dev Cert.FoxInRefIdeal.nD → PrngReg), Pre_FoxInIdeal m →
    (∀ c : Dev Cert.FoxInIdeal.nD,
      m' ((c.tc : Thread Cert.FoxInRefIdeal.nD Cert.FoxInRefIdeal.τ).loc Cert.FoxInRefIdeal.main_arg0) = m ((c.tc : Thread Cert.FoxInIdeal.nD Cert.FoxInIdeal.τ).loc Cert.FoxInIdeal.main_arg0)
      ∧ m' ((c.tc : Thread Cert.FoxInRefIdeal.nD Cert.FoxInRefIdeal.τ).loc Cert.FoxInRefIdeal.main_arg1) = m ((c.tc : Thread Cert.FoxInIdeal.nD Cert.FoxInIdeal.τ).loc Cert.FoxInIdeal.main_arg1)) →
    ∃ (v0 : (c : Dev Cert.FoxInIdeal.nD) → Buf (Elt Ideal) ((c.tc : Thread Cert.FoxInIdeal.nD Cert.FoxInIdeal.τ).loc Cert.FoxInIdeal.main_v0)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v0) = v0 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ θ_run (Cert.FoxInRefIdeal.defs (F := Ideal)) (onTc (τ := Cert.FoxInRefIdeal.τ) (Cert.FoxInRefIdeal.main (F := Ideal))) ⟨m', fun _ => 0, g'⟩ (fun r => ∀ c : Dev Cert.FoxInRefIdeal.nD,
          r.2.mem ((c.tc : Thread Cert.FoxInRefIdeal.nD Cert.FoxInRefIdeal.τ).loc Cert.FoxInRefIdeal.main_v2) = v0 c
          ∧ r.2.mem ((c.tc : Thread Cert.FoxInRefIdeal.nD Cert.FoxInRefIdeal.τ).loc Cert.FoxInRefIdeal.main_arg0) = m' ((c.tc : Thread Cert.FoxInRefIdeal.nD Cert.FoxInRefIdeal.τ).loc Cert.FoxInRefIdeal.main_arg0)
          ∧ r.2.mem ((c.tc : Thread Cert.FoxInRefIdeal.nD Cert.FoxInRefIdeal.τ).loc Cert.FoxInRefIdeal.main_arg1) = m' ((c.tc : Thread Cert.FoxInRefIdeal.nD Cert.FoxInRefIdeal.τ).loc Cert.FoxInRefIdeal.main_arg1))

def preserves_SbIn_SbInIdeal : Prop :=
  True

def algebraic_SbInIdeal_SbInRefIdeal [hSbInIdeal : Cert.SbInIdeal.Facts] [hSbInRefIdeal : Cert.SbInRefIdeal.Facts] : Prop :=
  ∀ (m : (ℓ : Loc Cert.SbInIdeal.nD Cert.SbInIdeal.τ Cert.SbInIdeal.sig) → Buf (Elt Ideal) ℓ) (g : Dev Cert.SbInIdeal.nD → PrngReg)
    (m' : (ℓ : Loc Cert.SbInRefIdeal.nD Cert.SbInRefIdeal.τ Cert.SbInRefIdeal.sig) → Buf (Elt Ideal) ℓ) (g' : Dev Cert.SbInRefIdeal.nD → PrngReg), Pre_SbInIdeal m →
    (∀ c : Dev Cert.SbInIdeal.nD,
      m' ((c.tc : Thread Cert.SbInRefIdeal.nD Cert.SbInRefIdeal.τ).loc Cert.SbInRefIdeal.main_arg0) = m ((c.tc : Thread Cert.SbInIdeal.nD Cert.SbInIdeal.τ).loc Cert.SbInIdeal.main_arg0)
      ∧ m' ((c.tc : Thread Cert.SbInRefIdeal.nD Cert.SbInRefIdeal.τ).loc Cert.SbInRefIdeal.main_arg1) = m ((c.tc : Thread Cert.SbInIdeal.nD Cert.SbInIdeal.τ).loc Cert.SbInIdeal.main_arg1)) →
    ∃ (v0 : (c : Dev Cert.SbInIdeal.nD) → Buf (Elt Ideal) ((c.tc : Thread Cert.SbInIdeal.nD Cert.SbInIdeal.τ).loc Cert.SbInIdeal.main_v0)),
      θ_run (Cert.SbInIdeal.defs (F := Ideal)) (onTc (τ := Cert.SbInIdeal.τ) (Cert.SbInIdeal.main (F := Ideal))) ⟨m, fun _ => 0, g⟩ (fun r => ∀ c : Dev Cert.SbInIdeal.nD,
          r.2.mem ((c.tc : Thread Cert.SbInIdeal.nD Cert.SbInIdeal.τ).loc Cert.SbInIdeal.main_v0) = v0 c
          ∧ r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
          ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1))
      ∧ θ_run (Cert.SbInRefIdeal.defs (F := Ideal)) (onTc (τ := Cert.SbInRefIdeal.τ) (Cert.SbInRefIdeal.main (F := Ideal))) ⟨m', fun _ => 0, g'⟩ (fun r => ∀ c : Dev Cert.SbInRefIdeal.nD,
          r.2.mem ((c.tc : Thread Cert.SbInRefIdeal.nD Cert.SbInRefIdeal.τ).loc Cert.SbInRefIdeal.main_v2) = v0 c
          ∧ r.2.mem ((c.tc : Thread Cert.SbInRefIdeal.nD Cert.SbInRefIdeal.τ).loc Cert.SbInRefIdeal.main_arg0) = m' ((c.tc : Thread Cert.SbInRefIdeal.nD Cert.SbInRefIdeal.τ).loc Cert.SbInRefIdeal.main_arg0)
          ∧ r.2.mem ((c.tc : Thread Cert.SbInRefIdeal.nD Cert.SbInRefIdeal.τ).loc Cert.SbInRefIdeal.main_arg1) = m' ((c.tc : Thread Cert.SbInRefIdeal.nD Cert.SbInRefIdeal.τ).loc Cert.SbInRefIdeal.main_arg1))

def preserves_GmIn_GmInIdeal : Prop :=
  True

def algebraic_GmInIdeal_GmInRefIdeal [hGmInIdeal : Cert.GmInIdeal.Facts] [hGmInRefIdeal : Cert.GmInRefIdeal.Facts] : Prop :=
  ∀ (m : (ℓ : Loc Cert.GmInIdeal.nD Cert.GmInIdeal.τ Cert.GmInIdeal.sig) → Buf (Elt Ideal) ℓ) (g : Dev Cert.GmInIdeal.nD → PrngReg)
    (m' : (ℓ : Loc Cert.GmInRefIdeal.nD Cert.GmInRefIdeal.τ Cert.GmInRefIdeal.sig) → Buf (Elt Ideal) ℓ) (g' : Dev Cert.GmInRefIdeal.nD → PrngReg), Pre_GmInIdeal m →
    (∀ c : Dev Cert.GmInIdeal.nD,
      m' ((c.tc : Thread Cert.GmInRefIdeal.nD Cert.GmInRefIdeal.τ).loc Cert.GmInRefIdeal.main_arg0) = m ((c.tc : Thread Cert.GmInIdeal.nD Cert.GmInIdeal.τ).loc Cert.GmInIdeal.main_arg0)
      ∧ m' ((c.tc : Thread Cert.GmInRefIdeal.nD Cert.GmInRefIdeal.τ).loc Cert.GmInRefIdeal.main_arg1) = m ((c.tc : Thread Cert.GmInIdeal.nD Cert.GmInIdeal.τ).loc Cert.GmInIdeal.main_arg1)) →
    ∃ (v0 : (c : Dev Cert.GmInIdeal.nD) → Buf (Elt Ideal) ((c.tc : Thread Cert.GmInIdeal.nD Cert.GmInIdeal.τ).loc Cert.GmInIdeal.main_v0)),
      θ_run (Cert.GmInIdeal.defs (F := Ideal)) (onTc (τ := Cert.GmInIdeal.τ) (Cert.GmInIdeal.main (F := Ideal))) ⟨m, fun _ => 0, g⟩ (fun r => ∀ c : Dev Cert.GmInIdeal.nD,
          r.2.mem ((c.tc : Thread Cert.GmInIdeal.nD Cert.GmInIdeal.τ).loc Cert.GmInIdeal.main_v0) = v0 c
          ∧ r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
          ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ θ_run (Cert.GmInRefIdeal.defs (F := Ideal)) (onTc (τ := Cert.GmInRefIdeal.τ) (Cert.GmInRefIdeal.main (F := Ideal))) ⟨m', fun _ => 0, g'⟩ (fun r => ∀ c : Dev Cert.GmInRefIdeal.nD,
          r.2.mem ((c.tc : Thread Cert.GmInRefIdeal.nD Cert.GmInRefIdeal.τ).loc Cert.GmInRefIdeal.main_v2) = v0 c
          ∧ r.2.mem ((c.tc : Thread Cert.GmInRefIdeal.nD Cert.GmInRefIdeal.τ).loc Cert.GmInRefIdeal.main_arg0) = m' ((c.tc : Thread Cert.GmInRefIdeal.nD Cert.GmInRefIdeal.τ).loc Cert.GmInRefIdeal.main_arg0)
          ∧ r.2.mem ((c.tc : Thread Cert.GmInRefIdeal.nD Cert.GmInRefIdeal.τ).loc Cert.GmInRefIdeal.main_arg1) = m' ((c.tc : Thread Cert.GmInRefIdeal.nD Cert.GmInRefIdeal.τ).loc Cert.GmInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixDwout_MixDwoutIdeal : Prop :=
  True

def algebraic_MixDwoutIdeal_MixDwoutRefIdeal [hMixDwoutIdeal : Cert.MixDwoutIdeal.Facts] [hMixDwoutRefIdeal : Cert.MixDwoutRefIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg)
    (m' : (ℓ : Loc Cert.MixDwoutRefIdeal.nD Cert.MixDwoutRefIdeal.τ Cert.MixDwoutRefIdeal.sig) → Buf (Elt Ideal) ℓ) (g' : Dev Cert.MixDwoutRefIdeal.nD → PrngReg), Pre_MixDwoutIdeal m →
    (∀ c : Dev Cert.MixDwoutIdeal.nD,
      m' ((c.tc : Thread Cert.MixDwoutRefIdeal.nD Cert.MixDwoutRefIdeal.τ).loc Cert.MixDwoutRefIdeal.main_arg0) = m ((c.tc : Thread Cert.MixDwoutIdeal.nD Cert.MixDwoutIdeal.τ).loc Cert.MixDwoutIdeal.main_arg0)
      ∧ m' ((c.tc : Thread Cert.MixDwoutRefIdeal.nD Cert.MixDwoutRefIdeal.τ).loc Cert.MixDwoutRefIdeal.main_arg1) = m ((c.tc : Thread Cert.MixDwoutIdeal.nD Cert.MixDwoutIdeal.τ).loc Cert.MixDwoutIdeal.main_arg1)) →
    ∃ (v0 : (c : Dev Cert.MixDwoutIdeal.nD) → Buf (Elt Ideal) ((c.tc : Thread Cert.MixDwoutIdeal.nD Cert.MixDwoutIdeal.τ).loc Cert.MixDwoutIdeal.main_v0)),
      θ_run (Cert.MixDwoutIdeal.defs (F := Ideal)) (onTc (τ := Cert.MixDwoutIdeal.τ) (Cert.MixDwoutIdeal.main (F := Ideal))) ⟨m, fun _ => 0, g⟩ (fun r => ∀ c : Dev Cert.MixDwoutIdeal.nD,
          r.2.mem ((c.tc : Thread Cert.MixDwoutIdeal.nD Cert.MixDwoutIdeal.τ).loc Cert.MixDwoutIdeal.main_v0) = v0 c
          ∧ r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
          ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ θ_run (Cert.MixDwoutRefIdeal.defs (F := Ideal)) (onTc (τ := Cert.MixDwoutRefIdeal.τ) (Cert.MixDwoutRefIdeal.main (F := Ideal))) ⟨m', fun _ => 0, g'⟩ (fun r => ∀ c : Dev Cert.MixDwoutRefIdeal.nD,
          r.2.mem ((c.tc : Thread Cert.MixDwoutRefIdeal.nD Cert.MixDwoutRefIdeal.τ).loc Cert.MixDwoutRefIdeal.main_v5) = v0 c
          ∧ r.2.mem ((c.tc : Thread Cert.MixDwoutRefIdeal.nD Cert.MixDwoutRefIdeal.τ).loc Cert.MixDwoutRefIdeal.main_arg0) = m' ((c.tc : Thread Cert.MixDwoutRefIdeal.nD Cert.MixDwoutRefIdeal.τ).loc Cert.MixDwoutRefIdeal.main_arg0)
          ∧ r.2.mem ((c.tc : Thread Cert.MixDwoutRefIdeal.nD Cert.MixDwoutRefIdeal.τ).loc Cert.MixDwoutRefIdeal.main_arg1) = m' ((c.tc : Thread Cert.MixDwoutRefIdeal.nD Cert.MixDwoutRefIdeal.τ).loc Cert.MixDwoutRefIdeal.main_arg1))

def preserves_GmDwin_GmDwinIdeal : Prop :=
  True

def algebraic_GmDwinIdeal_GmDwinRefIdeal [hGmDwinIdeal : Cert.GmDwinIdeal.Facts] [hGmDwinRefIdeal : Cert.GmDwinRefIdeal.Facts] : Prop :=
  ∀ (m : (ℓ : Loc Cert.GmDwinIdeal.nD Cert.GmDwinIdeal.τ Cert.GmDwinIdeal.sig) → Buf (Elt Ideal) ℓ) (g : Dev Cert.GmDwinIdeal.nD → PrngReg)
    (m' : (ℓ : Loc Cert.GmDwinRefIdeal.nD Cert.GmDwinRefIdeal.τ Cert.GmDwinRefIdeal.sig) → Buf (Elt Ideal) ℓ) (g' : Dev Cert.GmDwinRefIdeal.nD → PrngReg), Pre_GmDwinIdeal m →
    (∀ c : Dev Cert.GmDwinIdeal.nD,
      m' ((c.tc : Thread Cert.GmDwinRefIdeal.nD Cert.GmDwinRefIdeal.τ).loc Cert.GmDwinRefIdeal.main_arg0) = m ((c.tc : Thread Cert.GmDwinIdeal.nD Cert.GmDwinIdeal.τ).loc Cert.GmDwinIdeal.main_arg0)
      ∧ m' ((c.tc : Thread Cert.GmDwinRefIdeal.nD Cert.GmDwinRefIdeal.τ).loc Cert.GmDwinRefIdeal.main_arg1) = m ((c.tc : Thread Cert.GmDwinIdeal.nD Cert.GmDwinIdeal.τ).loc Cert.GmDwinIdeal.main_arg1)) →
    ∃ (v0 : (c : Dev Cert.GmDwinIdeal.nD) → Buf (Elt Ideal) ((c.tc : Thread Cert.GmDwinIdeal.nD Cert.GmDwinIdeal.τ).loc Cert.GmDwinIdeal.main_v0)),
      θ_run (Cert.GmDwinIdeal.defs (F := Ideal)) (onTc (τ := Cert.GmDwinIdeal.τ) (Cert.GmDwinIdeal.main (F := Ideal))) ⟨m, fun _ => 0, g⟩ (fun r => ∀ c : Dev Cert.GmDwinIdeal.nD,
          r.2.mem ((c.tc : Thread Cert.GmDwinIdeal.nD Cert.GmDwinIdeal.τ).loc Cert.GmDwinIdeal.main_v0) = v0 c
          ∧ r.2.mem ((c.tc : Thread Cert.GmDwinIdeal.nD Cert.GmDwinIdeal.τ).loc Cert.GmDwinIdeal.main_arg0) = m ((c.tc : Thread Cert.GmDwinIdeal.nD Cert.GmDwinIdeal.τ).loc Cert.GmDwinIdeal.main_arg0)
          ∧ r.2.mem ((c.tc : Thread Cert.GmDwinIdeal.nD Cert.GmDwinIdeal.τ).loc Cert.GmDwinIdeal.main_arg1) = m ((c.tc : Thread Cert.GmDwinIdeal.nD Cert.GmDwinIdeal.τ).loc Cert.GmDwinIdeal.main_arg1))
      ∧ θ_run (Cert.GmDwinRefIdeal.defs (F := Ideal)) (onTc (τ := Cert.GmDwinRefIdeal.τ) (Cert.GmDwinRefIdeal.main (F := Ideal))) ⟨m', fun _ => 0, g'⟩ (fun r => ∀ c : Dev Cert.GmDwinRefIdeal.nD,
          r.2.mem ((c.tc : Thread Cert.GmDwinRefIdeal.nD Cert.GmDwinRefIdeal.τ).loc Cert.GmDwinRefIdeal.main_v5) = v0 c
          ∧ r.2.mem ((c.tc : Thread Cert.GmDwinRefIdeal.nD Cert.GmDwinRefIdeal.τ).loc Cert.GmDwinRefIdeal.main_arg0) = m' ((c.tc : Thread Cert.GmDwinRefIdeal.nD Cert.GmDwinRefIdeal.τ).loc Cert.GmDwinRefIdeal.main_arg0)
          ∧ r.2.mem ((c.tc : Thread Cert.GmDwinRefIdeal.nD Cert.GmDwinRefIdeal.τ).loc Cert.GmDwinRefIdeal.main_arg1) = m' ((c.tc : Thread Cert.GmDwinRefIdeal.nD Cert.GmDwinRefIdeal.τ).loc Cert.GmDwinRefIdeal.main_arg1))

def preserves_SbDwin_SbDwinIdeal : Prop :=
  True

def algebraic_SbDwinIdeal_SbDwinRefIdeal [hSbDwinIdeal : Cert.SbDwinIdeal.Facts] [hSbDwinRefIdeal : Cert.SbDwinRefIdeal.Facts] : Prop :=
  ∀ (m : (ℓ : Loc Cert.SbDwinIdeal.nD Cert.SbDwinIdeal.τ Cert.SbDwinIdeal.sig) → Buf (Elt Ideal) ℓ) (g : Dev Cert.SbDwinIdeal.nD → PrngReg)
    (m' : (ℓ : Loc Cert.SbDwinRefIdeal.nD Cert.SbDwinRefIdeal.τ Cert.SbDwinRefIdeal.sig) → Buf (Elt Ideal) ℓ) (g' : Dev Cert.SbDwinRefIdeal.nD → PrngReg), Pre_SbDwinIdeal m →
    (∀ c : Dev Cert.SbDwinIdeal.nD,
      m' ((c.tc : Thread Cert.SbDwinRefIdeal.nD Cert.SbDwinRefIdeal.τ).loc Cert.SbDwinRefIdeal.main_arg0) = m ((c.tc : Thread Cert.SbDwinIdeal.nD Cert.SbDwinIdeal.τ).loc Cert.SbDwinIdeal.main_arg0)
      ∧ m' ((c.tc : Thread Cert.SbDwinRefIdeal.nD Cert.SbDwinRefIdeal.τ).loc Cert.SbDwinRefIdeal.main_arg1) = m ((c.tc : Thread Cert.SbDwinIdeal.nD Cert.SbDwinIdeal.τ).loc Cert.SbDwinIdeal.main_arg1)) →
    ∃ (v0 : (c : Dev Cert.SbDwinIdeal.nD) → Buf (Elt Ideal) ((c.tc : Thread Cert.SbDwinIdeal.nD Cert.SbDwinIdeal.τ).loc Cert.SbDwinIdeal.main_v0)),
      θ_run (Cert.SbDwinIdeal.defs (F := Ideal)) (onTc (τ := Cert.SbDwinIdeal.τ) (Cert.SbDwinIdeal.main (F := Ideal))) ⟨m, fun _ => 0, g⟩ (fun r => ∀ c : Dev Cert.SbDwinIdeal.nD,
          r.2.mem ((c.tc : Thread Cert.SbDwinIdeal.nD Cert.SbDwinIdeal.τ).loc Cert.SbDwinIdeal.main_v0) = v0 c
          ∧ r.2.mem ((c.tc : Thread Cert.SbDwinIdeal.nD Cert.SbDwinIdeal.τ).loc Cert.SbDwinIdeal.main_arg0) = m ((c.tc : Thread Cert.SbDwinIdeal.nD Cert.SbDwinIdeal.τ).loc Cert.SbDwinIdeal.main_arg0)
          ∧ r.2.mem ((c.tc : Thread Cert.SbDwinIdeal.nD Cert.SbDwinIdeal.τ).loc Cert.SbDwinIdeal.main_arg1) = m ((c.tc : Thread Cert.SbDwinIdeal.nD Cert.SbDwinIdeal.τ).loc Cert.SbDwinIdeal.main_arg1))
      ∧ θ_run (Cert.SbDwinRefIdeal.defs (F := Ideal)) (onTc (τ := Cert.SbDwinRefIdeal.τ) (Cert.SbDwinRefIdeal.main (F := Ideal))) ⟨m', fun _ => 0, g'⟩ (fun r => ∀ c : Dev Cert.SbDwinRefIdeal.nD,
          r.2.mem ((c.tc : Thread Cert.SbDwinRefIdeal.nD Cert.SbDwinRefIdeal.τ).loc Cert.SbDwinRefIdeal.main_v5) = v0 c
          ∧ r.2.mem ((c.tc : Thread Cert.SbDwinRefIdeal.nD Cert.SbDwinRefIdeal.τ).loc Cert.SbDwinRefIdeal.main_arg0) = m' ((c.tc : Thread Cert.SbDwinRefIdeal.nD Cert.SbDwinRefIdeal.τ).loc Cert.SbDwinRefIdeal.main_arg0)
          ∧ r.2.mem ((c.tc : Thread Cert.SbDwinRefIdeal.nD Cert.SbDwinRefIdeal.τ).loc Cert.SbDwinRefIdeal.main_arg1) = m' ((c.tc : Thread Cert.SbDwinRefIdeal.nD Cert.SbDwinRefIdeal.τ).loc Cert.SbDwinRefIdeal.main_arg1))

def preserves_FoxDwin_FoxDwinIdeal : Prop :=
  True

def algebraic_FoxDwinIdeal_FoxDwinRefIdeal [hFoxDwinIdeal : Cert.FoxDwinIdeal.Facts] [hFoxDwinRefIdeal : Cert.FoxDwinRefIdeal.Facts] : Prop :=
  ∀ (m : (ℓ : Loc Cert.FoxDwinIdeal.nD Cert.FoxDwinIdeal.τ Cert.FoxDwinIdeal.sig) → Buf (Elt Ideal) ℓ) (g : Dev Cert.FoxDwinIdeal.nD → PrngReg)
    (m' : (ℓ : Loc Cert.FoxDwinRefIdeal.nD Cert.FoxDwinRefIdeal.τ Cert.FoxDwinRefIdeal.sig) → Buf (Elt Ideal) ℓ) (g' : Dev Cert.FoxDwinRefIdeal.nD → PrngReg), Pre_FoxDwinIdeal m →
    (∀ c : Dev Cert.FoxDwinIdeal.nD,
      m' ((c.tc : Thread Cert.FoxDwinRefIdeal.nD Cert.FoxDwinRefIdeal.τ).loc Cert.FoxDwinRefIdeal.main_arg0) = m ((c.tc : Thread Cert.FoxDwinIdeal.nD Cert.FoxDwinIdeal.τ).loc Cert.FoxDwinIdeal.main_arg0)
      ∧ m' ((c.tc : Thread Cert.FoxDwinRefIdeal.nD Cert.FoxDwinRefIdeal.τ).loc Cert.FoxDwinRefIdeal.main_arg1) = m ((c.tc : Thread Cert.FoxDwinIdeal.nD Cert.FoxDwinIdeal.τ).loc Cert.FoxDwinIdeal.main_arg1)) →
    ∃ (v0 : (c : Dev Cert.FoxDwinIdeal.nD) → Buf (Elt Ideal) ((c.tc : Thread Cert.FoxDwinIdeal.nD Cert.FoxDwinIdeal.τ).loc Cert.FoxDwinIdeal.main_v0)),
      θ_run (Cert.FoxDwinIdeal.defs (F := Ideal)) (onTc (τ := Cert.FoxDwinIdeal.τ) (Cert.FoxDwinIdeal.main (F := Ideal))) ⟨m, fun _ => 0, g⟩ (fun r => ∀ c : Dev Cert.FoxDwinIdeal.nD,
          r.2.mem ((c.tc : Thread Cert.FoxDwinIdeal.nD Cert.FoxDwinIdeal.τ).loc Cert.FoxDwinIdeal.main_v0) = v0 c
          ∧ r.2.mem ((c.tc : Thread Cert.FoxDwinIdeal.nD Cert.FoxDwinIdeal.τ).loc Cert.FoxDwinIdeal.main_arg0) = m ((c.tc : Thread Cert.FoxDwinIdeal.nD Cert.FoxDwinIdeal.τ).loc Cert.FoxDwinIdeal.main_arg0)
          ∧ r.2.mem ((c.tc : Thread Cert.FoxDwinIdeal.nD Cert.FoxDwinIdeal.τ).loc Cert.FoxDwinIdeal.main_arg1) = m ((c.tc : Thread Cert.FoxDwinIdeal.nD Cert.FoxDwinIdeal.τ).loc Cert.FoxDwinIdeal.main_arg1))
      ∧ θ_run (Cert.FoxDwinRefIdeal.defs (F := Ideal)) (onTc (τ := Cert.FoxDwinRefIdeal.τ) (Cert.FoxDwinRefIdeal.main (F := Ideal))) ⟨m', fun _ => 0, g'⟩ (fun r => ∀ c : Dev Cert.FoxDwinRefIdeal.nD,
          r.2.mem ((c.tc : Thread Cert.FoxDwinRefIdeal.nD Cert.FoxDwinRefIdeal.τ).loc Cert.FoxDwinRefIdeal.main_v5) = v0 c
          ∧ r.2.mem ((c.tc : Thread Cert.FoxDwinRefIdeal.nD Cert.FoxDwinRefIdeal.τ).loc Cert.FoxDwinRefIdeal.main_arg0) = m' ((c.tc : Thread Cert.FoxDwinRefIdeal.nD Cert.FoxDwinRefIdeal.τ).loc Cert.FoxDwinRefIdeal.main_arg0)
          ∧ r.2.mem ((c.tc : Thread Cert.FoxDwinRefIdeal.nD Cert.FoxDwinRefIdeal.τ).loc Cert.FoxDwinRefIdeal.main_arg1) = m' ((c.tc : Thread Cert.FoxDwinRefIdeal.nD Cert.FoxDwinRefIdeal.τ).loc Cert.FoxDwinRefIdeal.main_arg1))

def preserves_GmDy_GmDyIdeal : Prop :=
  True

def algebraic_GmDyIdeal_GmDyRefIdeal [hGmDyIdeal : Cert.GmDyIdeal.Facts] [hGmDyRefIdeal : Cert.GmDyRefIdeal.Facts] : Prop :=
  ∀ (m : (ℓ : Loc Cert.GmDyIdeal.nD Cert.GmDyIdeal.τ Cert.GmDyIdeal.sig) → Buf (Elt Ideal) ℓ) (g : Dev Cert.GmDyIdeal.nD → PrngReg)
    (m' : (ℓ : Loc Cert.GmDyRefIdeal.nD Cert.GmDyRefIdeal.τ Cert.GmDyRefIdeal.sig) → Buf (Elt Ideal) ℓ) (g' : Dev Cert.GmDyRefIdeal.nD → PrngReg), Pre_GmDyIdeal m →
    (∀ c : Dev Cert.GmDyIdeal.nD,
      m' ((c.tc : Thread Cert.GmDyRefIdeal.nD Cert.GmDyRefIdeal.τ).loc Cert.GmDyRefIdeal.main_arg0) = m ((c.tc : Thread Cert.GmDyIdeal.nD Cert.GmDyIdeal.τ).loc Cert.GmDyIdeal.main_arg0)
      ∧ m' ((c.tc : Thread Cert.GmDyRefIdeal.nD Cert.GmDyRefIdeal.τ).loc Cert.GmDyRefIdeal.main_arg1) = m ((c.tc : Thread Cert.GmDyIdeal.nD Cert.GmDyIdeal.τ).loc Cert.GmDyIdeal.main_arg1)) →
    ∃ (v0 : (c : Dev Cert.GmDyIdeal.nD) → Buf (Elt Ideal) ((c.tc : Thread Cert.GmDyIdeal.nD Cert.GmDyIdeal.τ).loc Cert.GmDyIdeal.main_v0)),
      θ_run (Cert.GmDyIdeal.defs (F := Ideal)) (onTc (τ := Cert.GmDyIdeal.τ) (Cert.GmDyIdeal.main (F := Ideal))) ⟨m, fun _ => 0, g⟩ (fun r => ∀ c : Dev Cert.GmDyIdeal.nD,
          r.2.mem ((c.tc : Thread Cert.GmDyIdeal.nD Cert.GmDyIdeal.τ).loc Cert.GmDyIdeal.main_v0) = v0 c
          ∧ r.2.mem ((c.tc : Thread Cert.GmDyIdeal.nD Cert.GmDyIdeal.τ).loc Cert.GmDyIdeal.main_arg0) = m ((c.tc : Thread Cert.GmDyIdeal.nD Cert.GmDyIdeal.τ).loc Cert.GmDyIdeal.main_arg0)
          ∧ r.2.mem ((c.tc : Thread Cert.GmDyIdeal.nD Cert.GmDyIdeal.τ).loc Cert.GmDyIdeal.main_arg1) = m ((c.tc : Thread Cert.GmDyIdeal.nD Cert.GmDyIdeal.τ).loc Cert.GmDyIdeal.main_arg1))
      ∧ θ_run (Cert.GmDyRefIdeal.defs (F := Ideal)) (onTc (τ := Cert.GmDyRefIdeal.τ) (Cert.GmDyRefIdeal.main (F := Ideal))) ⟨m', fun _ => 0, g'⟩ (fun r => ∀ c : Dev Cert.GmDyRefIdeal.nD,
          r.2.mem ((c.tc : Thread Cert.GmDyRefIdeal.nD Cert.GmDyRefIdeal.τ).loc Cert.GmDyRefIdeal.main_v4) = v0 c
          ∧ r.2.mem ((c.tc : Thread Cert.GmDyRefIdeal.nD Cert.GmDyRefIdeal.τ).loc Cert.GmDyRefIdeal.main_arg0) = m' ((c.tc : Thread Cert.GmDyRefIdeal.nD Cert.GmDyRefIdeal.τ).loc Cert.GmDyRefIdeal.main_arg0)
          ∧ r.2.mem ((c.tc : Thread Cert.GmDyRefIdeal.nD Cert.GmDyRefIdeal.τ).loc Cert.GmDyRefIdeal.main_arg1) = m' ((c.tc : Thread Cert.GmDyRefIdeal.nD Cert.GmDyRefIdeal.τ).loc Cert.GmDyRefIdeal.main_arg1))

def preserves_FoxDo_FoxDoIdeal : Prop :=
  True

def algebraic_FoxDoIdeal_FoxDoRefIdeal [hFoxDoIdeal : Cert.FoxDoIdeal.Facts] [hFoxDoRefIdeal : Cert.FoxDoRefIdeal.Facts] : Prop :=
  ∀ (m : (ℓ : Loc Cert.FoxDoIdeal.nD Cert.FoxDoIdeal.τ Cert.FoxDoIdeal.sig) → Buf (Elt Ideal) ℓ) (g : Dev Cert.FoxDoIdeal.nD → PrngReg)
    (m' : (ℓ : Loc Cert.FoxDoRefIdeal.nD Cert.FoxDoRefIdeal.τ Cert.FoxDoRefIdeal.sig) → Buf (Elt Ideal) ℓ) (g' : Dev Cert.FoxDoRefIdeal.nD → PrngReg), Pre_FoxDoIdeal m →
    (∀ c : Dev Cert.FoxDoIdeal.nD,
      m' ((c.tc : Thread Cert.FoxDoRefIdeal.nD Cert.FoxDoRefIdeal.τ).loc Cert.FoxDoRefIdeal.main_arg0) = m ((c.tc : Thread Cert.FoxDoIdeal.nD Cert.FoxDoIdeal.τ).loc Cert.FoxDoIdeal.main_arg0)
      ∧ m' ((c.tc : Thread Cert.FoxDoRefIdeal.nD Cert.FoxDoRefIdeal.τ).loc Cert.FoxDoRefIdeal.main_arg1) = m ((c.tc : Thread Cert.FoxDoIdeal.nD Cert.FoxDoIdeal.τ).loc Cert.FoxDoIdeal.main_arg1)) →
    ∃ (v0 : (c : Dev Cert.FoxDoIdeal.nD) → Buf (Elt Ideal) ((c.tc : Thread Cert.FoxDoIdeal.nD Cert.FoxDoIdeal.τ).loc Cert.FoxDoIdeal.main_v0)),
      θ_run (Cert.FoxDoIdeal.defs (F := Ideal)) (onTc (τ := Cert.FoxDoIdeal.τ) (Cert.FoxDoIdeal.main (F := Ideal))) ⟨m, fun _ => 0, g⟩ (fun r => ∀ c : Dev Cert.FoxDoIdeal.nD,
          r.2.mem ((c.tc : Thread Cert.FoxDoIdeal.nD Cert.FoxDoIdeal.τ).loc Cert.FoxDoIdeal.main_v0) = v0 c
          ∧ r.2.mem ((c.tc : Thread Cert.FoxDoIdeal.nD Cert.FoxDoIdeal.τ).loc Cert.FoxDoIdeal.main_arg0) = m ((c.tc : Thread Cert.FoxDoIdeal.nD Cert.FoxDoIdeal.τ).loc Cert.FoxDoIdeal.main_arg0)
          ∧ r.2.mem ((c.tc : Thread Cert.FoxDoIdeal.nD Cert.FoxDoIdeal.τ).loc Cert.FoxDoIdeal.main_arg1) = m ((c.tc : Thread Cert.FoxDoIdeal.nD Cert.FoxDoIdeal.τ).loc Cert.FoxDoIdeal.main_arg1))
      ∧ θ_run (Cert.FoxDoRefIdeal.defs (F := Ideal)) (onTc (τ := Cert.FoxDoRefIdeal.τ) (Cert.FoxDoRefIdeal.main (F := Ideal))) ⟨m', fun _ => 0, g'⟩ (fun r => ∀ c : Dev Cert.FoxDoRefIdeal.nD,
          r.2.mem ((c.tc : Thread Cert.FoxDoRefIdeal.nD Cert.FoxDoRefIdeal.τ).loc Cert.FoxDoRefIdeal.main_v5) = v0 c
          ∧ r.2.mem ((c.tc : Thread Cert.FoxDoRefIdeal.nD Cert.FoxDoRefIdeal.τ).loc Cert.FoxDoRefIdeal.main_arg0) = m' ((c.tc : Thread Cert.FoxDoRefIdeal.nD Cert.FoxDoRefIdeal.τ).loc Cert.FoxDoRefIdeal.main_arg0)
          ∧ r.2.mem ((c.tc : Thread Cert.FoxDoRefIdeal.nD Cert.FoxDoRefIdeal.τ).loc Cert.FoxDoRefIdeal.main_arg1) = m' ((c.tc : Thread Cert.FoxDoRefIdeal.nD Cert.FoxDoRefIdeal.τ).loc Cert.FoxDoRefIdeal.main_arg1))

def preserves_GmDh_GmDhIdeal : Prop :=
  True

def algebraic_GmDhIdeal_GmDhRefIdeal [hGmDhIdeal : Cert.GmDhIdeal.Facts] [hGmDhRefIdeal : Cert.GmDhRefIdeal.Facts] : Prop :=
  ∀ (m : (ℓ : Loc Cert.GmDhIdeal.nD Cert.GmDhIdeal.τ Cert.GmDhIdeal.sig) → Buf (Elt Ideal) ℓ) (g : Dev Cert.GmDhIdeal.nD → PrngReg)
    (m' : (ℓ : Loc Cert.GmDhRefIdeal.nD Cert.GmDhRefIdeal.τ Cert.GmDhRefIdeal.sig) → Buf (Elt Ideal) ℓ) (g' : Dev Cert.GmDhRefIdeal.nD → PrngReg), Pre_GmDhIdeal m →
    (∀ c : Dev Cert.GmDhIdeal.nD,
      m' ((c.tc : Thread Cert.GmDhRefIdeal.nD Cert.GmDhRefIdeal.τ).loc Cert.GmDhRefIdeal.main_arg0) = m ((c.tc : Thread Cert.GmDhIdeal.nD Cert.GmDhIdeal.τ).loc Cert.GmDhIdeal.main_arg0)
      ∧ m' ((c.tc : Thread Cert.GmDhRefIdeal.nD Cert.GmDhRefIdeal.τ).loc Cert.GmDhRefIdeal.main_arg1) = m ((c.tc : Thread Cert.GmDhIdeal.nD Cert.GmDhIdeal.τ).loc Cert.GmDhIdeal.main_arg1)) →
    ∃ (v0 : (c : Dev Cert.GmDhIdeal.nD) → Buf (Elt Ideal) ((c.tc : Thread Cert.GmDhIdeal.nD Cert.GmDhIdeal.τ).loc Cert.GmDhIdeal.main_v0)),
      θ_run (Cert.GmDhIdeal.defs (F := Ideal)) (onTc (τ := Cert.GmDhIdeal.τ) (Cert.GmDhIdeal.main (F := Ideal))) ⟨m, fun _ => 0, g⟩ (fun r => ∀ c : Dev Cert.GmDhIdeal.nD,
          r.2.mem ((c.tc : Thread Cert.GmDhIdeal.nD Cert.GmDhIdeal.τ).loc Cert.GmDhIdeal.main_v0) = v0 c
          ∧ r.2.mem ((c.tc : Thread Cert.GmDhIdeal.nD Cert.GmDhIdeal.τ).loc Cert.GmDhIdeal.main_arg0) = m ((c.tc : Thread Cert.GmDhIdeal.nD Cert.GmDhIdeal.τ).loc Cert.GmDhIdeal.main_arg0)
          ∧ r.2.mem ((c.tc : Thread Cert.GmDhIdeal.nD Cert.GmDhIdeal.τ).loc Cert.GmDhIdeal.main_arg1) = m ((c.tc : Thread Cert.GmDhIdeal.nD Cert.GmDhIdeal.τ).loc Cert.GmDhIdeal.main_arg1))
      ∧ θ_run (Cert.GmDhRefIdeal.defs (F := Ideal)) (onTc (τ := Cert.GmDhRefIdeal.τ) (Cert.GmDhRefIdeal.main (F := Ideal))) ⟨m', fun _ => 0, g'⟩ (fun r => ∀ c : Dev Cert.GmDhRefIdeal.nD,
          r.2.mem ((c.tc : Thread Cert.GmDhRefIdeal.nD Cert.GmDhRefIdeal.τ).loc Cert.GmDhRefIdeal.main_v4) = v0 c
          ∧ r.2.mem ((c.tc : Thread Cert.GmDhRefIdeal.nD Cert.GmDhRefIdeal.τ).loc Cert.GmDhRefIdeal.main_arg0) = m' ((c.tc : Thread Cert.GmDhRefIdeal.nD Cert.GmDhRefIdeal.τ).loc Cert.GmDhRefIdeal.main_arg0)
          ∧ r.2.mem ((c.tc : Thread Cert.GmDhRefIdeal.nD Cert.GmDhRefIdeal.τ).loc Cert.GmDhRefIdeal.main_arg1) = m' ((c.tc : Thread Cert.GmDhRefIdeal.nD Cert.GmDhRefIdeal.τ).loc Cert.GmDhRefIdeal.main_arg1))

def preserves_SbDh_SbDhIdeal : Prop :=
  True

def algebraic_SbDhIdeal_SbDhRefIdeal [hSbDhIdeal : Cert.SbDhIdeal.Facts] [hSbDhRefIdeal : Cert.SbDhRefIdeal.Facts] : Prop :=
  ∀ (m : (ℓ : Loc Cert.SbDhIdeal.nD Cert.SbDhIdeal.τ Cert.SbDhIdeal.sig) → Buf (Elt Ideal) ℓ) (g : Dev Cert.SbDhIdeal.nD → PrngReg)
    (m' : (ℓ : Loc Cert.SbDhRefIdeal.nD Cert.SbDhRefIdeal.τ Cert.SbDhRefIdeal.sig) → Buf (Elt Ideal) ℓ) (g' : Dev Cert.SbDhRefIdeal.nD → PrngReg), Pre_SbDhIdeal m →
    (∀ c : Dev Cert.SbDhIdeal.nD,
      m' ((c.tc : Thread Cert.SbDhRefIdeal.nD Cert.SbDhRefIdeal.τ).loc Cert.SbDhRefIdeal.main_arg0) = m ((c.tc : Thread Cert.SbDhIdeal.nD Cert.SbDhIdeal.τ).loc Cert.SbDhIdeal.main_arg0)
      ∧ m' ((c.tc : Thread Cert.SbDhRefIdeal.nD Cert.SbDhRefIdeal.τ).loc Cert.SbDhRefIdeal.main_arg1) = m ((c.tc : Thread Cert.SbDhIdeal.nD Cert.SbDhIdeal.τ).loc Cert.SbDhIdeal.main_arg1)) →
    ∃ (v0 : (c : Dev Cert.SbDhIdeal.nD) → Buf (Elt Ideal) ((c.tc : Thread Cert.SbDhIdeal.nD Cert.SbDhIdeal.τ).loc Cert.SbDhIdeal.main_v0)),
      θ_run (Cert.SbDhIdeal.defs (F := Ideal)) (onTc (τ := Cert.SbDhIdeal.τ) (Cert.SbDhIdeal.main (F := Ideal))) ⟨m, fun _ => 0, g⟩ (fun r => ∀ c : Dev Cert.SbDhIdeal.nD,
          r.2.mem ((c.tc : Thread Cert.SbDhIdeal.nD Cert.SbDhIdeal.τ).loc Cert.SbDhIdeal.main_v0) = v0 c
          ∧ r.2.mem ((c.tc : Thread Cert.SbDhIdeal.nD Cert.SbDhIdeal.τ).loc Cert.SbDhIdeal.main_arg0) = m ((c.tc : Thread Cert.SbDhIdeal.nD Cert.SbDhIdeal.τ).loc Cert.SbDhIdeal.main_arg0)
          ∧ r.2.mem ((c.tc : Thread Cert.SbDhIdeal.nD Cert.SbDhIdeal.τ).loc Cert.SbDhIdeal.main_arg1) = m ((c.tc : Thread Cert.SbDhIdeal.nD Cert.SbDhIdeal.τ).loc Cert.SbDhIdeal.main_arg1))
      ∧ θ_run (Cert.SbDhRefIdeal.defs (F := Ideal)) (onTc (τ := Cert.SbDhRefIdeal.τ) (Cert.SbDhRefIdeal.main (F := Ideal))) ⟨m', fun _ => 0, g'⟩ (fun r => ∀ c : Dev Cert.SbDhRefIdeal.nD,
          r.2.mem ((c.tc : Thread Cert.SbDhRefIdeal.nD Cert.SbDhRefIdeal.τ).loc Cert.SbDhRefIdeal.main_v4) = v0 c
          ∧ r.2.mem ((c.tc : Thread Cert.SbDhRefIdeal.nD Cert.SbDhRefIdeal.τ).loc Cert.SbDhRefIdeal.main_arg0) = m' ((c.tc : Thread Cert.SbDhRefIdeal.nD Cert.SbDhRefIdeal.τ).loc Cert.SbDhRefIdeal.main_arg0)
          ∧ r.2.mem ((c.tc : Thread Cert.SbDhRefIdeal.nD Cert.SbDhRefIdeal.τ).loc Cert.SbDhRefIdeal.main_arg1) = m' ((c.tc : Thread Cert.SbDhRefIdeal.nD Cert.SbDhRefIdeal.τ).loc Cert.SbDhRefIdeal.main_arg1))

def preserves_FoxDh_FoxDhIdeal : Prop :=
  True

def algebraic_FoxDhIdeal_FoxDhRefIdeal [hFoxDhIdeal : Cert.FoxDhIdeal.Facts] [hFoxDhRefIdeal : Cert.FoxDhRefIdeal.Facts] : Prop :=
  ∀ (m : (ℓ : Loc Cert.FoxDhIdeal.nD Cert.FoxDhIdeal.τ Cert.FoxDhIdeal.sig) → Buf (Elt Ideal) ℓ) (g : Dev Cert.FoxDhIdeal.nD → PrngReg)
    (m' : (ℓ : Loc Cert.FoxDhRefIdeal.nD Cert.FoxDhRefIdeal.τ Cert.FoxDhRefIdeal.sig) → Buf (Elt Ideal) ℓ) (g' : Dev Cert.FoxDhRefIdeal.nD → PrngReg), Pre_FoxDhIdeal m →
    (∀ c : Dev Cert.FoxDhIdeal.nD,
      m' ((c.tc : Thread Cert.FoxDhRefIdeal.nD Cert.FoxDhRefIdeal.τ).loc Cert.FoxDhRefIdeal.main_arg0) = m ((c.tc : Thread Cert.FoxDhIdeal.nD Cert.FoxDhIdeal.τ).loc Cert.FoxDhIdeal.main_arg0)
      ∧ m' ((c.tc : Thread Cert.FoxDhRefIdeal.nD Cert.FoxDhRefIdeal.τ).loc Cert.FoxDhRefIdeal.main_arg1) = m ((c.tc : Thread Cert.FoxDhIdeal.nD Cert.FoxDhIdeal.τ).loc Cert.FoxDhIdeal.main_arg1)) →
    ∃ (v0 : (c : Dev Cert.FoxDhIdeal.nD) → Buf (Elt Ideal) ((c.tc : Thread Cert.FoxDhIdeal.nD Cert.FoxDhIdeal.τ).loc Cert.FoxDhIdeal.main_v0)),
      θ_run (Cert.FoxDhIdeal.defs (F := Ideal)) (onTc (τ := Cert.FoxDhIdeal.τ) (Cert.FoxDhIdeal.main (F := Ideal))) ⟨m, fun _ => 0, g⟩ (fun r => ∀ c : Dev Cert.FoxDhIdeal.nD,
          r.2.mem ((c.tc : Thread Cert.FoxDhIdeal.nD Cert.FoxDhIdeal.τ).loc Cert.FoxDhIdeal.main_v0) = v0 c
          ∧ r.2.mem ((c.tc : Thread Cert.FoxDhIdeal.nD Cert.FoxDhIdeal.τ).loc Cert.FoxDhIdeal.main_arg0) = m ((c.tc : Thread Cert.FoxDhIdeal.nD Cert.FoxDhIdeal.τ).loc Cert.FoxDhIdeal.main_arg0)
          ∧ r.2.mem ((c.tc : Thread Cert.FoxDhIdeal.nD Cert.FoxDhIdeal.τ).loc Cert.FoxDhIdeal.main_arg1) = m ((c.tc : Thread Cert.FoxDhIdeal.nD Cert.FoxDhIdeal.τ).loc Cert.FoxDhIdeal.main_arg1))
      ∧ θ_run (Cert.FoxDhRefIdeal.defs (F := Ideal)) (onTc (τ := Cert.FoxDhRefIdeal.τ) (Cert.FoxDhRefIdeal.main (F := Ideal))) ⟨m', fun _ => 0, g'⟩ (fun r => ∀ c : Dev Cert.FoxDhRefIdeal.nD,
          r.2.mem ((c.tc : Thread Cert.FoxDhRefIdeal.nD Cert.FoxDhRefIdeal.τ).loc Cert.FoxDhRefIdeal.main_v4) = v0 c
          ∧ r.2.mem ((c.tc : Thread Cert.FoxDhRefIdeal.nD Cert.FoxDhRefIdeal.τ).loc Cert.FoxDhRefIdeal.main_arg0) = m' ((c.tc : Thread Cert.FoxDhRefIdeal.nD Cert.FoxDhRefIdeal.τ).loc Cert.FoxDhRefIdeal.main_arg0)
          ∧ r.2.mem ((c.tc : Thread Cert.FoxDhRefIdeal.nD Cert.FoxDhRefIdeal.τ).loc Cert.FoxDhRefIdeal.main_arg1) = m' ((c.tc : Thread Cert.FoxDhRefIdeal.nD Cert.FoxDhRefIdeal.τ).loc Cert.FoxDhRefIdeal.main_arg1))

def preserves_ModBwd_ModBwdIdeal : Prop :=
  True

def algebraic_ModBwdIdeal_ModBwdRefIdeal [hModBwdIdeal : Cert.ModBwdIdeal.Facts] [hModBwdRefIdeal : Cert.ModBwdRefIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdRefIdeal.nD Cert.ModBwdRefIdeal.τ Cert.ModBwdRefIdeal.sig) → Buf (Elt Ideal) ℓ) (g' : Dev Cert.ModBwdRefIdeal.nD → PrngReg), Pre_ModBwdIdeal m →
    (∀ c : Dev Cert.ModBwdIdeal.nD,
      m' ((c.tc : Thread Cert.ModBwdRefIdeal.nD Cert.ModBwdRefIdeal.τ).loc Cert.ModBwdRefIdeal.main_arg0) = m ((c.tc : Thread Cert.ModBwdIdeal.nD Cert.ModBwdIdeal.τ).loc Cert.ModBwdIdeal.main_arg0)
      ∧ m' ((c.tc : Thread Cert.ModBwdRefIdeal.nD Cert.ModBwdRefIdeal.τ).loc Cert.ModBwdRefIdeal.main_arg1) = m ((c.tc : Thread Cert.ModBwdIdeal.nD Cert.ModBwdIdeal.τ).loc Cert.ModBwdIdeal.main_arg1)
      ∧ m' ((c.tc : Thread Cert.ModBwdRefIdeal.nD Cert.ModBwdRefIdeal.τ).loc Cert.ModBwdRefIdeal.main_arg2) = m ((c.tc : Thread Cert.ModBwdIdeal.nD Cert.ModBwdIdeal.τ).loc Cert.ModBwdIdeal.main_arg2)
      ∧ m' ((c.tc : Thread Cert.ModBwdRefIdeal.nD Cert.ModBwdRefIdeal.τ).loc Cert.ModBwdRefIdeal.main_arg3) = m ((c.tc : Thread Cert.ModBwdIdeal.nD Cert.ModBwdIdeal.τ).loc Cert.ModBwdIdeal.main_arg3)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)) (v2 : (c : Dev Cert.ModBwdIdeal.nD) → Buf (Elt Ideal) ((c.tc : Thread Cert.ModBwdIdeal.nD Cert.ModBwdIdeal.τ).loc Cert.ModBwdIdeal.main_v0_2)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_v0_2) = v2 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
          ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3))
      ∧ θ_run (Cert.ModBwdRefIdeal.defs (F := Ideal)) (onTc (τ := Cert.ModBwdRefIdeal.τ) (Cert.ModBwdRefIdeal.main (F := Ideal))) ⟨m', fun _ => 0, g'⟩ (fun r => ∀ c : Dev Cert.ModBwdRefIdeal.nD,
          r.2.mem ((c.tc : Thread Cert.ModBwdRefIdeal.nD Cert.ModBwdRefIdeal.τ).loc Cert.ModBwdRefIdeal.main_v19) = v0 c
          ∧ r.2.mem ((c.tc : Thread Cert.ModBwdRefIdeal.nD Cert.ModBwdRefIdeal.τ).loc Cert.ModBwdRefIdeal.main_v16) = v1 c
          ∧ r.2.mem ((c.tc : Thread Cert.ModBwdRefIdeal.nD Cert.ModBwdRefIdeal.τ).loc Cert.ModBwdRefIdeal.main_v13) = v2 c
          ∧ r.2.mem ((c.tc : Thread Cert.ModBwdRefIdeal.nD Cert.ModBwdRefIdeal.τ).loc Cert.ModBwdRefIdeal.main_arg0) = m' ((c.tc : Thread Cert.ModBwdRefIdeal.nD Cert.ModBwdRefIdeal.τ).loc Cert.ModBwdRefIdeal.main_arg0)
          ∧ r.2.mem ((c.tc : Thread Cert.ModBwdRefIdeal.nD Cert.ModBwdRefIdeal.τ).loc Cert.ModBwdRefIdeal.main_arg1) = m' ((c.tc : Thread Cert.ModBwdRefIdeal.nD Cert.ModBwdRefIdeal.τ).loc Cert.ModBwdRefIdeal.main_arg1)
          ∧ r.2.mem ((c.tc : Thread Cert.ModBwdRefIdeal.nD Cert.ModBwdRefIdeal.τ).loc Cert.ModBwdRefIdeal.main_arg2) = m' ((c.tc : Thread Cert.ModBwdRefIdeal.nD Cert.ModBwdRefIdeal.τ).loc Cert.ModBwdRefIdeal.main_arg2)
          ∧ r.2.mem ((c.tc : Thread Cert.ModBwdRefIdeal.nD Cert.ModBwdRefIdeal.τ).loc Cert.ModBwdRefIdeal.main_arg3) = m' ((c.tc : Thread Cert.ModBwdRefIdeal.nD Cert.ModBwdRefIdeal.τ).loc Cert.ModBwdRefIdeal.main_arg3))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)) →
    ∃ (v0 : (c : Dev Cert.GluBwdIdeal.nD) → Buf (Elt Ideal) ((c.tc : Thread Cert.GluBwdIdeal.nD Cert.GluBwdIdeal.τ).loc Cert.GluBwdIdeal.main_v0_0)) (v1 : (c : Dev Cert.GluBwdIdeal.nD) → Buf (Elt Ideal) ((c.tc : Thread Cert.GluBwdIdeal.nD Cert.GluBwdIdeal.τ).loc Cert.GluBwdIdeal.main_v0_1)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0_0) = v0 c
          ∧ r.2.mem ((c.tc : Thread Cert.GluBwdIdeal.nD Cert.GluBwdIdeal.τ).loc Cert.GluBwdIdeal.main_v0_1) = v1 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v23) = v0 c
          ∧ r.2.mem ((c.tc : Thread Cert.GluBwdRefIdeal.nD Cert.GluBwdRefIdeal.τ).loc Cert.GluBwdRefIdeal.main_v22) = v1 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v11) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Spatial_SpatialIdeal : Prop :=
  True

def algebraic_SpatialIdeal_SpatialRefIdeal [hSpatialIdeal : Cert.SpatialIdeal.Facts] [hSpatialRefIdeal : Cert.SpatialRefIdeal.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.SpatialRefIdeal.nD Cert.SpatialRefIdeal.τ Cert.SpatialRefIdeal.sig) → Buf (Elt Ideal) ℓ) (g' : Dev Cert.SpatialRefIdeal.nD → PrngReg), Pre_SpatialIdeal m →
    (∀ c : Dev Cert.SpatialIdeal.nD,
      m' ((c.tc : Thread Cert.SpatialRefIdeal.nD Cert.SpatialRefIdeal.τ).loc Cert.SpatialRefIdeal.main_arg0) = m ((c.tc : Thread Cert.SpatialIdeal.nD Cert.SpatialIdeal.τ).loc Cert.SpatialIdeal.main_arg0)
      ∧ m' ((c.tc : Thread Cert.SpatialRefIdeal.nD Cert.SpatialRefIdeal.τ).loc Cert.SpatialRefIdeal.main_arg1) = m ((c.tc : Thread Cert.SpatialIdeal.nD Cert.SpatialIdeal.τ).loc Cert.SpatialIdeal.main_arg1)
      ∧ m' ((c.tc : Thread Cert.SpatialRefIdeal.nD Cert.SpatialRefIdeal.τ).loc Cert.SpatialRefIdeal.main_arg2) = m ((c.tc : Thread Cert.SpatialIdeal.nD Cert.SpatialIdeal.τ).loc Cert.SpatialIdeal.main_arg2)
      ∧ m' ((c.tc : Thread Cert.SpatialRefIdeal.nD Cert.SpatialRefIdeal.τ).loc Cert.SpatialRefIdeal.main_arg3) = m ((c.tc : Thread Cert.SpatialIdeal.nD Cert.SpatialIdeal.τ).loc Cert.SpatialIdeal.main_arg3)) →
    ∃ (v0 : (c : Dev Cert.SpatialIdeal.nD) → Buf (Elt Ideal) ((c.tc : Thread Cert.SpatialIdeal.nD Cert.SpatialIdeal.τ).loc Cert.SpatialIdeal.main_v1)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v1) = v0 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
          ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
          ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
          ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3))
      ∧ θ_run (Cert.SpatialRefIdeal.defs (F := Ideal)) (onTc (τ := Cert.SpatialRefIdeal.τ) (Cert.SpatialRefIdeal.main (F := Ideal))) ⟨m', fun _ => 0, g'⟩ (fun r => ∀ c : Dev Cert.SpatialRefIdeal.nD,
          r.2.mem ((c.tc : Thread Cert.SpatialRefIdeal.nD Cert.SpatialRefIdeal.τ).loc Cert.SpatialRefIdeal.main_v15) = v0 c
          ∧ r.2.mem ((c.tc : Thread Cert.SpatialRefIdeal.nD Cert.SpatialRefIdeal.τ).loc Cert.SpatialRefIdeal.main_arg0) = m' ((c.tc : Thread Cert.SpatialRefIdeal.nD Cert.SpatialRefIdeal.τ).loc Cert.SpatialRefIdeal.main_arg0)
          ∧ r.2.mem ((c.tc : Thread Cert.SpatialRefIdeal.nD Cert.SpatialRefIdeal.τ).loc Cert.SpatialRefIdeal.main_arg1) = m' ((c.tc : Thread Cert.SpatialRefIdeal.nD Cert.SpatialRefIdeal.τ).loc Cert.SpatialRefIdeal.main_arg1)
          ∧ r.2.mem ((c.tc : Thread Cert.SpatialRefIdeal.nD Cert.SpatialRefIdeal.τ).loc Cert.SpatialRefIdeal.main_arg2) = m' ((c.tc : Thread Cert.SpatialRefIdeal.nD Cert.SpatialRefIdeal.τ).loc Cert.SpatialRefIdeal.main_arg2)
          ∧ r.2.mem ((c.tc : Thread Cert.SpatialRefIdeal.nD Cert.SpatialRefIdeal.τ).loc Cert.SpatialRefIdeal.main_arg3) = m' ((c.tc : Thread Cert.SpatialRefIdeal.nD Cert.SpatialRefIdeal.τ).loc Cert.SpatialRefIdeal.main_arg3))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)
      ∧ m' ((c.tc : Thread Cert.LnRefIdeal.nD Cert.LnRefIdeal.τ).loc Cert.LnRefIdeal.main_arg5) = m ((c.tc : Thread Cert.LnIdeal.nD Cert.LnIdeal.τ).loc Cert.LnIdeal.main_arg5)
      ∧ m' ((c.tc : Thread Cert.LnRefIdeal.nD Cert.LnRefIdeal.τ).loc Cert.LnRefIdeal.main_arg6) = m ((c.tc : Thread Cert.LnIdeal.nD Cert.LnIdeal.τ).loc Cert.LnIdeal.main_arg6)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
          ∧ r.2.mem ((c.tc : Thread Cert.LnIdeal.nD Cert.LnIdeal.τ).loc Cert.LnIdeal.main_arg6) = m ((c.tc : Thread Cert.LnIdeal.nD Cert.LnIdeal.τ).loc Cert.LnIdeal.main_arg6))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v28) = v0 c
          ∧ r.2.mem ((c.tc : Thread Cert.LnRefIdeal.nD Cert.LnRefIdeal.τ).loc Cert.LnRefIdeal.main_v35) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4)
          ∧ r.2.mem ((c.tc : Thread Cert.LnRefIdeal.nD Cert.LnRefIdeal.τ).loc Cert.LnRefIdeal.main_arg5) = m' ((c.tc : Thread Cert.LnRefIdeal.nD Cert.LnRefIdeal.τ).loc Cert.LnRefIdeal.main_arg5)
          ∧ r.2.mem ((c.tc : Thread Cert.LnRefIdeal.nD Cert.LnRefIdeal.τ).loc Cert.LnRefIdeal.main_arg6) = m' ((c.tc : Thread Cert.LnRefIdeal.nD Cert.LnRefIdeal.τ).loc Cert.LnRefIdeal.main_arg6))

def preserves_LnAct_LnActIdeal : Prop :=
  True

def algebraic_LnActIdeal_LnActRefIdeal [hLnActIdeal : Cert.LnActIdeal.Facts] [hLnActRefIdeal : Cert.LnActRefIdeal.Facts] : Prop :=
  ∀ (m : (ℓ : Loc Cert.LnActIdeal.nD Cert.LnActIdeal.τ Cert.LnActIdeal.sig) → Buf (Elt Ideal) ℓ) (g : Dev Cert.LnActIdeal.nD → PrngReg)
    (m' : (ℓ : Loc Cert.LnActRefIdeal.nD Cert.LnActRefIdeal.τ Cert.LnActRefIdeal.sig) → Buf (Elt Ideal) ℓ) (g' : Dev Cert.LnActRefIdeal.nD → PrngReg), Pre_LnActIdeal m →
    (∀ c : Dev Cert.LnActIdeal.nD,
      m' ((c.tc : Thread Cert.LnActRefIdeal.nD Cert.LnActRefIdeal.τ).loc Cert.LnActRefIdeal.main_arg0) = m ((c.tc : Thread Cert.LnActIdeal.nD Cert.LnActIdeal.τ).loc Cert.LnActIdeal.main_arg0)
      ∧ m' ((c.tc : Thread Cert.LnActRefIdeal.nD Cert.LnActRefIdeal.τ).loc Cert.LnActRefIdeal.main_arg1) = m ((c.tc : Thread Cert.LnActIdeal.nD Cert.LnActIdeal.τ).loc Cert.LnActIdeal.main_arg1)
      ∧ m' ((c.tc : Thread Cert.LnActRefIdeal.nD Cert.LnActRefIdeal.τ).loc Cert.LnActRefIdeal.main_arg2) = m ((c.tc : Thread Cert.LnActIdeal.nD Cert.LnActIdeal.τ).loc Cert.LnActIdeal.main_arg2)) →
    ∃ (v0 : (c : Dev Cert.LnActIdeal.nD) → Buf (Elt Ideal) ((c.tc : Thread Cert.LnActIdeal.nD Cert.LnActIdeal.τ).loc Cert.LnActIdeal.main_v0)),
      θ_run (Cert.LnActIdeal.defs (F := Ideal)) (onTc (τ := Cert.LnActIdeal.τ) (Cert.LnActIdeal.main (F := Ideal))) ⟨m, fun _ => 0, g⟩ (fun r => ∀ c : Dev Cert.LnActIdeal.nD,
          r.2.mem ((c.tc : Thread Cert.LnActIdeal.nD Cert.LnActIdeal.τ).loc Cert.LnActIdeal.main_v0) = v0 c
          ∧ r.2.mem ((c.tc : Thread Cert.LnActIdeal.nD Cert.LnActIdeal.τ).loc Cert.LnActIdeal.main_arg0) = m ((c.tc : Thread Cert.LnActIdeal.nD Cert.LnActIdeal.τ).loc Cert.LnActIdeal.main_arg0)
          ∧ r.2.mem ((c.tc : Thread Cert.LnActIdeal.nD Cert.LnActIdeal.τ).loc Cert.LnActIdeal.main_arg1) = m ((c.tc : Thread Cert.LnActIdeal.nD Cert.LnActIdeal.τ).loc Cert.LnActIdeal.main_arg1)
          ∧ r.2.mem ((c.tc : Thread Cert.LnActIdeal.nD Cert.LnActIdeal.τ).loc Cert.LnActIdeal.main_arg2) = m ((c.tc : Thread Cert.LnActIdeal.nD Cert.LnActIdeal.τ).loc Cert.LnActIdeal.main_arg2))
      ∧ θ_run (Cert.LnActRefIdeal.defs (F := Ideal)) (onTc (τ := Cert.LnActRefIdeal.τ) (Cert.LnActRefIdeal.main (F := Ideal))) ⟨m', fun _ => 0, g'⟩ (fun r => ∀ c : Dev Cert.LnActRefIdeal.nD,
          r.2.mem ((c.tc : Thread Cert.LnActRefIdeal.nD Cert.LnActRefIdeal.τ).loc Cert.LnActRefIdeal.main_v23) = v0 c
          ∧ r.2.mem ((c.tc : Thread Cert.LnActRefIdeal.nD Cert.LnActRefIdeal.τ).loc Cert.LnActRefIdeal.main_arg0) = m' ((c.tc : Thread Cert.LnActRefIdeal.nD Cert.LnActRefIdeal.τ).loc Cert.LnActRefIdeal.main_arg0)
          ∧ r.2.mem ((c.tc : Thread Cert.LnActRefIdeal.nD Cert.LnActRefIdeal.τ).loc Cert.LnActRefIdeal.main_arg1) = m' ((c.tc : Thread Cert.LnActRefIdeal.nD Cert.LnActRefIdeal.τ).loc Cert.LnActRefIdeal.main_arg1)
          ∧ r.2.mem ((c.tc : Thread Cert.LnActRefIdeal.nD Cert.LnActRefIdeal.τ).loc Cert.LnActRefIdeal.main_arg2) = m' ((c.tc : Thread Cert.LnActRefIdeal.nD Cert.LnActRefIdeal.τ).loc Cert.LnActRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v563) = v0 c
          ∧ r.2.mem ((c.tc : Thread Cert.ConvRefIdeal.nD Cert.ConvRefIdeal.τ).loc Cert.ConvRefIdeal.main_v564) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v222) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_CAct_CActIdeal : Prop :=
  True

def algebraic_CActIdeal_CActRefIdeal [hCActIdeal : Cert.CActIdeal.Facts] [hCActRefIdeal : Cert.CActRefIdeal.Facts] : Prop :=
  ∀ (m : (ℓ : Loc Cert.CActIdeal.nD Cert.CActIdeal.τ Cert.CActIdeal.sig) → Buf (Elt Ideal) ℓ) (g : Dev Cert.CActIdeal.nD → PrngReg)
    (m' : (ℓ : Loc Cert.CActRefIdeal.nD Cert.CActRefIdeal.τ Cert.CActRefIdeal.sig) → Buf (Elt Ideal) ℓ) (g' : Dev Cert.CActRefIdeal.nD → PrngReg), Pre_CActIdeal m →
    (∀ c : Dev Cert.CActIdeal.nD,
      m' ((c.tc : Thread Cert.CActRefIdeal.nD Cert.CActRefIdeal.τ).loc Cert.CActRefIdeal.main_arg0) = m ((c.tc : Thread Cert.CActIdeal.nD Cert.CActIdeal.τ).loc Cert.CActIdeal.main_arg0)) →
    ∃ (v0 : (c : Dev Cert.CActIdeal.nD) → Buf (Elt Ideal) ((c.tc : Thread Cert.CActIdeal.nD Cert.CActIdeal.τ).loc Cert.CActIdeal.main_v0)),
      θ_run (Cert.CActIdeal.defs (F := Ideal)) (onTc (τ := Cert.CActIdeal.τ) (Cert.CActIdeal.main (F := Ideal))) ⟨m, fun _ => 0, g⟩ (fun r => ∀ c : Dev Cert.CActIdeal.nD,
          r.2.mem ((c.tc : Thread Cert.CActIdeal.nD Cert.CActIdeal.τ).loc Cert.CActIdeal.main_v0) = v0 c
          ∧ r.2.mem ((c.tc : Thread Cert.CActIdeal.nD Cert.CActIdeal.τ).loc Cert.CActIdeal.main_arg0) = m ((c.tc : Thread Cert.CActIdeal.nD Cert.CActIdeal.τ).loc Cert.CActIdeal.main_arg0))
      ∧ θ_run (Cert.CActRefIdeal.defs (F := Ideal)) (onTc (τ := Cert.CActRefIdeal.τ) (Cert.CActRefIdeal.main (F := Ideal))) ⟨m', fun _ => 0, g'⟩ (fun r => ∀ c : Dev Cert.CActRefIdeal.nD,
          r.2.mem ((c.tc : Thread Cert.CActRefIdeal.nD Cert.CActRefIdeal.τ).loc Cert.CActRefIdeal.main_v0) = v0 c
          ∧ r.2.mem ((c.tc : Thread Cert.CActRefIdeal.nD Cert.CActRefIdeal.τ).loc Cert.CActRefIdeal.main_arg0) = m' ((c.tc : Thread Cert.CActRefIdeal.nD Cert.CActRefIdeal.τ).loc Cert.CActRefIdeal.main_arg0))

def preserves_ModMm_ModMmIdeal : Prop :=
  True

def algebraic_ModMmIdeal_ModMmRefIdeal [hModMmIdeal : Cert.ModMmIdeal.Facts] [hModMmRefIdeal : Cert.ModMmRefIdeal.Facts] : Prop :=
  ∀ (m : (ℓ : Loc Cert.ModMmIdeal.nD Cert.ModMmIdeal.τ Cert.ModMmIdeal.sig) → Buf (Elt Ideal) ℓ) (g : Dev Cert.ModMmIdeal.nD → PrngReg)
    (m' : (ℓ : Loc Cert.ModMmRefIdeal.nD Cert.ModMmRefIdeal.τ Cert.ModMmRefIdeal.sig) → Buf (Elt Ideal) ℓ) (g' : Dev Cert.ModMmRefIdeal.nD → PrngReg), Pre_ModMmIdeal m →
    (∀ c : Dev Cert.ModMmIdeal.nD,
      m' ((c.tc : Thread Cert.ModMmRefIdeal.nD Cert.ModMmRefIdeal.τ).loc Cert.ModMmRefIdeal.main_arg0) = m ((c.tc : Thread Cert.ModMmIdeal.nD Cert.ModMmIdeal.τ).loc Cert.ModMmIdeal.main_arg0)
      ∧ m' ((c.tc : Thread Cert.ModMmRefIdeal.nD Cert.ModMmRefIdeal.τ).loc Cert.ModMmRefIdeal.main_arg1) = m ((c.tc : Thread Cert.ModMmIdeal.nD Cert.ModMmIdeal.τ).loc Cert.ModMmIdeal.main_arg1)) →
    ∃ (v0 : (c : Dev Cert.ModMmIdeal.nD) → Buf (Elt Ideal) ((c.tc : Thread Cert.ModMmIdeal.nD Cert.ModMmIdeal.τ).loc Cert.ModMmIdeal.main_v0)),
      θ_run (Cert.ModMmIdeal.defs (F := Ideal)) (onTc (τ := Cert.ModMmIdeal.τ) (Cert.ModMmIdeal.main (F := Ideal))) ⟨m, fun _ => 0, g⟩ (fun r => ∀ c : Dev Cert.ModMmIdeal.nD,
          r.2.mem ((c.tc : Thread Cert.ModMmIdeal.nD Cert.ModMmIdeal.τ).loc Cert.ModMmIdeal.main_v0) = v0 c
          ∧ r.2.mem ((c.tc : Thread Cert.ModMmIdeal.nD Cert.ModMmIdeal.τ).loc Cert.ModMmIdeal.main_arg0) = m ((c.tc : Thread Cert.ModMmIdeal.nD Cert.ModMmIdeal.τ).loc Cert.ModMmIdeal.main_arg0)
          ∧ r.2.mem ((c.tc : Thread Cert.ModMmIdeal.nD Cert.ModMmIdeal.τ).loc Cert.ModMmIdeal.main_arg1) = m ((c.tc : Thread Cert.ModMmIdeal.nD Cert.ModMmIdeal.τ).loc Cert.ModMmIdeal.main_arg1))
      ∧ θ_run (Cert.ModMmRefIdeal.defs (F := Ideal)) (onTc (τ := Cert.ModMmRefIdeal.τ) (Cert.ModMmRefIdeal.main (F := Ideal))) ⟨m', fun _ => 0, g'⟩ (fun r => ∀ c : Dev Cert.ModMmRefIdeal.nD,
          r.2.mem ((c.tc : Thread Cert.ModMmRefIdeal.nD Cert.ModMmRefIdeal.τ).loc Cert.ModMmRefIdeal.main_v0) = v0 c
          ∧ r.2.mem ((c.tc : Thread Cert.ModMmRefIdeal.nD Cert.ModMmRefIdeal.τ).loc Cert.ModMmRefIdeal.main_arg0) = m' ((c.tc : Thread Cert.ModMmRefIdeal.nD Cert.ModMmRefIdeal.τ).loc Cert.ModMmRefIdeal.main_arg0)
          ∧ r.2.mem ((c.tc : Thread Cert.ModMmRefIdeal.nD Cert.ModMmRefIdeal.τ).loc Cert.ModMmRefIdeal.main_arg1) = m' ((c.tc : Thread Cert.ModMmRefIdeal.nD Cert.ModMmRefIdeal.τ).loc Cert.ModMmRefIdeal.main_arg1))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)) →
    ∃ (v0 : (c : Dev Cert.ModDwIdeal.nD) → Buf (Elt Ideal) ((c.tc : Thread Cert.ModDwIdeal.nD Cert.ModDwIdeal.τ).loc Cert.ModDwIdeal.main_v0)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v0) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v3) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1))

def preserves_ModBias_ModBiasIdeal : Prop :=
  True

def algebraic_ModBiasIdeal_ModBiasRefIdeal [hModBiasIdeal : Cert.ModBiasIdeal.Facts] [hModBiasRefIdeal : Cert.ModBiasRefIdeal.Facts] : Prop :=
  ∀ (m : (ℓ : Loc Cert.ModBiasIdeal.nD Cert.ModBiasIdeal.τ Cert.ModBiasIdeal.sig) → Buf (Elt Ideal) ℓ) (g : Dev Cert.ModBiasIdeal.nD → PrngReg)
    (m' : (ℓ : Loc Cert.ModBiasRefIdeal.nD Cert.ModBiasRefIdeal.τ Cert.ModBiasRefIdeal.sig) → Buf (Elt Ideal) ℓ) (g' : Dev Cert.ModBiasRefIdeal.nD → PrngReg), Pre_ModBiasIdeal m →
    (∀ c : Dev Cert.ModBiasIdeal.nD,
      m' ((c.tc : Thread Cert.ModBiasRefIdeal.nD Cert.ModBiasRefIdeal.τ).loc Cert.ModBiasRefIdeal.main_arg0) = m ((c.tc : Thread Cert.ModBiasIdeal.nD Cert.ModBiasIdeal.τ).loc Cert.ModBiasIdeal.main_arg0)
      ∧ m' ((c.tc : Thread Cert.ModBiasRefIdeal.nD Cert.ModBiasRefIdeal.τ).loc Cert.ModBiasRefIdeal.main_arg1) = m ((c.tc : Thread Cert.ModBiasIdeal.nD Cert.ModBiasIdeal.τ).loc Cert.ModBiasIdeal.main_arg1)) →
    ∃ (v0 : (c : Dev Cert.ModBiasIdeal.nD) → Buf (Elt Ideal) ((c.tc : Thread Cert.ModBiasIdeal.nD Cert.ModBiasIdeal.τ).loc Cert.ModBiasIdeal.main_v1)),
      θ_run (Cert.ModBiasIdeal.defs (F := Ideal)) (onTc (τ := Cert.ModBiasIdeal.τ) (Cert.ModBiasIdeal.main (F := Ideal))) ⟨m, fun _ => 0, g⟩ (fun r => ∀ c : Dev Cert.ModBiasIdeal.nD,
          r.2.mem ((c.tc : Thread Cert.ModBiasIdeal.nD Cert.ModBiasIdeal.τ).loc Cert.ModBiasIdeal.main_v1) = v0 c
          ∧ r.2.mem ((c.tc : Thread Cert.ModBiasIdeal.nD Cert.ModBiasIdeal.τ).loc Cert.ModBiasIdeal.main_arg0) = m ((c.tc : Thread Cert.ModBiasIdeal.nD Cert.ModBiasIdeal.τ).loc Cert.ModBiasIdeal.main_arg0)
          ∧ r.2.mem ((c.tc : Thread Cert.ModBiasIdeal.nD Cert.ModBiasIdeal.τ).loc Cert.ModBiasIdeal.main_arg1) = m ((c.tc : Thread Cert.ModBiasIdeal.nD Cert.ModBiasIdeal.τ).loc Cert.ModBiasIdeal.main_arg1))
      ∧ θ_run (Cert.ModBiasRefIdeal.defs (F := Ideal)) (onTc (τ := Cert.ModBiasRefIdeal.τ) (Cert.ModBiasRefIdeal.main (F := Ideal))) ⟨m', fun _ => 0, g'⟩ (fun r => ∀ c : Dev Cert.ModBiasRefIdeal.nD,
          r.2.mem ((c.tc : Thread Cert.ModBiasRefIdeal.nD Cert.ModBiasRefIdeal.τ).loc Cert.ModBiasRefIdeal.main_v2) = v0 c
          ∧ r.2.mem ((c.tc : Thread Cert.ModBiasRefIdeal.nD Cert.ModBiasRefIdeal.τ).loc Cert.ModBiasRefIdeal.main_arg0) = m' ((c.tc : Thread Cert.ModBiasRefIdeal.nD Cert.ModBiasRefIdeal.τ).loc Cert.ModBiasRefIdeal.main_arg0)
          ∧ r.2.mem ((c.tc : Thread Cert.ModBiasRefIdeal.nD Cert.ModBiasRefIdeal.τ).loc Cert.ModBiasRefIdeal.main_arg1) = m' ((c.tc : Thread Cert.ModBiasRefIdeal.nD Cert.ModBiasRefIdeal.τ).loc Cert.ModBiasRefIdeal.main_arg1))

def preserves_LnB_LnBIdeal : Prop :=
  True

def algebraic_LnBIdeal_LnBRefIdeal [hLnBIdeal : Cert.LnBIdeal.Facts] [hLnBRefIdeal : Cert.LnBRefIdeal.Facts] : Prop :=
  ∀ (m : (ℓ : Loc Cert.LnBIdeal.nD Cert.LnBIdeal.τ Cert.LnBIdeal.sig) → Buf (Elt Ideal) ℓ) (g : Dev Cert.LnBIdeal.nD → PrngReg)
    (m' : (ℓ : Loc Cert.LnBRefIdeal.nD Cert.LnBRefIdeal.τ Cert.LnBRefIdeal.sig) → Buf (Elt Ideal) ℓ) (g' : Dev Cert.LnBRefIdeal.nD → PrngReg), Pre_LnBIdeal m →
    (∀ c : Dev Cert.LnBIdeal.nD,
      m' ((c.tc : Thread Cert.LnBRefIdeal.nD Cert.LnBRefIdeal.τ).loc Cert.LnBRefIdeal.main_arg0) = m ((c.tc : Thread Cert.LnBIdeal.nD Cert.LnBIdeal.τ).loc Cert.LnBIdeal.main_arg0)
      ∧ m' ((c.tc : Thread Cert.LnBRefIdeal.nD Cert.LnBRefIdeal.τ).loc Cert.LnBRefIdeal.main_arg1) = m ((c.tc : Thread Cert.LnBIdeal.nD Cert.LnBIdeal.τ).loc Cert.LnBIdeal.main_arg1)
      ∧ m' ((c.tc : Thread Cert.LnBRefIdeal.nD Cert.LnBRefIdeal.τ).loc Cert.LnBRefIdeal.main_arg2) = m ((c.tc : Thread Cert.LnBIdeal.nD Cert.LnBIdeal.τ).loc Cert.LnBIdeal.main_arg2)
      ∧ m' ((c.tc : Thread Cert.LnBRefIdeal.nD Cert.LnBRefIdeal.τ).loc Cert.LnBRefIdeal.main_arg3) = m ((c.tc : Thread Cert.LnBIdeal.nD Cert.LnBIdeal.τ).loc Cert.LnBIdeal.main_arg3)
      ∧ m' ((c.tc : Thread Cert.LnBRefIdeal.nD Cert.LnBRefIdeal.τ).loc Cert.LnBRefIdeal.main_arg4) = m ((c.tc : Thread Cert.LnBIdeal.nD Cert.LnBIdeal.τ).loc Cert.LnBIdeal.main_arg4)
      ∧ m' ((c.tc : Thread Cert.LnBRefIdeal.nD Cert.LnBRefIdeal.τ).loc Cert.LnBRefIdeal.main_arg5) = m ((c.tc : Thread Cert.LnBIdeal.nD Cert.LnBIdeal.τ).loc Cert.LnBIdeal.main_arg5)
      ∧ m' ((c.tc : Thread Cert.LnBRefIdeal.nD Cert.LnBRefIdeal.τ).loc Cert.LnBRefIdeal.main_arg6) = m ((c.tc : Thread Cert.LnBIdeal.nD Cert.LnBIdeal.τ).loc Cert.LnBIdeal.main_arg6)
      ∧ m' ((c.tc : Thread Cert.LnBRefIdeal.nD Cert.LnBRefIdeal.τ).loc Cert.LnBRefIdeal.main_arg7) = m ((c.tc : Thread Cert.LnBIdeal.nD Cert.LnBIdeal.τ).loc Cert.LnBIdeal.main_arg7)) →
    ∃ (v0 : (c : Dev Cert.LnBIdeal.nD) → Buf (Elt Ideal) ((c.tc : Thread Cert.LnBIdeal.nD Cert.LnBIdeal.τ).loc Cert.LnBIdeal.main_v0_0)) (v1 : (c : Dev Cert.LnBIdeal.nD) → Buf (Elt Ideal) ((c.tc : Thread Cert.LnBIdeal.nD Cert.LnBIdeal.τ).loc Cert.LnBIdeal.main_v0_1)),
      θ_run (Cert.LnBIdeal.defs (F := Ideal)) (onTc (τ := Cert.LnBIdeal.τ) (Cert.LnBIdeal.main (F := Ideal))) ⟨m, fun _ => 0, g⟩ (fun r => ∀ c : Dev Cert.LnBIdeal.nD,
          r.2.mem ((c.tc : Thread Cert.LnBIdeal.nD Cert.LnBIdeal.τ).loc Cert.LnBIdeal.main_v0_0) = v0 c
          ∧ r.2.mem ((c.tc : Thread Cert.LnBIdeal.nD Cert.LnBIdeal.τ).loc Cert.LnBIdeal.main_v0_1) = v1 c
          ∧ r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
          ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
          ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
          ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3)
          ∧ r.2.mem ((c.tc : Thread Cert.LnBIdeal.nD Cert.LnBIdeal.τ).loc Cert.LnBIdeal.main_arg4) = m ((c.tc : Thread Cert.LnBIdeal.nD Cert.LnBIdeal.τ).loc Cert.LnBIdeal.main_arg4)
          ∧ r.2.mem ((c.tc : Thread Cert.LnBIdeal.nD Cert.LnBIdeal.τ).loc Cert.LnBIdeal.main_arg5) = m ((c.tc : Thread Cert.LnBIdeal.nD Cert.LnBIdeal.τ).loc Cert.LnBIdeal.main_arg5)
          ∧ r.2.mem ((c.tc : Thread Cert.LnBIdeal.nD Cert.LnBIdeal.τ).loc Cert.LnBIdeal.main_arg6) = m ((c.tc : Thread Cert.LnBIdeal.nD Cert.LnBIdeal.τ).loc Cert.LnBIdeal.main_arg6)
          ∧ r.2.mem ((c.tc : Thread Cert.LnBIdeal.nD Cert.LnBIdeal.τ).loc Cert.LnBIdeal.main_arg7) = m ((c.tc : Thread Cert.LnBIdeal.nD Cert.LnBIdeal.τ).loc Cert.LnBIdeal.main_arg7))
      ∧ θ_run (Cert.LnBRefIdeal.defs (F := Ideal)) (onTc (τ := Cert.LnBRefIdeal.τ) (Cert.LnBRefIdeal.main (F := Ideal))) ⟨m', fun _ => 0, g'⟩ (fun r => ∀ c : Dev Cert.LnBRefIdeal.nD,
          r.2.mem ((c.tc : Thread Cert.LnBRefIdeal.nD Cert.LnBRefIdeal.τ).loc Cert.LnBRefIdeal.main_v31) = v0 c
          ∧ r.2.mem ((c.tc : Thread Cert.LnBRefIdeal.nD Cert.LnBRefIdeal.τ).loc Cert.LnBRefIdeal.main_v38) = v1 c
          ∧ r.2.mem ((c.tc : Thread Cert.LnBRefIdeal.nD Cert.LnBRefIdeal.τ).loc Cert.LnBRefIdeal.main_arg0) = m' ((c.tc : Thread Cert.LnBRefIdeal.nD Cert.LnBRefIdeal.τ).loc Cert.LnBRefIdeal.main_arg0)
          ∧ r.2.mem ((c.tc : Thread Cert.LnBRefIdeal.nD Cert.LnBRefIdeal.τ).loc Cert.LnBRefIdeal.main_arg1) = m' ((c.tc : Thread Cert.LnBRefIdeal.nD Cert.LnBRefIdeal.τ).loc Cert.LnBRefIdeal.main_arg1)
          ∧ r.2.mem ((c.tc : Thread Cert.LnBRefIdeal.nD Cert.LnBRefIdeal.τ).loc Cert.LnBRefIdeal.main_arg2) = m' ((c.tc : Thread Cert.LnBRefIdeal.nD Cert.LnBRefIdeal.τ).loc Cert.LnBRefIdeal.main_arg2)
          ∧ r.2.mem ((c.tc : Thread Cert.LnBRefIdeal.nD Cert.LnBRefIdeal.τ).loc Cert.LnBRefIdeal.main_arg3) = m' ((c.tc : Thread Cert.LnBRefIdeal.nD Cert.LnBRefIdeal.τ).loc Cert.LnBRefIdeal.main_arg3)
          ∧ r.2.mem ((c.tc : Thread Cert.LnBRefIdeal.nD Cert.LnBRefIdeal.τ).loc Cert.LnBRefIdeal.main_arg4) = m' ((c.tc : Thread Cert.LnBRefIdeal.nD Cert.LnBRefIdeal.τ).loc Cert.LnBRefIdeal.main_arg4)
          ∧ r.2.mem ((c.tc : Thread Cert.LnBRefIdeal.nD Cert.LnBRefIdeal.τ).loc Cert.LnBRefIdeal.main_arg5) = m' ((c.tc : Thread Cert.LnBRefIdeal.nD Cert.LnBRefIdeal.τ).loc Cert.LnBRefIdeal.main_arg5)
          ∧ r.2.mem ((c.tc : Thread Cert.LnBRefIdeal.nD Cert.LnBRefIdeal.τ).loc Cert.LnBRefIdeal.main_arg6) = m' ((c.tc : Thread Cert.LnBRefIdeal.nD Cert.LnBRefIdeal.τ).loc Cert.LnBRefIdeal.main_arg6)
          ∧ r.2.mem ((c.tc : Thread Cert.LnBRefIdeal.nD Cert.LnBRefIdeal.τ).loc Cert.LnBRefIdeal.main_arg7) = m' ((c.tc : Thread Cert.LnBRefIdeal.nD Cert.LnBRefIdeal.τ).loc Cert.LnBRefIdeal.main_arg7))

def preserves_LnLast_LnLastIdeal : Prop :=
  True

def algebraic_LnLastIdeal_LnLastRefIdeal [hLnLastIdeal : Cert.LnLastIdeal.Facts] [hLnLastRefIdeal : Cert.LnLastRefIdeal.Facts] : Prop :=
  ∀ (m : (ℓ : Loc Cert.LnLastIdeal.nD Cert.LnLastIdeal.τ Cert.LnLastIdeal.sig) → Buf (Elt Ideal) ℓ) (g : Dev Cert.LnLastIdeal.nD → PrngReg)
    (m' : (ℓ : Loc Cert.LnLastRefIdeal.nD Cert.LnLastRefIdeal.τ Cert.LnLastRefIdeal.sig) → Buf (Elt Ideal) ℓ) (g' : Dev Cert.LnLastRefIdeal.nD → PrngReg), Pre_LnLastIdeal m →
    (∀ c : Dev Cert.LnLastIdeal.nD,
      m' ((c.tc : Thread Cert.LnLastRefIdeal.nD Cert.LnLastRefIdeal.τ).loc Cert.LnLastRefIdeal.main_arg0) = m ((c.tc : Thread Cert.LnLastIdeal.nD Cert.LnLastIdeal.τ).loc Cert.LnLastIdeal.main_arg0)
      ∧ m' ((c.tc : Thread Cert.LnLastRefIdeal.nD Cert.LnLastRefIdeal.τ).loc Cert.LnLastRefIdeal.main_arg1) = m ((c.tc : Thread Cert.LnLastIdeal.nD Cert.LnLastIdeal.τ).loc Cert.LnLastIdeal.main_arg1)
      ∧ m' ((c.tc : Thread Cert.LnLastRefIdeal.nD Cert.LnLastRefIdeal.τ).loc Cert.LnLastRefIdeal.main_arg2) = m ((c.tc : Thread Cert.LnLastIdeal.nD Cert.LnLastIdeal.τ).loc Cert.LnLastIdeal.main_arg2)
      ∧ m' ((c.tc : Thread Cert.LnLastRefIdeal.nD Cert.LnLastRefIdeal.τ).loc Cert.LnLastRefIdeal.main_arg3) = m ((c.tc : Thread Cert.LnLastIdeal.nD Cert.LnLastIdeal.τ).loc Cert.LnLastIdeal.main_arg3)
      ∧ m' ((c.tc : Thread Cert.LnLastRefIdeal.nD Cert.LnLastRefIdeal.τ).loc Cert.LnLastRefIdeal.main_arg4) = m ((c.tc : Thread Cert.LnLastIdeal.nD Cert.LnLastIdeal.τ).loc Cert.LnLastIdeal.main_arg4)) →
    ∃ (v0 : (c : Dev Cert.LnLastIdeal.nD) → Buf (Elt Ideal) ((c.tc : Thread Cert.LnLastIdeal.nD Cert.LnLastIdeal.τ).loc Cert.LnLastIdeal.main_v0)),
      θ_run (Cert.LnLastIdeal.defs (F := Ideal)) (onTc (τ := Cert.LnLastIdeal.τ) (Cert.LnLastIdeal.main (F := Ideal))) ⟨m, fun _ => 0, g⟩ (fun r => ∀ c : Dev Cert.LnLastIdeal.nD,
          r.2.mem ((c.tc : Thread Cert.LnLastIdeal.nD Cert.LnLastIdeal.τ).loc Cert.LnLastIdeal.main_v0) = v0 c
          ∧ r.2.mem ((c.tc : Thread Cert.LnLastIdeal.nD Cert.LnLastIdeal.τ).loc Cert.LnLastIdeal.main_arg0) = m ((c.tc : Thread Cert.LnLastIdeal.nD Cert.LnLastIdeal.τ).loc Cert.LnLastIdeal.main_arg0)
          ∧ r.2.mem ((c.tc : Thread Cert.LnLastIdeal.nD Cert.LnLastIdeal.τ).loc Cert.LnLastIdeal.main_arg1) = m ((c.tc : Thread Cert.LnLastIdeal.nD Cert.LnLastIdeal.τ).loc Cert.LnLastIdeal.main_arg1)
          ∧ r.2.mem ((c.tc : Thread Cert.LnLastIdeal.nD Cert.LnLastIdeal.τ).loc Cert.LnLastIdeal.main_arg2) = m ((c.tc : Thread Cert.LnLastIdeal.nD Cert.LnLastIdeal.τ).loc Cert.LnLastIdeal.main_arg2)
          ∧ r.2.mem ((c.tc : Thread Cert.LnLastIdeal.nD Cert.LnLastIdeal.τ).loc Cert.LnLastIdeal.main_arg3) = m ((c.tc : Thread Cert.LnLastIdeal.nD Cert.LnLastIdeal.τ).loc Cert.LnLastIdeal.main_arg3)
          ∧ r.2.mem ((c.tc : Thread Cert.LnLastIdeal.nD Cert.LnLastIdeal.τ).loc Cert.LnLastIdeal.main_arg4) = m ((c.tc : Thread Cert.LnLastIdeal.nD Cert.LnLastIdeal.τ).loc Cert.LnLastIdeal.main_arg4))
      ∧ θ_run (Cert.LnLastRefIdeal.defs (F := Ideal)) (onTc (τ := Cert.LnLastRefIdeal.τ) (Cert.LnLastRefIdeal.main (F := Ideal))) ⟨m', fun _ => 0, g'⟩ (fun r => ∀ c : Dev Cert.LnLastRefIdeal.nD,
          r.2.mem ((c.tc : Thread Cert.LnLastRefIdeal.nD Cert.LnLastRefIdeal.τ).loc Cert.LnLastRefIdeal.main_v28) = v0 c
          ∧ r.2.mem ((c.tc : Thread Cert.LnLastRefIdeal.nD Cert.LnLastRefIdeal.τ).loc Cert.LnLastRefIdeal.main_arg0) = m' ((c.tc : Thread Cert.LnLastRefIdeal.nD Cert.LnLastRefIdeal.τ).loc Cert.LnLastRefIdeal.main_arg0)
          ∧ r.2.mem ((c.tc : Thread Cert.LnLastRefIdeal.nD Cert.LnLastRefIdeal.τ).loc Cert.LnLastRefIdeal.main_arg1) = m' ((c.tc : Thread Cert.LnLastRefIdeal.nD Cert.LnLastRefIdeal.τ).loc Cert.LnLastRefIdeal.main_arg1)
          ∧ r.2.mem ((c.tc : Thread Cert.LnLastRefIdeal.nD Cert.LnLastRefIdeal.τ).loc Cert.LnLastRefIdeal.main_arg2) = m' ((c.tc : Thread Cert.LnLastRefIdeal.nD Cert.LnLastRefIdeal.τ).loc Cert.LnLastRefIdeal.main_arg2)
          ∧ r.2.mem ((c.tc : Thread Cert.LnLastRefIdeal.nD Cert.LnLastRefIdeal.τ).loc Cert.LnLastRefIdeal.main_arg3) = m' ((c.tc : Thread Cert.LnLastRefIdeal.nD Cert.LnLastRefIdeal.τ).loc Cert.LnLastRefIdeal.main_arg3)
          ∧ r.2.mem ((c.tc : Thread Cert.LnLastRefIdeal.nD Cert.LnLastRefIdeal.τ).loc Cert.LnLastRefIdeal.main_arg4) = m' ((c.tc : Thread Cert.LnLastRefIdeal.nD Cert.LnLastRefIdeal.τ).loc Cert.LnLastRefIdeal.main_arg4))

def preserves_GmAct_GmActIdeal : Prop :=
  True

def algebraic_GmActIdeal_GmActRefIdeal [hGmActIdeal : Cert.GmActIdeal.Facts] [hGmActRefIdeal : Cert.GmActRefIdeal.Facts] : Prop :=
  ∀ (m : (ℓ : Loc Cert.GmActIdeal.nD Cert.GmActIdeal.τ Cert.GmActIdeal.sig) → Buf (Elt Ideal) ℓ) (g : Dev Cert.GmActIdeal.nD → PrngReg)
    (m' : (ℓ : Loc Cert.GmActRefIdeal.nD Cert.GmActRefIdeal.τ Cert.GmActRefIdeal.sig) → Buf (Elt Ideal) ℓ) (g' : Dev Cert.GmActRefIdeal.nD → PrngReg), Pre_GmActIdeal m →
    (∀ c : Dev Cert.GmActIdeal.nD,
      m' ((c.tc : Thread Cert.GmActRefIdeal.nD Cert.GmActRefIdeal.τ).loc Cert.GmActRefIdeal.main_arg0) = m ((c.tc : Thread Cert.GmActIdeal.nD Cert.GmActIdeal.τ).loc Cert.GmActIdeal.main_arg0)
      ∧ m' ((c.tc : Thread Cert.GmActRefIdeal.nD Cert.GmActRefIdeal.τ).loc Cert.GmActRefIdeal.main_arg1) = m ((c.tc : Thread Cert.GmActIdeal.nD Cert.GmActIdeal.τ).loc Cert.GmActIdeal.main_arg1)
      ∧ m' ((c.tc : Thread Cert.GmActRefIdeal.nD Cert.GmActRefIdeal.τ).loc Cert.GmActRefIdeal.main_arg2) = m ((c.tc : Thread Cert.GmActIdeal.nD Cert.GmActIdeal.τ).loc Cert.GmActIdeal.main_arg2)
      ∧ m' ((c.tc : Thread Cert.GmActRefIdeal.nD Cert.GmActRefIdeal.τ).loc Cert.GmActRefIdeal.main_arg3) = m ((c.tc : Thread Cert.GmActIdeal.nD Cert.GmActIdeal.τ).loc Cert.GmActIdeal.main_arg3)) →
    ∃ (v0 : (c : Dev Cert.GmActIdeal.nD) → Buf (Elt Ideal) ((c.tc : Thread Cert.GmActIdeal.nD Cert.GmActIdeal.τ).loc Cert.GmActIdeal.main_v0_0)) (v1 : (c : Dev Cert.GmActIdeal.nD) → Buf (Elt Ideal) ((c.tc : Thread Cert.GmActIdeal.nD Cert.GmActIdeal.τ).loc Cert.GmActIdeal.main_v0_1)),
      θ_run (Cert.GmActIdeal.defs (F := Ideal)) (onTc (τ := Cert.GmActIdeal.τ) (Cert.GmActIdeal.main (F := Ideal))) ⟨m, fun _ => 0, g⟩ (fun r => ∀ c : Dev Cert.GmActIdeal.nD,
          r.2.mem ((c.tc : Thread Cert.GmActIdeal.nD Cert.GmActIdeal.τ).loc Cert.GmActIdeal.main_v0_0) = v0 c
          ∧ r.2.mem ((c.tc : Thread Cert.GmActIdeal.nD Cert.GmActIdeal.τ).loc Cert.GmActIdeal.main_v0_1) = v1 c
          ∧ r.2.mem ((c.tc : Thread Cert.GmActIdeal.nD Cert.GmActIdeal.τ).loc Cert.GmActIdeal.main_arg0) = m ((c.tc : Thread Cert.GmActIdeal.nD Cert.GmActIdeal.τ).loc Cert.GmActIdeal.main_arg0)
          ∧ r.2.mem ((c.tc : Thread Cert.GmActIdeal.nD Cert.GmActIdeal.τ).loc Cert.GmActIdeal.main_arg1) = m ((c.tc : Thread Cert.GmActIdeal.nD Cert.GmActIdeal.τ).loc Cert.GmActIdeal.main_arg1)
          ∧ r.2.mem ((c.tc : Thread Cert.GmActIdeal.nD Cert.GmActIdeal.τ).loc Cert.GmActIdeal.main_arg2) = m ((c.tc : Thread Cert.GmActIdeal.nD Cert.GmActIdeal.τ).loc Cert.GmActIdeal.main_arg2)
          ∧ r.2.mem ((c.tc : Thread Cert.GmActIdeal.nD Cert.GmActIdeal.τ).loc Cert.GmActIdeal.main_arg3) = m ((c.tc : Thread Cert.GmActIdeal.nD Cert.GmActIdeal.τ).loc Cert.GmActIdeal.main_arg3))
      ∧ θ_run (Cert.GmActRefIdeal.defs (F := Ideal)) (onTc (τ := Cert.GmActRefIdeal.τ) (Cert.GmActRefIdeal.main (F := Ideal))) ⟨m', fun _ => 0, g'⟩ (fun r => ∀ c : Dev Cert.GmActRefIdeal.nD,
          r.2.mem ((c.tc : Thread Cert.GmActRefIdeal.nD Cert.GmActRefIdeal.τ).loc Cert.GmActRefIdeal.main_v10) = v0 c
          ∧ r.2.mem ((c.tc : Thread Cert.GmActRefIdeal.nD Cert.GmActRefIdeal.τ).loc Cert.GmActRefIdeal.main_v34) = v1 c
          ∧ r.2.mem ((c.tc : Thread Cert.GmActRefIdeal.nD Cert.GmActRefIdeal.τ).loc Cert.GmActRefIdeal.main_arg0) = m' ((c.tc : Thread Cert.GmActRefIdeal.nD Cert.GmActRefIdeal.τ).loc Cert.GmActRefIdeal.main_arg0)
          ∧ r.2.mem ((c.tc : Thread Cert.GmActRefIdeal.nD Cert.GmActRefIdeal.τ).loc Cert.GmActRefIdeal.main_arg1) = m' ((c.tc : Thread Cert.GmActRefIdeal.nD Cert.GmActRefIdeal.τ).loc Cert.GmActRefIdeal.main_arg1)
          ∧ r.2.mem ((c.tc : Thread Cert.GmActRefIdeal.nD Cert.GmActRefIdeal.τ).loc Cert.GmActRefIdeal.main_arg2) = m' ((c.tc : Thread Cert.GmActRefIdeal.nD Cert.GmActRefIdeal.τ).loc Cert.GmActRefIdeal.main_arg2)
          ∧ r.2.mem ((c.tc : Thread Cert.GmActRefIdeal.nD Cert.GmActRefIdeal.τ).loc Cert.GmActRefIdeal.main_arg3) = m' ((c.tc : Thread Cert.GmActRefIdeal.nD Cert.GmActRefIdeal.τ).loc Cert.GmActRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v4_0)) (v1 : (c : Dev Cert.AdamModIdeal.nD) → Buf (Elt Ideal) ((c.tc : Thread Cert.AdamModIdeal.nD Cert.AdamModIdeal.τ).loc Cert.AdamModIdeal.main_v4_1)) (v2 : (c : Dev Cert.AdamModIdeal.nD) → Buf (Elt Ideal) ((c.tc : Thread Cert.AdamModIdeal.nD Cert.AdamModIdeal.τ).loc Cert.AdamModIdeal.main_v4_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v4_0) = v0 c
          ∧ r.2.mem ((c.tc : Thread Cert.AdamModIdeal.nD Cert.AdamModIdeal.τ).loc Cert.AdamModIdeal.main_v4_1) = v1 c
          ∧ r.2.mem ((c.tc : Thread Cert.AdamModIdeal.nD Cert.AdamModIdeal.τ).loc Cert.AdamModIdeal.main_v4_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v24) = v0 c
          ∧ r.2.mem ((c.tc : Thread Cert.AdamModRefIdeal.nD Cert.AdamModRefIdeal.τ).loc Cert.AdamModRefIdeal.main_v25) = v1 c
          ∧ r.2.mem ((c.tc : Thread Cert.AdamModRefIdeal.nD Cert.AdamModRefIdeal.τ).loc Cert.AdamModRefIdeal.main_v26) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hDh : Cert.Dh.Facts) (hDhIdeal : Cert.DhIdeal.Facts) (hDhRefIdeal : Cert.DhRefIdeal.Facts) (hDwin : Cert.Dwin.Facts) (hDwinIdeal : Cert.DwinIdeal.Facts) (hDwinRefIdeal : Cert.DwinRefIdeal.Facts) (hDwout : Cert.Dwout.Facts) (hDwoutIdeal : Cert.DwoutIdeal.Facts) (hDwoutRefIdeal : Cert.DwoutRefIdeal.Facts) (hAct : Cert.Act.Facts) (hActIdeal : Cert.ActIdeal.Facts) (hActRefIdeal : Cert.ActRefIdeal.Facts) (hOut : Cert.Out.Facts) (hOutIdeal : Cert.OutIdeal.Facts) (hOutRefIdeal : Cert.OutRefIdeal.Facts) (hFoxIn : Cert.FoxIn.Facts) (hFoxInIdeal : Cert.FoxInIdeal.Facts) (hFoxInRefIdeal : Cert.FoxInRefIdeal.Facts) (hSbIn : Cert.SbIn.Facts) (hSbInIdeal : Cert.SbInIdeal.Facts) (hSbInRefIdeal : Cert.SbInRefIdeal.Facts) (hGmIn : Cert.GmIn.Facts) (hGmInIdeal : Cert.GmInIdeal.Facts) (hGmInRefIdeal : Cert.GmInRefIdeal.Facts) (hMixOut : Cert.MixOut.Facts) (hMixOutIdeal : Cert.MixOutIdeal.Facts) (hMixOutRefIdeal : Cert.MixOutRefIdeal.Facts) (hMixDwout : Cert.MixDwout.Facts) (hMixDwoutIdeal : Cert.MixDwoutIdeal.Facts) (hMixDwoutRefIdeal : Cert.MixDwoutRefIdeal.Facts) (hGmDwin : Cert.GmDwin.Facts) (hGmDwinIdeal : Cert.GmDwinIdeal.Facts) (hGmDwinRefIdeal : Cert.GmDwinRefIdeal.Facts) (hSbDwin : Cert.SbDwin.Facts) (hSbDwinIdeal : Cert.SbDwinIdeal.Facts) (hSbDwinRefIdeal : Cert.SbDwinRefIdeal.Facts) (hFoxDwin : Cert.FoxDwin.Facts) (hFoxDwinIdeal : Cert.FoxDwinIdeal.Facts) (hFoxDwinRefIdeal : Cert.FoxDwinRefIdeal.Facts) (hGmDy : Cert.GmDy.Facts) (hGmDyIdeal : Cert.GmDyIdeal.Facts) (hGmDyRefIdeal : Cert.GmDyRefIdeal.Facts) (hFoxDo : Cert.FoxDo.Facts) (hFoxDoIdeal : Cert.FoxDoIdeal.Facts) (hFoxDoRefIdeal : Cert.FoxDoRefIdeal.Facts) (hGmDh : Cert.GmDh.Facts) (hGmDhIdeal : Cert.GmDhIdeal.Facts) (hGmDhRefIdeal : Cert.GmDhRefIdeal.Facts) (hSbDh : Cert.SbDh.Facts) (hSbDhIdeal : Cert.SbDhIdeal.Facts) (hSbDhRefIdeal : Cert.SbDhRefIdeal.Facts) (hFoxDh : Cert.FoxDh.Facts) (hFoxDhIdeal : Cert.FoxDhIdeal.Facts) (hFoxDhRefIdeal : Cert.FoxDhRefIdeal.Facts) (hModBwd : Cert.ModBwd.Facts) (hModBwdIdeal : Cert.ModBwdIdeal.Facts) (hModBwdRefIdeal : Cert.ModBwdRefIdeal.Facts) (hGluBwd : Cert.GluBwd.Facts) (hGluBwdIdeal : Cert.GluBwdIdeal.Facts) (hGluBwdRefIdeal : Cert.GluBwdRefIdeal.Facts) (hGlu : Cert.Glu.Facts) (hGluIdeal : Cert.GluIdeal.Facts) (hGluRefIdeal : Cert.GluRefIdeal.Facts) (hMod : Cert.Mod.Facts) (hModIdeal : Cert.ModIdeal.Facts) (hModRefIdeal : Cert.ModRefIdeal.Facts) (hSpatial : Cert.Spatial.Facts) (hSpatialIdeal : Cert.SpatialIdeal.Facts) (hSpatialRefIdeal : Cert.SpatialRefIdeal.Facts) (hLn : Cert.Ln.Facts) (hLnIdeal : Cert.LnIdeal.Facts) (hLnRefIdeal : Cert.LnRefIdeal.Facts) (hLnAct : Cert.LnAct.Facts) (hLnActIdeal : Cert.LnActIdeal.Facts) (hLnActRefIdeal : Cert.LnActRefIdeal.Facts) (hLoss : Cert.Loss.Facts) (hLossIdeal : Cert.LossIdeal.Facts) (hLossRefIdeal : Cert.LossRefIdeal.Facts) (hAdam : Cert.Adam.Facts) (hAdamIdeal : Cert.AdamIdeal.Facts) (hAdamRefIdeal : Cert.AdamRefIdeal.Facts) (hConv : Cert.Conv.Facts) (hConvIdeal : Cert.ConvIdeal.Facts) (hConvRefIdeal : Cert.ConvRefIdeal.Facts) (hConvFwd : Cert.ConvFwd.Facts) (hConvFwdIdeal : Cert.ConvFwdIdeal.Facts) (hConvFwdRefIdeal : Cert.ConvFwdRefIdeal.Facts) (hCAct : Cert.CAct.Facts) (hCActIdeal : Cert.CActIdeal.Facts) (hCActRefIdeal : Cert.CActRefIdeal.Facts) (hModMm : Cert.ModMm.Facts) (hModMmIdeal : Cert.ModMmIdeal.Facts) (hModMmRefIdeal : Cert.ModMmRefIdeal.Facts) (hModDw : Cert.ModDw.Facts) (hModDwIdeal : Cert.ModDwIdeal.Facts) (hModDwRefIdeal : Cert.ModDwRefIdeal.Facts) (hModBias : Cert.ModBias.Facts) (hModBiasIdeal : Cert.ModBiasIdeal.Facts) (hModBiasRefIdeal : Cert.ModBiasRefIdeal.Facts) (hLnB : Cert.LnB.Facts) (hLnBIdeal : Cert.LnBIdeal.Facts) (hLnBRefIdeal : Cert.LnBRefIdeal.Facts) (hLnLast : Cert.LnLast.Facts) (hLnLastIdeal : Cert.LnLastIdeal.Facts) (hLnLastRefIdeal : Cert.LnLastRefIdeal.Facts) (hGmAct : Cert.GmAct.Facts) (hGmActIdeal : Cert.GmActIdeal.Facts) (hGmActRefIdeal : Cert.GmActRefIdeal.Facts) (hAdamMod : Cert.AdamMod.Facts) (hAdamModIdeal : Cert.AdamModIdeal.Facts) (hAdamModRefIdeal : Cert.AdamModRefIdeal.Facts) (hAdamOut : Cert.AdamOut.Facts) (hAdamOutIdeal : Cert.AdamOutIdeal.Facts) (hAdamOutRefIdeal : Cert.AdamOutRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Gate (hGate := hGate)
    ∧ quiescent_GateIdeal (hGateIdeal := hGateIdeal)
    ∧ quiescent_GateIdeal_pre_finite (hGateIdeal := hGateIdeal) (hPre_finite := hPre_finite)
    ∧ quiescent_GateRefIdeal (hGateRefIdeal := hGateRefIdeal)
    ∧ quiescent_GateRefIdeal_pre_finite (hGateRefIdeal := hGateRefIdeal) (hPre_finite := hPre_finite)
    ∧ quiescent_Dh (hDh := hDh)
    ∧ quiescent_DhIdeal (hDhIdeal := hDhIdeal)
    ∧ quiescent_DhRefIdeal (hDhRefIdeal := hDhRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Act (hAct := hAct)
    ∧ quiescent_ActIdeal (hActIdeal := hActIdeal)
    ∧ quiescent_ActRefIdeal (hActRefIdeal := hActRefIdeal)
    ∧ quiescent_Out (hOut := hOut)
    ∧ quiescent_OutIdeal (hOutIdeal := hOutIdeal)
    ∧ quiescent_OutRefIdeal (hOutRefIdeal := hOutRefIdeal)
    ∧ quiescent_FoxIn (hFoxIn := hFoxIn)
    ∧ quiescent_FoxInIdeal (hFoxInIdeal := hFoxInIdeal)
    ∧ quiescent_FoxInRefIdeal (hFoxInRefIdeal := hFoxInRefIdeal)
    ∧ quiescent_SbIn (hSbIn := hSbIn)
    ∧ quiescent_SbInIdeal (hSbInIdeal := hSbInIdeal)
    ∧ quiescent_SbInRefIdeal (hSbInRefIdeal := hSbInRefIdeal)
    ∧ quiescent_GmIn (hGmIn := hGmIn)
    ∧ quiescent_GmInIdeal (hGmInIdeal := hGmInIdeal)
    ∧ quiescent_GmInRefIdeal (hGmInRefIdeal := hGmInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixDwout (hMixDwout := hMixDwout)
    ∧ quiescent_MixDwoutIdeal (hMixDwoutIdeal := hMixDwoutIdeal)
    ∧ quiescent_MixDwoutRefIdeal (hMixDwoutRefIdeal := hMixDwoutRefIdeal)
    ∧ quiescent_GmDwin (hGmDwin := hGmDwin)
    ∧ quiescent_GmDwinIdeal (hGmDwinIdeal := hGmDwinIdeal)
    ∧ quiescent_GmDwinRefIdeal (hGmDwinRefIdeal := hGmDwinRefIdeal)
    ∧ quiescent_SbDwin (hSbDwin := hSbDwin)
    ∧ quiescent_SbDwinIdeal (hSbDwinIdeal := hSbDwinIdeal)
    ∧ quiescent_SbDwinRefIdeal (hSbDwinRefIdeal := hSbDwinRefIdeal)
    ∧ quiescent_FoxDwin (hFoxDwin := hFoxDwin)
    ∧ quiescent_FoxDwinIdeal (hFoxDwinIdeal := hFoxDwinIdeal)
    ∧ quiescent_FoxDwinRefIdeal (hFoxDwinRefIdeal := hFoxDwinRefIdeal)
    ∧ quiescent_GmDy (hGmDy := hGmDy)
    ∧ quiescent_GmDyIdeal (hGmDyIdeal := hGmDyIdeal)
    ∧ quiescent_GmDyRefIdeal (hGmDyRefIdeal := hGmDyRefIdeal)
    ∧ quiescent_FoxDo (hFoxDo := hFoxDo)
    ∧ quiescent_FoxDoIdeal (hFoxDoIdeal := hFoxDoIdeal)
    ∧ quiescent_FoxDoRefIdeal (hFoxDoRefIdeal := hFoxDoRefIdeal)
    ∧ quiescent_GmDh (hGmDh := hGmDh)
    ∧ quiescent_GmDhIdeal (hGmDhIdeal := hGmDhIdeal)
    ∧ quiescent_GmDhRefIdeal (hGmDhRefIdeal := hGmDhRefIdeal)
    ∧ quiescent_SbDh (hSbDh := hSbDh)
    ∧ quiescent_SbDhIdeal (hSbDhIdeal := hSbDhIdeal)
    ∧ quiescent_SbDhRefIdeal (hSbDhRefIdeal := hSbDhRefIdeal)
    ∧ quiescent_FoxDh (hFoxDh := hFoxDh)
    ∧ quiescent_FoxDhIdeal (hFoxDhIdeal := hFoxDhIdeal)
    ∧ quiescent_FoxDhRefIdeal (hFoxDhRefIdeal := hFoxDhRefIdeal)
    ∧ quiescent_ModBwd (hModBwd := hModBwd)
    ∧ quiescent_ModBwdIdeal (hModBwdIdeal := hModBwdIdeal)
    ∧ quiescent_ModBwdRefIdeal (hModBwdRefIdeal := hModBwdRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_Glu (hGlu := hGlu)
    ∧ quiescent_GluIdeal (hGluIdeal := hGluIdeal)
    ∧ quiescent_GluRefIdeal (hGluRefIdeal := hGluRefIdeal)
    ∧ quiescent_Mod (hMod := hMod)
    ∧ quiescent_ModIdeal (hModIdeal := hModIdeal)
    ∧ quiescent_ModRefIdeal (hModRefIdeal := hModRefIdeal)
    ∧ quiescent_Spatial (hSpatial := hSpatial)
    ∧ quiescent_SpatialIdeal (hSpatialIdeal := hSpatialIdeal)
    ∧ quiescent_SpatialRefIdeal (hSpatialRefIdeal := hSpatialRefIdeal)
    ∧ quiescent_Ln (hLn := hLn)
    ∧ quiescent_LnIdeal (hLnIdeal := hLnIdeal)
    ∧ quiescent_LnRefIdeal (hLnRefIdeal := hLnRefIdeal)
    ∧ quiescent_LnAct (hLnAct := hLnAct)
    ∧ quiescent_LnActIdeal (hLnActIdeal := hLnActIdeal)
    ∧ quiescent_LnActRefIdeal (hLnActRefIdeal := hLnActRefIdeal)
    ∧ quiescent_Loss (hLoss := hLoss)
    ∧ quiescent_LossIdeal (hLossIdeal := hLossIdeal)
    ∧ quiescent_LossRefIdeal (hLossRefIdeal := hLossRefIdeal)
    ∧ quiescent_Adam (hAdam := hAdam)
    ∧ quiescent_AdamIdeal (hAdamIdeal := hAdamIdeal)
    ∧ quiescent_AdamRefIdeal (hAdamRefIdeal := hAdamRefIdeal)
    ∧ quiescent_Conv (hConv := hConv)
    ∧ quiescent_ConvIdeal (hConvIdeal := hConvIdeal)
    ∧ quiescent_ConvRefIdeal (hConvRefIdeal := hConvRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_CAct (hCAct := hCAct)
    ∧ quiescent_CActIdeal (hCActIdeal := hCActIdeal)
    ∧ quiescent_CActRefIdeal (hCActRefIdeal := hCActRefIdeal)
    ∧ quiescent_ModMm (hModMm := hModMm)
    ∧ quiescent_ModMmIdeal (hModMmIdeal := hModMmIdeal)
    ∧ quiescent_ModMmRefIdeal (hModMmRefIdeal := hModMmRefIdeal)
    ∧ quiescent_ModDw (hModDw := hModDw)
    ∧ quiescent_ModDwIdeal (hModDwIdeal := hModDwIdeal)
    ∧ quiescent_ModDwRefIdeal (hModDwRefIdeal := hModDwRefIdeal)
    ∧ quiescent_ModBias (hModBias := hModBias)
    ∧ quiescent_ModBiasIdeal (hModBiasIdeal := hModBiasIdeal)
    ∧ quiescent_ModBiasRefIdeal (hModBiasRefIdeal := hModBiasRefIdeal)
    ∧ quiescent_LnB (hLnB := hLnB)
    ∧ quiescent_LnBIdeal (hLnBIdeal := hLnBIdeal)
    ∧ quiescent_LnBRefIdeal (hLnBRefIdeal := hLnBRefIdeal)
    ∧ quiescent_LnLast (hLnLast := hLnLast)
    ∧ quiescent_LnLastIdeal (hLnLastIdeal := hLnLastIdeal)
    ∧ quiescent_LnLastRefIdeal (hLnLastRefIdeal := hLnLastRefIdeal)
    ∧ quiescent_GmAct (hGmAct := hGmAct)
    ∧ quiescent_GmActIdeal (hGmActIdeal := hGmActIdeal)
    ∧ quiescent_GmActRefIdeal (hGmActRefIdeal := hGmActRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ preserves_Kernel_KernelIdeal
    ∧ algebraic_KernelIdeal_ReferenceIdeal (hKernelIdeal := hKernelIdeal) (hReferenceIdeal := hReferenceIdeal)
    ∧ preserves_Gate_GateIdeal
    ∧ algebraic_GateIdeal_GateRefIdeal_pre_finite (hGateIdeal := hGateIdeal) (hGateRefIdeal := hGateRefIdeal) (hPre_finite := hPre_finite)
    ∧ preserves_Dh_DhIdeal
    ∧ algebraic_DhIdeal_DhRefIdeal (hDhIdeal := hDhIdeal) (hDhRefIdeal := hDhRefIdeal)
    ∧ preserves_Dwin_DwinIdeal
    ∧ algebraic_DwinIdeal_DwinRefIdeal (hDwinIdeal := hDwinIdeal) (hDwinRefIdeal := hDwinRefIdeal)
    ∧ preserves_Dwout_DwoutIdeal
    ∧ algebraic_DwoutIdeal_DwoutRefIdeal (hDwoutIdeal := hDwoutIdeal) (hDwoutRefIdeal := hDwoutRefIdeal)
    ∧ preserves_Act_ActIdeal
    ∧ algebraic_ActIdeal_ActRefIdeal (hActIdeal := hActIdeal) (hActRefIdeal := hActRefIdeal)
    ∧ preserves_Out_OutIdeal
    ∧ algebraic_OutIdeal_OutRefIdeal (hOutIdeal := hOutIdeal) (hOutRefIdeal := hOutRefIdeal)
    ∧ preserves_FoxIn_FoxInIdeal
    ∧ algebraic_FoxInIdeal_FoxInRefIdeal (hFoxInIdeal := hFoxInIdeal) (hFoxInRefIdeal := hFoxInRefIdeal)
    ∧ preserves_SbIn_SbInIdeal
    ∧ algebraic_SbInIdeal_SbInRefIdeal (hSbInIdeal := hSbInIdeal) (hSbInRefIdeal := hSbInRefIdeal)
    ∧ preserves_GmIn_GmInIdeal
    ∧ algebraic_GmInIdeal_GmInRefIdeal (hGmInIdeal := hGmInIdeal) (hGmInRefIdeal := hGmInRefIdeal)
    ∧ preserves_MixOut_MixOutIdeal
    ∧ algebraic_MixOutIdeal_MixOutRefIdeal (hMixOutIdeal := hMixOutIdeal) (hMixOutRefIdeal := hMixOutRefIdeal)
    ∧ preserves_MixDwout_MixDwoutIdeal
    ∧ algebraic_MixDwoutIdeal_MixDwoutRefIdeal (hMixDwoutIdeal := hMixDwoutIdeal) (hMixDwoutRefIdeal := hMixDwoutRefIdeal)
    ∧ preserves_GmDwin_GmDwinIdeal
    ∧ algebraic_GmDwinIdeal_GmDwinRefIdeal (hGmDwinIdeal := hGmDwinIdeal) (hGmDwinRefIdeal := hGmDwinRefIdeal)
    ∧ preserves_SbDwin_SbDwinIdeal
    ∧ algebraic_SbDwinIdeal_SbDwinRefIdeal (hSbDwinIdeal := hSbDwinIdeal) (hSbDwinRefIdeal := hSbDwinRefIdeal)
    ∧ preserves_FoxDwin_FoxDwinIdeal
    ∧ algebraic_FoxDwinIdeal_FoxDwinRefIdeal (hFoxDwinIdeal := hFoxDwinIdeal) (hFoxDwinRefIdeal := hFoxDwinRefIdeal)
    ∧ preserves_GmDy_GmDyIdeal
    ∧ algebraic_GmDyIdeal_GmDyRefIdeal (hGmDyIdeal := hGmDyIdeal) (hGmDyRefIdeal := hGmDyRefIdeal)
    ∧ preserves_FoxDo_FoxDoIdeal
    ∧ algebraic_FoxDoIdeal_FoxDoRefIdeal (hFoxDoIdeal := hFoxDoIdeal) (hFoxDoRefIdeal := hFoxDoRefIdeal)
    ∧ preserves_GmDh_GmDhIdeal
    ∧ algebraic_GmDhIdeal_GmDhRefIdeal (hGmDhIdeal := hGmDhIdeal) (hGmDhRefIdeal := hGmDhRefIdeal)
    ∧ preserves_SbDh_SbDhIdeal
    ∧ algebraic_SbDhIdeal_SbDhRefIdeal (hSbDhIdeal := hSbDhIdeal) (hSbDhRefIdeal := hSbDhRefIdeal)
    ∧ preserves_FoxDh_FoxDhIdeal
    ∧ algebraic_FoxDhIdeal_FoxDhRefIdeal (hFoxDhIdeal := hFoxDhIdeal) (hFoxDhRefIdeal := hFoxDhRefIdeal)
    ∧ preserves_ModBwd_ModBwdIdeal
    ∧ algebraic_ModBwdIdeal_ModBwdRefIdeal (hModBwdIdeal := hModBwdIdeal) (hModBwdRefIdeal := hModBwdRefIdeal)
    ∧ preserves_GluBwd_GluBwdIdeal
    ∧ algebraic_GluBwdIdeal_GluBwdRefIdeal (hGluBwdIdeal := hGluBwdIdeal) (hGluBwdRefIdeal := hGluBwdRefIdeal)
    ∧ preserves_Glu_GluIdeal
    ∧ algebraic_GluIdeal_GluRefIdeal (hGluIdeal := hGluIdeal) (hGluRefIdeal := hGluRefIdeal)
    ∧ preserves_Mod_ModIdeal
    ∧ algebraic_ModIdeal_ModRefIdeal (hModIdeal := hModIdeal) (hModRefIdeal := hModRefIdeal)
    ∧ preserves_Spatial_SpatialIdeal
    ∧ algebraic_SpatialIdeal_SpatialRefIdeal (hSpatialIdeal := hSpatialIdeal) (hSpatialRefIdeal := hSpatialRefIdeal)
    ∧ preserves_Ln_LnIdeal
    ∧ algebraic_LnIdeal_LnRefIdeal (hLnIdeal := hLnIdeal) (hLnRefIdeal := hLnRefIdeal)
    ∧ preserves_LnAct_LnActIdeal
    ∧ algebraic_LnActIdeal_LnActRefIdeal (hLnActIdeal := hLnActIdeal) (hLnActRefIdeal := hLnActRefIdeal)
    ∧ preserves_Loss_LossIdeal
    ∧ algebraic_LossIdeal_LossRefIdeal (hLossIdeal := hLossIdeal) (hLossRefIdeal := hLossRefIdeal)
    ∧ preserves_Adam_AdamIdeal
    ∧ algebraic_AdamIdeal_AdamRefIdeal (hAdamIdeal := hAdamIdeal) (hAdamRefIdeal := hAdamRefIdeal)
    ∧ preserves_Conv_ConvIdeal
    ∧ algebraic_ConvIdeal_ConvRefIdeal (hConvIdeal := hConvIdeal) (hConvRefIdeal := hConvRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_CAct_CActIdeal
    ∧ algebraic_CActIdeal_CActRefIdeal (hCActIdeal := hCActIdeal) (hCActRefIdeal := hCActRefIdeal)
    ∧ preserves_ModMm_ModMmIdeal
    ∧ algebraic_ModMmIdeal_ModMmRefIdeal (hModMmIdeal := hModMmIdeal) (hModMmRefIdeal := hModMmRefIdeal)
    ∧ preserves_ModDw_ModDwIdeal
    ∧ algebraic_ModDwIdeal_ModDwRefIdeal (hModDwIdeal := hModDwIdeal) (hModDwRefIdeal := hModDwRefIdeal)
    ∧ preserves_ModBias_ModBiasIdeal
    ∧ algebraic_ModBiasIdeal_ModBiasRefIdeal (hModBiasIdeal := hModBiasIdeal) (hModBiasRefIdeal := hModBiasRefIdeal)
    ∧ preserves_LnB_LnBIdeal
    ∧ algebraic_LnBIdeal_LnBRefIdeal (hLnBIdeal := hLnBIdeal) (hLnBRefIdeal := hLnBRefIdeal)
    ∧ preserves_LnLast_LnLastIdeal
    ∧ algebraic_LnLastIdeal_LnLastRefIdeal (hLnLastIdeal := hLnLastIdeal) (hLnLastRefIdeal := hLnLastRefIdeal)
    ∧ preserves_GmAct_GmActIdeal
    ∧ algebraic_GmActIdeal_GmActRefIdeal (hGmActIdeal := hGmActIdeal) (hGmActRefIdeal := hGmActRefIdeal)
    ∧ preserves_AdamMod_AdamModIdeal
    ∧ algebraic_AdamModIdeal_AdamModRefIdeal (hAdamModIdeal := hAdamModIdeal) (hAdamModRefIdeal := hAdamModRefIdeal)
    ∧ preserves_AdamOut_AdamOutIdeal
    ∧ algebraic_AdamOutIdeal_AdamOutRefIdeal (hAdamOutIdeal := hAdamOutIdeal) (hAdamOutRefIdeal := hAdamOutRefIdeal)
-- ==== Pre_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .bf16) (main_arg1 : FVec F S2816x1024 .bf16) (main_arg2 : FVec F S8192x2816 .f32) (main_arg3 : FVec F S8192x2816 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := Host.absf main_arg3
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v10 main_v14
  main_v15
-- ==== Kernel.lean ====
abbrev S2x4096x1024 : Shape := ⟨3, ![2, 4096, 1024]⟩
abbrev S8x128x128 : Shape := ⟨3, ![8, 128, 128]⟩
abbrev S8x128 : Shape := ⟨2, ![8, 128]⟩
abbrev S128x8 : Shape := ⟨2, ![128, 8]⟩
abbrev S1x128x1024 : Shape := ⟨3, ![1, 128, 1024]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 10
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .bf16⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S2x4096x1024, .f32⟩
  | .hbm, ⟨7, _⟩ => ⟨S2x4096x1024, .f32⟩
  | .hbm, ⟨8, _⟩ => ⟨S8x128x128, .f32⟩
  | .hbm, ⟨9, _⟩ => ⟨S128x8, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .vmem, ⟨6, _⟩ => ⟨S8x128x128, .f32⟩
  | .local _ .vmem, ⟨7, _⟩ => ⟨S128x8, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S8x128x128, .f32⟩
  | .local _ .vmem, ⟨13, _⟩ => ⟨S128x8, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S2x4096x1024 : Shape := ⟨3, ![2, 4096, 1024]⟩
abbrev S8x128x128 : Shape := ⟨3, ![8, 128, 128]⟩
abbrev S8x128 : Shape := ⟨2, ![8, 128]⟩
abbrev S2x32x128x8x128 : Shape := ⟨5, ![2, 32, 128, 8, 128]⟩
abbrev S_ : Shape := ⟨0, ![]⟩
abbrev S128x128 : Shape := ⟨2, ![128, 128]⟩
abbrev S1x128x128 : Shape := ⟨3, ![1, 128, 128]⟩
abbrev S8x2x32x128x128 : Shape := ⟨5, ![8, 2, 32, 128, 128]⟩
abbrev S128x8 : Shape := ⟨2, ![128, 8]⟩
abbrev S1x1x128x8x1 : Shape := ⟨5, ![1, 1, 128, 8, 1]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .bf16⟩
  | .hbm, ⟨3, _⟩ => ⟨S8x128x128, .f32⟩
  | .hbm, ⟨4, _⟩ => ⟨S8x128, .f32⟩
  | .hbm, ⟨5, _⟩ => ⟨S2x4096x1024, .f32⟩
  | .hbm, ⟨6, _⟩ => ⟨S2x32x128x8x128, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S1x128x128, .f32⟩
  | .hbm, ⟨19, _⟩ => ⟨S8x128x128, .f32⟩
  | .hbm, ⟨20, _⟩ => ⟨S8x128x128, .f32⟩
  | .hbm, ⟨21, _⟩ => ⟨S8x2x32x128x128, .f32⟩
  | .hbm, ⟨22, _⟩ => ⟨S2x32x128x8x128, .f32⟩
  | .hbm, ⟨23, _⟩ => ⟨S128x8, .f32⟩
  | .hbm, ⟨24, _⟩ => ⟨S1x1x128x8x1, .f32⟩
  | .hbm, ⟨25, _⟩ => ⟨S2x32x128x8x128, .f32⟩
  | .hbm, ⟨26, _⟩ => ⟨S2x32x128x8x128, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x32x128x8x128, .f32⟩
  | .hbm, ⟨32, _⟩ => ⟨S_, .f32⟩
  | .hbm, ⟨33, _⟩ => ⟨S128x8, .f32⟩
  | .hbm, ⟨34, _⟩ => ⟨S1x1x128x8x1, .f32⟩
  | .hbm, ⟨35, _⟩ => ⟨S_, .f32⟩
  | .hbm, ⟨36, _⟩ => ⟨S128x8, .f32⟩
  | .hbm, ⟨37, _⟩ => ⟨S8x128, .f32⟩
  | .hbm, ⟨38, _⟩ => ⟨S8x2x32x128x128, .f32⟩
  | .hbm, ⟨39, _⟩ => ⟨S8x128x128, .f32⟩
  | .hbm, ⟨40, _⟩ => ⟨S8x2x32x128x128, .f32⟩
  | .hbm, ⟨41, _⟩ => ⟨S2x32x128x8x128, .f32⟩
  | .hbm, ⟨42, _⟩ => ⟨S8x128x128, .f32⟩
  | .hbm, ⟨43, _⟩ => ⟨S8x128x128, .f32⟩
  | .hbm, ⟨44, _⟩ => ⟨S2x4096x1024, .f32⟩
  | .hbm, ⟨45, _⟩ => ⟨S128x8, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Gate.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | .hbm, ⟨29, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Dh.lean ====
abbrev S8192x2816 : Shape := ⟨2, ![8192, 2816]⟩
abbrev S1024x5632 : Shape := ⟨2, ![1024, 5632]⟩
abbrev S8192x1024 : Shape := ⟨2, ![8192, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DhRefIdeal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S_, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x5632, .f32⟩
  | .hbm, ⟨12, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Dwin.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwout.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Act.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .f32⟩
  | .hbm, ⟨3, _⟩ => ⟨S8192x2816, .f32⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Out.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FoxIn.lean ====
abbrev S8192x1024 : Shape := ⟨2, ![8192, 1024]⟩
abbrev S1024x3200 : Shape := ⟨2, ![1024, 3200]⟩
abbrev S8192x3200 : Shape := ⟨2, ![8192, 3200]⟩
abbrev S512x1024 : Shape := ⟨2, ![512, 1024]⟩
abbrev S1024x640 : Shape := ⟨2, ![1024, 640]⟩
abbrev S512x640 : Shape := ⟨2, ![512, 640]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxInRefIdeal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SbIn.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1536 : Shape := ⟨2, ![1024, 1536]⟩
abbrev S512x1536 : Shape := ⟨2, ![512, 1536]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbInRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GmIn.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixDwout.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GmDwin.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmDwinRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SbDwin.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbDwinRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FoxDwin.lean ====
abbrev S8192x1024 : Shape := ⟨2, ![8192, 1024]⟩
abbrev S8192x3200 : Shape := ⟨2, ![8192, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDwinRefIdeal.lean ====
abbrev S8192x1024 : Shape := ⟨2, ![8192, 1024]⟩
abbrev S8192x3200 : Shape := ⟨2, ![8192, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S_, .f32⟩
  | .hbm, ⟨3, _⟩ => ⟨S1024x3200, .f32⟩
  | .hbm, ⟨4, _⟩ => ⟨S8192x1024, .f32⟩
  | .hbm, ⟨5, _⟩ => ⟨S8192x3200, .f32⟩
  | .hbm, ⟨6, _⟩ => ⟨S8192x3200, .f32⟩
  | .hbm, ⟨7, _⟩ => ⟨S3200x1024, .f32⟩
  | .hbm, ⟨8, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GmDy.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmDyRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FoxDo.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDoRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GmDh.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmDhRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SbDh.lean ====
abbrev S8192x3072 : Shape := ⟨2, ![8192, 3072]⟩
abbrev S1024x3072 : Shape := ⟨2, ![1024, 3072]⟩
abbrev S8192x1024 : Shape := ⟨2, ![8192, 1024]⟩
abbrev S512x3072 : Shape := ⟨2, ![512, 3072]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbDhRefIdeal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S_, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FoxDh.lean ====
abbrev S8192x3200 : Shape := ⟨2, ![8192, 3200]⟩
abbrev S1024x3200 : Shape := ⟨2, ![1024, 3200]⟩
abbrev S8192x1024 : Shape := ⟨2, ![8192, 1024]⟩
abbrev S512x3200 : Shape := ⟨2, ![512, 3200]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .f32⟩
  | .local _ .vmem, ⟨0, _⟩ => ⟨S512x3200, .bf16⟩
  | .local _ .vmem, ⟨1, _⟩ => ⟨S512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDhRefIdeal.lean ====
abbrev S8192x3200 : Shape := ⟨2, ![8192, 3200]⟩
abbrev S1024x3200 : Shape := ⟨2, ![1024, 3200]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S_, .f32⟩
  | .hbm, ⟨3, _⟩ => ⟨S8192x1024, .f32⟩
  | .hbm, ⟨4, _⟩ => ⟨S1024x3200, .f32⟩
  | .hbm, ⟨5, _⟩ => ⟨S8192x3200, .f32⟩
  | .hbm, ⟨6, _⟩ => ⟨S8192x3200, .f32⟩
  | .hbm, ⟨7, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ModBwd.lean ====
abbrev S2x4096x1024 : Shape := ⟨3, ![2, 4096, 1024]⟩
abbrev S2x1x1024 : Shape := ⟨3, ![2, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x1x1024, .f32⟩
  | .hbm, ⟨4, _⟩ => ⟨S2x4096x1024, .f32⟩
  | .hbm, ⟨5, _⟩ => ⟨S2x1x1024, .f32⟩
  | .hbm, ⟨6, _⟩ => ⟨S2x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_17 : BitVec 32 := 0#32
  let v25 : BitVec 1 := Scalar.cmpi .ne v24 c0_i32_17
  v25

def k0_cond2 (i : grid0.Coords) : BitVec 1 :=
  let arg1 : BitVec 32 := BitVec.ofNat 32 (i 1).val
  let c0_i32_18 : BitVec 32 := 0#32
  let v26 : BitVec 1 := Scalar.cmpi .sgt arg1 c0_i32_18
  let v27 : BitVec 32 := Scalar.extui v26
  let c0_i32_19 : BitVec 32 := 0#32
  let v28 : BitVec 1 := Scalar.cmpi .ne v27 c0_i32_19
  v28

def k0_cond3 (i : grid0.Coords) : BitVec 1 :=
  let arg1 : BitVec 32 := BitVec.ofNat 32 (i 1).val
  let c0_i32_20 : BitVec 32 := 0#32
  let v29 : BitVec 1 := Scalar.cmpi .eq arg1 c0_i32_20
  let v30 : BitVec 32 := Scalar.extui v29
  let c0_i32_21 : BitVec 32 := 0#32
  let v31 : BitVec 1 := Scalar.cmpi .ne v30 c0_i32_21
  v31

def k0_cond4 (i : grid0.Coords) : BitVec 1 :=
  let arg1 : BitVec 32 := BitVec.ofNat 32 (i 1).val
  let c0_i32_22 : BitVec 32 := 0#32
  let v32 : BitVec 1 := Scalar.cmpi .sgt arg1 c0_i32_22
  let v33 : BitVec 32 := Scalar.extui v32
  let c0_i32_23 : BitVec 32 := 0#32
  let v34 : BitVec 1 := Scalar.cmpi .ne v33 c0_i32_23
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ModBwdRefIdeal.lean ====
abbrev S2x4096x1024 : Shape := ⟨3, ![2, 4096, 1024]⟩
abbrev S2x1x1024 : Shape := ⟨3, ![2, 1, 1024]⟩
abbrev S_ : Shape := ⟨0, ![]⟩
abbrev S2x1024 : Shape := ⟨2, ![2, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x1x1024, .f32⟩
  | .hbm, ⟨4, _⟩ => ⟨S_, .f32⟩
  | .hbm, ⟨5, _⟩ => ⟨S2x1x1024, .f32⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S_, .f32⟩
  | .hbm, ⟨14, _⟩ => ⟨S2x4096x1024, .f32⟩
  | .hbm, ⟨15, _⟩ => ⟨S2x4096x1024, .f32⟩
  | .hbm, ⟨16, _⟩ => ⟨S_, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S2x1024, .f32⟩
  | .hbm, ⟨22, _⟩ => ⟨S2x1x1024, .f32⟩
  | .hbm, ⟨23, _⟩ => ⟨S2x4096x1024, .f32⟩
  | .hbm, ⟨24, _⟩ => ⟨S_, .f32⟩
  | .hbm, ⟨25, _⟩ => ⟨S2x1024, .f32⟩
  | .hbm, ⟨26, _⟩ => ⟨S2x1x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== GluBwd.lean ====
abbrev S2x4096x2048 : Shape := ⟨3, ![2, 4096, 2048]⟩
abbrev S2x4096x1024 : Shape := ⟨3, ![2, 4096, 1024]⟩
abbrev S1x2048 : Shape := ⟨2, ![1, 2048]⟩
abbrev S1x256x2048 : Shape := ⟨3, ![1, 256, 2048]⟩
abbrev S1x256x1024 : Shape := ⟨3, ![1, 256, 1024]⟩
abbrev S256x2048 : Shape := ⟨2, ![256, 2048]⟩
abbrev S256x1024 : Shape := ⟨2, ![256, 1024]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S1x2048, .f32⟩
  | .hbm, ⟨3, _⟩ => ⟨S2x4096x2048, .bf16⟩
  | .hbm, ⟨4, _⟩ => ⟨S1x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1024, .f32⟩
  | .local _ .vmem, ⟨3, _⟩ => ⟨S1x256x1024, .f32⟩
  | .local _ .vmem, ⟨4, _⟩ => ⟨S1x2048, .f32⟩
  | .local _ .vmem, ⟨5, _⟩ => ⟨S1x256x2048, .bf16⟩
  | .local _ .vmem, ⟨6, _⟩ => ⟨S1x256x2048, .bf16⟩
  | .local _ .vmem, ⟨7, _⟩ => ⟨S1x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let arg1 : BitVec 32 := BitVec.ofNat 32 (i 1).val
  let c0_i32_14 : BitVec 32 := 0#32
  let v30 : BitVec 1 := Scalar.cmpi .eq arg1 c0_i32_14
  let v31 : BitVec 1 := Scalar.andi v29 v30
  let v32 : BitVec 32 := Scalar.extui v31
  let c0_i32_15 : BitVec 32 := 0#32
  let v33 : BitVec 1 := Scalar.cmpi .ne v32 c0_i32_15
  v33

def k0_cond2 (i : grid0.Coords) : BitVec 1 :=
  let arg0 : BitVec 32 := BitVec.ofNat 32 (i 0).val
  let c0_i32 : BitVec 32 := 0#32
  let v29 : BitVec 1 := Scalar.cmpi .eq arg0 c0_i32
  let arg1 : BitVec 32 := BitVec.ofNat 32 (i 1).val
  let c0_i32_14 : BitVec 32 := 0#32
  let v30 : BitVec 1 := Scalar.cmpi .eq arg1 c0_i32_14
  let v31 : BitVec 1 := Scalar.andi v29 v30
  let v_true : BitVec 1 := 1#1
  let v34 : BitVec 1 := Scalar.xori v31 v_true
  let v35 : BitVec 32 := Scalar.extui v34
  let c0_i32_16 : BitVec 32 := 0#32
  let v36 : BitVec 1 := Scalar.cmpi .ne v35 c0_i32_16
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== GluBwdRefIdeal.lean ====
abbrev S2x4096x2048 : Shape := ⟨3, ![2, 4096, 2048]⟩
abbrev S2x4096x1024 : Shape := ⟨3, ![2, 4096, 1024]⟩
abbrev S1x2048 : Shape := ⟨2, ![1, 2048]⟩
abbrev S1x1x2048 : Shape := ⟨3, ![1, 1, 2048]⟩
abbrev S_ : Shape := ⟨0, ![]⟩
abbrev S2048 : Shape := ⟨1, ![2048]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S1x2048, .f32⟩
  | .hbm, ⟨3, _⟩ => ⟨S1x1x2048, .f32⟩
  | .hbm, ⟨4, _⟩ => ⟨S2x4096x2048, .f32⟩
  | .hbm, ⟨5, _⟩ => ⟨S2x4096x2048, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S_, .f32⟩
  | .hbm, ⟨11, _⟩ => ⟨S2x4096x1024, .f32⟩
  | .hbm, ⟨12, _⟩ => ⟨S2x4096x1024, .f32⟩
  | .hbm, ⟨13, _⟩ => ⟨S_, .f32⟩
  | .hbm, ⟨14, _⟩ => ⟨S2x4096x1024, .f32⟩
  | .hbm, ⟨15, _⟩ => ⟨S2x4096x1024, .f32⟩
  | .hbm, ⟨16, _⟩ => ⟨S_, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x2048, .f32⟩
  | .hbm, ⟨25, _⟩ => ⟨S_, .f32⟩
  | .hbm, ⟨26, _⟩ => ⟨S2048, .f32⟩
  | .hbm, ⟨27, _⟩ => ⟨S1x1x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Glu.lean ====
abbrev S2x4096x2048 : Shape := ⟨3, ![2, 4096, 2048]⟩
abbrev S1x2048 : Shape := ⟨2, ![1, 2048]⟩
abbrev S2x4096x1024 : Shape := ⟨3, ![2, 4096, 1024]⟩
abbrev S1x256x2048 : Shape := ⟨3, ![1, 256, 2048]⟩
abbrev S1x256x1024 : Shape := ⟨3, ![1, 256, 1024]⟩
abbrev S256x2048 : Shape := ⟨2, ![256, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x4096x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x256x1024, .f32⟩
  | .local _ .vmem, ⟨4, _⟩ => ⟨S1x256x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GluRefIdeal.lean ====
abbrev S2x4096x2048 : Shape := ⟨3, ![2, 4096, 2048]⟩
abbrev S1x2048 : Shape := ⟨2, ![1, 2048]⟩
abbrev S1x1x2048 : Shape := ⟨3, ![1, 1, 2048]⟩
abbrev S2x4096x1024 : Shape := ⟨3, ![2, 4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x1x2048, .f32⟩
  | .hbm, ⟨3, _⟩ => ⟨S2x4096x2048, .f32⟩
  | .hbm, ⟨4, _⟩ => ⟨S2x4096x2048, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S_, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Mod.lean ====
abbrev S2x4096x1024 : Shape := ⟨3, ![2, 4096, 1024]⟩
abbrev S2x1x1024 : Shape := ⟨3, ![2, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S2x1x1024, .f32⟩
  | .hbm, ⟨2, _⟩ => ⟨S2x1x1024, .f32⟩
  | .hbm, ⟨3, _⟩ => ⟨S2x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x256x1024, .bf16⟩
  | .local _ .vmem, ⟨7, _⟩ => ⟨S1x256x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S2x4096x1024 : Shape := ⟨3, ![2, 4096, 1024]⟩
abbrev S2x1x1024 : Shape := ⟨3, ![2, 1, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x1x1024, .f32⟩
  | .hbm, ⟨2, _⟩ => ⟨S2x1x1024, .f32⟩
  | .hbm, ⟨3, _⟩ => ⟨S_, .f32⟩
  | .hbm, ⟨4, _⟩ => ⟨S2x1x1024, .f32⟩
  | .hbm, ⟨5, _⟩ => ⟨S2x1x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Spatial.lean ====
abbrev S2x4096x1024 : Shape := ⟨3, ![2, 4096, 1024]⟩
abbrev S8x128x128 : Shape := ⟨3, ![8, 128, 128]⟩
abbrev S8x128 : Shape := ⟨2, ![8, 128]⟩
abbrev S128x8 : Shape := ⟨2, ![128, 8]⟩
abbrev S1x128x1024 : Shape := ⟨3, ![1, 128, 1024]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S8x128x128, .f32⟩
  | .hbm, ⟨3, _⟩ => ⟨S8x128, .f32⟩
  | .hbm, ⟨4, _⟩ => ⟨S128x8, .f32⟩
  | .hbm, ⟨5, _⟩ => ⟨S2x4096x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .bf16⟩
  | .local _ .vmem, ⟨3, _⟩ => ⟨S1x128x1024, .bf16⟩
  | .local _ .vmem, ⟨4, _⟩ => ⟨S8x128x128, .f32⟩
  | .local _ .vmem, ⟨5, _⟩ => ⟨S128x8, .f32⟩
  | .local _ .vmem, ⟨6, _⟩ => ⟨S1x128x1024, .bf16⟩
  | .local _ .vmem, ⟨7, _⟩ => ⟨S1x128x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SpatialRefIdeal.lean ====
abbrev S2x4096x1024 : Shape := ⟨3, ![2, 4096, 1024]⟩
abbrev S8x128x128 : Shape := ⟨3, ![8, 128, 128]⟩
abbrev S8x128 : Shape := ⟨2, ![8, 128]⟩
abbrev S2x32x128x8x128 : Shape := ⟨5, ![2, 32, 128, 8, 128]⟩
abbrev S_ : Shape := ⟨0, ![]⟩
abbrev S128x128 : Shape := ⟨2, ![128, 128]⟩
abbrev S1x128x128 : Shape := ⟨3, ![1, 128, 128]⟩
abbrev S8x2x32x128x128 : Shape := ⟨5, ![8, 2, 32, 128, 128]⟩
abbrev S128x8 : Shape := ⟨2, ![128, 8]⟩
abbrev S1x1x128x8x1 : Shape := ⟨5, ![1, 1, 128, 8, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S8x128x128, .f32⟩
  | .hbm, ⟨3, _⟩ => ⟨S8x128, .f32⟩
  | .hbm, ⟨4, _⟩ => ⟨S2x4096x1024, .f32⟩
  | .hbm, ⟨5, _⟩ => ⟨S2x32x128x8x128, .f32⟩
  | .hbm, ⟨6, _⟩ => ⟨S_, .f32⟩
  | .hbm, ⟨7, _⟩ => ⟨S128x128, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S8x128x128, .f32⟩
  | .hbm, ⟨19, _⟩ => ⟨S8x128x128, .f32⟩
  | .hbm, ⟨20, _⟩ => ⟨S8x2x32x128x128, .f32⟩
  | .hbm, ⟨21, _⟩ => ⟨S2x32x128x8x128, .f32⟩
  | .hbm, ⟨22, _⟩ => ⟨S128x8, .f32⟩
  | .hbm, ⟨23, _⟩ => ⟨S1x1x128x8x1, .f32⟩
  | .hbm, ⟨24, _⟩ => ⟨S2x32x128x8x128, .f32⟩
  | .hbm, ⟨25, _⟩ => ⟨S2x32x128x8x128, .f32⟩
  | .hbm, ⟨26, _⟩ => ⟨S2x4096x1024, .f32⟩
  | .hbm, ⟨27, _⟩ => ⟨S2x4096x1024, .f32⟩
  | .hbm, ⟨28, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Ln.lean ====
abbrev S2x4096x1024 : Shape := ⟨3, ![2, 4096, 1024]⟩
abbrev S2x1x1024 : Shape := ⟨3, ![2, 1, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x4096x1024, .f32⟩
  | .hbm, ⟨8, _⟩ => ⟨S2x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LnRefIdeal.lean ====
abbrev S2x4096x1024 : Shape := ⟨3, ![2, 4096, 1024]⟩
abbrev S2x1x1024 : Shape := ⟨3, ![2, 1, 1024]⟩
abbrev S1x1024 : Shape := ⟨2, ![1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S_, .f32⟩
  | .hbm, ⟨8, _⟩ => ⟨S2x4096x1024, .f32⟩
  | .hbm, ⟨9, _⟩ => ⟨S2x4096x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1, .f32⟩
  | .hbm, ⟨35, _⟩ => ⟨S2x4096x1024, .f32⟩
  | .hbm, ⟨36, _⟩ => ⟨S2x4096x1024, .f32⟩
  | .hbm, ⟨37, _⟩ => ⟨S1x1x1024, .f32⟩
  | .hbm, ⟨38, _⟩ => ⟨S2x4096x1024, .f32⟩
  | .hbm, ⟨39, _⟩ => ⟨S2x4096x1024, .f32⟩
  | .hbm, ⟨40, _⟩ => ⟨S1x1x1024, .f32⟩
  | .hbm, ⟨41, _⟩ => ⟨S2x4096x1024, .f32⟩
  | .hbm, ⟨42, _⟩ => ⟨S2x4096x1024, .f32⟩
  | .hbm, ⟨43, _⟩ => ⟨S_, .f32⟩
  | .hbm, ⟨44, _⟩ => ⟨S2x1x1024, .f32⟩
  | .hbm, ⟨45, _⟩ => ⟨S2x1x1024, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== LnAct.lean ====
abbrev S2x4096x1024 : Shape := ⟨3, ![2, 4096, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024, .f32⟩
  | .hbm, ⟨3, _⟩ => ⟨S2x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1x256x1024, .bf16⟩
  | .local _ .vmem, ⟨5, _⟩ => ⟨S1x256x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LnActRefIdeal.lean ====
abbrev S2x4096x1024 : Shape := ⟨3, ![2, 4096, 1024]⟩
abbrev S1x1024 : Shape := ⟨2, ![1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S1x1x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S2x4096x1024, .f32⟩
  | .hbm, ⟨34, _⟩ => ⟨S2x4096x1024, .f32⟩
  | .hbm, ⟨35, _⟩ => ⟨S_, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Loss.lean ====
abbrev S2x4096x1024 : Shape := ⟨3, ![2, 4096, 1024]⟩
abbrev S2x1x1024 : Shape := ⟨3, ![2, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S1024 : Shape := ⟨1, ![1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_9 : BitVec 32 := 0#32
  let v15 : BitVec 1 := Scalar.cmpi .ne v14 c0_i32_9
  v15

def k0_cond2 (i : grid0.Coords) : BitVec 1 :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .ne v17 c0_i32_11
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== LossRefIdeal.lean ====
abbrev S2x4096x1024 : Shape := ⟨3, ![2, 4096, 1024]⟩
abbrev S_ : Shape := ⟨0, ![]⟩
abbrev S2x4096 : Shape := ⟨2, ![2, 4096]⟩
abbrev S2x1024 : Shape := ⟨2, ![2, 1024]⟩
abbrev S2x1x1024 : Shape := ⟨3, ![2, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S_, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x4096, .f32⟩
  | .hbm, ⟨20, _⟩ => ⟨S_, .f32⟩
  | .hbm, ⟨21, _⟩ => ⟨S2x4096, .f32⟩
  | .hbm, ⟨22, _⟩ => ⟨S2x4096, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x1024, .f32⟩
  | .hbm, ⟨29, _⟩ => ⟨S2x1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Adam.lean ====
abbrev S4x1024x1408 : Shape := ⟨3, ![4, 1024, 1408]⟩
abbrev S1x4096x1408 : Shape := ⟨3, ![1, 4096, 1408]⟩
abbrev S1x512x1408 : Shape := ⟨3, ![1, 512, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S1x4096x1408, .f32⟩
  | .hbm, ⟨5, _⟩ => ⟨S1x4096x1408, .f32⟩
  | .hbm, ⟨6, _⟩ => ⟨S1x4096x1408, .f32⟩
  | .hbm, ⟨7, _⟩ => ⟨S1x4096x1408, .f32⟩
  | .hbm, ⟨8, _⟩ => ⟨S1x4096x1408, .f32⟩
  | .hbm, ⟨9, _⟩ => ⟨S1x4096x1408, .f32⟩
  | .hbm, ⟨10, _⟩ => ⟨S1x4096x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamRefIdeal.lean ====
abbrev S4x1024x1408 : Shape := ⟨3, ![4, 1024, 1408]⟩
abbrev S_ : Shape := ⟨0, ![]⟩
abbrev S1x4096x1408 : Shape := ⟨3, ![1, 4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S1x4096x1408, .f32⟩
  | .hbm, ⟨38, _⟩ => ⟨S1x4096x1408, .f32⟩
  | .hbm, ⟨39, _⟩ => ⟨S1x4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Conv.lean ====
abbrev S2x4096x1024 : Shape := ⟨3, ![2, 4096, 1024]⟩
abbrev S31x1024 : Shape := ⟨2, ![31, 1024]⟩
abbrev S_ : Shape := ⟨0, ![]⟩
abbrev S32x1024 : Shape := ⟨2, ![32, 1024]⟩
abbrev S1x256x128 : Shape := ⟨3, ![1, 256, 128]⟩
abbrev S32x128 : Shape := ⟨2, ![32, 128]⟩
abbrev S288x128 : Shape := ⟨2, ![288, 128]⟩
abbrev S256x128 : Shape := ⟨2, ![256, 128]⟩
abbrev S1x32x128 : Shape := ⟨3, ![1, 32, 128]⟩
abbrev S1x128 : Shape := ⟨2, ![1, 128]⟩
abbrev S128 : Shape := ⟨1, ![128]⟩

abbrev nBuf : Space → Nat
  | .hbm => 8
  | .vmem => 16
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S31x1024, .f32⟩
  | .hbm, ⟨3, _⟩ => ⟨S_, .i32⟩
  | .hbm, ⟨4, _⟩ => ⟨S_, .f32⟩
  | .hbm, ⟨5, _⟩ => ⟨S32x1024, .f32⟩
  | .hbm, ⟨6, _⟩ => ⟨S2x4096x1024, .f32⟩
  | .hbm, ⟨7, _⟩ => ⟨S32x1024, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S32x128, .f32⟩
  | .local _ .vmem, ⟨9, _⟩ => ⟨S32x128, .f32⟩
  | .local _ .vmem, ⟨10, _⟩ => ⟨S1x256x128, .f32⟩
  | .local _ .vmem, ⟨11, _⟩ => ⟨S1x256x128, .f32⟩
  | .local _ .vmem, ⟨12, _⟩ => ⟨S32x128, .f32⟩
  | .local _ .vmem, ⟨13, _⟩ => ⟨S32x128, .f32⟩
  | .local _ .vmem, ⟨14, _⟩ => ⟨S288x128, .f32⟩
  | .local _ .vmem, ⟨15, _⟩ => ⟨S288x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  ![arg1.toNat, v1.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg1.toNat, v1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ConvRefIdeal.lean ====
abbrev S2x4096x1024 : Shape := ⟨3, ![2, 4096, 1024]⟩
abbrev S31x1024 : Shape := ⟨2, ![31, 1024]⟩
abbrev S_ : Shape := ⟨0, ![]⟩
abbrev S2x30x1024 : Shape := ⟨3, ![2, 30, 1024]⟩
abbrev S2x4126x1024 : Shape := ⟨3, ![2, 4126, 1024]⟩
abbrev S1x1024 : Shape := ⟨2, ![1, 1024]⟩
abbrev S1024 : Shape := ⟨1, ![1024]⟩
abbrev S1x1x1024 : Shape := ⟨3, ![1, 1, 1024]⟩
abbrev S32x1024 : Shape := ⟨2, ![32, 1024]⟩

abbrev nBuf : Space → Nat
  | .hbm => 697
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S31x1024, .f32⟩
  | 3 => ⟨S_, .f32⟩
  | 4 => ⟨S2x30x1024, .f32⟩
  | 5 => ⟨S2x4126x1024, .f32⟩
  | 6 => ⟨S_, .f32⟩
  | 7 => ⟨S2x30x1024, .f32⟩
  | 8 => ⟨S1x1024, .f32⟩
  | 9 => ⟨S1024, .f32⟩
  | 10 => ⟨S2x4096x1024, .f32⟩
  | 11 => ⟨S1x1x1024, .f32⟩
  | 12 => ⟨S2x4096x1024, .f32⟩
  | 13 => ⟨S2x4096x1024, .f32⟩
  | 14 => ⟨S_, .f32⟩
  | 15 => ⟨S2x4096x1024, .f32⟩
  | 16 => ⟨S2x4096x1024, .f32⟩
  | 17 => ⟨S1x1024, .f32⟩
  | 18 => ⟨S1024, .f32⟩
  | 19 => ⟨S2x4096x1024, .f32⟩
  | 20 => ⟨S1x1x1024, .f32⟩
  | 21 => ⟨S2x4096x1024, .f32⟩
  | 22 => ⟨S2x4096x1024, .f32⟩
  | 23 => ⟨S2x4096x1024, .f32⟩
  | 24 => ⟨S1x1024, .f32⟩
  | 25 => ⟨S1024, .f32⟩
  | 26 => ⟨S2x4096x1024, .f32⟩
  | 27 => ⟨S1x1x1024, .f32⟩
  | 28 => ⟨S2x4096x1024, .f32⟩
  | 29 => ⟨S2x4096x1024, .f32⟩
  | 30 => ⟨S2x4096x1024, .f32⟩
  | 31 => ⟨S1x1024, .f32⟩
  | 32 => ⟨S1024, .f32⟩
  | 33 => ⟨S2x4096x1024, .f32⟩
  | 34 => ⟨S1x1x1024, .f32⟩
  | 35 => ⟨S2x4096x1024, .f32⟩
  | 36 => ⟨S2x4096x1024, .f32⟩
  | 37 => ⟨S2x4096x1024, .f32⟩
  | 38 => ⟨S1x1024, .f32⟩
  | 39 => ⟨S1024, .f32⟩
  | 40 => ⟨S2x4096x1024, .f32⟩
  | 41 => ⟨S1x1x1024, .f32⟩
  | 42 => ⟨S2x4096x1024, .f32⟩
  | 43 => ⟨S2x4096x1024, .f32⟩
  | 44 => ⟨S2x4096x1024, .f32⟩
  | 45 => ⟨S1x1024, .f32⟩
  | 46 => ⟨S1024, .f32⟩
  | 47 => ⟨S2x4096x1024, .f32⟩
  | 48 => ⟨S1x1x1024, .f32⟩
  | 49 => ⟨S2x4096x1024, .f32⟩
  | 50 => ⟨S2x4096x1024, .f32⟩
  | 51 => ⟨S2x4096x1024, .f32⟩
  | 52 => ⟨S1x1024, .f32⟩
  | 53 => ⟨S1024, .f32⟩
  | 54 => ⟨S2x4096x1024, .f32⟩
  | 55 => ⟨S1x1x1024, .f32⟩
  | 56 => ⟨S2x4096x1024, .f32⟩
  | 57 => ⟨S2x4096x1024, .f32⟩
  | 58 => ⟨S2x4096x1024, .f32⟩
  | 59 => ⟨S1x1024, .f32⟩
  | 60 => ⟨S1024, .f32⟩
  | 61 => ⟨S2x4096x1024, .f32⟩
  | 62 => ⟨S1x1x1024, .f32⟩
  | 63 => ⟨S2x4096x1024, .f32⟩
  | 64 => ⟨S2x4096x1024, .f32⟩
  | 65 => ⟨S2x4096x1024, .f32⟩
  | 66 => ⟨S1x1024, .f32⟩
  | 67 => ⟨S1024, .f32⟩
  | 68 => ⟨S2x4096x1024, .f32⟩
  | 69 => ⟨S1x1x1024, .f32⟩
  | 70 => ⟨S2x4096x1024, .f32⟩
  | 71 => ⟨S2x4096x1024, .f32⟩
  | 72 => ⟨S2x4096x1024, .f32⟩
  | 73 => ⟨S1x1024, .f32⟩
  | 74 => ⟨S1024, .f32⟩
  | 75 => ⟨S2x4096x1024, .f32⟩
  | 76 => ⟨S1x1x1024, .f32⟩
  | 77 => ⟨S2x4096x1024, .f32⟩
  | 78 => ⟨S2x4096x1024, .f32⟩
  | 79 => ⟨S2x4096x1024, .f32⟩
  | 80 => ⟨S1x1024, .f32⟩
  | 81 => ⟨S1024, .f32⟩
  | 82 => ⟨S2x4096x1024, .f32⟩
  | 83 => ⟨S1x1x1024, .f32⟩
  | 84 => ⟨S2x4096x1024, .f32⟩
  | 85 => ⟨S2x4096x1024, .f32⟩
  | 86 => ⟨S2x4096x1024, .f32⟩
  | 87 => ⟨S1x1024, .f32⟩
  | 88 => ⟨S1024, .f32⟩
  | 89 => ⟨S2x4096x1024, .f32⟩
  | 90 => ⟨S1x1x1024, .f32⟩
  | 91 => ⟨S2x4096x1024, .f32⟩
  | 92 => ⟨S2x4096x1024, .f32⟩
  | 93 => ⟨S2x4096x1024, .f32⟩
  | 94 => ⟨S1x1024, .f32⟩
  | 95 => ⟨S1024, .f32⟩
  | 96 => ⟨S2x4096x1024, .f32⟩
  | 97 => ⟨S1x1x1024, .f32⟩
  | 98 => ⟨S2x4096x1024, .f32⟩
  | 99 => ⟨S2x4096x1024, .f32⟩
  | 100 => ⟨S2x4096x1024, .f32⟩
  | 101 => ⟨S1x1024, .f32⟩
  | 102 => ⟨S1024, .f32⟩
  | 103 => ⟨S2x4096x1024, .f32⟩
  | 104 => ⟨S1x1x1024, .f32⟩
  | 105 => ⟨S2x4096x1024, .f32⟩
  | 106 => ⟨S2x4096x1024, .f32⟩
  | 107 => ⟨S2x4096x1024, .f32⟩
  | 108 => ⟨S1x1024, .f32⟩
  | 109 => ⟨S1024, .f32⟩
  | 110 => ⟨S2x4096x1024, .f32⟩
  | 111 => ⟨S1x1x1024, .f32⟩
  | 112 => ⟨S2x4096x1024, .f32⟩
  | 113 => ⟨S2x4096x1024, .f32⟩
  | 114 => ⟨S2x4096x1024, .f32⟩
  | 115 => ⟨S1x1024, .f32⟩
  | 116 => ⟨S1024, .f32⟩
  | 117 => ⟨S2x4096x1024, .f32⟩
  | 118 => ⟨S1x1x1024, .f32⟩
  | 119 => ⟨S2x4096x1024, .f32⟩
  | 120 => ⟨S2x4096x1024, .f32⟩
  | 121 => ⟨S2x4096x1024, .f32⟩
  | 122 => ⟨S1x1024, .f32⟩
  | 123 => ⟨S1024, .f32⟩
  | 124 => ⟨S2x4096x1024, .f32⟩
  | 125 => ⟨S1x1x1024, .f32⟩
  | 126 => ⟨S2x4096x1024, .f32⟩
  | 127 => ⟨S2x4096x1024, .f32⟩
  | _ => ⟨S2x4096x1024, .f32⟩

abbrev hbmTy0_1 (i : Nat) : BufTy := match i % 128 with
  | 0 => ⟨S2x4096x1024, .f32⟩
  | 1 => ⟨S1x1024, .f32⟩
  | 2 => ⟨S1024, .f32⟩
  | 3 => ⟨S2x4096x1024, .f32⟩
  | 4 => ⟨S1x1x1024, .f32⟩
  | 5 => ⟨S2x4096x1024, .f32⟩
  | 6 => ⟨S2x4096x1024, .f32⟩
  | 7 => ⟨S2x4096x1024, .f32⟩
  | 8 => ⟨S1x1024, .f32⟩
  | 9 => ⟨S1024, .f32⟩
  | 10 => ⟨S2x4096x1024, .f32⟩
  | 11 => ⟨S1x1x1024, .f32⟩
  | 12 => ⟨S2x4096x1024, .f32⟩
  | 13 => ⟨S2x4096x1024, .f32⟩
  | 14 => ⟨S2x4096x1024, .f32⟩
  | 15 => ⟨S1x1024, .f32⟩
  | 16 => ⟨S1024, .f32⟩
  | 17 => ⟨S2x4096x1024, .f32⟩
  | 18 => ⟨S1x1x1024, .f32⟩
  | 19 => ⟨S2x4096x1024, .f32⟩
  | 20 => ⟨S2x4096x1024, .f32⟩
  | 21 => ⟨S2x4096x1024, .f32⟩
  | 22 => ⟨S1x1024, .f32⟩
  | 23 => ⟨S1024, .f32⟩
  | 24 => ⟨S2x4096x1024, .f32⟩
  | 25 => ⟨S1x1x1024, .f32⟩
  | 26 => ⟨S2x4096x1024, .f32⟩
  | 27 => ⟨S2x4096x1024, .f32⟩
  | 28 => ⟨S2x4096x1024, .f32⟩
  | 29 => ⟨S1x1024, .f32⟩
  | 30 => ⟨S1024, .f32⟩
  | 31 => ⟨S2x4096x1024, .f32⟩
  | 32 => ⟨S1x1x1024, .f32⟩
  | 33 => ⟨S2x4096x1024, .f32⟩
  | 34 => ⟨S2x4096x1024, .f32⟩
  | 35 => ⟨S2x4096x1024, .f32⟩
  | 36 => ⟨S1x1024, .f32⟩
  | 37 => ⟨S1024, .f32⟩
  | 38 => ⟨S2x4096x1024, .f32⟩
  | 39 => ⟨S1x1x1024, .f32⟩
  | 40 => ⟨S2x4096x1024, .f32⟩
  | 41 => ⟨S2x4096x1024, .f32⟩
  | 42 => ⟨S2x4096x1024, .f32⟩
  | 43 => ⟨S1x1024, .f32⟩
  | 44 => ⟨S1024, .f32⟩
  | 45 => ⟨S2x4096x1024, .f32⟩
  | 46 => ⟨S1x1x1024, .f32⟩
  | 47 => ⟨S2x4096x1024, .f32⟩
  | 48 => ⟨S2x4096x1024, .f32⟩
  | 49 => ⟨S2x4096x1024, .f32⟩
  | 50 => ⟨S1x1024, .f32⟩
  | 51 => ⟨S1024, .f32⟩
  | 52 => ⟨S2x4096x1024, .f32⟩
  | 53 => ⟨S1x1x1024, .f32⟩
  | 54 => ⟨S2x4096x1024, .f32⟩
  | 55 => ⟨S2x4096x1024, .f32⟩
  | 56 => ⟨S2x4096x1024, .f32⟩
  | 57 => ⟨S1x1024, .f32⟩
  | 58 => ⟨S1024, .f32⟩
  | 59 => ⟨S2x4096x1024, .f32⟩
  | 60 => ⟨S1x1x1024, .f32⟩
  | 61 => ⟨S2x4096x1024, .f32⟩
  | 62 => ⟨S2x4096x1024, .f32⟩
  | 63 => ⟨S2x4096x1024, .f32⟩
  | 64 => ⟨S1x1024, .f32⟩
  | 65 => ⟨S1024, .f32⟩
  | 66 => ⟨S2x4096x1024, .f32⟩
  | 67 => ⟨S1x1x1024, .f32⟩
  | 68 => ⟨S2x4096x1024, .f32⟩
  | 69 => ⟨S2x4096x1024, .f32⟩
  | 70 => ⟨S2x4096x1024, .f32⟩
  | 71 => ⟨S1x1024, .f32⟩
  | 72 => ⟨S1024, .f32⟩
  | 73 => ⟨S2x4096x1024, .f32⟩
  | 74 => ⟨S1x1x1024, .f32⟩
  | 75 => ⟨S2x4096x1024, .f32⟩
  | 76 => ⟨S2x4096x1024, .f32⟩
  | 77 => ⟨S2x4096x1024, .f32⟩
  | 78 => ⟨S1x1024, .f32⟩
  | 79 => ⟨S1024, .f32⟩
  | 80 => ⟨S2x4096x1024, .f32⟩
  | 81 => ⟨S1x1x1024, .f32⟩
  | 82 => ⟨S2x4096x1024, .f32⟩
  | 83 => ⟨S2x4096x1024, .f32⟩
  | 84 => ⟨S2x4096x1024, .f32⟩
  | 85 => ⟨S1x1024, .f32⟩
  | 86 => ⟨S1024, .f32⟩
  | 87 => ⟨S2x4096x1024, .f32⟩
  | 88 => ⟨S1x1x1024, .f32⟩
  | 89 => ⟨S2x4096x1024, .f32⟩
  | 90 => ⟨S2x4096x1024, .f32⟩
  | 91 => ⟨S2x4096x1024, .f32⟩
  | 92 => ⟨S1x1024, .f32⟩
  | 93 => ⟨S1024, .f32⟩
  | 94 => ⟨S2x4096x1024, .f32⟩
  | 95 => ⟨S1x1x1024, .f32⟩
  | 96 => ⟨S2x4096x1024, .f32⟩
  | 97 => ⟨S2x4096x1024, .f32⟩
  | 98 => ⟨S2x4096x1024, .f32⟩
  | 99 => ⟨S2x4096x1024, .f32⟩
  | 100 => ⟨S2x4096x1024, .f32⟩
  | 101 => ⟨S2x4096x1024, .f32⟩
  | 102 => ⟨S2x4096x1024, .f32⟩
  | 103 => ⟨S2x4096x1024, .f32⟩
  | 104 => ⟨S_, .f32⟩
  | 105 => ⟨S1024, .f32⟩
  | 106 => ⟨S1x1x1024, .f32⟩
  | 107 => ⟨S_, .f32⟩
  | 108 => ⟨S1024, .f32⟩
  | 109 => ⟨S_, .f32⟩
  | 110 => ⟨S2x4126x1024, .f32⟩
  | 111 => ⟨S1x1024, .f32⟩
  | 112 => ⟨S_, .f32⟩
  | 113 => ⟨S31x1024, .f32⟩
  | 114 => ⟨S2x4096x1024, .f32⟩
  | 115 => ⟨S2x4096x1024, .f32⟩
  | 116 => ⟨S2x4096x1024, .f32⟩
  | 117 => ⟨S_, .f32⟩
  | 118 => ⟨S1024, .f32⟩
  | 119 => ⟨S1x1x1024, .f32⟩
  | 120 => ⟨S_, .f32⟩
  | 121 => ⟨S1024, .f32⟩
  | 122 => ⟨S_, .f32⟩
  | 123 => ⟨S2x4126x1024, .f32⟩
  | 124 => ⟨S2x4126x1024, .f32⟩
  | 125 => ⟨S1x1024, .f32⟩
  | 126 => ⟨S_, .f32⟩
  | 127 => ⟨S31x1024, .f32⟩
  | _ => ⟨S2x4096x1024, .f32⟩

abbrev hbmTy0_2 (i : Nat) : BufTy := match i % 128 with
  | 0 => ⟨S31x1024, .f32⟩
  | 1 => ⟨S2x4096x1024, .f32⟩
  | 2 => ⟨S2x4096x1024, .f32⟩
  | 3 => ⟨S2x4096x1024, .f32⟩
  | 4 => ⟨S_, .f32⟩
  | 5 => ⟨S1024, .f32⟩
  | 6 => ⟨S1x1x1024, .f32⟩
  | 7 => ⟨S_, .f32⟩
  | 8 => ⟨S1024, .f32⟩
  | 9 => ⟨S_, .f32⟩
  | 10 => ⟨S2x4126x1024, .f32⟩
  | 11 => ⟨S2x4126x1024, .f32⟩
  | 12 => ⟨S1x1024, .f32⟩
  | 13 => ⟨S_, .f32⟩
  | 14 => ⟨S31x1024, .f32⟩
  | 15 => ⟨S31x1024, .f32⟩
  | 16 => ⟨S2x4096x1024, .f32⟩
  | 17 => ⟨S2x4096x1024, .f32⟩
  | 18 => ⟨S2x4096x1024, .f32⟩
  | 19 => ⟨S_, .f32⟩
  | 20 => ⟨S1024, .f32⟩
  | 21 => ⟨S1x1x1024, .f32⟩
  | 22 => ⟨S_, .f32⟩
  | 23 => ⟨S1024, .f32⟩
  | 24 => ⟨S_, .f32⟩
  | 25 => ⟨S2x4126x1024, .f32⟩
  | 26 => ⟨S2x4126x1024, .f32⟩
  | 27 => ⟨S1x1024, .f32⟩
  | 28 => ⟨S_, .f32⟩
  | 29 => ⟨S31x1024, .f32⟩
  | 30 => ⟨S31x1024, .f32⟩
  | 31 => ⟨S2x4096x1024, .f32⟩
  | 32 => ⟨S2x4096x1024, .f32⟩
  | 33 => ⟨S2x4096x1024, .f32⟩
  | 34 => ⟨S_, .f32⟩
  | 35 => ⟨S1024, .f32⟩
  | 36 => ⟨S1x1x1024, .f32⟩
  | 37 => ⟨S_, .f32⟩
  | 38 => ⟨S1024, .f32⟩
  | 39 => ⟨S_, .f32⟩
  | 40 => ⟨S2x4126x1024, .f32⟩
  | 41 => ⟨S2x4126x1024, .f32⟩
  | 42 => ⟨S1x1024, .f32⟩
  | 43 => ⟨S_, .f32⟩
  | 44 => ⟨S31x1024, .f32⟩
  | 45 => ⟨S31x1024, .f32⟩
  | 46 => ⟨S2x4096x1024, .f32⟩
  | 47 => ⟨S2x4096x1024, .f32⟩
  | 48 => ⟨S2x4096x1024, .f32⟩
  | 49 => ⟨S_, .f32⟩
  | 50 => ⟨S1024, .f32⟩
  | 51 => ⟨S1x1x1024, .f32⟩
  | 52 => ⟨S_, .f32⟩
  | 53 => ⟨S1024, .f32⟩
  | 54 => ⟨S_, .f32⟩
  | 55 => ⟨S2x4126x1024, .f32⟩
  | 56 => ⟨S2x4126x1024, .f32⟩
  | 57 => ⟨S1x1024, .f32⟩
  | 58 => ⟨S_, .f32⟩
  | 59 => ⟨S31x1024, .f32⟩
  | 60 => ⟨S31x1024, .f32⟩
  | 61 => ⟨S2x4096x1024, .f32⟩
  | 62 => ⟨S2x4096x1024, .f32⟩
  | 63 => ⟨S2x4096x1024, .f32⟩
  | 64 => ⟨S_, .f32⟩
  | 65 => ⟨S1024, .f32⟩
  | 66 => ⟨S1x1x1024, .f32⟩
  | 67 => ⟨S_, .f32⟩
  | 68 => ⟨S1024, .f32⟩
  | 69 => ⟨S_, .f32⟩
  | 70 => ⟨S2x4126x1024, .f32⟩
  | 71 => ⟨S2x4126x1024, .f32⟩
  | 72 => ⟨S1x1024, .f32⟩
  | 73 => ⟨S_, .f32⟩
  | 74 => ⟨S31x1024, .f32⟩
  | 75 => ⟨S31x1024, .f32⟩
  | 76 => ⟨S2x4096x1024, .f32⟩
  | 77 => ⟨S2x4096x1024, .f32⟩
  | 78 => ⟨S2x4096x1024, .f32⟩
  | 79 => ⟨S_, .f32⟩
  | 80 => ⟨S1024, .f32⟩
  | 81 => ⟨S1x1x1024, .f32⟩
  | 82 => ⟨S_, .f32⟩
  | 83 => ⟨S1024, .f32⟩
  | 84 => ⟨S_, .f32⟩
  | 85 => ⟨S2x4126x1024, .f32⟩
  | 86 => ⟨S2x4126x1024, .f32⟩
  | 87 => ⟨S1x1024, .f32⟩
  | 88 => ⟨S_, .f32⟩
  | 89 => ⟨S31x1024, .f32⟩
  | 90 => ⟨S31x1024, .f32⟩
  | 91 => ⟨S2x4096x1024, .f32⟩
  | 92 => ⟨S2x4096x1024, .f32⟩
  | 93 => ⟨S2x4096x1024, .f32⟩
  | 94 => ⟨S_, .f32⟩
  | 95 => ⟨S1024, .f32⟩
  | 96 => ⟨S1x1x1024, .f32⟩
  | 97 => ⟨S_, .f32⟩
  | 98 => ⟨S1024, .f32⟩
  | 99 => ⟨S_, .f32⟩
  | 100 => ⟨S2x4126x1024, .f32⟩
  | 101 => ⟨S2x4126x1024, .f32⟩
  | 102 => ⟨S1x1024, .f32⟩
  | 103 => ⟨S_, .f32⟩
  | 104 => ⟨S31x1024, .f32⟩
  | 105 => ⟨S31x1024, .f32⟩
  | 106 => ⟨S2x4096x1024, .f32⟩
  | 107 => ⟨S2x4096x1024, .f32⟩
  | 108 => ⟨S2x4096x1024, .f32⟩
  | 109 => ⟨S_, .f32⟩
  | 110 => ⟨S1024, .f32⟩
  | 111 => ⟨S1x1x1024, .f32⟩
  | 112 => ⟨S_, .f32⟩
  | 113 => ⟨S1024, .f32⟩
  | 114 => ⟨S_, .f32⟩
  | 115 => ⟨S2x4126x1024, .f32⟩
  | 116 => ⟨S2x4126x1024, .f32⟩
  | 117 => ⟨S1x1024, .f32⟩
  | 118 => ⟨S_, .f32⟩
  | 119 => ⟨S31x1024, .f32⟩
  | 120 => ⟨S31x1024, .f32⟩
  | 121 => ⟨S2x4096x1024, .f32⟩
  | 122 => ⟨S2x4096x1024, .f32⟩
  | 123 => ⟨S2x4096x1024, .f32⟩
  | 124 => ⟨S_, .f32⟩
  | 125 => ⟨S1024, .f32⟩
  | 126 => ⟨S1x1x1024, .f32⟩
  | 127 => ⟨S_, .f32⟩
  | _ => ⟨S2x4096x1024, .f32⟩

abbrev hbmTy0_3 (i : Nat) : BufTy := match i % 128 with
  | 0 => ⟨S1024, .f32⟩
  | 1 => ⟨S_, .f32⟩
  | 2 => ⟨S2x4126x1024, .f32⟩
  | 3 => ⟨S2x4126x1024, .f32⟩
  | 4 => ⟨S1x1024, .f32⟩
  | 5 => ⟨S_, .f32⟩
  | 6 => ⟨S31x1024, .f32⟩
  | 7 => ⟨S31x1024, .f32⟩
  | 8 => ⟨S2x4096x1024, .f32⟩
  | 9 => ⟨S2x4096x1024, .f32⟩
  | 10 => ⟨S2x4096x1024, .f32⟩
  | 11 => ⟨S_, .f32⟩
  | 12 => ⟨S1024, .f32⟩
  | 13 => ⟨S1x1x1024, .f32⟩
  | 14 => ⟨S_, .f32⟩
  | 15 => ⟨S1024, .f32⟩
  | 16 => ⟨S_, .f32⟩
  | 17 => ⟨S2x4126x1024, .f32⟩
  | 18 => ⟨S2x4126x1024, .f32⟩
  | 19 => ⟨S1x1024, .f32⟩
  | 20 => ⟨S_, .f32⟩
  | 21 => ⟨S31x1024, .f32⟩
  | 22 => ⟨S31x1024, .f32⟩
  | 23 => ⟨S2x4096x1024, .f32⟩
  | 24 => ⟨S2x4096x1024, .f32⟩
  | 25 => ⟨S2x4096x1024, .f32⟩
  | 26 => ⟨S_, .f32⟩
  | 27 => ⟨S1024, .f32⟩
  | 28 => ⟨S1x1x1024, .f32⟩
  | 29 => ⟨S_, .f32⟩
  | 30 => ⟨S1024, .f32⟩
  | 31 => ⟨S_, .f32⟩
  | 32 => ⟨S2x4126x1024, .f32⟩
  | 33 => ⟨S2x4126x1024, .f32⟩
  | 34 => ⟨S1x1024, .f32⟩
  | 35 => ⟨S_, .f32⟩
  | 36 => ⟨S31x1024, .f32⟩
  | 37 => ⟨S31x1024, .f32⟩
  | 38 => ⟨S2x4096x1024, .f32⟩
  | 39 => ⟨S2x4096x1024, .f32⟩
  | 40 => ⟨S2x4096x1024, .f32⟩
  | 41 => ⟨S_, .f32⟩
  | 42 => ⟨S1024, .f32⟩
  | 43 => ⟨S1x1x1024, .f32⟩
  | 44 => ⟨S_, .f32⟩
  | 45 => ⟨S1024, .f32⟩
  | 46 => ⟨S_, .f32⟩
  | 47 => ⟨S2x4126x1024, .f32⟩
  | 48 => ⟨S2x4126x1024, .f32⟩
  | 49 => ⟨S1x1024, .f32⟩
  | 50 => ⟨S_, .f32⟩
  | 51 => ⟨S31x1024, .f32⟩
  | 52 => ⟨S31x1024, .f32⟩
  | 53 => ⟨S2x4096x1024, .f32⟩
  | 54 => ⟨S2x4096x1024, .f32⟩
  | 55 => ⟨S2x4096x1024, .f32⟩
  | 56 => ⟨S_, .f32⟩
  | 57 => ⟨S1024, .f32⟩
  | 58 => ⟨S1x1x1024, .f32⟩
  | 59 => ⟨S_, .f32⟩
  | 60 => ⟨S1024, .f32⟩
  | 61 => ⟨S_, .f32⟩
  | 62 => ⟨S2x4126x1024, .f32⟩
  | 63 => ⟨S2x4126x1024, .f32⟩
  | 64 => ⟨S1x1024, .f32⟩
  | 65 => ⟨S_, .f32⟩
  | 66 => ⟨S31x1024, .f32⟩
  | 67 => ⟨S31x1024, .f32⟩
  | 68 => ⟨S2x4096x1024, .f32⟩
  | 69 => ⟨S2x4096x1024, .f32⟩
  | 70 => ⟨S2x4096x1024, .f32⟩
  | 71 => ⟨S_, .f32⟩
  | 72 => ⟨S1024, .f32⟩
  | 73 => ⟨S1x1x1024, .f32⟩
  | 74 => ⟨S_, .f32⟩
  | 75 => ⟨S1024, .f32⟩
  | 76 => ⟨S_, .f32⟩
  | 77 => ⟨S2x4126x1024, .f32⟩
  | 78 => ⟨S2x4126x1024, .f32⟩
  | 79 => ⟨S1x1024, .f32⟩
  | 80 => ⟨S_, .f32⟩
  | 81 => ⟨S31x1024, .f32⟩
  | 82 => ⟨S31x1024, .f32⟩
  | 83 => ⟨S2x4096x1024, .f32⟩
  | 84 => ⟨S2x4096x1024, .f32⟩
  | 85 => ⟨S2x4096x1024, .f32⟩
  | 86 => ⟨S_, .f32⟩
  | 87 => ⟨S1024, .f32⟩
  | 88 => ⟨S1x1x1024, .f32⟩
  | 89 => ⟨S_, .f32⟩
  | 90 => ⟨S1024, .f32⟩
  | 91 => ⟨S_, .f32⟩
  | 92 => ⟨S2x4126x1024, .f32⟩
  | 93 => ⟨S2x4126x1024, .f32⟩
  | 94 => ⟨S1x1024, .f32⟩
  | 95 => ⟨S_, .f32⟩
  | 96 => ⟨S31x1024, .f32⟩
  | 97 => ⟨S31x1024, .f32⟩
  | 98 => ⟨S2x4096x1024, .f32⟩
  | 99 => ⟨S2x4096x1024, .f32⟩
  | 100 => ⟨S2x4096x1024, .f32⟩
  | 101 => ⟨S_, .f32⟩
  | 102 => ⟨S1024, .f32⟩
  | 103 => ⟨S1x1x1024, .f32⟩
  | 104 => ⟨S_, .f32⟩
  | 105 => ⟨S1024, .f32⟩
  | 106 => ⟨S_, .f32⟩
  | 107 => ⟨S2x4126x1024, .f32⟩
  | 108 => ⟨S2x4126x1024, .f32⟩
  | 109 => ⟨S1x1024, .f32⟩
  | 110 => ⟨S_, .f32⟩
  | 111 => ⟨S31x1024, .f32⟩
  | 112 => ⟨S31x1024, .f32⟩
  | 113 => ⟨S2x4096x1024, .f32⟩
  | 114 => ⟨S2x4096x1024, .f32⟩
  | 115 => ⟨S2x4096x1024, .f32⟩
  | 116 => ⟨S_, .f32⟩
  | 117 => ⟨S1024, .f32⟩
  | 118 => ⟨S1x1x1024, .f32⟩
  | 119 => ⟨S_, .f32⟩
  | 120 => ⟨S1024, .f32⟩
  | 121 => ⟨S_, .f32⟩
  | 122 => ⟨S2x4126x1024, .f32⟩
  | 123 => ⟨S2x4126x1024, .f32⟩
  | 124 => ⟨S1x1024, .f32⟩
  | 125 => ⟨S_, .f32⟩
  | 126 => ⟨S31x1024, .f32⟩
  | 127 => ⟨S31x1024, .f32⟩
  | _ => ⟨S2x4096x1024, .f32⟩

abbrev hbmTy0_4 (i : Nat) : BufTy := match i % 128 with
  | 0 => ⟨S2x4096x1024, .f32⟩
  | 1 => ⟨S2x4096x1024, .f32⟩
  | 2 => ⟨S2x4096x1024, .f32⟩
  | 3 => ⟨S_, .f32⟩
  | 4 => ⟨S1024, .f32⟩
  | 5 => ⟨S1x1x1024, .f32⟩
  | 6 => ⟨S_, .f32⟩
  | 7 => ⟨S1024, .f32⟩
  | 8 => ⟨S_, .f32⟩
  | 9 => ⟨S2x4126x1024, .f32⟩
  | 10 => ⟨S2x4126x1024, .f32⟩
  | 11 => ⟨S1x1024, .f32⟩
  | 12 => ⟨S_, .f32⟩
  | 13 => ⟨S31x1024, .f32⟩
  | 14 => ⟨S31x1024, .f32⟩
  | 15 => ⟨S2x4096x1024, .f32⟩
  | 16 => ⟨S2x4096x1024, .f32⟩
  | 17 => ⟨S2x4096x1024, .f32⟩
  | 18 => ⟨S_, .f32⟩
  | 19 => ⟨S1024, .f32⟩
  | 20 => ⟨S1x1x1024, .f32⟩
  | 21 => ⟨S_, .f32⟩
  | 22 => ⟨S1024, .f32⟩
  | 23 => ⟨S_, .f32⟩
  | 24 => ⟨S2x4126x1024, .f32⟩
  | 25 => ⟨S2x4126x1024, .f32⟩
  | 26 => ⟨S1x1024, .f32⟩
  | 27 => ⟨S_, .f32⟩
  | 28 => ⟨S31x1024, .f32⟩
  | 29 => ⟨S31x1024, .f32⟩
  | 30 => ⟨S2x4096x1024, .f32⟩
  | 31 => ⟨S2x4096x1024, .f32⟩
  | 32 => ⟨S2x4096x1024, .f32⟩
  | 33 => ⟨S_, .f32⟩
  | 34 => ⟨S1024, .f32⟩
  | 35 => ⟨S1x1x1024, .f32⟩
  | 36 => ⟨S_, .f32⟩
  | 37 => ⟨S1024, .f32⟩
  | 38 => ⟨S_, .f32⟩
  | 39 => ⟨S2x4126x1024, .f32⟩
  | 40 => ⟨S2x4126x1024, .f32⟩
  | 41 => ⟨S1x1024, .f32⟩
  | 42 => ⟨S_, .f32⟩
  | 43 => ⟨S31x1024, .f32⟩
  | 44 => ⟨S31x1024, .f32⟩
  | 45 => ⟨S2x4096x1024, .f32⟩
  | 46 => ⟨S2x4096x1024, .f32⟩
  | 47 => ⟨S2x4096x1024, .f32⟩
  | 48 => ⟨S_, .f32⟩
  | 49 => ⟨S1024, .f32⟩
  | 50 => ⟨S1x1x1024, .f32⟩
  | 51 => ⟨S_, .f32⟩
  | 52 => ⟨S1024, .f32⟩
  | 53 => ⟨S_, .f32⟩
  | 54 => ⟨S2x4126x1024, .f32⟩
  | 55 => ⟨S2x4126x1024, .f32⟩
  | 56 => ⟨S1x1024, .f32⟩
  | 57 => ⟨S_, .f32⟩
  | 58 => ⟨S31x1024, .f32⟩
  | 59 => ⟨S31x1024, .f32⟩
  | 60 => ⟨S2x4096x1024, .f32⟩
  | 61 => ⟨S2x4096x1024, .f32⟩
  | 62 => ⟨S2x4096x1024, .f32⟩
  | 63 => ⟨S_, .f32⟩
  | 64 => ⟨S1024, .f32⟩
  | 65 => ⟨S1x1x1024, .f32⟩
  | 66 => ⟨S_, .f32⟩
  | 67 => ⟨S1024, .f32⟩
  | 68 => ⟨S_, .f32⟩
  | 69 => ⟨S2x4126x1024, .f32⟩
  | 70 => ⟨S2x4126x1024, .f32⟩
  | 71 => ⟨S1x1024, .f32⟩
  | 72 => ⟨S_, .f32⟩
  | 73 => ⟨S31x1024, .f32⟩
  | 74 => ⟨S31x1024, .f32⟩
  | 75 => ⟨S2x4096x1024, .f32⟩
  | 76 => ⟨S2x4096x1024, .f32⟩
  | 77 => ⟨S2x4096x1024, .f32⟩
  | 78 => ⟨S_, .f32⟩
  | 79 => ⟨S1024, .f32⟩
  | 80 => ⟨S1x1x1024, .f32⟩
  | 81 => ⟨S_, .f32⟩
  | 82 => ⟨S1024, .f32⟩
  | 83 => ⟨S_, .f32⟩
  | 84 => ⟨S2x4126x1024, .f32⟩
  | 85 => ⟨S2x4126x1024, .f32⟩
  | 86 => ⟨S1x1024, .f32⟩
  | 87 => ⟨S_, .f32⟩
  | 88 => ⟨S31x1024, .f32⟩
  | 89 => ⟨S31x1024, .f32⟩
  | 90 => ⟨S2x4096x1024, .f32⟩
  | 91 => ⟨S2x4096x1024, .f32⟩
  | 92 => ⟨S2x4096x1024, .f32⟩
  | 93 => ⟨S_, .f32⟩
  | 94 => ⟨S1024, .f32⟩
  | 95 => ⟨S1x1x1024, .f32⟩
  | 96 => ⟨S_, .f32⟩
  | 97 => ⟨S1024, .f32⟩
  | 98 => ⟨S_, .f32⟩
  | 99 => ⟨S2x4126x1024, .f32⟩
  | 100 => ⟨S2x4126x1024, .f32⟩
  | 101 => ⟨S1x1024, .f32⟩
  | 102 => ⟨S_, .f32⟩
  | 103 => ⟨S31x1024, .f32⟩
  | 104 => ⟨S31x1024, .f32⟩
  | 105 => ⟨S2x4096x1024, .f32⟩
  | 106 => ⟨S2x4096x1024, .f32⟩
  | 107 => ⟨S2x4096x1024, .f32⟩
  | 108 => ⟨S_, .f32⟩
  | 109 => ⟨S1024, .f32⟩
  | 110 => ⟨S1x1x1024, .f32⟩
  | 111 => ⟨S_, .f32⟩
  | 112 => ⟨S1024, .f32⟩
  | 113 => ⟨S_, .f32⟩
  | 114 => ⟨S2x4126x1024, .f32⟩
  | 115 => ⟨S2x4126x1024, .f32⟩
  | 116 => ⟨S1x1024, .f32⟩
  | 117 => ⟨S_, .f32⟩
  | 118 => ⟨S31x1024, .f32⟩
  | 119 => ⟨S31x1024, .f32⟩
  | 120 => ⟨S2x4096x1024, .f32⟩
  | 121 => ⟨S2x4096x1024, .f32⟩
  | 122 => ⟨S2x4096x1024, .f32⟩
  | 123 => ⟨S_, .f32⟩
  | 124 => ⟨S1024, .f32⟩
  | 125 => ⟨S1x1x1024, .f32⟩
  | 126 => ⟨S_, .f32⟩
  | 127 => ⟨S1024, .f32⟩
  | _ => ⟨S2x4096x1024, .f32⟩

abbrev hbmTy0_5 (i : Nat) : BufTy := match i % 128 with
  | 0 => ⟨S_, .f32⟩
  | 1 => ⟨S2x4126x1024, .f32⟩
  | 2 => ⟨S2x4126x1024, .f32⟩
  | 3 => ⟨S1x1024, .f32⟩
  | 4 => ⟨S_, .f32⟩
  | 5 => ⟨S31x1024, .f32⟩
  | 6 => ⟨S31x1024, .f32⟩
  | 7 => ⟨S2x4096x1024, .f32⟩
  | 8 => ⟨S2x4096x1024, .f32⟩
  | 9 => ⟨S2x4096x1024, .f32⟩
  | 10 => ⟨S_, .f32⟩
  | 11 => ⟨S1024, .f32⟩
  | 12 => ⟨S1x1x1024, .f32⟩
  | 13 => ⟨S_, .f32⟩
  | 14 => ⟨S1024, .f32⟩
  | 15 => ⟨S_, .f32⟩
  | 16 => ⟨S2x4126x1024, .f32⟩
  | 17 => ⟨S2x4126x1024, .f32⟩
  | 18 => ⟨S1x1024, .f32⟩
  | 19 => ⟨S_, .f32⟩
  | 20 => ⟨S31x1024, .f32⟩
  | 21 => ⟨S31x1024, .f32⟩
  | 22 => ⟨S2x4096x1024, .f32⟩
  | 23 => ⟨S2x4096x1024, .f32⟩
  | 24 => ⟨S2x4096x1024, .f32⟩
  | 25 => ⟨S_, .f32⟩
  | 26 => ⟨S1024, .f32⟩
  | 27 => ⟨S1x1x1024, .f32⟩
  | 28 => ⟨S_, .f32⟩
  | 29 => ⟨S1024, .f32⟩
  | 30 => ⟨S_, .f32⟩
  | 31 => ⟨S2x4126x1024, .f32⟩
  | 32 => ⟨S2x4126x1024, .f32⟩
  | 33 => ⟨S1x1024, .f32⟩
  | 34 => ⟨S_, .f32⟩
  | 35 => ⟨S31x1024, .f32⟩
  | 36 => ⟨S31x1024, .f32⟩
  | 37 => ⟨S2x4096x1024, .f32⟩
  | 38 => ⟨S2x4096x1024, .f32⟩
  | 39 => ⟨S2x4096x1024, .f32⟩
  | 40 => ⟨S_, .f32⟩
  | 41 => ⟨S1024, .f32⟩
  | 42 => ⟨S1x1x1024, .f32⟩
  | 43 => ⟨S_, .f32⟩
  | 44 => ⟨S1024, .f32⟩
  | 45 => ⟨S_, .f32⟩
  | 46 => ⟨S2x4126x1024, .f32⟩
  | 47 => ⟨S2x4126x1024, .f32⟩
  | 48 => ⟨S1x1024, .f32⟩
  | 49 => ⟨S_, .f32⟩
  | 50 => ⟨S31x1024, .f32⟩
  | 51 => ⟨S31x1024, .f32⟩
  | 52 => ⟨S2x30x1024, .f32⟩
  | 53 => ⟨S2x4096x1024, .f32⟩
  | 54 => ⟨S_, .i32⟩
  | 55 => ⟨S_, .f32⟩
  | 56 => ⟨S32x1024, .f32⟩
  | _ => ⟨S2x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_cst_2 : Ref sig .tc := ⟨.hbm, 232, rfl⟩
abbrev main_v226 : Ref sig .tc := ⟨.hbm, 233, rfl⟩
abbrev main_v227 : Ref sig .tc := ⟨.hbm, 234, rfl⟩
abbrev main_cst_3 : Ref sig .tc := ⟨.hbm, 235, rfl⟩
abbrev main_v228 : Ref sig .tc := ⟨.hbm, 236, rfl⟩
abbrev main_cst_4 : Ref sig .tc := ⟨.hbm, 237, rfl⟩
abbrev main_v229 : Ref sig .tc := ⟨.hbm, 238, rfl⟩
abbrev main_v230 : Ref sig .tc := ⟨.hbm, 239, rfl⟩
abbrev main_cst_5 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_cst_6 : Ref sig .tc := ⟨.hbm, 245, rfl⟩
abbrev main_v235 : Ref sig .tc := ⟨.hbm, 246, rfl⟩
abbrev main_v236 : Ref sig .tc := ⟨.hbm, 247, rfl⟩
abbrev main_cst_7 : Ref sig .tc := ⟨.hbm, 248, rfl⟩
abbrev main_v237 : Ref sig .tc := ⟨.hbm, 249, rfl⟩
abbrev main_cst_8 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_cst_9 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_cst_10 : Ref sig .tc := ⟨.hbm, 260, rfl⟩
abbrev main_v246 : Ref sig .tc := ⟨.hbm, 261, rfl⟩
abbrev main_v247 : Ref sig .tc := ⟨.hbm, 262, rfl⟩
abbrev main_cst_11 : Ref sig .tc := ⟨.hbm, 263, rfl⟩
abbrev main_v248 : Ref sig .tc := ⟨.hbm, 264, rfl⟩
abbrev main_cst_12 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_cst_13 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_cst_14 : Ref sig .tc := ⟨.hbm, 275, rfl⟩
abbrev main_v257 : Ref sig .tc := ⟨.hbm, 276, rfl⟩
abbrev main_v258 : Ref sig .tc := ⟨.hbm, 277, rfl⟩
abbrev main_cst_15 : Ref sig .tc := ⟨.hbm, 278, rfl⟩
abbrev main_v259 : Ref sig .tc := ⟨.hbm, 279, rfl⟩
abbrev main_cst_16 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_cst_17 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_cst_18 : Ref sig .tc := ⟨.hbm, 290, rfl⟩
abbrev main_v268 : Ref sig .tc := ⟨.hbm, 291, rfl⟩
abbrev main_v269 : Ref sig .tc := ⟨.hbm, 292, rfl⟩
abbrev main_cst_19 : Ref sig .tc := ⟨.hbm, 293, rfl⟩
abbrev main_v270 : Ref sig .tc := ⟨.hbm, 294, rfl⟩
abbrev main_cst_20 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_cst_21 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_cst_22 : Ref sig .tc := ⟨.hbm, 305, rfl⟩
abbrev main_v279 : Ref sig .tc := ⟨.hbm, 306, rfl⟩
abbrev main_v280 : Ref sig .tc := ⟨.hbm, 307, rfl⟩
abbrev main_cst_23 : Ref sig .tc := ⟨.hbm, 308, rfl⟩
abbrev main_v281 : Ref sig .tc := ⟨.hbm, 309, rfl⟩
abbrev main_cst_24 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_cst_25 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_cst_26 : Ref sig .tc := ⟨.hbm, 320, rfl⟩
abbrev main_v290 : Ref sig .tc := ⟨.hbm, 321, rfl⟩
abbrev main_v291 : Ref sig .tc := ⟨.hbm, 322, rfl⟩
abbrev main_cst_27 : Ref sig .tc := ⟨.hbm, 323, rfl⟩
abbrev main_v292 : Ref sig .tc := ⟨.hbm, 324, rfl⟩
abbrev main_cst_28 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_cst_29 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_cst_30 : Ref sig .tc := ⟨.hbm, 335, rfl⟩
abbrev main_v301 : Ref sig .tc := ⟨.hbm, 336, rfl⟩
abbrev main_v302 : Ref sig .tc := ⟨.hbm, 337, rfl⟩
abbrev main_cst_31 : Ref sig .tc := ⟨.hbm, 338, rfl⟩
abbrev main_v303 : Ref sig .tc := ⟨.hbm, 339, rfl⟩
abbrev main_cst_32 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_cst_33 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_cst_34 : Ref sig .tc := ⟨.hbm, 350, rfl⟩
abbrev main_v312 : Ref sig .tc := ⟨.hbm, 351, rfl⟩
abbrev main_v313 : Ref sig .tc := ⟨.hbm, 352, rfl⟩
abbrev main_cst_35 : Ref sig .tc := ⟨.hbm, 353, rfl⟩
abbrev main_v314 : Ref sig .tc := ⟨.hbm, 354, rfl⟩
abbrev main_cst_36 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_cst_37 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_v321 : Ref sig .tc := ⟨.hbm, 363, rfl⟩
abbrev main_v322 : Ref sig .tc := ⟨.hbm, 364, rfl⟩
abbrev main_cst_38 : Ref sig .tc := ⟨.hbm, 365, rfl⟩
abbrev main_v323 : Ref sig .tc := ⟨.hbm, 366, rfl⟩
abbrev main_v324 : Ref sig .tc := ⟨.hbm, 367, rfl⟩
abbrev main_cst_39 : Ref sig .tc := ⟨.hbm, 368, rfl⟩
abbrev main_v325 : Ref sig .tc := ⟨.hbm, 369, rfl⟩
abbrev main_cst_40 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_cst_41 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_cst_42 : Ref sig .tc := ⟨.hbm, 380, rfl⟩
abbrev main_v334 : Ref sig .tc := ⟨.hbm, 381, rfl⟩
abbrev main_v335 : Ref sig .tc := ⟨.hbm, 382, rfl⟩
abbrev main_cst_43 : Ref sig .tc := ⟨.hbm, 383, rfl⟩
abbrev main_v336 : Ref sig .tc := ⟨.hbm, 384, rfl⟩
abbrev main_cst_44 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_cst_45 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_cst_46 : Ref sig .tc := ⟨.hbm, 395, rfl⟩
abbrev main_v345 : Ref sig .tc := ⟨.hbm, 396, rfl⟩
abbrev main_v346 : Ref sig .tc := ⟨.hbm, 397, rfl⟩
abbrev main_cst_47 : Ref sig .tc := ⟨.hbm, 398, rfl⟩
abbrev main_v347 : Ref sig .tc := ⟨.hbm, 399, rfl⟩
abbrev main_cst_48 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_cst_49 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_cst_50 : Ref sig .tc := ⟨.hbm, 410, rfl⟩
abbrev main_v356 : Ref sig .tc := ⟨.hbm, 411, rfl⟩
abbrev main_v357 : Ref sig .tc := ⟨.hbm, 412, rfl⟩
abbrev main_cst_51 : Ref sig .tc := ⟨.hbm, 413, rfl⟩
abbrev main_v358 : Ref sig .tc := ⟨.hbm, 414, rfl⟩
abbrev main_cst_52 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_cst_53 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_cst_54 : Ref sig .tc := ⟨.hbm, 425, rfl⟩
abbrev main_v367 : Ref sig .tc := ⟨.hbm, 426, rfl⟩
abbrev main_v368 : Ref sig .tc := ⟨.hbm, 427, rfl⟩
abbrev main_cst_55 : Ref sig .tc := ⟨.hbm, 428, rfl⟩
abbrev main_v369 : Ref sig .tc := ⟨.hbm, 429, rfl⟩
abbrev main_cst_56 : Ref sig .tc := ⟨.hbm, 430, rfl⟩
abbrev main_v370 : Ref sig .tc := ⟨.hbm, 431, rfl⟩
abbrev main_v371 : Ref sig .tc := ⟨.hbm, 432, rfl⟩
abbrev main_v372 : Ref sig .tc := ⟨.hbm, 433, rfl⟩
abbrev main_cst_57 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_v376 : Ref sig .tc := ⟨.hbm, 438, rfl⟩
abbrev main_v377 : Ref sig .tc := ⟨.hbm, 439, rfl⟩
abbrev main_cst_58 : Ref sig .tc := ⟨.hbm, 440, rfl⟩
abbrev main_v378 : Ref sig .tc := ⟨.hbm, 441, rfl⟩
abbrev main_v379 : Ref sig .tc := ⟨.hbm, 442, rfl⟩
abbrev main_cst_59 : Ref sig .tc := ⟨.hbm, 443, rfl⟩
abbrev main_v380 : Ref sig .tc := ⟨.hbm, 444, rfl⟩
abbrev main_cst_60 : Ref sig .tc := ⟨.hbm, 445, rfl⟩
abbrev main_v381 : Ref sig .tc := ⟨.hbm, 446, rfl⟩
abbrev main_v382 : Ref sig .tc := ⟨.hbm, 447, rfl⟩
abbrev main_v383 : Ref sig .tc := ⟨.hbm, 448, rfl⟩
abbrev main_cst_61 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_v387 : Ref sig .tc := ⟨.hbm, 453, rfl⟩
abbrev main_v388 : Ref sig .tc := ⟨.hbm, 454, rfl⟩
abbrev main_cst_62 : Ref sig .tc := ⟨.hbm, 455, rfl⟩
abbrev main_v389 : Ref sig .tc := ⟨.hbm, 456, rfl⟩
abbrev main_v390 : Ref sig .tc := ⟨.hbm, 457, rfl⟩
abbrev main_cst_63 : Ref sig .tc := ⟨.hbm, 458, rfl⟩
abbrev main_v391 : Ref sig .tc := ⟨.hbm, 459, rfl⟩
abbrev main_cst_64 : Ref sig .tc := ⟨.hbm, 460, rfl⟩
abbrev main_v392 : Ref sig .tc := ⟨.hbm, 461, rfl⟩
abbrev main_v393 : Ref sig .tc := ⟨.hbm, 462, rfl⟩
abbrev main_v394 : Ref sig .tc := ⟨.hbm, 463, rfl⟩
abbrev main_cst_65 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_v398 : Ref sig .tc := ⟨.hbm, 468, rfl⟩
abbrev main_v399 : Ref sig .tc := ⟨.hbm, 469, rfl⟩
abbrev main_cst_66 : Ref sig .tc := ⟨.hbm, 470, rfl⟩
abbrev main_v400 : Ref sig .tc := ⟨.hbm, 471, rfl⟩
abbrev main_v401 : Ref sig .tc := ⟨.hbm, 472, rfl⟩
abbrev main_cst_67 : Ref sig .tc := ⟨.hbm, 473, rfl⟩
abbrev main_v402 : Ref sig .tc := ⟨.hbm, 474, rfl⟩
abbrev main_cst_68 : Ref sig .tc := ⟨.hbm, 475, rfl⟩
abbrev main_v403 : Ref sig .tc := ⟨.hbm, 476, rfl⟩
abbrev main_v404 : Ref sig .tc := ⟨.hbm, 477, rfl⟩
abbrev main_v405 : Ref sig .tc := ⟨.hbm, 478, rfl⟩
abbrev main_cst_69 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_v409 : Ref sig .tc := ⟨.hbm, 483, rfl⟩
abbrev main_v410 : Ref sig .tc := ⟨.hbm, 484, rfl⟩
abbrev main_cst_70 : Ref sig .tc := ⟨.hbm, 485, rfl⟩
abbrev main_v411 : Ref sig .tc := ⟨.hbm, 486, rfl⟩
abbrev main_v412 : Ref sig .tc := ⟨.hbm, 487, rfl⟩
abbrev main_cst_71 : Ref sig .tc := ⟨.hbm, 488, rfl⟩
abbrev main_v413 : Ref sig .tc := ⟨.hbm, 489, rfl⟩
abbrev main_cst_72 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_cst_73 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_v420 : Ref sig .tc := ⟨.hbm, 498, rfl⟩
abbrev main_v421 : Ref sig .tc := ⟨.hbm, 499, rfl⟩
abbrev main_cst_74 : Ref sig .tc := ⟨.hbm, 500, rfl⟩
abbrev main_v422 : Ref sig .tc := ⟨.hbm, 501, rfl⟩
abbrev main_v423 : Ref sig .tc := ⟨.hbm, 502, rfl⟩
abbrev main_cst_75 : Ref sig .tc := ⟨.hbm, 503, rfl⟩
abbrev main_v424 : Ref sig .tc := ⟨.hbm, 504, rfl⟩
abbrev main_cst_76 : Ref sig .tc := ⟨.hbm, 505, rfl⟩
abbrev main_v425 : Ref sig .tc := ⟨.hbm, 506, rfl⟩
abbrev main_v426 : Ref sig .tc := ⟨.hbm, 507, rfl⟩
abbrev main_v427 : Ref sig .tc := ⟨.hbm, 508, rfl⟩
abbrev main_cst_77 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_v431 : Ref sig .tc := ⟨.hbm, 513, rfl⟩
abbrev main_v432 : Ref sig .tc := ⟨.hbm, 514, rfl⟩
abbrev main_cst_78 : Ref sig .tc := ⟨.hbm, 515, rfl⟩
abbrev main_v433 : Ref sig .tc := ⟨.hbm, 516, rfl⟩
abbrev main_v434 : Ref sig .tc := ⟨.hbm, 517, rfl⟩
abbrev main_cst_79 : Ref sig .tc := ⟨.hbm, 518, rfl⟩
abbrev main_v435 : Ref sig .tc := ⟨.hbm, 519, rfl⟩
abbrev main_cst_80 : Ref sig .tc := ⟨.hbm, 520, rfl⟩
abbrev main_v436 : Ref sig .tc := ⟨.hbm, 521, rfl⟩
abbrev main_v437 : Ref sig .tc := ⟨.hbm, 522, rfl⟩
abbrev main_v438 : Ref sig .tc := ⟨.hbm, 523, rfl⟩
abbrev main_cst_81 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_cst_82 : Ref sig .tc := ⟨.hbm, 530, rfl⟩
abbrev main_v444 : Ref sig .tc := ⟨.hbm, 531, rfl⟩
abbrev main_v445 : Ref sig .tc := ⟨.hbm, 532, rfl⟩
abbrev main_cst_83 : Ref sig .tc := ⟨.hbm, 533, rfl⟩
abbrev main_v446 : Ref sig .tc := ⟨.hbm, 534, rfl⟩
abbrev main_cst_84 : Ref sig .tc := ⟨.hbm, 535, rfl⟩
abbrev main_v447 : Ref sig .tc := ⟨.hbm, 536, rfl⟩
abbrev main_v448 : Ref sig .tc := ⟨.hbm, 537, rfl⟩
abbrev main_v449 : Ref sig .tc := ⟨.hbm, 538, rfl⟩
abbrev main_cst_85 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_v453 : Ref sig .tc := ⟨.hbm, 543, rfl⟩
abbrev main_v454 : Ref sig .tc := ⟨.hbm, 544, rfl⟩
abbrev main_cst_86 : Ref sig .tc := ⟨.hbm, 545, rfl⟩
abbrev main_v455 : Ref sig .tc := ⟨.hbm, 546, rfl⟩
abbrev main_v456 : Ref sig .tc := ⟨.hbm, 547, rfl⟩
abbrev main_cst_87 : Ref sig .tc := ⟨.hbm, 548, rfl⟩
abbrev main_v457 : Ref sig .tc := ⟨.hbm, 549, rfl⟩
abbrev main_cst_88 : Ref sig .tc := ⟨.hbm, 550, rfl⟩
abbrev main_v458 : Ref sig .tc := ⟨.hbm, 551, rfl⟩
abbrev main_v459 : Ref sig .tc := ⟨.hbm, 552, rfl⟩
abbrev main_v460 : Ref sig .tc := ⟨.hbm, 553, rfl⟩
abbrev main_cst_89 : Ref sig .tc := ⟨.hbm, 554, rfl⟩
abbrev main_v461 : Ref sig .tc := ⟨.hbm, 555, rfl⟩
abbrev main_v462 : Ref sig .tc := ⟨.hbm, 556, rfl⟩
abbrev main_v463 : Ref sig .tc := ⟨.hbm, 557, rfl⟩
abbrev main_v464 : Ref sig .tc := ⟨.hbm, 558, rfl⟩
abbrev main_v465 : Ref sig .tc := ⟨.hbm, 559, rfl⟩
abbrev main_cst_90 : Ref sig .tc := ⟨.hbm, 560, rfl⟩
abbrev main_v466 : Ref sig .tc := ⟨.hbm, 561, rfl⟩
abbrev main_v467 : Ref sig .tc := ⟨.hbm, 562, rfl⟩
abbrev main_cst_91 : Ref sig .tc := ⟨.hbm, 563, rfl⟩
abbrev main_v468 : Ref sig .tc := ⟨.hbm, 564, rfl⟩
abbrev main_cst_92 : Ref sig .tc := ⟨.hbm, 565, rfl⟩
abbrev main_v469 : Ref sig .tc := ⟨.hbm, 566, rfl⟩
abbrev main_v470 : Ref sig .tc := ⟨.hbm, 567, rfl⟩
abbrev main_v471 : Ref sig .tc := ⟨.hbm, 568, rfl⟩
abbrev main_cst_93 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_v475 : Ref sig .tc := ⟨.hbm, 573, rfl⟩
abbrev main_v476 : Ref sig .tc := ⟨.hbm, 574, rfl⟩
abbrev main_cst_94 : Ref sig .tc := ⟨.hbm, 575, rfl⟩
abbrev main_v477 : Ref sig .tc := ⟨.hbm, 576, rfl⟩
abbrev main_v478 : Ref sig .tc := ⟨.hbm, 577, rfl⟩
abbrev main_cst_95 : Ref sig .tc := ⟨.hbm, 578, rfl⟩
abbrev main_v479 : Ref sig .tc := ⟨.hbm, 579, rfl⟩
abbrev main_cst_96 : Ref sig .tc := ⟨.hbm, 580, rfl⟩
abbrev main_v480 : Ref sig .tc := ⟨.hbm, 581, rfl⟩
abbrev main_v481 : Ref sig .tc := ⟨.hbm, 582, rfl⟩
abbrev main_v482 : Ref sig .tc := ⟨.hbm, 583, rfl⟩
abbrev main_cst_97 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_v486 : Ref sig .tc := ⟨.hbm, 588, rfl⟩
abbrev main_v487 : Ref sig .tc := ⟨.hbm, 589, rfl⟩
abbrev main_cst_98 : Ref sig .tc := ⟨.hbm, 590, rfl⟩
abbrev main_v488 : Ref sig .tc := ⟨.hbm, 591, rfl⟩
abbrev main_v489 : Ref sig .tc := ⟨.hbm, 592, rfl⟩
abbrev main_cst_99 : Ref sig .tc := ⟨.hbm, 593, rfl⟩
abbrev main_v490 : Ref sig .tc := ⟨.hbm, 594, rfl⟩
abbrev main_cst_100 : Ref sig .tc := ⟨.hbm, 595, rfl⟩
abbrev main_v491 : Ref sig .tc := ⟨.hbm, 596, rfl⟩
abbrev main_v492 : Ref sig .tc := ⟨.hbm, 597, rfl⟩
abbrev main_v493 : Ref sig .tc := ⟨.hbm, 598, rfl⟩
abbrev main_cst_101 : Ref sig .tc := ⟨.hbm, 599, rfl⟩
abbrev main_v494 : Ref sig .tc := ⟨.hbm, 600, rfl⟩
abbrev main_v495 : Ref sig .tc := ⟨.hbm, 601, rfl⟩
abbrev main_v496 : Ref sig .tc := ⟨.hbm, 602, rfl⟩
abbrev main_v497 : Ref sig .tc := ⟨.hbm, 603, rfl⟩
abbrev main_v498 : Ref sig .tc := ⟨.hbm, 604, rfl⟩
abbrev main_cst_102 : Ref sig .tc := ⟨.hbm, 605, rfl⟩
abbrev main_v499 : Ref sig .tc := ⟨.hbm, 606, rfl⟩
abbrev main_v500 : Ref sig .tc := ⟨.hbm, 607, rfl⟩
abbrev main_cst_103 : Ref sig .tc := ⟨.hbm, 608, rfl⟩
abbrev main_v501 : Ref sig .tc := ⟨.hbm, 609, rfl⟩
abbrev main_cst_104 : Ref sig .tc := ⟨.hbm, 610, rfl⟩
abbrev main_v502 : Ref sig .tc := ⟨.hbm, 611, rfl⟩
abbrev main_v503 : Ref sig .tc := ⟨.hbm, 612, rfl⟩
abbrev main_v504 : Ref sig .tc := ⟨.hbm, 613, rfl⟩
abbrev main_cst_105 : Ref sig .tc := ⟨.hbm, 614, rfl⟩
abbrev main_v505 : Ref sig .tc := ⟨.hbm, 615, rfl⟩
abbrev main_v506 : Ref sig .tc := ⟨.hbm, 616, rfl⟩
abbrev main_v507 : Ref sig .tc := ⟨.hbm, 617, rfl⟩
abbrev main_v508 : Ref sig .tc := ⟨.hbm, 618, rfl⟩
abbrev main_v509 : Ref sig .tc := ⟨.hbm, 619, rfl⟩
abbrev main_cst_106 : Ref sig .tc := ⟨.hbm, 620, rfl⟩
abbrev main_v510 : Ref sig .tc := ⟨.hbm, 621, rfl⟩
abbrev main_v511 : Ref sig .tc := ⟨.hbm, 622, rfl⟩
abbrev main_cst_107 : Ref sig .tc := ⟨.hbm, 623, rfl⟩
abbrev main_v512 : Ref sig .tc := ⟨.hbm, 624, rfl⟩
abbrev main_cst_108 : Ref sig .tc := ⟨.hbm, 625, rfl⟩
abbrev main_v513 : Ref sig .tc := ⟨.hbm, 626, rfl⟩
abbrev main_v514 : Ref sig .tc := ⟨.hbm, 627, rfl⟩
abbrev main_v515 : Ref sig .tc := ⟨.hbm, 628, rfl⟩
abbrev main_cst_109 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_v519 : Ref sig .tc := ⟨.hbm, 633, rfl⟩
abbrev main_v520 : Ref sig .tc := ⟨.hbm, 634, rfl⟩
abbrev main_cst_110 : Ref sig .tc := ⟨.hbm, 635, rfl⟩
abbrev main_v521 : Ref sig .tc := ⟨.hbm, 636, rfl⟩
abbrev main_v522 : Ref sig .tc := ⟨.hbm, 637, rfl⟩
abbrev main_cst_111 : Ref sig .tc := ⟨.hbm, 638, rfl⟩
abbrev main_v523 : Ref sig .tc := ⟨.hbm, 639, rfl⟩
abbrev main_cst_112 : Ref sig .tc := ⟨.hbm, 640, rfl⟩
abbrev main_v524 : Ref sig .tc := ⟨.hbm, 641, rfl⟩
abbrev main_v525 : Ref sig .tc := ⟨.hbm, 642, rfl⟩
abbrev main_v526 : Ref sig .tc := ⟨.hbm, 643, rfl⟩
abbrev main_cst_113 : Ref sig .tc := ⟨.hbm, 644, rfl⟩
abbrev main_v527 : Ref sig .tc := ⟨.hbm, 645, rfl⟩
abbrev main_v528 : Ref sig .tc := ⟨.hbm, 646, rfl⟩
abbrev main_v529 : Ref sig .tc := ⟨.hbm, 647, rfl⟩
abbrev main_v530 : Ref sig .tc := ⟨.hbm, 648, rfl⟩
abbrev main_v531 : Ref sig .tc := ⟨.hbm, 649, rfl⟩
abbrev main_cst_114 : Ref sig .tc := ⟨.hbm, 650, rfl⟩
abbrev main_v532 : Ref sig .tc := ⟨.hbm, 651, rfl⟩
abbrev main_v533 : Ref sig .tc := ⟨.hbm, 652, rfl⟩
abbrev main_cst_115 : Ref sig .tc := ⟨.hbm, 653, rfl⟩
abbrev main_v534 : Ref sig .tc := ⟨.hbm, 654, rfl⟩
abbrev main_cst_116 : Ref sig .tc := ⟨.hbm, 655, rfl⟩
abbrev main_v535 : Ref sig .tc := ⟨.hbm, 656, rfl⟩
abbrev main_v536 : Ref sig .tc := ⟨.hbm, 657, rfl⟩
abbrev main_v537 : Ref sig .tc := ⟨.hbm, 658, rfl⟩
abbrev main_cst_117 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_v541 : Ref sig .tc := ⟨.hbm, 663, rfl⟩
abbrev main_v542 : Ref sig .tc := ⟨.hbm, 664, rfl⟩
abbrev main_cst_118 : Ref sig .tc := ⟨.hbm, 665, rfl⟩
abbrev main_v543 : Ref sig .tc := ⟨.hbm, 666, rfl⟩
abbrev main_v544 : Ref sig .tc := ⟨.hbm, 667, rfl⟩
abbrev main_cst_119 : Ref sig .tc := ⟨.hbm, 668, rfl⟩
abbrev main_v545 : Ref sig .tc := ⟨.hbm, 669, rfl⟩
abbrev main_cst_120 : Ref sig .tc := ⟨.hbm, 670, rfl⟩
abbrev main_v546 : Ref sig .tc := ⟨.hbm, 671, rfl⟩
abbrev main_v547 : Ref sig .tc := ⟨.hbm, 672, rfl⟩
abbrev main_v548 : Ref sig .tc := ⟨.hbm, 673, rfl⟩
abbrev main_cst_121 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_v552 : Ref sig .tc := ⟨.hbm, 678, rfl⟩
abbrev main_v553 : Ref sig .tc := ⟨.hbm, 679, rfl⟩
abbrev main_cst_122 : Ref sig .tc := ⟨.hbm, 680, rfl⟩
abbrev main_v554 : Ref sig .tc := ⟨.hbm, 681, rfl⟩
abbrev main_v555 : Ref sig .tc := ⟨.hbm, 682, rfl⟩
abbrev main_cst_123 : Ref sig .tc := ⟨.hbm, 683, rfl⟩
abbrev main_v556 : Ref sig .tc := ⟨.hbm, 684, rfl⟩
abbrev main_cst_124 : Ref sig .tc := ⟨.hbm, 685, rfl⟩
abbrev main_v557 : Ref sig .tc := ⟨.hbm, 686, rfl⟩
abbrev main_v558 : Ref sig .tc := ⟨.hbm, 687, rfl⟩
abbrev main_v559 : Ref sig .tc := ⟨.hbm, 688, rfl⟩
abbrev main_cst_125 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_v563 : Ref sig .tc := ⟨.hbm, 693, rfl⟩
abbrev main_c : Ref sig .tc := ⟨.hbm, 694, rfl⟩
abbrev main_call0_v0 : Ref sig .tc := ⟨.hbm, 695, rfl⟩
abbrev main_v564 : Ref sig .tc := ⟨.hbm, 696, rfl⟩

abbrev nD : Nat := 1
abbrev τ : Topo := Topo.v7x

variable {F : FTy → Type} [FloatOps F]
-- ==== ConvFwd.lean ====
abbrev S2x4096x1024 : Shape := ⟨3, ![2, 4096, 1024]⟩
abbrev S31x1024 : Shape := ⟨2, ![31, 1024]⟩
abbrev S1x1024 : Shape := ⟨2, ![1, 1024]⟩
abbrev S_ : Shape := ⟨0, ![]⟩
abbrev S32x1024 : Shape := ⟨2, ![32, 1024]⟩
abbrev S1x256x128 : Shape := ⟨3, ![1, 256, 128]⟩
abbrev S32x128 : Shape := ⟨2, ![32, 128]⟩
abbrev S1x128 : Shape := ⟨2, ![1, 128]⟩
abbrev S288x128 : Shape := ⟨2, ![288, 128]⟩
abbrev S1x32x128 : Shape := ⟨3, ![1, 32, 128]⟩
abbrev S256x128 : Shape := ⟨2, ![256, 128]⟩

abbrev nBuf : Space → Nat
  | .hbm => 7
  | .vmem => 11
  | .smem => 0
  | _ => 0

abbrev bufTy : (tb : Table) → Fin (tcTables nBuf tb) → BufTy
  | .hbm, ⟨0, _⟩ => ⟨S2x4096x1024, .f32⟩
  | .hbm, ⟨1, _⟩ => ⟨S31x1024, .f32⟩
  | .hbm, ⟨2, _⟩ => ⟨S1x1024, .f32⟩
  | .hbm, ⟨3, _⟩ => ⟨S_, .i32⟩
  | .hbm, ⟨4, _⟩ => ⟨S_, .f32⟩
  | .hbm, ⟨5, _⟩ => ⟨S32x1024, .f32⟩
  | .hbm, ⟨6, _⟩ => ⟨S2x4096x1024, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S1x128, .f32⟩
  | .local _ .vmem, ⟨8, _⟩ => ⟨S1x256x128, .f32⟩
  | .local _ .vmem, ⟨9, _⟩ => ⟨S1x256x128, .f32⟩
  | .local _ .vmem, ⟨10, _⟩ => ⟨S288x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ConvFwdRefIdeal.lean ====
abbrev S2x4096x1024 : Shape := ⟨3, ![2, 4096, 1024]⟩
abbrev S31x1024 : Shape := ⟨2, ![31, 1024]⟩
abbrev S1x1024 : Shape := ⟨2, ![1, 1024]⟩
abbrev S_ : Shape := ⟨0, ![]⟩
abbrev S2x30x1024 : Shape := ⟨3, ![2, 30, 1024]⟩
abbrev S2x4126x1024 : Shape := ⟨3, ![2, 4126, 1024]⟩
abbrev S1024 : Shape := ⟨1, ![1024]⟩
abbrev S1x1x1024 : Shape := ⟨3, ![1, 1, 1024]⟩

abbrev nBuf : Space → Nat
  | .hbm => 228
  | .vmem => 0
  | .smem => 0
  | _ => 0

abbrev hbmTy0_0 (i : Nat) : BufTy := match i % 128 with
  | 0 => ⟨S2x4096x1024, .f32⟩
  | 1 => ⟨S31x1024, .f32⟩
  | 2 => ⟨S1x1024, .f32⟩
  | 3 => ⟨S_, .f32⟩
  | 4 => ⟨S2x30x1024, .f32⟩
  | 5 => ⟨S2x4126x1024, .f32⟩
  | 6 => ⟨S1x1024, .f32⟩
  | 7 => ⟨S1024, .f32⟩
  | 8 => ⟨S2x4096x1024, .f32⟩
  | 9 => ⟨S1x1x1024, .f32⟩
  | 10 => ⟨S2x4096x1024, .f32⟩
  | 11 => ⟨S2x4096x1024, .f32⟩
  | 12 => ⟨S_, .f32⟩
  | 13 => ⟨S2x4096x1024, .f32⟩
  | 14 => ⟨S2x4096x1024, .f32⟩
  | 15 => ⟨S1x1024, .f32⟩
  | 16 => ⟨S1024, .f32⟩
  | 17 => ⟨S2x4096x1024, .f32⟩
  | 18 => ⟨S1x1x1024, .f32⟩
  | 19 => ⟨S2x4096x1024, .f32⟩
  | 20 => ⟨S2x4096x1024, .f32⟩
  | 21 => ⟨S2x4096x1024, .f32⟩
  | 22 => ⟨S1x1024, .f32⟩
  | 23 => ⟨S1024, .f32⟩
  | 24 => ⟨S2x4096x1024, .f32⟩
  | 25 => ⟨S1x1x1024, .f32⟩
  | 26 => ⟨S2x4096x1024, .f32⟩
  | 27 => ⟨S2x4096x1024, .f32⟩
  | 28 => ⟨S2x4096x1024, .f32⟩
  | 29 => ⟨S1x1024, .f32⟩
  | 30 => ⟨S1024, .f32⟩
  | 31 => ⟨S2x4096x1024, .f32⟩
  | 32 => ⟨S1x1x1024, .f32⟩
  | 33 => ⟨S2x4096x1024, .f32⟩
  | 34 => ⟨S2x4096x1024, .f32⟩
  | 35 => ⟨S2x4096x1024, .f32⟩
  | 36 => ⟨S1x1024, .f32⟩
  | 37 => ⟨S1024, .f32⟩
  | 38 => ⟨S2x4096x1024, .f32⟩
  | 39 => ⟨S1x1x1024, .f32⟩
  | 40 => ⟨S2x4096x1024, .f32⟩
  | 41 => ⟨S2x4096x1024, .f32⟩
  | 42 => ⟨S2x4096x1024, .f32⟩
  | 43 => ⟨S1x1024, .f32⟩
  | 44 => ⟨S1024, .f32⟩
  | 45 => ⟨S2x4096x1024, .f32⟩
  | 46 => ⟨S1x1x1024, .f32⟩
  | 47 => ⟨S2x4096x1024, .f32⟩
  | 48 => ⟨S2x4096x1024, .f32⟩
  | 49 => ⟨S2x4096x1024, .f32⟩
  | 50 => ⟨S1x1024, .f32⟩
  | 51 => ⟨S1024, .f32⟩
  | 52 => ⟨S2x4096x1024, .f32⟩
  | 53 => ⟨S1x1x1024, .f32⟩
  | 54 => ⟨S2x4096x1024, .f32⟩
  | 55 => ⟨S2x4096x1024, .f32⟩
  | 56 => ⟨S2x4096x1024, .f32⟩
  | 57 => ⟨S1x1024, .f32⟩
  | 58 => ⟨S1024, .f32⟩
  | 59 => ⟨S2x4096x1024, .f32⟩
  | 60 => ⟨S1x1x1024, .f32⟩
  | 61 => ⟨S2x4096x1024, .f32⟩
  | 62 => ⟨S2x4096x1024, .f32⟩
  | 63 => ⟨S2x4096x1024, .f32⟩
  | 64 => ⟨S1x1024, .f32⟩
  | 65 => ⟨S1024, .f32⟩
  | 66 => ⟨S2x4096x1024, .f32⟩
  | 67 => ⟨S1x1x1024, .f32⟩
  | 68 => ⟨S2x4096x1024, .f32⟩
  | 69 => ⟨S2x4096x1024, .f32⟩
  | 70 => ⟨S2x4096x1024, .f32⟩
  | 71 => ⟨S1x1024, .f32⟩
  | 72 => ⟨S1024, .f32⟩
  | 73 => ⟨S2x4096x1024, .f32⟩
  | 74 => ⟨S1x1x1024, .f32⟩
  | 75 => ⟨S2x4096x1024, .f32⟩
  | 76 => ⟨S2x4096x1024, .f32⟩
  | 77 => ⟨S2x4096x1024, .f32⟩
  | 78 => ⟨S1x1024, .f32⟩
  | 79 => ⟨S1024, .f32⟩
  | 80 => ⟨S2x4096x1024, .f32⟩
  | 81 => ⟨S1x1x1024, .f32⟩
  | 82 => ⟨S2x4096x1024, .f32⟩
  | 83 => ⟨S2x4096x1024, .f32⟩
  | 84 => ⟨S2x4096x1024, .f32⟩
  | 85 => ⟨S1x1024, .f32⟩
  | 86 => ⟨S1024, .f32⟩
  | 87 => ⟨S2x4096x1024, .f32⟩
  | 88 => ⟨S1x1x1024, .f32⟩
  | 89 => ⟨S2x4096x1024, .f32⟩
  | 90 => ⟨S2x4096x1024, .f32⟩
  | 91 => ⟨S2x4096x1024, .f32⟩
  | 92 => ⟨S1x1024, .f32⟩
  | 93 => ⟨S1024, .f32⟩
  | 94 => ⟨S2x4096x1024, .f32⟩
  | 95 => ⟨S1x1x1024, .f32⟩
  | 96 => ⟨S2x4096x1024, .f32⟩
  | 97 => ⟨S2x4096x1024, .f32⟩
  | 98 => ⟨S2x4096x1024, .f32⟩
  | 99 => ⟨S1x1024, .f32⟩
  | 100 => ⟨S1024, .f32⟩
  | 101 => ⟨S2x4096x1024, .f32⟩
  | 102 => ⟨S1x1x1024, .f32⟩
  | 103 => ⟨S2x4096x1024, .f32⟩
  | 104 => ⟨S2x4096x1024, .f32⟩
  | 105 => ⟨S2x4096x1024, .f32⟩
  | 106 => ⟨S1x1024, .f32⟩
  | 107 => ⟨S1024, .f32⟩
  | 108 => ⟨S2x4096x1024, .f32⟩
  | 109 => ⟨S1x1x1024, .f32⟩
  | 110 => ⟨S2x4096x1024, .f32⟩
  | 111 => ⟨S2x4096x1024, .f32⟩
  | 112 => ⟨S2x4096x1024, .f32⟩
  | 113 => ⟨S1x1024, .f32⟩
  | 114 => ⟨S1024, .f32⟩
  | 115 => ⟨S2x4096x1024, .f32⟩
  | 116 => ⟨S1x1x1024, .f32⟩
  | 117 => ⟨S2x4096x1024, .f32⟩
  | 118 => ⟨S2x4096x1024, .f32⟩
  | 119 => ⟨S2x4096x1024, .f32⟩
  | 120 => ⟨S1x1024, .f32⟩
  | 121 => ⟨S1024, .f32⟩
  | 122 => ⟨S2x4096x1024, .f32⟩
  | 123 => ⟨S1x1x1024, .f32⟩
  | 124 => ⟨S2x4096x1024, .f32⟩
  | 125 => ⟨S2x4096x1024, .f32⟩
  | 126 => ⟨S2x4096x1024, .f32⟩
  | 127 => ⟨S1x1024, .f32⟩
  | _ => ⟨S2x4096x1024, .f32⟩

abbrev hbmTy0_1 (i : Nat) : BufTy := match i % 128 with
  | 0 => ⟨S1024, .f32⟩
  | 1 => ⟨S2x4096x1024, .f32⟩
  | 2 => ⟨S1x1x1024, .f32⟩
  | 3 => ⟨S2x4096x1024, .f32⟩
  | 4 => ⟨S2x4096x1024, .f32⟩
  | 5 => ⟨S2x4096x1024, .f32⟩
  | 6 => ⟨S1x1024, .f32⟩
  | 7 => ⟨S1024, .f32⟩
  | 8 => ⟨S2x4096x1024, .f32⟩
  | 9 => ⟨S1x1x1024, .f32⟩
  | 10 => ⟨S2x4096x1024, .f32⟩
  | 11 => ⟨S2x4096x1024, .f32⟩
  | 12 => ⟨S2x4096x1024, .f32⟩
  | 13 => ⟨S1x1024, .f32⟩
  | 14 => ⟨S1024, .f32⟩
  | 15 => ⟨S2x4096x1024, .f32⟩
  | 16 => ⟨S1x1x1024, .f32⟩
  | 17 => ⟨S2x4096x1024, .f32⟩
  | 18 => ⟨S2x4096x1024, .f32⟩
  | 19 => ⟨S2x4096x1024, .f32⟩
  | 20 => ⟨S1x1024, .f32⟩
  | 21 => ⟨S1024, .f32⟩
  | 22 => ⟨S2x4096x1024, .f32⟩
  | 23 => ⟨S1x1x1024, .f32⟩
  | 24 => ⟨S2x4096x1024, .f32⟩
  | 25 => ⟨S2x4096x1024, .f32⟩
  | 26 => ⟨S2x4096x1024, .f32⟩
  | 27 => ⟨S1x1024, .f32⟩
  | 28 => ⟨S1024, .f32⟩
  | 29 => ⟨S2x4096x1024, .f32⟩
  | 30 => ⟨S1x1x1024, .f32⟩
  | 31 => ⟨S2x4096x1024, .f32⟩
  | 32 => ⟨S2x4096x1024, .f32⟩
  | 33 => ⟨S2x4096x1024, .f32⟩
  | 34 => ⟨S1x1024, .f32⟩
  | 35 => ⟨S1024, .f32⟩
  | 36 => ⟨S2x4096x1024, .f32⟩
  | 37 => ⟨S1x1x1024, .f32⟩
  | 38 => ⟨S2x4096x1024, .f32⟩
  | 39 => ⟨S2x4096x1024, .f32⟩
  | 40 => ⟨S2x4096x1024, .f32⟩
  | 41 => ⟨S1x1024, .f32⟩
  | 42 => ⟨S1024, .f32⟩
  | 43 => ⟨S2x4096x1024, .f32⟩
  | 44 => ⟨S1x1x1024, .f32⟩
  | 45 => ⟨S2x4096x1024, .f32⟩
  | 46 => ⟨S2x4096x1024, .f32⟩
  | 47 => ⟨S2x4096x1024, .f32⟩
  | 48 => ⟨S1x1024, .f32⟩
  | 49 => ⟨S1024, .f32⟩
  | 50 => ⟨S2x4096x1024, .f32⟩
  | 51 => ⟨S1x1x1024, .f32⟩
  | 52 => ⟨S2x4096x1024, .f32⟩
  | 53 => ⟨S2x4096x1024, .f32⟩
  | 54 => ⟨S2x4096x1024, .f32⟩
  | 55 => ⟨S1x1024, .f32⟩
  | 56 => ⟨S1024, .f32⟩
  | 57 => ⟨S2x4096x1024, .f32⟩
  | 58 => ⟨S1x1x1024, .f32⟩
  | 59 => ⟨S2x4096x1024, .f32⟩
  | 60 => ⟨S2x4096x1024, .f32⟩
  | 61 => ⟨S2x4096x1024, .f32⟩
  | 62 => ⟨S1x1024, .f32⟩
  | 63 => ⟨S1024, .f32⟩
  | 64 => ⟨S2x4096x1024, .f32⟩
  | 65 => ⟨S1x1x1024, .f32⟩
  | 66 => ⟨S2x4096x1024, .f32⟩
  | 67 => ⟨S2x4096x1024, .f32⟩
  | 68 => ⟨S2x4096x1024, .f32⟩
  | 69 => ⟨S1x1024, .f32⟩
  | 70 => ⟨S1024, .f32⟩
  | 71 => ⟨S2x4096x1024, .f32⟩
  | 72 => ⟨S1x1x1024, .f32⟩
  | 73 => ⟨S2x4096x1024, .f32⟩
  | 74 => ⟨S2x4096x1024, .f32⟩
  | 75 => ⟨S2x4096x1024, .f32⟩
  | 76 => ⟨S1x1024, .f32⟩
  | 77 => ⟨S1024, .f32⟩
  | 78 => ⟨S2x4096x1024, .f32⟩
  | 79 => ⟨S1x1x1024, .f32⟩
  | 80 => ⟨S2x4096x1024, .f32⟩
  | 81 => ⟨S2x4096x1024, .f32⟩
  | 82 => ⟨S2x4096x1024, .f32⟩
  | 83 => ⟨S1x1024, .f32⟩
  | 84 => ⟨S1024, .f32⟩
  | 85 => ⟨S2x4096x1024, .f32⟩
  | 86 => ⟨S1x1x1024, .f32⟩
  | 87 => ⟨S2x4096x1024, .f32⟩
  | 88 => ⟨S2x4096x1024, .f32⟩
  | 89 => ⟨S2x4096x1024, .f32⟩
  | 90 => ⟨S1x1024, .f32⟩
  | 91 => ⟨S1024, .f32⟩
  | 92 => ⟨S2x4096x1024, .f32⟩
  | 93 => ⟨S1x1x1024, .f32⟩
  | 94 => ⟨S2x4096x1024, .f32⟩
  | 95 => ⟨S2x4096x1024, .f32⟩
  | 96 => ⟨S2x4096x1024, .f32⟩
  | 97 => ⟨S1x1x1024, .f32⟩
  | 98 => ⟨S2x4096x1024, .f32⟩
  | 99 => ⟨S2x4096x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩

abbrev nD : Nat := 1
abbrev τ : Topo := Topo.v7x

variable {F : FTy → Type} [FloatOps F]
-- ==== CAct.lean ====
abbrev S1x128x1024 : Shape := ⟨3, ![1, 128, 1024]⟩
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .local _ .vmem, ⟨0, _⟩ => ⟨S1x128x1024, .f32⟩
  | .local _ .vmem, ⟨1, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== CActRefIdeal.lean ====
abbrev S1x128x1024 : Shape := ⟨3, ![1, 128, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S_, .f32⟩
  | .hbm, ⟨4, _⟩ => ⟨S1x128x1024, .f32⟩
  | .hbm, ⟨5, _⟩ => ⟨S1x128x1024, .f32⟩
  | .hbm, ⟨6, _⟩ => ⟨S_, .f32⟩
  | .hbm, ⟨7, _⟩ => ⟨S1x128x1024, .f32⟩
  | .hbm, ⟨8, _⟩ => ⟨S1x128x1024, .f32⟩
  | .hbm, ⟨9, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== ModMm.lean ====
abbrev S128x1024 : Shape := ⟨2, ![128, 1024]⟩
abbrev S1024x1536 : Shape := ⟨2, ![1024, 1536]⟩
abbrev S128x1536 : Shape := ⟨2, ![128, 1536]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S1024x1536, .f32⟩
  | .hbm, ⟨2, _⟩ => ⟨S128x1536, .f32⟩
  | .local _ .vmem, ⟨0, _⟩ => ⟨S128x1024, .f32⟩
  | .local _ .vmem, ⟨1, _⟩ => ⟨S1024x1536, .f32⟩
  | .local _ .vmem, ⟨2, _⟩ => ⟨S128x1536, .f32⟩
  | .local _ .vmem, ⟨3, _⟩ => ⟨S8x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S128x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ModMmRefIdeal.lean ====
abbrev S128x1024 : Shape := ⟨2, ![128, 1024]⟩
abbrev S1024x1536 : Shape := ⟨2, ![1024, 1536]⟩
abbrev S128x1536 : Shape := ⟨2, ![128, 1536]⟩

abbrev nBuf : Space → Nat
  | .hbm => 3
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1536, .f32⟩
  | .hbm, ⟨2, _⟩ => ⟨S128x1536, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ModDw.lean ====
abbrev S128x1024 : Shape := ⟨2, ![128, 1024]⟩
abbrev S128x1536 : Shape := ⟨2, ![128, 1536]⟩
abbrev S1024x1536 : Shape := ⟨2, ![1024, 1536]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S128x1536, .f32⟩
  | .hbm, ⟨2, _⟩ => ⟨S1024x1536, .f32⟩
  | .local _ .vmem, ⟨0, _⟩ => ⟨S128x1024, .f32⟩
  | .local _ .vmem, ⟨1, _⟩ => ⟨S128x1536, .f32⟩
  | .local _ .vmem, ⟨2, _⟩ => ⟨S1024x1536, .f32⟩
  | .local _ .vmem, ⟨3, _⟩ => ⟨S8x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S128x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ModDwRefIdeal.lean ====
abbrev S128x1024 : Shape := ⟨2, ![128, 1024]⟩
abbrev S128x1536 : Shape := ⟨2, ![128, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1536, .f32⟩
  | .hbm, ⟨2, _⟩ => ⟨S_, .f32⟩
  | .hbm, ⟨3, _⟩ => ⟨S1024x1536, .f32⟩
  | .hbm, ⟨4, _⟩ => ⟨S128x1536, .f32⟩
  | .hbm, ⟨5, _⟩ => ⟨S1536x1024, .f32⟩
  | .hbm, ⟨6, _⟩ => ⟨S1024x1536, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModBias.lean ====
abbrev S4x2x6144 : Shape := ⟨3, ![4, 2, 6144]⟩
abbrev S4x6144 : Shape := ⟨2, ![4, 6144]⟩
abbrev S4x1x6144 : Shape := ⟨3, ![4, 1, 6144]⟩
abbrev S1x2x6144 : Shape := ⟨3, ![1, 2, 6144]⟩
abbrev S1x1x6144 : Shape := ⟨3, ![1, 1, 6144]⟩
abbrev S2x6144 : Shape := ⟨2, ![2, 6144]⟩
abbrev S1x6144 : Shape := ⟨2, ![1, 6144]⟩

abbrev nBuf : Space → Nat
  | .hbm => 4
  | .vmem => 6
  | .smem => 0
  | _ => 0

abbrev bufTy : (tb : Table) → Fin (tcTables nBuf tb) → BufTy
  | .hbm, ⟨0, _⟩ => ⟨S4x2x6144, .f32⟩
  | .hbm, ⟨1, _⟩ => ⟨S4x6144, .f32⟩
  | .hbm, ⟨2, _⟩ => ⟨S4x1x6144, .f32⟩
  | .hbm, ⟨3, _⟩ => ⟨S4x2x6144, .f32⟩
  | .local _ .vmem, ⟨0, _⟩ => ⟨S1x2x6144, .f32⟩
  | .local _ .vmem, ⟨1, _⟩ => ⟨S1x2x6144, .f32⟩
  | .local _ .vmem, ⟨2, _⟩ => ⟨S1x1x6144, .f32⟩
  | .local _ .vmem, ⟨3, _⟩ => ⟨S1x1x6144, .f32⟩
  | .local _ .vmem, ⟨4, _⟩ => ⟨S1x2x6144, .f32⟩
  | .local _ .vmem, ⟨5, _⟩ => ⟨S1x2x6144, .f32⟩
  | _, _ => ⟨S4x2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ModBiasRefIdeal.lean ====
abbrev S4x2x6144 : Shape := ⟨3, ![4, 2, 6144]⟩
abbrev S4x6144 : Shape := ⟨2, ![4, 6144]⟩
abbrev S4x1x6144 : Shape := ⟨3, ![4, 1, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4x2x6144, .f32⟩
  | .hbm, ⟨1, _⟩ => ⟨S4x6144, .f32⟩
  | .hbm, ⟨2, _⟩ => ⟨S4x1x6144, .f32⟩
  | .hbm, ⟨3, _⟩ => ⟨S4x2x6144, .f32⟩
  | .hbm, ⟨4, _⟩ => ⟨S4x2x6144, .f32⟩
  | _, _ => ⟨S4x2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LnB.lean ====
abbrev S2x4096x1024 : Shape := ⟨3, ![2, 4096, 1024]⟩
abbrev S2x1x1024 : Shape := ⟨3, ![2, 1, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 17
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S2x4096x1024, .f32⟩
  | .hbm, ⟨9, _⟩ => ⟨S2x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .bf16⟩
  | .local _ .vmem, ⟨16, _⟩ => ⟨S1x256x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LnBRefIdeal.lean ====
abbrev S2x4096x1024 : Shape := ⟨3, ![2, 4096, 1024]⟩
abbrev S2x1x1024 : Shape := ⟨3, ![2, 1, 1024]⟩
abbrev S1x1024 : Shape := ⟨2, ![1, 1024]⟩
abbrev S_ : Shape := ⟨0, ![]⟩
abbrev S1x1x1024 : Shape := ⟨3, ![1, 1, 1024]⟩
abbrev S2x4096 : Shape := ⟨2, ![2, 4096]⟩
abbrev S2x4096x1 : Shape := ⟨3, ![2, 4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S_, .f32⟩
  | .hbm, ⟨9, _⟩ => ⟨S2x4096x1024, .f32⟩
  | .hbm, ⟨10, _⟩ => ⟨S2x4096x1024, .f32⟩
  | .hbm, ⟨11, _⟩ => ⟨S_, .f32⟩
  | .hbm, ⟨12, _⟩ => ⟨S2x1x1024, .f32⟩
  | .hbm, ⟨13, _⟩ => ⟨S2x1x1024, .f32⟩
  | .hbm, ⟨14, _⟩ => ⟨S1x1x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x4096, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | .hbm, ⟨41, _⟩ => ⟨S1x1x1024, .f32⟩
  | .hbm, ⟨42, _⟩ => ⟨S2x4096x1024, .f32⟩
  | .hbm, ⟨43, _⟩ => ⟨S2x4096x1024, .f32⟩
  | .hbm, ⟨44, _⟩ => ⟨S1x1x1024, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S2x1x1024, .f32⟩
  | .hbm, ⟨49, _⟩ => ⟨S2x1x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== LnLast.lean ====
abbrev S2x4096x1024 : Shape := ⟨3, ![2, 4096, 1024]⟩
abbrev S2x1x1024 : Shape := ⟨3, ![2, 1, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S2x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LnLastRefIdeal.lean ====
abbrev S2x4096x1024 : Shape := ⟨3, ![2, 4096, 1024]⟩
abbrev S2x1x1024 : Shape := ⟨3, ![2, 1, 1024]⟩
abbrev S1x1024 : Shape := ⟨2, ![1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x1024, .f32⟩
  | .hbm, ⟨34, _⟩ => ⟨S2x4096x1024, .f32⟩
  | .hbm, ⟨35, _⟩ => ⟨S1x1x1024, .f32⟩
  | .hbm, ⟨36, _⟩ => ⟨S2x4096x1024, .f32⟩
  | .hbm, ⟨37, _⟩ => ⟨S2x4096x1024, .f32⟩
  | .hbm, ⟨38, _⟩ => ⟨S1x1x1024, .f32⟩
  | .hbm, ⟨39, _⟩ => ⟨S2x4096x1024, .f32⟩
  | .hbm, ⟨40, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== GmAct.lean ====
abbrev S2x4096x2048 : Shape := ⟨3, ![2, 4096, 2048]⟩
abbrev S1x2048 : Shape := ⟨2, ![1, 2048]⟩
abbrev S1x1024 : Shape := ⟨2, ![1, 1024]⟩
abbrev S2x4096x1024 : Shape := ⟨3, ![2, 4096, 1024]⟩
abbrev S1x256x2048 : Shape := ⟨3, ![1, 256, 2048]⟩
abbrev S1x256x1024 : Shape := ⟨3, ![1, 256, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x1024, .f32⟩
  | .hbm, ⟨3, _⟩ => ⟨S1x1024, .f32⟩
  | .hbm, ⟨4, _⟩ => ⟨S2x4096x1024, .f32⟩
  | .hbm, ⟨5, _⟩ => ⟨S2x4096x1024, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1024, .f32⟩
  | .local _ .vmem, ⟨4, _⟩ => ⟨S1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .bf16⟩
  | .local _ .vmem, ⟨8, _⟩ => ⟨S1x256x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GmActRefIdeal.lean ====
abbrev S2x4096x2048 : Shape := ⟨3, ![2, 4096, 2048]⟩
abbrev S1x2048 : Shape := ⟨2, ![1, 2048]⟩
abbrev S1x1024 : Shape := ⟨2, ![1, 1024]⟩
abbrev S1x1x2048 : Shape := ⟨3, ![1, 1, 2048]⟩
abbrev S_ : Shape := ⟨0, ![]⟩
abbrev S2x4096x1024 : Shape := ⟨3, ![2, 4096, 1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x1024, .f32⟩
  | .hbm, ⟨3, _⟩ => ⟨S1x1024, .f32⟩
  | .hbm, ⟨4, _⟩ => ⟨S1x1x2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S_, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x4096, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S2x4096x1, .f32⟩
  | .hbm, ⟨37, _⟩ => ⟨S2x4096x1024, .f32⟩
  | .hbm, ⟨38, _⟩ => ⟨S2x4096x1024, .f32⟩
  | .hbm, ⟨39, _⟩ => ⟨S1x1x1024, .f32⟩
  | .hbm, ⟨40, _⟩ => ⟨S2x4096x1024, .f32⟩
  | .hbm, ⟨41, _⟩ => ⟨S2x4096x1024, .f32⟩
  | .hbm, ⟨42, _⟩ => ⟨S1x1x1024, .f32⟩
  | .hbm, ⟨43, _⟩ => ⟨S2x4096x1024, .f32⟩
  | .hbm, ⟨44, _⟩ => ⟨S2x4096x1024, .f32⟩
  | .hbm, ⟨45, _⟩ => ⟨S2x4096x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== AdamMod.lean ====
abbrev S4x1024x1536 : Shape := ⟨3, ![4, 1024, 1536]⟩
abbrev S1x4096x1536 : Shape := ⟨3, ![1, 4096, 1536]⟩
abbrev S1x512x1536 : Shape := ⟨3, ![1, 512, 1536]⟩
abbrev S512x1536 : Shape := ⟨2, ![512, 1536]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S1x4096x1536, .f32⟩
  | .hbm, ⟨5, _⟩ => ⟨S1x4096x1536, .f32⟩
  | .hbm, ⟨6, _⟩ => ⟨S1x4096x1536, .f32⟩
  | .hbm, ⟨7, _⟩ => ⟨S1x4096x1536, .f32⟩
  | .hbm, ⟨8, _⟩ => ⟨S1x4096x1536, .f32⟩
  | .hbm, ⟨9, _⟩ => ⟨S1x4096x1536, .f32⟩
  | .hbm, ⟨10, _⟩ => ⟨S1x4096x1536, .f32⟩
  | .local _ .vmem, ⟨0, _⟩ => ⟨S1x512x1536, .f32⟩
  | .local _ .vmem, ⟨1, _⟩ => ⟨S1x512x1536, .f32⟩
  | .local _ .vmem, ⟨2, _⟩ => ⟨S1x512x1536, .f32⟩
  | .local _ .vmem, ⟨3, _⟩ => ⟨S1x512x1536, .f32⟩
  | .local _ .vmem, ⟨4, _⟩ => ⟨S1x512x1536, .f32⟩
  | .local _ .vmem, ⟨5, _⟩ => ⟨S1x512x1536, .f32⟩
  | .local _ .vmem, ⟨6, _⟩ => ⟨S1x512x1536, .f32⟩
  | .local _ .vmem, ⟨7, _⟩ => ⟨S1x512x1536, .f32⟩
  | .local _ .vmem, ⟨8, _⟩ => ⟨S1x512x1536, .f32⟩
  | .local _ .vmem, ⟨9, _⟩ => ⟨S1x512x1536, .f32⟩
  | .local _ .vmem, ⟨10, _⟩ => ⟨S1x512x1536, .f32⟩
  | .local _ .vmem, ⟨11, _⟩ => ⟨S1x512x1536, .f32⟩
  | .local _ .vmem, ⟨12, _⟩ => ⟨S1x512x1536, .f32⟩
  | .local _ .vmem, ⟨13, _⟩ => ⟨S1x512x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamModRefIdeal.lean ====
abbrev S4x1024x1536 : Shape := ⟨3, ![4, 1024, 1536]⟩
abbrev S_ : Shape := ⟨0, ![]⟩
abbrev S1x4096x1536 : Shape := ⟨3, ![1, 4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S1x4096x1536, .f32⟩
  | .hbm, ⟨38, _⟩ => ⟨S1x4096x1536, .f32⟩
  | .hbm, ⟨39, _⟩ => ⟨S1x4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S4x704x1024 : Shape := ⟨3, ![4, 704, 1024]⟩
abbrev S1x2816x1024 : Shape := ⟨3, ![1, 2816, 1024]⟩
abbrev S1x352x1024 : Shape := ⟨3, ![1, 352, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S1x2816x1024, .f32⟩
  | .hbm, ⟨5, _⟩ => ⟨S1x2816x1024, .f32⟩
  | .hbm, ⟨6, _⟩ => ⟨S1x2816x1024, .f32⟩
  | .hbm, ⟨7, _⟩ => ⟨S1x2816x1024, .f32⟩
  | .hbm, ⟨8, _⟩ => ⟨S1x2816x1024, .f32⟩
  | .hbm, ⟨9, _⟩ => ⟨S1x2816x1024, .f32⟩
  | .hbm, ⟨10, _⟩ => ⟨S1x2816x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutRefIdeal.lean ====
abbrev S4x704x1024 : Shape := ⟨3, ![4, 704, 1024]⟩
abbrev S_ : Shape := ⟨0, ![]⟩
abbrev S1x2816x1024 : Shape := ⟨3, ![1, 2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S1x2816x1024, .f32⟩
  | .hbm, ⟨38, _⟩ => ⟨S1x2816x1024, .f32⟩
  | .hbm, ⟨39, _⟩ => ⟨S1x2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.GmSpec.lean ====
module

public import Idealize.ShloMosaic.Lib.Pipeline.ValueKit
public import Idealize.ShloMosaic.Lib.WordCmp

@[expose] public section

noncomputable section

namespace Cert.Gm

open Idealize.ShloMosaic

/-- A comparison of two small numbers kept as words. -/
theorem sel_ge {a b : ℕ} (ha : a < 128) (hb : b < 128) (v : EReal) :
    Scalar.select (IntOp.cmpi CmpIPredicate.sge (IntOp.addi (BitVec.ofNat 32 a) 0#32) (BitVec.ofNat 32 b)) v 0
      = if b ≤ a then v else 0 := by
  have e : IntOp.addi (BitVec.ofNat 32 a) 0#32 = BitVec.ofNat 32 a := by simp [IntOp.addi]
  have ea : (BitVec.ofNat 32 a).toNat = a := by simp; omega
  have eb : (BitVec.ofNat 32 b).toNat = b := by simp; omega
  rw [e, WordCmp.cmpi_sge_of_lt (by omega) (by omega), ea, eb]
  by_cases h : b ≤ a
  · rw [if_pos h, decide_eq_true h]; rfl
  · rw [if_neg h, decide_eq_false h]; rfl

/-- The same comparison, the other way round. -/
theorem sel_le {a b : ℕ} (ha : a < 128) (hb : b < 128) (v : EReal) :
    Scalar.select (IntOp.cmpi CmpIPredicate.sle (BitVec.ofNat 32 a) (BitVec.ofNat 32 b)) v 0
      = if a ≤ b then v else 0 := by
  have ea : (BitVec.ofNat 32 a).toNat = a := by simp; omega
  have eb : (BitVec.ofNat 32 b).toNat = b := by simp; omega
  rw [WordCmp.cmpi_sle_of_lt (by omega) (by omega), ea, eb]
  by_cases h : a ≤ b
  · rw [if_pos h, decide_eq_true h]; rfl
  · rw [if_neg h, decide_eq_false h]; rfl

/-- The activations: batch, position, feature. -/
abbrev Act : Shape := ⟨3, ![2, 4096, 1024]⟩
/-- The gate's eight spatial matrices. -/
abbrev Mat : Shape := ⟨3, ![8, 128, 128]⟩
/-- The gate's bias, one row per group. -/
abbrev Bias : Shape := ⟨2, ![8, 128]⟩
/-- The gate's bias, one column per group. -/
abbrev BiasT : Shape := ⟨2, ![128, 8]⟩

/-- Position `n * 128 + r` of the sequence: row `r` of chunk `n`. -/
def pos (n : Fin 32) (r : Fin 128) : Fin 4096 := ⟨n.val * 128 + r.val, by omega⟩

/-- Feature `g * 128 + l`: lane `l` of group `g`. -/
def feat (g : Fin 8) (l : Fin 128) : Fin 1024 := ⟨g.val * 128 + l.val, by omega⟩

/-- The chunk of a position. -/
def chunk (s : Fin 4096) : Fin 32 := ⟨s.val / 128, by omega⟩

/-- The row of a position in its chunk. -/
def row (s : Fin 4096) : Fin 128 := ⟨s.val % 128, by omega⟩

/-- The group of a feature. -/
def grp (l : Fin 1024) : Fin 8 := ⟨l.val / 128, by omega⟩

/-- The gated factor's gradient: the incoming gradient times the causal mix of the chunk plus the bias. -/
def du (dy vn : Act.Idx → EReal) (w : Mat.Idx → EReal) (bias : Bias.Idx → EReal) : Act.Idx → EReal := fun i =>
  dy i * ((∑ k : Fin 128, if k.val ≤ (row (i 1)).val then
      w (ix3 (grp (i 2)) (row (i 1)) k) * vn (ix3 (i 0 : Fin 2) (pos (chunk (i 1)) k) (i 2 : Fin 1024)) else 0)
    + bias (ix2 (grp (i 2)) (row (i 1))))

/-- The mixed factor's gradient: the transposed causal mix of `dy * u`. -/
def dv (dy u : Act.Idx → EReal) (w : Mat.Idx → EReal) : Act.Idx → EReal := fun i =>
  ∑ k : Fin 128, if (row (i 1)).val ≤ k.val then
    w (ix3 (grp (i 2)) k (row (i 1))) *
      (dy (ix3 (i 0 : Fin 2) (pos (chunk (i 1)) k) (i 2 : Fin 1024)) * u (ix3 (i 0 : Fin 2) (pos (chunk (i 1)) k) (i 2 : Fin 1024)))
    else 0

/-- One chunk's part of the spatial matrices' gradient. -/
def dwPart (dy u vn : Act.Idx → EReal) (b : Fin 2) (n : Fin 32) (i : Mat.Idx) : EReal :=
  if (i 2 : Fin 128).val ≤ (i 1 : Fin 128).val then
    ∑ l : Fin 128, dy (ix3 b (pos n (i 1)) (feat (i 0) l)) * u (ix3 b (pos n (i 1)) (feat (i 0) l))
      * vn (ix3 b (pos n (i 2)) (feat (i 0) l)) else 0

/-- The spatial matrices' gradient: the sum over the batch and the chunks. -/
def dw (dy u vn : Act.Idx → EReal) : Mat.Idx → EReal := fun i =>
  ∑ b : Fin 2, ∑ n : Fin 32, dwPart dy u vn b n i

/-- One chunk's part of the bias' gradient. -/
def dbPart (dy u : Act.Idx → EReal) (b : Fin 2) (n : Fin 32) (i : BiasT.Idx) : EReal :=
  ∑ l : Fin 128, dy (ix3 b (pos n (i 0)) (feat (i 1) l)) * u (ix3 b (pos n (i 0)) (feat (i 1) l))

/-- The bias' gradient: the sum over the batch and the chunks. -/
def db (dy u : Act.Idx → EReal) : BiasT.Idx → EReal := fun i =>
  ∑ b : Fin 2, ∑ n : Fin 32, dbPart dy u b n i

end Cert.Gm

end
-- ==== Proof.GmRef.lean ====
module

public import proofs.«01_k».proof.Defs
public import proofs.«01_k».proof.Proof.Gen.ReferenceIdeal
public import proofs.«01_k».proof.Proof.Gen.ReferenceIdeal.Run
public import Idealize.ShloMosaic.Lib.Pipeline.ValueKit
public import Idealize.ShloMosaic.Lib.Claim
public import proofs.«01_k».proof.Proof.GmSpec

@[expose] public section

set_option maxRecDepth 16384

noncomputable section

namespace Cert.ReferenceIdeal.Gm

open Cert.ReferenceIdeal Cert.ReferenceIdeal.Gen Idealize.ShloMosaic Idealize.ShloMosaic.TcCoe Idealize.SL.Sem

/-- The lower-triangular mask, ones on and below the diagonal. -/
def tril : FVec Ideal S1x128x128 .f32 :=
  broadcastInDim S1x128x128 ![1, 2] bcast_S128x128_S1x128x128_1_2
    (select (cmpi .sge (addi (iotaInDim S128x128 32 0) (broadcastInDim S128x128 ![] bcast_S_S128x128 (constantI S_ 32 0#32)))
        (iotaInDim S128x128 32 1))
      (broadcastInDim S128x128 ![] bcast_S_S128x128 (constant S_ .f32 0x3F800000#32))
      (broadcastInDim S128x128 ![] bcast_S_S128x128 (constant S_ .f32 0x00000000#32)))

/-- The masked spatial matrices. -/
def wm (X3 : FVec Ideal S8x128x128 .f32) : FVec Ideal S8x128x128 .f32 :=
  mulf X3 (broadcastInDim S8x128x128 ![0, 1, 2] bcast_S1x128x128_S8x128x128_0_1_2 tril)

/-- The mixed factor, split into chunks and groups. -/
def v5 (X2 : FVec Ideal S2x4096x1024 .bf16) : FVec Ideal S2x32x128x8x128 .f32 :=
  shapeCast S2x32x128x8x128 (extf .f32 X2 bitsLt_bf16_f32) shapeCasts_S2x4096x1024_S2x32x128x8x128

/-- The gate's gradient, split into chunks and groups. -/
def dsv (X0 X1 : FVec Ideal S2x4096x1024 .f32) : FVec Ideal S2x32x128x8x128 .f32 :=
  shapeCast S2x32x128x8x128 (mulf X1 X0) shapeCasts_S2x4096x1024_S2x32x128x8x128

/-- The same, group first. -/
def dsvT (X0 X1 : FVec Ideal S2x4096x1024 .f32) : FVec Ideal S8x2x32x128x128 .f32 :=
  transpose S8x2x32x128x128 [3, 0, 1, 4, 2] (dsv X0 X1) transposes_S2x32x128x8x128_S8x2x32x128x128_3_0_1_4_2

/-- The reference's first result. -/
def rDu (X0 : FVec Ideal S2x4096x1024 .f32) (X2 : FVec Ideal S2x4096x1024 .bf16) (X3 : FVec Ideal S8x128x128 .f32)
    (X4 : FVec Ideal S8x128 .f32) : FVec Ideal S2x4096x1024 .f32 :=
  mulf X0 (shapeCast S2x4096x1024
    (addf (transpose S2x32x128x8x128 [1, 2, 4, 0, 3]
        (Host.dotGeneral dot_S2x32x128x8x128_S8x128x128_S8x2x32x128x128_2_2_014_1_3_0 none (v5 X2) (wm X3))
        transposes_S8x2x32x128x128_S2x32x128x8x128_1_2_4_0_3)
      (broadcastInDim S2x32x128x8x128 ![0, 1, 2, 3, 4] bcast_S1x1x128x8x1_S2x32x128x8x128_0_1_2_3_4
        (broadcastInDim S1x1x128x8x1 ![2, 3] bcast_S128x8_S1x1x128x8x1_2_3
          (transpose S128x8 [1, 0] X4 transposes_S8x128_S128x8_1_0))))
    shapeCasts_S2x32x128x8x128_S2x4096x1024)

/-- The reference's second result. -/
def rDv (X0 X1 : FVec Ideal S2x4096x1024 .f32) (X3 : FVec Ideal S8x128x128 .f32) : FVec Ideal S2x4096x1024 .f32 :=
  shapeCast S2x4096x1024
    (transpose S2x32x128x8x128 [1, 2, 4, 0, 3]
      (Host.dotGeneral dot_S8x2x32x128x128_S8x128x128_S8x2x32x128x128_4_1_123_2_0_0 none (dsvT X0 X1) (wm X3))
      transposes_S8x2x32x128x128_S2x32x128x8x128_1_2_4_0_3)
    shapeCasts_S2x32x128x8x128_S2x4096x1024

/-- The reference's third result. -/
def rDw (X0 X1 : FVec Ideal S2x4096x1024 .f32) (X2 : FVec Ideal S2x4096x1024 .bf16) : FVec Ideal S8x128x128 .f32 :=
  mulf (Host.dotGeneral dot_S8x2x32x128x128_S2x32x128x8x128_S8x128x128_123_014_4_2_0_3 none (dsvT X0 X1) (v5 X2))
    (broadcastInDim S8x128x128 ![0, 1, 2] bcast_S1x128x128_S8x128x128_0_1_2 tril)

/-- The reference's fourth result. -/
def rDb (X0 X1 : FVec Ideal S2x4096x1024 .f32) : FVec Ideal S128x8 .f32 :=
  transpose S128x8 [1, 0] (transpose S8x128 [1, 0]
    (Host.reduceAdd (shapeCast S1x1x128x8x1
        (Host.reduceAdd (dsv X0 X1) (constant S_ .f32 0x00000000#32) reducesTo_S2x32x128x8x128_S128x8_d0_1_4 h_S_)
        shapeCasts_S128x8_S1x1x128x8x1)
      (constant S_ .f32 0x00000000#32) reducesTo_S1x1x128x8x1_S128x8_d0_1_4 h_S_)
    transposes_S128x8_S8x128_1_0) transposes_S8x128_S128x8_1_0

theorem rDu_eq (X0 X2 X3 X4) : rDu X0 X2 X3 X4 = Cert.Gm.du X0 X2 X3 X4 := by
  funext i; idx_vars i
  pointwise [rDu, v5, wm, tril, Cert.Gm.du]
  refine Ideal.mul_congr rfl (Ideal.add_congr (Finset.sum_congr rfl fun k _ => ?_) rfl)
  rw [Cert.Gm.sel_ge (by omega) k.isLt, mul_comm (X2 _)]
  rfl

theorem rDv_eq (X0 X1 X3) : rDv X0 X1 X3 = Cert.Gm.dv X0 X1 X3 := by
  funext i; idx_vars i
  pointwise [rDv, dsv, dsvT, wm, tril, Cert.Gm.dv]
  refine Finset.sum_congr rfl fun k _ => ?_
  rw [Cert.Gm.sel_ge k.isLt (by omega), mul_comm _ (X3 _), mul_comm (X1 _)]
  rfl

/-- The index of the contraction over batch, chunk and lane. -/
def cix (a : Fin 2) (b : Fin 32) (c : Fin 128) :
    dot_S8x2x32x128x128_S2x32x128x8x128_S8x128x128_123_014_4_2_0_3.contr.Idx := fun q =>
  match q with
  | ⟨0, _⟩ => a
  | ⟨1, _⟩ => b
  | ⟨2, _⟩ => c

theorem sum_cix (f : dot_S8x2x32x128x128_S2x32x128x8x128_S8x128x128_123_014_4_2_0_3.contr.Idx → EReal) :
    ∑ k, f k = ∑ a, ∑ b, ∑ c, f (cix a b c) := by
  rw [← Fintype.sum_equiv ⟨fun p : Fin 2 × Fin 32 × Fin 128 => cix p.1 p.2.1 p.2.2,
    fun k => (k ⟨0, by decide⟩, k ⟨1, by decide⟩, k ⟨2, by decide⟩), fun _ => rfl,
    fun k => by funext q; match q with | ⟨0, _⟩ => rfl | ⟨1, _⟩ => rfl | ⟨2, _⟩ => rfl⟩
    (fun p => f (cix p.1 p.2.1 p.2.2)) f fun _ => rfl]
  simp only [Fintype.sum_prod_type]

theorem rDw_eq (X0 X1 X2) : rDw X0 X1 X2 = Cert.Gm.dw X0 X1 X2 := by
  funext i; idx_vars i
  pointwise [rDw, v5, tril, Cert.Gm.dw, Cert.Gm.dwPart]
  rw [Cert.Gm.sel_ge i1.isLt i2.isLt]
  by_cases h : (i2 : ℕ) ≤ i1
  · simp only [if_pos h]
    unfold Ideal.matmul
    rw [sum_cix]
    refine (zero_add _).trans (Finset.sum_congr rfl fun a _ => Finset.sum_congr rfl fun b _ => Finset.sum_congr rfl fun l _ => ?_)
    have e1 : dot_S8x2x32x128x128_S2x32x128x8x128_S8x128x128_123_014_4_2_0_3.lhsIdx (ix3 i0 i1 i2) (cix a b l) = ix5 i0 a b l i1 := by
      funext q; match q with | ⟨0, _⟩ => rfl | ⟨1, _⟩ => rfl | ⟨2, _⟩ => rfl | ⟨3, _⟩ => rfl | ⟨4, _⟩ => rfl
    have e2 : dot_S8x2x32x128x128_S2x32x128x8x128_S8x128x128_123_014_4_2_0_3.rhsIdx (ix3 i0 i1 i2) (cix a b l) = ix5 a b i2 i0 l := by
      funext q; match q with | ⟨0, _⟩ => rfl | ⟨1, _⟩ => rfl | ⟨2, _⟩ => rfl | ⟨3, _⟩ => rfl | ⟨4, _⟩ => rfl
    rw [e1, e2]
    pointwise [dsv, dsvT]
    rw [mul_comm (X1 _)]
    rfl
  · simp only [if_neg h, Finset.sum_const_zero]

theorem drop5 (v : (⟨5, ![2, 32, 128, 8, 128]⟩ : Shape).Idx → EReal) (r : Fin 128) (g : Fin 8) :
    Ideal.hostReduceAdd reducesTo_S2x32x128x8x128_S128x8_d0_1_4 v 0 (ix2 r g) = ∑ a : Fin 2, ∑ b : Fin 32, ∑ c : Fin 128, v (ix5 a b r g c) := by
  unfold Ideal.hostReduceAdd
  rw [zero_add, Finset.sum_filter_eq_sum_of_fiber _ (fun k : Fin 2 × Fin 32 × Fin 128 => ix5 k.1 k.2.1 r g k.2.2)
    (fun _ _ e => Prod.ext (congrFun e 0) (Prod.ext (congrFun e 1) (congrFun e 4))) ?_ v]
  · simp only [Fintype.sum_prod_type]
  · intro i
    constructor
    · intro e
      refine ⟨(i 0, i 1, i 4), ?_⟩
      have e0 := congrArg Fin.val (congrFun e 0)
      have e1 := congrArg Fin.val (congrFun e 1)
      funext q
      match q with
      | ⟨0, _⟩ => rfl
      | ⟨1, _⟩ => rfl
      | ⟨2, _⟩ => exact Fin.ext e0.symm
      | ⟨3, _⟩ => exact Fin.ext e1.symm
      | ⟨4, _⟩ => rfl
    · rintro ⟨k, rfl⟩
      funext q; match q with | ⟨0, _⟩ => rfl | ⟨1, _⟩ => rfl

theorem drop1 (v : (⟨5, ![1, 1, 128, 8, 1]⟩ : Shape).Idx → EReal) (r : Fin 128) (g : Fin 8) :
    Ideal.hostReduceAdd reducesTo_S1x1x128x8x1_S128x8_d0_1_4 v 0 (ix2 r g) = v (ix5 0 0 r g 0) := by
  unfold Ideal.hostReduceAdd
  rw [zero_add, Finset.sum_filter_eq_sum_of_fiber _ (fun k : Unit => ix5 0 0 r g 0)
    (fun _ _ e => rfl) ?_ v]
  · simp only [Finset.univ_unique, Finset.sum_singleton]
  · intro i
    constructor
    · intro e
      refine ⟨(), ?_⟩
      have e0 := congrArg Fin.val (congrFun e 0)
      have e1 := congrArg Fin.val (congrFun e 1)
      funext q
      match q with
      | ⟨0, _⟩ => exact Subsingleton.elim (α := Fin 1) _ _
      | ⟨1, _⟩ => exact Subsingleton.elim (α := Fin 1) _ _
      | ⟨2, _⟩ => exact Fin.ext e0.symm
      | ⟨3, _⟩ => exact Fin.ext e1.symm
      | ⟨4, _⟩ => exact Subsingleton.elim (α := Fin 1) _ _
    · rintro ⟨k, rfl⟩
      funext q; match q with | ⟨0, _⟩ => rfl | ⟨1, _⟩ => rfl

theorem rDb_eq (X0 X1) : rDb X0 X1 = Cert.Gm.db X0 X1 := by
  funext i; idx_vars i
  pointwise [rDb, Cert.Gm.db, Cert.Gm.dbPart]
  rw [drop1]
  pointwise
  rw [drop5]
  pointwise [dsv]
  refine Finset.sum_congr rfl fun a _ => Finset.sum_congr rfl fun b _ => Finset.sum_congr rfl fun l _ => ?_
  rw [mul_comm]
  rfl

variable (m : (ℓ : Loc nD τ sig) → Buf (Elt Ideal) ℓ) (ρ : Dev nD → PrngReg)

/-- The reference's run leaves the four gradients. -/
theorem run :
    θ_run defs (onTc (τ := τ) (main (F := Ideal))) ⟨m, fun _ => 0, ρ⟩ fun r => ∀ c : Dev nD,
      r.2.mem ((c.tc : Thread nD τ).loc main_v16) = Cert.Gm.du (m ((c.tc : Thread nD τ).loc main_arg0))
          (m ((c.tc : Thread nD τ).loc main_arg2)) (m ((c.tc : Thread nD τ).loc main_arg3)) (m ((c.tc : Thread nD τ).loc main_arg4))
      ∧ r.2.mem ((c.tc : Thread nD τ).loc main_v28) = Cert.Gm.dv (m ((c.tc : Thread nD τ).loc main_arg0))
          (m ((c.tc : Thread nD τ).loc main_arg1)) (m ((c.tc : Thread nD τ).loc main_arg3))
      ∧ r.2.mem ((c.tc : Thread nD τ).loc main_v27) = Cert.Gm.dw (m ((c.tc : Thread nD τ).loc main_arg0))
          (m ((c.tc : Thread nD τ).loc main_arg1)) (m ((c.tc : Thread nD τ).loc main_arg2))
      ∧ r.2.mem ((c.tc : Thread nD τ).loc main_v29) = Cert.Gm.db (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (rDu_eq _ _ _ _), (h c).2.1.trans (rDv_eq _ _ _),
      (h c).2.2.1.trans (rDw_eq _ _ _), (h c).2.2.2.1.trans (rDb_eq _ _), (h c).2.2.2.2⟩)
    (Cert.ReferenceIdeal.Value.run m ρ)

end Cert.ReferenceIdeal.Gm

end
-- ==== Proof.GmPoint.lean ====
module

public import proofs.«01_k».proof.Proof.Gen.KernelIdeal.Frame
public import Idealize.ShloMosaic.Lib.Pipeline.ValueKit
public import proofs.«01_k».proof.Proof.GmSpec

@[expose] public section

set_option maxRecDepth 16384

noncomputable section

namespace Cert.KernelIdeal.Gm

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Stores read back at `y`: the last one's value if it holds `y`, what the earlier ones left otherwise. -/
theorem canon_step {Val : EltTy → Type} [∀ e, Nonempty (Val e)] {S : Shape} {e : EltTy} {y : S.Idx} {v : Val e}
    (off size : Fin S.rank → Nat) (inb : ∀ a, off a + size a ≤ S.size a)
    (w : (Rect.unit off size inb).shape.Idx → Val e) (L : List (View.Piece Val S e))
    (h1 : View.TileAt y off size w v) (h2 : ¬ (∀ a, off a ≤ (y a : ℕ) ∧ (y a : ℕ) < off a + size a) → View.canon L y = v) :
    View.canon ((⟨Rect.unit off size inb, w⟩ : View.Piece Val S e) :: L) y = v := by
  by_cases h : ∀ a, off a ≤ (y a : ℕ) ∧ (y a : ℕ) < off a + size a
  · have e : (Rect.unit off size inb).emb (fun a => ⟨(y a : ℕ) - off a, by have := h a; show _ < size a; omega⟩) = y := by
      funext a; apply Fin.ext; rw [Rect.emb_apply]; show off a + 1 * ((y a : ℕ) - off a) = _; have := h a; omega
    have e2 := View.canon_cons_emb (Val := Val) (Rect.unit off size inb) w L (fun a => ⟨(y a : ℕ) - off a, by have := h a; show _ < size a; omega⟩)
    rw [e] at e2
    exact e2.trans (h1 _ fun a => by have := h a; show (y a : ℕ) = off a + ((y a : ℕ) - off a); omega)
  · rw [View.canon_cons_of_not_mem _ _ (fun hm => h fun a => ?_)]
    · exact h2 h
    · obtain ⟨x, rfl⟩ := (Rect.unit off size inb).exists_idx_of_mem hm
      rw [Rect.idx_unit_val]
      have : (x a : ℕ) < size a := (x a).isLt
      omega

/-- The first `k` matrices hold `F`, the others zero. -/
def Inv7 (L : List (View.Piece (Elt Ideal) S8x128x128 .f32)) (k : ℕ) (F : S8x128x128.Idx → EReal) : Prop :=
  ∀ y : S8x128x128.Idx, View.canon L y = if (y 0 : ℕ) < k then F y else 0

theorem Inv7.base (F : S8x128x128.Idx → EReal) (off : Fin 3 → ℕ) (h : off = fun _ => 0) (inb : ∀ a, off a + S8x128x128.size a ≤ S8x128x128.size a)
    (Z : S8x128x128.Idx → EReal) (hZ : ∀ y, Z y = 0) :
    Inv7 [(⟨Rect.unit off S8x128x128.size inb, Z⟩ : View.Piece (Elt Ideal) S8x128x128 .f32)] 0 F := by
  intro y
  rw [View.canon_cons_unit_zero h, if_neg (by omega)]
  exact hZ y

theorem Inv7.zero {κ : Kind} {sp : Space} (v : View sig κ sp S8x128x128 .f32) {F : S8x128x128.Idx → EReal} {k : ℕ}
    {L : List (View.Piece (Elt Ideal) S8x128x128 .f32)}
    (inb : ∀ a, (![k, 0, 0] : Fin 3 → ℕ) a + (![1, 128, 128] : Fin 3 → ℕ) a ≤ S8x128x128.size a) (hL : Inv7 L k F) :
    v.readCov L (Rect.unit (s := S8x128x128) ![k, 0, 0] ![1, 128, 128] inb).toLoadRect = fun _ => (0 : EReal) := by
  rw [View.readCov_eq_canon']
  funext j
  rw [hL, if_neg]
  show ¬ (k + 1 * (j 0 : ℕ)) < k
  omega

theorem Inv7.step {F : S8x128x128.Idx → EReal} {k : ℕ} {L : List (View.Piece (Elt Ideal) S8x128x128 .f32)}
    (inb : ∀ a, (![k, 0, 0] : Fin 3 → ℕ) a + (![1, 128, 128] : Fin 3 → ℕ) a ≤ S8x128x128.size a)
    (w : FVec Ideal S1x128x128 .f32) (hL : Inv7 L k F)
    (hw : Inv7 L k F → ∀ (x : S1x128x128.Idx) (hk : k < 8), w x = F (ix3 ⟨k, hk⟩ (x 1 : Fin 128) (x 2 : Fin 128))) :
    Inv7 ((⟨Rect.unit ![k, 0, 0] ![1, 128, 128] inb, w⟩ : View.Piece (Elt Ideal) S8x128x128 .f32) :: L) (k + 1) F := by
  intro y
  refine canon_step _ _ _ _ _ ?_ fun n1 => ?_
  · tile_intro x h
    have hk : k < 8 := by have := inb 0; simpa using this
    rw [if_pos (by omega)]
    refine (hw hL x hk).trans (congrArg F ?_)
    funext a
    match a with
    | ⟨0, _⟩ => exact Fin.ext (by have := h0; show k = (y 0 : ℕ); omega)
    | ⟨1, _⟩ => exact Fin.ext (by have := h1; show (x 1 : ℕ) = (y 1 : ℕ); omega)
    | ⟨2, _⟩ => exact Fin.ext (by have := h2; show (x 2 : ℕ) = (y 2 : ℕ); omega)
  · rw [hL]
    have : (y 0 : ℕ) ≠ k := fun e => n1 fun a => by
      match a with
      | ⟨0, _⟩ => exact ⟨e.ge, by show (y 0 : ℕ) < k + 1; omega⟩
      | ⟨1, _⟩ => exact ⟨Nat.zero_le _, by have : (y 1 : ℕ) < 128 := (y 1).isLt; show (y 1 : ℕ) < 0 + 128; omega⟩
      | ⟨2, _⟩ => exact ⟨Nat.zero_le _, by have : (y 2 : ℕ) < 128 := (y 2).isLt; show (y 2 : ℕ) < 0 + 128; omega⟩
    by_cases hlt : (y 0 : ℕ) < k
    · rw [if_pos hlt, if_pos (by omega)]
    · rw [if_neg hlt, if_neg (by omega)]

/-- The first `k` columns hold `F`, the others zero. -/
def Inv8 (L : List (View.Piece (Elt Ideal) S128x8 .f32)) (k : ℕ) (F : S128x8.Idx → EReal) : Prop :=
  ∀ y : S128x8.Idx, View.canon L y = if (y 1 : ℕ) < k then F y else 0

theorem Inv8.base (F : S128x8.Idx → EReal) (off : Fin 2 → ℕ) (h : off = fun _ => 0) (inb : ∀ a, off a + S128x8.size a ≤ S128x8.size a)
    (Z : S128x8.Idx → EReal) (hZ : ∀ y, Z y = 0) :
    Inv8 [(⟨Rect.unit off S128x8.size inb, Z⟩ : View.Piece (Elt Ideal) S128x8 .f32)] 0 F := by
  intro y
  rw [View.canon_cons_unit_zero h, if_neg (by omega)]
  exact hZ y

theorem Inv8.zero {κ : Kind} {sp : Space} (v : View sig κ sp S128x8 .f32) {F : S128x8.Idx → EReal} {k : ℕ}
    {L : List (View.Piece (Elt Ideal) S128x8 .f32)}
    (inb : ∀ a, (![0, k] : Fin 2 → ℕ) a + (![128, 1] : Fin 2 → ℕ) a ≤ S128x8.size a) (hL : Inv8 L k F) :
    v.readCov L (Rect.unit (s := S128x8) ![0, k] ![128, 1] inb).toLoadRect = fun _ => (0 : EReal) := by
  rw [View.readCov_eq_canon']
  funext j
  rw [hL, if_neg]
  show ¬ (k + 1 * (j 1 : ℕ)) < k
  omega

theorem Inv8.step {F : S128x8.Idx → EReal} {k : ℕ} {L : List (View.Piece (Elt Ideal) S128x8 .f32)}
    (inb : ∀ a, (![0, k] : Fin 2 → ℕ) a + (![128, 1] : Fin 2 → ℕ) a ≤ S128x8.size a)
    (w : FVec Ideal S128x1 .f32) (hL : Inv8 L k F)
    (hw : Inv8 L k F → ∀ (x : S128x1.Idx) (hk : k < 8), w x = F (ix2 (x 0 : Fin 128) ⟨k, hk⟩)) :
    Inv8 ((⟨Rect.unit ![0, k] ![128, 1] inb, w⟩ : View.Piece (Elt Ideal) S128x8 .f32) :: L) (k + 1) F := by
  intro y
  refine canon_step _ _ _ _ _ ?_ fun n1 => ?_
  · tile_intro x h
    have hk : k < 8 := by have := inb 1; simpa using this
    rw [if_pos (by omega)]
    refine (hw hL x hk).trans (congrArg F ?_)
    funext a
    match a with
    | ⟨0, _⟩ => exact Fin.ext (by have := h0; show (x 0 : ℕ) = (y 0 : ℕ); omega)
    | ⟨1, _⟩ => exact Fin.ext (by have := h1; show k = (y 1 : ℕ); omega)
  · rw [hL]
    have : (y 1 : ℕ) ≠ k := fun e => n1 fun a => by
      match a with
      | ⟨0, _⟩ => exact ⟨Nat.zero_le _, by have : (y 0 : ℕ) < 128 := (y 0).isLt; show (y 0 : ℕ) < 0 + 128; omega⟩
      | ⟨1, _⟩ => exact ⟨e.ge, by show (y 1 : ℕ) < k + 1; omega⟩
    by_cases hlt : (y 1 : ℕ) < k
    · rw [if_pos hlt, if_pos (by omega)]
    · rw [if_neg hlt, if_neg (by omega)]

/-- A point's part of the spatial matrices' gradient. -/
def dwAt (x0 x1 : FVec Ideal S1x128x1024 .f32) (x2 : FVec Ideal S1x128x1024 .bf16) (i : S8x128x128.Idx) : EReal :=
  if (i 2 : Fin 128).val ≤ (i 1 : Fin 128).val then
    ∑ l : Fin 128, x0 (ix3 0 (i 1 : Fin 128) (Cert.Gm.feat (i 0) l)) * x1 (ix3 0 (i 1 : Fin 128) (Cert.Gm.feat (i 0) l))
      * x2 (ix3 0 (i 2 : Fin 128) (Cert.Gm.feat (i 0) l)) else 0

theorem feat_zero (l : Fin 128) : Cert.Gm.feat 0 l = ⟨l, by omega⟩ := Fin.ext (by show 0 * 128 + (l : ℕ) = l; omega)

/-- The first point. -/
theorem p7A (c : Dev nD) (t : Fin cfg0.N) (h : t.val % 64 = 0) (y : S8x128x128.Idx) :
    (outsAt0 m c t.val t.isLt).2.2.1 y = dwAt (iblk m c 0 t) (iblk m c 1 t) (iblk m c 2 t) y := by
  rw [outsAt0_A m c t h]
  frame_out
  refine Eq.trans (?_ : _ = if (y 0 : ℕ) < 8 then dwAt (iblk m c 0 t) (iblk m c 1 t) (iblk m c 2 t) y else 0) (if_pos (y 0).isLt)
  revert y
  change Inv7 _ _ _
  refine Inv7.step _ _ (Inv7.step _ _ (Inv7.step _ _ (Inv7.step _ _
    (Inv7.step _ _ (Inv7.step _ _ (Inv7.step _ _ (Inv7.step _ _ (Inv7.base _ _ ?_ _ _ ?_) ?_) ?_) ?_) ?_) ?_) ?_) ?_) ?_
  case refine_1 => funext a; fin_cases a <;> rfl
  case refine_2 => intro y; open_payloads; pointwise
  all_goals
    intro hL x hk
    rw [Inv7.zero _ _ hL]
    clear hL
    idx_vars x
    open_payloads
    pointwise [dwAt]
    rw [Cert.Gm.sel_le (Fin.isLt _) (Fin.isLt _)]
    try simp only [feat_zero]
    all_goals congr!
    all_goals first | rfl | omega | (apply Fin.ext; have z : ((0 : Fin 8) : ℕ) = 0 := rfl; have o : ((1 : Fin 8) : ℕ) = 1 := rfl; simp only [Cert.Gm.feat, Cert.Gm.grp, Fin.isValue]; omega) | (simp only [Cert.Gm.feat, Cert.Gm.grp]; omega) | exact Fin.ext (show (0 : ℕ) = (y2 : ℕ) / 128 by omega) | exact Fin.ext (show (1 : ℕ) = (y2 : ℕ) / 128 by omega)

/-- A later point adds its part. -/
theorem p7B (c : Dev nD) (t : Fin cfg0.N) (h : ¬ t.val % 64 = 0) (y : S8x128x128.Idx) :
    (outsAt0 m c t.val t.isLt).2.2.1 y = (outsAt0 m c (t.val - 1) (by omega)).2.2.1 y + dwAt (iblk m c 0 t) (iblk m c 1 t) (iblk m c 2 t) y := by
  rw [outsAt0_B m c t h]
  frame_out
  idx_vars y
  canon_tiles x h
  all_goals
    idx_vars x
    obtain rfl : y1 = x1 := Fin.ext h1
    obtain rfl : y2 = x2 := Fin.ext h2
    open_payloads; pointwise [dwAt]
    rw [Cert.Gm.sel_le (Fin.isLt _) (Fin.isLt _)]
    try (have e : ∀ l : Fin 128, Cert.Gm.feat y0 l = ⟨l, by omega⟩ := fun l => Fin.ext (by show (y0 : ℕ) * 128 + l = l; omega); simp only [e])
    congr!
    all_goals first | rfl | omega | (apply Fin.ext; have z : ((0 : Fin 8) : ℕ) = 0 := rfl; have o : ((1 : Fin 8) : ℕ) = 1 := rfl; simp only [Cert.Gm.feat, Cert.Gm.grp, Fin.isValue]; omega) | (simp only [Cert.Gm.feat, Cert.Gm.grp]; omega) | exact Fin.ext (show (0 : ℕ) = (y2 : ℕ) / 128 by omega) | exact Fin.ext (show (1 : ℕ) = (y2 : ℕ) / 128 by omega)

/-- A point's part of the bias' gradient. -/
def dbAt (x0 x1 : FVec Ideal S1x128x1024 .f32) (i : S128x8.Idx) : EReal :=
  ∑ l : Fin 128, x0 (ix3 0 (i 0 : Fin 128) (Cert.Gm.feat (i 1) l)) * x1 (ix3 0 (i 0 : Fin 128) (Cert.Gm.feat (i 1) l))

/-- The first point. -/
theorem p8A (c : Dev nD) (t : Fin cfg0.N) (h : t.val % 64 = 0) (y : S128x8.Idx) :
    (outsAt0 m c t.val t.isLt).2.2.2 y = dbAt (iblk m c 0 t) (iblk m c 1 t) y := by
  rw [outsAt0_A m c t h]
  frame_out
  refine Eq.trans (?_ : _ = if (y 1 : ℕ) < 8 then dbAt (iblk m c 0 t) (iblk m c 1 t) y else 0) (if_pos (y 1).isLt)
  revert y
  change Inv8 _ _ _
  refine Inv8.step _ _ (Inv8.step _ _ (Inv8.step _ _ (Inv8.step _ _
    (Inv8.step _ _ (Inv8.step _ _ (Inv8.step _ _ (Inv8.step _ _ (Inv8.base _ _ ?_ _ _ ?_) ?_) ?_) ?_) ?_) ?_) ?_) ?_) ?_
  case refine_1 => funext a; fin_cases a <;> rfl
  case refine_2 => intro y; open_payloads; pointwise
  all_goals
    intro hL x hk
    rw [Inv8.zero _ _ hL]
    clear hL
    idx_vars x
    open_payloads
    pointwise [dbAt]
    try simp only [feat_zero]
    all_goals congr!
    all_goals first | rfl | omega | (apply Fin.ext; have z : ((0 : Fin 8) : ℕ) = 0 := rfl; have o : ((1 : Fin 8) : ℕ) = 1 := rfl; simp only [Cert.Gm.feat, Cert.Gm.grp, Fin.isValue]; omega) | (simp only [Cert.Gm.feat, Cert.Gm.grp]; omega) | exact Fin.ext (show (0 : ℕ) = (y2 : ℕ) / 128 by omega) | exact Fin.ext (show (1 : ℕ) = (y2 : ℕ) / 128 by omega)

/-- A later point adds its part. -/
theorem p8B (c : Dev nD) (t : Fin cfg0.N) (h : ¬ t.val % 64 = 0) (y : S128x8.Idx) :
    (outsAt0 m c t.val t.isLt).2.2.2 y = (outsAt0 m c (t.val - 1) (by omega)).2.2.2 y + dbAt (iblk m c 0 t) (iblk m c 1 t) y := by
  rw [outsAt0_B m c t h]
  frame_out
  idx_vars y
  canon_tiles x h
  all_goals
    idx_vars x
    obtain rfl : y0 = x0 := Fin.ext h0
    open_payloads; pointwise [dbAt]
    try (have e : ∀ l : Fin 128, Cert.Gm.feat y1 l = ⟨l, by omega⟩ := fun l => Fin.ext (by show (y1 : ℕ) * 128 + l = l; omega); simp only [e])
    congr!
    all_goals first | rfl | omega | (apply Fin.ext; have z : ((0 : Fin 8) : ℕ) = 0 := rfl; have o : ((1 : Fin 8) : ℕ) = 1 := rfl; simp only [Cert.Gm.feat, Cert.Gm.grp, Fin.isValue]; omega) | (simp only [Cert.Gm.feat, Cert.Gm.grp]; omega) | exact Fin.ext (show (0 : ℕ) = (y2 : ℕ) / 128 by omega) | exact Fin.ext (show (1 : ℕ) = (y2 : ℕ) / 128 by omega)

/-- The gradient of the gated factor, at row `r` and lane `l` of a chunk. -/
def duAt (x0 : FVec Ideal S1x128x1024 .f32) (x2 : FVec Ideal S1x128x1024 .bf16) (x3 : FVec Ideal S8x128x128 .f32)
    (x4 : FVec Ideal S128x8 .f32) (r : Fin 128) (l : Fin 1024) : EReal :=
  x0 (ix3 0 r l) * ((∑ k : Fin 128, if (k : ℕ) ≤ r then x3 (ix3 (Cert.Gm.grp l) r k) * x2 (ix3 0 k l) else 0) + x4 (ix2 r (Cert.Gm.grp l)))

/-- The gradient of the mixed factor, at row `r` and lane `l` of a chunk. -/
def dvAt (x0 x1 : FVec Ideal S1x128x1024 .f32) (x3 : FVec Ideal S8x128x128 .f32) (r : Fin 128) (l : Fin 1024) : EReal :=
  ∑ k : Fin 128, if (r : ℕ) ≤ k then x3 (ix3 (Cert.Gm.grp l) k r) * (x0 (ix3 0 k l) * x1 (ix3 0 k l)) else 0

/-- One block, the first point. -/
theorem p5A (c : Dev nD) (t : Fin cfg0.N) (h : t.val % 64 = 0) (y : S1x128x1024.Idx) :
    (outsAt0 m c t.val t.isLt).1 y = duAt (iblk m c 0 t) (iblk m c 2 t) (iblk m c 3 t) (iblk m c 4 t) (y 1) (y 2) := by
  rw [outsAt0_A m c t h]
  frame_out
  idx_vars y
  canon_tiles x h
  all_goals
    idx_vars x
    obtain rfl : y1 = x1 := Fin.ext h1
    open_payloads; pointwise [duAt]
    simp only [Cert.Gm.sel_le (Fin.isLt _) (Fin.isLt _), ← h2]
    congr!
    all_goals first | rfl | omega | (apply Fin.ext; have z : ((0 : Fin 8) : ℕ) = 0 := rfl; have o : ((1 : Fin 8) : ℕ) = 1 := rfl; simp only [Cert.Gm.feat, Cert.Gm.grp, Fin.isValue]; omega) | (simp only [Cert.Gm.feat, Cert.Gm.grp]; omega) | exact Fin.ext (show (0 : ℕ) = (y2 : ℕ) / 128 by omega) | exact Fin.ext (show (1 : ℕ) = (y2 : ℕ) / 128 by omega)

/-- One block, the first point. -/
theorem p6A (c : Dev nD) (t : Fin cfg0.N) (h : t.val % 64 = 0) (y : S1x128x1024.Idx) :
    (outsAt0 m c t.val t.isLt).2.1 y = dvAt (iblk m c 0 t) (iblk m c 1 t) (iblk m c 3 t) (y 1) (y 2) := by
  rw [outsAt0_A m c t h]
  frame_out
  idx_vars y
  canon_tiles x h
  all_goals
    idx_vars x
    obtain rfl : y1 = x1 := Fin.ext h1
    open_payloads; pointwise [dvAt]
    simp only [Cert.Gm.sel_le (Fin.isLt _) (Fin.isLt _), ← h2]
    congr!
    all_goals first | rfl | omega | (apply Fin.ext; have z : ((0 : Fin 8) : ℕ) = 0 := rfl; have o : ((1 : Fin 8) : ℕ) = 1 := rfl; simp only [Cert.Gm.feat, Cert.Gm.grp, Fin.isValue]; omega) | (simp only [Cert.Gm.feat, Cert.Gm.grp]; omega) | exact Fin.ext (show (0 : ℕ) = (y2 : ℕ) / 128 by omega) | exact Fin.ext (show (1 : ℕ) = (y2 : ℕ) / 128 by omega)

/-- One block, a later point. -/
theorem p5B (c : Dev nD) (t : Fin cfg0.N) (h : ¬ t.val % 64 = 0) (y : S1x128x1024.Idx) :
    (outsAt0 m c t.val t.isLt).1 y = duAt (iblk m c 0 t) (iblk m c 2 t) (iblk m c 3 t) (iblk m c 4 t) (y 1) (y 2) := by
  rw [outsAt0_B m c t h]
  frame_out
  idx_vars y
  canon_tiles x h
  all_goals
    idx_vars x
    obtain rfl : y1 = x1 := Fin.ext h1
    open_payloads; pointwise [duAt]
    simp only [Cert.Gm.sel_le (Fin.isLt _) (Fin.isLt _), ← h2]
    congr!
    all_goals first | rfl | omega | (apply Fin.ext; have z : ((0 : Fin 8) : ℕ) = 0 := rfl; have o : ((1 : Fin 8) : ℕ) = 1 := rfl; simp only [Cert.Gm.feat, Cert.Gm.grp, Fin.isValue]; omega) | (simp only [Cert.Gm.feat, Cert.Gm.grp]; omega) | exact Fin.ext (show (0 : ℕ) = (y2 : ℕ) / 128 by omega) | exact Fin.ext (show (1 : ℕ) = (y2 : ℕ) / 128 by omega)

/-- One block, a later point. -/
theorem p6B (c : Dev nD) (t : Fin cfg0.N) (h : ¬ t.val % 64 = 0) (y : S1x128x1024.Idx) :
    (outsAt0 m c t.val t.isLt).2.1 y = dvAt (iblk m c 0 t) (iblk m c 1 t) (iblk m c 3 t) (y 1) (y 2) := by
  rw [outsAt0_B m c t h]
  frame_out
  idx_vars y
  canon_tiles x h
  all_goals
    idx_vars x
    obtain rfl : y1 = x1 := Fin.ext h1
    open_payloads; pointwise [dvAt]
    simp only [Cert.Gm.sel_le (Fin.isLt _) (Fin.isLt _), ← h2]
    congr!
    all_goals first | rfl | omega | (apply Fin.ext; have z : ((0 : Fin 8) : ℕ) = 0 := rfl; have o : ((1 : Fin 8) : ℕ) = 1 := rfl; simp only [Cert.Gm.feat, Cert.Gm.grp, Fin.isValue]; omega) | (simp only [Cert.Gm.feat, Cert.Gm.grp]; omega) | exact Fin.ext (show (0 : ℕ) = (y2 : ℕ) / 128 by omega) | exact Fin.ext (show (1 : ℕ) = (y2 : ℕ) / 128 by omega)

end Cert.KernelIdeal.Gm

end
-- ==== Proof.GmFinal.lean ====
module

public import proofs.«01_k».proof.Proof.Gen.KernelIdeal.Value
public import Idealize.ShloMosaic.Lib.Pipeline.ValueKit
public import Idealize.ShloMosaic.Lib.Claim
public import proofs.«01_k».proof.Proof.GmSpec
public import proofs.«01_k».proof.Proof.GmPoint

@[expose] public section

set_option maxRecDepth 16384

noncomputable section

namespace Cert.KernelIdeal.Gm

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![0, 0, 0] ∧ win0_4.index t = ![0, 0]
    ∧ win0_5.index t = ![t.val / 32, t.val % 32, 0] ∧ win0_6.index t = ![t.val / 32, t.val % 32, 0]
    ∧ win0_7.index t = ![0, 0, 0] ∧ win0_8.index t = ![0, 0] :=
  (by decide +kernel : ∀ t : Fin grid0.N, _)

/-- The batch a point works on. -/
def bOf (t : Fin cfg0.N) : Fin 2 := ⟨t.val / 32, by have : t.val < 64 := t.isLt; omega⟩
/-- The chunk a point works on. -/
def nOf (t : Fin cfg0.N) : Fin 32 := ⟨t.val % 32, by omega⟩

theorem b0 (c : Dev nD) (t : Fin cfg0.N) (r : Fin 128) (l : Fin 1024) :
    iblk m c 0 t (ix3 0 r l) = m ((c : Thread nD τ).loc main_arg0) (ix3 (bOf t) (Cert.Gm.pos (nOf t) r) l) := by
  unfold bOf nOf Cert.Gm.pos
  blk_point [iblk, V, idx t]

theorem b1 (c : Dev nD) (t : Fin cfg0.N) (r : Fin 128) (l : Fin 1024) :
    iblk m c 1 t (ix3 0 r l) = m ((c : Thread nD τ).loc main_arg1) (ix3 (bOf t) (Cert.Gm.pos (nOf t) r) l) := by
  unfold bOf nOf Cert.Gm.pos
  blk_point [iblk, V, idx t]

theorem b2 (c : Dev nD) (t : Fin cfg0.N) (r : Fin 128) (l : Fin 1024) :
    iblk m c 2 t (ix3 0 r l) = m ((c : Thread nD τ).loc main_arg2) (ix3 (bOf t) (Cert.Gm.pos (nOf t) r) l) := by
  unfold bOf nOf Cert.Gm.pos
  blk_point [iblk, V, idx t]

theorem b3 (c : Dev nD) (t : Fin cfg0.N) (g : Fin 8) (r k : Fin 128) :
    iblk m c 3 t (ix3 g r k) = m ((c : Thread nD τ).loc main_arg3) (ix3 g r k) := by
  blk_point [iblk, V, idx t]

theorem b4 (c : Dev nD) (t : Fin cfg0.N) (r : Fin 128) (g : Fin 8) :
    iblk m c 4 t (ix2 r g) = m ((c : Thread nD τ).loc main_arg4) (ix2 g r) := by
  blk_simp [iblk]
  entry_read
  pointwise
  blk_ext [idx t]

theorem row_pos (n : Fin 32) (r : Fin 128) : Cert.Gm.row (Cert.Gm.pos n r) = r :=
  Fin.ext (by show ((n : ℕ) * 128 + r) % 128 = r; omega)
theorem chunk_pos (n : Fin 32) (r : Fin 128) : Cert.Gm.chunk (Cert.Gm.pos n r) = n :=
  Fin.ext (by show ((n : ℕ) * 128 + r) / 128 = n; omega)

theorem e5 (t : Fin cfg0.N) (y : S1x128x1024.Idx) :
    (win0_5.blk t).view.emb y = ix3 (bOf t) (Cert.Gm.pos (nOf t) (y 1)) (y 2) := by
  unfold bOf nOf Cert.Gm.pos
  blk_ext [idx t]

theorem e6 (t : Fin cfg0.N) (y : S1x128x1024.Idx) :
    (win0_6.blk t).view.emb y = ix3 (bOf t) (Cert.Gm.pos (nOf t) (y 1)) (y 2) := by
  unfold bOf nOf Cert.Gm.pos
  blk_ext [idx t]

theorem e7 (t : Fin cfg0.N) (y : S8x128x128.Idx) : (win0_7.blk t).view.emb y = y := by
  blk_ext [idx t]

theorem e8 (t : Fin cfg0.N) (y : S128x8.Idx) : (win0_8.blk t).view.emb y = y := by
  blk_ext [idx t]

open Cert.Gm in
theorem duAt_eq {x0 : FVec Ideal S1x128x1024 .f32} {x2 : FVec Ideal S1x128x1024 .bf16} {x3 : FVec Ideal S8x128x128 .f32}
    {x4 : FVec Ideal S128x8 .f32} {dy vn : Act.Idx → EReal} {w : Mat.Idx → EReal} {bias : Bias.Idx → EReal} (b : Fin 2) (n : Fin 32)
    (r : Fin 128) (l : Fin 1024) (h0 : ∀ r l, x0 (ix3 0 r l) = dy (ix3 b (pos n r) l)) (h2 : ∀ r l, x2 (ix3 0 r l) = vn (ix3 b (pos n r) l))
    (h3 : ∀ g r k, x3 (ix3 g r k) = w (ix3 g r k)) (h4 : ∀ r g, x4 (ix2 r g) = bias (ix2 g r)) :
    duAt x0 x2 x3 x4 r l = du dy vn w bias (ix3 b (pos n r) l) := by
  unfold duAt
  simp only [h0, h2, h3, h4]
  show _ = dy _ * ((∑ k : Fin 128, if (k : ℕ) ≤ row (pos n r) then w (ix3 (grp l) (row (pos n r)) k) * vn (ix3 b (pos (chunk (pos n r)) k) l) else 0)
    + bias (ix2 (grp l) (row (pos n r))))
  rw [row_pos, chunk_pos]

open Cert.Gm in
theorem dvAt_eq {x0 x1 : FVec Ideal S1x128x1024 .f32} {x3 : FVec Ideal S8x128x128 .f32}
    {dy u : Act.Idx → EReal} {w : Mat.Idx → EReal} (b : Fin 2) (n : Fin 32)
    (r : Fin 128) (l : Fin 1024) (h0 : ∀ r l, x0 (ix3 0 r l) = dy (ix3 b (pos n r) l)) (h1 : ∀ r l, x1 (ix3 0 r l) = u (ix3 b (pos n r) l))
    (h3 : ∀ g r k, x3 (ix3 g r k) = w (ix3 g r k)) :
    dvAt x0 x1 x3 r l = dv dy u w (ix3 b (pos n r) l) := by
  unfold dvAt
  simp only [h0, h1, h3]
  show _ = ∑ k : Fin 128, if (row (pos n r) : ℕ) ≤ k then w (ix3 (grp l) k (row (pos n r))) *
    (dy (ix3 b (pos (chunk (pos n r)) k) l) * u (ix3 b (pos (chunk (pos n r)) k) l)) else 0
  rw [row_pos, chunk_pos]

open Cert.Gm in
theorem dwAt_eq {x0 x1 : FVec Ideal S1x128x1024 .f32} {x2 : FVec Ideal S1x128x1024 .bf16}
    {dy u vn : Act.Idx → EReal} (b : Fin 2) (n : Fin 32) (i : Mat.Idx)
    (h0 : ∀ r l, x0 (ix3 0 r l) = dy (ix3 b (pos n r) l)) (h1 : ∀ r l, x1 (ix3 0 r l) = u (ix3 b (pos n r) l))
    (h2 : ∀ r l, x2 (ix3 0 r l) = vn (ix3 b (pos n r) l)) :
    dwAt x0 x1 x2 i = dwPart dy u vn b n i := by
  unfold dwAt dwPart
  by_cases h : (i 2 : Fin 128).val ≤ (i 1 : Fin 128).val
  · rw [if_pos h, if_pos h]
    exact Finset.sum_congr rfl fun l _ => congrArg₂ (· * ·) (congrArg₂ (· * ·) (h0 _ _) (h1 _ _)) (h2 _ _)
  · rw [if_neg h, if_neg h]

open Cert.Gm in
theorem dbAt_eq {x0 x1 : FVec Ideal S1x128x1024 .f32} {dy u : Act.Idx → EReal} (b : Fin 2) (n : Fin 32) (i : BiasT.Idx)
    (h0 : ∀ r l, x0 (ix3 0 r l) = dy (ix3 b (pos n r) l)) (h1 : ∀ r l, x1 (ix3 0 r l) = u (ix3 b (pos n r) l)) :
    dbAt x0 x1 i = dbPart dy u b n i := by
  unfold dbAt dbPart
  exact Finset.sum_congr rfl fun l _ => congrArg₂ (· * ·) (h0 _ _) (h1 _ _)

/-- The first result. -/
theorem final5 (c : Dev nD) : (dats m 0 c).arrAt 5 (cfgs 0).N
    = Cert.Gm.du (m ((c : Thread nD τ).loc main_arg0)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  blk_simp
  rw [after0_5, e5]
  have h : (outsAt0 m c t.val t.isLt).1 y = duAt (iblk m c 0 t) (iblk m c 2 t) (iblk m c 3 t) (iblk m c 4 t) (y 1) (y 2) := by
    by_cases h : t.val % 64 = 0
    · exact p5A m c t h y
    · exact p5B m c t h y
  exact h.trans (duAt_eq (bOf t) (nOf t) _ _ (b0 m c t) (b2 m c t) (b3 m c t) (b4 m c t))

/-- The second result. -/
theorem final6 (c : Dev nD) : (dats m 0 c).arrAt 6 (cfgs 0).N
    = Cert.Gm.dv (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6, e6]
  have h : (outsAt0 m c t.val t.isLt).2.1 y = dvAt (iblk m c 0 t) (iblk m c 1 t) (iblk m c 3 t) (y 1) (y 2) := by
    by_cases h : t.val % 64 = 0
    · exact p6A m c t h y
    · exact p6B m c t h y
  exact h.trans (dvAt_eq (bOf t) (nOf t) _ _ (b0 m c t) (b1 m c t) (b3 m c t))

/-- The third result. -/
theorem final7 (c : Dev nD) : (dats m 0 c).arrAt 7 (cfgs 0).N
    = Cert.Gm.dw (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, e7]
  rw [Pipeline.eq_sum_fin_of_reset_step_apply_of_flush (fun n h => (outsAt0 m c n h).2.2.1) 64 (fun _ => 0)
    (fun t y => dwAt (iblk m c 0 t) (iblk m c 1 t) (iblk m c 2 t) y)
    (fun t h y => (p7A m c t h y).trans (zero_add _).symm) (fun t h y => p7B m c t h y) t ((flush0_7 t).mp hf) _]
  unfold Cert.Gm.dw
  refine (zero_add (_ : EReal)).trans (Fin.sum_divmod_congr fun s ha hs => ?_)
  have h63 := (flush0_7 t).mp hf
  have ht : t.val < 64 := t.isLt
  have eb : bOf ⟨64 * (t.val / 64) + s.val, Pipeline.run_point_lt_of_flush t h63 s⟩ = ⟨s.val / 32, ha⟩ := Fin.ext (by show (64 * (t.val / 64) + s.val) / 32 = s.val / 32; omega)
  have en : nOf ⟨64 * (t.val / 64) + s.val, Pipeline.run_point_lt_of_flush t h63 s⟩ = ⟨s.val % 32, hs⟩ := Fin.ext (by show (64 * (t.val / 64) + s.val) % 32 = s.val % 32; omega)
  rw [← eb, ← en]
  exact dwAt_eq _ _ y (b0 m c _) (b1 m c _) (b2 m c _)

/-- The fourth result. -/
theorem final8 (c : Dev nD) : (dats m 0 c).arrAt 8 (cfgs 0).N
    = Cert.Gm.db (m ((c : Thread nD τ).loc main_arg0)) (m ((c : Thread nD τ).loc main_arg1)) := by
  refine (dats m 0 c).arrAt_eq_of_covers 8 _ (by decide +kernel) fun t hf y => ?_
  blk_simp
  rw [after0_8, e8]
  rw [Pipeline.eq_sum_fin_of_reset_step_apply_of_flush (fun n h => (outsAt0 m c n h).2.2.2) 64 (fun _ => 0)
    (fun t y => dbAt (iblk m c 0 t) (iblk m c 1 t) y)
    (fun t h y => (p8A m c t h y).trans (zero_add _).symm) (fun t h y => p8B m c t h y) t ((flush0_8 t).mp hf) _]
  unfold Cert.Gm.db
  refine (zero_add (_ : EReal)).trans (Fin.sum_divmod_congr fun s ha hs => ?_)
  have h63 := (flush0_8 t).mp hf
  have ht : t.val < 64 := t.isLt
  have eb : bOf ⟨64 * (t.val / 64) + s.val, Pipeline.run_point_lt_of_flush t h63 s⟩ = ⟨s.val / 32, ha⟩ := Fin.ext (by show (64 * (t.val / 64) + s.val) / 32 = s.val / 32; omega)
  have en : nOf ⟨64 * (t.val / 64) + s.val, Pipeline.run_point_lt_of_flush t h63 s⟩ = ⟨s.val % 32, hs⟩ := Fin.ext (by show (64 * (t.val / 64) + s.val) % 32 = s.val % 32; omega)
  rw [← eb, ← en]
  exact dbAt_eq _ _ y (b0 m c _) (b1 m c _)

end Cert.KernelIdeal.Gm

end
-- ==== Proof.MmSpec.lean ====
module

public import Idealize.ShloMosaic.Lib.Pipeline.ValueKit

@[expose] public section

set_option maxRecDepth 16384

noncomputable section

namespace Cert.Mm

open Idealize.ShloMosaic

/-- A matrix shape. -/
abbrev Sh (a b : ℕ) : Shape := ⟨2, ![a, b]⟩

/-- The product of two matrices. -/
def nn {a k b : ℕ} (x : (Sh a k).Idx → EReal) (y : (Sh k b).Idx → EReal) : (Sh a b).Idx → EReal :=
  fun i => ∑ j : Fin k, x (ix2 (i 0 : Fin a) j) * y (ix2 j (i 1 : Fin b))

/-- The product of a matrix with a transposed one. -/
def nt {a k b : ℕ} (x : (Sh a k).Idx → EReal) (y : (Sh b k).Idx → EReal) : (Sh a b).Idx → EReal :=
  fun i => ∑ j : Fin k, x (ix2 (i 0 : Fin a) j) * y (ix2 (i 1 : Fin b) j)

/-- The product of a transposed matrix with another. -/
def tn {k a b : ℕ} (x : (Sh k a).Idx → EReal) (y : (Sh k b).Idx → EReal) : (Sh a b).Idx → EReal :=
  fun i => ∑ j : Fin k, x (ix2 j (i 0 : Fin a)) * y (ix2 j (i 1 : Fin b))

/-- Stretch `s` of 1024 rows of a product of a transposed matrix. -/
def tnPart {a b : ℕ} (x : (Sh 8192 a).Idx → EReal) (y : (Sh 8192 b).Idx → EReal) (s : Fin 8) (i : Fin a) (j : Fin b) : EReal :=
  ∑ k : Fin 1024, x (ix2 (⟨s.val * 1024 + k.val, by omega⟩ : Fin 8192) i) * y (ix2 (⟨s.val * 1024 + k.val, by omega⟩ : Fin 8192) j)

/-- The eight stretches add up to the product. -/
theorem tn_blocks {a b : ℕ} (x : (Sh 8192 a).Idx → EReal) (y : (Sh 8192 b).Idx → EReal) (i : Fin a) (j : Fin b) :
    ∑ s : Fin 8, tnPart x y s i j = tn x y (ix2 i j) :=
  Fin.sum_mul_add_fin 8 1024 (fun l : Fin 8192 => x (ix2 l i) * y (ix2 l j))

/-- Column `l` of the left half. -/
def lo (l : Fin 2816) : Fin 5632 := ⟨l.val, by omega⟩

/-- Column `l` of the right half. -/
def hi (l : Fin 2816) : Fin 5632 := ⟨2816 + l.val, by omega⟩

/-- The logistic function. -/
def sig (x : EReal) : EReal := Ideal.div 1 (1 + Ideal.exp (-x))

/-- The gate half of the input product. -/
def zg (h : (Sh 8192 1024).Idx → EReal) (w : (Sh 1024 5632).Idx → EReal) : (Sh 8192 2816).Idx → EReal :=
  fun i => ∑ k : Fin 1024, h (ix2 (i 0 : Fin 8192) k) * w (ix2 k (lo (i 1)))

/-- The value half of the input product. -/
def zu (h : (Sh 8192 1024).Idx → EReal) (w : (Sh 1024 5632).Idx → EReal) : (Sh 8192 2816).Idx → EReal :=
  fun i => ∑ k : Fin 1024, h (ix2 (i 0 : Fin 8192) k) * w (ix2 k (hi (i 1)))

/-- The activation `silu(zg) * zu`. -/
def act (h : (Sh 8192 1024).Idx → EReal) (w : (Sh 1024 5632).Idx → EReal) : (Sh 8192 2816).Idx → EReal :=
  fun i => zg h w i * sig (zg h w i) * zu h w i

/-- The input's gradient: both halves' gradients times the transposed halves of the matrix. -/
def dh (g u : (Sh 8192 2816).Idx → EReal) (w : (Sh 1024 5632).Idx → EReal) : (Sh 8192 1024).Idx → EReal :=
  fun i => (∑ k : Fin 2816, g (ix2 (i 0 : Fin 8192) k) * w (ix2 (i 1 : Fin 1024) (lo k)))
    + ∑ k : Fin 2816, u (ix2 (i 0 : Fin 8192) k) * w (ix2 (i 1 : Fin 1024) (hi k))

/-- The gradient of the gate half, from the output's gradient `dy`. -/
def dzg (dy : (Sh 8192 1024).Idx → EReal) (w : (Sh 2816 1024).Idx → EReal) (g u : (Sh 8192 2816).Idx → EReal) :
    (Sh 8192 2816).Idx → EReal :=
  fun i => nt dy w i * u i * (sig (g i) * (1 + g i * (1 - sig (g i))))

/-- The gradient of the value half. -/
def dzu (dy : (Sh 8192 1024).Idx → EReal) (w : (Sh 2816 1024).Idx → EReal) (g : (Sh 8192 2816).Idx → EReal) :
    (Sh 8192 2816).Idx → EReal :=
  fun i => nt dy w i * (g i * sig (g i))

end Cert.Mm

end
-- ==== Proof.GateRef.lean ====
module

public import proofs.«01_k».proof.Proof.Gen.GateRefIdeal
public import proofs.«01_k».proof.Proof.Gen.GateRefIdeal.Run
public import Idealize.ShloMosaic.Lib.Pipeline.ValueKit
public import proofs.«01_k».proof.Pre_finite
public import Idealize.ShloMosaic.Lib.ReduceAll
public import Idealize.ShloMosaic.Lib.Claim
public import proofs.«01_k».proof.Proof.MmSpec

@[expose] public section

set_option maxRecDepth 16384

noncomputable section

namespace Cert.Mm

open Idealize.ShloMosaic

/-- A finite extended real is a real. -/
theorem real_of {x : EReal} (h : max x (-x) < ⊤) : ∃ r : ℝ, x = (r : EReal) := by
  induction x with
  | bot => simp at h
  | top => simp at h
  | coe r => exact ⟨r, rfl⟩

/-- A sum of products of finite values is finite. -/
theorem real_sum {n : ℕ} (f g : Fin n → EReal) (hf : ∀ k, ∃ r : ℝ, f k = (r : EReal)) (hg : ∀ k, ∃ r : ℝ, g k = (r : EReal)) :
    ∃ r : ℝ, ∑ k, f k * g k = (r : EReal) := by
  refine Finset.sum_induction _ (fun x => ∃ r : ℝ, x = (r : EReal)) ?_ ⟨0, rfl⟩ fun k _ => ?_
  · rintro _ _ ⟨a, rfl⟩ ⟨b, rfl⟩
    exact ⟨a + b, (EReal.coe_add a b).symm⟩
  · obtain ⟨a, ha⟩ := hf k
    obtain ⟨b, hb⟩ := hg k
    exact ⟨a * b, by rw [ha, hb, EReal.coe_mul]⟩

/-- The two forms of the gate's derivative agree at a finite factor `d`, whatever the gate. -/
theorem gate_eq (d : ℝ) (g : EReal) :
    (d : EReal) * sig g + g * (d : EReal) * (sig g * (1 - sig g)) = (d : EReal) * (sig g * (1 + g * (1 - sig g))) := by
  induction g with
  | bot =>
    have h1 : (1 : EReal) + ⊤ = ⊤ := EReal.coe_add_top 1
    have h : sig ⊥ = 0 := by simp [sig, Ideal.div, h1]
    rw [h]; simp
  | top =>
    have h : sig ⊤ = 1 := by simp [sig, Ideal.div]
    have e : (1 : EReal) - 1 = 0 := by rw [← EReal.coe_one, ← EReal.coe_sub]; simp
    rw [h, e]; simp
  | coe r =>
    have h : sig (r : EReal) = ((1 / (1 + Real.exp (-r)) : ℝ) : EReal) := by
      have hp : (1 + Real.exp (-r)) ≠ 0 := by positivity
      unfold sig
      rw [← EReal.coe_neg, Ideal.exp_coe, ← EReal.coe_one, ← EReal.coe_add, Ideal.div_coe hp, ← EReal.coe_mul]
      simp
    rw [h]
    generalize (1 / (1 + Real.exp (-r)) : ℝ) = s
    norm_cast
    ring

end Cert.Mm

namespace Cert.GateRefIdeal.Val

open Cert.GateRefIdeal Cert.GateRefIdeal.Gen Idealize.ShloMosaic Idealize.ShloMosaic.TcCoe Idealize.SL.Sem

/-- Every entry of the two factors of the product, and of the value half, is finite. -/
def Fin3 (X0 : FVec Ideal S8192x1024 .bf16) (X1 : FVec Ideal S2816x1024 .bf16) (X3 : FVec Ideal S8192x2816 .f32) : Prop :=
  (∀ i, ∃ r : ℝ, X0 i = (r : EReal)) ∧ (∀ i, ∃ r : ℝ, X1 i = (r : EReal)) ∧ (∀ i, ∃ r : ℝ, X3 i = (r : EReal))

/-- The gate half's gradient. -/
def r0 (X0 : FVec Ideal S8192x1024 .bf16) (X1 : FVec Ideal S2816x1024 .bf16) (X2 X3 : FVec Ideal S8192x2816 .f32) : FVec Ideal S8192x2816 .bf16 :=
  truncf .bf16 (addf (mulf (mulf (Host.dotGeneral dot_S8192x1024_S2816x1024_S8192x2816_1_1_0_0_n_n none (extf .f32 X0 bitsLt_bf16_f32) (extf .f32 X1 bitsLt_bf16_f32)) X3) (Host.divf (broadcastInDim S8192x2816 ![] bcast_S_S8192x2816 (constant S_ .f32 0x3F800000#32)) (addf (broadcastInDim S8192x2816 ![] bcast_S_S8192x2816 (constant S_ .f32 0x3F800000#32)) (Host.exp (Host.negf X2))))) (mulf (mulf X2 (mulf (Host.dotGeneral dot_S8192x1024_S2816x1024_S8192x2816_1_1_0_0_n_n none (extf .f32 X0 bitsLt_bf16_f32) (extf .f32 X1 bitsLt_bf16_f32)) X3)) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf X2)))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf X2)))))))) bitsLt_bf16_f32

/-- The value half's gradient. -/
def r1 (X0 : FVec Ideal S8192x1024 .bf16) (X1 : FVec Ideal S2816x1024 .bf16) (X2 : FVec Ideal S8192x2816 .f32) : FVec Ideal S8192x2816 .bf16 :=
  truncf .bf16 (mulf (mulf X2 (Host.divf (broadcastInDim S8192x2816 ![] bcast_S_S8192x2816 (constant S_ .f32 0x3F800000#32)) (addf (broadcastInDim S8192x2816 ![] bcast_S_S8192x2816 (constant S_ .f32 0x3F800000#32)) (Host.exp (Host.negf X2))))) (Host.dotGeneral dot_S8192x1024_S2816x1024_S8192x2816_1_1_0_0_n_n none (extf .f32 X0 bitsLt_bf16_f32) (extf .f32 X1 bitsLt_bf16_f32))) bitsLt_bf16_f32

theorem r0_eq (X0 X1 X2 X3) (h : Fin3 X0 X1 X3) : r0 X0 X1 X2 X3 = Cert.Mm.dzg X0 X1 X2 X3 := by
  funext i; idx_vars i
  obtain ⟨a, ha⟩ := Cert.Mm.real_sum (fun k : Fin 1024 => X0 (ix2 i0 k)) (fun k => X1 (ix2 i1 k)) (fun k => h.1 _) (fun k => h.2.1 _)
  obtain ⟨u, hu⟩ := h.2.2 (ix2 i0 i1)
  have key := Cert.Mm.gate_eq (a * u) (X2 (ix2 i0 i1))
  rw [EReal.coe_mul, ← ha, ← hu] at key
  unfold Cert.Mm.sig at key
  pointwise [r0, Cert.Mm.dzg, Cert.Mm.nt, Cert.Mm.sig]
  exact key

theorem r1_eq (X0 X1 X2) : r1 X0 X1 X2 = Cert.Mm.dzu X0 X1 X2 := by
  funext i; idx_vars i
  pointwise [r1, Cert.Mm.dzu, Cert.Mm.nt, Cert.Mm.sig]
  exact mul_comm _ _

/-- The precondition says that the entries are finite. -/
theorem fin_of [Cert.Pre_finite.Facts] (X0 X1 X2 X3) (h : Cert.Pre_finite.fn (F := Ideal) X0 X1 X2 X3 = fun _ => 1#1) : Fin3 X0 X1 X3 := by
  haveI : Subsingleton Cert.Pre_finite.S_.Idx := ⟨fun a b => funext fun x => x.elim0⟩
  have htop : Ideal.ofBits .f32 0x7F800000#32 = ⊤ := by simp [Ideal.ofBits, Ideal.ieee]
  have h0 := congrFun h ix0
  unfold Cert.Pre_finite.fn at h0
  dsimp only at h0
  obtain ⟨h01, h3⟩ := IntOp.andi_eq_one.1 h0
  obtain ⟨h0, h1⟩ := IntOp.andi_eq_one.1 h01
  have key : ∀ x : EReal, Ideal.cmp .olt (max x (-x)) (Ideal.ofBits .f32 0x7F800000#32) = 1#1 → ∃ r : ℝ, x = (r : EReal) := by
    intro x hx
    rw [htop] at hx
    refine Cert.Mm.real_of ?_
    by_contra hn
    simp [Ideal.cmp, hn] at hx
  exact ⟨fun i => key _ (Host.reduce_andi_all _ _ _ _ _ h0 i), fun i => key _ (Host.reduce_andi_all _ _ _ _ _ h1 i),
    fun i => key _ (Host.reduce_andi_all _ _ _ _ _ h3 i)⟩

variable (m : (ℓ : Loc nD τ sig) → Buf (Elt Ideal) ℓ) (ρ : Dev nD → PrngReg)

/-- The reference's run at finite arguments: its results in closed form, and its arguments unchanged. -/
theorem run (hp : ∀ c : Dev nD, Fin3 (m ((c.tc : Thread nD τ).loc main_arg0)) (m ((c.tc : Thread nD τ).loc main_arg1)) (m ((c.tc : Thread nD τ).loc main_arg3))) :
    θ_run defs (onTc (τ := τ) (main (F := Ideal))) ⟨m, fun _ => 0, ρ⟩ fun r => ∀ c : Dev nD,
      r.2.mem ((c.tc : Thread nD τ).loc main_v9) = Cert.Mm.dzg (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v10) = Cert.Mm.dzu (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (r0_eq _ _ _ _ (hp c)), (h c).2.1.trans (r1_eq _ _ _), (h c).2.2⟩) (Cert.GateRefIdeal.Value.run m ρ)

end Cert.GateRefIdeal.Val

end
-- ==== Proof.GateVal.lean ====
module

public import proofs.«01_k».proof.Proof.Gen.GateIdeal.Frame
public import Idealize.ShloMosaic.Lib.Pipeline.ValueKit
public import proofs.«01_k».proof.Proof.MmSpec

@[expose] public section

set_option maxRecDepth 16384

noncomputable section

namespace Cert.GateIdeal.Val

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 16, 0] ∧ win0_1.index t = ![t.val / 16, 0] ∧ win0_2.index t = ![t.val % 16, t.val / 16]
    ∧ win0_3.index t = ![t.val % 16, t.val / 16] ∧ win0_4.index t = ![t.val % 16, t.val / 16] ∧ win0_5.index t = ![t.val % 16, t.val / 16] :=
  (by decide +kernel : ∀ t : Fin grid0.N, _)

/-- Row `r` of the block of rows a point works on. -/
def rowOf (t : Fin cfg0.N) (r : Fin 512) : Fin 8192 := ⟨t.val % 16 * 512 + r.val, by omega⟩

/-- Column `l` of the block of columns a point works on. -/
def colOf (t : Fin cfg0.N) (l : Fin 1408) : Fin 2816 := ⟨t.val / 16 * 1408 + l.val, by have : t.val < 32 := t.isLt; omega⟩

theorem b0 (c : Dev nD) (t : Fin cfg0.N) (r : Fin 512) (k : Fin 1024) :
    iblk m c 0 t (ix2 r k) = m ((c : Thread nD τ).loc main_arg0) (ix2 (rowOf t r) k) := by
  unfold rowOf
  blk_point [iblk, V, idx t]

theorem b1 (c : Dev nD) (t : Fin cfg0.N) (l : Fin 1408) (k : Fin 1024) :
    iblk m c 1 t (ix2 l k) = m ((c : Thread nD τ).loc main_arg1) (ix2 (colOf t l) k) := by
  unfold colOf
  blk_point [iblk, V, idx t]

theorem b2 (c : Dev nD) (t : Fin cfg0.N) (r : Fin 512) (l : Fin 1408) :
    iblk m c 2 t (ix2 r l) = m ((c : Thread nD τ).loc main_arg2) (ix2 (rowOf t r) (colOf t l)) := by
  unfold rowOf colOf
  blk_point [iblk, V, idx t]

theorem b3 (c : Dev nD) (t : Fin cfg0.N) (r : Fin 512) (l : Fin 1408) :
    iblk m c 3 t (ix2 r l) = m ((c : Thread nD τ).loc main_arg3) (ix2 (rowOf t r) (colOf t l)) := by
  unfold rowOf colOf
  blk_point [iblk, V, idx t]

theorem e4 (t : Fin cfg0.N) (y : S512x1408.Idx) : (win0_4.blk t).view.emb y = ix2 (rowOf t (y 0)) (colOf t (y 1)) := by
  unfold rowOf colOf
  blk_ext [idx t]

theorem e5 (t : Fin cfg0.N) (y : S512x1408.Idx) : (win0_5.blk t).view.emb y = ix2 (rowOf t (y 0)) (colOf t (y 1)) := by
  unfold rowOf colOf
  blk_ext [idx t]

/-- What a point writes to the first result, from its blocks. -/
theorem p4 (x0 : FVec Ideal S512x1024 .bf16) (x1 : FVec Ideal S1408x1024 .bf16) (x2 x3 : FVec Ideal S512x1408 .f32) (y : S512x1408.Idx) :
    out0_4 (F := Ideal) x0 x1 x2 x3 y = Cert.Mm.nt (a := 512) (k := 1024) (b := 1408) x0 x1 y * x3 y
      * (Cert.Mm.sig (x2 y) * (1 + x2 y * (1 - Cert.Mm.sig (x2 y)))) := by
  unfold out0_4
  frame_out
  idx_vars y
  open_payloads
  pointwise [Cert.Mm.nt, Cert.Mm.sig]
  rw [zero_sub]

/-- What a point writes to the second result. -/
theorem p5 (x0 : FVec Ideal S512x1024 .bf16) (x1 : FVec Ideal S1408x1024 .bf16) (x2 x3 : FVec Ideal S512x1408 .f32) (y : S512x1408.Idx) :
    out0_5 (F := Ideal) x0 x1 x2 x3 y = Cert.Mm.nt (a := 512) (k := 1024) (b := 1408) x0 x1 y * (x2 y * Cert.Mm.sig (x2 y)) := by
  unfold out0_5
  frame_out
  idx_vars y
  open_payloads
  pointwise [Cert.Mm.nt, Cert.Mm.sig]
  rw [zero_sub]

theorem da_at (c : Dev nD) (t : Fin cfg0.N) (y : S512x1408.Idx) :
    Cert.Mm.nt (a := 512) (k := 1024) (b := 1408) (iblk m c 0 t) (iblk m c 1 t) y
      = Cert.Mm.nt (m ((c : Thread nD τ).loc main_arg0)) (m ((c : Thread nD τ).loc main_arg1)) (ix2 (rowOf t (y 0)) (colOf t (y 1))) :=
  Finset.sum_congr rfl fun k _ => congrArg₂ (· * ·) (b0 m c t _ _) (b1 m c t _ _)

theorem zg_at (c : Dev nD) (t : Fin cfg0.N) (y : S512x1408.Idx) :
    iblk m c 2 t y = m ((c : Thread nD τ).loc main_arg2) (ix2 (rowOf t (y 0)) (colOf t (y 1))) := by
  idx_vars y
  exact b2 m c t _ _

theorem zu_at (c : Dev nD) (t : Fin cfg0.N) (y : S512x1408.Idx) :
    iblk m c 3 t y = m ((c : Thread nD τ).loc main_arg3) (ix2 (rowOf t (y 0)) (colOf t (y 1))) := by
  idx_vars y
  exact b3 m c t _ _

/-- The first result is the gate half's gradient. -/
theorem final4 (c : Dev nD) : (dats m 0 c).arrAt 4 (cfgs 0).N = Cert.Mm.dzg (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, e4]
  refine (p4 _ _ _ _ y).trans ?_
  rw [da_at, zg_at, zu_at]; rfl

/-- The second result is the value half's gradient. -/
theorem final5 (c : Dev nD) : (dats m 0 c).arrAt 5 (cfgs 0).N = Cert.Mm.dzu (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, e5]
  refine (p5 _ _ _ _ y).trans ?_
  rw [da_at, zg_at]; rfl

end Cert.GateIdeal.Val

end
-- ==== Proof.DhRef.lean ====
module

public import proofs.«01_k».proof.Proof.Gen.DhRefIdeal
public import proofs.«01_k».proof.Proof.Gen.DhRefIdeal.Run
public import Idealize.ShloMosaic.Lib.Pipeline.ValueKit
public import Idealize.ShloMosaic.Lib.Claim
public import proofs.«01_k».proof.Proof.MmSpec

@[expose] public section

set_option maxRecDepth 16384

noncomputable section

namespace Cert.DhRefIdeal.Val

open Cert.DhRefIdeal Cert.DhRefIdeal.Gen Idealize.ShloMosaic Idealize.ShloMosaic.TcCoe Idealize.SL.Sem

/-- The reference's result. -/
def r0 (X0 X1 : FVec Ideal S8192x2816 .bf16) (X2 : FVec Ideal S1024x5632 .bf16) : FVec Ideal S8192x1024 .f32 :=
  Host.dotGeneral dot_S8192x5632_S1024x5632_S8192x1024_1_1_0_0_n_n none (concatenate S8192x5632 1
    [⟨S8192x2816, (extf .f32 X0 bitsLt_bf16_f32)⟩, ⟨S8192x2816, (extf .f32 X1 bitsLt_bf16_f32)⟩]
    concatenates_S8192x2816_S8192x2816_S8192x5632_d1) (extf .f32 X2 bitsLt_bf16_f32)

theorem r0_eq (X0 X1 X2) : r0 X0 X1 X2 = Cert.Mm.dh X0 X1 X2 := by
  funext i; idx_vars i
  pointwise [r0, Cert.Mm.dh]
  rfl

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v8) = Cert.Mm.dh (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (r0_eq _ _ _), (h c).2⟩) (Cert.DhRefIdeal.Value.run m ρ)

end Cert.DhRefIdeal.Val

end
-- ==== Proof.DhVal.lean ====
module

public import proofs.«01_k».proof.Proof.Gen.DhIdeal.Frame
public import Idealize.ShloMosaic.Lib.Pipeline.ValueKit
public import proofs.«01_k».proof.Proof.MmSpec

@[expose] public section

set_option maxRecDepth 16384

noncomputable section

namespace Cert.DhIdeal.Val

open Cert.DhIdeal Cert.DhIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val, 0] ∧ win0_1.index t = ![t.val, 0] ∧ win0_2.index t = ![0, 0]
    ∧ win0_3.index t = ![0, 1] ∧ win0_4.index t = ![t.val, 0] :=
  (by decide +kernel : ∀ t : Fin grid0.N, _)

/-- Row `r` of the block of rows a point works on. -/
def rowOf (t : Fin cfg0.N) (r : Fin 512) : Fin 8192 := ⟨t.val * 512 + r.val, by have : t.val < 16 := t.isLt; omega⟩

theorem b0 (c : Dev nD) (t : Fin cfg0.N) (r : Fin 512) (k : Fin 2816) :
    iblk m c 0 t (ix2 r k) = m ((c : Thread nD τ).loc main_arg0) (ix2 (rowOf t r) k) := by
  unfold rowOf
  blk_point [iblk, V, idx t]

theorem b1 (c : Dev nD) (t : Fin cfg0.N) (r : Fin 512) (k : Fin 2816) :
    iblk m c 1 t (ix2 r k) = m ((c : Thread nD τ).loc main_arg1) (ix2 (rowOf t r) k) := by
  unfold rowOf
  blk_point [iblk, V, idx t]

theorem b2 (c : Dev nD) (t : Fin cfg0.N) (r : Fin 1024) (k : Fin 2816) :
    iblk m c 2 t (ix2 r k) = m ((c : Thread nD τ).loc main_arg2) (ix2 r (Cert.Mm.lo k)) := by
  unfold Cert.Mm.lo
  blk_point [iblk, V, idx t]

theorem b3 (c : Dev nD) (t : Fin cfg0.N) (r : Fin 1024) (k : Fin 2816) :
    iblk m c 3 t (ix2 r k) = m ((c : Thread nD τ).loc main_arg2) (ix2 r (Cert.Mm.hi k)) := by
  unfold Cert.Mm.hi
  blk_point [iblk, V, idx t]

theorem e4 (t : Fin cfg0.N) (y : S512x1024.Idx) : (win0_4.blk t).view.emb y = ix2 (rowOf t (y 0)) (y 1) := by
  unfold rowOf
  blk_ext [idx t]

/-- What a point writes, from its blocks. -/
theorem p4 (x0 x1 : FVec Ideal S512x2816 .bf16) (x2 x3 : FVec Ideal S1024x2816 .bf16) (y : S512x1024.Idx) :
    out0_4 (F := Ideal) x0 x1 x2 x3 y = Cert.Mm.nt (a := 512) (k := 2816) (b := 1024) x0 x2 y + Cert.Mm.nt (a := 512) (k := 2816) (b := 1024) x1 x3 y := by
  unfold out0_4
  frame_out
  idx_vars y
  open_payloads
  pointwise [Cert.Mm.nt]

/-- The kernel's result is the input's gradient. -/
theorem final4 (c : Dev nD) : (dats m 0 c).arrAt 4 (cfgs 0).N = Cert.Mm.dh (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, e4]
  refine (p4 _ _ _ _ y).trans (congrArg₂ (· + ·) (Finset.sum_congr rfl fun k _ => ?_) (Finset.sum_congr rfl fun k _ => ?_))
  · exact congrArg₂ (· * ·) (b0 m c t _ _) (b2 m c t _ _)
  · exact congrArg₂ (· * ·) (b1 m c t _ _) (b3 m c t _ _)

end Cert.DhIdeal.Val

end
-- ==== Proof.DwinRef.lean ====
module

public import proofs.«01_k».proof.Proof.Gen.DwinRefIdeal
public import proofs.«01_k».proof.Proof.Gen.DwinRefIdeal.Run
public import Idealize.ShloMosaic.Lib.Pipeline.ValueKit
public import Idealize.ShloMosaic.Lib.Claim
public import proofs.«01_k».proof.Proof.MmSpec

@[expose] public section

set_option maxRecDepth 16384

noncomputable section

namespace Cert.DwinRefIdeal.Val

open Cert.DwinRefIdeal Cert.DwinRefIdeal.Gen Idealize.ShloMosaic Idealize.ShloMosaic.TcCoe Idealize.SL.Sem

/-- The reference's result. -/
def r0 (X0 : FVec Ideal S8192x1024 .bf16) (X1 : FVec Ideal S8192x2816 .bf16) : FVec Ideal S1024x2816 .f32 :=
  transpose S1024x2816 [1, 0] (Host.dotGeneral dot_S8192x2816_S8192x1024_S2816x1024_0_0_1_1_n_n none (extf .f32 X1 bitsLt_bf16_f32) (extf .f32 X0 bitsLt_bf16_f32)) transposes_S2816x1024_S1024x2816_1_0

theorem r0_eq (X0 X1) : r0 X0 X1 = Cert.Mm.tn X0 X1 := by
  funext i; idx_vars i
  pointwise [r0, Cert.Mm.tn]
  exact Finset.sum_congr rfl fun k _ => mul_comm _ _

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v5) = Cert.Mm.tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.DwinRefIdeal.Value.run m ρ)

end Cert.DwinRefIdeal.Val

end
-- ==== Proof.DwinVal.lean ====
module

public import proofs.«01_k».proof.Proof.Gen.DwinIdeal.Frame
public import Idealize.ShloMosaic.Lib.Pipeline.ValueKit
public import proofs.«01_k».proof.Proof.MmSpec
public import Idealize.ShloMosaic.Lib.Pipeline.ReadBack

@[expose] public section

set_option maxRecDepth 16384

noncomputable section

namespace Cert.DwinIdeal.Val

open Cert.DwinIdeal Cert.DwinIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- Row `r` of the block of tokens a point works on. -/
def tokOf (t : Fin cfg0.N) (r : Fin 1024) : Fin 8192 := ⟨t.val % 8 * 1024 + r.val, by omega⟩

/-- Lane `l` of the block of columns a point works on. -/
def colOf (t : Fin cfg0.N) (l : Fin 1408) : Fin 2816 := ⟨t.val / 8 * 1408 + l.val, by have : t.val < 16 := t.isLt; omega⟩

theorem b0 (c : Dev nD) (t : Fin cfg0.N) (r : Fin 1024) (k : Fin 1024) :
    iblk m c 0 t (ix2 r k) = m ((c : Thread nD τ).loc main_arg0) (ix2 (tokOf t r) k) := by
  unfold tokOf
  blk_point [iblk, V, idx t]

theorem b1 (c : Dev nD) (t : Fin cfg0.N) (r : Fin 1024) (k : Fin 1408) :
    iblk m c 1 t (ix2 r k) = m ((c : Thread nD τ).loc main_arg1) (ix2 (tokOf t r) (colOf t k)) := by
  unfold tokOf colOf
  blk_point [iblk, V, idx t]

theorem e2 (t : Fin cfg0.N) (y : S1024x1408.Idx) : (win0_2.blk t).view.emb y = ix2 (y 0 : Fin 1024) (colOf t (y 1)) := by
  unfold colOf
  blk_ext [idx t]

/-- The first point of a run of eight starts the sum with its product. -/
theorem sA (c : Dev nD) (t : Fin cfg0.N) (h : t.val % 8 = 0) (y : S1024x1408.Idx) :
    (outsAt0 m c t.val t.isLt).2 y = Cert.Mm.tn (k := 1024) (a := 1024) (b := 1408) (iblk m c 0 t) (iblk m c 1 t) y := by
  rw [outsAt0_A m c t h (by omega) (by omega)]
  frame_out
  idx_vars y
  open_payloads
  pointwise [Cert.Mm.tn]

/-- A later point adds its product. -/
theorem sB (c : Dev nD) (t : Fin cfg0.N) (h : ¬ t.val % 8 = 0) (y : S1024x1408.Idx) :
    (outsAt0 m c t.val t.isLt).2 y = (outsAt0 m c (t.val - 1) (Nat.lt_of_le_of_lt (Nat.sub_le _ _) t.isLt)).2 y
      + Cert.Mm.tn (k := 1024) (a := 1024) (b := 1408) (iblk m c 0 t) (iblk m c 1 t) y := by
  by_cases h7 : t.val % 8 = 7
  · rw [outsAt0_C m c t h (by omega) h7]
    frame_out
    idx_vars y
    open_payloads
    pointwise [Cert.Mm.tn]
    rw [read_unread_whole]
  · rw [outsAt0_B m c t h (by omega) h7]
    frame_out
    idx_vars y
    open_payloads
    pointwise [Cert.Mm.tn]
    rw [read_unread_whole]

/-- The last point of a run writes the sum out. -/
theorem sC (c : Dev nD) (t : Fin cfg0.N) (h7 : t.val % 8 = 7) (y : S1024x1408.Idx) :
    (outsAt0 m c t.val t.isLt).1 y = (outsAt0 m c t.val t.isLt).2 y := by
  rw [outsAt0_C m c t (by omega) (by omega) h7]
  frame_out

/-- A point's product is the sum over its block of tokens. -/
theorem part (c : Dev nD) (t t' : Fin cfg0.N) (s : Fin 8) (h : t'.val = 8 * (t.val / 8) + s.val) (i : Fin 1024) (j : Fin 1408) :
    Cert.Mm.tn (k := 1024) (a := 1024) (b := 1408) (iblk m c 0 t') (iblk m c 1 t') (ix2 i j)
      = Cert.Mm.tnPart (a := 1024) (b := 2816) (m ((c : Thread nD τ).loc main_arg0)) (m ((c : Thread nD τ).loc main_arg1)) s (i) (colOf t (j)) := by
  have ht : t.val < 16 := t.isLt
  have hs := s.isLt
  refine Finset.sum_congr rfl fun k _ => ?_
  have ek : tokOf t' k = (⟨s.val * 1024 + k.val, by omega⟩ : Fin 8192) :=
    Fin.ext (by show t'.val % 8 * 1024 + k.val = s.val * 1024 + k.val; omega)
  have ec : ∀ l, colOf t' l = colOf t l := fun l =>
    Fin.ext (by show t'.val / 8 * 1408 + l.val = t.val / 8 * 1408 + l.val; omega)
  exact congrArg₂ (fun a b : EReal => a * b) ((b0 m c t' k i).trans (by rw [ek])) ((b1 m c t' k j).trans (by rw [ek, ec]))

/-- The kernel's result is the product over all tokens. -/
theorem final2 (c : Dev nD) : (dats m 0 c).arrAt 2 (cfgs 0).N = Cert.Mm.tn (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, e2, sC m c t h7]
  rw [Pipeline.eq_sum_fin_of_reset_step_apply_of_flush (fun n h => (outsAt0 m c n h).2) 8 (fun _ => 0)
    (fun t y => Cert.Mm.tn (k := 1024) (a := 1024) (b := 1408) (iblk m c 0 t) (iblk m c 1 t) y)
    (fun t h y => (sA m c t h y).trans (zero_add _).symm) (fun t h y => sB m c t h y) t h7 _]
  refine (zero_add (_ : EReal)).trans ?_
  exact Eq.trans (Finset.sum_congr rfl fun s _ => part m c t _ s rfl (y 0) (y 1)) (Cert.Mm.tn_blocks (a := 1024) (b := 2816) (m ((c : Thread nD τ).loc main_arg0)) (m ((c : Thread nD τ).loc main_arg1)) ((y 0 : Fin 1024)) (colOf t (y 1)))

end Cert.DwinIdeal.Val

end
-- ==== Proof.DwoutRef.lean ====
module

public import proofs.«01_k».proof.Proof.Gen.DwoutRefIdeal
public import proofs.«01_k».proof.Proof.Gen.DwoutRefIdeal.Run
public import Idealize.ShloMosaic.Lib.Pipeline.ValueKit
public import Idealize.ShloMosaic.Lib.Claim
public import proofs.«01_k».proof.Proof.MmSpec

@[expose] public section

set_option maxRecDepth 16384

noncomputable section

namespace Cert.DwoutRefIdeal.Val

open Cert.DwoutRefIdeal Cert.DwoutRefIdeal.Gen Idealize.ShloMosaic Idealize.ShloMosaic.TcCoe Idealize.SL.Sem

/-- The reference's result. -/
def r0 (X0 : FVec Ideal S8192x2816 .bf16) (X1 : FVec Ideal S8192x1024 .bf16) : FVec Ideal S2816x1024 .f32 :=
  transpose S2816x1024 [1, 0] (Host.dotGeneral dot_S8192x1024_S8192x2816_S1024x2816_0_0_1_1_n_n none (extf .f32 X1 bitsLt_bf16_f32) (extf .f32 X0 bitsLt_bf16_f32)) transposes_S1024x2816_S2816x1024_1_0

theorem r0_eq (X0 X1) : r0 X0 X1 = Cert.Mm.tn X0 X1 := by
  funext i; idx_vars i
  pointwise [r0, Cert.Mm.tn]
  exact Finset.sum_congr rfl fun k _ => mul_comm _ _

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v5) = Cert.Mm.tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.DwoutRefIdeal.Value.run m ρ)

end Cert.DwoutRefIdeal.Val

end
-- ==== Proof.DwoutVal.lean ====
module

public import proofs.«01_k».proof.Proof.Gen.DwoutIdeal.Frame
public import Idealize.ShloMosaic.Lib.Pipeline.ValueKit
public import proofs.«01_k».proof.Proof.MmSpec
public import Idealize.ShloMosaic.Lib.Pipeline.ReadBack

@[expose] public section

set_option maxRecDepth 16384

noncomputable section

namespace Cert.DwoutIdeal.Val

open Cert.DwoutIdeal Cert.DwoutIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Row `r` of the block of tokens a point works on. -/
def tokOf (t : Fin cfg0.N) (r : Fin 1024) : Fin 8192 := ⟨t.val % 8 * 1024 + r.val, by omega⟩

/-- Lane `l` of the block of columns a point works on. -/
def colOf (t : Fin cfg0.N) (l : Fin 1408) : Fin 2816 := ⟨t.val / 8 * 1408 + l.val, by have : t.val < 16 := t.isLt; omega⟩

theorem b0 (c : Dev nD) (t : Fin cfg0.N) (r : Fin 1024) (k : Fin 1408) :
    iblk m c 0 t (ix2 r k) = m ((c : Thread nD τ).loc main_arg0) (ix2 (tokOf t r) (colOf t k)) := by
  unfold tokOf colOf
  blk_point [iblk, V, idx t]

theorem b1 (c : Dev nD) (t : Fin cfg0.N) (r : Fin 1024) (k : Fin 1024) :
    iblk m c 1 t (ix2 r k) = m ((c : Thread nD τ).loc main_arg1) (ix2 (tokOf t r) k) := by
  unfold tokOf
  blk_point [iblk, V, idx t]

theorem e2 (t : Fin cfg0.N) (y : S1408x1024.Idx) : (win0_2.blk t).view.emb y = ix2 (colOf t (y 0)) (y 1 : Fin 1024) := by
  unfold colOf
  blk_ext [idx t]

/-- The first point of a run of eight starts the sum with its product. -/
theorem sA (c : Dev nD) (t : Fin cfg0.N) (h : t.val % 8 = 0) (y : S1408x1024.Idx) :
    (outsAt0 m c t.val t.isLt).2 y = Cert.Mm.tn (k := 1024) (a := 1408) (b := 1024) (iblk m c 0 t) (iblk m c 1 t) y := by
  rw [outsAt0_A m c t h (by omega) (by omega)]
  frame_out
  idx_vars y
  open_payloads
  pointwise [Cert.Mm.tn]

/-- A later point adds its product. -/
theorem sB (c : Dev nD) (t : Fin cfg0.N) (h : ¬ t.val % 8 = 0) (y : S1408x1024.Idx) :
    (outsAt0 m c t.val t.isLt).2 y = (outsAt0 m c (t.val - 1) (Nat.lt_of_le_of_lt (Nat.sub_le _ _) t.isLt)).2 y
      + Cert.Mm.tn (k := 1024) (a := 1408) (b := 1024) (iblk m c 0 t) (iblk m c 1 t) y := by
  by_cases h7 : t.val % 8 = 7
  · rw [outsAt0_C m c t h (by omega) h7]
    frame_out
    idx_vars y
    open_payloads
    pointwise [Cert.Mm.tn]
    rw [read_unread_whole]
  · rw [outsAt0_B m c t h (by omega) h7]
    frame_out
    idx_vars y
    open_payloads
    pointwise [Cert.Mm.tn]
    rw [read_unread_whole]

/-- The last point of a run writes the sum out. -/
theorem sC (c : Dev nD) (t : Fin cfg0.N) (h7 : t.val % 8 = 7) (y : S1408x1024.Idx) :
    (outsAt0 m c t.val t.isLt).1 y = (outsAt0 m c t.val t.isLt).2 y := by
  rw [outsAt0_C m c t (by omega) (by omega) h7]
  frame_out

/-- A point's product is the sum over its block of tokens. -/
theorem part (c : Dev nD) (t t' : Fin cfg0.N) (s : Fin 8) (h : t'.val = 8 * (t.val / 8) + s.val) (i : Fin 1408) (j : Fin 1024) :
    Cert.Mm.tn (k := 1024) (a := 1408) (b := 1024) (iblk m c 0 t') (iblk m c 1 t') (ix2 i j)
      = Cert.Mm.tnPart (a := 2816) (b := 1024) (m ((c : Thread nD τ).loc main_arg0)) (m ((c : Thread nD τ).loc main_arg1)) s (colOf t (i)) (j) := by
  have ht : t.val < 16 := t.isLt
  have hs := s.isLt
  refine Finset.sum_congr rfl fun k _ => ?_
  have ek : tokOf t' k = (⟨s.val * 1024 + k.val, by omega⟩ : Fin 8192) :=
    Fin.ext (by show t'.val % 8 * 1024 + k.val = s.val * 1024 + k.val; omega)
  have ec : ∀ l, colOf t' l = colOf t l := fun l =>
    Fin.ext (by show t'.val / 8 * 1408 + l.val = t.val / 8 * 1408 + l.val; omega)
  exact congrArg₂ (fun a b : EReal => a * b) ((b0 m c t' k i).trans (by rw [ek, ec])) ((b1 m c t' k j).trans (by rw [ek]))

/-- The kernel's result is the product over all tokens. -/
theorem final2 (c : Dev nD) : (dats m 0 c).arrAt 2 (cfgs 0).N = Cert.Mm.tn (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, e2, sC m c t h7]
  rw [Pipeline.eq_sum_fin_of_reset_step_apply_of_flush (fun n h => (outsAt0 m c n h).2) 8 (fun _ => 0)
    (fun t y => Cert.Mm.tn (k := 1024) (a := 1408) (b := 1024) (iblk m c 0 t) (iblk m c 1 t) y)
    (fun t h y => (sA m c t h y).trans (zero_add _).symm) (fun t h y => sB m c t h y) t h7 _]
  refine (zero_add (_ : EReal)).trans ?_
  exact Eq.trans (Finset.sum_congr rfl fun s _ => part m c t _ s rfl (y 0) (y 1)) (Cert.Mm.tn_blocks (a := 2816) (b := 1024) (m ((c : Thread nD τ).loc main_arg0)) (m ((c : Thread nD τ).loc main_arg1)) (colOf t (y 0)) ((y 1 : Fin 1024)))

end Cert.DwoutIdeal.Val

end
-- ==== Proof.ActRef.lean ====
module

public import proofs.«01_k».proof.Proof.Gen.ActRefIdeal
public import proofs.«01_k».proof.Proof.Gen.ActRefIdeal.Run
public import Idealize.ShloMosaic.Lib.Pipeline.ValueKit
public import Idealize.ShloMosaic.Lib.Claim
public import proofs.«01_k».proof.Proof.MmSpec

@[expose] public section

set_option maxRecDepth 16384

noncomputable section

namespace Cert.ActRefIdeal.Val

open Cert.ActRefIdeal Cert.ActRefIdeal.Gen Idealize.ShloMosaic Idealize.ShloMosaic.TcCoe Idealize.SL.Sem

/-- The input product, both halves. -/
def z (X0 : FVec Ideal S8192x1024 .bf16) (X1 : FVec Ideal S1024x5632 .bf16) : FVec Ideal S8192x5632 .f32 :=
  Host.dotGeneral dot_S8192x1024_S1024x5632_S8192x5632_1_0_0_1_n_n none (extf .f32 X0 bitsLt_bf16_f32) (extf .f32 X1 bitsLt_bf16_f32)

/-- The reference's first result. -/
def r0 (X0 : FVec Ideal S8192x1024 .bf16) (X1 : FVec Ideal S1024x5632 .bf16) : FVec Ideal S8192x2816 .f32 :=
  extractStridedSlice S8192x2816 ![0, 0] (z X0 X1) slices_S8192x5632_S8192x2816_0_0

/-- The reference's second result. -/
def r1 (X0 : FVec Ideal S8192x1024 .bf16) (X1 : FVec Ideal S1024x5632 .bf16) : FVec Ideal S8192x2816 .f32 :=
  extractStridedSlice S8192x2816 ![0, 2816] (z X0 X1) slices_S8192x5632_S8192x2816_0_2816

/-- The logistic function of a matrix, entry by entry. -/
def sg (X : FVec Ideal S8192x2816 .f32) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf X)))

/-- The reference's third result. -/
def r2 (X0 : FVec Ideal S8192x1024 .bf16) (X1 : FVec Ideal S1024x5632 .bf16) : FVec Ideal S8192x2816 .bf16 :=
  truncf .bf16 (mulf (mulf (r0 X0 X1) (sg (r0 X0 X1))) (r1 X0 X1)) bitsLt_bf16_f32

theorem r0_eq (X0 X1) : r0 X0 X1 = Cert.Mm.zg X0 X1 := by
  funext i; idx_vars i
  pointwise [r0, z, Cert.Mm.zg, Cert.Mm.lo]

theorem r1_eq (X0 X1) : r1 X0 X1 = Cert.Mm.zu X0 X1 := by
  funext i; idx_vars i
  pointwise [r1, z, Cert.Mm.zu, Cert.Mm.hi]

theorem sg_eq (X i) : sg X i = Cert.Mm.sig (X i) := by
  pointwise [sg, Cert.Mm.sig]

theorem r2_eq (X0 X1) : r2 X0 X1 = Cert.Mm.act X0 X1 := by
  funext i
  show r0 X0 X1 i * sg (r0 X0 X1) i * r1 X0 X1 i = _
  rw [sg_eq, r0_eq, r1_eq]; rfl

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v3) = Cert.Mm.zg (m ((c.tc : Thread nD τ).loc main_arg0)) (m ((c.tc : Thread nD τ).loc main_arg1))
      ∧ r.2.mem ((c.tc : Thread nD τ).loc main_v4) = Cert.Mm.zu (m ((c.tc : Thread nD τ).loc main_arg0)) (m ((c.tc : Thread nD τ).loc main_arg1))
      ∧ r.2.mem ((c.tc : Thread nD τ).loc main_v7) = Cert.Mm.act (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2.1.trans (r1_eq _ _), (h c).2.2.1.trans (r2_eq _ _), (h c).2.2.2⟩) (Cert.ActRefIdeal.Value.run m ρ)

end Cert.ActRefIdeal.Val

end
-- ==== Proof.ActVal.lean ====
module

public import proofs.«01_k».proof.Proof.Gen.ActIdeal.Frame
public import Idealize.ShloMosaic.Lib.Pipeline.ValueKit
public import proofs.«01_k».proof.Proof.MmSpec

@[expose] public section

set_option maxRecDepth 16384

noncomputable section

namespace Cert.ActIdeal.Val

open Cert.ActIdeal Cert.ActIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 16, 0] ∧ win0_1.index t = ![0, t.val / 16] ∧ win0_2.index t = ![0, t.val / 16 + 2]
    ∧ win0_3.index t = ![t.val % 16, t.val / 16] ∧ win0_4.index t = ![t.val % 16, t.val / 16] ∧ win0_5.index t = ![t.val % 16, t.val / 16] :=
  (by decide +kernel : ∀ t : Fin grid0.N, _)

/-- Row `r` of the block of rows a point works on. -/
def rowOf (t : Fin cfg0.N) (r : Fin 512) : Fin 8192 := ⟨t.val % 16 * 512 + r.val, by omega⟩

/-- Column `l` of the block of columns a point works on. -/
def colOf (t : Fin cfg0.N) (l : Fin 1408) : Fin 2816 := ⟨t.val / 16 * 1408 + l.val, by have : t.val < 32 := t.isLt; omega⟩

theorem b0 (c : Dev nD) (t : Fin cfg0.N) (r : Fin 512) (k : Fin 1024) :
    iblk m c 0 t (ix2 r k) = m ((c : Thread nD τ).loc main_arg0) (ix2 (rowOf t r) k) := by
  unfold rowOf
  blk_point [iblk, V, idx t]

theorem b1 (c : Dev nD) (t : Fin cfg0.N) (k : Fin 1024) (l : Fin 1408) :
    iblk m c 1 t (ix2 k l) = m ((c : Thread nD τ).loc main_arg1) (ix2 k (Cert.Mm.lo (colOf t l))) := by
  unfold Cert.Mm.lo colOf
  blk_point [iblk, V, idx t]

theorem b2 (c : Dev nD) (t : Fin cfg0.N) (k : Fin 1024) (l : Fin 1408) :
    iblk m c 2 t (ix2 k l) = m ((c : Thread nD τ).loc main_arg1) (ix2 k (Cert.Mm.hi (colOf t l))) := by
  unfold Cert.Mm.hi colOf
  blk_point [iblk, V, idx t]

theorem e3 (t : Fin cfg0.N) (y : S512x1408.Idx) : (win0_3.blk t).view.emb y = ix2 (rowOf t (y 0)) (colOf t (y 1)) := by
  unfold rowOf colOf
  blk_ext [idx t]

theorem e4 (t : Fin cfg0.N) (y : S512x1408.Idx) : (win0_4.blk t).view.emb y = ix2 (rowOf t (y 0)) (colOf t (y 1)) := by
  unfold rowOf colOf
  blk_ext [idx t]

theorem e5 (t : Fin cfg0.N) (y : S512x1408.Idx) : (win0_5.blk t).view.emb y = ix2 (rowOf t (y 0)) (colOf t (y 1)) := by
  unfold rowOf colOf
  blk_ext [idx t]

/-- What a point writes to the first result, from its blocks. -/
theorem p3 (x0 : FVec Ideal S512x1024 .bf16) (x1 x2 : FVec Ideal S1024x1408 .bf16) (y : S512x1408.Idx) :
    out0_3 (F := Ideal) x0 x1 x2 y = Cert.Mm.nn (a := 512) (k := 1024) (b := 1408) x0 x1 y := by
  unfold out0_3
  frame_out
  idx_vars y
  open_payloads
  pointwise [Cert.Mm.nn]

/-- What a point writes to the second result. -/
theorem p4 (x0 : FVec Ideal S512x1024 .bf16) (x1 x2 : FVec Ideal S1024x1408 .bf16) (y : S512x1408.Idx) :
    out0_4 (F := Ideal) x0 x1 x2 y = Cert.Mm.nn (a := 512) (k := 1024) (b := 1408) x0 x2 y := by
  unfold out0_4
  frame_out
  idx_vars y
  open_payloads
  pointwise [Cert.Mm.nn]

/-- What a point writes to the third result. -/
theorem p5 (x0 : FVec Ideal S512x1024 .bf16) (x1 x2 : FVec Ideal S1024x1408 .bf16) (y : S512x1408.Idx) :
    out0_5 (F := Ideal) x0 x1 x2 y = Cert.Mm.nn (a := 512) (k := 1024) (b := 1408) x0 x1 y * Cert.Mm.sig (Cert.Mm.nn (a := 512) (k := 1024) (b := 1408) x0 x1 y)
      * Cert.Mm.nn (a := 512) (k := 1024) (b := 1408) x0 x2 y := by
  unfold out0_5
  frame_out
  idx_vars y
  open_payloads
  pointwise [Cert.Mm.nn, Cert.Mm.sig]
  rw [zero_sub]

theorem zg_at (c : Dev nD) (t : Fin cfg0.N) (y : S512x1408.Idx) :
    Cert.Mm.nn (a := 512) (k := 1024) (b := 1408) (iblk m c 0 t) (iblk m c 1 t) y
      = Cert.Mm.zg (m ((c : Thread nD τ).loc main_arg0)) (m ((c : Thread nD τ).loc main_arg1)) (ix2 (rowOf t (y 0)) (colOf t (y 1))) :=
  Finset.sum_congr rfl fun k _ => congrArg₂ (· * ·) (b0 m c t _ _) (b1 m c t _ _)

theorem zu_at (c : Dev nD) (t : Fin cfg0.N) (y : S512x1408.Idx) :
    Cert.Mm.nn (a := 512) (k := 1024) (b := 1408) (iblk m c 0 t) (iblk m c 2 t) y
      = Cert.Mm.zu (m ((c : Thread nD τ).loc main_arg0)) (m ((c : Thread nD τ).loc main_arg1)) (ix2 (rowOf t (y 0)) (colOf t (y 1))) :=
  Finset.sum_congr rfl fun k _ => congrArg₂ (· * ·) (b0 m c t _ _) (b2 m c t _ _)

/-- The first result is the gate half of the product. -/
theorem final3 (c : Dev nD) : (dats m 0 c).arrAt 3 (cfgs 0).N = Cert.Mm.zg (m ((c : Thread nD τ).loc main_arg0)) (m ((c : Thread nD τ).loc main_arg1)) := by
  refine (dats m 0 c).arrAt_eq_of_covers 3 _ (by decide +kernel) fun t hf y => ?_
  blk_simp
  rw [after0_3, e3]
  exact (p3 _ _ _ y).trans (zg_at m c t y)

/-- The second result is the value half. -/
theorem final4 (c : Dev nD) : (dats m 0 c).arrAt 4 (cfgs 0).N = Cert.Mm.zu (m ((c : Thread nD τ).loc main_arg0)) (m ((c : Thread nD τ).loc main_arg1)) := by
  refine (dats m 0 c).arrAt_eq_of_covers 4 _ (by decide +kernel) fun t hf y => ?_
  blk_simp
  rw [after0_4, e4]
  exact (p4 _ _ _ y).trans (zu_at m c t y)

/-- The third result is the activation. -/
theorem final5 (c : Dev nD) : (dats m 0 c).arrAt 5 (cfgs 0).N = Cert.Mm.act (m ((c : Thread nD τ).loc main_arg0)) (m ((c : Thread nD τ).loc main_arg1)) := by
  refine (dats m 0 c).arrAt_eq_of_covers 5 _ (by decide +kernel) fun t hf y => ?_
  blk_simp
  rw [after0_5, e5]
  refine (p5 _ _ _ y).trans ?_
  rw [zg_at, zu_at]; rfl

end Cert.ActIdeal.Val

end
-- ==== Proof.OutRef.lean ====
module

public import proofs.«01_k».proof.Proof.Gen.OutRefIdeal
public import proofs.«01_k».proof.Proof.Gen.OutRefIdeal.Run
public import Idealize.ShloMosaic.Lib.Pipeline.ValueKit
public import Idealize.ShloMosaic.Lib.Claim
public import proofs.«01_k».proof.Proof.MmSpec

@[expose] public section

set_option maxRecDepth 16384

noncomputable section

namespace Cert.OutRefIdeal.Val

open Cert.OutRefIdeal Cert.OutRefIdeal.Gen Idealize.ShloMosaic Idealize.ShloMosaic.TcCoe Idealize.SL.Sem

/-- The reference's result. -/
def r0 (X0 : FVec Ideal S8192x2816 .bf16) (X1 : FVec Ideal S2816x1024 .bf16) : FVec Ideal S8192x1024 .f32 :=
  Host.dotGeneral dot_S8192x2816_S2816x1024_S8192x1024_1_0_0_1_n_n none (extf .f32 X0 bitsLt_bf16_f32) (extf .f32 X1 bitsLt_bf16_f32)

theorem r0_eq (X0 X1) : r0 X0 X1 = Cert.Mm.nn X0 X1 := by
  funext i; idx_vars i
  pointwise [r0, Cert.Mm.nn]

variable (m : (ℓ : Loc nD τ sig) → Buf (Elt Ideal) ℓ) (ρ : Dev nD → PrngReg)

/-- The reference's run: its result is the matrix product, and its arguments are unchanged. -/
theorem run : θ_run defs (onTc (τ := τ) (main (F := Ideal))) ⟨m, fun _ => 0, ρ⟩ fun r => ∀ c : Dev nD,
      r.2.mem ((c.tc : Thread nD τ).loc main_v2) = Cert.Mm.nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.OutRefIdeal.Value.run m ρ)

end Cert.OutRefIdeal.Val

end
-- ==== Proof.OutVal.lean ====
module

public import proofs.«01_k».proof.Proof.Gen.OutIdeal.Frame
public import Idealize.ShloMosaic.Lib.Pipeline.ValueKit
public import proofs.«01_k».proof.Proof.MmSpec

@[expose] public section

set_option maxRecDepth 16384

noncomputable section

namespace Cert.OutIdeal.Val

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the block of rows a point works on. -/
def rowOf (t : Fin cfg0.N) (r : Fin 512) : Fin 8192 := ⟨t.val * 512 + r.val, by have : t.val < 16 := t.isLt; omega⟩

theorem b0 (c : Dev nD) (t : Fin cfg0.N) (r : Fin 512) (k : Fin 2816) :
    iblk m c 0 t (ix2 r k) = m ((c : Thread nD τ).loc main_arg0) (ix2 (rowOf t r) k) := by
  unfold rowOf
  blk_point [iblk, V, idx t]

theorem b1 (c : Dev nD) (t : Fin cfg0.N) (k : Fin 2816) (l : Fin 1024) :
    iblk m c 1 t (ix2 k l) = m ((c : Thread nD τ).loc main_arg1) (ix2 k l) := by
  blk_point [iblk, V, idx t]

theorem e2 (t : Fin cfg0.N) (y : S512x1024.Idx) : (win0_2.blk t).view.emb y = ix2 (rowOf t (y 0)) (y 1) := by
  unfold rowOf
  blk_ext [idx t]

/-- What a point writes. -/
theorem p2 (c : Dev nD) (t : Fin cfg0.N) (y : S512x1024.Idx) :
    outsAt0 m c t y = Cert.Mm.nn (a := 512) (k := 2816) (b := 1024) (iblk m c 0 t) (iblk m c 1 t) y := by
  unfold outsAt0
  frame_out
  idx_vars y
  open_payloads
  pointwise [Cert.Mm.nn]

/-- The kernel's result is the matrix product. -/
theorem final2 (c : Dev nD) : (dats m 0 c).arrAt 2 (cfgs 0).N
    = Cert.Mm.nn (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.OutIdeal.Val

end
-- ==== Proof.FoxInRef.lean ====
module

public import proofs.«01_k».proof.Proof.Gen.FoxInRefIdeal
public import proofs.«01_k».proof.Proof.Gen.FoxInRefIdeal.Run
public import Idealize.ShloMosaic.Lib.Pipeline.ValueKit
public import Idealize.ShloMosaic.Lib.Claim
public import proofs.«01_k».proof.Proof.MmSpec

@[expose] public section

set_option maxRecDepth 16384

noncomputable section

namespace Cert.FoxInRefIdeal.Val

open Cert.FoxInRefIdeal Cert.FoxInRefIdeal.Gen Idealize.ShloMosaic Idealize.ShloMosaic.TcCoe Idealize.SL.Sem

/-- The reference's result. -/
def r0 (X0 : FVec Ideal S8192x1024 .bf16) (X1 : FVec Ideal S1024x3200 .bf16) : FVec Ideal S8192x3200 .f32 :=
  Host.dotGeneral dot_S8192x1024_S1024x3200_S8192x3200_1_0_0_1_n_n none (extf .f32 X0 bitsLt_bf16_f32) (extf .f32 X1 bitsLt_bf16_f32)

theorem r0_eq (X0 X1) : r0 X0 X1 = Cert.Mm.nn X0 X1 := by
  funext i; idx_vars i
  pointwise [r0, Cert.Mm.nn]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v2) = Cert.Mm.nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.FoxInRefIdeal.Value.run m ρ)

end Cert.FoxInRefIdeal.Val

end
-- ==== Proof.FoxInVal.lean ====
module

public import proofs.«01_k».proof.Proof.Gen.FoxInIdeal.Frame
public import Idealize.ShloMosaic.Lib.Pipeline.ValueKit
public import proofs.«01_k».proof.Proof.MmSpec

@[expose] public section

set_option maxRecDepth 16384

noncomputable section

namespace Cert.FoxInIdeal.Val

open Cert.FoxInIdeal Cert.FoxInIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 16, 0] ∧ win0_1.index t = ![0, t.val / 16] ∧ win0_2.index t = ![t.val % 16, t.val / 16] :=
  (by decide +kernel : ∀ t : Fin grid0.N, _)

/-- Row `r` of the block of rows a point works on. -/
def rowOf (t : Fin cfg0.N) (r : Fin 512) : Fin 8192 := ⟨t.val % 16 * 512 + r.val, by omega⟩

/-- Column `l` of the block of columns a point works on. -/
def colOf (t : Fin cfg0.N) (l : Fin 640) : Fin 3200 := ⟨t.val / 16 * 640 + l.val, by have : t.val < 80 := t.isLt; omega⟩

theorem b0 (c : Dev nD) (t : Fin cfg0.N) (r : Fin 512) (k : Fin 1024) :
    iblk m c 0 t (ix2 r k) = m ((c : Thread nD τ).loc main_arg0) (ix2 (rowOf t r) k) := by
  unfold rowOf
  blk_point [iblk, V, idx t]

theorem b1 (c : Dev nD) (t : Fin cfg0.N) (k : Fin 1024) (l : Fin 640) :
    iblk m c 1 t (ix2 k l) = m ((c : Thread nD τ).loc main_arg1) (ix2 k (colOf t l)) := by
  unfold colOf
  blk_point [iblk, V, idx t]

theorem e2 (t : Fin cfg0.N) (y : S512x640.Idx) : (win0_2.blk t).view.emb y = ix2 (rowOf t (y 0)) (colOf t (y 1)) := by
  unfold rowOf colOf
  blk_ext [idx t]

/-- What a point writes. -/
theorem p2 (c : Dev nD) (t : Fin cfg0.N) (y : S512x640.Idx) :
    outsAt0 m c t y = Cert.Mm.nn (a := 512) (k := 1024) (b := 640) (iblk m c 0 t) (iblk m c 1 t) y := by
  unfold outsAt0
  frame_out
  idx_vars y
  open_payloads
  pointwise [Cert.Mm.nn]

/-- The kernel's result is the matrix product. -/
theorem final2 (c : Dev nD) : (dats m 0 c).arrAt 2 (cfgs 0).N
    = Cert.Mm.nn (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.FoxInIdeal.Val

end
-- ==== Proof.SbInRef.lean ====
module

public import proofs.«01_k».proof.Proof.Gen.SbInRefIdeal
public import proofs.«01_k».proof.Proof.Gen.SbInRefIdeal.Run
public import Idealize.ShloMosaic.Lib.Pipeline.ValueKit
public import Idealize.ShloMosaic.Lib.Claim
public import proofs.«01_k».proof.Proof.MmSpec

@[expose] public section

set_option maxRecDepth 16384

noncomputable section

namespace Cert.SbInRefIdeal.Val

open Cert.SbInRefIdeal Cert.SbInRefIdeal.Gen Idealize.ShloMosaic Idealize.ShloMosaic.TcCoe Idealize.SL.Sem

/-- The reference's result. -/
def r0 (X0 : FVec Ideal S8192x1024 .bf16) (X1 : FVec Ideal S1024x3072 .bf16) : FVec Ideal S8192x3072 .f32 :=
  Host.dotGeneral dot_S8192x1024_S1024x3072_S8192x3072_1_0_0_1_n_n none (extf .f32 X0 bitsLt_bf16_f32) (extf .f32 X1 bitsLt_bf16_f32)

theorem r0_eq (X0 X1) : r0 X0 X1 = Cert.Mm.nn X0 X1 := by
  funext i; idx_vars i
  pointwise [r0, Cert.Mm.nn]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v2) = Cert.Mm.nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.SbInRefIdeal.Value.run m ρ)

end Cert.SbInRefIdeal.Val

end
-- ==== Proof.SbInVal.lean ====
module

public import proofs.«01_k».proof.Proof.Gen.SbInIdeal.Frame
public import Idealize.ShloMosaic.Lib.Pipeline.ValueKit
public import proofs.«01_k».proof.Proof.MmSpec

@[expose] public section

set_option maxRecDepth 16384

noncomputable section

namespace Cert.SbInIdeal.Val

open Cert.SbInIdeal Cert.SbInIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 16, 0] ∧ win0_1.index t = ![0, t.val / 16] ∧ win0_2.index t = ![t.val % 16, t.val / 16] :=
  (by decide +kernel : ∀ t : Fin grid0.N, _)

/-- Row `r` of the block of rows a point works on. -/
def rowOf (t : Fin cfg0.N) (r : Fin 512) : Fin 8192 := ⟨t.val % 16 * 512 + r.val, by omega⟩

/-- Column `l` of the block of columns a point works on. -/
def colOf (t : Fin cfg0.N) (l : Fin 1536) : Fin 3072 := ⟨t.val / 16 * 1536 + l.val, by have : t.val < 32 := t.isLt; omega⟩

theorem b0 (c : Dev nD) (t : Fin cfg0.N) (r : Fin 512) (k : Fin 1024) :
    iblk m c 0 t (ix2 r k) = m ((c : Thread nD τ).loc main_arg0) (ix2 (rowOf t r) k) := by
  unfold rowOf
  blk_point [iblk, V, idx t]

theorem b1 (c : Dev nD) (t : Fin cfg0.N) (k : Fin 1024) (l : Fin 1536) :
    iblk m c 1 t (ix2 k l) = m ((c : Thread nD τ).loc main_arg1) (ix2 k (colOf t l)) := by
  unfold colOf
  blk_point [iblk, V, idx t]

theorem e2 (t : Fin cfg0.N) (y : S512x1536.Idx) : (win0_2.blk t).view.emb y = ix2 (rowOf t (y 0)) (colOf t (y 1)) := by
  unfold rowOf colOf
  blk_ext [idx t]

/-- What a point writes. -/
theorem p2 (c : Dev nD) (t : Fin cfg0.N) (y : S512x1536.Idx) :
    outsAt0 m c t y = Cert.Mm.nn (a := 512) (k := 1024) (b := 1536) (iblk m c 0 t) (iblk m c 1 t) y := by
  unfold outsAt0
  frame_out
  idx_vars y
  open_payloads
  pointwise [Cert.Mm.nn]

/-- The kernel's result is the matrix product. -/
theorem final2 (c : Dev nD) : (dats m 0 c).arrAt 2 (cfgs 0).N
    = Cert.Mm.nn (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.SbInIdeal.Val

end
-- ==== Proof.GmInRef.lean ====
module

public import proofs.«01_k».proof.Proof.Gen.GmInRefIdeal
public import proofs.«01_k».proof.Proof.Gen.GmInRefIdeal.Run
public import Idealize.ShloMosaic.Lib.Pipeline.ValueKit
public import Idealize.ShloMosaic.Lib.Claim
public import proofs.«01_k».proof.Proof.MmSpec

@[expose] public section

set_option maxRecDepth 16384

noncomputable section

namespace Cert.GmInRefIdeal.Val

open Cert.GmInRefIdeal Cert.GmInRefIdeal.Gen Idealize.ShloMosaic Idealize.ShloMosaic.TcCoe Idealize.SL.Sem

/-- The reference's result. -/
def r0 (X0 : FVec Ideal S8192x1024 .bf16) (X1 : FVec Ideal S1024x2048 .bf16) : FVec Ideal S8192x2048 .f32 :=
  Host.dotGeneral dot_S8192x1024_S1024x2048_S8192x2048_1_0_0_1_n_n none (extf .f32 X0 bitsLt_bf16_f32) (extf .f32 X1 bitsLt_bf16_f32)

theorem r0_eq (X0 X1) : r0 X0 X1 = Cert.Mm.nn X0 X1 := by
  funext i; idx_vars i
  pointwise [r0, Cert.Mm.nn]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v2) = Cert.Mm.nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.GmInRefIdeal.Value.run m ρ)

end Cert.GmInRefIdeal.Val

end
-- ==== Proof.GmInVal.lean ====
module

public import proofs.«01_k».proof.Proof.Gen.GmInIdeal.Frame
public import Idealize.ShloMosaic.Lib.Pipeline.ValueKit
public import proofs.«01_k».proof.Proof.MmSpec

@[expose] public section

set_option maxRecDepth 16384

noncomputable section

namespace Cert.GmInIdeal.Val

open Cert.GmInIdeal Cert.GmInIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 16, 0] ∧ win0_1.index t = ![0, t.val / 16] ∧ win0_2.index t = ![t.val % 16, t.val / 16] :=
  (by decide +kernel : ∀ t : Fin grid0.N, _)

/-- Row `r` of the block of rows a point works on. -/
def rowOf (t : Fin cfg0.N) (r : Fin 512) : Fin 8192 := ⟨t.val % 16 * 512 + r.val, by omega⟩

/-- Column `l` of the block of columns a point works on. -/
def colOf (t : Fin cfg0.N) (l : Fin 1024) : Fin 2048 := ⟨t.val / 16 * 1024 + l.val, by have : t.val < 32 := t.isLt; omega⟩

theorem b0 (c : Dev nD) (t : Fin cfg0.N) (r : Fin 512) (k : Fin 1024) :
    iblk m c 0 t (ix2 r k) = m ((c : Thread nD τ).loc main_arg0) (ix2 (rowOf t r) k) := by
  unfold rowOf
  blk_point [iblk, V, idx t]

theorem b1 (c : Dev nD) (t : Fin cfg0.N) (k : Fin 1024) (l : Fin 1024) :
    iblk m c 1 t (ix2 k l) = m ((c : Thread nD τ).loc main_arg1) (ix2 k (colOf t l)) := by
  unfold colOf
  blk_point [iblk, V, idx t]

theorem e2 (t : Fin cfg0.N) (y : S512x1024.Idx) : (win0_2.blk t).view.emb y = ix2 (rowOf t (y 0)) (colOf t (y 1)) := by
  unfold rowOf colOf
  blk_ext [idx t]

/-- What a point writes. -/
theorem p2 (c : Dev nD) (t : Fin cfg0.N) (y : S512x1024.Idx) :
    outsAt0 m c t y = Cert.Mm.nn (a := 512) (k := 1024) (b := 1024) (iblk m c 0 t) (iblk m c 1 t) y := by
  unfold outsAt0
  frame_out
  idx_vars y
  open_payloads
  pointwise [Cert.Mm.nn]

/-- The kernel's result is the matrix product. -/
theorem final2 (c : Dev nD) : (dats m 0 c).arrAt 2 (cfgs 0).N
    = Cert.Mm.nn (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.GmInIdeal.Val

end
-- ==== Proof.MixOutRef.lean ====
module

public import proofs.«01_k».proof.Proof.Gen.MixOutRefIdeal
public import proofs.«01_k».proof.Proof.Gen.MixOutRefIdeal.Run
public import Idealize.ShloMosaic.Lib.Pipeline.ValueKit
public import Idealize.ShloMosaic.Lib.Claim
public import proofs.«01_k».proof.Proof.MmSpec

@[expose] public section

set_option maxRecDepth 16384

noncomputable section

namespace Cert.MixOutRefIdeal.Val

open Cert.MixOutRefIdeal Cert.MixOutRefIdeal.Gen Idealize.ShloMosaic Idealize.ShloMosaic.TcCoe Idealize.SL.Sem

/-- The reference's result. -/
def r0 (X0 : FVec Ideal S8192x1024 .bf16) (X1 : FVec Ideal S1024x1024 .bf16) : FVec Ideal S8192x1024 .f32 :=
  Host.dotGeneral dot_S8192x1024_S1024x1024_S8192x1024_1_0_0_1_n_n none (extf .f32 X0 bitsLt_bf16_f32) (extf .f32 X1 bitsLt_bf16_f32)

theorem r0_eq (X0 X1) : r0 X0 X1 = Cert.Mm.nn X0 X1 := by
  funext i; idx_vars i
  pointwise [r0, Cert.Mm.nn]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v2) = Cert.Mm.nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.MixOutRefIdeal.Value.run m ρ)

end Cert.MixOutRefIdeal.Val

end
-- ==== Proof.MixOutVal.lean ====
module

public import proofs.«01_k».proof.Proof.Gen.MixOutIdeal.Frame
public import Idealize.ShloMosaic.Lib.Pipeline.ValueKit
public import proofs.«01_k».proof.Proof.MmSpec

@[expose] public section

set_option maxRecDepth 16384

noncomputable section

namespace Cert.MixOutIdeal.Val

open Cert.MixOutIdeal Cert.MixOutIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the block of rows a point works on. -/
def rowOf (t : Fin cfg0.N) (r : Fin 512) : Fin 8192 := ⟨t.val * 512 + r.val, by have : t.val < 16 := t.isLt; omega⟩

theorem b0 (c : Dev nD) (t : Fin cfg0.N) (r : Fin 512) (k : Fin 1024) :
    iblk m c 0 t (ix2 r k) = m ((c : Thread nD τ).loc main_arg0) (ix2 (rowOf t r) k) := by
  unfold rowOf
  blk_point [iblk, V, idx t]

theorem b1 (c : Dev nD) (t : Fin cfg0.N) (k : Fin 1024) (l : Fin 1024) :
    iblk m c 1 t (ix2 k l) = m ((c : Thread nD τ).loc main_arg1) (ix2 k l) := by
  blk_point [iblk, V, idx t]

theorem e2 (t : Fin cfg0.N) (y : S512x1024.Idx) : (win0_2.blk t).view.emb y = ix2 (rowOf t (y 0)) (y 1) := by
  unfold rowOf
  blk_ext [idx t]

/-- What a point writes. -/
theorem p2 (c : Dev nD) (t : Fin cfg0.N) (y : S512x1024.Idx) :
    outsAt0 m c t y = Cert.Mm.nn (a := 512) (k := 1024) (b := 1024) (iblk m c 0 t) (iblk m c 1 t) y := by
  unfold outsAt0
  frame_out
  idx_vars y
  open_payloads
  pointwise [Cert.Mm.nn]

/-- The kernel's result is the matrix product. -/
theorem final2 (c : Dev nD) : (dats m 0 c).arrAt 2 (cfgs 0).N
    = Cert.Mm.nn (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.MixOutIdeal.Val

end
-- ==== Proof.MixDwoutRef.lean ====
module

public import proofs.«01_k».proof.Proof.Gen.MixDwoutRefIdeal
public import proofs.«01_k».proof.Proof.Gen.MixDwoutRefIdeal.Run
public import Idealize.ShloMosaic.Lib.Pipeline.ValueKit
public import Idealize.ShloMosaic.Lib.Claim
public import proofs.«01_k».proof.Proof.MmSpec

@[expose] public section

set_option maxRecDepth 16384

noncomputable section

namespace Cert.MixDwoutRefIdeal.Val

open Cert.MixDwoutRefIdeal Cert.MixDwoutRefIdeal.Gen Idealize.ShloMosaic Idealize.ShloMosaic.TcCoe Idealize.SL.Sem

/-- The reference's result. -/
def r0 (X0 : FVec Ideal S8192x1024 .bf16) (X1 : FVec Ideal S8192x1024 .bf16) : FVec Ideal S1024x1024 .f32 :=
  transpose S1024x1024 [1, 0] (Host.dotGeneral dot_S8192x1024_S8192x1024_S1024x1024_0_0_1_1_n_n none (extf .f32 X1 bitsLt_bf16_f32) (extf .f32 X0 bitsLt_bf16_f32)) transposes_S1024x1024_S1024x1024_1_0

theorem r0_eq (X0 X1) : r0 X0 X1 = Cert.Mm.tn X0 X1 := by
  funext i; idx_vars i
  pointwise [r0, Cert.Mm.tn]
  exact Finset.sum_congr rfl fun k _ => mul_comm _ _

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v5) = Cert.Mm.tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.MixDwoutRefIdeal.Value.run m ρ)

end Cert.MixDwoutRefIdeal.Val

end
-- ==== Proof.MixDwoutVal.lean ====
module

public import proofs.«01_k».proof.Proof.Gen.MixDwoutIdeal.Frame
public import Idealize.ShloMosaic.Lib.Pipeline.ValueKit
public import proofs.«01_k».proof.Proof.MmSpec
public import Idealize.ShloMosaic.Lib.Pipeline.ReadBack

@[expose] public section

set_option maxRecDepth 16384

noncomputable section

namespace Cert.MixDwoutIdeal.Val

open Cert.MixDwoutIdeal Cert.MixDwoutIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- Row `r` of the block of tokens a point works on. -/
def tokOf (t : Fin cfg0.N) (r : Fin 1024) : Fin 8192 := ⟨t.val % 8 * 1024 + r.val, by omega⟩

/-- Lane `l` of the block of columns a point works on. -/
def colOf (t : Fin cfg0.N) (l : Fin 1024) : Fin 1024 := ⟨t.val / 8 * 1024 + l.val, by have : t.val < 8 := t.isLt; omega⟩

theorem b0 (c : Dev nD) (t : Fin cfg0.N) (r : Fin 1024) (k : Fin 1024) :
    iblk m c 0 t (ix2 r k) = m ((c : Thread nD τ).loc main_arg0) (ix2 (tokOf t r) k) := by
  unfold tokOf
  blk_point [iblk, V, idx t]

theorem b1 (c : Dev nD) (t : Fin cfg0.N) (r : Fin 1024) (k : Fin 1024) :
    iblk m c 1 t (ix2 r k) = m ((c : Thread nD τ).loc main_arg1) (ix2 (tokOf t r) (colOf t k)) := by
  unfold tokOf colOf
  blk_point [iblk, V, idx t]

theorem e2 (t : Fin cfg0.N) (y : S1024x1024.Idx) : (win0_2.blk t).view.emb y = ix2 (y 0 : Fin 1024) (colOf t (y 1)) := by
  unfold colOf
  blk_ext [idx t]

/-- The first point of a run of eight starts the sum with its product. -/
theorem sA (c : Dev nD) (t : Fin cfg0.N) (h : t.val % 8 = 0) (y : S1024x1024.Idx) :
    (outsAt0 m c t.val t.isLt).2 y = Cert.Mm.tn (k := 1024) (a := 1024) (b := 1024) (iblk m c 0 t) (iblk m c 1 t) y := by
  have ht : t.val < 8 := t.isLt
  rw [outsAt0_A m c t h (by omega) (by omega)]
  frame_out
  idx_vars y
  open_payloads
  pointwise [Cert.Mm.tn]

/-- A later point adds its product. -/
theorem sB (c : Dev nD) (t : Fin cfg0.N) (h : ¬ t.val % 8 = 0) (y : S1024x1024.Idx) :
    (outsAt0 m c t.val t.isLt).2 y = (outsAt0 m c (t.val - 1) (Nat.lt_of_le_of_lt (Nat.sub_le _ _) t.isLt)).2 y
      + Cert.Mm.tn (k := 1024) (a := 1024) (b := 1024) (iblk m c 0 t) (iblk m c 1 t) y := by
  by_cases h7 : t.val % 8 = 7
  · rw [outsAt0_C m c t h (by omega) h7]
    frame_out
    idx_vars y
    open_payloads
    pointwise [Cert.Mm.tn]
    rw [read_unread_whole]
  · rw [outsAt0_B m c t h (by omega) h7]
    frame_out
    idx_vars y
    open_payloads
    pointwise [Cert.Mm.tn]
    rw [read_unread_whole]

/-- The last point of a run writes the sum out. -/
theorem sC (c : Dev nD) (t : Fin cfg0.N) (h7 : t.val % 8 = 7) (y : S1024x1024.Idx) :
    (outsAt0 m c t.val t.isLt).1 y = (outsAt0 m c t.val t.isLt).2 y := by
  rw [outsAt0_C m c t (by omega) (by omega) h7]
  frame_out

/-- A point's product is the sum over its block of tokens. -/
theorem part (c : Dev nD) (t t' : Fin cfg0.N) (s : Fin 8) (h : t'.val = 8 * (t.val / 8) + s.val) (i : Fin 1024) (j : Fin 1024) :
    Cert.Mm.tn (k := 1024) (a := 1024) (b := 1024) (iblk m c 0 t') (iblk m c 1 t') (ix2 i j)
      = Cert.Mm.tnPart (a := 1024) (b := 1024) (m ((c : Thread nD τ).loc main_arg0)) (m ((c : Thread nD τ).loc main_arg1)) s i (colOf t j) := by
  have ht : t.val < 8 := t.isLt
  have hs := s.isLt
  refine Finset.sum_congr rfl fun k _ => ?_
  have ek : tokOf t' k = (⟨s.val * 1024 + k.val, by omega⟩ : Fin 8192) :=
    Fin.ext (by show t'.val % 8 * 1024 + k.val = s.val * 1024 + k.val; omega)
  have ec : ∀ l, colOf t' l = colOf t l := fun l =>
    Fin.ext (by show t'.val / 8 * 1024 + l.val = t.val / 8 * 1024 + l.val; omega)
  exact congrArg₂ (fun a b : EReal => a * b) ((b0 m c t' k i).trans (by rw [ek])) ((b1 m c t' k j).trans (by rw [ek, ec]))

/-- The kernel's result is the product over all tokens. -/
theorem final2 (c : Dev nD) : (dats m 0 c).arrAt 2 (cfgs 0).N = Cert.Mm.tn (m ((c : Thread nD τ).loc main_arg0)) (m ((c : Thread nD τ).loc main_arg1)) := by
  refine (dats m 0 c).arrAt_eq_of_covers 2 _ (by decide +kernel) fun t hf y => ?_
  have ht : t.val < 8 := t.isLt
  have h7 : t.val % 8 = 7 := by have := (flush0_2 t).mp hf; omega
  blk_simp
  rw [after0_2, e2, sC m c t h7]
  rw [Pipeline.eq_sum_fin_of_reset_step_apply_of_flush (fun n h => (outsAt0 m c n h).2) 8 (fun _ => 0)
    (fun t y => Cert.Mm.tn (k := 1024) (a := 1024) (b := 1024) (iblk m c 0 t) (iblk m c 1 t) y)
    (fun t h y => (sA m c t h y).trans (zero_add _).symm) (fun t h y => sB m c t h y) t h7 _]
  refine (zero_add (_ : EReal)).trans ?_
  exact Eq.trans (Finset.sum_congr rfl fun s _ => part m c t _ s rfl (y 0) (y 1)) (Cert.Mm.tn_blocks (a := 1024) (b := 1024) (m ((c : Thread nD τ).loc main_arg0)) (m ((c : Thread nD τ).loc main_arg1)) (y 0 : Fin 1024) (colOf t (y 1)))

end Cert.MixDwoutIdeal.Val

end
-- ==== Proof.GmDwinRef.lean ====
module

public import proofs.«01_k».proof.Proof.Gen.GmDwinRefIdeal
public import proofs.«01_k».proof.Proof.Gen.GmDwinRefIdeal.Run
public import Idealize.ShloMosaic.Lib.Pipeline.ValueKit
public import Idealize.ShloMosaic.Lib.Claim
public import proofs.«01_k».proof.Proof.MmSpec

@[expose] public section

set_option maxRecDepth 16384

noncomputable section

namespace Cert.GmDwinRefIdeal.Val

open Cert.GmDwinRefIdeal Cert.GmDwinRefIdeal.Gen Idealize.ShloMosaic Idealize.ShloMosaic.TcCoe Idealize.SL.Sem

/-- The reference's result. -/
def r0 (X0 : FVec Ideal S8192x1024 .bf16) (X1 : FVec Ideal S8192x2048 .bf16) : FVec Ideal S1024x2048 .f32 :=
  transpose S1024x2048 [1, 0] (Host.dotGeneral dot_S8192x2048_S8192x1024_S2048x1024_0_0_1_1_n_n none (extf .f32 X1 bitsLt_bf16_f32) (extf .f32 X0 bitsLt_bf16_f32)) transposes_S2048x1024_S1024x2048_1_0

theorem r0_eq (X0 X1) : r0 X0 X1 = Cert.Mm.tn X0 X1 := by
  funext i; idx_vars i
  pointwise [r0, Cert.Mm.tn]
  exact Finset.sum_congr rfl fun k _ => mul_comm _ _

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v5) = Cert.Mm.tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.GmDwinRefIdeal.Value.run m ρ)

end Cert.GmDwinRefIdeal.Val

end
-- ==== Proof.GmDwinVal.lean ====
module

public import proofs.«01_k».proof.Proof.Gen.GmDwinIdeal.Frame
public import Idealize.ShloMosaic.Lib.Pipeline.ValueKit
public import proofs.«01_k».proof.Proof.MmSpec
public import Idealize.ShloMosaic.Lib.Pipeline.ReadBack

@[expose] public section

set_option maxRecDepth 16384

noncomputable section

namespace Cert.GmDwinIdeal.Val

open Cert.GmDwinIdeal Cert.GmDwinIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- Row `r` of the block of tokens a point works on. -/
def tokOf (t : Fin cfg0.N) (r : Fin 1024) : Fin 8192 := ⟨t.val % 8 * 1024 + r.val, by omega⟩

/-- Lane `l` of the block of columns a point works on. -/
def colOf (t : Fin cfg0.N) (l : Fin 1024) : Fin 2048 := ⟨t.val / 8 * 1024 + l.val, by have : t.val < 16 := t.isLt; omega⟩

theorem b0 (c : Dev nD) (t : Fin cfg0.N) (r : Fin 1024) (k : Fin 1024) :
    iblk m c 0 t (ix2 r k) = m ((c : Thread nD τ).loc main_arg0) (ix2 (tokOf t r) k) := by
  unfold tokOf
  blk_point [iblk, V, idx t]

theorem b1 (c : Dev nD) (t : Fin cfg0.N) (r : Fin 1024) (k : Fin 1024) :
    iblk m c 1 t (ix2 r k) = m ((c : Thread nD τ).loc main_arg1) (ix2 (tokOf t r) (colOf t k)) := by
  unfold tokOf colOf
  blk_point [iblk, V, idx t]

theorem e2 (t : Fin cfg0.N) (y : S1024x1024.Idx) : (win0_2.blk t).view.emb y = ix2 (y 0 : Fin 1024) (colOf t (y 1)) := by
  unfold colOf
  blk_ext [idx t]

/-- The first point of a run of eight starts the sum with its product. -/
theorem sA (c : Dev nD) (t : Fin cfg0.N) (h : t.val % 8 = 0) (y : S1024x1024.Idx) :
    (outsAt0 m c t.val t.isLt).2 y = Cert.Mm.tn (k := 1024) (a := 1024) (b := 1024) (iblk m c 0 t) (iblk m c 1 t) y := by
  have ht : t.val < 16 := t.isLt
  rw [outsAt0_A m c t h (by omega) (by omega)]
  frame_out
  idx_vars y
  open_payloads
  pointwise [Cert.Mm.tn]

/-- A later point adds its product. -/
theorem sB (c : Dev nD) (t : Fin cfg0.N) (h : ¬ t.val % 8 = 0) (y : S1024x1024.Idx) :
    (outsAt0 m c t.val t.isLt).2 y = (outsAt0 m c (t.val - 1) (Nat.lt_of_le_of_lt (Nat.sub_le _ _) t.isLt)).2 y
      + Cert.Mm.tn (k := 1024) (a := 1024) (b := 1024) (iblk m c 0 t) (iblk m c 1 t) y := by
  by_cases h7 : t.val % 8 = 7
  · rw [outsAt0_C m c t h (by omega) h7]
    frame_out
    idx_vars y
    open_payloads
    pointwise [Cert.Mm.tn]
    rw [read_unread_whole]
  · rw [outsAt0_B m c t h (by omega) h7]
    frame_out
    idx_vars y
    open_payloads
    pointwise [Cert.Mm.tn]
    rw [read_unread_whole]

/-- The last point of a run writes the sum out. -/
theorem sC (c : Dev nD) (t : Fin cfg0.N) (h7 : t.val % 8 = 7) (y : S1024x1024.Idx) :
    (outsAt0 m c t.val t.isLt).1 y = (outsAt0 m c t.val t.isLt).2 y := by
  rw [outsAt0_C m c t (by omega) (by omega) h7]
  frame_out

/-- A point's product is the sum over its block of tokens. -/
theorem part (c : Dev nD) (t t' : Fin cfg0.N) (s : Fin 8) (h : t'.val = 8 * (t.val / 8) + s.val) (i : Fin 1024) (j : Fin 1024) :
    Cert.Mm.tn (k := 1024) (a := 1024) (b := 1024) (iblk m c 0 t') (iblk m c 1 t') (ix2 i j)
      = Cert.Mm.tnPart (a := 1024) (b := 2048) (m ((c : Thread nD τ).loc main_arg0)) (m ((c : Thread nD τ).loc main_arg1)) s i (colOf t j) := by
  have ht : t.val < 16 := t.isLt
  have hs := s.isLt
  refine Finset.sum_congr rfl fun k _ => ?_
  have ek : tokOf t' k = (⟨s.val * 1024 + k.val, by omega⟩ : Fin 8192) :=
    Fin.ext (by show t'.val % 8 * 1024 + k.val = s.val * 1024 + k.val; omega)
  have ec : ∀ l, colOf t' l = colOf t l := fun l =>
    Fin.ext (by show t'.val / 8 * 1024 + l.val = t.val / 8 * 1024 + l.val; omega)
  exact congrArg₂ (fun a b : EReal => a * b) ((b0 m c t' k i).trans (by rw [ek])) ((b1 m c t' k j).trans (by rw [ek, ec]))

/-- The kernel's result is the product over all tokens. -/
theorem final2 (c : Dev nD) : (dats m 0 c).arrAt 2 (cfgs 0).N = Cert.Mm.tn (m ((c : Thread nD τ).loc main_arg0)) (m ((c : Thread nD τ).loc main_arg1)) := by
  refine (dats m 0 c).arrAt_eq_of_covers 2 _ (by decide +kernel) fun t hf y => ?_
  have ht : t.val < 16 := t.isLt
  have h7 : t.val % 8 = 7 := by have := (flush0_2 t).mp hf; omega
  blk_simp
  rw [after0_2, e2, sC m c t h7]
  rw [Pipeline.eq_sum_fin_of_reset_step_apply_of_flush (fun n h => (outsAt0 m c n h).2) 8 (fun _ => 0)
    (fun t y => Cert.Mm.tn (k := 1024) (a := 1024) (b := 1024) (iblk m c 0 t) (iblk m c 1 t) y)
    (fun t h y => (sA m c t h y).trans (zero_add _).symm) (fun t h y => sB m c t h y) t h7 _]
  refine (zero_add (_ : EReal)).trans ?_
  exact Eq.trans (Finset.sum_congr rfl fun s _ => part m c t _ s rfl (y 0) (y 1)) (Cert.Mm.tn_blocks (a := 1024) (b := 2048) (m ((c : Thread nD τ).loc main_arg0)) (m ((c : Thread nD τ).loc main_arg1)) (y 0 : Fin 1024) (colOf t (y 1)))

end Cert.GmDwinIdeal.Val

end
-- ==== Proof.SbDwinRef.lean ====
module

public import proofs.«01_k».proof.Proof.Gen.SbDwinRefIdeal
public import proofs.«01_k».proof.Proof.Gen.SbDwinRefIdeal.Run
public import Idealize.ShloMosaic.Lib.Pipeline.ValueKit
public import Idealize.ShloMosaic.Lib.Claim
public import proofs.«01_k».proof.Proof.MmSpec

@[expose] public section

set_option maxRecDepth 16384

noncomputable section

namespace Cert.SbDwinRefIdeal.Val

open Cert.SbDwinRefIdeal Cert.SbDwinRefIdeal.Gen Idealize.ShloMosaic Idealize.ShloMosaic.TcCoe Idealize.SL.Sem

/-- The reference's result. -/
def r0 (X0 : FVec Ideal S8192x1024 .bf16) (X1 : FVec Ideal S8192x3072 .bf16) : FVec Ideal S1024x3072 .f32 :=
  transpose S1024x3072 [1, 0] (Host.dotGeneral dot_S8192x3072_S8192x1024_S3072x1024_0_0_1_1_n_n none (extf .f32 X1 bitsLt_bf16_f32) (extf .f32 X0 bitsLt_bf16_f32)) transposes_S3072x1024_S1024x3072_1_0

theorem r0_eq (X0 X1) : r0 X0 X1 = Cert.Mm.tn X0 X1 := by
  funext i; idx_vars i
  pointwise [r0, Cert.Mm.tn]
  exact Finset.sum_congr rfl fun k _ => mul_comm _ _

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v5) = Cert.Mm.tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.SbDwinRefIdeal.Value.run m ρ)

end Cert.SbDwinRefIdeal.Val

end
-- ==== Proof.SbDwinVal.lean ====
module

public import proofs.«01_k».proof.Proof.Gen.SbDwinIdeal.Frame
public import Idealize.ShloMosaic.Lib.Pipeline.ValueKit
public import proofs.«01_k».proof.Proof.MmSpec
public import Idealize.ShloMosaic.Lib.Pipeline.ReadBack

@[expose] public section

set_option maxRecDepth 16384

noncomputable section

namespace Cert.SbDwinIdeal.Val

open Cert.SbDwinIdeal Cert.SbDwinIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- Row `r` of the block of tokens a point works on. -/
def tokOf (t : Fin cfg0.N) (r : Fin 1024) : Fin 8192 := ⟨t.val % 8 * 1024 + r.val, by omega⟩

/-- Lane `l` of the block of columns a point works on. -/
def colOf (t : Fin cfg0.N) (l : Fin 1536) : Fin 3072 := ⟨t.val / 8 * 1536 + l.val, by have : t.val < 16 := t.isLt; omega⟩

theorem b0 (c : Dev nD) (t : Fin cfg0.N) (r : Fin 1024) (k : Fin 1024) :
    iblk m c 0 t (ix2 r k) = m ((c : Thread nD τ).loc main_arg0) (ix2 (tokOf t r) k) := by
  unfold tokOf
  blk_point [iblk, V, idx t]

theorem b1 (c : Dev nD) (t : Fin cfg0.N) (r : Fin 1024) (k : Fin 1536) :
    iblk m c 1 t (ix2 r k) = m ((c : Thread nD τ).loc main_arg1) (ix2 (tokOf t r) (colOf t k)) := by
  unfold tokOf colOf
  blk_point [iblk, V, idx t]

theorem e2 (t : Fin cfg0.N) (y : S1024x1536.Idx) : (win0_2.blk t).view.emb y = ix2 (y 0 : Fin 1024) (colOf t (y 1)) := by
  unfold colOf
  blk_ext [idx t]

/-- The first point of a run of eight starts the sum with its product. -/
theorem sA (c : Dev nD) (t : Fin cfg0.N) (h : t.val % 8 = 0) (y : S1024x1536.Idx) :
    (outsAt0 m c t.val t.isLt).2 y = Cert.Mm.tn (k := 1024) (a := 1024) (b := 1536) (iblk m c 0 t) (iblk m c 1 t) y := by
  have ht : t.val < 16 := t.isLt
  rw [outsAt0_A m c t h (by omega) (by omega)]
  frame_out
  idx_vars y
  open_payloads
  pointwise [Cert.Mm.tn]

/-- A later point adds its product. -/
theorem sB (c : Dev nD) (t : Fin cfg0.N) (h : ¬ t.val % 8 = 0) (y : S1024x1536.Idx) :
    (outsAt0 m c t.val t.isLt).2 y = (outsAt0 m c (t.val - 1) (Nat.lt_of_le_of_lt (Nat.sub_le _ _) t.isLt)).2 y
      + Cert.Mm.tn (k := 1024) (a := 1024) (b := 1536) (iblk m c 0 t) (iblk m c 1 t) y := by
  by_cases h7 : t.val % 8 = 7
  · rw [outsAt0_C m c t h (by omega) h7]
    frame_out
    idx_vars y
    open_payloads
    pointwise [Cert.Mm.tn]
    rw [read_unread_whole]
  · rw [outsAt0_B m c t h (by omega) h7]
    frame_out
    idx_vars y
    open_payloads
    pointwise [Cert.Mm.tn]
    rw [read_unread_whole]

/-- The last point of a run writes the sum out. -/
theorem sC (c : Dev nD) (t : Fin cfg0.N) (h7 : t.val % 8 = 7) (y : S1024x1536.Idx) :
    (outsAt0 m c t.val t.isLt).1 y = (outsAt0 m c t.val t.isLt).2 y := by
  rw [outsAt0_C m c t (by omega) (by omega) h7]
  frame_out

/-- A point's product is the sum over its block of tokens. -/
theorem part (c : Dev nD) (t t' : Fin cfg0.N) (s : Fin 8) (h : t'.val = 8 * (t.val / 8) + s.val) (i : Fin 1024) (j : Fin 1536) :
    Cert.Mm.tn (k := 1024) (a := 1024) (b := 1536) (iblk m c 0 t') (iblk m c 1 t') (ix2 i j)
      = Cert.Mm.tnPart (a := 1024) (b := 3072) (m ((c : Thread nD τ).loc main_arg0)) (m ((c : Thread nD τ).loc main_arg1)) s i (colOf t j) := by
  have ht : t.val < 16 := t.isLt
  have hs := s.isLt
  refine Finset.sum_congr rfl fun k _ => ?_
  have ek : tokOf t' k = (⟨s.val * 1024 + k.val, by omega⟩ : Fin 8192) :=
    Fin.ext (by show t'.val % 8 * 1024 + k.val = s.val * 1024 + k.val; omega)
  have ec : ∀ l, colOf t' l = colOf t l := fun l =>
    Fin.ext (by show t'.val / 8 * 1536 + l.val = t.val / 8 * 1536 + l.val; omega)
  exact congrArg₂ (fun a b : EReal => a * b) ((b0 m c t' k i).trans (by rw [ek])) ((b1 m c t' k j).trans (by rw [ek, ec]))

/-- The kernel's result is the product over all tokens. -/
theorem final2 (c : Dev nD) : (dats m 0 c).arrAt 2 (cfgs 0).N = Cert.Mm.tn (m ((c : Thread nD τ).loc main_arg0)) (m ((c : Thread nD τ).loc main_arg1)) := by
  refine (dats m 0 c).arrAt_eq_of_covers 2 _ (by decide +kernel) fun t hf y => ?_
  have ht : t.val < 16 := t.isLt
  have h7 : t.val % 8 = 7 := by have := (flush0_2 t).mp hf; omega
  blk_simp
  rw [after0_2, e2, sC m c t h7]
  rw [Pipeline.eq_sum_fin_of_reset_step_apply_of_flush (fun n h => (outsAt0 m c n h).2) 8 (fun _ => 0)
    (fun t y => Cert.Mm.tn (k := 1024) (a := 1024) (b := 1536) (iblk m c 0 t) (iblk m c 1 t) y)
    (fun t h y => (sA m c t h y).trans (zero_add _).symm) (fun t h y => sB m c t h y) t h7 _]
  refine (zero_add (_ : EReal)).trans ?_
  exact Eq.trans (Finset.sum_congr rfl fun s _ => part m c t _ s rfl (y 0) (y 1)) (Cert.Mm.tn_blocks (a := 1024) (b := 3072) (m ((c : Thread nD τ).loc main_arg0)) (m ((c : Thread nD τ).loc main_arg1)) (y 0 : Fin 1024) (colOf t (y 1)))

end Cert.SbDwinIdeal.Val

end
-- ==== Proof.FoxDwinRef.lean ====
module

public import proofs.«01_k».proof.Proof.Gen.FoxDwinRefIdeal
public import proofs.«01_k».proof.Proof.Gen.FoxDwinRefIdeal.Run
public import Idealize.ShloMosaic.Lib.Pipeline.ValueKit
public import Idealize.ShloMosaic.Lib.Claim
public import proofs.«01_k».proof.Proof.MmSpec

@[expose] public section

set_option maxRecDepth 16384

noncomputable section

namespace Cert.FoxDwinRefIdeal.Val

open Cert.FoxDwinRefIdeal Cert.FoxDwinRefIdeal.Gen Idealize.ShloMosaic Idealize.ShloMosaic.TcCoe Idealize.SL.Sem

/-- The reference's result. -/
def r0 (X0 : FVec Ideal S8192x1024 .bf16) (X1 : FVec Ideal S8192x3200 .bf16) : FVec Ideal S1024x3200 .f32 :=
  transpose S1024x3200 [1, 0] (Host.dotGeneral dot_S8192x3200_S8192x1024_S3200x1024_0_0_1_1_n_n none (extf .f32 X1 bitsLt_bf16_f32) (extf .f32 X0 bitsLt_bf16_f32)) transposes_S3200x1024_S1024x3200_1_0

theorem r0_eq (X0 X1) : r0 X0 X1 = Cert.Mm.tn X0 X1 := by
  funext i; idx_vars i
  pointwise [r0, Cert.Mm.tn]
  exact Finset.sum_congr rfl fun k _ => mul_comm _ _

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v5) = Cert.Mm.tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.FoxDwinRefIdeal.Value.run m ρ)

end Cert.FoxDwinRefIdeal.Val

end
-- ==== Proof.FoxDwinVal.lean ====
module

public import proofs.«01_k».proof.Proof.Gen.FoxDwinIdeal.Frame
public import Idealize.ShloMosaic.Lib.Pipeline.ValueKit
public import proofs.«01_k».proof.Proof.MmSpec
public import Idealize.ShloMosaic.Lib.Pipeline.ReadBack

@[expose] public section

set_option maxRecDepth 16384

noncomputable section

namespace Cert.FoxDwinIdeal.Val

open Cert.FoxDwinIdeal Cert.FoxDwinIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- Row `r` of the block of tokens a point works on. -/
def tokOf (t : Fin cfg0.N) (r : Fin 1024) : Fin 8192 := ⟨t.val % 8 * 1024 + r.val, by omega⟩

/-- Lane `l` of the block of columns a point works on. -/
def colOf (t : Fin cfg0.N) (l : Fin 640) : Fin 3200 := ⟨t.val / 8 * 640 + l.val, by have : t.val < 40 := t.isLt; omega⟩

theorem b0 (c : Dev nD) (t : Fin cfg0.N) (r : Fin 1024) (k : Fin 1024) :
    iblk m c 0 t (ix2 r k) = m ((c : Thread nD τ).loc main_arg0) (ix2 (tokOf t r) k) := by
  unfold tokOf
  blk_point [iblk, V, idx t]

theorem b1 (c : Dev nD) (t : Fin cfg0.N) (r : Fin 1024) (k : Fin 640) :
    iblk m c 1 t (ix2 r k) = m ((c : Thread nD τ).loc main_arg1) (ix2 (tokOf t r) (colOf t k)) := by
  unfold tokOf colOf
  blk_point [iblk, V, idx t]

theorem e2 (t : Fin cfg0.N) (y : S1024x640.Idx) : (win0_2.blk t).view.emb y = ix2 (y 0 : Fin 1024) (colOf t (y 1)) := by
  unfold colOf
  blk_ext [idx t]

/-- The first point of a run of eight starts the sum with its product. -/
theorem sA (c : Dev nD) (t : Fin cfg0.N) (h : t.val % 8 = 0) (y : S1024x640.Idx) :
    (outsAt0 m c t.val t.isLt).2 y = Cert.Mm.tn (k := 1024) (a := 1024) (b := 640) (iblk m c 0 t) (iblk m c 1 t) y := by
  have ht : t.val < 40 := t.isLt
  rw [outsAt0_A m c t h (by omega) (by omega)]
  frame_out
  idx_vars y
  open_payloads
  pointwise [Cert.Mm.tn]

/-- A later point adds its product. -/
theorem sB (c : Dev nD) (t : Fin cfg0.N) (h : ¬ t.val % 8 = 0) (y : S1024x640.Idx) :
    (outsAt0 m c t.val t.isLt).2 y = (outsAt0 m c (t.val - 1) (Nat.lt_of_le_of_lt (Nat.sub_le _ _) t.isLt)).2 y
      + Cert.Mm.tn (k := 1024) (a := 1024) (b := 640) (iblk m c 0 t) (iblk m c 1 t) y := by
  by_cases h7 : t.val % 8 = 7
  · rw [outsAt0_C m c t h (by omega) h7]
    frame_out
    idx_vars y
    open_payloads
    pointwise [Cert.Mm.tn]
    rw [read_unread_whole]
  · rw [outsAt0_B m c t h (by omega) h7]
    frame_out
    idx_vars y
    open_payloads
    pointwise [Cert.Mm.tn]
    rw [read_unread_whole]

/-- The last point of a run writes the sum out. -/
theorem sC (c : Dev nD) (t : Fin cfg0.N) (h7 : t.val % 8 = 7) (y : S1024x640.Idx) :
    (outsAt0 m c t.val t.isLt).1 y = (outsAt0 m c t.val t.isLt).2 y := by
  rw [outsAt0_C m c t (by omega) (by omega) h7]
  frame_out

/-- A point's product is the sum over its block of tokens. -/
theorem part (c : Dev nD) (t t' : Fin cfg0.N) (s : Fin 8) (h : t'.val = 8 * (t.val / 8) + s.val) (i : Fin 1024) (j : Fin 640) :
    Cert.Mm.tn (k := 1024) (a := 1024) (b := 640) (iblk m c 0 t') (iblk m c 1 t') (ix2 i j)
      = Cert.Mm.tnPart (a := 1024) (b := 3200) (m ((c : Thread nD τ).loc main_arg0)) (m ((c : Thread nD τ).loc main_arg1)) s i (colOf t j) := by
  have ht : t.val < 40 := t.isLt
  have hs := s.isLt
  refine Finset.sum_congr rfl fun k _ => ?_
  have ek : tokOf t' k = (⟨s.val * 1024 + k.val, by omega⟩ : Fin 8192) :=
    Fin.ext (by show t'.val % 8 * 1024 + k.val = s.val * 1024 + k.val; omega)
  have ec : ∀ l, colOf t' l = colOf t l := fun l =>
    Fin.ext (by show t'.val / 8 * 640 + l.val = t.val / 8 * 640 + l.val; omega)
  exact congrArg₂ (fun a b : EReal => a * b) ((b0 m c t' k i).trans (by rw [ek])) ((b1 m c t' k j).trans (by rw [ek, ec]))

/-- The kernel's result is the product over all tokens. -/
theorem final2 (c : Dev nD) : (dats m 0 c).arrAt 2 (cfgs 0).N = Cert.Mm.tn (m ((c : Thread nD τ).loc main_arg0)) (m ((c : Thread nD τ).loc main_arg1)) := by
  refine (dats m 0 c).arrAt_eq_of_covers 2 _ (by decide +kernel) fun t hf y => ?_
  have ht : t.val < 40 := t.isLt
  have h7 : t.val % 8 = 7 := by have := (flush0_2 t).mp hf; omega
  blk_simp
  rw [after0_2, e2, sC m c t h7]
  rw [Pipeline.eq_sum_fin_of_reset_step_apply_of_flush (fun n h => (outsAt0 m c n h).2) 8 (fun _ => 0)
    (fun t y => Cert.Mm.tn (k := 1024) (a := 1024) (b := 640) (iblk m c 0 t) (iblk m c 1 t) y)
    (fun t h y => (sA m c t h y).trans (zero_add _).symm) (fun t h y => sB m c t h y) t h7 _]
  refine (zero_add (_ : EReal)).trans ?_
  exact Eq.trans (Finset.sum_congr rfl fun s _ => part m c t _ s rfl (y 0) (y 1)) (Cert.Mm.tn_blocks (a := 1024) (b := 3200) (m ((c : Thread nD τ).loc main_arg0)) (m ((c : Thread nD τ).loc main_arg1)) (y 0 : Fin 1024) (colOf t (y 1)))

end Cert.FoxDwinIdeal.Val

end
-- ==== Proof.GmDyRef.lean ====
module

public import proofs.«01_k».proof.Proof.Gen.GmDyRefIdeal
public import proofs.«01_k».proof.Proof.Gen.GmDyRefIdeal.Run
public import Idealize.ShloMosaic.Lib.Pipeline.ValueKit
public import Idealize.ShloMosaic.Lib.Claim
public import proofs.«01_k».proof.Proof.MmSpec

@[expose] public section

set_option maxRecDepth 16384

noncomputable section

namespace Cert.GmDyRefIdeal.Val

open Cert.GmDyRefIdeal Cert.GmDyRefIdeal.Gen Idealize.ShloMosaic Idealize.ShloMosaic.TcCoe Idealize.SL.Sem

/-- The reference's result. -/
def r0 (X0 : FVec Ideal S8192x1024 .bf16) (X1 : FVec Ideal S1024x1024 .bf16) : FVec Ideal S8192x1024 .f32 :=
  Host.dotGeneral dot_S8192x1024_S1024x1024_S8192x1024_1_1_0_0_n_n none (extf .f32 X0 bitsLt_bf16_f32) (extf .f32 X1 bitsLt_bf16_f32)

theorem r0_eq (X0 X1) : r0 X0 X1 = Cert.Mm.nt X0 X1 := by
  funext i; idx_vars i
  pointwise [r0, Cert.Mm.nt]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v4) = Cert.Mm.nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.GmDyRefIdeal.Value.run m ρ)

end Cert.GmDyRefIdeal.Val

end
-- ==== Proof.GmDyVal.lean ====
module

public import proofs.«01_k».proof.Proof.Gen.GmDyIdeal.Frame
public import Idealize.ShloMosaic.Lib.Pipeline.ValueKit
public import proofs.«01_k».proof.Proof.MmSpec

@[expose] public section

set_option maxRecDepth 16384

noncomputable section

namespace Cert.GmDyIdeal.Val

open Cert.GmDyIdeal Cert.GmDyIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the block of rows a point works on. -/
def rowOf (t : Fin cfg0.N) (r : Fin 512) : Fin 8192 := ⟨t.val * 512 + r.val, by have : t.val < 16 := t.isLt; omega⟩

theorem b0 (c : Dev nD) (t : Fin cfg0.N) (r : Fin 512) (k : Fin 1024) :
    iblk m c 0 t (ix2 r k) = m ((c : Thread nD τ).loc main_arg0) (ix2 (rowOf t r) k) := by
  unfold rowOf
  blk_point [iblk, V, idx t]

theorem b1 (c : Dev nD) (t : Fin cfg0.N) (l : Fin 1024) (k : Fin 1024) :
    iblk m c 1 t (ix2 l k) = m ((c : Thread nD τ).loc main_arg1) (ix2 l k) := by
  blk_point [iblk, V, idx t]

theorem e2 (t : Fin cfg0.N) (y : S512x1024.Idx) : (win0_2.blk t).view.emb y = ix2 (rowOf t (y 0)) (y 1) := by
  unfold rowOf
  blk_ext [idx t]

/-- What a point writes. -/
theorem p2 (c : Dev nD) (t : Fin cfg0.N) (y : S512x1024.Idx) :
    outsAt0 m c t y = Cert.Mm.nt (a := 512) (k := 1024) (b := 1024) (iblk m c 0 t) (iblk m c 1 t) y := by
  unfold outsAt0
  frame_out
  idx_vars y
  open_payloads
  pointwise [Cert.Mm.nt]

/-- The kernel's result is the matrix product. -/
theorem final2 (c : Dev nD) : (dats m 0 c).arrAt 2 (cfgs 0).N
    = Cert.Mm.nt (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.GmDyIdeal.Val

end
-- ==== Proof.FoxDoRef.lean ====
module

public import proofs.«01_k».proof.Proof.Gen.FoxDoRefIdeal
public import proofs.«01_k».proof.Proof.Gen.FoxDoRefIdeal.Run
public import Idealize.ShloMosaic.Lib.Pipeline.ValueKit
public import Idealize.ShloMosaic.Lib.Claim
public import proofs.«01_k».proof.Proof.MmSpec

@[expose] public section

set_option maxRecDepth 16384

noncomputable section

namespace Cert.FoxDoRefIdeal.Val

open Cert.FoxDoRefIdeal Cert.FoxDoRefIdeal.Gen Idealize.ShloMosaic Idealize.ShloMosaic.TcCoe Idealize.SL.Sem

/-- The reference's result. -/
def r0 (X0 : FVec Ideal S8192x1024 .bf16) (X1 : FVec Ideal S1024x1024 .bf16) : FVec Ideal S8192x1024 .bf16 :=
  truncf .bf16 (Host.dotGeneral dot_S8192x1024_S1024x1024_S8192x1024_1_1_0_0_n_n none (extf .f32 X0 bitsLt_bf16_f32) (extf .f32 X1 bitsLt_bf16_f32)) bitsLt_bf16_f32

theorem r0_eq (X0 X1) : r0 X0 X1 = Cert.Mm.nt X0 X1 := by
  funext i; idx_vars i
  pointwise [r0, Cert.Mm.nt]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v5) = Cert.Mm.nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.FoxDoRefIdeal.Value.run m ρ)

end Cert.FoxDoRefIdeal.Val

end
-- ==== Proof.FoxDoVal.lean ====
module

public import proofs.«01_k».proof.Proof.Gen.FoxDoIdeal.Frame
public import Idealize.ShloMosaic.Lib.Pipeline.ValueKit
public import proofs.«01_k».proof.Proof.MmSpec

@[expose] public section

set_option maxRecDepth 16384

noncomputable section

namespace Cert.FoxDoIdeal.Val

open Cert.FoxDoIdeal Cert.FoxDoIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the block of rows a point works on. -/
def rowOf (t : Fin cfg0.N) (r : Fin 512) : Fin 8192 := ⟨t.val * 512 + r.val, by have : t.val < 16 := t.isLt; omega⟩

theorem b0 (c : Dev nD) (t : Fin cfg0.N) (r : Fin 512) (k : Fin 1024) :
    iblk m c 0 t (ix2 r k) = m ((c : Thread nD τ).loc main_arg0) (ix2 (rowOf t r) k) := by
  unfold rowOf
  blk_point [iblk, V, idx t]

theorem b1 (c : Dev nD) (t : Fin cfg0.N) (l : Fin 1024) (k : Fin 1024) :
    iblk m c 1 t (ix2 l k) = m ((c : Thread nD τ).loc main_arg1) (ix2 l k) := by
  blk_point [iblk, V, idx t]

theorem e2 (t : Fin cfg0.N) (y : S512x1024.Idx) : (win0_2.blk t).view.emb y = ix2 (rowOf t (y 0)) (y 1) := by
  unfold rowOf
  blk_ext [idx t]

/-- What a point writes. -/
theorem p2 (c : Dev nD) (t : Fin cfg0.N) (y : S512x1024.Idx) :
    outsAt0 m c t y = Cert.Mm.nt (a := 512) (k := 1024) (b := 1024) (iblk m c 0 t) (iblk m c 1 t) y := by
  unfold outsAt0
  frame_out
  idx_vars y
  open_payloads
  pointwise [Cert.Mm.nt]

/-- The kernel's result is the matrix product. -/
theorem final2 (c : Dev nD) : (dats m 0 c).arrAt 2 (cfgs 0).N
    = Cert.Mm.nt (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.FoxDoIdeal.Val

end
-- ==== Proof.GmDhRef.lean ====
module

public import proofs.«01_k».proof.Proof.Gen.GmDhRefIdeal
public import proofs.«01_k».proof.Proof.Gen.GmDhRefIdeal.Run
public import Idealize.ShloMosaic.Lib.Pipeline.ValueKit
public import Idealize.ShloMosaic.Lib.Claim
public import proofs.«01_k».proof.Proof.MmSpec

@[expose] public section

set_option maxRecDepth 16384

noncomputable section

namespace Cert.GmDhRefIdeal.Val

open Cert.GmDhRefIdeal Cert.GmDhRefIdeal.Gen Idealize.ShloMosaic Idealize.ShloMosaic.TcCoe Idealize.SL.Sem

/-- The reference's result. -/
def r0 (X0 : FVec Ideal S8192x2048 .bf16) (X1 : FVec Ideal S1024x2048 .bf16) : FVec Ideal S8192x1024 .f32 :=
  Host.dotGeneral dot_S8192x2048_S1024x2048_S8192x1024_1_1_0_0_n_n none (extf .f32 X0 bitsLt_bf16_f32) (extf .f32 X1 bitsLt_bf16_f32)

theorem r0_eq (X0 X1) : r0 X0 X1 = Cert.Mm.nt X0 X1 := by
  funext i; idx_vars i
  pointwise [r0, Cert.Mm.nt]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v4) = Cert.Mm.nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.GmDhRefIdeal.Value.run m ρ)

end Cert.GmDhRefIdeal.Val

end
-- ==== Proof.GmDhVal.lean ====
module

public import proofs.«01_k».proof.Proof.Gen.GmDhIdeal.Frame
public import Idealize.ShloMosaic.Lib.Pipeline.ValueKit
public import proofs.«01_k».proof.Proof.MmSpec

@[expose] public section

set_option maxRecDepth 16384

noncomputable section

namespace Cert.GmDhIdeal.Val

open Cert.GmDhIdeal Cert.GmDhIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the block of rows a point works on. -/
def rowOf (t : Fin cfg0.N) (r : Fin 512) : Fin 8192 := ⟨t.val * 512 + r.val, by have : t.val < 16 := t.isLt; omega⟩

theorem b0 (c : Dev nD) (t : Fin cfg0.N) (r : Fin 512) (k : Fin 2048) :
    iblk m c 0 t (ix2 r k) = m ((c : Thread nD τ).loc main_arg0) (ix2 (rowOf t r) k) := by
  unfold rowOf
  blk_point [iblk, V, idx t]

theorem b1 (c : Dev nD) (t : Fin cfg0.N) (l : Fin 1024) (k : Fin 2048) :
    iblk m c 1 t (ix2 l k) = m ((c : Thread nD τ).loc main_arg1) (ix2 l k) := by
  blk_point [iblk, V, idx t]

theorem e2 (t : Fin cfg0.N) (y : S512x1024.Idx) : (win0_2.blk t).view.emb y = ix2 (rowOf t (y 0)) (y 1) := by
  unfold rowOf
  blk_ext [idx t]

/-- What a point writes. -/
theorem p2 (c : Dev nD) (t : Fin cfg0.N) (y : S512x1024.Idx) :
    outsAt0 m c t y = Cert.Mm.nt (a := 512) (k := 2048) (b := 1024) (iblk m c 0 t) (iblk m c 1 t) y := by
  unfold outsAt0
  frame_out
  idx_vars y
  open_payloads
  pointwise [Cert.Mm.nt]

/-- The kernel's result is the matrix product. -/
theorem final2 (c : Dev nD) : (dats m 0 c).arrAt 2 (cfgs 0).N
    = Cert.Mm.nt (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.GmDhIdeal.Val

end
-- ==== Proof.SbDhRef.lean ====
module

public import proofs.«01_k».proof.Proof.Gen.SbDhRefIdeal
public import proofs.«01_k».proof.Proof.Gen.SbDhRefIdeal.Run
public import Idealize.ShloMosaic.Lib.Pipeline.ValueKit
public import Idealize.ShloMosaic.Lib.Claim
public import proofs.«01_k».proof.Proof.MmSpec

@[expose] public section

set_option maxRecDepth 16384

noncomputable section

namespace Cert.SbDhRefIdeal.Val

open Cert.SbDhRefIdeal Cert.SbDhRefIdeal.Gen Idealize.ShloMosaic Idealize.ShloMosaic.TcCoe Idealize.SL.Sem

/-- The reference's result. -/
def r0 (X0 : FVec Ideal S8192x3072 .bf16) (X1 : FVec Ideal S1024x3072 .bf16) : FVec Ideal S8192x1024 .f32 :=
  Host.dotGeneral dot_S8192x3072_S1024x3072_S8192x1024_1_1_0_0_n_n none (extf .f32 X0 bitsLt_bf16_f32) (extf .f32 X1 bitsLt_bf16_f32)

theorem r0_eq (X0 X1) : r0 X0 X1 = Cert.Mm.nt X0 X1 := by
  funext i; idx_vars i
  pointwise [r0, Cert.Mm.nt]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v4) = Cert.Mm.nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.SbDhRefIdeal.Value.run m ρ)

end Cert.SbDhRefIdeal.Val

end
-- ==== Proof.SbDhVal.lean ====
module

public import proofs.«01_k».proof.Proof.Gen.SbDhIdeal.Frame
public import Idealize.ShloMosaic.Lib.Pipeline.ValueKit
public import proofs.«01_k».proof.Proof.MmSpec

@[expose] public section

set_option maxRecDepth 16384

noncomputable section

namespace Cert.SbDhIdeal.Val

open Cert.SbDhIdeal Cert.SbDhIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the block of rows a point works on. -/
def rowOf (t : Fin cfg0.N) (r : Fin 512) : Fin 8192 := ⟨t.val * 512 + r.val, by have : t.val < 16 := t.isLt; omega⟩

theorem b0 (c : Dev nD) (t : Fin cfg0.N) (r : Fin 512) (k : Fin 3072) :
    iblk m c 0 t (ix2 r k) = m ((c : Thread nD τ).loc main_arg0) (ix2 (rowOf t r) k) := by
  unfold rowOf
  blk_point [iblk, V, idx t]

theorem b1 (c : Dev nD) (t : Fin cfg0.N) (l : Fin 1024) (k : Fin 3072) :
    iblk m c 1 t (ix2 l k) = m ((c : Thread nD τ).loc main_arg1) (ix2 l k) := by
  blk_point [iblk, V, idx t]

theorem e2 (t : Fin cfg0.N) (y : S512x1024.Idx) : (win0_2.blk t).view.emb y = ix2 (rowOf t (y 0)) (y 1) := by
  unfold rowOf
  blk_ext [idx t]

/-- What a point writes. -/
theorem p2 (c : Dev nD) (t : Fin cfg0.N) (y : S512x1024.Idx) :
    outsAt0 m c t y = Cert.Mm.nt (a := 512) (k := 3072) (b := 1024) (iblk m c 0 t) (iblk m c 1 t) y := by
  unfold outsAt0
  frame_out
  idx_vars y
  open_payloads
  pointwise [Cert.Mm.nt]

/-- The kernel's result is the matrix product. -/
theorem final2 (c : Dev nD) : (dats m 0 c).arrAt 2 (cfgs 0).N
    = Cert.Mm.nt (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.SbDhIdeal.Val

end
-- ==== Proof.FoxDhRef.lean ====
module

public import proofs.«01_k».proof.Proof.Gen.FoxDhRefIdeal
public import proofs.«01_k».proof.Proof.Gen.FoxDhRefIdeal.Run
public import Idealize.ShloMosaic.Lib.Pipeline.ValueKit
public import Idealize.ShloMosaic.Lib.Claim
public import proofs.«01_k».proof.Proof.MmSpec

@[expose] public section

set_option maxRecDepth 16384

noncomputable section

namespace Cert.FoxDhRefIdeal.Val

open Cert.FoxDhRefIdeal Cert.FoxDhRefIdeal.Gen Idealize.ShloMosaic Idealize.ShloMosaic.TcCoe Idealize.SL.Sem

/-- The reference's result. -/
def r0 (X0 : FVec Ideal S8192x3200 .bf16) (X1 : FVec Ideal S1024x3200 .bf16) : FVec Ideal S8192x1024 .f32 :=
  Host.dotGeneral dot_S8192x3200_S1024x3200_S8192x1024_1_1_0_0_n_n none (extf .f32 X0 bitsLt_bf16_f32) (extf .f32 X1 bitsLt_bf16_f32)

theorem r0_eq (X0 X1) : r0 X0 X1 = Cert.Mm.nt X0 X1 := by
  funext i; idx_vars i
  pointwise [r0, Cert.Mm.nt]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v4) = Cert.Mm.nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.FoxDhRefIdeal.Value.run m ρ)

end Cert.FoxDhRefIdeal.Val

end
-- ==== Proof.FoxDhVal.lean ====
module

public import proofs.«01_k».proof.Proof.Gen.FoxDhIdeal.Frame
public import Idealize.ShloMosaic.Lib.Pipeline.ValueKit
public import proofs.«01_k».proof.Proof.MmSpec

@[expose] public section

set_option maxRecDepth 16384

noncomputable section

namespace Cert.FoxDhIdeal.Val

open Cert.FoxDhIdeal Cert.FoxDhIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the block of rows a point works on. -/
def rowOf (t : Fin cfg0.N) (r : Fin 512) : Fin 8192 := ⟨t.val * 512 + r.val, by have : t.val < 16 := t.isLt; omega⟩

theorem b0 (c : Dev nD) (t : Fin cfg0.N) (r : Fin 512) (k : Fin 3200) :
    iblk m c 0 t (ix2 r k) = m ((c : Thread nD τ).loc main_arg0) (ix2 (rowOf t r) k) := by
  unfold rowOf
  blk_point [iblk, V, idx t]

theorem b1 (c : Dev nD) (t : Fin cfg0.N) (l : Fin 1024) (k : Fin 3200) :
    iblk m c 1 t (ix2 l k) = m ((c : Thread nD τ).loc main_arg1) (ix2 l k) := by
  blk_point [iblk, V, idx t]

theorem e2 (t : Fin cfg0.N) (y : S512x1024.Idx) : (win0_2.blk t).view.emb y = ix2 (rowOf t (y 0)) (y 1) := by
  unfold rowOf
  blk_ext [idx t]

/-- What a point writes. -/
theorem p2 (c : Dev nD) (t : Fin cfg0.N) (y : S512x1024.Idx) :
    outsAt0 m c t y = Cert.Mm.nt (a := 512) (k := 3200) (b := 1024) (iblk m c 0 t) (iblk m c 1 t) y := by
  unfold outsAt0
  frame_out
  idx_vars y
  open_payloads
  pointwise [Cert.Mm.nt]

/-- The kernel's result is the matrix product. -/
theorem final2 (c : Dev nD) : (dats m 0 c).arrAt 2 (cfgs 0).N
    = Cert.Mm.nt (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (· * ·) (b0 m c t _ _) (b1 m c t _ _)

end Cert.FoxDhIdeal.Val

end
-- ==== Proof.VecSpec.lean ====
module

public import Idealize.ShloMosaic.Lib.Pipeline.ValueKit

@[expose] public section

set_option maxRecDepth 16384

noncomputable section

namespace Cert.Vec

open Idealize.ShloMosaic

/-- The shape of the activations: batch, position, feature. -/
abbrev A3 : Shape := ⟨3, ![2, 4096, 1024]⟩
/-- The shape of a row of features for each batch. -/
abbrev C3 : Shape := ⟨3, ![2, 1, 1024]⟩
/-- The shape of one row of features. -/
abbrev R2 : Shape := ⟨2, ![1, 1024]⟩
/-- The shape of the activations with two halves of features. -/
abbrev W3 : Shape := ⟨3, ![2, 4096, 2048]⟩
/-- The shape of one row with two halves of features. -/
abbrev V2 : Shape := ⟨2, ![1, 2048]⟩

/-- The batch that grid point `n` works on. -/
def bt (n : ℕ) : Fin 2 := ⟨n / 16 % 2, by omega⟩
/-- The position of row `r` of the block that grid point `n` works on. -/
def pos (n : ℕ) (r : Fin 256) : Fin 4096 := ⟨n % 16 * 256 + r.val, by omega⟩

/-- Column `l` of the left half. -/
def lo (l : Fin 1024) : Fin 2048 := ⟨l.val, by omega⟩
/-- Column `l` of the right half. -/
def hi (l : Fin 1024) : Fin 2048 := ⟨1024 + l.val, by omega⟩

/-- The logistic function. -/
def sig (x : EReal) : EReal := Ideal.div 1 (1 + Ideal.exp (-x))

/-- The residual's weight, the fourth root of eight rounded. -/
def alpha : EReal := Scalar.ofBits (F := Ideal) .f32 0x3FD744FD#32
/-- The number of features. -/
def feats : EReal := Scalar.ofBits (F := Ideal) .f32 0x44800000#32
/-- The constant under the norm's root. -/
def eps : EReal := Scalar.ofBits (F := Ideal) .f32 0x3727C5AC#32

/-- A modulated activation. -/
def modu (x : A3.Idx → EReal) (sc sh : C3.Idx → EReal) : A3.Idx → EReal :=
  fun i => x i * (1 + sc (ix3 (i 0 : Fin 2) 0 (i 2 : Fin 1024))) + sh (ix3 (i 0 : Fin 2) 0 (i 2 : Fin 1024))

/-- The input's gradient through the modulation, with the residual's. -/
def modx (dh dr : A3.Idx → EReal) (sc : C3.Idx → EReal) : A3.Idx → EReal :=
  fun i => alpha * dr i + dh i * (1 + sc (ix3 (i 0 : Fin 2) 0 (i 2 : Fin 1024)))

/-- The scale's gradient. -/
def modsc (dh x : A3.Idx → EReal) : C3.Idx → EReal :=
  fun i => ∑ p : Fin 4096, x (ix3 (i 0 : Fin 2) p (i 2 : Fin 1024)) * dh (ix3 (i 0 : Fin 2) p (i 2 : Fin 1024))

/-- The shift's gradient. -/
def modsh (dh : A3.Idx → EReal) : C3.Idx → EReal :=
  fun i => ∑ p : Fin 4096, dh (ix3 (i 0 : Fin 2) p (i 2 : Fin 1024))

/-- The value half of a biased product. -/
def glua (pw : W3.Idx → EReal) (b : V2.Idx → EReal) : A3.Idx → EReal :=
  fun i => pw (ix3 (i 0 : Fin 2) (i 1 : Fin 4096) (lo (i 2))) + b (ix2 0 (lo (i 2)))

/-- The gate half of a biased product. -/
def glug (pw : W3.Idx → EReal) (b : V2.Idx → EReal) : A3.Idx → EReal :=
  fun i => pw (ix3 (i 0 : Fin 2) (i 1 : Fin 4096) (hi (i 2))) + b (ix2 0 (hi (i 2)))

/-- The gated linear unit. -/
def glu (pw : W3.Idx → EReal) (b : V2.Idx → EReal) : A3.Idx → EReal :=
  fun i => glua pw b i * sig (glug pw b i)

/-- The gradient of a row of the gated linear unit's input: the value half, then the gate half. -/
def dgluRow (pw b : Fin 2048 → EReal) (dy : Fin 1024 → EReal) (l : Fin 2048) : EReal :=
  if h : l.val < 1024 then dy ⟨l.val, h⟩ * sig (pw (hi ⟨l.val, h⟩) + b (hi ⟨l.val, h⟩))
  else dy ⟨l.val - 1024, by omega⟩ * (pw (lo ⟨l.val - 1024, by omega⟩) + b (lo ⟨l.val - 1024, by omega⟩))
    * sig (pw (hi ⟨l.val - 1024, by omega⟩) + b (hi ⟨l.val - 1024, by omega⟩))
    * (1 - sig (pw (hi ⟨l.val - 1024, by omega⟩) + b (hi ⟨l.val - 1024, by omega⟩)))

/-- The gradient of the gated linear unit's input. -/
def dglu (pw : W3.Idx → EReal) (dy : A3.Idx → EReal) (b : V2.Idx → EReal) : W3.Idx → EReal :=
  fun i => dgluRow (fun l => pw (ix3 (i 0 : Fin 2) (i 1 : Fin 4096) l)) (fun l => b (ix2 0 l))
    (fun l => dy (ix3 (i 0 : Fin 2) (i 1 : Fin 4096) l)) (i 2)

/-- The bias' gradient: the sum over batch and positions. -/
def dglub (pw : W3.Idx → EReal) (dy : A3.Idx → EReal) (b : V2.Idx → EReal) : V2.Idx → EReal :=
  fun i => ∑ q : Fin 2, ∑ p : Fin 4096, dglu pw dy b (ix3 q p (i 1 : Fin 2048))

/-- A row less its mean. -/
def cen (x : Fin 1024 → EReal) (l : Fin 1024) : EReal := x l - Ideal.div (∑ k, x k) feats

/-- A normalised row. -/
def lnRow (x : Fin 1024 → EReal) (l : Fin 1024) : EReal :=
  cen x l * Ideal.rsqrt (Ideal.div (∑ k, cen x k * cen x k) feats + eps)

/-- The layer norm, with its weight and shift. -/
def ln (x : A3.Idx → EReal) (g b : R2.Idx → EReal) : A3.Idx → EReal :=
  fun i => lnRow (fun l => x (ix3 (i 0 : Fin 2) (i 1 : Fin 4096) l)) (i 2) * g (ix2 0 (i 2 : Fin 1024)) + b (ix2 0 (i 2 : Fin 1024))

/-- The residual sum: the weighted stream and the gated branch. -/
def resid (x y : A3.Idx → EReal) (g : C3.Idx → EReal) : A3.Idx → EReal :=
  fun i => alpha * x i + (1 + g (ix3 (i 0 : Fin 2) 0 (i 2 : Fin 1024))) * y i

/-- The normalised residual sum. -/
def rln (x y : A3.Idx → EReal) (g : C3.Idx → EReal) (lg lb : R2.Idx → EReal) : A3.Idx → EReal :=
  ln (resid x y g) lg lb

/-- The same, modulated. -/
def rlnm (x y : A3.Idx → EReal) (g : C3.Idx → EReal) (lg lb : R2.Idx → EReal) (sc sh : C3.Idx → EReal) : A3.Idx → EReal :=
  modu (rln x y g lg lb) sc sh

/-- The layer norm followed by `z * sig z`. -/
def lnact (x : A3.Idx → EReal) (g b : R2.Idx → EReal) : A3.Idx → EReal :=
  fun i => ln x g b i * sig (ln x g b i)

/-- One over the number of features. -/
def inv : EReal := Scalar.ofBits (F := Ideal) .f32 0x3A800000#32

/-- The loss's gradient. -/
def dloss (y t : A3.Idx → EReal) : A3.Idx → EReal := fun i => (y i - t i) * inv

/-- The squared error, summed over the positions. -/
def sqerr (y t : A3.Idx → EReal) : C3.Idx → EReal :=
  fun i => ∑ p : Fin 4096, (y (ix3 (i 0 : Fin 2) p (i 2 : Fin 1024)) - t (ix3 (i 0 : Fin 2) p (i 2 : Fin 1024)))
    * (y (ix3 (i 0 : Fin 2) p (i 2 : Fin 1024)) - t (ix3 (i 0 : Fin 2) p (i 2 : Fin 1024)))

/-- The shape of the layers' parameters. -/
abbrev P3 : Shape := ⟨3, ![4, 1024, 1408]⟩
/-- The same numbers, the layers' rows under one another. -/
abbrev Q3 : Shape := ⟨3, ![1, 4096, 1408]⟩

/-- The parameters' place of a row and a column of the second shape. -/
def place (p : Fin 4096) (l : Fin 1408) : P3.Idx := ix3 (⟨p.val / 1024, by omega⟩ : Fin 4) (⟨p.val % 1024, by omega⟩ : Fin 1024) l

/-- The new first moment of an entry. -/
def mom1 (g m : EReal) : EReal :=
  Scalar.ofBits (F := Ideal) .f32 0x3F666666#32 * m + Scalar.ofBits (F := Ideal) .f32 0x3DCCCCCD#32 * g

/-- The new second moment of an entry. -/
def mom2 (g v : EReal) : EReal :=
  Scalar.ofBits (F := Ideal) .f32 0x3F7FBE77#32 * v + Scalar.ofBits (F := Ideal) .f32 0x3A83126F#32 * (g * g)

/-- The step of an entry: both moments corrected, and the weight's decay. -/
def stepOf (w g m v : EReal) : EReal :=
  Scalar.ofBits (F := Ideal) .f32 0xBA83126F#32 *
    (Ideal.div (Ideal.div (mom1 g m) (Scalar.ofBits (F := Ideal) .f32 0x3F26BD02#32))
      (Ideal.sqrt (Ideal.div (mom2 g v) (Scalar.ofBits (F := Ideal) .f32 0x3C231ACC#32)) + Scalar.ofBits (F := Ideal) .f32 0x322BCC77#32)
    + Scalar.ofBits (F := Ideal) .f32 0x3C23D70A#32 * w)

/-- The new first moments. -/
def adam1 (g m : P3.Idx → EReal) : Q3.Idx → EReal := fun i => mom1 (g (place (i 1) (i 2))) (m (place (i 1) (i 2)))

/-- The new second moments. -/
def adam2 (g v : P3.Idx → EReal) : Q3.Idx → EReal := fun i => mom2 (g (place (i 1) (i 2))) (v (place (i 1) (i 2)))

/-- The optimiser's step. -/
def adam (w g m v : P3.Idx → EReal) : Q3.Idx → EReal :=
  fun i => stepOf (w (place (i 1) (i 2))) (g (place (i 1) (i 2))) (m (place (i 1) (i 2))) (v (place (i 1) (i 2)))

end Cert.Vec

end
-- ==== Proof.ModBwdRef.lean ====
module

public import proofs.«01_k».proof.Proof.Gen.ModBwdRefIdeal
public import proofs.«01_k».proof.Proof.Gen.ModBwdRefIdeal.Run
public import Idealize.ShloMosaic.Lib.Pipeline.ValueKit
public import Idealize.ShloMosaic.Lib.Claim
public import proofs.«01_k».proof.Proof.VecSpec

@[expose] public section

set_option maxRecDepth 16384

noncomputable section

namespace Cert.ModBwdRefIdeal.Val

open Cert.ModBwdRefIdeal Cert.ModBwdRefIdeal.Gen Idealize.ShloMosaic Idealize.ShloMosaic.TcCoe Idealize.SL.Sem

/-- The reference's first result. -/
def r0 (X0 X1 : FVec Ideal S2x4096x1024 .f32) (X3 : FVec Ideal S2x1x1024 .f32) : FVec Ideal S2x4096x1024 .f32 :=
  addf (mulf (broadcastInDim S2x4096x1024 ![] bcast_S_S2x4096x1024 (constant S_ .f32 0x3FD744FD#32)) X1) (mulf (shapeCast S2x4096x1024 X0 shapeCasts_S2x4096x1024_S2x4096x1024) (broadcastInDim S2x4096x1024 ![0, 1, 2] bcast_S2x1x1024_S2x4096x1024_0_1_2 (addf (broadcastInDim S2x1x1024 ![] bcast_S_S2x1x1024 (constant S_ .f32 0x3F800000#32)) X3)))

/-- The reference's second result. -/
def r1 (X0 X2 : FVec Ideal S2x4096x1024 .f32) : FVec Ideal S2x1x1024 .f32 :=
  shapeCast S2x1x1024 (Host.reduceAdd (mulf X2 (shapeCast S2x4096x1024 X0 shapeCasts_S2x4096x1024_S2x4096x1024)) (constant S_ .f32 0x00000000#32) reducesTo_S2x4096x1024_S2x1024_d1 h_S_) shapeCasts_S2x1024_S2x1x1024

/-- The reference's third result. -/
def r2 (X0 : FVec Ideal S2x4096x1024 .f32) : FVec Ideal S2x1x1024 .f32 :=
  shapeCast S2x1x1024 (Host.reduceAdd X0 (constant S_ .f32 0x00000000#32) reducesTo_S2x4096x1024_S2x1024_d1 h_S_) shapeCasts_S2x1024_S2x1x1024

theorem r0_eq (X0 X1 X3) : r0 X0 X1 X3 = Cert.Vec.modx X0 X1 X3 := by
  funext i; idx_vars i
  pointwise [r0, Cert.Vec.modx, Cert.Vec.alpha]

theorem r1_eq (X0 X2) : r1 X0 X2 = Cert.Vec.modsc X0 X2 := by
  funext i; idx_vars i
  pointwise [r1, Cert.Vec.modsc]

theorem r2_eq (X0) : r2 X0 = Cert.Vec.modsh X0 := by
  funext i; idx_vars i
  pointwise [r2, Cert.Vec.modsh]

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v19) = Cert.Vec.modx (m ((c.tc : Thread nD τ).loc main_arg0)) (m ((c.tc : Thread nD τ).loc main_arg1)) (m ((c.tc : Thread nD τ).loc main_arg3))
      ∧ r.2.mem ((c.tc : Thread nD τ).loc main_v16) = Cert.Vec.modsc (m ((c.tc : Thread nD τ).loc main_arg0)) (m ((c.tc : Thread nD τ).loc main_arg2))
      ∧ r.2.mem ((c.tc : Thread nD τ).loc main_v13) = Cert.Vec.modsh (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (r0_eq _ _ _), (h c).2.1.trans (r1_eq _ _), (h c).2.2.1.trans (r2_eq _), (h c).2.2.2⟩) (Cert.ModBwdRefIdeal.Value.run m ρ)

end Cert.ModBwdRefIdeal.Val

end
-- ==== Proof.ModBwdVal.lean ====
module

public import proofs.«01_k».proof.Proof.Gen.ModBwd.Skeleton
public import proofs.«01_k».proof.Proof.Gen.ModBwd.Launch
public import proofs.«01_k».proof.Proof.Gen.ModBwd.Points
public import proofs.«01_k».proof.Proof.Gen.ModBwd.Frame
public import proofs.«01_k».proof.Proof.Gen.ModBwdIdeal.Skeleton
public import proofs.«01_k».proof.Proof.Gen.ModBwdIdeal.Frame
public import proofs.«01_k».proof.Proof.Gen.ModBwdIdeal.Value
public import Idealize.ShloMosaic.Lib.Pipeline.ValueKit
public import proofs.«01_k».proof.Proof.VecSpec

@[expose] public section

set_option maxRecDepth 16384

noncomputable section

namespace Cert.ModBwdIdeal.Val

open Cert.ModBwdIdeal Cert.ModBwdIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![t.val / 16 % 2, t.val % 16, 0] ∧ win0_2.index t = ![t.val / 16 % 2, t.val % 16, 0] ∧ win0_3.index t = ![t.val / 16 % 2, 0, 0] ∧ win0_4.index t = ![t.val / 16 % 2, t.val % 16, 0] ∧ win0_5.index t = ![t.val / 16 % 2, 0, 0] ∧ win0_6.index t = ![t.val / 16 % 2, 0, 0] :=
  (by decide +kernel : ∀ t : Fin grid0.N, _)

theorem b0 (c : Dev nD) (t : Fin cfg0.N) (r : Fin 256) (l : Fin 1024) :
    iblk m c 0 t (ix3 0 r l) = m ((c : Thread nD τ).loc main_arg0) (ix3 (bt t) (pos t r) l) := by
  unfold bt pos
  blk_point [iblk, V, idx t]

theorem b1 (c : Dev nD) (t : Fin cfg0.N) (r : Fin 256) (l : Fin 1024) :
    iblk m c 1 t (ix3 0 r l) = m ((c : Thread nD τ).loc main_arg1) (ix3 (bt t) (pos t r) l) := by
  unfold bt pos
  blk_point [iblk, V, idx t]

theorem b2 (c : Dev nD) (t : Fin cfg0.N) (r : Fin 256) (l : Fin 1024) :
    iblk m c 2 t (ix3 0 r l) = m ((c : Thread nD τ).loc main_arg2) (ix3 (bt t) (pos t r) l) := by
  unfold bt pos
  blk_point [iblk, V, idx t]

theorem b3 (c : Dev nD) (t : Fin cfg0.N) (l : Fin 1024) :
    iblk m c 3 t (ix3 0 0 l) = m ((c : Thread nD τ).loc main_arg3) (ix3 (bt t) 0 l) := by
  unfold bt
  blk_point [iblk, V, idx t]

theorem e4 (t : Fin cfg0.N) (y : S1x256x1024.Idx) : (win0_4.blk t).view.emb y = ix3 (bt t) (pos t (y 1)) (y 2 : Fin 1024) := by
  unfold bt pos
  blk_ext [idx t]

theorem e5 (t : Fin cfg0.N) (y : S1x1x1024.Idx) : (win0_5.blk t).view.emb y = ix3 (bt t) 0 (y 2 : Fin 1024) := by
  unfold bt
  blk_ext [idx t]

theorem e6 (t : Fin cfg0.N) (y : S1x1x1024.Idx) : (win0_6.blk t).view.emb y = ix3 (bt t) 0 (y 2 : Fin 1024) := by
  unfold bt
  blk_ext [idx t]

/-- The first result at row `r` and lane `l` of a block. -/
def dxAt (x0 x1 : FVec Ideal S1x256x1024 .f32) (x3 : FVec Ideal S1x1x1024 .f32) (r : Fin 256) (l : Fin 1024) : EReal :=
  Cert.Vec.alpha * x1 (ix3 0 r l) + x0 (ix3 0 r l) * (1 + x3 (ix3 0 0 l))

/-- One position's part of the scale's gradient. -/
def scTerm (X2 X0 : FVec Ideal S2x4096x1024 .f32) (b : Fin 2) (p : Fin 4096) (l : Fin 1024) : EReal := X2 (ix3 b p l) * X0 (ix3 b p l)

/-- One position's part of the shift's gradient. -/
def shTerm (X0 : FVec Ideal S2x4096x1024 .f32) (b : Fin 2) (p : Fin 4096) (l : Fin 1024) : EReal := X0 (ix3 b p l)

/-- What a point writes to the first result. -/
theorem p4 (c : Dev nD) (t : Fin cfg0.N) (y : S1x256x1024.Idx) :
    (outsAt0 m c t.val t.isLt).1 y = dxAt (iblk m c 0 t) (iblk m c 1 t) (iblk m c 3 t) (y 1) (y 2) := by
  by_cases h : t.val % 16 = 0
  · rw [outsAt0_A m c t h (by omega) h (by omega)]
    frame_out
    idx_vars y
    open_payloads
    pointwise [dxAt, Cert.Vec.alpha]
  · rw [outsAt0_B m c t h (by omega) h (by omega)]
    frame_out
    idx_vars y
    open_payloads
    pointwise [dxAt, Cert.Vec.alpha]

/-- The input's gradient. -/
theorem final4 (c : Dev nD) : (dats m 0 c).arrAt 4 (cfgs 0).N
    = Cert.Vec.modx (m ((c : Thread nD τ).loc main_arg0)) (m ((c : Thread nD τ).loc main_arg1)) (m ((c : Thread nD τ).loc main_arg3)) := by
  refine (dats m 0 c).arrAt_eq_of_covers 4 _ (by decide +kernel) fun t hf y => ?_
  blk_simp
  rw [after0_4, e4]
  refine (p4 m c t y).trans ?_
  unfold dxAt
  rw [b0 m c t (y 1) (y 2), b1 m c t (y 1) (y 2), b3 m c t (y 2)]
  rfl

/-- A point's part of the scale's gradient. -/
def scAt (x0 x2 : FVec Ideal S1x256x1024 .f32) (y : S1x1x1024.Idx) : EReal := ∑ r : Fin 256, x0 (ix3 0 r (y 2 : Fin 1024)) * x2 (ix3 0 r (y 2 : Fin 1024))

theorem s5A (c : Dev nD) (t : Fin cfg0.N) (h : t.val % 16 = 0) (y : S1x1x1024.Idx) :
    (outsAt0 m c t.val t.isLt).2.1 y = scAt (iblk m c 0 t) (iblk m c 2 t) y := by
  rw [outsAt0_A m c t h (by omega) h (by omega)]
  frame_out
  idx_vars y
  open_payloads
  pointwise [scAt]

theorem s5B (c : Dev nD) (t : Fin cfg0.N) (h : ¬ t.val % 16 = 0) (y : S1x1x1024.Idx) :
    (outsAt0 m c t.val t.isLt).2.1 y = (outsAt0 m c (t.val - 1) (Nat.lt_of_le_of_lt (Nat.sub_le _ _) t.isLt)).2.1 y + scAt (iblk m c 0 t) (iblk m c 2 t) y := by
  rw [outsAt0_B m c t h (by omega) h (by omega)]
  frame_out
  idx_vars y
  obtain rfl : y0 = 0 := Subsingleton.elim _ _
  obtain rfl : y1 = 0 := Subsingleton.elim _ _
  open_payloads
  pointwise [scAt]

/-- A point's part of the shift's gradient. -/
def shAt (x0 : FVec Ideal S1x256x1024 .f32) (y : S1x1x1024.Idx) : EReal := ∑ r : Fin 256, x0 (ix3 0 r (y 2 : Fin 1024))

theorem s6A (c : Dev nD) (t : Fin cfg0.N) (h : t.val % 16 = 0) (y : S1x1x1024.Idx) :
    (outsAt0 m c t.val t.isLt).2.2 y = shAt (iblk m c 0 t) y := by
  rw [outsAt0_A m c t h (by omega) h (by omega)]
  frame_out
  idx_vars y
  open_payloads
  pointwise [shAt]

theorem s6B (c : Dev nD) (t : Fin cfg0.N) (h : ¬ t.val % 16 = 0) (y : S1x1x1024.Idx) :
    (outsAt0 m c t.val t.isLt).2.2 y = (outsAt0 m c (t.val - 1) (Nat.lt_of_le_of_lt (Nat.sub_le _ _) t.isLt)).2.2 y + shAt (iblk m c 0 t) y := by
  rw [outsAt0_B m c t h (by omega) h (by omega)]
  frame_out
  idx_vars y
  obtain rfl : y0 = 0 := Subsingleton.elim _ _
  obtain rfl : y1 = 0 := Subsingleton.elim _ _
  open_payloads
  pointwise [shAt]

/-- The scale's gradient is the sum over the positions. -/
theorem final5 (c : Dev nD) : (dats m 0 c).arrAt 5 (cfgs 0).N = Cert.Vec.modsc (m ((c : Thread nD τ).loc main_arg0)) (m ((c : Thread nD τ).loc main_arg2)) := by
  refine (dats m 0 c).arrAt_eq_of_covers 5 _ (by decide +kernel) fun t hf y => ?_
  have h15 := (flush0_5 t).mp hf
  have ht : t.val < 32 := t.isLt
  blk_simp
  rw [after0_5, e5]
  rw [Pipeline.eq_sum_fin_of_reset_step_apply_of_flush (fun n h => (outsAt0 m c n h).2.1) 16 (fun _ => 0)
    (fun t y => scAt (iblk m c 0 t) (iblk m c 2 t) y)
    (fun t h y => (s5A m c t h y).trans (zero_add _).symm) (fun t h y => s5B m c t h y) t h15 _]
  refine (zero_add (_ : EReal)).trans ?_
  refine Eq.trans (Finset.sum_congr rfl fun s _ => ?_)
    (Fin.sum_mul_add_fin 16 256 (fun p : Fin 4096 => (scTerm (m ((c : Thread nD τ).loc main_arg2)) (m ((c : Thread nD τ).loc main_arg0)) (bt t) p (y 2) : EReal)))
  refine Finset.sum_congr rfl fun r _ => ?_
  have hs := s.isLt
  have eb : bt (16 * (t.val / 16) + s.val) = bt t := Fin.ext (by show (16 * (t.val / 16) + s.val) / 16 % 2 = t.val / 16 % 2; omega)
  have ep : pos (16 * (t.val / 16) + s.val) r = ⟨s.val * 256 + r.val, by omega⟩ := Fin.ext (by show (16 * (t.val / 16) + s.val) % 16 * 256 + r.val = s.val * 256 + r.val; omega)
  rw [b0 m c _ r (y 2), b2 m c _ r (y 2), mul_comm (_ : EReal)]
  simp only [eb, ep]
  rfl

/-- The shift's gradient is the sum over the positions. -/
theorem final6 (c : Dev nD) : (dats m 0 c).arrAt 6 (cfgs 0).N = Cert.Vec.modsh (m ((c : Thread nD τ).loc main_arg0)) := by
  refine (dats m 0 c).arrAt_eq_of_covers 6 _ (by decide +kernel) fun t hf y => ?_
  have h15 := (flush0_6 t).mp hf
  have ht : t.val < 32 := t.isLt
  blk_simp
  rw [after0_6, e6]
  rw [Pipeline.eq_sum_fin_of_reset_step_apply_of_flush (fun n h => (outsAt0 m c n h).2.2) 16 (fun _ => 0)
    (fun t y => shAt (iblk m c 0 t) y)
    (fun t h y => (s6A m c t h y).trans (zero_add _).symm) (fun t h y => s6B m c t h y) t h15 _]
  refine (zero_add (_ : EReal)).trans ?_
  refine Eq.trans (Finset.sum_congr rfl fun s _ => ?_)
    (Fin.sum_mul_add_fin 16 256 (fun p : Fin 4096 => (shTerm (m ((c : Thread nD τ).loc main_arg0)) (bt t) p (y 2) : EReal)))
  refine Finset.sum_congr rfl fun r _ => ?_
  have hs := s.isLt
  have eb : bt (16 * (t.val / 16) + s.val) = bt t := Fin.ext (by show (16 * (t.val / 16) + s.val) / 16 % 2 = t.val / 16 % 2; omega)
  have ep : pos (16 * (t.val / 16) + s.val) r = ⟨s.val * 256 + r.val, by omega⟩ := Fin.ext (by show (16 * (t.val / 16) + s.val) % 16 * 256 + r.val = s.val * 256 + r.val; omega)
  rw [b0 m c _ r (y 2)]
  simp only [eb, ep]
  rfl

end Cert.ModBwdIdeal.Val

end
-- ==== Proof.GluBwdRef.lean ====
module

public import proofs.«01_k».proof.Proof.Gen.GluBwdRefIdeal
public import proofs.«01_k».proof.Proof.Gen.GluBwdRefIdeal.Run
public import Idealize.ShloMosaic.Lib.Pipeline.ValueKit
public import Idealize.ShloMosaic.Lib.Claim
public import proofs.«01_k».proof.Proof.VecSpec

@[expose] public section

set_option maxRecDepth 16384

noncomputable section

namespace Cert.GluBwdRefIdeal.Val

open Cert.GluBwdRefIdeal Cert.GluBwdRefIdeal.Gen Idealize.ShloMosaic Idealize.ShloMosaic.TcCoe Idealize.SL.Sem

/-- The biased product. -/
def z (X0 : FVec Ideal S2x4096x2048 .f32) (X2 : FVec Ideal S1x2048 .f32) : FVec Ideal S2x4096x2048 .f32 :=
  addf X0 (broadcastInDim S2x4096x2048 ![0, 1, 2] bcast_S1x1x2048_S2x4096x2048_0_1_2 (broadcastInDim S1x1x2048 ![1, 2] bcast_S1x2048_S1x1x2048_1_2 X2))

/-- The logistic function of the gate half. -/
def sg (X0 : FVec Ideal S2x4096x2048 .f32) (X2 : FVec Ideal S1x2048 .f32) : FVec Ideal S2x4096x1024 .f32 :=
  Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (extractStridedSlice S2x4096x1024 ![0, 0, 1024] (z X0 X2) slices_S2x4096x2048_S2x4096x1024_0_0_1024))))

/-- Both halves' gradients. -/
def d (X0 : FVec Ideal S2x4096x2048 .f32) (X1 : FVec Ideal S2x4096x1024 .f32) (X2 : FVec Ideal S1x2048 .f32) : FVec Ideal S2x4096x2048 .f32 :=
  concatenate S2x4096x2048 2 [⟨S2x4096x1024, (mulf X1 (sg X0 X2))⟩, ⟨S2x4096x1024, (mulf (mulf (extractStridedSlice S2x4096x1024 ![0, 0, 0] (z X0 X2) slices_S2x4096x2048_S2x4096x1024_0_0_0) X1) (mulf (sg X0 X2) (subf (broadcastInDim S2x4096x1024 ![] bcast_S_S2x4096x1024 (constant S_ .f32 0x3F800000#32)) (sg X0 X2))))⟩] concatenates_S2x4096x1024_S2x4096x1024_S2x4096x2048_d2

/-- The reference's first result. -/
def r0 (X0 : FVec Ideal S2x4096x2048 .f32) (X1 : FVec Ideal S2x4096x1024 .f32) (X2 : FVec Ideal S1x2048 .f32) : FVec Ideal S2x4096x2048 .bf16 :=
  truncf .bf16 (d X0 X1 X2) bitsLt_bf16_f32

/-- The reference's second result. -/
def r1 (X0 : FVec Ideal S2x4096x2048 .f32) (X1 : FVec Ideal S2x4096x1024 .f32) (X2 : FVec Ideal S1x2048 .f32) : FVec Ideal S1x2048 .f32 :=
  broadcastInDim S1x2048 ![1] bcast_S2048_S1x2048_1 (Host.reduceAdd (shapeCast S1x1x2048 (Host.reduceAdd (d X0 X1 X2) (constant S_ .f32 0x00000000#32) reducesTo_S2x4096x2048_S2048_d0_1 h_S_) shapeCasts_S2048_S1x1x2048) (constant S_ .f32 0x00000000#32) reducesTo_S1x1x2048_S2048_d0_1 h_S_)

theorem sg_eq (X0 X2) (a : Fin 2) (p : Fin 4096) (l : Fin 1024) :
    sg X0 X2 (ix3 a p l) = Cert.Vec.sig (X0 (ix3 a p (Cert.Vec.hi l)) + X2 (ix2 0 (Cert.Vec.hi l))) := by
  pointwise [sg, z, Cert.Vec.sig, Cert.Vec.hi]

theorem d_eq (X0 X1 X2) (i : S2x4096x2048.Idx) : d X0 X1 X2 i = Cert.Vec.dglu X0 X1 X2 i := by
  idx_vars i
  pointwise [d, z, Cert.Vec.dglu, Cert.Vec.dgluRow]
  by_cases h : (i2 : ℕ) < 1024
  · simp only [dif_pos h, if_pos h, sg_eq]
  · simp only [dif_neg h, if_neg h, sg_eq]
    rw [← mul_assoc]
    refine congrArg (· * _) (congrArg (· * _) ((mul_comm _ _).trans ?_))
    rfl

theorem r0_eq (X0 X1 X2) : r0 X0 X1 X2 = Cert.Vec.dglu X0 X1 X2 :=
  funext fun i => d_eq X0 X1 X2 i

theorem drop2 (v : (⟨3, ![2, 4096, 2048]⟩ : Shape).Idx → EReal) (l : Fin 2048) :
    Ideal.hostReduceAdd reducesTo_S2x4096x2048_S2048_d0_1 v 0 (ix1 l) = ∑ a : Fin 2, ∑ b : Fin 4096, v (ix3 a b l) := by
  unfold Ideal.hostReduceAdd
  rw [zero_add, Finset.sum_filter_eq_sum_of_fiber _ (fun k : Fin 2 × Fin 4096 => ix3 k.1 k.2 l)
    (fun _ _ e => Prod.ext (congrFun e 0) (congrFun e 1)) ?_ v]
  · simp only [Fintype.sum_prod_type]
  · intro i
    constructor
    · intro e
      refine ⟨(i 0, i 1), ?_⟩
      have e0 := congrArg Fin.val (congrFun e 0)
      funext q
      match q with
      | ⟨0, _⟩ => rfl
      | ⟨1, _⟩ => rfl
      | ⟨2, _⟩ => exact Fin.ext e0.symm
    · rintro ⟨k, rfl⟩
      funext q; match q with | ⟨0, _⟩ => rfl

theorem drop1 (v : (⟨3, ![1, 1, 2048]⟩ : Shape).Idx → EReal) (l : Fin 2048) :
    Ideal.hostReduceAdd reducesTo_S1x1x2048_S2048_d0_1 v 0 (ix1 l) = v (ix3 0 0 l) := by
  unfold Ideal.hostReduceAdd
  rw [zero_add, Finset.sum_filter_eq_sum_of_fiber _ (fun k : Unit => ix3 0 0 l)
    (fun _ _ e => rfl) ?_ v]
  · simp only [Finset.univ_unique, Finset.sum_singleton]
  · intro i
    constructor
    · intro e
      refine ⟨(), ?_⟩
      have e0 := congrArg Fin.val (congrFun e 0)
      funext q
      match q with
      | ⟨0, _⟩ => exact Subsingleton.elim (α := Fin 1) _ _
      | ⟨1, _⟩ => exact Subsingleton.elim (α := Fin 1) _ _
      | ⟨2, _⟩ => exact Fin.ext e0.symm
    · rintro ⟨k, rfl⟩
      funext q; match q with | ⟨0, _⟩ => rfl

theorem r1_eq (X0 X1 X2) : r1 X0 X1 X2 = Cert.Vec.dglub X0 X1 X2 := by
  funext i; idx_vars i
  pointwise [r1, Cert.Vec.dglub]
  rw [drop1]
  pointwise
  rw [drop2]
  exact Finset.sum_congr rfl fun a _ => Finset.sum_congr rfl fun b _ => d_eq X0 X1 X2 _

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v23) = Cert.Vec.dglu (m ((c.tc : Thread nD τ).loc main_arg0)) (m ((c.tc : Thread nD τ).loc main_arg1)) (m ((c.tc : Thread nD τ).loc main_arg2))
      ∧ r.2.mem ((c.tc : Thread nD τ).loc main_v22) = Cert.Vec.dglub (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (r0_eq _ _ _), (h c).2.1.trans (r1_eq _ _ _), (h c).2.2⟩) (Cert.GluBwdRefIdeal.Value.run m ρ)

end Cert.GluBwdRefIdeal.Val

end
-- ==== Proof.GluBwdVal.lean ====
module

public import proofs.«01_k».proof.Proof.Gen.GluBwd.Skeleton
public import proofs.«01_k».proof.Proof.Gen.GluBwd.Launch
public import proofs.«01_k».proof.Proof.Gen.GluBwd.Points
public import proofs.«01_k».proof.Proof.Gen.GluBwd.Frame
public import proofs.«01_k».proof.Proof.Gen.GluBwdIdeal.Skeleton
public import proofs.«01_k».proof.Proof.Gen.GluBwdIdeal.Frame
public import proofs.«01_k».proof.Proof.Gen.GluBwdIdeal.Value
public import Idealize.ShloMosaic.Lib.Pipeline.ValueKit
public import proofs.«01_k».proof.Proof.VecSpec

@[expose] public section

set_option maxRecDepth 16384

noncomputable section

namespace Cert.GluBwdIdeal.Val

open Cert.GluBwdIdeal Cert.GluBwdIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![t.val / 16 % 2, t.val % 16, 0] ∧ win0_2.index t = ![0, 0] ∧ win0_3.index t = ![t.val / 16 % 2, t.val % 16, 0] ∧ win0_4.index t = ![0, 0] :=
  (by decide +kernel : ∀ t : Fin grid0.N, _)

theorem b0 (c : Dev nD) (t : Fin cfg0.N) (r : Fin 256) (l : Fin 2048) :
    iblk m c 0 t (ix3 0 r l) = m ((c : Thread nD τ).loc main_arg0) (ix3 (bt t) (pos t r) l) := by
  unfold bt pos
  blk_point [iblk, V, idx t]

theorem b1 (c : Dev nD) (t : Fin cfg0.N) (r : Fin 256) (l : Fin 1024) :
    iblk m c 1 t (ix3 0 r l) = m ((c : Thread nD τ).loc main_arg1) (ix3 (bt t) (pos t r) l) := by
  unfold bt pos
  blk_point [iblk, V, idx t]

theorem b2 (c : Dev nD) (t : Fin cfg0.N) (l : Fin 2048) :
    iblk m c 2 t (ix2 0 l) = m ((c : Thread nD τ).loc main_arg2) (ix2 0 l) := by
  blk_point [iblk, V, idx t]

theorem e3 (t : Fin cfg0.N) (y : S1x256x2048.Idx) : (win0_3.blk t).view.emb y = ix3 (bt t) (pos t (y 1)) (y 2 : Fin 2048) := by
  unfold bt pos
  blk_ext [idx t]

theorem e4 (t : Fin cfg0.N) (y : S1x2048.Idx) : (win0_4.blk t).view.emb y = y := by
  blk_ext [idx t]

/-- The gradient of a block's row, from its blocks. -/
def rowAt (x0 : FVec Ideal S1x256x2048 .f32) (x1 : FVec Ideal S1x256x1024 .f32) (x2 : FVec Ideal S1x2048 .f32) (r : Fin 256) (l : Fin 2048) : EReal :=
  Cert.Vec.dgluRow (fun l => x0 (ix3 0 r l)) (fun l => x2 (ix2 0 l)) (fun l => x1 (ix3 0 r l)) l

/-- What a point writes to the first result. -/
theorem p3 (c : Dev nD) (t : Fin cfg0.N) (y : S1x256x2048.Idx) :
    (outsAt0 m c t.val t.isLt).1 y = rowAt (iblk m c 0 t) (iblk m c 1 t) (iblk m c 2 t) (y 1) (y 2) := by
  by_cases h : t.val % 32 = 0
  · rw [outsAt0_A m c t h (by have : t.val < 32 := t.isLt; omega)]
    frame_out
    idx_vars y
    open_payloads
    pointwise [rowAt, Cert.Vec.dgluRow, Cert.Vec.sig, Cert.Vec.lo, Cert.Vec.hi]
    by_cases h' : (y2 : ℕ) < 1024
    · simp only [dif_pos h', if_pos h', zero_sub]
    · simp only [dif_neg h', if_neg h', zero_sub]
  · rw [outsAt0_B m c t h (by omega)]
    frame_out
    idx_vars y
    open_payloads
    pointwise [rowAt, Cert.Vec.dgluRow, Cert.Vec.sig, Cert.Vec.lo, Cert.Vec.hi]
    by_cases h' : (y2 : ℕ) < 1024
    · simp only [dif_pos h', if_pos h', zero_sub]
    · simp only [dif_neg h', if_neg h', zero_sub]

/-- A row's gradient in terms of the arguments. -/
theorem rowAt_eq (c : Dev nD) (t : Fin cfg0.N) (r : Fin 256) (l : Fin 2048) :
    rowAt (iblk m c 0 t) (iblk m c 1 t) (iblk m c 2 t) r l
      = Cert.Vec.dglu (m ((c : Thread nD τ).loc main_arg0)) (m ((c : Thread nD τ).loc main_arg1)) (m ((c : Thread nD τ).loc main_arg2)) (ix3 (bt t) (pos t r) l) := by
  unfold rowAt
  simp only [b0, b1, b2]
  rfl

/-- The input's gradient. -/
theorem final3 (c : Dev nD) : (dats m 0 c).arrAt 3 (cfgs 0).N
    = Cert.Vec.dglu (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, e3]
  exact (p3 m c t y).trans (rowAt_eq m c t _ _)

/-- A point's part of the bias' gradient. -/
def sumAt (x0 : FVec Ideal S1x256x2048 .f32) (x1 : FVec Ideal S1x256x1024 .f32) (x2 : FVec Ideal S1x2048 .f32) (y : S1x2048.Idx) : EReal :=
  ∑ r : Fin 256, rowAt x0 x1 x2 r (y 1)

theorem s4A (c : Dev nD) (t : Fin cfg0.N) (h : t.val % 32 = 0) (y : S1x2048.Idx) :
    (outsAt0 m c t.val t.isLt).2 y = sumAt (iblk m c 0 t) (iblk m c 1 t) (iblk m c 2 t) y := by
  rw [outsAt0_A m c t h (by have : t.val < 32 := t.isLt; omega)]
  frame_out
  idx_vars y
  open_payloads
  pointwise [sumAt, rowAt, Cert.Vec.dgluRow, Cert.Vec.sig, Cert.Vec.lo, Cert.Vec.hi]
  by_cases h' : (y1 : ℕ) < 1024
  · simp only [dif_pos h', if_pos h', zero_sub]
  · simp only [dif_neg h', if_neg h', zero_sub]

theorem s4B (c : Dev nD) (t : Fin cfg0.N) (h : ¬ t.val % 32 = 0) (y : S1x2048.Idx) :
    (outsAt0 m c t.val t.isLt).2 y = (outsAt0 m c (t.val - 1) (Nat.lt_of_le_of_lt (Nat.sub_le _ _) t.isLt)).2 y
      + sumAt (iblk m c 0 t) (iblk m c 1 t) (iblk m c 2 t) y := by
  rw [outsAt0_B m c t h (by omega)]
  frame_out
  idx_vars y
  obtain rfl : y0 = 0 := Subsingleton.elim _ _
  open_payloads
  pointwise [sumAt, rowAt, Cert.Vec.dgluRow, Cert.Vec.sig, Cert.Vec.lo, Cert.Vec.hi]
  by_cases h' : (y1 : ℕ) < 1024
  · simp only [dif_pos h', if_pos h', zero_sub]
  · simp only [dif_neg h', if_neg h', zero_sub]

/-- The bias' gradient is the sum over batch and positions. -/
theorem final4 (c : Dev nD) : (dats m 0 c).arrAt 4 (cfgs 0).N
    = Cert.Vec.dglub (m ((c : Thread nD τ).loc main_arg0)) (m ((c : Thread nD τ).loc main_arg1)) (m ((c : Thread nD τ).loc main_arg2)) := by
  refine (dats m 0 c).arrAt_eq_of_covers 4 _ (by decide +kernel) fun t hf y => ?_
  have h31 := (flush0_4 t).mp hf
  have ht : t.val < 32 := t.isLt
  blk_simp
  rw [after0_4, e4]
  rw [Pipeline.eq_sum_fin_of_reset_step_apply_of_flush (fun n h => (outsAt0 m c n h).2) 32 (fun _ => 0)
    (fun t y => sumAt (iblk m c 0 t) (iblk m c 1 t) (iblk m c 2 t) y)
    (fun t h y => (s4A m c t h y).trans (zero_add _).symm) (fun t h y => s4B m c t h y) t h31 _]
  unfold Cert.Vec.dglub
  refine (zero_add (_ : EReal)).trans ?_
  refine Eq.trans (b := ∑ q : Fin 2, ∑ s : Fin 16, ∑ r : Fin 256, Cert.Vec.dglu (m ((c : Thread nD τ).loc main_arg0)) (m ((c : Thread nD τ).loc main_arg1))
      (m ((c : Thread nD τ).loc main_arg2)) (ix3 q (⟨s.val * 256 + r.val, by omega⟩ : Fin 4096) (y 1 : Fin 2048))) ?_
    (Finset.sum_congr rfl fun q _ => Fin.sum_mul_add_fin 16 256 (fun p : Fin 4096 => Cert.Vec.dglu (m ((c : Thread nD τ).loc main_arg0))
      (m ((c : Thread nD τ).loc main_arg1)) (m ((c : Thread nD τ).loc main_arg2)) (ix3 q p (y 1 : Fin 2048))))
  refine Fin.sum_divmod_congr fun s ha hs => ?_
  refine Finset.sum_congr rfl fun r _ => ?_
  rw [rowAt_eq m c _ r (y 1)]
  have eb : bt (32 * (t.val / 32) + s.val) = ⟨s.val / 16, ha⟩ := Fin.ext (by show (32 * (t.val / 32) + s.val) / 16 % 2 = s.val / 16; omega)
  have ep : pos (32 * (t.val / 32) + s.val) r = ⟨s.val % 16 * 256 + r.val, by omega⟩ := Fin.ext (by show (32 * (t.val / 32) + s.val) % 16 * 256 + r.val = s.val % 16 * 256 + r.val; omega)
  simp only [eb, ep]

end Cert.GluBwdIdeal.Val

end
-- ==== Proof.GluRef.lean ====
module

public import proofs.«01_k».proof.Proof.Gen.GluRefIdeal
public import proofs.«01_k».proof.Proof.Gen.GluRefIdeal.Run
public import Idealize.ShloMosaic.Lib.Pipeline.ValueKit
public import Idealize.ShloMosaic.Lib.Claim
public import proofs.«01_k».proof.Proof.VecSpec

@[expose] public section

set_option maxRecDepth 16384

noncomputable section

namespace Cert.GluRefIdeal.Val

open Cert.GluRefIdeal Cert.GluRefIdeal.Gen Idealize.ShloMosaic Idealize.ShloMosaic.TcCoe Idealize.SL.Sem

/-- The biased product. -/
def z (X0 : FVec Ideal S2x4096x2048 .f32) (X1 : FVec Ideal S1x2048 .f32) : FVec Ideal S2x4096x2048 .f32 :=
  addf X0 (broadcastInDim S2x4096x2048 ![0, 1, 2] bcast_S1x1x2048_S2x4096x2048_0_1_2 (broadcastInDim S1x1x2048 ![1, 2] bcast_S1x2048_S1x1x2048_1_2 X1))

/-- The reference's result. -/
def r0 (X0 : FVec Ideal S2x4096x2048 .f32) (X1 : FVec Ideal S1x2048 .f32) : FVec Ideal S2x4096x1024 .f32 :=
  mulf (extractStridedSlice S2x4096x1024 ![0, 0, 0] (z X0 X1) slices_S2x4096x2048_S2x4096x1024_0_0_0) (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (extractStridedSlice S2x4096x1024 ![0, 0, 1024] (z X0 X1) slices_S2x4096x2048_S2x4096x1024_0_0_1024)))))

theorem r0_eq (X0 X1) : r0 X0 X1 = Cert.Vec.glu X0 X1 := by
  funext i; idx_vars i
  pointwise [r0, z, Cert.Vec.glu, Cert.Vec.glua, Cert.Vec.glug, Cert.Vec.sig, Cert.Vec.lo, Cert.Vec.hi]

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v11) = Cert.Vec.glu (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.GluRefIdeal.Value.run m ρ)

end Cert.GluRefIdeal.Val

end
-- ==== Proof.GluVal.lean ====
module

public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal.Skeleton
public import proofs.«01_k».proof.Proof.Gen.GluIdeal.Frame
public import Idealize.ShloMosaic.Lib.Pipeline.Value
public import Idealize.ShloMosaic.Lib.Pipeline.ValueKit
public import proofs.«01_k».proof.Proof.VecSpec

@[expose] public section

set_option maxRecDepth 16384

noncomputable section

namespace Cert.GluIdeal.Val

open Cert.GluIdeal Cert.GluIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![0, 0] ∧ win0_2.index t = ![t.val / 16 % 2, t.val % 16, 0] :=
  (by decide +kernel : ∀ t : Fin grid0.N, _)

theorem b0 (c : Dev nD) (t : Fin cfg0.N) (r : Fin 256) (l : Fin 2048) :
    iblk m c 0 t (ix3 0 r l) = m ((c : Thread nD τ).loc main_arg0) (ix3 (bt t) (pos t r) l) := by
  unfold bt pos
  blk_point [iblk, V, idx t]

theorem b1 (c : Dev nD) (t : Fin cfg0.N) (l : Fin 2048) :
    iblk m c 1 t (ix2 0 l) = m ((c : Thread nD τ).loc main_arg1) (ix2 0 l) := by
  blk_point [iblk, V, idx t]

theorem e2 (t : Fin cfg0.N) (y : S1x256x1024.Idx) : (win0_2.blk t).view.emb y = ix3 (bt t) (pos t (y 1)) (y 2 : Fin 1024) := by
  unfold bt pos
  blk_ext [idx t]

/-- What a point writes, from its blocks. -/
theorem p2 (x0 : FVec Ideal S1x256x2048 .f32) (x1 : FVec Ideal S1x2048 .f32) (y : S1x256x1024.Idx) :
    out0_2 (F := Ideal) x0 x1 y = (x0 (ix3 0 (y 1 : Fin 256) (Cert.Vec.lo (y 2))) + x1 (ix2 0 (Cert.Vec.lo (y 2))))
      * Cert.Vec.sig (x0 (ix3 0 (y 1 : Fin 256) (Cert.Vec.hi (y 2))) + x1 (ix2 0 (Cert.Vec.hi (y 2)))) := by
  unfold out0_2
  frame_out
  idx_vars y
  open_payloads
  pointwise [Cert.Vec.sig, Cert.Vec.lo, Cert.Vec.hi]
  rw [zero_sub]

/-- The kernel's result is the gated linear unit. -/
theorem final2 (c : Dev nD) : (dats m 0 c).arrAt 2 (cfgs 0).N
    = Cert.Vec.glu (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 _ _ y).trans ?_
  rw [b0 m c t (y 1) (Cert.Vec.lo (y 2)), b0 m c t (y 1) (Cert.Vec.hi (y 2)), b1 m c t (Cert.Vec.lo (y 2)), b1 m c t (Cert.Vec.hi (y 2))]
  rfl

/-- The kernel's run: its result array by its blocks, and its arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.GluIdeal.Val

end
-- ==== Proof.ModRef.lean ====
module

public import proofs.«01_k».proof.Proof.Gen.ModRefIdeal
public import proofs.«01_k».proof.Proof.Gen.ModRefIdeal.Run
public import Idealize.ShloMosaic.Lib.Pipeline.ValueKit
public import Idealize.ShloMosaic.Lib.Claim
public import proofs.«01_k».proof.Proof.VecSpec

@[expose] public section

set_option maxRecDepth 16384

noncomputable section

namespace Cert.ModRefIdeal.Val

open Cert.ModRefIdeal Cert.ModRefIdeal.Gen Idealize.ShloMosaic Idealize.ShloMosaic.TcCoe Idealize.SL.Sem

/-- The reference's result. -/
def r0 (X0 : FVec Ideal S2x4096x1024 .f32) (X1 X2 : FVec Ideal S2x1x1024 .f32) : FVec Ideal S2x4096x1024 .bf16 :=
  truncf .bf16 (addf (mulf X0 (broadcastInDim S2x4096x1024 ![0, 1, 2] bcast_S2x1x1024_S2x4096x1024_0_1_2 (addf (broadcastInDim S2x1x1024 ![] bcast_S_S2x1x1024 (constant S_ .f32 0x3F800000#32)) X1))) (broadcastInDim S2x4096x1024 ![0, 1, 2] bcast_S2x1x1024_S2x4096x1024_0_1_2 X2)) bitsLt_bf16_f32

theorem r0_eq (X0 X1 X2) : r0 X0 X1 X2 = Cert.Vec.modu X0 X1 X2 := by
  funext i; idx_vars i
  pointwise [r0, Cert.Vec.modu]

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v6) = Cert.Vec.modu (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (r0_eq _ _ _), (h c).2⟩) (Cert.ModRefIdeal.Value.run m ρ)

end Cert.ModRefIdeal.Val

end
-- ==== Proof.ModVal.lean ====
module

public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal.Skeleton
public import proofs.«01_k».proof.Proof.Gen.ModIdeal.Frame
public import proofs.«01_k».proof.Proof.Gen.ModIdeal.Value
public import Idealize.ShloMosaic.Lib.Pipeline.ValueKit
public import proofs.«01_k».proof.Proof.VecSpec

@[expose] public section

set_option maxRecDepth 16384

noncomputable section

namespace Cert.ModIdeal.Val

open Cert.ModIdeal Cert.ModIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![t.val / 16 % 2, 0, 0] ∧ win0_2.index t = ![t.val / 16 % 2, 0, 0] ∧ win0_3.index t = ![t.val / 16 % 2, t.val % 16, 0] :=
  (by decide +kernel : ∀ t : Fin grid0.N, _)

theorem b0 (c : Dev nD) (t : Fin cfg0.N) (r : Fin 256) (l : Fin 1024) :
    iblk m c 0 t (ix3 0 r l) = m ((c : Thread nD τ).loc main_arg0) (ix3 (bt t) (pos t r) l) := by
  unfold bt pos
  blk_point [iblk, V, idx t]

theorem b1 (c : Dev nD) (t : Fin cfg0.N) (l : Fin 1024) :
    iblk m c 1 t (ix3 0 0 l) = m ((c : Thread nD τ).loc main_arg1) (ix3 (bt t) 0 l) := by
  unfold bt
  blk_point [iblk, V, idx t]

theorem b2 (c : Dev nD) (t : Fin cfg0.N) (l : Fin 1024) :
    iblk m c 2 t (ix3 0 0 l) = m ((c : Thread nD τ).loc main_arg2) (ix3 (bt t) 0 l) := by
  unfold bt
  blk_point [iblk, V, idx t]

theorem e3 (t : Fin cfg0.N) (y : S1x256x1024.Idx) : (win0_3.blk t).view.emb y = ix3 (bt t) (pos t (y 1)) (y 2 : Fin 1024) := by
  unfold bt pos
  blk_ext [idx t]

/-- What a point writes, from its blocks. -/
theorem p3 (x0 : FVec Ideal S1x256x1024 .f32) (x1 x2 : FVec Ideal S1x1x1024 .f32) (y : S1x256x1024.Idx) :
    out0_3 (F := Ideal) x0 x1 x2 y = x0 (ix3 0 (y 1 : Fin 256) (y 2 : Fin 1024)) * (1 + x1 (ix3 0 0 (y 2 : Fin 1024))) + x2 (ix3 0 0 (y 2 : Fin 1024)) := by
  unfold out0_3
  frame_out
  idx_vars y
  open_payloads
  pointwise

/-- The kernel's result is the modulated activation. -/
theorem final3 (c : Dev nD) : (dats m 0 c).arrAt 3 (cfgs 0).N
    = Cert.Vec.modu (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, e3]
  refine (p3 _ _ _ y).trans ?_
  rw [b0 m c t (y 1) (y 2), b1 m c t (y 2), b2 m c t (y 2)]
  rfl

end Cert.ModIdeal.Val

end
-- ==== Proof.SpatialRef.lean ====
module

public import proofs.«01_k».proof.Proof.Gen.SpatialRefIdeal
public import proofs.«01_k».proof.Proof.Gen.SpatialRefIdeal.Run
public import Idealize.ShloMosaic.Lib.Pipeline.ValueKit
public import Idealize.ShloMosaic.Lib.Claim
public import proofs.«01_k».proof.Proof.GmSpec

@[expose] public section

set_option maxRecDepth 16384

noncomputable section

namespace Cert.SpatialRefIdeal.Val

open Cert.SpatialRefIdeal Cert.SpatialRefIdeal.Gen Idealize.ShloMosaic Idealize.ShloMosaic.TcCoe Idealize.SL.Sem

/-- The lower-triangular mask, ones on and below the diagonal. -/
def tril : FVec Ideal S1x128x128 .f32 :=
  broadcastInDim S1x128x128 ![1, 2] bcast_S128x128_S1x128x128_1_2
    (select (cmpi .sge (addi (iotaInDim S128x128 32 0) (broadcastInDim S128x128 ![] bcast_S_S128x128 (constantI S_ 32 0#32)))
        (iotaInDim S128x128 32 1))
      (broadcastInDim S128x128 ![] bcast_S_S128x128 (constant S_ .f32 0x3F800000#32))
      (broadcastInDim S128x128 ![] bcast_S_S128x128 (constant S_ .f32 0x00000000#32)))

/-- The masked spatial matrices. -/
def wm (X3 : FVec Ideal S8x128x128 .f32) : FVec Ideal S8x128x128 .f32 :=
  mulf X3 (broadcastInDim S8x128x128 ![0, 1, 2] bcast_S1x128x128_S8x128x128_0_1_2 tril)

/-- The mixed factor, split into chunks and groups. -/
def v5 (X2 : FVec Ideal S2x4096x1024 .bf16) : FVec Ideal S2x32x128x8x128 .f32 :=
  shapeCast S2x32x128x8x128 (extf .f32 X2 bitsLt_bf16_f32) shapeCasts_S2x4096x1024_S2x32x128x8x128

/-- The reference's result. -/
def r0 (X0 : FVec Ideal S2x4096x1024 .f32) (X1 : FVec Ideal S2x4096x1024 .bf16) (X2 : FVec Ideal S8x128x128 .f32)
    (X3 : FVec Ideal S8x128 .f32) : FVec Ideal S2x4096x1024 .bf16 :=
  truncf .bf16 (mulf X0 (shapeCast S2x4096x1024
    (addf (transpose S2x32x128x8x128 [1, 2, 4, 0, 3]
        (Host.dotGeneral dot_S2x32x128x8x128_S8x128x128_S8x2x32x128x128_2_2_014_1_3_0 none (v5 X1) (wm X2))
        transposes_S8x2x32x128x128_S2x32x128x8x128_1_2_4_0_3)
      (broadcastInDim S2x32x128x8x128 ![0, 1, 2, 3, 4] bcast_S1x1x128x8x1_S2x32x128x8x128_0_1_2_3_4
        (broadcastInDim S1x1x128x8x1 ![2, 3] bcast_S128x8_S1x1x128x8x1_2_3
          (transpose S128x8 [1, 0] X3 transposes_S8x128_S128x8_1_0))))
    shapeCasts_S2x32x128x8x128_S2x4096x1024)) bitsLt_bf16_f32

theorem r0_eq (X0 X1 X2 X3) : r0 X0 X1 X2 X3 = Cert.Gm.du X0 X1 X2 X3 := by
  funext i; idx_vars i
  pointwise [r0, v5, wm, tril, Cert.Gm.du]
  refine Ideal.mul_congr rfl (Ideal.add_congr (Finset.sum_congr rfl fun k _ => ?_) rfl)
  rw [Cert.Gm.sel_ge (by omega) k.isLt, mul_comm (X1 _)]
  rfl

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v15) = Cert.Gm.du (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (r0_eq _ _ _ _), (h c).2⟩) (Cert.SpatialRefIdeal.Value.run m ρ)

end Cert.SpatialRefIdeal.Val

end
-- ==== Proof.SpatialVal.lean ====
module

public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import proofs.«01_k».proof.Proof.Gen.SpatialIdeal.Skeleton
public import proofs.«01_k».proof.Proof.Gen.SpatialIdeal.Frame
public import proofs.«01_k».proof.Proof.Gen.SpatialIdeal.Value
public import Idealize.ShloMosaic.Lib.Pipeline.ValueKit
public import proofs.«01_k».proof.Proof.GmSpec

@[expose] public section

set_option maxRecDepth 16384

noncomputable section

namespace Cert.SpatialIdeal.Val

open Cert.SpatialIdeal Cert.SpatialIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val / 32, t.val % 32, 0] ∧ win0_1.index t = ![t.val / 32, t.val % 32, 0]
    ∧ win0_2.index t = ![0, 0, 0] ∧ win0_3.index t = ![0, 0] ∧ win0_4.index t = ![t.val / 32, t.val % 32, 0] :=
  (by decide +kernel : ∀ t : Fin grid0.N, _)

/-- The batch a point works on. -/
def bOf (t : Fin cfg0.N) : Fin 2 := ⟨t.val / 32, by have : t.val < 64 := t.isLt; omega⟩
/-- The chunk a point works on. -/
def nOf (t : Fin cfg0.N) : Fin 32 := ⟨t.val % 32, by omega⟩

theorem b0 (c : Dev nD) (t : Fin cfg0.N) (r : Fin 128) (l : Fin 1024) :
    iblk m c 0 t (ix3 0 r l) = m ((c : Thread nD τ).loc main_arg0) (ix3 (bOf t) (Cert.Gm.pos (nOf t) r) l) := by
  unfold bOf nOf Cert.Gm.pos
  blk_point [iblk, V, idx t]

theorem b1 (c : Dev nD) (t : Fin cfg0.N) (r : Fin 128) (l : Fin 1024) :
    iblk m c 1 t (ix3 0 r l) = m ((c : Thread nD τ).loc main_arg1) (ix3 (bOf t) (Cert.Gm.pos (nOf t) r) l) := by
  unfold bOf nOf Cert.Gm.pos
  blk_point [iblk, V, idx t]

theorem b2 (c : Dev nD) (t : Fin cfg0.N) (g : Fin 8) (r k : Fin 128) :
    iblk m c 2 t (ix3 g r k) = m ((c : Thread nD τ).loc main_arg2) (ix3 g r k) := by
  blk_point [iblk, V, idx t]

theorem b3 (c : Dev nD) (t : Fin cfg0.N) (r : Fin 128) (g : Fin 8) :
    iblk m c 3 t (ix2 r g) = m ((c : Thread nD τ).loc main_arg3) (ix2 g r) := by
  blk_simp [iblk]
  entry_read
  pointwise
  blk_ext [idx t]

theorem row_pos (n : Fin 32) (r : Fin 128) : Cert.Gm.row (Cert.Gm.pos n r) = r :=
  Fin.ext (by show ((n : ℕ) * 128 + r) % 128 = r; omega)
theorem chunk_pos (n : Fin 32) (r : Fin 128) : Cert.Gm.chunk (Cert.Gm.pos n r) = n :=
  Fin.ext (by show ((n : ℕ) * 128 + r) / 128 = n; omega)

theorem e4 (t : Fin cfg0.N) (y : S1x128x1024.Idx) :
    (win0_4.blk t).view.emb y = ix3 (bOf t) (Cert.Gm.pos (nOf t) (y 1)) (y 2) := by
  unfold bOf nOf Cert.Gm.pos
  blk_ext [idx t]

/-- The gated mix at a position, given by its chunk and row. -/
theorem du_pos (X0 : FVec Ideal S2x4096x1024 .f32) (X1 : FVec Ideal S2x4096x1024 .bf16) (X2 : FVec Ideal S8x128x128 .f32)
    (X3 : FVec Ideal S8x128 .f32) (b : Fin 2) (n : Fin 32) (r : Fin 128) (l : Fin 1024) :
    Cert.Gm.du X0 X1 X2 X3 (ix3 b (Cert.Gm.pos n r) l)
      = X0 (ix3 b (Cert.Gm.pos n r) l) * ((∑ k : Fin 128, if (k : ℕ) ≤ r then X2 (ix3 (Cert.Gm.grp l) r k) * X1 (ix3 b (Cert.Gm.pos n k) l) else 0) + X3 (ix2 (Cert.Gm.grp l) r)) := by
  show X0 (ix3 b (Cert.Gm.pos n r) l) * ((∑ k : Fin 128, if (k : ℕ) ≤ Cert.Gm.row (Cert.Gm.pos n r) then X2 (ix3 (Cert.Gm.grp l) (Cert.Gm.row (Cert.Gm.pos n r)) k) * X1 (ix3 b (Cert.Gm.pos (Cert.Gm.chunk (Cert.Gm.pos n r)) k) l) else 0) + X3 (ix2 (Cert.Gm.grp l) (Cert.Gm.row (Cert.Gm.pos n r)))) = _
  rw [row_pos, chunk_pos]

/-- The gated value at row `r` and lane `l` of a chunk. -/
def duAt (x0 : FVec Ideal S1x128x1024 .f32) (x1 : FVec Ideal S1x128x1024 .bf16) (x2 : FVec Ideal S8x128x128 .f32)
    (x3 : FVec Ideal S128x8 .f32) (r : Fin 128) (l : Fin 1024) : EReal :=
  x0 (ix3 0 r l) * ((∑ k : Fin 128, if (k : ℕ) ≤ r then x2 (ix3 (Cert.Gm.grp l) r k) * x1 (ix3 0 k l) else 0) + x3 (ix2 r (Cert.Gm.grp l)))

/-- What a point writes, from its blocks. -/
theorem p4 (z0 : FVec Ideal S1x128x1024 .f32) (z1 : FVec Ideal S1x128x1024 .bf16) (z2 : FVec Ideal S8x128x128 .f32)
    (z3 : FVec Ideal S128x8 .f32) (y : S1x128x1024.Idx) :
    out0_4 (F := Ideal) z0 z1 z2 z3 y = duAt z0 z1 z2 z3 (y 1) (y 2) := by
  unfold out0_4
  frame_out
  idx_vars y
  canon_tiles x h
  all_goals
    idx_vars x
    obtain rfl : y1 = x1 := Fin.ext h1
    open_payloads; pointwise [duAt]
    simp only [Cert.Gm.sel_le (Fin.isLt _) (Fin.isLt _), ← h2]
    congr!
    all_goals first | rfl | omega | (apply Fin.ext; have z : ((0 : Fin 8) : ℕ) = 0 := rfl; have o : ((1 : Fin 8) : ℕ) = 1 := rfl; simp only [Cert.Gm.feat, Cert.Gm.grp, Fin.isValue]; omega) | (simp only [Cert.Gm.feat, Cert.Gm.grp]; omega) | exact Fin.ext (show (0 : ℕ) = (y2 : ℕ) / 128 by omega) | exact Fin.ext (show (1 : ℕ) = (y2 : ℕ) / 128 by omega)

/-- A block's gated values in terms of the arguments. -/
theorem duAt_eq (c : Dev nD) (t : Fin cfg0.N) (r : Fin 128) (l : Fin 1024) :
    duAt (iblk m c 0 t) (iblk m c 1 t) (iblk m c 2 t) (iblk m c 3 t) r l
      = Cert.Gm.du (m ((c : Thread nD τ).loc main_arg0)) (m ((c : Thread nD τ).loc main_arg1)) (m ((c : Thread nD τ).loc main_arg2))
        (m ((c : Thread nD τ).loc main_arg3)) (ix3 (bOf t) (Cert.Gm.pos (nOf t) r) l) := by
  unfold duAt
  simp only [b0, b1, b2, b3]
  exact (du_pos _ _ _ _ (bOf t) (nOf t) r l).symm

/-- The kernel's result is the gated causal mix. -/
theorem final4 (c : Dev nD) : (dats m 0 c).arrAt 4 (cfgs 0).N
    = Cert.Gm.du (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4, e4]
  exact (p4 _ _ _ _ y).trans (duAt_eq m c t _ _)

end Cert.SpatialIdeal.Val

end
-- ==== Proof.LnRef.lean ====
module

public import proofs.«01_k».proof.Proof.Gen.LnRefIdeal
public import proofs.«01_k».proof.Proof.Gen.LnRefIdeal.Run
public import Idealize.ShloMosaic.Lib.Pipeline.ValueKit
public import Idealize.ShloMosaic.Lib.Claim
public import proofs.«01_k».proof.Proof.VecSpec

@[expose] public section

set_option maxRecDepth 16384

noncomputable section

namespace Cert.LnRefIdeal.Val

open Cert.LnRefIdeal Cert.LnRefIdeal.Gen Idealize.ShloMosaic Idealize.ShloMosaic.TcCoe Idealize.SL.Sem

/-- The mean of every row, as a column. -/
def mean (R : FVec Ideal S2x4096x1024 .f32) : FVec Ideal S2x4096x1 .f32 :=
  Host.divf (broadcastInDim S2x4096x1 ![0, 1] bcast_S2x4096_S2x4096x1_0_1 (Host.reduceAdd R (constant S_ .f32 0x00000000#32) reducesTo_S2x4096x1024_S2x4096_d2 h_S_)) (broadcastInDim S2x4096x1 ![] bcast_S_S2x4096x1 (constant S_ .f32 0x44800000#32))

/-- Every row less its mean. -/
def cen (R : FVec Ideal S2x4096x1024 .f32) : FVec Ideal S2x4096x1024 .f32 :=
  subf R (broadcastInDim S2x4096x1024 ![0, 1, 2] bcast_S2x4096x1_S2x4096x1024_0_1_2 (mean R))

/-- The normalised rows with weight and shift. -/
def nrm (R : FVec Ideal S2x4096x1024 .f32) (G B : FVec Ideal S1x1024 .f32) : FVec Ideal S2x4096x1024 .f32 :=
  addf (mulf (mulf (cen R) (broadcastInDim S2x4096x1024 ![0, 1, 2] bcast_S2x4096x1_S2x4096x1024_0_1_2 (Host.rsqrt (addf (mean (mulf (cen R) (cen R))) (broadcastInDim S2x4096x1 ![] bcast_S_S2x4096x1 (constant S_ .f32 0x3727C5AC#32)))))) (broadcastInDim S2x4096x1024 ![0, 1, 2] bcast_S1x1x1024_S2x4096x1024_0_1_2 (broadcastInDim S1x1x1024 ![1, 2] bcast_S1x1024_S1x1x1024_1_2 G))) (broadcastInDim S2x4096x1024 ![0, 1, 2] bcast_S1x1x1024_S2x4096x1024_0_1_2 (broadcastInDim S1x1x1024 ![1, 2] bcast_S1x1024_S1x1x1024_1_2 B))

theorem cen_eq (R) (a : Fin 2) (p : Fin 4096) (l : Fin 1024) : cen R (ix3 a p l) = Cert.Vec.cen (fun k => R (ix3 a p k)) l := by
  pointwise [cen, mean, Cert.Vec.cen, Cert.Vec.feats]

theorem nrm_eq (R G B) (i : S2x4096x1024.Idx) : nrm R G B i = Cert.Vec.ln R G B i := by
  idx_vars i
  pointwise [nrm, mean, Cert.Vec.ln, Cert.Vec.lnRow, Cert.Vec.feats, Cert.Vec.eps]
  simp only [cen_eq]

/-- The residual sum. -/
def rs (X0 X1 : FVec Ideal S2x4096x1024 .f32) (X2 : FVec Ideal S2x1x1024 .f32) : FVec Ideal S2x4096x1024 .f32 :=
  addf (mulf (broadcastInDim S2x4096x1024 ![] bcast_S_S2x4096x1024 (constant S_ .f32 0x3FD744FD#32)) X0) (mulf (broadcastInDim S2x4096x1024 ![0, 1, 2] bcast_S2x1x1024_S2x4096x1024_0_1_2 (addf (broadcastInDim S2x1x1024 ![] bcast_S_S2x1x1024 (constant S_ .f32 0x3F800000#32)) X2)) X1)

/-- The reference's first result. -/
def r0 (X0 X1 : FVec Ideal S2x4096x1024 .f32) (X2 : FVec Ideal S2x1x1024 .f32) (X3 X4 : FVec Ideal S1x1024 .f32) : FVec Ideal S2x4096x1024 .f32 :=
  nrm (rs X0 X1 X2) X3 X4

/-- The reference's second result. -/
def r1 (X0 X1 : FVec Ideal S2x4096x1024 .f32) (X2 : FVec Ideal S2x1x1024 .f32) (X3 X4 : FVec Ideal S1x1024 .f32) (X5 X6 : FVec Ideal S2x1x1024 .f32) : FVec Ideal S2x4096x1024 .bf16 :=
  truncf .bf16 (addf (mulf (r0 X0 X1 X2 X3 X4) (broadcastInDim S2x4096x1024 ![0, 1, 2] bcast_S2x1x1024_S2x4096x1024_0_1_2 (addf (broadcastInDim S2x1x1024 ![] bcast_S_S2x1x1024 (constant S_ .f32 0x3F800000#32)) X5))) (broadcastInDim S2x4096x1024 ![0, 1, 2] bcast_S2x1x1024_S2x4096x1024_0_1_2 X6)) bitsLt_bf16_f32

theorem rs_eq (X0 X1 X2) : rs X0 X1 X2 = Cert.Vec.resid X0 X1 X2 := by
  funext i; idx_vars i
  pointwise [rs, Cert.Vec.resid, Cert.Vec.alpha]

theorem r0_eq (X0 X1 X2 X3 X4) : r0 X0 X1 X2 X3 X4 = Cert.Vec.rln X0 X1 X2 X3 X4 := by
  funext i
  show nrm (rs X0 X1 X2) X3 X4 i = _
  rw [nrm_eq, rs_eq]
  rfl

theorem r1_eq (X0 X1 X2 X3 X4 X5 X6) : r1 X0 X1 X2 X3 X4 X5 X6 = Cert.Vec.rlnm X0 X1 X2 X3 X4 X5 X6 := by
  unfold r1
  rw [r0_eq]
  funext i; idx_vars i
  pointwise [Cert.Vec.rlnm, Cert.Vec.modu]

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v28) = Cert.Vec.rln (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = Cert.Vec.rlnm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (r0_eq _ _ _ _ _), (h c).2.1.trans (r1_eq _ _ _ _ _ _ _), (h c).2.2⟩) (Cert.LnRefIdeal.Value.run m ρ)

end Cert.LnRefIdeal.Val

end
-- ==== Proof.LnVal.lean ====
module

public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal.Skeleton
public import proofs.«01_k».proof.Proof.Gen.LnIdeal.Frame
public import proofs.«01_k».proof.Proof.Gen.LnIdeal.Value
public import Idealize.ShloMosaic.Lib.Pipeline.ValueKit
public import proofs.«01_k».proof.Proof.VecSpec

@[expose] public section

set_option maxRecDepth 16384

noncomputable section

namespace Cert.LnIdeal.Val

open Cert.LnIdeal Cert.LnIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![t.val / 16 % 2, t.val % 16, 0] ∧ win0_2.index t = ![t.val / 16 % 2, 0, 0] ∧ win0_3.index t = ![t.val / 16 % 2, 0, 0] ∧ win0_4.index t = ![t.val / 16 % 2, 0, 0] ∧ win0_5.index t = ![0, 0] ∧ win0_6.index t = ![0, 0] ∧ win0_7.index t = ![t.val / 16 % 2, t.val % 16, 0] ∧ win0_8.index t = ![t.val / 16 % 2, t.val % 16, 0] :=
  (by decide +kernel : ∀ t : Fin grid0.N, _)

theorem b0 (c : Dev nD) (t : Fin cfg0.N) (r : Fin 256) (l : Fin 1024) :
    iblk m c 0 t (ix3 0 r l) = m ((c : Thread nD τ).loc main_arg0) (ix3 (bt t) (pos t r) l) := by
  unfold bt pos
  blk_point [iblk, V, idx t]

theorem b1 (c : Dev nD) (t : Fin cfg0.N) (r : Fin 256) (l : Fin 1024) :
    iblk m c 1 t (ix3 0 r l) = m ((c : Thread nD τ).loc main_arg1) (ix3 (bt t) (pos t r) l) := by
  unfold bt pos
  blk_point [iblk, V, idx t]

theorem b2 (c : Dev nD) (t : Fin cfg0.N) (l : Fin 1024) :
    iblk m c 2 t (ix3 0 0 l) = m ((c : Thread nD τ).loc main_arg2) (ix3 (bt t) 0 l) := by
  unfold bt
  blk_point [iblk, V, idx t]

theorem b3 (c : Dev nD) (t : Fin cfg0.N) (l : Fin 1024) :
    iblk m c 3 t (ix3 0 0 l) = m ((c : Thread nD τ).loc main_arg5) (ix3 (bt t) 0 l) := by
  unfold bt
  blk_point [iblk, V, idx t]

theorem b4 (c : Dev nD) (t : Fin cfg0.N) (l : Fin 1024) :
    iblk m c 4 t (ix3 0 0 l) = m ((c : Thread nD τ).loc main_arg6) (ix3 (bt t) 0 l) := by
  unfold bt
  blk_point [iblk, V, idx t]

theorem b5 (c : Dev nD) (t : Fin cfg0.N) (l : Fin 1024) :
    iblk m c 5 t (ix2 0 l) = m ((c : Thread nD τ).loc main_arg3) (ix2 0 l) := by
  blk_point [iblk, V, idx t]

theorem b6 (c : Dev nD) (t : Fin cfg0.N) (l : Fin 1024) :
    iblk m c 6 t (ix2 0 l) = m ((c : Thread nD τ).loc main_arg4) (ix2 0 l) := by
  blk_point [iblk, V, idx t]

theorem e7 (t : Fin cfg0.N) (y : S1x256x1024.Idx) : (win0_7.blk t).view.emb y = ix3 (bt t) (pos t (y 1)) (y 2 : Fin 1024) := by
  unfold bt pos
  blk_ext [idx t]

theorem e8 (t : Fin cfg0.N) (y : S1x256x1024.Idx) : (win0_8.blk t).view.emb y = ix3 (bt t) (pos t (y 1)) (y 2 : Fin 1024) := by
  unfold bt pos
  blk_ext [idx t]

/-- A normalised row of a block's residual sum, with weight and shift. -/
def rowAt (x0 x1 : FVec Ideal S1x256x1024 .f32) (x2 : FVec Ideal S1x1x1024 .f32) (x5 x6 : FVec Ideal S1x1024 .f32) (r : Fin 256) (l : Fin 1024) : EReal :=
  Cert.Vec.lnRow (fun l => Cert.Vec.alpha * x0 (ix3 0 r l) + (1 + x2 (ix3 0 0 l)) * x1 (ix3 0 r l)) l * x5 (ix2 0 l) + x6 (ix2 0 l)

/-- What a point writes to the first result, from its blocks. -/
theorem p7 (x0 x1 : FVec Ideal S1x256x1024 .f32) (x2 x3 x4 : FVec Ideal S1x1x1024 .f32) (x5 x6 : FVec Ideal S1x1024 .f32) (y : S1x256x1024.Idx) :
    out0_7 (F := Ideal) x0 x1 x2 x3 x4 x5 x6 y = rowAt x0 x1 x2 x5 x6 (y 1) (y 2) := by
  unfold out0_7
  frame_out
  idx_vars y
  open_payloads
  pointwise [rowAt, Cert.Vec.lnRow, Cert.Vec.cen, Cert.Vec.feats, Cert.Vec.eps, Cert.Vec.alpha]

/-- What a point writes to the second result, from its blocks. -/
theorem p8 (x0 x1 : FVec Ideal S1x256x1024 .f32) (x2 x3 x4 : FVec Ideal S1x1x1024 .f32) (x5 x6 : FVec Ideal S1x1024 .f32) (y : S1x256x1024.Idx) :
    out0_8 (F := Ideal) x0 x1 x2 x3 x4 x5 x6 y = rowAt x0 x1 x2 x5 x6 (y 1) (y 2) * (1 + x3 (ix3 0 0 (y 2 : Fin 1024))) + x4 (ix3 0 0 (y 2 : Fin 1024)) := by
  unfold out0_8
  frame_out
  idx_vars y
  open_payloads
  pointwise [rowAt, Cert.Vec.lnRow, Cert.Vec.cen, Cert.Vec.feats, Cert.Vec.eps, Cert.Vec.alpha]

theorem rowAt_eq (c : Dev nD) (t : Fin cfg0.N) (r : Fin 256) (l : Fin 1024) :
    rowAt (iblk m c 0 t) (iblk m c 1 t) (iblk m c 2 t) (iblk m c 5 t) (iblk m c 6 t) r l
      = Cert.Vec.rln (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) (pos t r) l) := by
  unfold rowAt
  simp only [b0, b1, b2, b5, b6]
  rfl

/-- The normalised residual sum. -/
theorem final7 (c : Dev nD) : (dats m 0 c).arrAt 7 (cfgs 0).N
    = Cert.Vec.rln (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, e7]
  exact (p7 _ _ _ _ _ _ _ y).trans (rowAt_eq m c t _ _)

/-- The same, modulated. -/
theorem final8 (c : Dev nD) : (dats m 0 c).arrAt 8 (cfgs 0).N
    = Cert.Vec.rlnm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8, e8]
  refine (p8 _ _ _ _ _ _ _ y).trans ?_
  rw [rowAt_eq m c t (y 1) (y 2), b3 m c t (y 2), b4 m c t (y 2)]
  rfl

end Cert.LnIdeal.Val

end
-- ==== Proof.LnActRef.lean ====
module

public import proofs.«01_k».proof.Proof.Gen.LnActRefIdeal
public import proofs.«01_k».proof.Proof.Gen.LnActRefIdeal.Run
public import Idealize.ShloMosaic.Lib.Pipeline.ValueKit
public import Idealize.ShloMosaic.Lib.Claim
public import proofs.«01_k».proof.Proof.VecSpec

@[expose] public section

set_option maxRecDepth 16384

noncomputable section

namespace Cert.LnActRefIdeal.Val

open Cert.LnActRefIdeal Cert.LnActRefIdeal.Gen Idealize.ShloMosaic Idealize.ShloMosaic.TcCoe Idealize.SL.Sem

/-- The mean of every row, as a column. -/
def mean (R : FVec Ideal S2x4096x1024 .f32) : FVec Ideal S2x4096x1 .f32 :=
  Host.divf (broadcastInDim S2x4096x1 ![0, 1] bcast_S2x4096_S2x4096x1_0_1 (Host.reduceAdd R (constant S_ .f32 0x00000000#32) reducesTo_S2x4096x1024_S2x4096_d2 h_S_)) (broadcastInDim S2x4096x1 ![] bcast_S_S2x4096x1 (constant S_ .f32 0x44800000#32))

/-- Every row less its mean. -/
def cen (R : FVec Ideal S2x4096x1024 .f32) : FVec Ideal S2x4096x1024 .f32 :=
  subf R (broadcastInDim S2x4096x1024 ![0, 1, 2] bcast_S2x4096x1_S2x4096x1024_0_1_2 (mean R))

/-- The normalised rows with weight and shift. -/
def nrm (R : FVec Ideal S2x4096x1024 .f32) (G B : FVec Ideal S1x1024 .f32) : FVec Ideal S2x4096x1024 .f32 :=
  addf (mulf (mulf (cen R) (broadcastInDim S2x4096x1024 ![0, 1, 2] bcast_S2x4096x1_S2x4096x1024_0_1_2 (Host.rsqrt (addf (mean (mulf (cen R) (cen R))) (broadcastInDim S2x4096x1 ![] bcast_S_S2x4096x1 (constant S_ .f32 0x3727C5AC#32)))))) (broadcastInDim S2x4096x1024 ![0, 1, 2] bcast_S1x1x1024_S2x4096x1024_0_1_2 (broadcastInDim S1x1x1024 ![1, 2] bcast_S1x1024_S1x1x1024_1_2 G))) (broadcastInDim S2x4096x1024 ![0, 1, 2] bcast_S1x1x1024_S2x4096x1024_0_1_2 (broadcastInDim S1x1x1024 ![1, 2] bcast_S1x1024_S1x1x1024_1_2 B))

theorem cen_eq (R) (a : Fin 2) (p : Fin 4096) (l : Fin 1024) : cen R (ix3 a p l) = Cert.Vec.cen (fun k => R (ix3 a p k)) l := by
  pointwise [cen, mean, Cert.Vec.cen, Cert.Vec.feats]

theorem nrm_eq (R G B) (i : S2x4096x1024.Idx) : nrm R G B i = Cert.Vec.ln R G B i := by
  idx_vars i
  pointwise [nrm, mean, Cert.Vec.ln, Cert.Vec.lnRow, Cert.Vec.feats, Cert.Vec.eps]
  simp only [cen_eq]

/-- The reference's result. -/
def r0 (X0 : FVec Ideal S2x4096x1024 .f32) (X1 X2 : FVec Ideal S1x1024 .f32) : FVec Ideal S2x4096x1024 .bf16 :=
  truncf .bf16 (mulf (nrm X0 X1 X2) (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (nrm X0 X1 X2)))))) bitsLt_bf16_f32

theorem r0_eq (X0 X1 X2) : r0 X0 X1 X2 = Cert.Vec.lnact X0 X1 X2 := by
  funext i
  idx_vars i
  pointwise [r0, Cert.Vec.lnact, Cert.Vec.sig]
  simp only [nrm_eq]

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v23) = Cert.Vec.lnact (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (r0_eq _ _ _), (h c).2⟩) (Cert.LnActRefIdeal.Value.run m ρ)

end Cert.LnActRefIdeal.Val

end
-- ==== Proof.LnActVal.lean ====
module

public import proofs.«01_k».proof.Proof.Gen.LnAct.Skeleton
public import proofs.«01_k».proof.Proof.Gen.LnAct.Launch
public import proofs.«01_k».proof.Proof.Gen.LnAct.Points
public import proofs.«01_k».proof.Proof.Gen.LnAct.Frame
public import proofs.«01_k».proof.Proof.Gen.LnActIdeal.Skeleton
public import proofs.«01_k».proof.Proof.Gen.LnActIdeal.Frame
public import proofs.«01_k».proof.Proof.Gen.LnActIdeal.Value
public import Idealize.ShloMosaic.Lib.Pipeline.ValueKit
public import proofs.«01_k».proof.Proof.VecSpec

@[expose] public section

set_option maxRecDepth 16384

noncomputable section

namespace Cert.LnActIdeal.Val

open Cert.LnActIdeal Cert.LnActIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![0, 0] ∧ win0_2.index t = ![0, 0] ∧ win0_3.index t = ![t.val / 16 % 2, t.val % 16, 0] :=
  (by decide +kernel : ∀ t : Fin grid0.N, _)

theorem b0 (c : Dev nD) (t : Fin cfg0.N) (r : Fin 256) (l : Fin 1024) :
    iblk m c 0 t (ix3 0 r l) = m ((c : Thread nD τ).loc main_arg0) (ix3 (bt t) (pos t r) l) := by
  unfold bt pos
  blk_point [iblk, V, idx t]

theorem b1 (c : Dev nD) (t : Fin cfg0.N) (l : Fin 1024) :
    iblk m c 1 t (ix2 0 l) = m ((c : Thread nD τ).loc main_arg1) (ix2 0 l) := by
  blk_point [iblk, V, idx t]

theorem b2 (c : Dev nD) (t : Fin cfg0.N) (l : Fin 1024) :
    iblk m c 2 t (ix2 0 l) = m ((c : Thread nD τ).loc main_arg2) (ix2 0 l) := by
  blk_point [iblk, V, idx t]

theorem e3 (t : Fin cfg0.N) (y : S1x256x1024.Idx) : (win0_3.blk t).view.emb y = ix3 (bt t) (pos t (y 1)) (y 2 : Fin 1024) := by
  unfold bt pos
  blk_ext [idx t]

/-- A normalised row of a block, with weight and shift. -/
def rowAt (x0 : FVec Ideal S1x256x1024 .f32) (x1 x2 : FVec Ideal S1x1024 .f32) (r : Fin 256) (l : Fin 1024) : EReal :=
  Cert.Vec.lnRow (fun l => x0 (ix3 0 r l)) l * x1 (ix2 0 l) + x2 (ix2 0 l)

/-- What a point writes, from its blocks. -/
theorem p3 (x0 : FVec Ideal S1x256x1024 .f32) (x1 x2 : FVec Ideal S1x1024 .f32) (y : S1x256x1024.Idx) :
    out0_3 (F := Ideal) x0 x1 x2 y = rowAt x0 x1 x2 (y 1) (y 2) * Cert.Vec.sig (rowAt x0 x1 x2 (y 1) (y 2)) := by
  unfold out0_3
  frame_out
  idx_vars y
  open_payloads
  pointwise [rowAt, Cert.Vec.lnRow, Cert.Vec.cen, Cert.Vec.feats, Cert.Vec.eps, Cert.Vec.sig]
  simp only [zero_sub]

theorem rowAt_eq (c : Dev nD) (t : Fin cfg0.N) (r : Fin 256) (l : Fin 1024) :
    rowAt (iblk m c 0 t) (iblk m c 1 t) (iblk m c 2 t) r l
      = Cert.Vec.ln (m ((c : Thread nD τ).loc main_arg0)) (m ((c : Thread nD τ).loc main_arg1)) (m ((c : Thread nD τ).loc main_arg2)) (ix3 (bt t) (pos t r) l) := by
  unfold rowAt
  simp only [b0, b1, b2]
  rfl

/-- The kernel's result is the activated norm. -/
theorem final3 (c : Dev nD) : (dats m 0 c).arrAt 3 (cfgs 0).N
    = Cert.Vec.lnact (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, e3]
  refine (p3 _ _ _ y).trans ?_
  rw [rowAt_eq m c t (y 1) (y 2)]
  rfl

end Cert.LnActIdeal.Val

end
-- ==== Proof.LossRef.lean ====
module

public import proofs.«01_k».proof.Proof.Gen.LossRefIdeal
public import proofs.«01_k».proof.Proof.Gen.LossRefIdeal.Run
public import Idealize.ShloMosaic.Lib.Pipeline.ValueKit
public import Idealize.ShloMosaic.Lib.Claim
public import proofs.«01_k».proof.Proof.VecSpec

@[expose] public section

set_option maxRecDepth 16384

noncomputable section

namespace Cert.LossRefIdeal.Val

open Cert.LossRefIdeal Cert.LossRefIdeal.Gen Idealize.ShloMosaic Idealize.ShloMosaic.TcCoe Idealize.SL.Sem

/-- The reference's first result. -/
def r0 (X0 X1 : FVec Ideal S2x4096x1024 .f32) : FVec Ideal S2x4096x1024 .f32 :=
  mulf (broadcastInDim S2x4096x1024 ![0, 1] bcast_S2x4096_S2x4096x1024_0_1 (Host.divf (broadcastInDim S2x4096 ![] bcast_S_S2x4096 (mulf (constant S_ .f32 0x3F000000#32) (constant S_ .f32 0x3F800000#32))) (broadcastInDim S2x4096 ![] bcast_S_S2x4096 (constant S_ .f32 0x44800000#32)))) (mulf (broadcastInDim S2x4096x1024 ![] bcast_S_S2x4096x1024 (constant S_ .f32 0x40000000#32)) (subf X0 X1))

/-- The reference's second result. -/
def r1 (X0 X1 : FVec Ideal S2x4096x1024 .f32) : FVec Ideal S2x1x1024 .f32 :=
  broadcastInDim S2x1x1024 ![0, 2] bcast_S2x1024_S2x1x1024_0_2 (Host.reduceAdd (mulf (subf X0 X1) (subf X0 X1)) (constant S_ .f32 0x00000000#32) reducesTo_S2x4096x1024_S2x1024_d1 h_S_)

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem feats : Ideal.ofBits .f32 0x44800000#32 = ((1024 : ℝ) : EReal) := by
  simp [Ideal.ofBits, Ideal.ieee, -EReal.coe_mul]; norm_num

theorem inv : Ideal.ofBits .f32 0x3A800000#32 = ((1 / 1024 : ℝ) : EReal) := by
  simp [Ideal.ofBits, Ideal.ieee, -EReal.coe_mul]; norm_num

theorem r0_eq (X0 X1) : r0 X0 X1 = Cert.Vec.dloss X0 X1 := by
  funext i; idx_vars i
  pointwise [r0, Cert.Vec.dloss, Cert.Vec.inv]
  rw [half, two, feats, inv, Ideal.div_coe (by norm_num), mul_comm (_ - _ : EReal), ← mul_assoc, ← EReal.coe_mul, ← EReal.coe_mul]
  norm_num

theorem r1_eq (X0 X1) : r1 X0 X1 = Cert.Vec.sqerr X0 X1 := by
  funext i; idx_vars i
  pointwise [r1, Cert.Vec.sqerr]

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v14) = Cert.Vec.dloss (m ((c.tc : Thread nD τ).loc main_arg0)) (m ((c.tc : Thread nD τ).loc main_arg1))
      ∧ r.2.mem ((c.tc : Thread nD τ).loc main_v18) = Cert.Vec.sqerr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2.1.trans (r1_eq _ _), (h c).2.2⟩) (Cert.LossRefIdeal.Value.run m ρ)

end Cert.LossRefIdeal.Val

end
-- ==== Proof.LossVal.lean ====
module

public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal.Skeleton
public import proofs.«01_k».proof.Proof.Gen.LossIdeal.Frame
public import proofs.«01_k».proof.Proof.Gen.LossIdeal.Value
public import Idealize.ShloMosaic.Lib.Pipeline.ValueKit
public import proofs.«01_k».proof.Proof.VecSpec

@[expose] public section

set_option maxRecDepth 16384

noncomputable section

namespace Cert.LossIdeal.Val

open Cert.LossIdeal Cert.LossIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![t.val / 16 % 2, t.val % 16, 0] ∧ win0_2.index t = ![t.val / 16 % 2, t.val % 16, 0] ∧ win0_3.index t = ![t.val / 16 % 2, 0, 0] :=
  (by decide +kernel : ∀ t : Fin grid0.N, _)

theorem b0 (c : Dev nD) (t : Fin cfg0.N) (r : Fin 256) (l : Fin 1024) :
    iblk m c 0 t (ix3 0 r l) = m ((c : Thread nD τ).loc main_arg0) (ix3 (bt t) (pos t r) l) := by
  unfold bt pos
  blk_point [iblk, V, idx t]

theorem b1 (c : Dev nD) (t : Fin cfg0.N) (r : Fin 256) (l : Fin 1024) :
    iblk m c 1 t (ix3 0 r l) = m ((c : Thread nD τ).loc main_arg1) (ix3 (bt t) (pos t r) l) := by
  unfold bt pos
  blk_point [iblk, V, idx t]

theorem e2 (t : Fin cfg0.N) (y : S1x256x1024.Idx) : (win0_2.blk t).view.emb y = ix3 (bt t) (pos t (y 1)) (y 2 : Fin 1024) := by
  unfold bt pos
  blk_ext [idx t]

theorem e3 (t : Fin cfg0.N) (y : S1x1x1024.Idx) : (win0_3.blk t).view.emb y = ix3 (bt t) 0 (y 2 : Fin 1024) := by
  unfold bt
  blk_ext [idx t]

/-- The first result at row `r` and lane `l` of a block. -/
def dAt (x0 x1 : FVec Ideal S1x256x1024 .f32) (r : Fin 256) (l : Fin 1024) : EReal :=
  (x0 (ix3 0 r l) - x1 (ix3 0 r l)) * Cert.Vec.inv

/-- One position's squared error. -/
def sqTerm (X0 X1 : FVec Ideal S2x4096x1024 .f32) (b : Fin 2) (p : Fin 4096) (l : Fin 1024) : EReal :=
  (X0 (ix3 b p l) - X1 (ix3 b p l)) * (X0 (ix3 b p l) - X1 (ix3 b p l))

/-- What a point writes to the first result. -/
theorem p2 (c : Dev nD) (t : Fin cfg0.N) (y : S1x256x1024.Idx) :
    (outsAt0 m c t.val t.isLt).1 y = dAt (iblk m c 0 t) (iblk m c 1 t) (y 1) (y 2) := by
  by_cases h : t.val % 16 = 0
  · rw [outsAt0_A m c t h (by omega)]
    frame_out
    idx_vars y
    open_payloads
    pointwise [dAt, Cert.Vec.inv]
  · rw [outsAt0_B m c t h (by omega)]
    frame_out
    idx_vars y
    open_payloads
    pointwise [dAt, Cert.Vec.inv]

/-- The loss's gradient. -/
theorem final2 (c : Dev nD) : (dats m 0 c).arrAt 2 (cfgs 0).N
    = Cert.Vec.dloss (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans ?_
  unfold dAt
  rw [b0 m c t (y 1) (y 2), b1 m c t (y 1) (y 2)]
  rfl

/-- A point's part of the summed squared error. -/
def sqAt (x0 x1 : FVec Ideal S1x256x1024 .f32) (y : S1x1x1024.Idx) : EReal := ∑ r : Fin 256, (x0 (ix3 0 r (y 2 : Fin 1024)) - x1 (ix3 0 r (y 2 : Fin 1024))) * (x0 (ix3 0 r (y 2 : Fin 1024)) - x1 (ix3 0 r (y 2 : Fin 1024)))

theorem s3A (c : Dev nD) (t : Fin cfg0.N) (h : t.val % 16 = 0) (y : S1x1x1024.Idx) :
    (outsAt0 m c t.val t.isLt).2 y = sqAt (iblk m c 0 t) (iblk m c 1 t) y := by
  rw [outsAt0_A m c t h (by omega)]
  frame_out
  idx_vars y
  open_payloads
  pointwise [sqAt]

theorem s3B (c : Dev nD) (t : Fin cfg0.N) (h : ¬ t.val % 16 = 0) (y : S1x1x1024.Idx) :
    (outsAt0 m c t.val t.isLt).2 y = (outsAt0 m c (t.val - 1) (Nat.lt_of_le_of_lt (Nat.sub_le _ _) t.isLt)).2 y + sqAt (iblk m c 0 t) (iblk m c 1 t) y := by
  rw [outsAt0_B m c t h (by omega)]
  frame_out
  idx_vars y
  obtain rfl : y0 = 0 := Subsingleton.elim _ _
  obtain rfl : y1 = 0 := Subsingleton.elim _ _
  open_payloads
  pointwise [sqAt]

/-- The squared error, summed over the positions. -/
theorem final3 (c : Dev nD) : (dats m 0 c).arrAt 3 (cfgs 0).N = Cert.Vec.sqerr (m ((c : Thread nD τ).loc main_arg0)) (m ((c : Thread nD τ).loc main_arg1)) := by
  refine (dats m 0 c).arrAt_eq_of_covers 3 _ (by decide +kernel) fun t hf y => ?_
  have h15 := (flush0_3 t).mp hf
  have ht : t.val < 32 := t.isLt
  blk_simp
  rw [after0_3, e3]
  rw [Pipeline.eq_sum_fin_of_reset_step_apply_of_flush (fun n h => (outsAt0 m c n h).2) 16 (fun _ => 0)
    (fun t y => sqAt (iblk m c 0 t) (iblk m c 1 t) y)
    (fun t h y => (s3A m c t h y).trans (zero_add _).symm) (fun t h y => s3B m c t h y) t h15 _]
  refine (zero_add (_ : EReal)).trans ?_
  refine Eq.trans (Finset.sum_congr rfl fun s _ => ?_)
    (Fin.sum_mul_add_fin 16 256 (fun p : Fin 4096 => (sqTerm (m ((c : Thread nD τ).loc main_arg0)) (m ((c : Thread nD τ).loc main_arg1)) (bt t) p (y 2) : EReal)))
  refine Finset.sum_congr rfl fun r _ => ?_
  have hs := s.isLt
  have eb : bt (16 * (t.val / 16) + s.val) = bt t := Fin.ext (by show (16 * (t.val / 16) + s.val) / 16 % 2 = t.val / 16 % 2; omega)
  have ep : pos (16 * (t.val / 16) + s.val) r = ⟨s.val * 256 + r.val, by omega⟩ := Fin.ext (by show (16 * (t.val / 16) + s.val) % 16 * 256 + r.val = s.val * 256 + r.val; omega)
  rw [b0 m c _ r (y 2), b1 m c _ r (y 2)]
  simp only [eb, ep]
  rfl

end Cert.LossIdeal.Val

end
-- ==== Proof.AdamRef.lean ====
module

public import proofs.«01_k».proof.Proof.Gen.AdamRefIdeal
public import proofs.«01_k».proof.Proof.Gen.AdamRefIdeal.Run
public import Idealize.ShloMosaic.Lib.Pipeline.ValueKit
public import Idealize.ShloMosaic.Lib.Claim
public import proofs.«01_k».proof.Proof.VecSpec

@[expose] public section

set_option maxRecDepth 16384

noncomputable section

namespace Cert.AdamRefIdeal.Val

open Cert.AdamRefIdeal Cert.AdamRefIdeal.Gen Idealize.ShloMosaic Idealize.ShloMosaic.TcCoe Idealize.SL.Sem

/-- The new first moments, in the parameters' shape. -/
def m1 (X1 X2 : FVec Ideal S4x1024x1408 .f32) : FVec Ideal S4x1024x1408 .f32 :=
  addf (mulf (broadcastInDim S4x1024x1408 ![] bcast_S_S4x1024x1408 (constant S_ .f32 0x3F666666#32)) X2) (mulf (broadcastInDim S4x1024x1408 ![] bcast_S_S4x1024x1408 (constant S_ .f32 0x3DCCCCCD#32)) X1)

/-- The new second moments, in the parameters' shape. -/
def m2 (X1 X3 : FVec Ideal S4x1024x1408 .f32) : FVec Ideal S4x1024x1408 .f32 :=
  addf (mulf (broadcastInDim S4x1024x1408 ![] bcast_S_S4x1024x1408 (constant S_ .f32 0x3F7FBE77#32)) X3) (mulf (broadcastInDim S4x1024x1408 ![] bcast_S_S4x1024x1408 (constant S_ .f32 0x3A83126F#32)) (mulf X1 X1))

/-- The step, in the parameters' shape. -/
def st (X0 X1 X2 X3 : FVec Ideal S4x1024x1408 .f32) : FVec Ideal S4x1024x1408 .f32 :=
  mulf (broadcastInDim S4x1024x1408 ![] bcast_S_S4x1024x1408 (constant S_ .f32 0xBA83126F#32)) (addf (Host.divf (Host.divf (m1 X1 X2) (broadcastInDim S4x1024x1408 ![] bcast_S_S4x1024x1408 (constant S_ .f32 0x3F26BD02#32))) (addf (Host.sqrt (Host.divf (m2 X1 X3) (broadcastInDim S4x1024x1408 ![] bcast_S_S4x1024x1408 (constant S_ .f32 0x3C231ACC#32)))) (broadcastInDim S4x1024x1408 ![] bcast_S_S4x1024x1408 (constant S_ .f32 0x322BCC77#32)))) (mulf (broadcastInDim S4x1024x1408 ![] bcast_S_S4x1024x1408 (constant S_ .f32 0x3C23D70A#32)) X0))

/-- The reference's first result. -/
def r0 (X0 X1 X2 X3 : FVec Ideal S4x1024x1408 .f32) : FVec Ideal S1x4096x1408 .f32 := shapeCast S1x4096x1408 (st X0 X1 X2 X3) shapeCasts_S4x1024x1408_S1x4096x1408

/-- The reference's second result. -/
def r1 (X1 X2 : FVec Ideal S4x1024x1408 .f32) : FVec Ideal S1x4096x1408 .f32 := shapeCast S1x4096x1408 (m1 X1 X2) shapeCasts_S4x1024x1408_S1x4096x1408

/-- The reference's third result. -/
def r2 (X1 X3 : FVec Ideal S4x1024x1408 .f32) : FVec Ideal S1x4096x1408 .f32 := shapeCast S1x4096x1408 (m2 X1 X3) shapeCasts_S4x1024x1408_S1x4096x1408

theorem m1_eq (X1 X2) (i : S4x1024x1408.Idx) : m1 X1 X2 i = Cert.Vec.mom1 (X1 i) (X2 i) := by
  idx_vars i
  pointwise [m1, Cert.Vec.mom1]

theorem m2_eq (X1 X3) (i : S4x1024x1408.Idx) : m2 X1 X3 i = Cert.Vec.mom2 (X1 i) (X3 i) := by
  idx_vars i
  pointwise [m2, Cert.Vec.mom2]

theorem st_eq (X0 X1 X2 X3) (i : S4x1024x1408.Idx) : st X0 X1 X2 X3 i = Cert.Vec.stepOf (X0 i) (X1 i) (X2 i) (X3 i) := by
  idx_vars i
  pointwise [st, Cert.Vec.stepOf]
  rw [m1_eq, m2_eq]

theorem cast_eq (X : FVec Ideal S4x1024x1408 .f32) (i : S1x4096x1408.Idx) :
    shapeCast S1x4096x1408 X shapeCasts_S4x1024x1408_S1x4096x1408 i = X (Cert.Vec.place (i 1) (i 2)) := by
  idx_vars i
  pointwise [Cert.Vec.place]

theorem r0_eq (X0 X1 X2 X3) : r0 X0 X1 X2 X3 = Cert.Vec.adam X0 X1 X2 X3 :=
  funext fun i => (cast_eq _ i).trans (st_eq X0 X1 X2 X3 _)

theorem r1_eq (X1 X2) : r1 X1 X2 = Cert.Vec.adam1 X1 X2 :=
  funext fun i => (cast_eq _ i).trans (m1_eq X1 X2 _)

theorem r2_eq (X1 X3) : r2 X1 X3 = Cert.Vec.adam2 X1 X3 :=
  funext fun i => (cast_eq _ i).trans (m2_eq X1 X3 _)

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v24) = Cert.Vec.adam (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v25) = Cert.Vec.adam1 (m ((c.tc : Thread nD τ).loc main_arg1)) (m ((c.tc : Thread nD τ).loc main_arg2))
      ∧ r.2.mem ((c.tc : Thread nD τ).loc main_v26) = Cert.Vec.adam2 (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (r0_eq _ _ _ _), (h c).2.1.trans (r1_eq _ _), (h c).2.2.1.trans (r2_eq _ _), (h c).2.2.2⟩) (Cert.AdamRefIdeal.Value.run m ρ)

end Cert.AdamRefIdeal.Val

end
-- ==== Proof.AdamVal.lean ====
module

public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal.Skeleton
public import proofs.«01_k».proof.Proof.Gen.AdamIdeal.Frame
public import proofs.«01_k».proof.Proof.Gen.AdamIdeal.Value
public import Idealize.ShloMosaic.Lib.Pipeline.ValueKit
public import proofs.«01_k».proof.Proof.VecSpec

@[expose] public section

set_option maxRecDepth 16384

noncomputable section

namespace Cert.AdamIdeal.Val

open Cert.AdamIdeal Cert.AdamIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

/-- Row `r` of the block a point works on. -/
def rowOf (t : Fin cfg0.N) (r : Fin 512) : Fin 4096 := ⟨t.val * 512 + r.val, by have : t.val < 8 := t.isLt; omega⟩

theorem b0 (c : Dev nD) (t : Fin cfg0.N) (r : Fin 512) (l : Fin 1408) :
    iblk m c 0 t (ix3 0 r l) = m ((c : Thread nD τ).loc main_arg0) (Cert.Vec.place (rowOf t r) l) := by
  unfold Cert.Vec.place rowOf
  blk_simp [iblk]
  entry_read
  pointwise
  blk_ext [idx t]

theorem b1 (c : Dev nD) (t : Fin cfg0.N) (r : Fin 512) (l : Fin 1408) :
    iblk m c 1 t (ix3 0 r l) = m ((c : Thread nD τ).loc main_arg1) (Cert.Vec.place (rowOf t r) l) := by
  unfold Cert.Vec.place rowOf
  blk_simp [iblk]
  entry_read
  pointwise
  blk_ext [idx t]

theorem b2 (c : Dev nD) (t : Fin cfg0.N) (r : Fin 512) (l : Fin 1408) :
    iblk m c 2 t (ix3 0 r l) = m ((c : Thread nD τ).loc main_arg2) (Cert.Vec.place (rowOf t r) l) := by
  unfold Cert.Vec.place rowOf
  blk_simp [iblk]
  entry_read
  pointwise
  blk_ext [idx t]

theorem b3 (c : Dev nD) (t : Fin cfg0.N) (r : Fin 512) (l : Fin 1408) :
    iblk m c 3 t (ix3 0 r l) = m ((c : Thread nD τ).loc main_arg3) (Cert.Vec.place (rowOf t r) l) := by
  unfold Cert.Vec.place rowOf
  blk_simp [iblk]
  entry_read
  pointwise
  blk_ext [idx t]

theorem e4 (t : Fin cfg0.N) (y : S1x512x1408.Idx) : (win0_4.blk t).view.emb y = ix3 (0 : Fin 1) (rowOf t (y 1)) (y 2 : Fin 1408) := by
  unfold rowOf
  blk_ext [idx t]

theorem e5 (t : Fin cfg0.N) (y : S1x512x1408.Idx) : (win0_5.blk t).view.emb y = ix3 (0 : Fin 1) (rowOf t (y 1)) (y 2 : Fin 1408) := by
  unfold rowOf
  blk_ext [idx t]

theorem e6 (t : Fin cfg0.N) (y : S1x512x1408.Idx) : (win0_6.blk t).view.emb y = ix3 (0 : Fin 1) (rowOf t (y 1)) (y 2 : Fin 1408) := by
  unfold rowOf
  blk_ext [idx t]

/-- What a point writes to this result, from its blocks. -/
theorem p4 (x0 x1 x2 x3 : FVec Ideal S1x512x1408 .f32) (y : S1x512x1408.Idx) :
    out0_4 (F := Ideal) x0 x1 x2 x3 y = Cert.Vec.stepOf (x0 (ix3 0 (y 1 : Fin 512) (y 2 : Fin 1408))) (x1 (ix3 0 (y 1 : Fin 512) (y 2 : Fin 1408))) (x2 (ix3 0 (y 1 : Fin 512) (y 2 : Fin 1408))) (x3 (ix3 0 (y 1 : Fin 512) (y 2 : Fin 1408))) := by
  unfold out0_4
  frame_out
  idx_vars y
  open_payloads
  pointwise [Cert.Vec.stepOf, Cert.Vec.mom1, Cert.Vec.mom2]

theorem final4 (c : Dev nD) : (dats m 0 c).arrAt 4 (cfgs 0).N
    = Cert.Vec.adam (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, e4]
  refine (p4 _ _ _ _ y).trans ?_
  rw [b0 m c t (y 1) (y 2), b1 m c t (y 1) (y 2), b2 m c t (y 1) (y 2), b3 m c t (y 1) (y 2)]
  rfl

/-- What a point writes to this result, from its blocks. -/
theorem p5 (x0 x1 x2 x3 : FVec Ideal S1x512x1408 .f32) (y : S1x512x1408.Idx) :
    out0_5 (F := Ideal) x0 x1 x2 x3 y = Cert.Vec.mom1 (x1 (ix3 0 (y 1 : Fin 512) (y 2 : Fin 1408))) (x2 (ix3 0 (y 1 : Fin 512) (y 2 : Fin 1408))) := by
  unfold out0_5
  frame_out
  idx_vars y
  open_payloads
  pointwise [Cert.Vec.mom1]

theorem final5 (c : Dev nD) : (dats m 0 c).arrAt 5 (cfgs 0).N
    = Cert.Vec.adam1 (m ((c : Thread nD τ).loc main_arg1)) (m ((c : Thread nD τ).loc main_arg2)) := by
  refine (dats m 0 c).arrAt_eq_of_covers 5 _ (by decide +kernel) fun t hf y => ?_
  blk_simp
  rw [after0_5, e5]
  refine (p5 _ _ _ _ y).trans ?_
  rw [b1 m c t (y 1) (y 2), b2 m c t (y 1) (y 2)]
  rfl

/-- What a point writes to this result, from its blocks. -/
theorem p6 (x0 x1 x2 x3 : FVec Ideal S1x512x1408 .f32) (y : S1x512x1408.Idx) :
    out0_6 (F := Ideal) x0 x1 x2 x3 y = Cert.Vec.mom2 (x1 (ix3 0 (y 1 : Fin 512) (y 2 : Fin 1408))) (x3 (ix3 0 (y 1 : Fin 512) (y 2 : Fin 1408))) := by
  unfold out0_6
  frame_out
  idx_vars y
  open_payloads
  pointwise [Cert.Vec.mom2]

theorem final6 (c : Dev nD) : (dats m 0 c).arrAt 6 (cfgs 0).N
    = Cert.Vec.adam2 (m ((c : Thread nD τ).loc main_arg1)) (m ((c : Thread nD τ).loc main_arg3)) := by
  refine (dats m 0 c).arrAt_eq_of_covers 6 _ (by decide +kernel) fun t hf y => ?_
  blk_simp
  rw [after0_6, e6]
  refine (p6 _ _ _ _ y).trans ?_
  rw [b1 m c t (y 1) (y 2), b3 m c t (y 1) (y 2)]
  rfl

end Cert.AdamIdeal.Val

end
-- ==== Proof.ConvSpec.lean ====
module

public import Idealize.ShloMosaic.Lib.Pipeline.ValueKit

@[expose] public section

set_option maxRecDepth 16384

noncomputable section

/-! The causal depthwise convolution over 31 positions and its gradient, entry by entry. -/

namespace Cert.Cv

open Idealize.ShloMosaic Idealize.ShloMosaic.TcCoe Idealize.SL.Sem

/-- The shape of the sequences. -/
abbrev Seq : Shape := ⟨3, ![2, 4096, 1024]⟩

/-- The sequence with thirty zero rows before it, at row `q`; zero behind its end. -/
def late (X : FVec Ideal Seq .f32) (a : Fin 2) (l : Fin 1024) (q : ℕ) : EReal :=
  if h : 30 ≤ q ∧ q < 4126 then X (ix3 a ⟨q - 30, by omega⟩ l) else 0

/-- The sequence at row `q`; zero behind its end. -/
def ahead (X : FVec Ideal Seq .f32) (a : Fin 2) (l : Fin 1024) (q : ℕ) : EReal :=
  if h : q < 4096 then X (ix3 a ⟨q, h⟩ l) else 0

/-- The biased causal convolution. -/
def out (X0 : FVec Ideal Seq .f32) (X1 : FVec Ideal (⟨2, ![31, 1024]⟩ : Shape) .f32) (X2 : FVec Ideal (⟨2, ![1, 1024]⟩ : Shape) .f32) :
    FVec Ideal Seq .f32 := fun y =>
  (∑ k : Fin 31, X1 (ix2 k (y 2)) * late X0 (y 0) (y 2) ((y 1 : Fin 4096) + k)) + X2 (ix2 0 (y 2))

/-- The gradient of the input: the transposed convolution. -/
def dIn (X0 : FVec Ideal Seq .f32) (X2 : FVec Ideal (⟨2, ![31, 1024]⟩ : Shape) .f32) : FVec Ideal Seq .f32 := fun y =>
  ∑ k : Fin 31, X2 (ix2 k (y 2)) * ahead X0 (y 0) (y 2) ((y 1 : Fin 4096) + (30 - k))

/-- A product of the cotangent with the delayed input, at one batch and row. -/
def tap (X0 X1 : FVec Ideal Seq .f32) (k : ℕ) (l : Fin 1024) (a : Fin 2) (p : Fin 4096) : EReal :=
  X0 (ix3 a p l) * late X1 a l (p + k)

/-- The gradient of the weights, with the zero row the kernel keeps under them. -/
def dW (X0 X1 : FVec Ideal Seq .f32) : FVec Ideal (⟨2, ![32, 1024]⟩ : Shape) .f32 := fun y =>
  if ((y 0 : Fin 32) : ℕ) < 31 then ∑ a : Fin 2, ∑ p : Fin 4096, tap X0 X1 (y 0 : Fin 32) (y 1) a p else 0

/-- A sum over the thirty-one positions, written out from the left. -/
theorem sum31 (f : Fin 31 → EReal) : ∑ k : Fin 31, f k = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Finset.univ_eq_empty, Finset.sum_empty, zero_add]
  rfl

/-- The same sum with a term added first, as an accumulator started at that term runs it. -/
theorem sum31_from (f : Fin 31 → EReal) (b : EReal) :
    b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = (∑ k : Fin 31, f k) + b := by
  rw [sum31]
  abel

/-- A buffer of 288 rows filled by two stores, read by rows: where each store's rows are the values of `G`, so is the read. -/
theorem read_two {sig : RefSig} {κ : Kind} {sp : Space} (v : View sig κ sp (⟨2, ![288, 128]⟩ : Shape) .f32) {o1 n1 o2 n2 : ℕ}
    (inb1 : ∀ a, (![o1, 0] : Fin 2 → ℕ) a + (⟨2, ![n1, 128]⟩ : Shape).size a ≤ (⟨2, ![288, 128]⟩ : Shape).size a)
    (inb2 : ∀ a, (![o2, 0] : Fin 2 → ℕ) a + (⟨2, ![n2, 128]⟩ : Shape).size a ≤ (⟨2, ![288, 128]⟩ : Shape).size a)
    (w1 : FVec Ideal (⟨2, ![n1, 128]⟩ : Shape) .f32) (w2 : FVec Ideal (⟨2, ![n2, 128]⟩ : Shape) .f32) (G : ℕ → Fin 128 → EReal)
    (h1 : ∀ (r : Fin n1) (l : Fin 128), w1 (ix2 r l) = G (o1 + r) l) (h2 : ∀ (r : Fin n2) (l : Fin 128), w2 (ix2 r l) = G (o2 + r) l)
    (hc : ∀ q < 288, (o1 ≤ q ∧ q < o1 + n1) ∨ (o2 ≤ q ∧ q < o2 + n2)) (o : ℕ)
    (inb : ∀ a, (![o, 0] : Fin 2 → ℕ) a + (⟨2, ![256, 128]⟩ : Shape).size a ≤ (⟨2, ![288, 128]⟩ : Shape).size a) :
    v.readCov [(⟨Rect.unit (s := (⟨2, ![288, 128]⟩ : Shape)) ![o1, 0] (⟨2, ![n1, 128]⟩ : Shape).size inb1, w1⟩ : View.Piece (Elt Ideal) (⟨2, ![288, 128]⟩ : Shape) .f32),
        ⟨Rect.unit (s := (⟨2, ![288, 128]⟩ : Shape)) ![o2, 0] (⟨2, ![n2, 128]⟩ : Shape).size inb2, w2⟩]
      (Rect.unit (s := (⟨2, ![288, 128]⟩ : Shape)) ![o, 0] (⟨2, ![256, 128]⟩ : Shape).size inb).toLoadRect
      = fun j => G (o + (j 0 : Fin 256)) (j 1 : Fin 128) := by
  rw [View.readCov_eq_canon']
  funext j
  have e0 : (((Rect.unit (s := (⟨2, ![288, 128]⟩ : Shape)) ![o, 0] (⟨2, ![256, 128]⟩ : Shape).size inb).toLoadRect.idx j) 0 : Fin 288).val = o + (j 0 : Fin 256).val := by
    show o + 1 * (j 0 : Fin 256).val = _
    omega
  have e1 : (((Rect.unit (s := (⟨2, ![288, 128]⟩ : Shape)) ![o, 0] (⟨2, ![256, 128]⟩ : Shape).size inb).toLoadRect.idx j) 1 : Fin 128) = (j 1 : Fin 128) := by
    apply Fin.ext
    show 0 + 1 * (j 1 : Fin 128).val = _
    omega
  refine (View.canon_apply_of_pieces (fun y => G (y 0 : Fin 288).val (y 1 : Fin 128)) _ ?_ _ ?_).trans ?_
  · intro p hp
    rcases List.mem_cons.mp hp with rfl | hp
    · intro x
      have hx : w1 x = w1 (ix2 (x 0 : Fin n1) (x 1 : Fin 128)) := congrArg w1 (by
        funext a
        match a with
        | ⟨0, _⟩ => rfl
        | ⟨1, _⟩ => rfl)
      refine hx.trans ((h1 _ _).trans (congrArg₂ G ?_ (Fin.ext ?_)))
      · show o1 + (x 0 : Fin n1).val = o1 + 1 * (x 0 : Fin n1).val; omega
      · show (x 1 : Fin 128).val = 0 + 1 * (x 1 : Fin 128).val; omega
    · obtain rfl := List.mem_singleton.mp hp
      intro x
      have hx : w2 x = w2 (ix2 (x 0 : Fin n2) (x 1 : Fin 128)) := congrArg w2 (by
        funext a
        match a with
        | ⟨0, _⟩ => rfl
        | ⟨1, _⟩ => rfl)
      refine hx.trans ((h2 _ _).trans (congrArg₂ G ?_ (Fin.ext ?_)))
      · show o2 + (x 0 : Fin n2).val = o2 + 1 * (x 0 : Fin n2).val; omega
      · show (x 1 : Fin 128).val = 0 + 1 * (x 1 : Fin 128).val; omega
  · generalize (Rect.unit (s := (⟨2, ![288, 128]⟩ : Shape)) ![o, 0] (⟨2, ![256, 128]⟩ : Shape).size inb).toLoadRect.idx j = y
    idx_vars y
    have l1 : y1.val < 128 := y1.isLt
    rcases hc y0.val y0.isLt with h | h
    · refine ⟨_, List.mem_cons_self, (LoadRect.mem_set _).mpr fun a => ?_⟩
      match a with
      | ⟨0, _⟩ => exact ⟨y0.val - o1, show y0.val - o1 < n1 by omega, show y0.val = o1 + 1 * (y0.val - o1) by omega⟩
      | ⟨1, _⟩ => exact ⟨y1.val, l1, show y1.val = 0 + 1 * y1.val by omega⟩
    · refine ⟨_, List.mem_cons_of_mem _ List.mem_cons_self, (LoadRect.mem_set _).mpr fun a => ?_⟩
      match a with
      | ⟨0, _⟩ => exact ⟨y0.val - o2, show y0.val - o2 < n2 by omega, show y0.val = o2 + 1 * (y0.val - o2) by omega⟩
      | ⟨1, _⟩ => exact ⟨y1.val, l1, show y1.val = 0 + 1 * y1.val by omega⟩
  · exact congrArg₂ G e0 e1

end Cert.Cv

end
-- ==== Proof.ConvRef.lean ====
module

public import proofs.«01_k».proof.Proof.Gen.ConvRefIdeal
public import proofs.«01_k».proof.Proof.Gen.ConvRefIdeal.Run
public import Idealize.ShloMosaic.Lib.Pipeline.ValueKit
public import Idealize.ShloMosaic.Lib.Claim
public import Idealize.ShloMosaic.Lib.KernelVsHost
public import proofs.«01_k».proof.Proof.ConvSpec

@[expose] public section

set_option maxRecDepth 16384

noncomputable section

namespace Cert.ConvRefIdeal.Val

open Cert.ConvRefIdeal Cert.ConvRefIdeal.Gen Idealize.ShloMosaic Idealize.ShloMosaic.TcCoe Idealize.SL.Sem

/-- The sequence behind thirty zero rows. -/
def cat (X1 : FVec Ideal S2x4096x1024 .f32) : FVec Ideal S2x4126x1024 .f32 :=
  concatenate S2x4126x1024 1 [⟨S2x30x1024, (broadcastInDim S2x30x1024 ![] bcast_S_S2x30x1024 (constant S_ .f32 0x00000000#32))⟩, ⟨S2x4096x1024, X1⟩] concatenates_S2x30x1024_S2x4096x1024_S2x4126x1024_d1

/-- The cotangent, reshaped to its own shape. -/
def g (X0 : FVec Ideal S2x4096x1024 .f32) : FVec Ideal S2x4096x1024 .f32 :=
  shapeCast S2x4096x1024 X0 shapeCasts_S2x4096x1024_S2x4096x1024

/-- The padded input's gradient as the reference computes it. -/
def r0f (X0 : FVec Ideal S2x4096x1024 .f32) (X2 : FVec Ideal S31x1024 .f32) : FVec Ideal S2x4126x1024 .f32 :=
  addf (addf (addf (addf (addf (addf (addf (addf (addf (addf (addf (addf (addf (addf (addf (addf (addf (addf (addf (addf (addf (addf (addf (addf (addf (addf (addf (addf (addf (addf (pad S2x4126x1024 ![0, 30, 0] ![0, 0, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![30, 0] X2 slices_S31x1024_S1x1024_30_0) shapeCasts_S1x1024_S1024))) (g X0)) (constant S_ .f32 0x00000000#32) pads_S2x4096x1024_S2x4126x1024_000_3000_000 h_S_) (pad S2x4126x1024 ![0, 29, 0] ![0, 1, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![29, 0] X2 slices_S31x1024_S1x1024_29_0) shapeCasts_S1x1024_S1024))) (g X0)) (constant S_ .f32 0x00000000#32) pads_S2x4096x1024_S2x4126x1024_000_2910_000 h_S_)) (pad S2x4126x1024 ![0, 28, 0] ![0, 2, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![28, 0] X2 slices_S31x1024_S1x1024_28_0) shapeCasts_S1x1024_S1024))) (g X0)) (constant S_ .f32 0x00000000#32) pads_S2x4096x1024_S2x4126x1024_000_2820_000 h_S_)) (pad S2x4126x1024 ![0, 27, 0] ![0, 3, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![27, 0] X2 slices_S31x1024_S1x1024_27_0) shapeCasts_S1x1024_S1024))) (g X0)) (constant S_ .f32 0x00000000#32) pads_S2x4096x1024_S2x4126x1024_000_2730_000 h_S_)) (pad S2x4126x1024 ![0, 26, 0] ![0, 4, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![26, 0] X2 slices_S31x1024_S1x1024_26_0) shapeCasts_S1x1024_S1024))) (g X0)) (constant S_ .f32 0x00000000#32) pads_S2x4096x1024_S2x4126x1024_000_2640_000 h_S_)) (pad S2x4126x1024 ![0, 25, 0] ![0, 5, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![25, 0] X2 slices_S31x1024_S1x1024_25_0) shapeCasts_S1x1024_S1024))) (g X0)) (constant S_ .f32 0x00000000#32) pads_S2x4096x1024_S2x4126x1024_000_2550_000 h_S_)) (pad S2x4126x1024 ![0, 24, 0] ![0, 6, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![24, 0] X2 slices_S31x1024_S1x1024_24_0) shapeCasts_S1x1024_S1024))) (g X0)) (constant S_ .f32 0x00000000#32) pads_S2x4096x1024_S2x4126x1024_000_2460_000 h_S_)) (pad S2x4126x1024 ![0, 23, 0] ![0, 7, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![23, 0] X2 slices_S31x1024_S1x1024_23_0) shapeCasts_S1x1024_S1024))) (g X0)) (constant S_ .f32 0x00000000#32) pads_S2x4096x1024_S2x4126x1024_000_2370_000 h_S_)) (pad S2x4126x1024 ![0, 22, 0] ![0, 8, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![22, 0] X2 slices_S31x1024_S1x1024_22_0) shapeCasts_S1x1024_S1024))) (g X0)) (constant S_ .f32 0x00000000#32) pads_S2x4096x1024_S2x4126x1024_000_2280_000 h_S_)) (pad S2x4126x1024 ![0, 21, 0] ![0, 9, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![21, 0] X2 slices_S31x1024_S1x1024_21_0) shapeCasts_S1x1024_S1024))) (g X0)) (constant S_ .f32 0x00000000#32) pads_S2x4096x1024_S2x4126x1024_000_2190_000 h_S_)) (pad S2x4126x1024 ![0, 20, 0] ![0, 10, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![20, 0] X2 slices_S31x1024_S1x1024_20_0) shapeCasts_S1x1024_S1024))) (g X0)) (constant S_ .f32 0x00000000#32) pads_S2x4096x1024_S2x4126x1024_000_20100_000 h_S_)) (pad S2x4126x1024 ![0, 19, 0] ![0, 11, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![19, 0] X2 slices_S31x1024_S1x1024_19_0) shapeCasts_S1x1024_S1024))) (g X0)) (constant S_ .f32 0x00000000#32) pads_S2x4096x1024_S2x4126x1024_000_19110_000 h_S_)) (pad S2x4126x1024 ![0, 18, 0] ![0, 12, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![18, 0] X2 slices_S31x1024_S1x1024_18_0) shapeCasts_S1x1024_S1024))) (g X0)) (constant S_ .f32 0x00000000#32) pads_S2x4096x1024_S2x4126x1024_000_18120_000 h_S_)) (pad S2x4126x1024 ![0, 17, 0] ![0, 13, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![17, 0] X2 slices_S31x1024_S1x1024_17_0) shapeCasts_S1x1024_S1024))) (g X0)) (constant S_ .f32 0x00000000#32) pads_S2x4096x1024_S2x4126x1024_000_17130_000 h_S_)) (pad S2x4126x1024 ![0, 16, 0] ![0, 14, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![16, 0] X2 slices_S31x1024_S1x1024_16_0) shapeCasts_S1x1024_S1024))) (g X0)) (constant S_ .f32 0x00000000#32) pads_S2x4096x1024_S2x4126x1024_000_16140_000 h_S_)) (pad S2x4126x1024 ![0, 15, 0] ![0, 15, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![15, 0] X2 slices_S31x1024_S1x1024_15_0) shapeCasts_S1x1024_S1024))) (g X0)) (constant S_ .f32 0x00000000#32) pads_S2x4096x1024_S2x4126x1024_000_15150_000 h_S_)) (pad S2x4126x1024 ![0, 14, 0] ![0, 16, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![14, 0] X2 slices_S31x1024_S1x1024_14_0) shapeCasts_S1x1024_S1024))) (g X0)) (constant S_ .f32 0x00000000#32) pads_S2x4096x1024_S2x4126x1024_000_14160_000 h_S_)) (pad S2x4126x1024 ![0, 13, 0] ![0, 17, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![13, 0] X2 slices_S31x1024_S1x1024_13_0) shapeCasts_S1x1024_S1024))) (g X0)) (constant S_ .f32 0x00000000#32) pads_S2x4096x1024_S2x4126x1024_000_13170_000 h_S_)) (pad S2x4126x1024 ![0, 12, 0] ![0, 18, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![12, 0] X2 slices_S31x1024_S1x1024_12_0) shapeCasts_S1x1024_S1024))) (g X0)) (constant S_ .f32 0x00000000#32) pads_S2x4096x1024_S2x4126x1024_000_12180_000 h_S_)) (pad S2x4126x1024 ![0, 11, 0] ![0, 19, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![11, 0] X2 slices_S31x1024_S1x1024_11_0) shapeCasts_S1x1024_S1024))) (g X0)) (constant S_ .f32 0x00000000#32) pads_S2x4096x1024_S2x4126x1024_000_11190_000 h_S_)) (pad S2x4126x1024 ![0, 10, 0] ![0, 20, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![10, 0] X2 slices_S31x1024_S1x1024_10_0) shapeCasts_S1x1024_S1024))) (g X0)) (constant S_ .f32 0x00000000#32) pads_S2x4096x1024_S2x4126x1024_000_10200_000 h_S_)) (pad S2x4126x1024 ![0, 9, 0] ![0, 21, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![9, 0] X2 slices_S31x1024_S1x1024_9_0) shapeCasts_S1x1024_S1024))) (g X0)) (constant S_ .f32 0x00000000#32) pads_S2x4096x1024_S2x4126x1024_000_9210_000 h_S_)) (pad S2x4126x1024 ![0, 8, 0] ![0, 22, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![8, 0] X2 slices_S31x1024_S1x1024_8_0) shapeCasts_S1x1024_S1024))) (g X0)) (constant S_ .f32 0x00000000#32) pads_S2x4096x1024_S2x4126x1024_000_8220_000 h_S_)) (pad S2x4126x1024 ![0, 7, 0] ![0, 23, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![7, 0] X2 slices_S31x1024_S1x1024_7_0) shapeCasts_S1x1024_S1024))) (g X0)) (constant S_ .f32 0x00000000#32) pads_S2x4096x1024_S2x4126x1024_000_7230_000 h_S_)) (pad S2x4126x1024 ![0, 6, 0] ![0, 24, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![6, 0] X2 slices_S31x1024_S1x1024_6_0) shapeCasts_S1x1024_S1024))) (g X0)) (constant S_ .f32 0x00000000#32) pads_S2x4096x1024_S2x4126x1024_000_6240_000 h_S_)) (pad S2x4126x1024 ![0, 5, 0] ![0, 25, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![5, 0] X2 slices_S31x1024_S1x1024_5_0) shapeCasts_S1x1024_S1024))) (g X0)) (constant S_ .f32 0x00000000#32) pads_S2x4096x1024_S2x4126x1024_000_5250_000 h_S_)) (pad S2x4126x1024 ![0, 4, 0] ![0, 26, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![4, 0] X2 slices_S31x1024_S1x1024_4_0) shapeCasts_S1x1024_S1024))) (g X0)) (constant S_ .f32 0x00000000#32) pads_S2x4096x1024_S2x4126x1024_000_4260_000 h_S_)) (pad S2x4126x1024 ![0, 3, 0] ![0, 27, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![3, 0] X2 slices_S31x1024_S1x1024_3_0) shapeCasts_S1x1024_S1024))) (g X0)) (constant S_ .f32 0x00000000#32) pads_S2x4096x1024_S2x4126x1024_000_3270_000 h_S_)) (pad S2x4126x1024 ![0, 2, 0] ![0, 28, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![2, 0] X2 slices_S31x1024_S1x1024_2_0) shapeCasts_S1x1024_S1024))) (g X0)) (constant S_ .f32 0x00000000#32) pads_S2x4096x1024_S2x4126x1024_000_2280_000_2 h_S_)) (pad S2x4126x1024 ![0, 1, 0] ![0, 29, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![1, 0] X2 slices_S31x1024_S1x1024_1_0) shapeCasts_S1x1024_S1024))) (g X0)) (constant S_ .f32 0x00000000#32) pads_S2x4096x1024_S2x4126x1024_000_1290_000 h_S_)) (pad S2x4126x1024 ![0, 0, 0] ![0, 30, 0] ![0, 0, 0] (mulf (broadcastInDim S2x4096x1024 ![0, 1, 2] bcast_S1x1x1024_S2x4096x1024_0_1_2 (broadcastInDim S1x1x1024 ![2] bcast_S1024_S1x1x1024_2 (shapeCast S1024 (extractStridedSlice S1x1024 ![0, 0] X2 slices_S31x1024_S1x1024_0_0) shapeCasts_S1x1024_S1024))) (g X0)) (constant S_ .f32 0x00000000#32) pads_S2x4096x1024_S2x4126x1024_000_0300_000 h_S_)

/-- The weights' gradient as the reference computes it. -/
def r1f (X0 X1 : FVec Ideal S2x4096x1024 .f32) : FVec Ideal S31x1024 .f32 :=
  addf (addf (addf (addf (addf (addf (addf (addf (addf (addf (addf (addf (addf (addf (addf (addf (addf (addf (addf (addf (addf (addf (addf (addf (addf (addf (addf (addf (addf (addf (pad S31x1024 ![30, 0] ![0, 0] ![0, 0] (broadcastInDim S1x1024 ![1] bcast_S1024_S1x1024_1 (Host.reduceAdd (shapeCast S1x1x1024 (Host.reduceAdd (mulf (g X0) (extractStridedSlice S2x4096x1024 ![0, 30, 0] (cat X1) slices_S2x4126x1024_S2x4096x1024_0_30_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_3000_000 h_S_) (pad S31x1024 ![29, 0] ![1, 0] ![0, 0] (broadcastInDim S1x1024 ![1] bcast_S1024_S1x1024_1 (Host.reduceAdd (shapeCast S1x1x1024 (Host.reduceAdd (mulf (g X0) (extractStridedSlice S2x4096x1024 ![0, 29, 0] (cat X1) slices_S2x4126x1024_S2x4096x1024_0_29_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2910_000 h_S_)) (pad S31x1024 ![28, 0] ![2, 0] ![0, 0] (broadcastInDim S1x1024 ![1] bcast_S1024_S1x1024_1 (Host.reduceAdd (shapeCast S1x1x1024 (Host.reduceAdd (mulf (g X0) (extractStridedSlice S2x4096x1024 ![0, 28, 0] (cat X1) slices_S2x4126x1024_S2x4096x1024_0_28_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2820_000 h_S_)) (pad S31x1024 ![27, 0] ![3, 0] ![0, 0] (broadcastInDim S1x1024 ![1] bcast_S1024_S1x1024_1 (Host.reduceAdd (shapeCast S1x1x1024 (Host.reduceAdd (mulf (g X0) (extractStridedSlice S2x4096x1024 ![0, 27, 0] (cat X1) slices_S2x4126x1024_S2x4096x1024_0_27_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2730_000 h_S_)) (pad S31x1024 ![26, 0] ![4, 0] ![0, 0] (broadcastInDim S1x1024 ![1] bcast_S1024_S1x1024_1 (Host.reduceAdd (shapeCast S1x1x1024 (Host.reduceAdd (mulf (g X0) (extractStridedSlice S2x4096x1024 ![0, 26, 0] (cat X1) slices_S2x4126x1024_S2x4096x1024_0_26_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2640_000 h_S_)) (pad S31x1024 ![25, 0] ![5, 0] ![0, 0] (broadcastInDim S1x1024 ![1] bcast_S1024_S1x1024_1 (Host.reduceAdd (shapeCast S1x1x1024 (Host.reduceAdd (mulf (g X0) (extractStridedSlice S2x4096x1024 ![0, 25, 0] (cat X1) slices_S2x4126x1024_S2x4096x1024_0_25_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2550_000 h_S_)) (pad S31x1024 ![24, 0] ![6, 0] ![0, 0] (broadcastInDim S1x1024 ![1] bcast_S1024_S1x1024_1 (Host.reduceAdd (shapeCast S1x1x1024 (Host.reduceAdd (mulf (g X0) (extractStridedSlice S2x4096x1024 ![0, 24, 0] (cat X1) slices_S2x4126x1024_S2x4096x1024_0_24_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2460_000 h_S_)) (pad S31x1024 ![23, 0] ![7, 0] ![0, 0] (broadcastInDim S1x1024 ![1] bcast_S1024_S1x1024_1 (Host.reduceAdd (shapeCast S1x1x1024 (Host.reduceAdd (mulf (g X0) (extractStridedSlice S2x4096x1024 ![0, 23, 0] (cat X1) slices_S2x4126x1024_S2x4096x1024_0_23_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2370_000 h_S_)) (pad S31x1024 ![22, 0] ![8, 0] ![0, 0] (broadcastInDim S1x1024 ![1] bcast_S1024_S1x1024_1 (Host.reduceAdd (shapeCast S1x1x1024 (Host.reduceAdd (mulf (g X0) (extractStridedSlice S2x4096x1024 ![0, 22, 0] (cat X1) slices_S2x4126x1024_S2x4096x1024_0_22_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2280_000 h_S_)) (pad S31x1024 ![21, 0] ![9, 0] ![0, 0] (broadcastInDim S1x1024 ![1] bcast_S1024_S1x1024_1 (Host.reduceAdd (shapeCast S1x1x1024 (Host.reduceAdd (mulf (g X0) (extractStridedSlice S2x4096x1024 ![0, 21, 0] (cat X1) slices_S2x4126x1024_S2x4096x1024_0_21_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2190_000 h_S_)) (pad S31x1024 ![20, 0] ![10, 0] ![0, 0] (broadcastInDim S1x1024 ![1] bcast_S1024_S1x1024_1 (Host.reduceAdd (shapeCast S1x1x1024 (Host.reduceAdd (mulf (g X0) (extractStridedSlice S2x4096x1024 ![0, 20, 0] (cat X1) slices_S2x4126x1024_S2x4096x1024_0_20_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_20100_000 h_S_)) (pad S31x1024 ![19, 0] ![11, 0] ![0, 0] (broadcastInDim S1x1024 ![1] bcast_S1024_S1x1024_1 (Host.reduceAdd (shapeCast S1x1x1024 (Host.reduceAdd (mulf (g X0) (extractStridedSlice S2x4096x1024 ![0, 19, 0] (cat X1) slices_S2x4126x1024_S2x4096x1024_0_19_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_19110_000 h_S_)) (pad S31x1024 ![18, 0] ![12, 0] ![0, 0] (broadcastInDim S1x1024 ![1] bcast_S1024_S1x1024_1 (Host.reduceAdd (shapeCast S1x1x1024 (Host.reduceAdd (mulf (g X0) (extractStridedSlice S2x4096x1024 ![0, 18, 0] (cat X1) slices_S2x4126x1024_S2x4096x1024_0_18_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_18120_000 h_S_)) (pad S31x1024 ![17, 0] ![13, 0] ![0, 0] (broadcastInDim S1x1024 ![1] bcast_S1024_S1x1024_1 (Host.reduceAdd (shapeCast S1x1x1024 (Host.reduceAdd (mulf (g X0) (extractStridedSlice S2x4096x1024 ![0, 17, 0] (cat X1) slices_S2x4126x1024_S2x4096x1024_0_17_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_17130_000 h_S_)) (pad S31x1024 ![16, 0] ![14, 0] ![0, 0] (broadcastInDim S1x1024 ![1] bcast_S1024_S1x1024_1 (Host.reduceAdd (shapeCast S1x1x1024 (Host.reduceAdd (mulf (g X0) (extractStridedSlice S2x4096x1024 ![0, 16, 0] (cat X1) slices_S2x4126x1024_S2x4096x1024_0_16_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_16140_000 h_S_)) (pad S31x1024 ![15, 0] ![15, 0] ![0, 0] (broadcastInDim S1x1024 ![1] bcast_S1024_S1x1024_1 (Host.reduceAdd (shapeCast S1x1x1024 (Host.reduceAdd (mulf (g X0) (extractStridedSlice S2x4096x1024 ![0, 15, 0] (cat X1) slices_S2x4126x1024_S2x4096x1024_0_15_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_15150_000 h_S_)) (pad S31x1024 ![14, 0] ![16, 0] ![0, 0] (broadcastInDim S1x1024 ![1] bcast_S1024_S1x1024_1 (Host.reduceAdd (shapeCast S1x1x1024 (Host.reduceAdd (mulf (g X0) (extractStridedSlice S2x4096x1024 ![0, 14, 0] (cat X1) slices_S2x4126x1024_S2x4096x1024_0_14_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_14160_000 h_S_)) (pad S31x1024 ![13, 0] ![17, 0] ![0, 0] (broadcastInDim S1x1024 ![1] bcast_S1024_S1x1024_1 (Host.reduceAdd (shapeCast S1x1x1024 (Host.reduceAdd (mulf (g X0) (extractStridedSlice S2x4096x1024 ![0, 13, 0] (cat X1) slices_S2x4126x1024_S2x4096x1024_0_13_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_13170_000 h_S_)) (pad S31x1024 ![12, 0] ![18, 0] ![0, 0] (broadcastInDim S1x1024 ![1] bcast_S1024_S1x1024_1 (Host.reduceAdd (shapeCast S1x1x1024 (Host.reduceAdd (mulf (g X0) (extractStridedSlice S2x4096x1024 ![0, 12, 0] (cat X1) slices_S2x4126x1024_S2x4096x1024_0_12_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_12180_000 h_S_)) (pad S31x1024 ![11, 0] ![19, 0] ![0, 0] (broadcastInDim S1x1024 ![1] bcast_S1024_S1x1024_1 (Host.reduceAdd (shapeCast S1x1x1024 (Host.reduceAdd (mulf (g X0) (extractStridedSlice S2x4096x1024 ![0, 11, 0] (cat X1) slices_S2x4126x1024_S2x4096x1024_0_11_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_11190_000 h_S_)) (pad S31x1024 ![10, 0] ![20, 0] ![0, 0] (broadcastInDim S1x1024 ![1] bcast_S1024_S1x1024_1 (Host.reduceAdd (shapeCast S1x1x1024 (Host.reduceAdd (mulf (g X0) (extractStridedSlice S2x4096x1024 ![0, 10, 0] (cat X1) slices_S2x4126x1024_S2x4096x1024_0_10_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_10200_000 h_S_)) (pad S31x1024 ![9, 0] ![21, 0] ![0, 0] (broadcastInDim S1x1024 ![1] bcast_S1024_S1x1024_1 (Host.reduceAdd (shapeCast S1x1x1024 (Host.reduceAdd (mulf (g X0) (extractStridedSlice S2x4096x1024 ![0, 9, 0] (cat X1) slices_S2x4126x1024_S2x4096x1024_0_9_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_9210_000 h_S_)) (pad S31x1024 ![8, 0] ![22, 0] ![0, 0] (broadcastInDim S1x1024 ![1] bcast_S1024_S1x1024_1 (Host.reduceAdd (shapeCast S1x1x1024 (Host.reduceAdd (mulf (g X0) (extractStridedSlice S2x4096x1024 ![0, 8, 0] (cat X1) slices_S2x4126x1024_S2x4096x1024_0_8_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_8220_000 h_S_)) (pad S31x1024 ![7, 0] ![23, 0] ![0, 0] (broadcastInDim S1x1024 ![1] bcast_S1024_S1x1024_1 (Host.reduceAdd (shapeCast S1x1x1024 (Host.reduceAdd (mulf (g X0) (extractStridedSlice S2x4096x1024 ![0, 7, 0] (cat X1) slices_S2x4126x1024_S2x4096x1024_0_7_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_7230_000 h_S_)) (pad S31x1024 ![6, 0] ![24, 0] ![0, 0] (broadcastInDim S1x1024 ![1] bcast_S1024_S1x1024_1 (Host.reduceAdd (shapeCast S1x1x1024 (Host.reduceAdd (mulf (g X0) (extractStridedSlice S2x4096x1024 ![0, 6, 0] (cat X1) slices_S2x4126x1024_S2x4096x1024_0_6_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_6240_000 h_S_)) (pad S31x1024 ![5, 0] ![25, 0] ![0, 0] (broadcastInDim S1x1024 ![1] bcast_S1024_S1x1024_1 (Host.reduceAdd (shapeCast S1x1x1024 (Host.reduceAdd (mulf (g X0) (extractStridedSlice S2x4096x1024 ![0, 5, 0] (cat X1) slices_S2x4126x1024_S2x4096x1024_0_5_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_5250_000 h_S_)) (pad S31x1024 ![4, 0] ![26, 0] ![0, 0] (broadcastInDim S1x1024 ![1] bcast_S1024_S1x1024_1 (Host.reduceAdd (shapeCast S1x1x1024 (Host.reduceAdd (mulf (g X0) (extractStridedSlice S2x4096x1024 ![0, 4, 0] (cat X1) slices_S2x4126x1024_S2x4096x1024_0_4_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_4260_000 h_S_)) (pad S31x1024 ![3, 0] ![27, 0] ![0, 0] (broadcastInDim S1x1024 ![1] bcast_S1024_S1x1024_1 (Host.reduceAdd (shapeCast S1x1x1024 (Host.reduceAdd (mulf (g X0) (extractStridedSlice S2x4096x1024 ![0, 3, 0] (cat X1) slices_S2x4126x1024_S2x4096x1024_0_3_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_3270_000 h_S_)) (pad S31x1024 ![2, 0] ![28, 0] ![0, 0] (broadcastInDim S1x1024 ![1] bcast_S1024_S1x1024_1 (Host.reduceAdd (shapeCast S1x1x1024 (Host.reduceAdd (mulf (g X0) (extractStridedSlice S2x4096x1024 ![0, 2, 0] (cat X1) slices_S2x4126x1024_S2x4096x1024_0_2_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_2280_000_2 h_S_)) (pad S31x1024 ![1, 0] ![29, 0] ![0, 0] (broadcastInDim S1x1024 ![1] bcast_S1024_S1x1024_1 (Host.reduceAdd (shapeCast S1x1x1024 (Host.reduceAdd (mulf (g X0) (extractStridedSlice S2x4096x1024 ![0, 1, 0] (cat X1) slices_S2x4126x1024_S2x4096x1024_0_1_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_1290_000 h_S_)) (pad S31x1024 ![0, 0] ![30, 0] ![0, 0] (broadcastInDim S1x1024 ![1] bcast_S1024_S1x1024_1 (Host.reduceAdd (shapeCast S1x1x1024 (Host.reduceAdd (mulf (g X0) (extractStridedSlice S2x4096x1024 ![0, 0, 0] (cat X1) slices_S2x4126x1024_S2x4096x1024_0_0_0)) (constant S_ .f32 0x00000000#32) reducesTo_S2x4096x1024_S1024_d0_1 h_S_) shapeCasts_S1024_S1x1x1024) (constant S_ .f32 0x00000000#32) reducesTo_S1x1x1024_S1024_d0_1 h_S_)) (constant S_ .f32 0x00000000#32) pads_S1x1024_S31x1024_0300_000 h_S_)

/-- The delayed sequence, at a position. -/
theorem cat_at (X1 : FVec Ideal S2x4096x1024 .f32) (a : Fin 2) (q : Fin 4126) (l : Fin 1024) :
    cat X1 (ix3 a q l) = Cert.Cv.late X1 a l q := by
  pointwise [cat, Cert.Cv.late]
  by_cases h : (q : ℕ) < 30
  · rw [dif_pos h, dif_neg (by omega)]
  · rw [dif_neg h, dif_pos (by omega)]

theorem g_eq (X0 : FVec Ideal S2x4096x1024 .f32) : g X0 = X0 := by
  funext i; idx_vars i
  pointwise [g]

/-- The cotangent times a slice of the delayed sequence. -/
theorem tap_at (k : ℕ) (X0 X1 : FVec Ideal S2x4096x1024 .f32) (h : S2x4126x1024.Slices (![0, k, 0] : Fin 3 → ℕ) S2x4096x1024)
    (a : Fin 2) (p : Fin 4096) (l : Fin 1024) :
    mulf X0 (extractStridedSlice S2x4096x1024 ![0, k, 0] (cat X1) h) (ix3 a p l) = Cert.Cv.tap X0 X1 k l a p := by
  unfold Cert.Cv.tap
  pointwise
  rw [cat_at]
  exact congrArg (fun q => X0 (ix3 a p l) * Cert.Cv.late X1 a l q) (Nat.add_comm k p)

/-- A sum over the thirty-one positions, written out from the last. -/
theorem sum31_down (f : Fin 31 → EReal) : f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 = ∑ k : Fin 31, f k := by
  rw [Cert.Cv.sum31]
  abel

/-- A row padded to a matrix: the row at its place, zero elsewhere. -/
theorem pad_row (o hi : ℕ) (x : FVec Ideal S1x1024 .f32) (h : S1x1024.Pads (![o, 0] : Fin 2 → ℕ) ![hi, 0] ![0, 0] S31x1024)
    (k : Fin 31) (l : Fin 1024) :
    pad S31x1024 ![o, 0] ![hi, 0] ![0, 0] x (constant (F := Ideal) S_ .f32 0x00000000#32) h h_S_ (ix2 k l)
      = if k.val = o then x (ix2 0 l) else 0 := by
  by_cases hk : k.val = o
  · rw [if_pos hk]
    refine pad_apply_of_inside _ _ _ x _ h h_S_ (ix2 k l) (ix2 0 l) fun a => ?_
    match a with
    | ⟨0, _⟩ => show k.val = o + 0 * (0 + 1); omega
    | ⟨1, _⟩ => show l.val = 0 + l.val * (0 + 1); omega
  · rw [if_neg hk]
    refine (pad_apply_of_not_inside _ _ _ x _ h h_S_ (ix2 k l) 0 ?_).trans (by pointwise)
    show ¬(o ≤ k.val ∧ (k.val - o) % (0 + 1) = 0 ∧ (k.val - o) / (0 + 1) < 1)
    omega

/-- The sequence padded with `o` zero rows in front, at row `q`. -/
def back (x : FVec Ideal S2x4096x1024 .f32) (a : Fin 2) (l : Fin 1024) (q o : ℕ) : EReal :=
  if h : o ≤ q ∧ q - o < 4096 then x (ix3 a ⟨q - o, h.2⟩ l) else 0

theorem back_ahead (x : FVec Ideal S2x4096x1024 .f32) (a : Fin 2) (l : Fin 1024) (p o : ℕ) (ho : o ≤ 30) :
    back x a l (30 + p) o = Cert.Cv.ahead x a l (p + (30 - o)) := by
  unfold back Cert.Cv.ahead
  by_cases hk : p + (30 - o) < 4096
  · rw [dif_pos hk, dif_pos (by omega)]
    exact congrArg x (congrArg (fun q => ix3 a q l) (Fin.ext (show 30 + p - o = p + (30 - o) by omega)))
  · rw [dif_neg hk, dif_neg (by omega)]

/-- A weighted sequence padded in front and behind. -/
theorem pad_term (o hi : ℕ) (w : FVec Ideal S1x1x1024 .f32) (x : FVec Ideal S2x4096x1024 .f32)
    (h : S2x4096x1024.Pads (![0, o, 0] : Fin 3 → ℕ) ![0, hi, 0] ![0, 0, 0] S2x4126x1024) (a : Fin 2) (q : Fin 4126) (l : Fin 1024) :
    pad S2x4126x1024 ![0, o, 0] ![0, hi, 0] ![0, 0, 0] (mulf (broadcastInDim S2x4096x1024 ![0, 1, 2] bcast_S1x1x1024_S2x4096x1024_0_1_2 w) x)
      (constant (F := Ideal) S_ .f32 0x00000000#32) h h_S_ (ix3 a q l)
      = w (ix3 0 0 l) * back x a l q o := by
  unfold back
  by_cases hk : o ≤ q.val ∧ q.val - o < 4096
  · rw [dif_pos hk]
    refine (pad_apply_of_inside _ _ _ _ _ h h_S_ _ (ix3 a (⟨q.val - o, hk.2⟩ : Fin 4096) l) fun b => ?_).trans (by pointwise)
    match b with
    | ⟨0, _⟩ => show a.val = 0 + a.val * (0 + 1); omega
    | ⟨1, _⟩ => show q.val = o + (q.val - o) * (0 + 1); omega
    | ⟨2, _⟩ => show l.val = 0 + l.val * (0 + 1); omega
  · rw [dif_neg hk, mul_zero]
    refine (pad_apply_of_not_inside _ _ _ _ _ h h_S_ _ 1 ?_).trans (by pointwise)
    show ¬(o ≤ q.val ∧ (q.val - o) % (0 + 1) = 0 ∧ (q.val - o) / (0 + 1) < 4096)
    omega

theorem drop2 (v : (⟨3, ![2, 4096, 1024]⟩ : Shape).Idx → EReal) (l : Fin 1024) :
    Ideal.hostReduceAdd reducesTo_S2x4096x1024_S1024_d0_1 v 0 (ix1 l) = ∑ a : Fin 2, ∑ b : Fin 4096, v (ix3 a b l) := by
  unfold Ideal.hostReduceAdd
  rw [zero_add, Finset.sum_filter_eq_sum_of_fiber _ (fun k : Fin 2 × Fin 4096 => ix3 k.1 k.2 l)
    (fun _ _ e => Prod.ext (congrFun e 0) (congrFun e 1)) ?_ v]
  · simp only [Fintype.sum_prod_type]
  · intro i
    constructor
    · intro e
      refine ⟨(i 0, i 1), ?_⟩
      have e0 := congrArg Fin.val (congrFun e 0)
      funext q
      match q with
      | ⟨0, _⟩ => rfl
      | ⟨1, _⟩ => rfl
      | ⟨2, _⟩ => exact Fin.ext e0.symm
    · rintro ⟨k, rfl⟩
      funext q; match q with | ⟨0, _⟩ => rfl

theorem drop1 (v : (⟨3, ![1, 1, 1024]⟩ : Shape).Idx → EReal) (l : Fin 1024) :
    Ideal.hostReduceAdd reducesTo_S1x1x1024_S1024_d0_1 v 0 (ix1 l) = v (ix3 0 0 l) := by
  unfold Ideal.hostReduceAdd
  rw [zero_add, Finset.sum_filter_eq_sum_of_fiber _ (fun k : Unit => ix3 0 0 l)
    (fun _ _ e => rfl) ?_ v]
  · simp only [Finset.univ_unique, Finset.sum_singleton]
  · intro i
    constructor
    · intro e
      refine ⟨(), ?_⟩
      have e0 := congrArg Fin.val (congrFun e 0)
      funext q
      match q with
      | ⟨0, _⟩ => exact Subsingleton.elim (α := Fin 1) _ _
      | ⟨1, _⟩ => exact Subsingleton.elim (α := Fin 1) _ _
      | ⟨2, _⟩ => exact Fin.ext e0.symm
    · rintro ⟨k, rfl⟩
      funext q; match q with | ⟨0, _⟩ => rfl

/-- The sum of a product over batch and positions, as the gradient of a broadcast row takes it. -/
theorem rowSum (v : FVec Ideal S2x4096x1024 .f32) (l : Fin 1024) :
    broadcastInDim S1x1024 ![1] bcast_S1024_S1x1024_1 (Host.reduceAdd (shapeCast S1x1x1024 (Host.reduceAdd v
      (constant S_ .f32 0x00000000#32) reducesTo_S2x4096x1024_S1024_d0_1 h_S_) shapeCasts_S1024_S1x1x1024)
      (constant S_ .f32 0x00000000#32) reducesTo_S1x1x1024_S1024_d0_1 h_S_) (ix2 0 l) = ∑ a : Fin 2, ∑ p : Fin 4096, v (ix3 a p l) := by
  pointwise
  rw [drop1]
  pointwise
  rw [drop2]

/-- One position's term of the input's gradient. -/
def dTerm (X0 : FVec Ideal S2x4096x1024 .f32) (X2 : FVec Ideal S31x1024 .f32) (a : Fin 2) (p : Fin 4096) (l : Fin 1024) (k : Fin 31) : EReal :=
  X2 (ix2 k l) * Cert.Cv.ahead X0 a l (p + (30 - k))

/-- One position's share of a row of the weights' gradient. -/
def wTerm (X0 X1 : FVec Ideal S2x4096x1024 .f32) (l : Fin 1024) (k j : Fin 31) : EReal :=
  if k.val = j.val then ∑ a : Fin 2, ∑ p : Fin 4096, Cert.Cv.tap X0 X1 j l a p else 0

theorem wTerm_sum (X0 X1 : FVec Ideal S2x4096x1024 .f32) (l : Fin 1024) (k : Fin 31) :
    ∑ j : Fin 31, wTerm X0 X1 l k j = ∑ a : Fin 2, ∑ p : Fin 4096, Cert.Cv.tap X0 X1 k l a p := by
  unfold wTerm
  refine (Finset.sum_congr rfl fun j _ => if_congr Fin.ext_iff.symm rfl rfl).trans ?_
  rw [Finset.sum_ite_eq, if_pos (Finset.mem_univ k)]

/-- The weighted cotangent of one offset, padded, at a position behind the first thirty. -/
theorem seq_term (o hi : ℕ) (ho : o < 31) (X0 : FVec Ideal S2x4096x1024 .f32) (X2 : FVec Ideal S31x1024 .f32)
    (hs : S31x1024.Slices (![o, 0] : Fin 2 → ℕ) S1x1024)
    (h : S2x4096x1024.Pads (![0, o, 0] : Fin 3 → ℕ) ![0, hi, 0] ![0, 0, 0] S2x4126x1024) (a : Fin 2) (p : Fin 4096) (l : Fin 1024) :
    pad S2x4126x1024 ![0, o, 0] ![0, hi, 0] ![0, 0, 0] (mulf (broadcastInDim S2x4096x1024 ![0, 1, 2] bcast_S1x1x1024_S2x4096x1024_0_1_2
      (broadcastInDim S1x1x1024 ![2] bcast_S1024_S1x1x1024_2 (shapeCast S1024 (extractStridedSlice S1x1024 ![o, 0] X2 hs) shapeCasts_S1x1024_S1024))) X0)
      (constant (F := Ideal) S_ .f32 0x00000000#32) h h_S_ (ix3 a (⟨30 + p, by omega⟩ : Fin 4126) l)
      = dTerm X0 X2 a p l ⟨o, ho⟩ := by
  rw [pad_term]
  refine congrArg₂ (fun x y : EReal => x * y) ?_ (back_ahead X0 a l p o (by omega))
  pointwise

/-- The first result: the gradient of the input. -/
theorem r0_at (X0 : FVec Ideal S2x4096x1024 .f32) (X2 : FVec Ideal S31x1024 .f32) (a : Fin 2) (p : Fin 4096) (l : Fin 1024) :
    extractStridedSlice S2x4096x1024 ![0, 30, 0] (r0f X0 X2) slices_S2x4126x1024_S2x4096x1024_0_30_0 (ix3 a p l)
      = Cert.Cv.dIn X0 X2 (ix3 a p l) := by
  refine Eq.trans (b := r0f X0 X2 (ix3 a (⟨30 + p, by omega⟩ : Fin 4126) l)) (by pointwise) ?_
  unfold r0f
  simp only [addf_apply, g_eq]
  exact (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (seq_term 30 0 (by decide) X0 X2 _ _ a p l)
    (seq_term 29 1 (by decide) X0 X2 _ _ a p l))
    (seq_term 28 2 (by decide) X0 X2 _ _ a p l))
    (seq_term 27 3 (by decide) X0 X2 _ _ a p l))
    (seq_term 26 4 (by decide) X0 X2 _ _ a p l))
    (seq_term 25 5 (by decide) X0 X2 _ _ a p l))
    (seq_term 24 6 (by decide) X0 X2 _ _ a p l))
    (seq_term 23 7 (by decide) X0 X2 _ _ a p l))
    (seq_term 22 8 (by decide) X0 X2 _ _ a p l))
    (seq_term 21 9 (by decide) X0 X2 _ _ a p l))
    (seq_term 20 10 (by decide) X0 X2 _ _ a p l))
    (seq_term 19 11 (by decide) X0 X2 _ _ a p l))
    (seq_term 18 12 (by decide) X0 X2 _ _ a p l))
    (seq_term 17 13 (by decide) X0 X2 _ _ a p l))
    (seq_term 16 14 (by decide) X0 X2 _ _ a p l))
    (seq_term 15 15 (by decide) X0 X2 _ _ a p l))
    (seq_term 14 16 (by decide) X0 X2 _ _ a p l))
    (seq_term 13 17 (by decide) X0 X2 _ _ a p l))
    (seq_term 12 18 (by decide) X0 X2 _ _ a p l))
    (seq_term 11 19 (by decide) X0 X2 _ _ a p l))
    (seq_term 10 20 (by decide) X0 X2 _ _ a p l))
    (seq_term 9 21 (by decide) X0 X2 _ _ a p l))
    (seq_term 8 22 (by decide) X0 X2 _ _ a p l))
    (seq_term 7 23 (by decide) X0 X2 _ _ a p l))
    (seq_term 6 24 (by decide) X0 X2 _ _ a p l))
    (seq_term 5 25 (by decide) X0 X2 _ _ a p l))
    (seq_term 4 26 (by decide) X0 X2 _ _ a p l))
    (seq_term 3 27 (by decide) X0 X2 _ _ a p l))
    (seq_term 2 28 (by decide) X0 X2 _ _ a p l))
    (seq_term 1 29 (by decide) X0 X2 _ _ a p l))
    (seq_term 0 30 (by decide) X0 X2 _ _ a p l)).trans
    (sum31_down (dTerm X0 X2 a p l))

/-- The padded row of one offset, at a position. -/
theorem row_term (o hi : ℕ) (X0 X1 : FVec Ideal S2x4096x1024 .f32) (hs : S2x4126x1024.Slices (![0, o, 0] : Fin 3 → ℕ) S2x4096x1024)
    (h : S1x1024.Pads (![o, 0] : Fin 2 → ℕ) ![hi, 0] ![0, 0] S31x1024) (k : Fin 31) (l : Fin 1024) :
    pad S31x1024 ![o, 0] ![hi, 0] ![0, 0] (broadcastInDim S1x1024 ![1] bcast_S1024_S1x1024_1 (Host.reduceAdd (shapeCast S1x1x1024
      (Host.reduceAdd (mulf X0 (extractStridedSlice S2x4096x1024 ![0, o, 0] (cat X1) hs))
      (constant S_ .f32 0x00000000#32) reducesTo_S2x4096x1024_S1024_d0_1 h_S_) shapeCasts_S1024_S1x1x1024)
      (constant S_ .f32 0x00000000#32) reducesTo_S1x1x1024_S1024_d0_1 h_S_)) (constant (F := Ideal) S_ .f32 0x00000000#32) h h_S_ (ix2 k l)
      = if k.val = o then ∑ a : Fin 2, ∑ p : Fin 4096, Cert.Cv.tap X0 X1 o l a p else 0 := by
  rw [pad_row, rowSum]
  simp only [tap_at]

/-- The sums over the rows, before the zero row. -/
theorem r1_at (X0 X1 : FVec Ideal S2x4096x1024 .f32) (k : Fin 31) (l : Fin 1024) :
    r1f X0 X1 (ix2 k l) = ∑ a : Fin 2, ∑ p : Fin 4096, Cert.Cv.tap X0 X1 k l a p := by
  unfold r1f
  simp only [addf_apply, g_eq]
  exact (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (row_term 30 0 X0 X1 _ _ k l)
    (row_term 29 1 X0 X1 _ _ k l))
    (row_term 28 2 X0 X1 _ _ k l))
    (row_term 27 3 X0 X1 _ _ k l))
    (row_term 26 4 X0 X1 _ _ k l))
    (row_term 25 5 X0 X1 _ _ k l))
    (row_term 24 6 X0 X1 _ _ k l))
    (row_term 23 7 X0 X1 _ _ k l))
    (row_term 22 8 X0 X1 _ _ k l))
    (row_term 21 9 X0 X1 _ _ k l))
    (row_term 20 10 X0 X1 _ _ k l))
    (row_term 19 11 X0 X1 _ _ k l))
    (row_term 18 12 X0 X1 _ _ k l))
    (row_term 17 13 X0 X1 _ _ k l))
    (row_term 16 14 X0 X1 _ _ k l))
    (row_term 15 15 X0 X1 _ _ k l))
    (row_term 14 16 X0 X1 _ _ k l))
    (row_term 13 17 X0 X1 _ _ k l))
    (row_term 12 18 X0 X1 _ _ k l))
    (row_term 11 19 X0 X1 _ _ k l))
    (row_term 10 20 X0 X1 _ _ k l))
    (row_term 9 21 X0 X1 _ _ k l))
    (row_term 8 22 X0 X1 _ _ k l))
    (row_term 7 23 X0 X1 _ _ k l))
    (row_term 6 24 X0 X1 _ _ k l))
    (row_term 5 25 X0 X1 _ _ k l))
    (row_term 4 26 X0 X1 _ _ k l))
    (row_term 3 27 X0 X1 _ _ k l))
    (row_term 2 28 X0 X1 _ _ k l))
    (row_term 1 29 X0 X1 _ _ k l))
    (row_term 0 30 X0 X1 _ _ k l)).trans
    ((sum31_down (wTerm X0 X1 l k)).trans (wTerm_sum _ _ l k))

theorem r1_eq (X0 X1 : FVec Ideal S2x4096x1024 .f32) :
    pad S32x1024 ![0, 0] ![1, 0] ![0, 0] (r1f X0 X1) (sitofp .f32 (constantI S_ 32 0#32)) pads_S31x1024_S32x1024_010_000 h_S_
      = Cert.Cv.dW X0 X1 := by
  funext i; idx_vars i
  unfold Cert.Cv.dW
  by_cases h : i0.val < 31
  · pointwise
    rw [dif_pos h, r1_at]
    exact (if_pos h).symm
  · pointwise
    rw [dif_neg h]
    refine Eq.trans ?_ (if_neg h).symm
    exact sitofp_zero

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v563) = Cert.Cv.dIn (m ((c.tc : Thread nD τ).loc main_arg0)) (m ((c.tc : Thread nD τ).loc main_arg2))
      ∧ r.2.mem ((c.tc : Thread nD τ).loc main_v564) = Cert.Cv.dW (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · exact (show _ = extractStridedSlice S2x4096x1024 ![0, 30, 0] (r0f (m ((c.tc : Thread nD τ).loc main_arg0)) (m ((c.tc : Thread nD τ).loc main_arg2)))
      slices_S2x4126x1024_S2x4096x1024_0_30_0 from rfl).trans (funext fun i => by
        idx_vars i
        exact r0_at _ _ i0 i1 i2)
  · exact (show _ = pad S32x1024 ![0, 0] ![1, 0] ![0, 0] (r1f (m ((c.tc : Thread nD τ).loc main_arg0)) (m ((c.tc : Thread nD τ).loc main_arg1))) (sitofp .f32 (constantI S_ 32 0#32))
      pads_S31x1024_S32x1024_010_000 h_S_ from rfl).trans (r1_eq _ _)

end Cert.ConvRefIdeal.Val

end
-- ==== Proof.ConvVal.lean ====
module

public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal.Skeleton
public import proofs.«01_k».proof.Proof.Gen.ConvIdeal.Frame
public import proofs.«01_k».proof.Proof.Gen.ConvIdeal.Value
public import Idealize.ShloMosaic.Lib.Pipeline.ValueKit
public import Idealize.ShloMosaic.Lib.Pipeline.ReadBack
public import Idealize.ShloMosaic.Lib.WordCmp
public import proofs.«01_k».proof.Proof.ConvSpec

@[expose] public section

set_option maxRecDepth 16384

noncomputable section

namespace Cert.ConvIdeal.Val

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val / 16 % 2, t.val % 16, t.val / 32] ∧ win0_1.index t = ![t.val / 16 % 2, min (t.val % 16 + 1) 15, t.val / 32]
    ∧ win0_2.index t = ![t.val / 16 % 2, t.val % 16, t.val / 32] ∧ win0_3.index t = ![t.val / 16 % 2, t.val % 16 - 1, t.val / 32]
    ∧ win0_4.index t = ![0, t.val / 32] ∧ win0_5.index t = ![t.val / 16 % 2, t.val % 16, t.val / 32] ∧ win0_6.index t = ![0, t.val / 32]
    ∧ ((grid0.coords t) 2).val = t.val % 16 :=
  (by decide +kernel : ∀ t : Fin grid0.N, _)

/-- The batch a point works on. -/
def bOf (n : ℕ) : Fin 2 := ⟨n / 16 % 2, by omega⟩
/-- The row at row `r` of a point's block. -/
def pOf (n : ℕ) (r : Fin 256) : Fin 4096 := ⟨n % 16 * 256 + r, by omega⟩
/-- The lane at lane `l` of a point's block. -/
def lOf (t : Fin cfg0.N) (l : Fin 128) : Fin 1024 := ⟨t.val / 32 * 128 + l, by have : t.val < 256 := t.isLt; omega⟩

theorem b0 (c : Dev nD) (t : Fin cfg0.N) (r : Fin 256) (l : Fin 128) :
    iblk m c 0 t (ix3 0 r l) = m ((c : Thread nD τ).loc main_arg0) (ix3 (bOf t) (pOf t r) (lOf t l)) := by
  unfold bOf pOf lOf
  blk_point [iblk, V, idx t]

theorem b1 (c : Dev nD) (t : Fin cfg0.N) (r : Fin 256) (l : Fin 128) :
    iblk m c 1 t (ix3 0 r l) = m ((c : Thread nD τ).loc main_arg0) (ix3 (bOf t) ⟨min (t.val % 16 + 1) 15 * 256 + r, by omega⟩ (lOf t l)) := by
  unfold bOf lOf
  blk_point [iblk, V, idx t]

theorem b2 (c : Dev nD) (t : Fin cfg0.N) (r : Fin 256) (l : Fin 128) :
    iblk m c 2 t (ix3 0 r l) = m ((c : Thread nD τ).loc main_arg1) (ix3 (bOf t) (pOf t r) (lOf t l)) := by
  unfold bOf pOf lOf
  blk_point [iblk, V, idx t]

theorem b3 (c : Dev nD) (t : Fin cfg0.N) (r : Fin 256) (l : Fin 128) :
    iblk m c 3 t (ix3 0 r l) = m ((c : Thread nD τ).loc main_arg1) (ix3 (bOf t) ⟨(t.val % 16 - 1) * 256 + r, by omega⟩ (lOf t l)) := by
  unfold bOf lOf
  blk_point [iblk, V, idx t]

/-- The weights under one zero row, as the kernel takes them. -/
def padded (x : FVec Ideal S31x1024 .f32) : FVec Ideal S32x1024 .f32 :=
  pad S32x1024 ![0, 0] ![1, 0] ![0, 0] x (sitofp .f32 (constantI S_ 32 0#32)) pads_S31x1024_S32x1024_010_000 h_S_

theorem V_v0 (c : Dev nD) : V m c main_v0 = padded (m ((c : Thread nD τ).loc main_arg2)) := by
  unfold V
  simp only [hostOps0, hostOps0_1, List.flatten_cons, List.flatten_nil, List.append_nil, List.cons_append, List.nil_append]
  after_results_simp
  rfl

/-- An entry of the padded weights above the zero row. -/
theorem padded_at (x : FVec Ideal S31x1024 .f32) (k : Fin 31) (l : Fin 1024) :
    padded x (ix2 (⟨k, by omega⟩ : Fin 32) l) = x (ix2 k l) := by
  pointwise [padded]

theorem e4 (t : Fin cfg0.N) (k : Fin 31) (l : Fin 128) :
    (win0_4.blk t).view.emb (ix2 (⟨k, by omega⟩ : Fin 32) l) = ix2 (⟨k, by omega⟩ : Fin 32) (lOf t l) := by
  unfold lOf
  blk_ext [idx t]

theorem b4 (c : Dev nD) (t : Fin cfg0.N) (k : Fin 31) (l : Fin 128) :
    iblk m c 4 t (ix2 (⟨k, by omega⟩ : Fin 32) l) = m ((c : Thread nD τ).loc main_arg2) (ix2 k (lOf t l)) := by
  blk_simp [iblk]
  rw [V_v0, e4, padded_at]

theorem e5 (t : Fin cfg0.N) (y : S1x256x128.Idx) :
    (win0_5.blk t).view.emb y = ix3 (bOf t) (pOf t (y 1)) (lOf t (y 2)) := by
  unfold bOf pOf lOf
  blk_ext [idx t]

theorem e6 (t : Fin cfg0.N) (y : S32x128.Idx) : (win0_6.blk t).view.emb y = ix2 (y 0 : Fin 32) (lOf t (y 1)) := by
  unfold lOf
  blk_ext [idx t]

/-- The cotangent's buffer: the block over the first rows of the block after, zero behind the last. -/
def gAt (z0 z1 : FVec Ideal S1x256x128 .f32) (n q : ℕ) (l : Fin 128) : EReal :=
  if q < 256 then z0 (ix3 0 ⟨q % 256, Nat.mod_lt _ (by decide)⟩ l)
  else if n < 15 then z1 (ix3 0 ⟨q % 256, Nat.mod_lt _ (by decide)⟩ l) else 0

/-- The input's buffer: the last rows of the block before, zero at the first, over the block. -/
def yAt (z0 z1 : FVec Ideal S1x256x128 .f32) (n q : ℕ) (l : Fin 128) : EReal :=
  if 32 ≤ q then z0 (ix3 0 ⟨(q - 32) % 256, Nat.mod_lt _ (by decide)⟩ l)
  else if 0 < n then z1 (ix3 0 ⟨(224 + q) % 256, Nat.mod_lt _ (by decide)⟩ l) else 0

theorem g_cur (z0 z1 : FVec Ideal S1x256x128 .f32) (n : ℕ) (r : Fin 256) (l : Fin 128) :
    k0_pay6 (F := Ideal) z0 (ix2 r l) = gAt z0 z1 n (0 + r) l := by
  open_payloads; pointwise [gAt]
  exact congrArg z0 (congrArg (fun q => ix3 0 q l) (Fin.ext (show r.val = r.val % 256 by omega)))

theorem g_next (i : grid0.Coords) (n : ℕ) (hn : (i 2).val = n) (z0 z1 : FVec Ideal S1x256x128 .f32) (r : Fin 32) (l : Fin 128) :
    k0_pay7 (F := Ideal) i (View.ld z1 (Rect.unit (s := S1x256x128) ![0, 0, 0] S1x32x128.size inb_S1x256x128_S1x32x128_0_0_0)) (ix2 r l) = gAt z0 z1 n (256 + r) l := by
  have hb : n < 16 := by rw [← hn]; exact (i 2).isLt
  subst hn
  open_payloads; pointwise [gAt]
  rw [show Scalar.cmpi CmpIPredicate.slt (BitVec.ofNat 32 (i 2).val) 15#32 = BitVec.ofBool (decide ((i 2).val < 15)) from
    WordCmp.cmpi_slt_ofNat (w := 32) (by omega) (by decide)]
  by_cases h : (i 2).val < 15
  · rw [if_pos h, decide_eq_true h]
    exact congrArg z1 (congrArg (fun q => ix3 0 q l) (Fin.ext (show r.val = (256 + r.val) % 256 by omega)))
  · rw [if_neg h, decide_eq_false h]; rfl

theorem y_prev (i : grid0.Coords) (n : ℕ) (hn : (i 2).val = n) (z0 z1 : FVec Ideal S1x256x128 .f32) (r : Fin 32) (l : Fin 128) :
    k0_pay8 (F := Ideal) i (View.ld z1 (Rect.unit (s := S1x256x128) ![0, 224, 0] S1x32x128.size inb_S1x256x128_S1x32x128_0_224_0)) (ix2 r l) = yAt z0 z1 n (0 + r) l := by
  have hb : n < 16 := by rw [← hn]; exact (i 2).isLt
  subst hn
  open_payloads; pointwise [yAt]
  rw [show Scalar.cmpi CmpIPredicate.sgt (BitVec.ofNat 32 (i 2).val) 0#32 = BitVec.ofBool (decide (0 < (i 2).val)) from
    WordCmp.cmpi_sgt_ofNat (w := 32) (by omega) (by decide)]
  by_cases h : 0 < (i 2).val
  · rw [if_pos h, decide_eq_true h]
    exact congrArg z1 (congrArg (fun q => ix3 0 q l) (Fin.ext (show 224 + r.val = (224 + r.val) % 256 by omega)))
  · rw [if_neg h, decide_eq_false h]; rfl

theorem y_cur (z0 z1 : FVec Ideal S1x256x128 .f32) (n : ℕ) (r : Fin 256) (l : Fin 128) :
    k0_pay10 (F := Ideal) (k0_pay9 z0) (ix2 r l) = yAt z0 z1 n (32 + r) l := by
  open_payloads; pointwise [yAt]
  exact congrArg z0 (congrArg (fun q => ix3 0 q l) (Fin.ext (show r.val = r.val % 256 by omega)))

/-- One position's term of the input's gradient. -/
def tapAt (z0 z1 : FVec Ideal S1x256x128 .f32) (z4 : FVec Ideal S32x128 .f32) (n : ℕ) (r : Fin 256) (l : Fin 128) (k : Fin 31) : EReal :=
  z4 (ix2 (⟨k, by omega⟩ : Fin 32) l) * gAt z0 z1 n (30 - k + r) l

/-- The last position's term, whose rows are the block's own. -/
theorem tapAt_last (z0 z1 : FVec Ideal S1x256x128 .f32) (z4 : FVec Ideal S32x128 .f32) (n : ℕ) (r : Fin 256) (l : Fin 128) :
    tapAt z0 z1 z4 n r l 30 = z4 (ix2 (30 : Fin 32) l) * gAt z0 z1 n r l :=
  congrArg (fun q : ℕ => z4 (ix2 (30 : Fin 32) l) * gAt z0 z1 n q l) (Nat.zero_add r.val)

set_option maxHeartbeats 2000000 in
/-- What a point writes to the input's gradient. -/
theorem p5 (c : Dev nD) (t : Fin cfg0.N) (r : Fin 256) (l : Fin 128) :
    (outsAt0 m c t.val t.isLt).1 (ix3 0 r l)
      = ∑ k : Fin 31, tapAt (iblk m c 0 t) (iblk m c 1 t) (iblk m c 4 t) ((grid0.coords t) 2).val r l k := by
  by_cases h : t.val % 32 = 0
  · rw [outsAt0_A m c t h]
    frame_out
    generalize (iblk m c 0 t : FVec Ideal S1x256x128 .f32) = z0
    generalize (iblk m c 1 t : FVec Ideal S1x256x128 .f32) = z1
    generalize (iblk m c 4 t : FVec Ideal S32x128 .f32) = z4
    generalize grid0.coords t = i
    simp only [Cert.Cv.read_two (View.whole cc0_scratch0) inb_S288x128_S32x128_256_0 inb_S288x128_S256x128_0_0 _ _ (gAt z0 z1 (i 2).val)
      (g_next i _ rfl z0 z1) (g_cur z0 z1 (i 2).val) (by omega)]
    rw [Cert.Cv.sum31, tapAt_last]
    unfold tapAt
    generalize hW : gAt z0 z1 (i 2).val = W
    open_payloads; pointwise
    try rfl
  · rw [outsAt0_B m c t h]
    frame_out
    generalize (iblk m c 0 t : FVec Ideal S1x256x128 .f32) = z0
    generalize (iblk m c 1 t : FVec Ideal S1x256x128 .f32) = z1
    generalize (iblk m c 4 t : FVec Ideal S32x128 .f32) = z4
    generalize grid0.coords t = i
    simp only [Cert.Cv.read_two (View.whole cc0_scratch0) inb_S288x128_S32x128_256_0 inb_S288x128_S256x128_0_0 _ _ (gAt z0 z1 (i 2).val)
      (g_next i _ rfl z0 z1) (g_cur z0 z1 (i 2).val) (by omega)]
    rw [Cert.Cv.sum31, tapAt_last]
    unfold tapAt
    generalize hW : gAt z0 z1 (i 2).val = W
    open_payloads; pointwise
    try rfl

/-- The buffer's rows are the cotangent's. -/
theorem g_ahead (c : Dev nD) (t : Fin cfg0.N) (r : Fin 256) (l : Fin 128) (k : Fin 31) :
    gAt (iblk m c 0 t) (iblk m c 1 t) ((grid0.coords t) 2).val (30 - k + r) l
      = Cert.Cv.ahead (m ((c : Thread nD τ).loc main_arg0)) (bOf t) (lOf t l) ((pOf t r : ℕ) + (30 - k)) := by
  have hn := (idx t).2.2.2.2.2.2.2
  have hv : (pOf t r : ℕ) = t.val % 16 * 256 + r := rfl
  unfold gAt Cert.Cv.ahead
  rw [hn, hv]
  by_cases h : 30 - (k : ℕ) + r < 256
  · rw [if_pos h, b0, dif_pos (by omega)]
    exact congrArg (m ((c : Thread nD τ).loc main_arg0)) (congrArg (fun q => ix3 (bOf t) q (lOf t l))
      (Fin.ext (show t.val % 16 * 256 + (30 - (k : ℕ) + r) % 256 = t.val % 16 * 256 + r + (30 - k) by omega)))
  · rw [if_neg h]
    by_cases h0 : t.val % 16 < 15
    · rw [if_pos h0, b1, dif_pos (by omega)]
      exact congrArg (m ((c : Thread nD τ).loc main_arg0)) (congrArg (fun q => ix3 (bOf t) q (lOf t l))
        (Fin.ext (show min (t.val % 16 + 1) 15 * 256 + (30 - (k : ℕ) + r) % 256 = t.val % 16 * 256 + r + (30 - k) by omega)))
    · rw [if_neg h0, dif_neg (by omega)]

/-- The input's gradient is the transposed convolution of the cotangent. -/
theorem final5 (c : Dev nD) : (dats m 0 c).arrAt 5 (cfgs 0).N
    = Cert.Cv.dIn (m ((c : Thread nD τ).loc main_arg0)) (m ((c : Thread nD τ).loc main_arg2)) := by
  refine (dats m 0 c).arrAt_eq_of_covers 5 _ (by decide +kernel) fun t hf y => ?_
  blk_simp
  rw [after0_5, e5]
  idx_vars y
  obtain rfl : y0 = 0 := Subsingleton.elim _ _
  refine (p5 m c t _ _).trans ?_
  unfold tapAt
  simp only [b4, g_ahead]
  rfl

/-- A row's index is its rectangle's. -/
theorem row_emb (r : Fin 32) (l : Fin 128) (inb : ∀ a, (![r.val, 0] : Fin 2 → ℕ) a + S1x128.size a ≤ S32x128.size a) :
    ix2 r l = (Rect.unit (s := S32x128) ![r.val, 0] S1x128.size inb).emb (ix2 (0 : Fin 1) l) := by
  funext a
  match a with
  | ⟨0, _⟩ => exact Fin.ext (show r.val = r.val + 1 * 0 by omega)
  | ⟨1, _⟩ => exact Fin.ext (show l.val = 0 + 1 * l.val by omega)

/-- An index of another row is off the rectangle. -/
theorem row_off (k : ℕ) (r : Fin 32) (l : Fin 128) (inb : ∀ a, (![k, 0] : Fin 2 → ℕ) a + S1x128.size a ≤ S32x128.size a) (h : r.val ≠ k) :
    (ix2 r l : S32x128.Idx) ∉ (Rect.unit (s := S32x128) ![k, 0] S1x128.size inb).set := fun hm => h (by
  have h0 : k ≤ r.val ∧ r.val < k + 1 := Rect.mem_set_unit.mp hm 0
  omega)

/-- A store read under it. -/
theorem canon_hit {s : Shape} (R : Rect s) (w : R.shape.Idx → Elt Ideal .f32) (L : List (View.Piece (Elt Ideal) s .f32)) (x : R.shape.Idx) (y : s.Idx)
    (hy : y = R.emb x) (g : Elt Ideal .f32) (hw : w x = g) : View.canon ((⟨R, w⟩ : View.Piece (Elt Ideal) s .f32) :: L) y = g := by
  rw [hy, View.canon_cons_emb]
  exact hw

/-- A store read under it, through a view. -/
theorem write_hit {sg : RefSig} {κ : Kind} {sp : Space} {s : Shape} (v : View sg κ sp s .f32) (f : v.ty.Contents (Elt Ideal)) (R : Rect s)
    (w : R.shape.Idx → Elt Ideal .f32) (L : List (View.Piece (Elt Ideal) s .f32)) (x : R.shape.Idx) (y : s.Idx)
    (hy : y = R.emb x) (g : Elt Ideal .f32) (hw : w x = g) :
    v.read (Elt Ideal) (v.writes (Elt Ideal) f ((⟨R, w⟩ : View.Piece (Elt Ideal) s .f32) :: L)) y = g := by
  rw [hy, View.read_writes_cons_emb]
  exact hw

/-- A store read beside it. -/
theorem canon_miss {s : Shape} (R : Rect s) (w : R.shape.Idx → Elt Ideal .f32) (L : List (View.Piece (Elt Ideal) s .f32)) (y : s.Idx)
    (hy : y ∉ R.set) (g : Elt Ideal .f32) (hL : View.canon L y = g) : View.canon ((⟨R, w⟩ : View.Piece (Elt Ideal) s .f32) :: L) y = g := by
  rw [View.canon_cons_of_not_mem _ L hy]
  exact hL

/-- A store read beside it, through a view. -/
theorem write_miss {sg : RefSig} {κ : Kind} {sp : Space} {s : Shape} (v : View sg κ sp s .f32) (f : v.ty.Contents (Elt Ideal)) (R : Rect s)
    (w : R.shape.Idx → Elt Ideal .f32) (L : List (View.Piece (Elt Ideal) s .f32)) (y : s.Idx)
    (hy : y ∉ R.set) (g : Elt Ideal .f32) (hL : v.read (Elt Ideal) (v.writes (Elt Ideal) f L) y = g) :
    v.read (Elt Ideal) (v.writes (Elt Ideal) f ((⟨R, w⟩ : View.Piece (Elt Ideal) s .f32) :: L)) y = g := by
  rw [View.read_writes_cons_miss v f ⟨R, w⟩ L y hy]
  exact hL

/-- A row of 32 stored last: it is read where its value is the row's, and where the earlier stores hold the rest. -/
theorem canon_step (k : ℕ) (hk : k < 32) (inb : ∀ a, (![k, 0] : Fin 2 → ℕ) a + S1x128.size a ≤ S32x128.size a) (w : FVec Ideal S1x128 .f32)
    (L : List (View.Piece (Elt Ideal) S32x128 .f32)) (G : Fin 32 → EReal) (r : Fin 32) (l : Fin 128)
    (hw : w (ix2 0 l) = G ⟨k, hk⟩) (ht : r.val ≠ k → View.canon L (ix2 r l) = G r) :
    View.canon ((⟨Rect.unit (s := S32x128) ![k, 0] S1x128.size inb, w⟩ : View.Piece (Elt Ideal) S32x128 .f32) :: L) (ix2 r l) = G r := by
  by_cases h : r.val = k
  · subst h
    exact canon_hit (Rect.unit (s := S32x128) ![r.val, 0] S1x128.size inb) w L (ix2 (0 : Fin 1) l) (ix2 r l) (row_emb r l inb) (G r) hw
  · exact canon_miss (Rect.unit (s := S32x128) ![k, 0] S1x128.size inb) w L (ix2 r l) (row_off k r l inb h) (G r) (ht h)

/-- The same of a view's contents under earlier stores. -/
theorem write_step {sg : RefSig} {κ : Kind} {sp : Space} (v : View sg κ sp S32x128 .f32) (f : v.ty.Contents (Elt Ideal))
    (k : ℕ) (hk : k < 32) (inb : ∀ a, (![k, 0] : Fin 2 → ℕ) a + S1x128.size a ≤ S32x128.size a) (w : FVec Ideal S1x128 .f32)
    (L : List (View.Piece (Elt Ideal) S32x128 .f32)) (G : Fin 32 → EReal) (r : Fin 32) (l : Fin 128)
    (hw : w (ix2 0 l) = G ⟨k, hk⟩) (ht : r.val ≠ k → v.read (Elt Ideal) (v.writes (Elt Ideal) f L) (ix2 r l) = G r) :
    v.read (Elt Ideal) (v.writes (Elt Ideal) f ((⟨Rect.unit (s := S32x128) ![k, 0] S1x128.size inb, w⟩ : View.Piece (Elt Ideal) S32x128 .f32) :: L)) (ix2 r l) = G r := by
  by_cases h : r.val = k
  · subst h
    exact write_hit v f (Rect.unit (s := S32x128) ![r.val, 0] S1x128.size inb) w L (ix2 (0 : Fin 1) l) (ix2 r l) (row_emb r l inb) (G r) hw
  · exact write_miss v f (Rect.unit (s := S32x128) ![k, 0] S1x128.size inb) w L (ix2 r l) (row_off k r l inb h) (G r) (ht h)

/-- A point's part of a row of the weights' gradient; nothing in the last row. -/
def colSum (z0 : FVec Ideal S1x256x128 .f32) (W : ℕ → Fin 128 → EReal) (l : Fin 128) (k : Fin 32) : EReal :=
  if k.val < 31 then ∑ s : Fin 256, z0 (ix3 0 s l) * W (k.val + 2 + s) l else 0

/-- What a point leaves of a row that held `b`. -/
def rowAfter (z0 : FVec Ideal S1x256x128 .f32) (W : ℕ → Fin 128 → EReal) (b : FVec Ideal S32x128 .f32) (l : Fin 128) (k : Fin 32) : EReal :=
  b (ix2 k l) + colSum z0 W l k

theorem colSum_at (z0 : FVec Ideal S1x256x128 .f32) (W : ℕ → Fin 128 → EReal) (l : Fin 128) (k : ℕ) (hk : k < 31) :
    colSum z0 W l ⟨k, by omega⟩ = ∑ s : Fin 256, z0 (ix3 0 s l) * W (k + 2 + s) l :=
  if_pos hk

theorem rowAfter_at (z0 : FVec Ideal S1x256x128 .f32) (W : ℕ → Fin 128 → EReal) (b : FVec Ideal S32x128 .f32) (l : Fin 128) (k : ℕ) (hk : k < 31) :
    rowAfter z0 W b l ⟨k, by omega⟩ = b (ix2 ⟨k, by omega⟩ l) + ∑ s : Fin 256, z0 (ix3 0 s l) * W (k + 2 + s) l :=
  congrArg (fun x : EReal => b (ix2 ⟨k, by omega⟩ l) + x) (colSum_at z0 W l k hk)

set_option maxHeartbeats 4000000 in
/-- What the first point of a lane block leaves of the weights' gradient. -/
theorem s6A (c : Dev nD) (t : Fin cfg0.N) (h : t.val % 32 = 0) (r : Fin 32) (l : Fin 128) :
    (outsAt0 m c t.val t.isLt).2 (ix2 r l) = colSum (iblk m c 0 t) (yAt (iblk m c 2 t) (iblk m c 3 t) ((grid0.coords t) 2).val) l r := by
  rw [outsAt0_A m c t h]
  generalize (iblk m c 0 t : FVec Ideal S1x256x128 .f32) = z0
  generalize (iblk m c 2 t : FVec Ideal S1x256x128 .f32) = z2
  generalize (iblk m c 3 t : FVec Ideal S1x256x128 .f32) = z3
  frame_out
  simp (disch := decide) only [↓View.readCov_skip, ↓View.readCov_fill]
  simp only [Cert.Cv.read_two (View.whole cc0_scratch1) inb_S288x128_S256x128_32_0 inb_S288x128_S32x128_0_0 _ _ (yAt z2 z3 ((grid0.coords t) 2).val)
    (y_cur z2 z3 ((grid0.coords t) 2).val) (y_prev (grid0.coords t) _ rfl z2 z3) (by omega)]
  generalize yAt z2 z3 ((grid0.coords t) 2).val = W
  refine canon_step 30 (by decide) _ _ _ (colSum z0 W l) r l ?_ fun n30 => ?_
  · refine Eq.trans ?_ (colSum_at z0 W l 30 (by decide)).symm
    open_payloads; pointwise
  refine canon_step 29 (by decide) _ _ _ (colSum z0 W l) r l ?_ fun n29 => ?_
  · refine Eq.trans ?_ (colSum_at z0 W l 29 (by decide)).symm
    open_payloads; pointwise
  refine canon_step 28 (by decide) _ _ _ (colSum z0 W l) r l ?_ fun n28 => ?_
  · refine Eq.trans ?_ (colSum_at z0 W l 28 (by decide)).symm
    open_payloads; pointwise
  refine canon_step 27 (by decide) _ _ _ (colSum z0 W l) r l ?_ fun n27 => ?_
  · refine Eq.trans ?_ (colSum_at z0 W l 27 (by decide)).symm
    open_payloads; pointwise
  refine canon_step 26 (by decide) _ _ _ (colSum z0 W l) r l ?_ fun n26 => ?_
  · refine Eq.trans ?_ (colSum_at z0 W l 26 (by decide)).symm
    open_payloads; pointwise
  refine canon_step 25 (by decide) _ _ _ (colSum z0 W l) r l ?_ fun n25 => ?_
  · refine Eq.trans ?_ (colSum_at z0 W l 25 (by decide)).symm
    open_payloads; pointwise
  refine canon_step 24 (by decide) _ _ _ (colSum z0 W l) r l ?_ fun n24 => ?_
  · refine Eq.trans ?_ (colSum_at z0 W l 24 (by decide)).symm
    open_payloads; pointwise
  refine canon_step 23 (by decide) _ _ _ (colSum z0 W l) r l ?_ fun n23 => ?_
  · refine Eq.trans ?_ (colSum_at z0 W l 23 (by decide)).symm
    open_payloads; pointwise
  refine canon_step 22 (by decide) _ _ _ (colSum z0 W l) r l ?_ fun n22 => ?_
  · refine Eq.trans ?_ (colSum_at z0 W l 22 (by decide)).symm
    open_payloads; pointwise
  refine canon_step 21 (by decide) _ _ _ (colSum z0 W l) r l ?_ fun n21 => ?_
  · refine Eq.trans ?_ (colSum_at z0 W l 21 (by decide)).symm
    open_payloads; pointwise
  refine canon_step 20 (by decide) _ _ _ (colSum z0 W l) r l ?_ fun n20 => ?_
  · refine Eq.trans ?_ (colSum_at z0 W l 20 (by decide)).symm
    open_payloads; pointwise
  refine canon_step 19 (by decide) _ _ _ (colSum z0 W l) r l ?_ fun n19 => ?_
  · refine Eq.trans ?_ (colSum_at z0 W l 19 (by decide)).symm
    open_payloads; pointwise
  refine canon_step 18 (by decide) _ _ _ (colSum z0 W l) r l ?_ fun n18 => ?_
  · refine Eq.trans ?_ (colSum_at z0 W l 18 (by decide)).symm
    open_payloads; pointwise
  refine canon_step 17 (by decide) _ _ _ (colSum z0 W l) r l ?_ fun n17 => ?_
  · refine Eq.trans ?_ (colSum_at z0 W l 17 (by decide)).symm
    open_payloads; pointwise
  refine canon_step 16 (by decide) _ _ _ (colSum z0 W l) r l ?_ fun n16 => ?_
  · refine Eq.trans ?_ (colSum_at z0 W l 16 (by decide)).symm
    open_payloads; pointwise
  refine canon_step 15 (by decide) _ _ _ (colSum z0 W l) r l ?_ fun n15 => ?_
  · refine Eq.trans ?_ (colSum_at z0 W l 15 (by decide)).symm
    open_payloads; pointwise
  refine canon_step 14 (by decide) _ _ _ (colSum z0 W l) r l ?_ fun n14 => ?_
  · refine Eq.trans ?_ (colSum_at z0 W l 14 (by decide)).symm
    open_payloads; pointwise
  refine canon_step 13 (by decide) _ _ _ (colSum z0 W l) r l ?_ fun n13 => ?_
  · refine Eq.trans ?_ (colSum_at z0 W l 13 (by decide)).symm
    open_payloads; pointwise
  refine canon_step 12 (by decide) _ _ _ (colSum z0 W l) r l ?_ fun n12 => ?_
  · refine Eq.trans ?_ (colSum_at z0 W l 12 (by decide)).symm
    open_payloads; pointwise
  refine canon_step 11 (by decide) _ _ _ (colSum z0 W l) r l ?_ fun n11 => ?_
  · refine Eq.trans ?_ (colSum_at z0 W l 11 (by decide)).symm
    open_payloads; pointwise
  refine canon_step 10 (by decide) _ _ _ (colSum z0 W l) r l ?_ fun n10 => ?_
  · refine Eq.trans ?_ (colSum_at z0 W l 10 (by decide)).symm
    open_payloads; pointwise
  refine canon_step 9 (by decide) _ _ _ (colSum z0 W l) r l ?_ fun n9 => ?_
  · refine Eq.trans ?_ (colSum_at z0 W l 9 (by decide)).symm
    open_payloads; pointwise
  refine canon_step 8 (by decide) _ _ _ (colSum z0 W l) r l ?_ fun n8 => ?_
  · refine Eq.trans ?_ (colSum_at z0 W l 8 (by decide)).symm
    open_payloads; pointwise
  refine canon_step 7 (by decide) _ _ _ (colSum z0 W l) r l ?_ fun n7 => ?_
  · refine Eq.trans ?_ (colSum_at z0 W l 7 (by decide)).symm
    open_payloads; pointwise
  refine canon_step 6 (by decide) _ _ _ (colSum z0 W l) r l ?_ fun n6 => ?_
  · refine Eq.trans ?_ (colSum_at z0 W l 6 (by decide)).symm
    open_payloads; pointwise
  refine canon_step 5 (by decide) _ _ _ (colSum z0 W l) r l ?_ fun n5 => ?_
  · refine Eq.trans ?_ (colSum_at z0 W l 5 (by decide)).symm
    open_payloads; pointwise
  refine canon_step 4 (by decide) _ _ _ (colSum z0 W l) r l ?_ fun n4 => ?_
  · refine Eq.trans ?_ (colSum_at z0 W l 4 (by decide)).symm
    open_payloads; pointwise
  refine canon_step 3 (by decide) _ _ _ (colSum z0 W l) r l ?_ fun n3 => ?_
  · refine Eq.trans ?_ (colSum_at z0 W l 3 (by decide)).symm
    open_payloads; pointwise
  refine canon_step 2 (by decide) _ _ _ (colSum z0 W l) r l ?_ fun n2 => ?_
  · refine Eq.trans ?_ (colSum_at z0 W l 2 (by decide)).symm
    open_payloads; pointwise
  refine canon_step 1 (by decide) _ _ _ (colSum z0 W l) r l ?_ fun n1 => ?_
  · refine Eq.trans ?_ (colSum_at z0 W l 1 (by decide)).symm
    open_payloads; pointwise
  refine canon_step 0 (by decide) _ _ _ (colSum z0 W l) r l ?_ fun n0 => ?_
  · refine Eq.trans ?_ (colSum_at z0 W l 0 (by decide)).symm
    open_payloads; pointwise
  have hr : r.val = 31 := by omega
  refine Eq.trans ?_ (if_neg (by omega) : colSum z0 W l r = 0).symm
  simp (disch := decide) only [View.canon_cons_unit_lit']
  open_payloads; pointwise

set_option maxHeartbeats 4000000 in
/-- What a later point leaves of the weights' gradient. -/
theorem s6B (c : Dev nD) (t : Fin cfg0.N) (h : ¬ t.val % 32 = 0) (r : Fin 32) (l : Fin 128) :
    (outsAt0 m c t.val t.isLt).2 (ix2 r l) = rowAfter (iblk m c 0 t) (yAt (iblk m c 2 t) (iblk m c 3 t) ((grid0.coords t) 2).val)
      (outsAt0 m c (t.val - 1) (Nat.lt_of_le_of_lt (Nat.sub_le _ _) t.isLt)).2 l r := by
  rw [outsAt0_B m c t h]
  frame_out
  generalize (iblk m c 0 t : FVec Ideal S1x256x128 .f32) = z0
  generalize (iblk m c 2 t : FVec Ideal S1x256x128 .f32) = z2
  generalize (iblk m c 3 t : FVec Ideal S1x256x128 .f32) = z3
  generalize grid0.coords t = i
  generalize (outsAt0 m c (t.val - 1) _).2 = b
  simp only [Cert.Cv.read_two (View.whole cc0_scratch1) inb_S288x128_S256x128_32_0 inb_S288x128_S32x128_0_0 _ _ (yAt z2 z3 (i 2).val)
    (y_cur z2 z3 (i 2).val) (y_prev i _ rfl z2 z3) (by omega)]
  generalize yAt z2 z3 (i 2).val = W
  refine write_step _ _ 30 (by decide) _ _ _ (rowAfter z0 W b l) r l ?_ fun n30 => ?_
  · refine Eq.trans ?_ (rowAfter_at z0 W b l 30 (by decide)).symm
    open_payloads; pointwise
  refine write_step _ _ 29 (by decide) _ _ _ (rowAfter z0 W b l) r l ?_ fun n29 => ?_
  · refine Eq.trans ?_ (rowAfter_at z0 W b l 29 (by decide)).symm
    open_payloads; pointwise
  refine write_step _ _ 28 (by decide) _ _ _ (rowAfter z0 W b l) r l ?_ fun n28 => ?_
  · refine Eq.trans ?_ (rowAfter_at z0 W b l 28 (by decide)).symm
    open_payloads; pointwise
  refine write_step _ _ 27 (by decide) _ _ _ (rowAfter z0 W b l) r l ?_ fun n27 => ?_
  · refine Eq.trans ?_ (rowAfter_at z0 W b l 27 (by decide)).symm
    open_payloads; pointwise
  refine write_step _ _ 26 (by decide) _ _ _ (rowAfter z0 W b l) r l ?_ fun n26 => ?_
  · refine Eq.trans ?_ (rowAfter_at z0 W b l 26 (by decide)).symm
    open_payloads; pointwise
  refine write_step _ _ 25 (by decide) _ _ _ (rowAfter z0 W b l) r l ?_ fun n25 => ?_
  · refine Eq.trans ?_ (rowAfter_at z0 W b l 25 (by decide)).symm
    open_payloads; pointwise
  refine write_step _ _ 24 (by decide) _ _ _ (rowAfter z0 W b l) r l ?_ fun n24 => ?_
  · refine Eq.trans ?_ (rowAfter_at z0 W b l 24 (by decide)).symm
    open_payloads; pointwise
  refine write_step _ _ 23 (by decide) _ _ _ (rowAfter z0 W b l) r l ?_ fun n23 => ?_
  · refine Eq.trans ?_ (rowAfter_at z0 W b l 23 (by decide)).symm
    open_payloads; pointwise
  refine write_step _ _ 22 (by decide) _ _ _ (rowAfter z0 W b l) r l ?_ fun n22 => ?_
  · refine Eq.trans ?_ (rowAfter_at z0 W b l 22 (by decide)).symm
    open_payloads; pointwise
  refine write_step _ _ 21 (by decide) _ _ _ (rowAfter z0 W b l) r l ?_ fun n21 => ?_
  · refine Eq.trans ?_ (rowAfter_at z0 W b l 21 (by decide)).symm
    open_payloads; pointwise
  refine write_step _ _ 20 (by decide) _ _ _ (rowAfter z0 W b l) r l ?_ fun n20 => ?_
  · refine Eq.trans ?_ (rowAfter_at z0 W b l 20 (by decide)).symm
    open_payloads; pointwise
  refine write_step _ _ 19 (by decide) _ _ _ (rowAfter z0 W b l) r l ?_ fun n19 => ?_
  · refine Eq.trans ?_ (rowAfter_at z0 W b l 19 (by decide)).symm
    open_payloads; pointwise
  refine write_step _ _ 18 (by decide) _ _ _ (rowAfter z0 W b l) r l ?_ fun n18 => ?_
  · refine Eq.trans ?_ (rowAfter_at z0 W b l 18 (by decide)).symm
    open_payloads; pointwise
  refine write_step _ _ 17 (by decide) _ _ _ (rowAfter z0 W b l) r l ?_ fun n17 => ?_
  · refine Eq.trans ?_ (rowAfter_at z0 W b l 17 (by decide)).symm
    open_payloads; pointwise
  refine write_step _ _ 16 (by decide) _ _ _ (rowAfter z0 W b l) r l ?_ fun n16 => ?_
  · refine Eq.trans ?_ (rowAfter_at z0 W b l 16 (by decide)).symm
    open_payloads; pointwise
  refine write_step _ _ 15 (by decide) _ _ _ (rowAfter z0 W b l) r l ?_ fun n15 => ?_
  · refine Eq.trans ?_ (rowAfter_at z0 W b l 15 (by decide)).symm
    open_payloads; pointwise
  refine write_step _ _ 14 (by decide) _ _ _ (rowAfter z0 W b l) r l ?_ fun n14 => ?_
  · refine Eq.trans ?_ (rowAfter_at z0 W b l 14 (by decide)).symm
    open_payloads; pointwise
  refine write_step _ _ 13 (by decide) _ _ _ (rowAfter z0 W b l) r l ?_ fun n13 => ?_
  · refine Eq.trans ?_ (rowAfter_at z0 W b l 13 (by decide)).symm
    open_payloads; pointwise
  refine write_step _ _ 12 (by decide) _ _ _ (rowAfter z0 W b l) r l ?_ fun n12 => ?_
  · refine Eq.trans ?_ (rowAfter_at z0 W b l 12 (by decide)).symm
    open_payloads; pointwise
  refine write_step _ _ 11 (by decide) _ _ _ (rowAfter z0 W b l) r l ?_ fun n11 => ?_
  · refine Eq.trans ?_ (rowAfter_at z0 W b l 11 (by decide)).symm
    open_payloads; pointwise
  refine write_step _ _ 10 (by decide) _ _ _ (rowAfter z0 W b l) r l ?_ fun n10 => ?_
  · refine Eq.trans ?_ (rowAfter_at z0 W b l 10 (by decide)).symm
    open_payloads; pointwise
  refine write_step _ _ 9 (by decide) _ _ _ (rowAfter z0 W b l) r l ?_ fun n9 => ?_
  · refine Eq.trans ?_ (rowAfter_at z0 W b l 9 (by decide)).symm
    open_payloads; pointwise
  refine write_step _ _ 8 (by decide) _ _ _ (rowAfter z0 W b l) r l ?_ fun n8 => ?_
  · refine Eq.trans ?_ (rowAfter_at z0 W b l 8 (by decide)).symm
    open_payloads; pointwise
  refine write_step _ _ 7 (by decide) _ _ _ (rowAfter z0 W b l) r l ?_ fun n7 => ?_
  · refine Eq.trans ?_ (rowAfter_at z0 W b l 7 (by decide)).symm
    open_payloads; pointwise
  refine write_step _ _ 6 (by decide) _ _ _ (rowAfter z0 W b l) r l ?_ fun n6 => ?_
  · refine Eq.trans ?_ (rowAfter_at z0 W b l 6 (by decide)).symm
    open_payloads; pointwise
  refine write_step _ _ 5 (by decide) _ _ _ (rowAfter z0 W b l) r l ?_ fun n5 => ?_
  · refine Eq.trans ?_ (rowAfter_at z0 W b l 5 (by decide)).symm
    open_payloads; pointwise
  refine write_step _ _ 4 (by decide) _ _ _ (rowAfter z0 W b l) r l ?_ fun n4 => ?_
  · refine Eq.trans ?_ (rowAfter_at z0 W b l 4 (by decide)).symm
    open_payloads; pointwise
  refine write_step _ _ 3 (by decide) _ _ _ (rowAfter z0 W b l) r l ?_ fun n3 => ?_
  · refine Eq.trans ?_ (rowAfter_at z0 W b l 3 (by decide)).symm
    open_payloads; pointwise
  refine write_step _ _ 2 (by decide) _ _ _ (rowAfter z0 W b l) r l ?_ fun n2 => ?_
  · refine Eq.trans ?_ (rowAfter_at z0 W b l 2 (by decide)).symm
    open_payloads; pointwise
  refine write_step _ _ 1 (by decide) _ _ _ (rowAfter z0 W b l) r l ?_ fun n1 => ?_
  · refine Eq.trans ?_ (rowAfter_at z0 W b l 1 (by decide)).symm
    open_payloads; pointwise
  refine write_step _ _ 0 (by decide) _ _ _ (rowAfter z0 W b l) r l ?_ fun n0 => ?_
  · refine Eq.trans ?_ (rowAfter_at z0 W b l 0 (by decide)).symm
    open_payloads; pointwise
  have hr : r.val = 31 := by omega
  rw [View.writes_nil, Memref.IsWhole.read_unread]
  exact (add_zero _).symm.trans (congrArg (fun x : EReal => b (ix2 r l) + x) (if_neg (by omega) : colSum z0 W l r = 0).symm)

/-- The buffer's rows are the delayed input's. -/
theorem y_late (c : Dev nD) (t : Fin cfg0.N) (r : Fin 256) (l : Fin 128) (k : ℕ) (hk : k < 31) :
    yAt (iblk m c 2 t) (iblk m c 3 t) ((grid0.coords t) 2).val (k + 2 + r) l
      = Cert.Cv.late (m ((c : Thread nD τ).loc main_arg1)) (bOf t) (lOf t l) ((pOf t r : ℕ) + k) := by
  have hn := (idx t).2.2.2.2.2.2.2
  have hv : (pOf t r : ℕ) = t.val % 16 * 256 + r := rfl
  unfold yAt Cert.Cv.late
  rw [hn, hv]
  by_cases h : 32 ≤ k + 2 + r
  · rw [if_pos h, b2, dif_pos (by omega)]
    exact congrArg (m ((c : Thread nD τ).loc main_arg1)) (congrArg (fun q => ix3 (bOf t) q (lOf t l))
      (Fin.ext (show t.val % 16 * 256 + (k + 2 + r - 32) % 256 = t.val % 16 * 256 + r + k - 30 by omega)))
  · rw [if_neg h]
    by_cases h0 : 0 < t.val % 16
    · rw [if_pos h0, b3, dif_pos (by omega)]
      exact congrArg (m ((c : Thread nD τ).loc main_arg1)) (congrArg (fun q => ix3 (bOf t) q (lOf t l))
        (Fin.ext (show (t.val % 16 - 1) * 256 + (224 + (k + 2 + r)) % 256 = t.val % 16 * 256 + r + k - 30 by omega)))
    · rw [if_neg h0, dif_neg (by omega)]

/-- A point's part of the weights' gradient. -/
def partAt (c : Dev nD) (t : Fin cfg0.N) (y : S32x128.Idx) : EReal :=
  colSum (iblk m c 0 t) (yAt (iblk m c 2 t) (iblk m c 3 t) ((grid0.coords t) 2).val) (y 1) (y 0)

/-- A point's part of a row above the last, in terms of the arguments. -/
theorem partAt_row (c : Dev nD) (t : Fin cfg0.N) (k : Fin 32) (hk : k.val < 31) (l : Fin 128) :
    partAt m c t (ix2 k l) = ∑ s : Fin 256, Cert.Cv.tap (m ((c : Thread nD τ).loc main_arg0)) (m ((c : Thread nD τ).loc main_arg1)) k (lOf t l) (bOf t) (pOf t s) := by
  refine (if_pos hk).trans (Finset.sum_congr rfl fun s _ => ?_)
  unfold Cert.Cv.tap
  exact congrArg₂ (fun x y : EReal => x * y) (b0 m c t s l) (y_late m c t s l k hk)

/-- A point's part of the last row. -/
theorem partAt_last (c : Dev nD) (t : Fin cfg0.N) (k : Fin 32) (hk : ¬ k.val < 31) (l : Fin 128) : partAt m c t (ix2 k l) = 0 :=
  if_neg hk

/-- The weights' gradient is the sum over batch and rows, over a zero row. -/
theorem final6 (c : Dev nD) : (dats m 0 c).arrAt 6 (cfgs 0).N
    = Cert.Cv.dW (m ((c : Thread nD τ).loc main_arg0)) (m ((c : Thread nD τ).loc main_arg1)) := by
  refine (dats m 0 c).arrAt_eq_of_covers 6 _ (by decide +kernel) fun t hf y => ?_
  have h31 := (flush0_6 t).mp hf
  have ht : t.val < 256 := t.isLt
  blk_simp
  rw [after0_6, e6]
  rw [Pipeline.eq_sum_fin_of_reset_step_apply_of_flush (fun n h => (outsAt0 m c n h).2) 32 (fun _ => 0) (partAt m c)
    (fun t h y => by
      idx_vars y
      exact (s6A m c t h y0 y1).trans (zero_add _).symm)
    (fun t h y => by
      idx_vars y
      exact s6B m c t h y0 y1) t h31 _]
  idx_vars y
  refine (zero_add (_ : EReal)).trans ?_
  show _ = if y0.val < 31 then ∑ a : Fin 2, ∑ p : Fin 4096, Cert.Cv.tap (m ((c : Thread nD τ).loc main_arg0)) (m ((c : Thread nD τ).loc main_arg1)) y0 (lOf t y1) a p else 0
  by_cases h : y0.val < 31
  · rw [if_pos h]
    refine Eq.trans (b := ∑ q : Fin 2, ∑ s : Fin 16, ∑ r : Fin 256, Cert.Cv.tap (m ((c : Thread nD τ).loc main_arg0)) (m ((c : Thread nD τ).loc main_arg1))
        y0 (lOf t y1) q (⟨s.val * 256 + r.val, by omega⟩ : Fin 4096)) ?_
      (Finset.sum_congr rfl fun q _ => Fin.sum_mul_add_fin 16 256 (fun p : Fin 4096 => Cert.Cv.tap (m ((c : Thread nD τ).loc main_arg0))
        (m ((c : Thread nD τ).loc main_arg1)) y0 (lOf t y1) q p))
    refine Fin.sum_divmod_congr fun s ha hs => ?_
    refine (partAt_row m c _ y0 h y1).trans (Finset.sum_congr rfl fun r _ => ?_)
    have eb : bOf (32 * (t.val / 32) + s.val) = ⟨s.val / 16, ha⟩ := Fin.ext (by show (32 * (t.val / 32) + s.val) / 16 % 2 = s.val / 16; omega)
    have ep : pOf (32 * (t.val / 32) + s.val) r = ⟨s.val % 16 * 256 + r.val, by omega⟩ := Fin.ext (by show (32 * (t.val / 32) + s.val) % 16 * 256 + r.val = s.val % 16 * 256 + r.val; omega)
    have el : lOf ⟨32 * (t.val / 32) + s.val, by show _ < 256; omega⟩ y1 = lOf t y1 := Fin.ext (by show (32 * (t.val / 32) + s.val) / 32 * 128 + y1.val = t.val / 32 * 128 + y1.val; omega)
    rw [el]
    show Cert.Cv.tap _ _ _ _ (bOf (32 * (t.val / 32) + s.val)) (pOf (32 * (t.val / 32) + s.val) r) = _
    rw [eb, ep]
  · rw [if_neg h]
    exact Finset.sum_eq_zero fun s _ => partAt_last m c _ y0 h y1

end Cert.ConvIdeal.Val

end
-- ==== Proof.ConvFwdRef.lean ====
module

public import proofs.«01_k».proof.Proof.Gen.ConvFwdRefIdeal
public import proofs.«01_k».proof.Proof.Gen.ConvFwdRefIdeal.Run
public import Idealize.ShloMosaic.Lib.Pipeline.ValueKit
public import Idealize.ShloMosaic.Lib.Claim
public import proofs.«01_k».proof.Proof.ConvSpec

@[expose] public section

set_option maxRecDepth 16384

noncomputable section

namespace Cert.ConvFwdRefIdeal.Val

open Cert.ConvFwdRefIdeal Cert.ConvFwdRefIdeal.Gen Idealize.ShloMosaic Idealize.ShloMosaic.TcCoe Idealize.SL.Sem

/-- The delayed sequence, at a position. -/
theorem v1_at (V0 : Valuation τ sig (Elt Ideal)) (a : Fin 2) (q : Fin 4126) (l : Fin 1024) :
    Value.res_main_v1 V0 (ix3 a q l) = Cert.Cv.late (V0 (Proc.devRef .tc main_arg0)) a l q := by
  pointwise [Value.res_main_v1, Cert.Cv.late]
  by_cases h : (q : ℕ) < 30
  · rw [dif_pos h, dif_neg (by omega)]
  · rw [dif_neg h, dif_pos (by omega)]

/-- The reference's result is the biased convolution, and its arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v222) = Cert.Cv.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  clear h
  funext i
  idx_vars i
  pointwise [Value.res_main_v156, Value.res_main_v79]
  simp only [v1_at]
  unfold Cert.Cv.out
  rw [Cert.Cv.sum31]
  simp only [Nat.add_comm _ (i1 : ℕ)]
  rfl

end Cert.ConvFwdRefIdeal.Val

end
-- ==== Proof.ConvFwdVal.lean ====
module

public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal.Skeleton
public import proofs.«01_k».proof.Proof.Gen.ConvFwdIdeal.Frame
public import proofs.«01_k».proof.Proof.Gen.ConvFwdIdeal.Value
public import Idealize.ShloMosaic.Lib.Pipeline.ValueKit
public import Idealize.ShloMosaic.Lib.WordCmp
public import proofs.«01_k».proof.Proof.ConvSpec

@[expose] public section

set_option maxRecDepth 16384

noncomputable section

namespace Cert.ConvFwdIdeal.Val

open Cert.ConvFwdIdeal Cert.ConvFwdIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val / 128, t.val / 8 % 16, t.val % 8] ∧ win0_1.index t = ![t.val / 128, t.val / 8 % 16 - 1, t.val % 8]
    ∧ win0_2.index t = ![0, t.val % 8] ∧ win0_3.index t = ![0, t.val % 8] ∧ win0_4.index t = ![t.val / 128, t.val / 8 % 16, t.val % 8]
    ∧ ((grid0.coords t) 1).val = t.val / 8 % 16 :=
  (by decide +kernel : ∀ t : Fin grid0.N, _)

/-- The batch a point works on. -/
def bOf (t : Fin cfg0.N) : Fin 2 := ⟨t.val / 128, by have : t.val < 256 := t.isLt; omega⟩
/-- The row at row `r` of a point's block. -/
def pOf (t : Fin cfg0.N) (r : Fin 256) : Fin 4096 := ⟨t.val / 8 % 16 * 256 + r, by omega⟩
/-- The lane at lane `l` of a point's block. -/
def lOf (t : Fin cfg0.N) (l : Fin 128) : Fin 1024 := ⟨t.val % 8 * 128 + l, by omega⟩

theorem b0 (c : Dev nD) (t : Fin cfg0.N) (r : Fin 256) (l : Fin 128) :
    iblk m c 0 t (ix3 0 r l) = m ((c : Thread nD τ).loc main_arg0) (ix3 (bOf t) (pOf t r) (lOf t l)) := by
  unfold bOf pOf lOf
  blk_point [iblk, V, idx t]

theorem b1 (c : Dev nD) (t : Fin cfg0.N) (r : Fin 256) (l : Fin 128) :
    iblk m c 1 t (ix3 0 r l) = m ((c : Thread nD τ).loc main_arg0) (ix3 (bOf t) ⟨(t.val / 8 % 16 - 1) * 256 + r, by omega⟩ (lOf t l)) := by
  unfold bOf lOf
  blk_point [iblk, V, idx t]

/-- The weights under one zero row, as the kernel takes them. -/
def padded (x : FVec Ideal S31x1024 .f32) : FVec Ideal S32x1024 .f32 :=
  pad S32x1024 ![0, 0] ![1, 0] ![0, 0] x (sitofp .f32 (constantI S_ 32 0#32)) pads_S31x1024_S32x1024_010_000 h_S_

theorem V_v0 (c : Dev nD) : V m c main_v0 = padded (m ((c : Thread nD τ).loc main_arg1)) := by
  unfold V
  simp only [hostOps0, hostOps0_1, List.flatten_cons, List.flatten_nil, List.append_nil, List.cons_append, List.nil_append]
  after_results_simp
  rfl

/-- An entry of the padded weights above the zero row. -/
theorem padded_at (x : FVec Ideal S31x1024 .f32) (k : Fin 31) (l : Fin 1024) :
    padded x (ix2 (⟨k, by omega⟩ : Fin 32) l) = x (ix2 k l) := by
  pointwise [padded]

theorem e2 (t : Fin cfg0.N) (k : Fin 31) (l : Fin 128) :
    (win0_2.blk t).view.emb (ix2 (⟨k, by omega⟩ : Fin 32) l) = ix2 (⟨k, by omega⟩ : Fin 32) (lOf t l) := by
  unfold lOf
  blk_ext [idx t]

theorem b2 (c : Dev nD) (t : Fin cfg0.N) (k : Fin 31) (l : Fin 128) :
    iblk m c 2 t (ix2 (⟨k, by omega⟩ : Fin 32) l) = m ((c : Thread nD τ).loc main_arg1) (ix2 k (lOf t l)) := by
  blk_simp [iblk]
  rw [V_v0, e2, padded_at]

theorem b3 (c : Dev nD) (t : Fin cfg0.N) (l : Fin 128) :
    iblk m c 3 t (ix2 0 l) = m ((c : Thread nD τ).loc main_arg2) (ix2 0 (lOf t l)) := by
  unfold lOf
  blk_point [iblk, V, idx t]

theorem e4 (t : Fin cfg0.N) (y : S1x256x128.Idx) :
    (win0_4.blk t).view.emb y = ix3 (bOf t) (pOf t (y 1)) (lOf t (y 2)) := by
  unfold bOf pOf lOf
  blk_ext [idx t]

/-- The scratch buffer: the last rows of the block before, zero at the first, over the block. -/
def bufAt (z0 z1 : FVec Ideal S1x256x128 .f32) (n q : ℕ) (l : Fin 128) : EReal :=
  if 32 ≤ q then z0 (ix3 0 ⟨(q - 32) % 256, Nat.mod_lt _ (by decide)⟩ l)
  else if 0 < n then z1 (ix3 0 ⟨(224 + q) % 256, Nat.mod_lt _ (by decide)⟩ l) else 0

/-- The part of the buffer in front. -/
theorem front_at (i : grid0.Coords) (n : ℕ) (hn : (i 1).val = n) (z0 z1 : FVec Ideal S1x256x128 .f32) (r : Fin 32) (l : Fin 128) :
    k0_pay2 (F := Ideal) i (View.ld z1 (Rect.unit (s := S1x256x128) ![0, 224, 0] S1x32x128.size inb_S1x256x128_S1x32x128_0_224_0)) (ix2 r l) = bufAt z0 z1 n (0 + r) l := by
  have hb : n < 16 := by rw [← hn]; exact (i 1).isLt
  subst hn
  open_payloads; pointwise [bufAt]
  rw [show Scalar.cmpi CmpIPredicate.sgt (BitVec.ofNat 32 (i 1).val) 0#32 = BitVec.ofBool (decide (0 < (i 1).val)) from
    WordCmp.cmpi_sgt_ofNat (w := 32) (by omega) (by decide)]
  by_cases h : 0 < (i 1).val
  · rw [if_pos h, decide_eq_true h]
    exact congrArg z1 (congrArg (fun q => ix3 0 q l) (Fin.ext (show 224 + r.val = (224 + r.val) % 256 by omega)))
  · rw [if_neg h, decide_eq_false h]; rfl

/-- The part of the buffer that is the block. -/
theorem back_at (z0 z1 : FVec Ideal S1x256x128 .f32) (n : ℕ) (r : Fin 256) (l : Fin 128) :
    k0_pay3 (F := Ideal) z0 (ix2 r l) = bufAt z0 z1 n (32 + r) l := by
  open_payloads; pointwise [bufAt]
  exact congrArg z0 (congrArg (fun q => ix3 0 q l) (Fin.ext (show r.val = r.val % 256 by omega)))

/-- One position's term of a point's sum. -/
def tapAt (z0 z1 : FVec Ideal S1x256x128 .f32) (z2 : FVec Ideal S32x128 .f32) (n : ℕ) (r : Fin 256) (l : Fin 128) (k : Fin 31) : EReal :=
  z2 (ix2 (⟨k, by omega⟩ : Fin 32) l) * bufAt z0 z1 n (k + 2 + r) l

/-- What a point computes, from its blocks. -/
def sumAt (z0 z1 : FVec Ideal S1x256x128 .f32) (z2 : FVec Ideal S32x128 .f32) (z3 : FVec Ideal S1x128 .f32) (n : ℕ)
    (r : Fin 256) (l : Fin 128) : EReal :=
  (∑ k : Fin 31, tapAt z0 z1 z2 n r l k) + z3 (ix2 0 l)

set_option maxHeartbeats 1000000 in
theorem p4 (c : Dev nD) (t : Fin cfg0.N) (r : Fin 256) (l : Fin 128) :
    outsAt0 m c t (ix3 0 r l) = sumAt (iblk m c 0 t) (iblk m c 1 t) (iblk m c 2 t) (iblk m c 3 t) ((grid0.coords t) 1).val r l := by
  unfold outsAt0
  frame_out
  generalize (iblk m c 0 t : FVec Ideal S1x256x128 .f32) = z0
  generalize (iblk m c 1 t : FVec Ideal S1x256x128 .f32) = z1
  generalize (iblk m c 2 t : FVec Ideal S32x128 .f32) = z2
  generalize (iblk m c 3 t : FVec Ideal S1x128 .f32) = z3
  generalize grid0.coords t = i
  simp only [Cert.Cv.read_two (View.whole cc0_scratch0) inb_S288x128_S256x128_32_0 inb_S288x128_S32x128_0_0 _ _ (bufAt z0 z1 (i 1).val)
    (back_at z0 z1 (i 1).val) (front_at i _ rfl z0 z1) (by omega)]
  generalize hW : bufAt z0 z1 (i 1).val = W
  open_payloads; pointwise
  subst hW
  exact Cert.Cv.sum31_from (tapAt z0 z1 z2 (i 1).val r l) (z3 (ix2 0 l))

/-- The buffer's rows are the delayed sequence. -/
theorem buf_late (c : Dev nD) (t : Fin cfg0.N) (r : Fin 256) (l : Fin 128) (k : Fin 31) :
    bufAt (iblk m c 0 t) (iblk m c 1 t) ((grid0.coords t) 1).val (k + 2 + r) l
      = Cert.Cv.late (m ((c : Thread nD τ).loc main_arg0)) (bOf t) (lOf t l) ((pOf t r : ℕ) + k) := by
  have hn := (idx t).2.2.2.2.2
  have hv : (pOf t r : ℕ) = t.val / 8 % 16 * 256 + r := rfl
  unfold bufAt Cert.Cv.late
  rw [hn, hv]
  by_cases h : 32 ≤ (k : ℕ) + 2 + r
  · rw [if_pos h, b0, dif_pos (by omega)]
    exact congrArg (m ((c : Thread nD τ).loc main_arg0)) (congrArg (fun q => ix3 (bOf t) q (lOf t l))
      (Fin.ext (show t.val / 8 % 16 * 256 + ((k : ℕ) + 2 + r - 32) % 256 = t.val / 8 % 16 * 256 + r + k - 30 by omega)))
  · rw [if_neg h]
    by_cases h0 : 0 < t.val / 8 % 16
    · rw [if_pos h0, b1, dif_pos (by omega)]
      exact congrArg (m ((c : Thread nD τ).loc main_arg0)) (congrArg (fun q => ix3 (bOf t) q (lOf t l))
        (Fin.ext (show (t.val / 8 % 16 - 1) * 256 + (224 + ((k : ℕ) + 2 + r)) % 256 = t.val / 8 % 16 * 256 + r + k - 30 by omega)))
    · rw [if_neg h0, dif_neg (by omega)]

/-- A point's sum in terms of the arguments. -/
theorem sumAt_eq (c : Dev nD) (t : Fin cfg0.N) (r : Fin 256) (l : Fin 128) :
    sumAt (iblk m c 0 t) (iblk m c 1 t) (iblk m c 2 t) (iblk m c 3 t) ((grid0.coords t) 1).val r l
      = Cert.Cv.out (m ((c : Thread nD τ).loc main_arg0)) (m ((c : Thread nD τ).loc main_arg1)) (m ((c : Thread nD τ).loc main_arg2))
        (ix3 (bOf t) (pOf t r) (lOf t l)) := by
  unfold sumAt tapAt
  simp only [b2, b3, buf_late]
  rfl

/-- The kernel's result is the biased convolution. -/
theorem final4 (c : Dev nD) : (dats m 0 c).arrAt 4 (cfgs 0).N
    = Cert.Cv.out (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, e4]
  idx_vars y
  obtain rfl : y0 = 0 := Subsingleton.elim _ _
  exact (p4 m c t _ _).trans (sumAt_eq m c t _ _)

end Cert.ConvFwdIdeal.Val

end
-- ==== Proof.StepSpec.lean ====
module

public import proofs.«01_k».proof.Proof.VecSpec

@[expose] public section

set_option maxRecDepth 16384

noncomputable section

namespace Cert.Vec

open Idealize.ShloMosaic

/-- The shape of all sequences' conditioning, padded to 128 rows. -/
abbrev K3 : Shape := ⟨3, ![1, 128, 1024]⟩
/-- The shape of the modulation's rows: layer, sequence, column. -/
abbrev M3 : Shape := ⟨3, ![4, 2, 6144]⟩
/-- The shape of the modulation's bias: layer, column. -/
abbrev M2 : Shape := ⟨2, ![4, 6144]⟩

/-- The conditioning's activation `x * sig x`. -/
def cact (x : K3.Idx → EReal) : K3.Idx → EReal := fun i => x i * sig (x i)

/-- The modulation with its layer's bias. -/
def biased (x : M3.Idx → EReal) (b : M2.Idx → EReal) : M3.Idx → EReal :=
  fun i => x i + b (ix2 (i 0 : Fin 4) (i 2 : Fin 6144))

/-- A branch with its output bias. -/
def shifted (y : A3.Idx → EReal) (b : R2.Idx → EReal) : A3.Idx → EReal :=
  fun i => y i + b (ix2 0 (i 2 : Fin 1024))

/-- The half of the activation. -/
def half : EReal := Scalar.ofBits (F := Ideal) .f32 0x3F000000#32
/-- One over the root of two, rounded. -/
def rt : EReal := Scalar.ofBits (F := Ideal) .f32 0x3F3504F3#32

/-- The activation by the error function. -/
def gelu (x : EReal) : EReal := half * x * (1 + Ideal.erf (x * rt))

/-- The activated biased product. -/
def gz (pw : W3.Idx → EReal) (b : V2.Idx → EReal) : W3.Idx → EReal :=
  fun i => gelu (pw i + b (ix2 0 (i 2 : Fin 2048)))

/-- Its left half, the gate branch. -/
def gmu (pw : W3.Idx → EReal) (b : V2.Idx → EReal) : A3.Idx → EReal :=
  fun i => gz pw b (ix3 (i 0 : Fin 2) (i 1 : Fin 4096) (lo (i 2)))

/-- Its right half, the value branch. -/
def gmv (pw : W3.Idx → EReal) (b : V2.Idx → EReal) : A3.Idx → EReal :=
  fun i => gz pw b (ix3 (i 0 : Fin 2) (i 1 : Fin 4096) (hi (i 2)))

/-- The normed value branch. -/
def gmvn (pw : W3.Idx → EReal) (b : V2.Idx → EReal) (lg lb : R2.Idx → EReal) : A3.Idx → EReal :=
  ln (gmv pw b) lg lb

/-- The place of a row and a column among the modulation matrix's layers. -/
def placeMod (i : (⟨3, ![1, 4096, 1536]⟩ : Shape).Idx) : (⟨3, ![4, 1024, 1536]⟩ : Shape).Idx :=
  ix3 (⟨(i 1 : Fin 4096).val / 1024, by have h : (i 1 : Fin 4096).val < 4096 := (i 1 : Fin 4096).isLt; omega⟩ : Fin 4) (⟨(i 1 : Fin 4096).val % 1024, by omega⟩ : Fin 1024) (i 2 : Fin 1536)

/-- The place of a row and a column among the output matrix's layers. -/
def placeOut (i : (⟨3, ![1, 2816, 1024]⟩ : Shape).Idx) : (⟨3, ![4, 704, 1024]⟩ : Shape).Idx :=
  ix3 (⟨(i 1 : Fin 2816).val / 704, by have h : (i 1 : Fin 2816).val < 2816 := (i 1 : Fin 2816).isLt; omega⟩ : Fin 4) (⟨(i 1 : Fin 2816).val % 704, by omega⟩ : Fin 704) (i 2 : Fin 1024)

/-- The new first moments, read at their places. -/
def mom1At {P Q : Type} (f : Q → P) (g m : P → EReal) : Q → EReal := fun i => mom1 (g (f i)) (m (f i))

/-- The new second moments, read at their places. -/
def mom2At {P Q : Type} (f : Q → P) (g v : P → EReal) : Q → EReal := fun i => mom2 (g (f i)) (v (f i))

/-- The optimiser's step, read at its places. -/
def stepAt {P Q : Type} (f : Q → P) (w g m v : P → EReal) : Q → EReal :=
  fun i => stepOf (w (f i)) (g (f i)) (m (f i)) (v (f i))

end Cert.Vec

end
-- ==== Proof.CActRef.lean ====
module

public import proofs.«01_k».proof.Proof.Gen.CActRefIdeal
public import proofs.«01_k».proof.Proof.Gen.CActRefIdeal.Run
public import Idealize.ShloMosaic.Lib.Pipeline.ValueKit
public import Idealize.ShloMosaic.Lib.Claim
public import proofs.«01_k».proof.Proof.StepSpec

@[expose] public section

set_option maxRecDepth 16384

noncomputable section

namespace Cert.CActRefIdeal.Val

open Cert.CActRefIdeal Cert.CActRefIdeal.Gen Idealize.ShloMosaic Idealize.ShloMosaic.TcCoe Idealize.SL.Sem

/-- The reference's result. -/
def r0 (X0 : FVec Ideal S1x128x1024 .f32) : FVec Ideal S1x128x1024 .f32 :=
  mulf X0 (Host.divf (broadcastInDim S1x128x1024 ![] bcast_S_S1x128x1024 (constant S_ .f32 0x3F800000#32)) (addf (broadcastInDim S1x128x1024 ![] bcast_S_S1x128x1024 (constant S_ .f32 0x3F800000#32)) (Host.exp (Host.negf X0))))

theorem r0_eq (X0) : r0 X0 = Cert.Vec.cact X0 := by
  funext i; idx_vars i
  pointwise [r0, Cert.Vec.cact, Cert.Vec.sig]

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v0) = Cert.Vec.cact (m ((c.tc : Thread nD τ).loc main_arg0))
      ∧ r.2.mem ((c.tc : Thread nD τ).loc main_arg0) = m ((c.tc : Thread nD τ).loc main_arg0) :=
  (θ_run defs _ _).mono (fun r h c => ⟨(h c).1.trans (r0_eq _), (h c).2⟩) (Cert.CActRefIdeal.Value.run m ρ)

end Cert.CActRefIdeal.Val

end
-- ==== Proof.CActVal.lean ====
module

public import proofs.«01_k».proof.Proof.Gen.CAct.Skeleton
public import proofs.«01_k».proof.Proof.Gen.CAct.Launch
public import proofs.«01_k».proof.Proof.Gen.CAct.Points
public import proofs.«01_k».proof.Proof.Gen.CAct.Frame
public import proofs.«01_k».proof.Proof.Gen.CActIdeal.Skeleton
public import proofs.«01_k».proof.Proof.Gen.CActIdeal.Frame
public import proofs.«01_k».proof.Proof.Gen.CActIdeal.Value
public import Idealize.ShloMosaic.Lib.Pipeline.ValueKit
public import proofs.«01_k».proof.Proof.StepSpec

@[expose] public section

set_option maxRecDepth 16384

noncomputable section

namespace Cert.CActIdeal.Val

open Cert.CActIdeal Cert.CActIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![0, 0, 0] ∧ win0_1.index t = ![0, 0, 0] :=
  (by decide +kernel : ∀ t : Fin grid0.N, _)

theorem b0 (c : Dev nD) (t : Fin cfg0.N) (r : Fin 128) (l : Fin 1024) :
    iblk m c 0 t (ix3 0 r l) = m ((c : Thread nD τ).loc main_arg0) (ix3 0 r l) := by
  blk_point [iblk, V, idx t]

theorem e1 (t : Fin cfg0.N) (y : S1x128x1024.Idx) : (win0_1.blk t).view.emb y = ix3 (0 : Fin 1) (y 1 : Fin 128) (y 2 : Fin 1024) := by
  blk_ext [idx t]

/-- What the point writes, from its block. -/
theorem p1 (x0 : FVec Ideal S1x128x1024 .f32) (y : S1x128x1024.Idx) :
    out0_1 (F := Ideal) x0 y = x0 (ix3 0 (y 1 : Fin 128) (y 2 : Fin 1024)) * Cert.Vec.sig (x0 (ix3 0 (y 1 : Fin 128) (y 2 : Fin 1024))) := by
  unfold out0_1
  frame_out
  idx_vars y
  open_payloads
  pointwise [Cert.Vec.sig]
  simp only [zero_sub]

/-- The kernel's result is the activation. -/
theorem final1 (c : Dev nD) : (dats m 0 c).arrAt 1 (cfgs 0).N = Cert.Vec.cact (m ((c : Thread nD τ).loc main_arg0)) := by
  refine (dats m 0 c).arrAt_eq_of_covers 1 _ (by decide +kernel) fun t hf y => ?_
  blk_simp
  rw [after0_1, e1]
  refine (p1 _ y).trans ?_
  rw [b0 m c t (y 1) (y 2)]
  rfl

end Cert.CActIdeal.Val

end
-- ==== Proof.ModMmRef.lean ====
module

public import proofs.«01_k».proof.Proof.Gen.ModMmRefIdeal
public import proofs.«01_k».proof.Proof.Gen.ModMmRefIdeal.Run
public import Idealize.ShloMosaic.Lib.Pipeline.ValueKit
public import Idealize.ShloMosaic.Lib.Claim
public import proofs.«01_k».proof.Proof.MmSpec

@[expose] public section

set_option maxRecDepth 16384

noncomputable section

namespace Cert.ModMmRefIdeal.Val

open Cert.ModMmRefIdeal Cert.ModMmRefIdeal.Gen Idealize.ShloMosaic Idealize.ShloMosaic.TcCoe Idealize.SL.Sem

/-- The reference's result. -/
def r0 (X0 : FVec Ideal S128x1024 .f32) (X1 : FVec Ideal S1024x1536 .f32) : FVec Ideal S128x1536 .f32 :=
  Host.dotGeneral dot_S128x1024_S1024x1536_S128x1536_1_0_0_1_n_n none X0 X1

theorem r0_eq (X0 X1) : r0 X0 X1 = Cert.Mm.nn X0 X1 := by
  funext i; idx_vars i
  pointwise [r0, Cert.Mm.nn]

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v0) = Cert.Mm.nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.ModMmRefIdeal.Value.run m ρ)

end Cert.ModMmRefIdeal.Val

end
-- ==== Proof.ModMmVal.lean ====
module

public import proofs.«01_k».proof.Proof.Gen.ModMmIdeal.Frame
public import Idealize.ShloMosaic.Lib.Pipeline.ValueKit
public import proofs.«01_k».proof.Proof.MmSpec

@[expose] public section

set_option maxRecDepth 16384

noncomputable section

namespace Cert.ModMmIdeal.Val

open Cert.ModMmIdeal Cert.ModMmIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at the one point. -/
theorem idx : ∀ t : Fin cfg0.N, win0_0.index t = ![0, 0] ∧ win0_1.index t = ![0, 0] ∧ win0_2.index t = ![0, 0] :=
  (by decide +kernel : ∀ t : Fin grid0.N, _)

theorem b0 (c : Dev nD) (t : Fin cfg0.N) (r : Fin 128) (k : Fin 1024) :
    iblk m c 0 t (ix2 r k) = m ((c : Thread nD τ).loc main_arg0) (ix2 r k) := by
  blk_point [iblk, V, idx t]

theorem b1 (c : Dev nD) (t : Fin cfg0.N) (r : Fin 1024) (k : Fin 1536) :
    iblk m c 1 t (ix2 r k) = m ((c : Thread nD τ).loc main_arg1) (ix2 r k) := by
  blk_point [iblk, V, idx t]

theorem e2 (t : Fin cfg0.N) (y : S128x1536.Idx) : (win0_2.blk t).view.emb y = ix2 (y 0 : Fin 128) (y 1 : Fin 1536) := by
  blk_ext [idx t]

/-- What the point writes. -/
theorem p2 (c : Dev nD) (t : Fin cfg0.N) (y : S128x1536.Idx) :
    outsAt0 m c t y = Cert.Mm.nn (a := 128) (k := 1024) (b := 1536) (iblk m c 0 t) (iblk m c 1 t) y := by
  unfold outsAt0
  frame_out
  idx_vars y
  open_payloads
  pointwise [Cert.Mm.nn]

/-- The kernel's result is the matrix product. -/
theorem final2 (c : Dev nD) : (dats m 0 c).arrAt 2 (cfgs 0).N
    = Cert.Mm.nn (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (fun a b : EReal => a * b) (b0 m c t _ _) (b1 m c t _ _)

end Cert.ModMmIdeal.Val

end
-- ==== Proof.ModDwRef.lean ====
module

public import proofs.«01_k».proof.Proof.Gen.ModDwRefIdeal
public import proofs.«01_k».proof.Proof.Gen.ModDwRefIdeal.Run
public import Idealize.ShloMosaic.Lib.Pipeline.ValueKit
public import Idealize.ShloMosaic.Lib.Claim
public import proofs.«01_k».proof.Proof.MmSpec

@[expose] public section

set_option maxRecDepth 16384

noncomputable section

namespace Cert.ModDwRefIdeal.Val

open Cert.ModDwRefIdeal Cert.ModDwRefIdeal.Gen Idealize.ShloMosaic Idealize.ShloMosaic.TcCoe Idealize.SL.Sem

/-- The reference's result. -/
def r0 (X0 : FVec Ideal S128x1024 .f32) (X1 : FVec Ideal S128x1536 .f32) : FVec Ideal S1024x1536 .f32 :=
  transpose S1024x1536 [1, 0] (Host.dotGeneral dot_S128x1536_S128x1024_S1536x1024_0_0_1_1_n_n none X1 X0) transposes_S1536x1024_S1024x1536_1_0

theorem r0_eq (X0 X1) : r0 X0 X1 = Cert.Mm.tn X0 X1 := by
  funext i; idx_vars i
  pointwise [r0, Cert.Mm.tn]
  exact Finset.sum_congr rfl fun k _ => mul_comm _ _

variable (m : (ℓ : Loc nD τ sig) → Buf (Elt Ideal) ℓ) (ρ : Dev nD → PrngReg)

/-- The reference's run: its result in closed form, and its arguments unchanged. -/
theorem run : θ_run defs (onTc (τ := τ) (main (F := Ideal))) ⟨m, fun _ => 0, ρ⟩ fun r => ∀ c : Dev nD,
      r.2.mem ((c.tc : Thread nD τ).loc main_v3) = Cert.Mm.tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.ModDwRefIdeal.Value.run m ρ)

end Cert.ModDwRefIdeal.Val

end
-- ==== Proof.ModDwVal.lean ====
module

public import proofs.«01_k».proof.Proof.Gen.ModDwIdeal.Frame
public import Idealize.ShloMosaic.Lib.Pipeline.ValueKit
public import proofs.«01_k».proof.Proof.MmSpec

@[expose] public section

set_option maxRecDepth 16384

noncomputable section

namespace Cert.ModDwIdeal.Val

open Cert.ModDwIdeal Cert.ModDwIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at the one point. -/
theorem idx : ∀ t : Fin cfg0.N, win0_0.index t = ![0, 0] ∧ win0_1.index t = ![0, 0] ∧ win0_2.index t = ![0, 0] :=
  (by decide +kernel : ∀ t : Fin grid0.N, _)

theorem b0 (c : Dev nD) (t : Fin cfg0.N) (r : Fin 128) (k : Fin 1024) :
    iblk m c 0 t (ix2 r k) = m ((c : Thread nD τ).loc main_arg0) (ix2 r k) := by
  blk_point [iblk, V, idx t]

theorem b1 (c : Dev nD) (t : Fin cfg0.N) (r : Fin 128) (k : Fin 1536) :
    iblk m c 1 t (ix2 r k) = m ((c : Thread nD τ).loc main_arg1) (ix2 r k) := by
  blk_point [iblk, V, idx t]

theorem e2 (t : Fin cfg0.N) (y : S1024x1536.Idx) : (win0_2.blk t).view.emb y = ix2 (y 0 : Fin 1024) (y 1 : Fin 1536) := by
  blk_ext [idx t]

/-- What the point writes. -/
theorem p2 (c : Dev nD) (t : Fin cfg0.N) (y : S1024x1536.Idx) :
    outsAt0 m c t y = Cert.Mm.tn (k := 128) (a := 1024) (b := 1536) (iblk m c 0 t) (iblk m c 1 t) y := by
  unfold outsAt0
  frame_out
  idx_vars y
  open_payloads
  pointwise [Cert.Mm.tn]

/-- The kernel's result is the product with the transposed first matrix. -/
theorem final2 (c : Dev nD) : (dats m 0 c).arrAt 2 (cfgs 0).N
    = Cert.Mm.tn (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 m c t y).trans (Finset.sum_congr rfl fun k _ => ?_)
  exact congrArg₂ (fun a b : EReal => a * b) (b0 m c t _ _) (b1 m c t _ _)

end Cert.ModDwIdeal.Val

end
-- ==== Proof.ModBiasRef.lean ====
module

public import proofs.«01_k».proof.Proof.Gen.ModBiasRefIdeal
public import proofs.«01_k».proof.Proof.Gen.ModBiasRefIdeal.Run
public import Idealize.ShloMosaic.Lib.Pipeline.ValueKit
public import Idealize.ShloMosaic.Lib.Claim
public import proofs.«01_k».proof.Proof.StepSpec

@[expose] public section

set_option maxRecDepth 16384

noncomputable section

namespace Cert.ModBiasRefIdeal.Val

open Cert.ModBiasRefIdeal Cert.ModBiasRefIdeal.Gen Idealize.ShloMosaic Idealize.ShloMosaic.TcCoe Idealize.SL.Sem

/-- The reference's result. -/
def r0 (X0 : FVec Ideal S4x2x6144 .f32) (X1 : FVec Ideal S4x6144 .f32) : FVec Ideal S4x2x6144 .f32 :=
  addf X0 (broadcastInDim S4x2x6144 ![0, 1, 2] bcast_S4x1x6144_S4x2x6144_0_1_2 (broadcastInDim S4x1x6144 ![0, 2] bcast_S4x6144_S4x1x6144_0_2 X1))

theorem r0_eq (X0 X1) : r0 X0 X1 = Cert.Vec.biased X0 X1 := by
  funext i; idx_vars i
  pointwise [r0, Cert.Vec.biased]

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v2) = Cert.Vec.biased (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (r0_eq _ _), (h c).2⟩) (Cert.ModBiasRefIdeal.Value.run m ρ)

end Cert.ModBiasRefIdeal.Val

end
-- ==== Proof.ModBiasVal.lean ====
module

public import proofs.«01_k».proof.Proof.Gen.ModBias.Skeleton
public import proofs.«01_k».proof.Proof.Gen.ModBias.Launch
public import proofs.«01_k».proof.Proof.Gen.ModBias.Points
public import proofs.«01_k».proof.Proof.Gen.ModBias.Frame
public import proofs.«01_k».proof.Proof.Gen.ModBiasIdeal.Skeleton
public import proofs.«01_k».proof.Proof.Gen.ModBiasIdeal.Frame
public import proofs.«01_k».proof.Proof.Gen.ModBiasIdeal.Value
public import Idealize.ShloMosaic.Lib.Pipeline.ValueKit
public import proofs.«01_k».proof.Proof.StepSpec

@[expose] public section

set_option maxRecDepth 16384

noncomputable section

namespace Cert.ModBiasIdeal.Val

open Cert.ModBiasIdeal Cert.ModBiasIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

theorem b0 (c : Dev nD) (t : Fin cfg0.N) (r : Fin 2) (l : Fin 6144) :
    iblk m c 0 t (ix3 0 r l) = m ((c : Thread nD τ).loc main_arg0) (ix3 (t : Fin 4) r l) := by
  blk_point [iblk, V, idx t]

theorem b1 (c : Dev nD) (t : Fin cfg0.N) (l : Fin 6144) :
    iblk m c 1 t (ix3 0 0 l) = m ((c : Thread nD τ).loc main_arg1) (ix2 (t : Fin 4) l) := by
  blk_simp [iblk]
  entry_read
  pointwise
  blk_ext [idx t]

theorem e2 (t : Fin cfg0.N) (y : S1x2x6144.Idx) : (win0_2.blk t).view.emb y = ix3 (t : Fin 4) (y 1 : Fin 2) (y 2 : Fin 6144) := by
  blk_ext [idx t]

/-- What a point writes, from its blocks. -/
theorem p2 (x0 : FVec Ideal S1x2x6144 .f32) (x1 : FVec Ideal S1x1x6144 .f32) (y : S1x2x6144.Idx) :
    out0_2 (F := Ideal) x0 x1 y = x0 (ix3 0 (y 1 : Fin 2) (y 2 : Fin 6144)) + x1 (ix3 0 0 (y 2 : Fin 6144)) := by
  unfold out0_2
  frame_out
  idx_vars y
  open_payloads
  pointwise

/-- The kernel's result is the modulation with its bias. -/
theorem final2 (c : Dev nD) : (dats m 0 c).arrAt 2 (cfgs 0).N
    = Cert.Vec.biased (m ((c : Thread nD τ).loc main_arg0)) (m ((c : Thread nD τ).loc main_arg1)) := by
  refine (dats m 0 c).arrAt_eq_of_covers 2 _ (by decide +kernel) fun t hf y => ?_
  blk_simp
  rw [after0_2, e2]
  refine (p2 _ _ y).trans ?_
  rw [b0 m c t (y 1) (y 2), b1 m c t (y 2)]
  rfl

end Cert.ModBiasIdeal.Val

end
-- ==== Proof.LnBRef.lean ====
module

public import proofs.«01_k».proof.Proof.Gen.LnBRefIdeal
public import proofs.«01_k».proof.Proof.Gen.LnBRefIdeal.Run
public import Idealize.ShloMosaic.Lib.Pipeline.ValueKit
public import Idealize.ShloMosaic.Lib.Claim
public import proofs.«01_k».proof.Proof.StepSpec

@[expose] public section

set_option maxRecDepth 16384

noncomputable section

namespace Cert.LnBRefIdeal.Val

open Cert.LnBRefIdeal Cert.LnBRefIdeal.Gen Idealize.ShloMosaic Idealize.ShloMosaic.TcCoe Idealize.SL.Sem

/-- The mean of every row, as a column. -/
def mean (R : FVec Ideal S2x4096x1024 .f32) : FVec Ideal S2x4096x1 .f32 :=
  Host.divf (broadcastInDim S2x4096x1 ![0, 1] bcast_S2x4096_S2x4096x1_0_1 (Host.reduceAdd R (constant S_ .f32 0x00000000#32) reducesTo_S2x4096x1024_S2x4096_d2 h_S_)) (broadcastInDim S2x4096x1 ![] bcast_S_S2x4096x1 (constant S_ .f32 0x44800000#32))

/-- Every row less its mean. -/
def cen (R : FVec Ideal S2x4096x1024 .f32) : FVec Ideal S2x4096x1024 .f32 :=
  subf R (broadcastInDim S2x4096x1024 ![0, 1, 2] bcast_S2x4096x1_S2x4096x1024_0_1_2 (mean R))

/-- The normalised rows with weight and shift. -/
def nrm (R : FVec Ideal S2x4096x1024 .f32) (G B : FVec Ideal S1x1024 .f32) : FVec Ideal S2x4096x1024 .f32 :=
  addf (mulf (mulf (cen R) (broadcastInDim S2x4096x1024 ![0, 1, 2] bcast_S2x4096x1_S2x4096x1024_0_1_2 (Host.rsqrt (addf (mean (mulf (cen R) (cen R))) (broadcastInDim S2x4096x1 ![] bcast_S_S2x4096x1 (constant S_ .f32 0x3727C5AC#32)))))) (broadcastInDim S2x4096x1024 ![0, 1, 2] bcast_S1x1x1024_S2x4096x1024_0_1_2 (broadcastInDim S1x1x1024 ![1, 2] bcast_S1x1024_S1x1x1024_1_2 G))) (broadcastInDim S2x4096x1024 ![0, 1, 2] bcast_S1x1x1024_S2x4096x1024_0_1_2 (broadcastInDim S1x1x1024 ![1, 2] bcast_S1x1024_S1x1x1024_1_2 B))

theorem cen_eq (R) (a : Fin 2) (p : Fin 4096) (l : Fin 1024) : cen R (ix3 a p l) = Cert.Vec.cen (fun k => R (ix3 a p k)) l := by
  pointwise [cen, mean, Cert.Vec.cen, Cert.Vec.feats]

theorem nrm_eq (R G B) (i : S2x4096x1024.Idx) : nrm R G B i = Cert.Vec.ln R G B i := by
  idx_vars i
  pointwise [nrm, mean, Cert.Vec.ln, Cert.Vec.lnRow, Cert.Vec.feats, Cert.Vec.eps]
  simp only [cen_eq]

/-- The residual sum. -/
def rs (X0 X1 : FVec Ideal S2x4096x1024 .f32) (X2 : FVec Ideal S2x1x1024 .f32) : FVec Ideal S2x4096x1024 .f32 :=
  addf (mulf (broadcastInDim S2x4096x1024 ![] bcast_S_S2x4096x1024 (constant S_ .f32 0x3FD744FD#32)) X0) (mulf (broadcastInDim S2x4096x1024 ![0, 1, 2] bcast_S2x1x1024_S2x4096x1024_0_1_2 (addf (broadcastInDim S2x1x1024 ![] bcast_S_S2x1x1024 (constant S_ .f32 0x3F800000#32)) X2)) X1)

/-- The branch with its bias. -/
def sh (X1 : FVec Ideal S2x4096x1024 .f32) (X5 : FVec Ideal S1x1024 .f32) : FVec Ideal S2x4096x1024 .f32 :=
  addf X1 (broadcastInDim S2x4096x1024 ![0, 1, 2] bcast_S1x1x1024_S2x4096x1024_0_1_2 (broadcastInDim S1x1x1024 ![1, 2] bcast_S1x1024_S1x1x1024_1_2 X5))

/-- The reference's first result. -/
def r0 (X0 X1 : FVec Ideal S2x4096x1024 .f32) (X2 : FVec Ideal S2x1x1024 .f32) (X3 X4 X5 : FVec Ideal S1x1024 .f32) : FVec Ideal S2x4096x1024 .f32 :=
  nrm (rs X0 (sh X1 X5) X2) X3 X4

/-- The reference's second result. -/
def r1 (X0 X1 : FVec Ideal S2x4096x1024 .f32) (X2 : FVec Ideal S2x1x1024 .f32) (X3 X4 X5 : FVec Ideal S1x1024 .f32) (X6 X7 : FVec Ideal S2x1x1024 .f32) : FVec Ideal S2x4096x1024 .bf16 :=
  truncf .bf16 (addf (mulf (r0 X0 X1 X2 X3 X4 X5) (broadcastInDim S2x4096x1024 ![0, 1, 2] bcast_S2x1x1024_S2x4096x1024_0_1_2 (addf (broadcastInDim S2x1x1024 ![] bcast_S_S2x1x1024 (constant S_ .f32 0x3F800000#32)) X6))) (broadcastInDim S2x4096x1024 ![0, 1, 2] bcast_S2x1x1024_S2x4096x1024_0_1_2 X7)) bitsLt_bf16_f32

theorem rs_eq (X0 X1 X2) : rs X0 X1 X2 = Cert.Vec.resid X0 X1 X2 := by
  funext i; idx_vars i
  pointwise [rs, Cert.Vec.resid, Cert.Vec.alpha]

theorem sh_eq (X1 X5) : sh X1 X5 = Cert.Vec.shifted X1 X5 := by
  funext i; idx_vars i
  pointwise [sh, Cert.Vec.shifted]

theorem r0_eq (X0 X1 X2 X3 X4 X5) : r0 X0 X1 X2 X3 X4 X5 = Cert.Vec.rln X0 (Cert.Vec.shifted X1 X5) X2 X3 X4 := by
  funext i
  show nrm (rs X0 (sh X1 X5) X2) X3 X4 i = _
  rw [nrm_eq, rs_eq, sh_eq]
  rfl

theorem r1_eq (X0 X1 X2 X3 X4 X5 X6 X7) : r1 X0 X1 X2 X3 X4 X5 X6 X7 = Cert.Vec.rlnm X0 (Cert.Vec.shifted X1 X5) X2 X3 X4 X6 X7 := by
  unfold r1
  rw [r0_eq]
  funext i; idx_vars i
  pointwise [Cert.Vec.rlnm, Cert.Vec.modu]

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v31) = Cert.Vec.rln (m ((c.tc : Thread nD τ).loc main_arg0)) (Cert.Vec.shifted (m ((c.tc : Thread nD τ).loc main_arg1)) (m ((c.tc : Thread nD τ).loc main_arg5))) (m ((c.tc : Thread nD τ).loc main_arg2)) (m ((c.tc : Thread nD τ).loc main_arg3)) (m ((c.tc : Thread nD τ).loc main_arg4))
      ∧ r.2.mem ((c.tc : Thread nD τ).loc main_v38) = Cert.Vec.rlnm (m ((c.tc : Thread nD τ).loc main_arg0)) (Cert.Vec.shifted (m ((c.tc : Thread nD τ).loc main_arg1)) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (r0_eq _ _ _ _ _ _), (h c).2.1.trans (r1_eq _ _ _ _ _ _ _ _), (h c).2.2⟩) (Cert.LnBRefIdeal.Value.run m ρ)

end Cert.LnBRefIdeal.Val

end
-- ==== Proof.LnBVal.lean ====
module

public import proofs.«01_k».proof.Proof.Gen.LnB.Skeleton
public import proofs.«01_k».proof.Proof.Gen.LnB.Launch
public import proofs.«01_k».proof.Proof.Gen.LnB.Points
public import proofs.«01_k».proof.Proof.Gen.LnB.Frame
public import proofs.«01_k».proof.Proof.Gen.LnBIdeal.Skeleton
public import proofs.«01_k».proof.Proof.Gen.LnBIdeal.Frame
public import proofs.«01_k».proof.Proof.Gen.LnBIdeal.Value
public import Idealize.ShloMosaic.Lib.Pipeline.ValueKit
public import proofs.«01_k».proof.Proof.StepSpec

@[expose] public section

set_option maxRecDepth 16384

noncomputable section

namespace Cert.LnBIdeal.Val

open Cert.LnBIdeal Cert.LnBIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![t.val / 16 % 2, t.val % 16, 0] ∧ win0_2.index t = ![t.val / 16 % 2, 0, 0] ∧ win0_3.index t = ![t.val / 16 % 2, 0, 0] ∧ win0_4.index t = ![t.val / 16 % 2, 0, 0] ∧ win0_5.index t = ![0, 0] ∧ win0_6.index t = ![0, 0] ∧ win0_7.index t = ![0, 0] ∧ win0_8.index t = ![t.val / 16 % 2, t.val % 16, 0] ∧ win0_9.index t = ![t.val / 16 % 2, t.val % 16, 0] :=
  (by decide +kernel : ∀ t : Fin grid0.N, _)

theorem b0 (c : Dev nD) (t : Fin cfg0.N) (r : Fin 256) (l : Fin 1024) :
    iblk m c 0 t (ix3 0 r l) = m ((c : Thread nD τ).loc main_arg0) (ix3 (bt t) (pos t r) l) := by
  unfold bt pos
  blk_point [iblk, V, idx t]

theorem b1 (c : Dev nD) (t : Fin cfg0.N) (r : Fin 256) (l : Fin 1024) :
    iblk m c 1 t (ix3 0 r l) = m ((c : Thread nD τ).loc main_arg1) (ix3 (bt t) (pos t r) l) := by
  unfold bt pos
  blk_point [iblk, V, idx t]

theorem b2 (c : Dev nD) (t : Fin cfg0.N) (l : Fin 1024) :
    iblk m c 2 t (ix3 0 0 l) = m ((c : Thread nD τ).loc main_arg2) (ix3 (bt t) 0 l) := by
  unfold bt
  blk_point [iblk, V, idx t]

theorem b3 (c : Dev nD) (t : Fin cfg0.N) (l : Fin 1024) :
    iblk m c 3 t (ix3 0 0 l) = m ((c : Thread nD τ).loc main_arg6) (ix3 (bt t) 0 l) := by
  unfold bt
  blk_point [iblk, V, idx t]

theorem b4 (c : Dev nD) (t : Fin cfg0.N) (l : Fin 1024) :
    iblk m c 4 t (ix3 0 0 l) = m ((c : Thread nD τ).loc main_arg7) (ix3 (bt t) 0 l) := by
  unfold bt
  blk_point [iblk, V, idx t]

theorem b5 (c : Dev nD) (t : Fin cfg0.N) (l : Fin 1024) :
    iblk m c 5 t (ix2 0 l) = m ((c : Thread nD τ).loc main_arg3) (ix2 0 l) := by
  blk_point [iblk, V, idx t]

theorem b6 (c : Dev nD) (t : Fin cfg0.N) (l : Fin 1024) :
    iblk m c 6 t (ix2 0 l) = m ((c : Thread nD τ).loc main_arg4) (ix2 0 l) := by
  blk_point [iblk, V, idx t]

theorem b7 (c : Dev nD) (t : Fin cfg0.N) (l : Fin 1024) :
    iblk m c 7 t (ix2 0 l) = m ((c : Thread nD τ).loc main_arg5) (ix2 0 l) := by
  blk_point [iblk, V, idx t]

theorem e8 (t : Fin cfg0.N) (y : S1x256x1024.Idx) : (win0_8.blk t).view.emb y = ix3 (bt t) (pos t (y 1)) (y 2 : Fin 1024) := by
  unfold bt pos
  blk_ext [idx t]

theorem e9 (t : Fin cfg0.N) (y : S1x256x1024.Idx) : (win0_9.blk t).view.emb y = ix3 (bt t) (pos t (y 1)) (y 2 : Fin 1024) := by
  unfold bt pos
  blk_ext [idx t]

/-- A normalised row of a block's residual sum, with weight and shift. -/
def rowAt (x0 x1 : FVec Ideal S1x256x1024 .f32) (x2 : FVec Ideal S1x1x1024 .f32) (x5 x6 x7 : FVec Ideal S1x1024 .f32) (r : Fin 256) (l : Fin 1024) : EReal :=
  Cert.Vec.lnRow (fun l => Cert.Vec.alpha * x0 (ix3 0 r l) + (1 + x2 (ix3 0 0 l)) * (x1 (ix3 0 r l) + x7 (ix2 0 l))) l * x5 (ix2 0 l) + x6 (ix2 0 l)

/-- What a point writes to the first result, from its blocks. -/
theorem p8 (x0 x1 : FVec Ideal S1x256x1024 .f32) (x2 x3 x4 : FVec Ideal S1x1x1024 .f32) (x5 x6 x7 : FVec Ideal S1x1024 .f32) (y : S1x256x1024.Idx) :
    out0_8 (F := Ideal) x0 x1 x2 x3 x4 x5 x6 x7 y = rowAt x0 x1 x2 x5 x6 x7 (y 1) (y 2) := by
  unfold out0_8
  frame_out
  idx_vars y
  open_payloads
  pointwise [rowAt, Cert.Vec.lnRow, Cert.Vec.cen, Cert.Vec.feats, Cert.Vec.eps, Cert.Vec.alpha]

/-- What a point writes to the second result, from its blocks. -/
theorem p9 (x0 x1 : FVec Ideal S1x256x1024 .f32) (x2 x3 x4 : FVec Ideal S1x1x1024 .f32) (x5 x6 x7 : FVec Ideal S1x1024 .f32) (y : S1x256x1024.Idx) :
    out0_9 (F := Ideal) x0 x1 x2 x3 x4 x5 x6 x7 y = rowAt x0 x1 x2 x5 x6 x7 (y 1) (y 2) * (1 + x3 (ix3 0 0 (y 2 : Fin 1024))) + x4 (ix3 0 0 (y 2 : Fin 1024)) := by
  unfold out0_9
  frame_out
  idx_vars y
  open_payloads
  pointwise [rowAt, Cert.Vec.lnRow, Cert.Vec.cen, Cert.Vec.feats, Cert.Vec.eps, Cert.Vec.alpha]

theorem rowAt_eq (c : Dev nD) (t : Fin cfg0.N) (r : Fin 256) (l : Fin 1024) :
    rowAt (iblk m c 0 t) (iblk m c 1 t) (iblk m c 2 t) (iblk m c 5 t) (iblk m c 6 t) (iblk m c 7 t) r l
      = Cert.Vec.rln (m ((c : Thread nD τ).loc main_arg0)) (Cert.Vec.shifted (m ((c : Thread nD τ).loc main_arg1)) (m ((c : Thread nD τ).loc main_arg5))) (m ((c : Thread nD τ).loc main_arg2)) (m ((c : Thread nD τ).loc main_arg3)) (m ((c : Thread nD τ).loc main_arg4)) (ix3 (bt t) (pos t r) l) := by
  unfold rowAt
  simp only [b0, b1, b2, b5, b6, b7]
  rfl

/-- The normalised residual sum. -/
theorem final8 (c : Dev nD) : (dats m 0 c).arrAt 8 (cfgs 0).N
    = Cert.Vec.rln (m ((c : Thread nD τ).loc main_arg0)) (Cert.Vec.shifted (m ((c : Thread nD τ).loc main_arg1)) (m ((c : Thread nD τ).loc main_arg5))) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, e8]
  exact (p8 _ _ _ _ _ _ _ _ y).trans (rowAt_eq m c t _ _)

/-- The same, modulated. -/
theorem final9 (c : Dev nD) : (dats m 0 c).arrAt 9 (cfgs 0).N
    = Cert.Vec.rlnm (m ((c : Thread nD τ).loc main_arg0)) (Cert.Vec.shifted (m ((c : Thread nD τ).loc main_arg1)) (m ((c : Thread nD τ).loc main_arg5))) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 9 _ (by decide +kernel) fun t hf y => ?_
  blk_simp
  rw [after0_9, e9]
  refine (p9 _ _ _ _ _ _ _ _ y).trans ?_
  rw [rowAt_eq m c t (y 1) (y 2), b3 m c t (y 2), b4 m c t (y 2)]
  rfl

end Cert.LnBIdeal.Val

end
-- ==== Proof.LnLastRef.lean ====
module

public import proofs.«01_k».proof.Proof.Gen.LnLastRefIdeal
public import proofs.«01_k».proof.Proof.Gen.LnLastRefIdeal.Run
public import Idealize.ShloMosaic.Lib.Pipeline.ValueKit
public import Idealize.ShloMosaic.Lib.Claim
public import proofs.«01_k».proof.Proof.StepSpec

@[expose] public section

set_option maxRecDepth 16384

noncomputable section

namespace Cert.LnLastRefIdeal.Val

open Cert.LnLastRefIdeal Cert.LnLastRefIdeal.Gen Idealize.ShloMosaic Idealize.ShloMosaic.TcCoe Idealize.SL.Sem

/-- The mean of every row, as a column. -/
def mean (R : FVec Ideal S2x4096x1024 .f32) : FVec Ideal S2x4096x1 .f32 :=
  Host.divf (broadcastInDim S2x4096x1 ![0, 1] bcast_S2x4096_S2x4096x1_0_1 (Host.reduceAdd R (constant S_ .f32 0x00000000#32) reducesTo_S2x4096x1024_S2x4096_d2 h_S_)) (broadcastInDim S2x4096x1 ![] bcast_S_S2x4096x1 (constant S_ .f32 0x44800000#32))

/-- Every row less its mean. -/
def cen (R : FVec Ideal S2x4096x1024 .f32) : FVec Ideal S2x4096x1024 .f32 :=
  subf R (broadcastInDim S2x4096x1024 ![0, 1, 2] bcast_S2x4096x1_S2x4096x1024_0_1_2 (mean R))

/-- The normalised rows with weight and shift. -/
def nrm (R : FVec Ideal S2x4096x1024 .f32) (G B : FVec Ideal S1x1024 .f32) : FVec Ideal S2x4096x1024 .f32 :=
  addf (mulf (mulf (cen R) (broadcastInDim S2x4096x1024 ![0, 1, 2] bcast_S2x4096x1_S2x4096x1024_0_1_2 (Host.rsqrt (addf (mean (mulf (cen R) (cen R))) (broadcastInDim S2x4096x1 ![] bcast_S_S2x4096x1 (constant S_ .f32 0x3727C5AC#32)))))) (broadcastInDim S2x4096x1024 ![0, 1, 2] bcast_S1x1x1024_S2x4096x1024_0_1_2 (broadcastInDim S1x1x1024 ![1, 2] bcast_S1x1024_S1x1x1024_1_2 G))) (broadcastInDim S2x4096x1024 ![0, 1, 2] bcast_S1x1x1024_S2x4096x1024_0_1_2 (broadcastInDim S1x1x1024 ![1, 2] bcast_S1x1024_S1x1x1024_1_2 B))

theorem cen_eq (R) (a : Fin 2) (p : Fin 4096) (l : Fin 1024) : cen R (ix3 a p l) = Cert.Vec.cen (fun k => R (ix3 a p k)) l := by
  pointwise [cen, mean, Cert.Vec.cen, Cert.Vec.feats]

theorem nrm_eq (R G B) (i : S2x4096x1024.Idx) : nrm R G B i = Cert.Vec.ln R G B i := by
  idx_vars i
  pointwise [nrm, mean, Cert.Vec.ln, Cert.Vec.lnRow, Cert.Vec.feats, Cert.Vec.eps]
  simp only [cen_eq]

/-- The residual sum. -/
def rs (X0 X1 : FVec Ideal S2x4096x1024 .f32) (X2 : FVec Ideal S2x1x1024 .f32) : FVec Ideal S2x4096x1024 .f32 :=
  addf (mulf (broadcastInDim S2x4096x1024 ![] bcast_S_S2x4096x1024 (constant S_ .f32 0x3FD744FD#32)) X0) (mulf (broadcastInDim S2x4096x1024 ![0, 1, 2] bcast_S2x1x1024_S2x4096x1024_0_1_2 (addf (broadcastInDim S2x1x1024 ![] bcast_S_S2x1x1024 (constant S_ .f32 0x3F800000#32)) X2)) X1)

/-- The reference's result. -/
def r0 (X0 X1 : FVec Ideal S2x4096x1024 .f32) (X2 : FVec Ideal S2x1x1024 .f32) (X3 X4 : FVec Ideal S1x1024 .f32) : FVec Ideal S2x4096x1024 .f32 :=
  nrm (rs X0 X1 X2) X3 X4

theorem rs_eq (X0 X1 X2) : rs X0 X1 X2 = Cert.Vec.resid X0 X1 X2 := by
  funext i; idx_vars i
  pointwise [rs, Cert.Vec.resid, Cert.Vec.alpha]

theorem r0_eq (X0 X1 X2 X3 X4) : r0 X0 X1 X2 X3 X4 = Cert.Vec.rln X0 X1 X2 X3 X4 := by
  funext i
  show nrm (rs X0 X1 X2) X3 X4 i = _
  rw [nrm_eq, rs_eq]
  rfl

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v28) = Cert.Vec.rln (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (r0_eq _ _ _ _ _), (h c).2⟩) (Cert.LnLastRefIdeal.Value.run m ρ)

end Cert.LnLastRefIdeal.Val

end
-- ==== Proof.LnLastVal.lean ====
module

public import proofs.«01_k».proof.Proof.Gen.LnLast.Skeleton
public import proofs.«01_k».proof.Proof.Gen.LnLast.Launch
public import proofs.«01_k».proof.Proof.Gen.LnLast.Points
public import proofs.«01_k».proof.Proof.Gen.LnLast.Frame
public import proofs.«01_k».proof.Proof.Gen.LnLastIdeal.Skeleton
public import proofs.«01_k».proof.Proof.Gen.LnLastIdeal.Frame
public import proofs.«01_k».proof.Proof.Gen.LnLastIdeal.Value
public import Idealize.ShloMosaic.Lib.Pipeline.ValueKit
public import proofs.«01_k».proof.Proof.StepSpec

@[expose] public section

set_option maxRecDepth 16384

noncomputable section

namespace Cert.LnLastIdeal.Val

open Cert.LnLastIdeal Cert.LnLastIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![t.val / 16 % 2, t.val % 16, 0] ∧ win0_2.index t = ![t.val / 16 % 2, 0, 0] ∧ win0_3.index t = ![0, 0] ∧ win0_4.index t = ![0, 0] ∧ win0_5.index t = ![t.val / 16 % 2, t.val % 16, 0] :=
  (by decide +kernel : ∀ t : Fin grid0.N, _)

theorem b0 (c : Dev nD) (t : Fin cfg0.N) (r : Fin 256) (l : Fin 1024) :
    iblk m c 0 t (ix3 0 r l) = m ((c : Thread nD τ).loc main_arg0) (ix3 (bt t) (pos t r) l) := by
  unfold bt pos
  blk_point [iblk, V, idx t]

theorem b1 (c : Dev nD) (t : Fin cfg0.N) (r : Fin 256) (l : Fin 1024) :
    iblk m c 1 t (ix3 0 r l) = m ((c : Thread nD τ).loc main_arg1) (ix3 (bt t) (pos t r) l) := by
  unfold bt pos
  blk_point [iblk, V, idx t]

theorem b2 (c : Dev nD) (t : Fin cfg0.N) (l : Fin 1024) :
    iblk m c 2 t (ix3 0 0 l) = m ((c : Thread nD τ).loc main_arg2) (ix3 (bt t) 0 l) := by
  unfold bt
  blk_point [iblk, V, idx t]

theorem b3 (c : Dev nD) (t : Fin cfg0.N) (l : Fin 1024) :
    iblk m c 3 t (ix2 0 l) = m ((c : Thread nD τ).loc main_arg3) (ix2 0 l) := by
  blk_point [iblk, V, idx t]

theorem b4 (c : Dev nD) (t : Fin cfg0.N) (l : Fin 1024) :
    iblk m c 4 t (ix2 0 l) = m ((c : Thread nD τ).loc main_arg4) (ix2 0 l) := by
  blk_point [iblk, V, idx t]

theorem e5 (t : Fin cfg0.N) (y : S1x256x1024.Idx) : (win0_5.blk t).view.emb y = ix3 (bt t) (pos t (y 1)) (y 2 : Fin 1024) := by
  unfold bt pos
  blk_ext [idx t]

/-- A normalised row of a block's residual sum, with weight and shift. -/
def rowAt (x0 x1 : FVec Ideal S1x256x1024 .f32) (x2 : FVec Ideal S1x1x1024 .f32) (x5 x6 : FVec Ideal S1x1024 .f32) (r : Fin 256) (l : Fin 1024) : EReal :=
  Cert.Vec.lnRow (fun l => Cert.Vec.alpha * x0 (ix3 0 r l) + (1 + x2 (ix3 0 0 l)) * x1 (ix3 0 r l)) l * x5 (ix2 0 l) + x6 (ix2 0 l)

/-- What a point writes, from its blocks. -/
theorem p5 (x0 x1 : FVec Ideal S1x256x1024 .f32) (x2 : FVec Ideal S1x1x1024 .f32) (x3 x4 : FVec Ideal S1x1024 .f32) (y : S1x256x1024.Idx) :
    out0_5 (F := Ideal) x0 x1 x2 x3 x4 y = rowAt x0 x1 x2 x3 x4 (y 1) (y 2) := by
  unfold out0_5
  frame_out
  idx_vars y
  open_payloads
  pointwise [rowAt, Cert.Vec.lnRow, Cert.Vec.cen, Cert.Vec.feats, Cert.Vec.eps, Cert.Vec.alpha]

theorem rowAt_eq (c : Dev nD) (t : Fin cfg0.N) (r : Fin 256) (l : Fin 1024) :
    rowAt (iblk m c 0 t) (iblk m c 1 t) (iblk m c 2 t) (iblk m c 3 t) (iblk m c 4 t) r l
      = Cert.Vec.rln (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) (pos t r) l) := by
  unfold rowAt
  simp only [b0, b1, b2, b3, b4]
  rfl

/-- The normalised residual sum. -/
theorem final5 (c : Dev nD) : (dats m 0 c).arrAt 5 (cfgs 0).N
    = Cert.Vec.rln (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, e5]
  exact (p5 _ _ _ _ _ y).trans (rowAt_eq m c t _ _)

end Cert.LnLastIdeal.Val

end
-- ==== Proof.GmActRef.lean ====
module

public import proofs.«01_k».proof.Proof.Gen.GmActRefIdeal
public import proofs.«01_k».proof.Proof.Gen.GmActRefIdeal.Run
public import Idealize.ShloMosaic.Lib.Pipeline.ValueKit
public import Idealize.ShloMosaic.Lib.Claim
public import proofs.«01_k».proof.Proof.StepSpec

@[expose] public section

set_option maxRecDepth 16384

noncomputable section

namespace Cert.GmActRefIdeal.Val

open Cert.GmActRefIdeal Cert.GmActRefIdeal.Gen Idealize.ShloMosaic Idealize.ShloMosaic.TcCoe Idealize.SL.Sem

/-- The mean of every row, as a column. -/
def mean (R : FVec Ideal S2x4096x1024 .f32) : FVec Ideal S2x4096x1 .f32 :=
  Host.divf (broadcastInDim S2x4096x1 ![0, 1] bcast_S2x4096_S2x4096x1_0_1 (Host.reduceAdd R (constant S_ .f32 0x00000000#32) reducesTo_S2x4096x1024_S2x4096_d2 h_S_)) (broadcastInDim S2x4096x1 ![] bcast_S_S2x4096x1 (constant S_ .f32 0x44800000#32))

/-- Every row less its mean. -/
def cen (R : FVec Ideal S2x4096x1024 .f32) : FVec Ideal S2x4096x1024 .f32 :=
  subf R (broadcastInDim S2x4096x1024 ![0, 1, 2] bcast_S2x4096x1_S2x4096x1024_0_1_2 (mean R))

/-- The normalised rows with weight and shift. -/
def nrm (R : FVec Ideal S2x4096x1024 .f32) (G B : FVec Ideal S1x1024 .f32) : FVec Ideal S2x4096x1024 .f32 :=
  addf (mulf (mulf (cen R) (broadcastInDim S2x4096x1024 ![0, 1, 2] bcast_S2x4096x1_S2x4096x1024_0_1_2 (Host.rsqrt (addf (mean (mulf (cen R) (cen R))) (broadcastInDim S2x4096x1 ![] bcast_S_S2x4096x1 (constant S_ .f32 0x3727C5AC#32)))))) (broadcastInDim S2x4096x1024 ![0, 1, 2] bcast_S1x1x1024_S2x4096x1024_0_1_2 (broadcastInDim S1x1x1024 ![1, 2] bcast_S1x1024_S1x1x1024_1_2 G))) (broadcastInDim S2x4096x1024 ![0, 1, 2] bcast_S1x1x1024_S2x4096x1024_0_1_2 (broadcastInDim S1x1x1024 ![1, 2] bcast_S1x1024_S1x1x1024_1_2 B))

theorem cen_eq (R) (a : Fin 2) (p : Fin 4096) (l : Fin 1024) : cen R (ix3 a p l) = Cert.Vec.cen (fun k => R (ix3 a p k)) l := by
  pointwise [cen, mean, Cert.Vec.cen, Cert.Vec.feats]

theorem nrm_eq (R G B) (i : S2x4096x1024.Idx) : nrm R G B i = Cert.Vec.ln R G B i := by
  idx_vars i
  pointwise [nrm, mean, Cert.Vec.ln, Cert.Vec.lnRow, Cert.Vec.feats, Cert.Vec.eps]
  simp only [cen_eq]

/-- The activated biased product. -/
def z (X0 : FVec Ideal S2x4096x2048 .f32) (X1 : FVec Ideal S1x2048 .f32) : FVec Ideal S2x4096x2048 .f32 :=
  mulf (mulf (broadcastInDim S2x4096x2048 ![] bcast_S_S2x4096x2048 (constant S_ .f32 0x3F000000#32)) (addf X0 (broadcastInDim S2x4096x2048 ![0, 1, 2] bcast_S1x1x2048_S2x4096x2048_0_1_2 (broadcastInDim S1x1x2048 ![1, 2] bcast_S1x2048_S1x1x2048_1_2 X1)))) (Host.erfc (mulf (Host.negf (addf X0 (broadcastInDim S2x4096x2048 ![0, 1, 2] bcast_S1x1x2048_S2x4096x2048_0_1_2 (broadcastInDim S1x1x2048 ![1, 2] bcast_S1x2048_S1x1x2048_1_2 X1)))) (broadcastInDim S2x4096x2048 ![] bcast_S_S2x4096x2048 (constant S_ .f32 0x3F3504F3#32))))

/-- The right half of the activated product. -/
def vv (X0 : FVec Ideal S2x4096x2048 .f32) (X1 : FVec Ideal S1x2048 .f32) : FVec Ideal S2x4096x1024 .f32 :=
  extractStridedSlice S2x4096x1024 ![0, 0, 1024] (z X0 X1) slices_S2x4096x2048_S2x4096x1024_0_0_1024

/-- The reference's first result. -/
def r0 (X0 : FVec Ideal S2x4096x2048 .f32) (X1 : FVec Ideal S1x2048 .f32) : FVec Ideal S2x4096x1024 .f32 :=
  extractStridedSlice S2x4096x1024 ![0, 0, 0] (z X0 X1) slices_S2x4096x2048_S2x4096x1024_0_0_0

/-- The reference's second result. -/
def r1 (X0 : FVec Ideal S2x4096x2048 .f32) (X1 : FVec Ideal S1x2048 .f32) (X2 X3 : FVec Ideal S1x1024 .f32) : FVec Ideal S2x4096x1024 .bf16 :=
  truncf .bf16 (nrm (vv X0 X1) X2 X3) bitsLt_bf16_f32

/-- The complementary error function at the negated argument is one plus the error function. -/
theorem z_eq (X0 X1) (i : S2x4096x2048.Idx) : z X0 X1 i = Cert.Vec.gz X0 X1 i := by
  idx_vars i
  pointwise [z, Cert.Vec.gz, Cert.Vec.gelu, Cert.Vec.half, Cert.Vec.rt]
  rw [neg_mul, Ideal.erfc_neg]

theorem vv_eq (X0 X1) : vv X0 X1 = Cert.Vec.gmv X0 X1 := by
  funext i; idx_vars i
  pointwise [vv, Cert.Vec.gmv, Cert.Vec.hi]
  rw [z_eq]

theorem r0_eq (X0 X1) : r0 X0 X1 = Cert.Vec.gmu X0 X1 := by
  funext i; idx_vars i
  pointwise [r0, Cert.Vec.gmu, Cert.Vec.lo]
  rw [z_eq]

theorem r1_eq (X0 X1 X2 X3) : r1 X0 X1 X2 X3 = Cert.Vec.gmvn X0 X1 X2 X3 := by
  funext i
  show nrm (vv X0 X1) X2 X3 i = _
  rw [nrm_eq, vv_eq]
  rfl

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v10) = Cert.Vec.gmu (m ((c.tc : Thread nD τ).loc main_arg0)) (m ((c.tc : Thread nD τ).loc main_arg1))
      ∧ r.2.mem ((c.tc : Thread nD τ).loc main_v34) = Cert.Vec.gmvn (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (r0_eq _ _), (h c).2.1.trans (r1_eq _ _ _ _), (h c).2.2⟩) (Cert.GmActRefIdeal.Value.run m ρ)

end Cert.GmActRefIdeal.Val

end
-- ==== Proof.GmActVal.lean ====
module

public import proofs.«01_k».proof.Proof.Gen.GmAct.Skeleton
public import proofs.«01_k».proof.Proof.Gen.GmAct.Launch
public import proofs.«01_k».proof.Proof.Gen.GmAct.Points
public import proofs.«01_k».proof.Proof.Gen.GmAct.Frame
public import proofs.«01_k».proof.Proof.Gen.GmActIdeal.Skeleton
public import proofs.«01_k».proof.Proof.Gen.GmActIdeal.Frame
public import Idealize.ShloMosaic.Lib.Pipeline.Value
public import Idealize.ShloMosaic.Lib.Pipeline.ValueKit
public import proofs.«01_k».proof.Proof.StepSpec

@[expose] public section

set_option maxRecDepth 16384

noncomputable section

namespace Cert.GmActIdeal.Val

open Cert.GmActIdeal Cert.GmActIdeal.Gen Idealize.ShloMosaic Idealize.ShloMosaic.TcCoe Idealize.SL.Sem
open Idealize.ShloMosaic.Pipeline (Dat)
open Cert.Vec (bt pos)

variable (m : (ℓ : Loc nD τ sig) → Buf (Elt Ideal) ℓ)

/-- The block each window is on at a point. -/
theorem idx : ∀ t : Fin cfg0.N, win0_0.index t = ![t.val / 16 % 2, t.val % 16, 0] ∧ win0_1.index t = ![0, 0] ∧ win0_2.index t = ![0, 0] ∧ win0_3.index t = ![0, 0] ∧ win0_4.index t = ![t.val / 16 % 2, t.val % 16, 0] ∧ win0_5.index t = ![t.val / 16 % 2, t.val % 16, 0] :=
  (by decide +kernel : ∀ t : Fin grid0.N, _)

theorem b0 (c : Dev nD) (t : Fin cfg0.N) (r : Fin 256) (l : Fin 2048) :
    iblk m c 0 t (ix3 0 r l) = m ((c : Thread nD τ).loc main_arg0) (ix3 (bt t) (pos t r) l) := by
  unfold bt pos
  blk_point [iblk, V, idx t]

theorem b1 (c : Dev nD) (t : Fin cfg0.N) (l : Fin 2048) :
    iblk m c 1 t (ix2 0 l) = m ((c : Thread nD τ).loc main_arg1) (ix2 0 l) := by
  blk_point [iblk, V, idx t]

theorem b2 (c : Dev nD) (t : Fin cfg0.N) (l : Fin 1024) :
    iblk m c 2 t (ix2 0 l) = m ((c : Thread nD τ).loc main_arg2) (ix2 0 l) := by
  blk_point [iblk, V, idx t]

theorem b3 (c : Dev nD) (t : Fin cfg0.N) (l : Fin 1024) :
    iblk m c 3 t (ix2 0 l) = m ((c : Thread nD τ).loc main_arg3) (ix2 0 l) := by
  blk_point [iblk, V, idx t]

theorem e4 (t : Fin cfg0.N) (y : S1x256x1024.Idx) : (win0_4.blk t).view.emb y = ix3 (bt t) (pos t (y 1)) (y 2 : Fin 1024) := by
  unfold bt pos
  blk_ext [idx t]

theorem e5 (t : Fin cfg0.N) (y : S1x256x1024.Idx) : (win0_5.blk t).view.emb y = ix3 (bt t) (pos t (y 1)) (y 2 : Fin 1024) := by
  unfold bt pos
  blk_ext [idx t]

/-- An activated entry of a block. -/
def zAt (x0 : FVec Ideal S1x256x2048 .f32) (x1 : FVec Ideal S1x2048 .f32) (r : Fin 256) (l : Fin 2048) : EReal :=
  Cert.Vec.gelu (x0 (ix3 0 r l) + x1 (ix2 0 l))

/-- An entry of a block's normed value branch. -/
def rowAt (x0 : FVec Ideal S1x256x2048 .f32) (x1 : FVec Ideal S1x2048 .f32) (x2 x3 : FVec Ideal S1x1024 .f32) (r : Fin 256) (l : Fin 1024) : EReal :=
  Cert.Vec.lnRow (fun l => zAt x0 x1 r (Cert.Vec.hi l)) l * x2 (ix2 0 l) + x3 (ix2 0 l)

/-- What a point writes to the first result, from its blocks. -/
theorem p4 (x0 : FVec Ideal S1x256x2048 .f32) (x1 : FVec Ideal S1x2048 .f32) (x2 x3 : FVec Ideal S1x1024 .f32) (y : S1x256x1024.Idx) :
    out0_4 (F := Ideal) x0 x1 x2 x3 y = zAt x0 x1 (y 1) (Cert.Vec.lo (y 2)) := by
  unfold out0_4
  frame_out
  idx_vars y
  open_payloads
  pointwise [zAt, Cert.Vec.gelu, Cert.Vec.half, Cert.Vec.rt, Cert.Vec.lo]
  simp only [Ideal.erf_def]

/-- What a point writes to the second result, from its blocks. -/
theorem p5 (x0 : FVec Ideal S1x256x2048 .f32) (x1 : FVec Ideal S1x2048 .f32) (x2 x3 : FVec Ideal S1x1024 .f32) (y : S1x256x1024.Idx) :
    out0_5 (F := Ideal) x0 x1 x2 x3 y = rowAt x0 x1 x2 x3 (y 1) (y 2) := by
  unfold out0_5
  frame_out
  idx_vars y
  open_payloads
  pointwise [rowAt, zAt, Cert.Vec.gelu, Cert.Vec.half, Cert.Vec.rt, Cert.Vec.hi, Cert.Vec.lnRow, Cert.Vec.cen, Cert.Vec.feats, Cert.Vec.eps]
  simp only [Ideal.erf_def]

theorem zAt_eq (c : Dev nD) (t : Fin cfg0.N) (r : Fin 256) (l : Fin 2048) :
    zAt (iblk m c 0 t) (iblk m c 1 t) r l = Cert.Vec.gz (m ((c : Thread nD τ).loc main_arg0)) (m ((c : Thread nD τ).loc main_arg1)) (ix3 (bt t) (pos t r) l) := by
  unfold zAt
  rw [b0, b1]
  rfl

theorem rowAt_eq (c : Dev nD) (t : Fin cfg0.N) (r : Fin 256) (l : Fin 1024) :
    rowAt (iblk m c 0 t) (iblk m c 1 t) (iblk m c 2 t) (iblk m c 3 t) r l
      = Cert.Vec.gmvn (m ((c : Thread nD τ).loc main_arg0)) (m ((c : Thread nD τ).loc main_arg1)) (m ((c : Thread nD τ).loc main_arg2)) (m ((c : Thread nD τ).loc main_arg3)) (ix3 (bt t) (pos t r) l) := by
  have h : (fun l => zAt (iblk m c 0 t) (iblk m c 1 t) r (Cert.Vec.hi l))
      = fun l => Cert.Vec.gmv (m ((c : Thread nD τ).loc main_arg0)) (m ((c : Thread nD τ).loc main_arg1)) (ix3 (bt t) (pos t r) l) := funext fun l => zAt_eq m c t r _
  unfold rowAt
  rw [h, b2, b3]
  rfl

/-- The gate branch. -/
theorem final4 (c : Dev nD) : (dats m 0 c).arrAt 4 (cfgs 0).N = Cert.Vec.gmu (m ((c : Thread nD τ).loc main_arg0)) (m ((c : Thread nD τ).loc main_arg1)) := by
  refine (dats m 0 c).arrAt_eq_of_covers 4 _ (by decide +kernel) fun t hf y => ?_
  blk_simp
  rw [after0_4, e4]
  exact (p4 _ _ _ _ y).trans (zAt_eq m c t _ _)

/-- The normed value branch. -/
theorem final5 (c : Dev nD) : (dats m 0 c).arrAt 5 (cfgs 0).N = Cert.Vec.gmvn (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, e5]
  exact (p5 _ _ _ _ y).trans (rowAt_eq m c t _ _)

/-- The kernel's run: its result arrays by their blocks, and its arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.GmActIdeal.Val

end
-- ==== Proof.AdamModRef.lean ====
module

public import proofs.«01_k».proof.Proof.Gen.AdamModRefIdeal
public import proofs.«01_k».proof.Proof.Gen.AdamModRefIdeal.Run
public import Idealize.ShloMosaic.Lib.Pipeline.ValueKit
public import Idealize.ShloMosaic.Lib.Claim
public import proofs.«01_k».proof.Proof.StepSpec

@[expose] public section

set_option maxRecDepth 16384

noncomputable section

namespace Cert.AdamModRefIdeal.Val

open Cert.AdamModRefIdeal Cert.AdamModRefIdeal.Gen Idealize.ShloMosaic Idealize.ShloMosaic.TcCoe Idealize.SL.Sem

/-- The new first moments, in the parameters' shape. -/
def m1 (X1 X2 : FVec Ideal S4x1024x1536 .f32) : FVec Ideal S4x1024x1536 .f32 :=
  addf (mulf (broadcastInDim S4x1024x1536 ![] bcast_S_S4x1024x1536 (constant S_ .f32 0x3F666666#32)) X2) (mulf (broadcastInDim S4x1024x1536 ![] bcast_S_S4x1024x1536 (constant S_ .f32 0x3DCCCCCD#32)) X1)

/-- The new second moments, in the parameters' shape. -/
def m2 (X1 X3 : FVec Ideal S4x1024x1536 .f32) : FVec Ideal S4x1024x1536 .f32 :=
  addf (mulf (broadcastInDim S4x1024x1536 ![] bcast_S_S4x1024x1536 (constant S_ .f32 0x3F7FBE77#32)) X3) (mulf (broadcastInDim S4x1024x1536 ![] bcast_S_S4x1024x1536 (constant S_ .f32 0x3A83126F#32)) (mulf X1 X1))

/-- The step, in the parameters' shape. -/
def st (X0 X1 X2 X3 : FVec Ideal S4x1024x1536 .f32) : FVec Ideal S4x1024x1536 .f32 :=
  mulf (broadcastInDim S4x1024x1536 ![] bcast_S_S4x1024x1536 (constant S_ .f32 0xBA83126F#32)) (addf (Host.divf (Host.divf (m1 X1 X2) (broadcastInDim S4x1024x1536 ![] bcast_S_S4x1024x1536 (constant S_ .f32 0x3F26BD02#32))) (addf (Host.sqrt (Host.divf (m2 X1 X3) (broadcastInDim S4x1024x1536 ![] bcast_S_S4x1024x1536 (constant S_ .f32 0x3C231ACC#32)))) (broadcastInDim S4x1024x1536 ![] bcast_S_S4x1024x1536 (constant S_ .f32 0x322BCC77#32)))) (mulf (broadcastInDim S4x1024x1536 ![] bcast_S_S4x1024x1536 (constant S_ .f32 0x3C23D70A#32)) X0))

/-- The reference's first result. -/
def r0 (X0 X1 X2 X3 : FVec Ideal S4x1024x1536 .f32) : FVec Ideal S1x4096x1536 .f32 := shapeCast S1x4096x1536 (st X0 X1 X2 X3) shapeCasts_S4x1024x1536_S1x4096x1536

/-- The reference's second result. -/
def r1 (X1 X2 : FVec Ideal S4x1024x1536 .f32) : FVec Ideal S1x4096x1536 .f32 := shapeCast S1x4096x1536 (m1 X1 X2) shapeCasts_S4x1024x1536_S1x4096x1536

/-- The reference's third result. -/
def r2 (X1 X3 : FVec Ideal S4x1024x1536 .f32) : FVec Ideal S1x4096x1536 .f32 := shapeCast S1x4096x1536 (m2 X1 X3) shapeCasts_S4x1024x1536_S1x4096x1536

theorem m1_eq (X1 X2) (i : S4x1024x1536.Idx) : m1 X1 X2 i = Cert.Vec.mom1 (X1 i) (X2 i) := by
  idx_vars i
  pointwise [m1, Cert.Vec.mom1]

theorem m2_eq (X1 X3) (i : S4x1024x1536.Idx) : m2 X1 X3 i = Cert.Vec.mom2 (X1 i) (X3 i) := by
  idx_vars i
  pointwise [m2, Cert.Vec.mom2]

theorem st_eq (X0 X1 X2 X3) (i : S4x1024x1536.Idx) : st X0 X1 X2 X3 i = Cert.Vec.stepOf (X0 i) (X1 i) (X2 i) (X3 i) := by
  idx_vars i
  pointwise [st, Cert.Vec.stepOf]
  rw [m1_eq, m2_eq]

theorem cast_eq (X : FVec Ideal S4x1024x1536 .f32) (i : S1x4096x1536.Idx) :
    shapeCast S1x4096x1536 X shapeCasts_S4x1024x1536_S1x4096x1536 i = X (Cert.Vec.placeMod i) := by
  idx_vars i
  pointwise [Cert.Vec.placeMod]

theorem r0_eq (X0 X1 X2 X3) : r0 X0 X1 X2 X3 = Cert.Vec.stepAt Cert.Vec.placeMod X0 X1 X2 X3 :=
  funext fun i => (cast_eq _ i).trans (st_eq X0 X1 X2 X3 _)

theorem r1_eq (X1 X2) : r1 X1 X2 = Cert.Vec.mom1At Cert.Vec.placeMod X1 X2 :=
  funext fun i => (cast_eq _ i).trans (m1_eq X1 X2 _)

theorem r2_eq (X1 X3) : r2 X1 X3 = Cert.Vec.mom2At Cert.Vec.placeMod X1 X3 :=
  funext fun i => (cast_eq _ i).trans (m2_eq X1 X3 _)

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v24) = Cert.Vec.stepAt Cert.Vec.placeMod (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v25) = Cert.Vec.mom1At Cert.Vec.placeMod (m ((c.tc : Thread nD τ).loc main_arg1)) (m ((c.tc : Thread nD τ).loc main_arg2))
      ∧ r.2.mem ((c.tc : Thread nD τ).loc main_v26) = Cert.Vec.mom2At Cert.Vec.placeMod (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (r0_eq _ _ _ _), (h c).2.1.trans (r1_eq _ _), (h c).2.2.1.trans (r2_eq _ _), (h c).2.2.2⟩) (Cert.AdamModRefIdeal.Value.run m ρ)

end Cert.AdamModRefIdeal.Val

end
-- ==== Proof.AdamModVal.lean ====
module

public import proofs.«01_k».proof.Proof.Gen.AdamMod.Skeleton
public import proofs.«01_k».proof.Proof.Gen.AdamMod.Launch
public import proofs.«01_k».proof.Proof.Gen.AdamMod.Points
public import proofs.«01_k».proof.Proof.Gen.AdamMod.Frame
public import proofs.«01_k».proof.Proof.Gen.AdamModIdeal.Skeleton
public import proofs.«01_k».proof.Proof.Gen.AdamModIdeal.Frame
public import proofs.«01_k».proof.Proof.Gen.AdamModIdeal.Value
public import Idealize.ShloMosaic.Lib.Pipeline.ValueKit
public import proofs.«01_k».proof.Proof.StepSpec

@[expose] public section

set_option maxRecDepth 16384

noncomputable section

namespace Cert.AdamModIdeal.Val

open Cert.AdamModIdeal Cert.AdamModIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

/-- Row `r` of the block a point works on. -/
def rowOf (t : Fin cfg0.N) (r : Fin 512) : Fin 4096 := ⟨t.val * 512 + r.val, by have : t.val < 8 := t.isLt; omega⟩

theorem b0 (c : Dev nD) (t : Fin cfg0.N) (r : Fin 512) (l : Fin 1536) :
    iblk m c 0 t (ix3 0 r l) = m ((c : Thread nD τ).loc main_arg0) (Cert.Vec.placeMod (ix3 (0 : Fin 1) (rowOf t r) l)) := by
  unfold Cert.Vec.placeMod rowOf
  blk_simp [iblk]
  entry_read
  pointwise
  blk_ext [idx t]

theorem b1 (c : Dev nD) (t : Fin cfg0.N) (r : Fin 512) (l : Fin 1536) :
    iblk m c 1 t (ix3 0 r l) = m ((c : Thread nD τ).loc main_arg1) (Cert.Vec.placeMod (ix3 (0 : Fin 1) (rowOf t r) l)) := by
  unfold Cert.Vec.placeMod rowOf
  blk_simp [iblk]
  entry_read
  pointwise
  blk_ext [idx t]

theorem b2 (c : Dev nD) (t : Fin cfg0.N) (r : Fin 512) (l : Fin 1536) :
    iblk m c 2 t (ix3 0 r l) = m ((c : Thread nD τ).loc main_arg2) (Cert.Vec.placeMod (ix3 (0 : Fin 1) (rowOf t r) l)) := by
  unfold Cert.Vec.placeMod rowOf
  blk_simp [iblk]
  entry_read
  pointwise
  blk_ext [idx t]

theorem b3 (c : Dev nD) (t : Fin cfg0.N) (r : Fin 512) (l : Fin 1536) :
    iblk m c 3 t (ix3 0 r l) = m ((c : Thread nD τ).loc main_arg3) (Cert.Vec.placeMod (ix3 (0 : Fin 1) (rowOf t r) l)) := by
  unfold Cert.Vec.placeMod rowOf
  blk_simp [iblk]
  entry_read
  pointwise
  blk_ext [idx t]

theorem e4 (t : Fin cfg0.N) (y : S1x512x1536.Idx) : (win0_4.blk t).view.emb y = ix3 (0 : Fin 1) (rowOf t (y 1)) (y 2 : Fin 1536) := by
  unfold rowOf
  blk_ext [idx t]

theorem e5 (t : Fin cfg0.N) (y : S1x512x1536.Idx) : (win0_5.blk t).view.emb y = ix3 (0 : Fin 1) (rowOf t (y 1)) (y 2 : Fin 1536) := by
  unfold rowOf
  blk_ext [idx t]

theorem e6 (t : Fin cfg0.N) (y : S1x512x1536.Idx) : (win0_6.blk t).view.emb y = ix3 (0 : Fin 1) (rowOf t (y 1)) (y 2 : Fin 1536) := by
  unfold rowOf
  blk_ext [idx t]

/-- What a point writes to this result, from its blocks. -/
theorem p4 (x0 x1 x2 x3 : FVec Ideal S1x512x1536 .f32) (y : S1x512x1536.Idx) :
    out0_4 (F := Ideal) x0 x1 x2 x3 y = Cert.Vec.stepOf (x0 (ix3 0 (y 1 : Fin 512) (y 2 : Fin 1536))) (x1 (ix3 0 (y 1 : Fin 512) (y 2 : Fin 1536))) (x2 (ix3 0 (y 1 : Fin 512) (y 2 : Fin 1536))) (x3 (ix3 0 (y 1 : Fin 512) (y 2 : Fin 1536))) := by
  unfold out0_4
  frame_out
  idx_vars y
  open_payloads
  pointwise [Cert.Vec.stepOf, Cert.Vec.mom1, Cert.Vec.mom2]

theorem final4 (c : Dev nD) : (dats m 0 c).arrAt 4 (cfgs 0).N
    = Cert.Vec.stepAt Cert.Vec.placeMod (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, e4]
  refine (p4 _ _ _ _ y).trans ?_
  rw [b0 m c t (y 1) (y 2), b1 m c t (y 1) (y 2), b2 m c t (y 1) (y 2), b3 m c t (y 1) (y 2)]
  rfl

/-- What a point writes to this result, from its blocks. -/
theorem p5 (x0 x1 x2 x3 : FVec Ideal S1x512x1536 .f32) (y : S1x512x1536.Idx) :
    out0_5 (F := Ideal) x0 x1 x2 x3 y = Cert.Vec.mom1 (x1 (ix3 0 (y 1 : Fin 512) (y 2 : Fin 1536))) (x2 (ix3 0 (y 1 : Fin 512) (y 2 : Fin 1536))) := by
  unfold out0_5
  frame_out
  idx_vars y
  open_payloads
  pointwise [Cert.Vec.mom1]

theorem final5 (c : Dev nD) : (dats m 0 c).arrAt 5 (cfgs 0).N
    = Cert.Vec.mom1At Cert.Vec.placeMod (m ((c : Thread nD τ).loc main_arg1)) (m ((c : Thread nD τ).loc main_arg2)) := by
  refine (dats m 0 c).arrAt_eq_of_covers 5 _ (by decide +kernel) fun t hf y => ?_
  blk_simp
  rw [after0_5, e5]
  refine (p5 _ _ _ _ y).trans ?_
  rw [b1 m c t (y 1) (y 2), b2 m c t (y 1) (y 2)]
  rfl

/-- What a point writes to this result, from its blocks. -/
theorem p6 (x0 x1 x2 x3 : FVec Ideal S1x512x1536 .f32) (y : S1x512x1536.Idx) :
    out0_6 (F := Ideal) x0 x1 x2 x3 y = Cert.Vec.mom2 (x1 (ix3 0 (y 1 : Fin 512) (y 2 : Fin 1536))) (x3 (ix3 0 (y 1 : Fin 512) (y 2 : Fin 1536))) := by
  unfold out0_6
  frame_out
  idx_vars y
  open_payloads
  pointwise [Cert.Vec.mom2]

theorem final6 (c : Dev nD) : (dats m 0 c).arrAt 6 (cfgs 0).N
    = Cert.Vec.mom2At Cert.Vec.placeMod (m ((c : Thread nD τ).loc main_arg1)) (m ((c : Thread nD τ).loc main_arg3)) := by
  refine (dats m 0 c).arrAt_eq_of_covers 6 _ (by decide +kernel) fun t hf y => ?_
  blk_simp
  rw [after0_6, e6]
  refine (p6 _ _ _ _ y).trans ?_
  rw [b1 m c t (y 1) (y 2), b3 m c t (y 1) (y 2)]
  rfl

end Cert.AdamModIdeal.Val

end
-- ==== Proof.AdamOutRef.lean ====
module

public import proofs.«01_k».proof.Proof.Gen.AdamOutRefIdeal
public import proofs.«01_k».proof.Proof.Gen.AdamOutRefIdeal.Run
public import Idealize.ShloMosaic.Lib.Pipeline.ValueKit
public import Idealize.ShloMosaic.Lib.Claim
public import proofs.«01_k».proof.Proof.StepSpec

@[expose] public section

set_option maxRecDepth 16384

noncomputable section

namespace Cert.AdamOutRefIdeal.Val

open Cert.AdamOutRefIdeal Cert.AdamOutRefIdeal.Gen Idealize.ShloMosaic Idealize.ShloMosaic.TcCoe Idealize.SL.Sem

/-- The new first moments, in the parameters' shape. -/
def m1 (X1 X2 : FVec Ideal S4x704x1024 .f32) : FVec Ideal S4x704x1024 .f32 :=
  addf (mulf (broadcastInDim S4x704x1024 ![] bcast_S_S4x704x1024 (constant S_ .f32 0x3F666666#32)) X2) (mulf (broadcastInDim S4x704x1024 ![] bcast_S_S4x704x1024 (constant S_ .f32 0x3DCCCCCD#32)) X1)

/-- The new second moments, in the parameters' shape. -/
def m2 (X1 X3 : FVec Ideal S4x704x1024 .f32) : FVec Ideal S4x704x1024 .f32 :=
  addf (mulf (broadcastInDim S4x704x1024 ![] bcast_S_S4x704x1024 (constant S_ .f32 0x3F7FBE77#32)) X3) (mulf (broadcastInDim S4x704x1024 ![] bcast_S_S4x704x1024 (constant S_ .f32 0x3A83126F#32)) (mulf X1 X1))

/-- The step, in the parameters' shape. -/
def st (X0 X1 X2 X3 : FVec Ideal S4x704x1024 .f32) : FVec Ideal S4x704x1024 .f32 :=
  mulf (broadcastInDim S4x704x1024 ![] bcast_S_S4x704x1024 (constant S_ .f32 0xBA83126F#32)) (addf (Host.divf (Host.divf (m1 X1 X2) (broadcastInDim S4x704x1024 ![] bcast_S_S4x704x1024 (constant S_ .f32 0x3F26BD02#32))) (addf (Host.sqrt (Host.divf (m2 X1 X3) (broadcastInDim S4x704x1024 ![] bcast_S_S4x704x1024 (constant S_ .f32 0x3C231ACC#32)))) (broadcastInDim S4x704x1024 ![] bcast_S_S4x704x1024 (constant S_ .f32 0x322BCC77#32)))) (mulf (broadcastInDim S4x704x1024 ![] bcast_S_S4x704x1024 (constant S_ .f32 0x3C23D70A#32)) X0))

/-- The reference's first result. -/
def r0 (X0 X1 X2 X3 : FVec Ideal S4x704x1024 .f32) : FVec Ideal S1x2816x1024 .f32 := shapeCast S1x2816x1024 (st X0 X1 X2 X3) shapeCasts_S4x704x1024_S1x2816x1024

/-- The reference's second result. -/
def r1 (X1 X2 : FVec Ideal S4x704x1024 .f32) : FVec Ideal S1x2816x1024 .f32 := shapeCast S1x2816x1024 (m1 X1 X2) shapeCasts_S4x704x1024_S1x2816x1024

/-- The reference's third result. -/
def r2 (X1 X3 : FVec Ideal S4x704x1024 .f32) : FVec Ideal S1x2816x1024 .f32 := shapeCast S1x2816x1024 (m2 X1 X3) shapeCasts_S4x704x1024_S1x2816x1024

theorem m1_eq (X1 X2) (i : S4x704x1024.Idx) : m1 X1 X2 i = Cert.Vec.mom1 (X1 i) (X2 i) := by
  idx_vars i
  pointwise [m1, Cert.Vec.mom1]

theorem m2_eq (X1 X3) (i : S4x704x1024.Idx) : m2 X1 X3 i = Cert.Vec.mom2 (X1 i) (X3 i) := by
  idx_vars i
  pointwise [m2, Cert.Vec.mom2]

theorem st_eq (X0 X1 X2 X3) (i : S4x704x1024.Idx) : st X0 X1 X2 X3 i = Cert.Vec.stepOf (X0 i) (X1 i) (X2 i) (X3 i) := by
  idx_vars i
  pointwise [st, Cert.Vec.stepOf]
  rw [m1_eq, m2_eq]

theorem cast_eq (X : FVec Ideal S4x704x1024 .f32) (i : S1x2816x1024.Idx) :
    shapeCast S1x2816x1024 X shapeCasts_S4x704x1024_S1x2816x1024 i = X (Cert.Vec.placeOut i) := by
  idx_vars i
  pointwise [Cert.Vec.placeOut]

theorem r0_eq (X0 X1 X2 X3) : r0 X0 X1 X2 X3 = Cert.Vec.stepAt Cert.Vec.placeOut X0 X1 X2 X3 :=
  funext fun i => (cast_eq _ i).trans (st_eq X0 X1 X2 X3 _)

theorem r1_eq (X1 X2) : r1 X1 X2 = Cert.Vec.mom1At Cert.Vec.placeOut X1 X2 :=
  funext fun i => (cast_eq _ i).trans (m1_eq X1 X2 _)

theorem r2_eq (X1 X3) : r2 X1 X3 = Cert.Vec.mom2At Cert.Vec.placeOut X1 X3 :=
  funext fun i => (cast_eq _ i).trans (m2_eq X1 X3 _)

variable (m : (ℓ : Loc nD τ sig) → Buf (Elt Ideal) ℓ) (ρ : Dev nD → PrngReg)

/-- The reference's run: its results in closed form, and its arguments unchanged. -/
theorem run : θ_run defs (onTc (τ := τ) (main (F := Ideal))) ⟨m, fun _ => 0, ρ⟩ fun r => ∀ c : Dev nD,
      r.2.mem ((c.tc : Thread nD τ).loc main_v24) = Cert.Vec.stepAt Cert.Vec.placeOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v25) = Cert.Vec.mom1At Cert.Vec.placeOut (m ((c.tc : Thread nD τ).loc main_arg1)) (m ((c.tc : Thread nD τ).loc main_arg2))
      ∧ r.2.mem ((c.tc : Thread nD τ).loc main_v26) = Cert.Vec.mom2At Cert.Vec.placeOut (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (r0_eq _ _ _ _), (h c).2.1.trans (r1_eq _ _), (h c).2.2.1.trans (r2_eq _ _), (h c).2.2.2⟩) (Cert.AdamOutRefIdeal.Value.run m ρ)

end Cert.AdamOutRefIdeal.Val

end
-- ==== Proof.AdamOutVal.lean ====
module

public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal.Skeleton
public import proofs.«01_k».proof.Proof.Gen.AdamOutIdeal.Frame
public import proofs.«01_k».proof.Proof.Gen.AdamOutIdeal.Value
public import Idealize.ShloMosaic.Lib.Pipeline.ValueKit
public import proofs.«01_k».proof.Proof.StepSpec

@[expose] public section

set_option maxRecDepth 16384

noncomputable section

namespace Cert.AdamOutIdeal.Val

open Cert.AdamOutIdeal Cert.AdamOutIdeal.Gen Idealize.ShloMosaic Idealize.ShloMosaic.TcCoe Idealize.SL.Sem
open Idealize.ShloMosaic.Pipeline (Dat)

variable (m : (ℓ : Loc nD τ sig) → Buf (Elt Ideal) ℓ)

/-- The block each window is on at a point. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

/-- Row `r` of the block a point works on. -/
def rowOf (t : Fin cfg0.N) (r : Fin 352) : Fin 2816 := ⟨t.val * 352 + r.val, by have : t.val < 8 := t.isLt; omega⟩

theorem b0 (c : Dev nD) (t : Fin cfg0.N) (r : Fin 352) (l : Fin 1024) :
    iblk m c 0 t (ix3 0 r l) = m ((c : Thread nD τ).loc main_arg0) (Cert.Vec.placeOut (ix3 (0 : Fin 1) (rowOf t r) l)) := by
  unfold Cert.Vec.placeOut rowOf
  blk_simp [iblk]
  entry_read
  pointwise
  blk_ext [idx t]

theorem b1 (c : Dev nD) (t : Fin cfg0.N) (r : Fin 352) (l : Fin 1024) :
    iblk m c 1 t (ix3 0 r l) = m ((c : Thread nD τ).loc main_arg1) (Cert.Vec.placeOut (ix3 (0 : Fin 1) (rowOf t r) l)) := by
  unfold Cert.Vec.placeOut rowOf
  blk_simp [iblk]
  entry_read
  pointwise
  blk_ext [idx t]

theorem b2 (c : Dev nD) (t : Fin cfg0.N) (r : Fin 352) (l : Fin 1024) :
    iblk m c 2 t (ix3 0 r l) = m ((c : Thread nD τ).loc main_arg2) (Cert.Vec.placeOut (ix3 (0 : Fin 1) (rowOf t r) l)) := by
  unfold Cert.Vec.placeOut rowOf
  blk_simp [iblk]
  entry_read
  pointwise
  blk_ext [idx t]

theorem b3 (c : Dev nD) (t : Fin cfg0.N) (r : Fin 352) (l : Fin 1024) :
    iblk m c 3 t (ix3 0 r l) = m ((c : Thread nD τ).loc main_arg3) (Cert.Vec.placeOut (ix3 (0 : Fin 1) (rowOf t r) l)) := by
  unfold Cert.Vec.placeOut rowOf
  blk_simp [iblk]
  entry_read
  pointwise
  blk_ext [idx t]

theorem e4 (t : Fin cfg0.N) (y : S1x352x1024.Idx) : (win0_4.blk t).view.emb y = ix3 (0 : Fin 1) (rowOf t (y 1)) (y 2 : Fin 1024) := by
  unfold rowOf
  blk_ext [idx t]

theorem e5 (t : Fin cfg0.N) (y : S1x352x1024.Idx) : (win0_5.blk t).view.emb y = ix3 (0 : Fin 1) (rowOf t (y 1)) (y 2 : Fin 1024) := by
  unfold rowOf
  blk_ext [idx t]

theorem e6 (t : Fin cfg0.N) (y : S1x352x1024.Idx) : (win0_6.blk t).view.emb y = ix3 (0 : Fin 1) (rowOf t (y 1)) (y 2 : Fin 1024) := by
  unfold rowOf
  blk_ext [idx t]

/-- What a point writes to this result, from its blocks. -/
theorem p4 (x0 x1 x2 x3 : FVec Ideal S1x352x1024 .f32) (y : S1x352x1024.Idx) :
    out0_4 (F := Ideal) x0 x1 x2 x3 y = Cert.Vec.stepOf (x0 (ix3 0 (y 1 : Fin 352) (y 2 : Fin 1024))) (x1 (ix3 0 (y 1 : Fin 352) (y 2 : Fin 1024))) (x2 (ix3 0 (y 1 : Fin 352) (y 2 : Fin 1024))) (x3 (ix3 0 (y 1 : Fin 352) (y 2 : Fin 1024))) := by
  unfold out0_4
  frame_out
  idx_vars y
  open_payloads
  pointwise [Cert.Vec.stepOf, Cert.Vec.mom1, Cert.Vec.mom2]

theorem final4 (c : Dev nD) : (dats m 0 c).arrAt 4 (cfgs 0).N
    = Cert.Vec.stepAt Cert.Vec.placeOut (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, e4]
  refine (p4 _ _ _ _ y).trans ?_
  rw [b0 m c t (y 1) (y 2), b1 m c t (y 1) (y 2), b2 m c t (y 1) (y 2), b3 m c t (y 1) (y 2)]
  rfl

/-- What a point writes to this result, from its blocks. -/
theorem p5 (x0 x1 x2 x3 : FVec Ideal S1x352x1024 .f32) (y : S1x352x1024.Idx) :
    out0_5 (F := Ideal) x0 x1 x2 x3 y = Cert.Vec.mom1 (x1 (ix3 0 (y 1 : Fin 352) (y 2 : Fin 1024))) (x2 (ix3 0 (y 1 : Fin 352) (y 2 : Fin 1024))) := by
  unfold out0_5
  frame_out
  idx_vars y
  open_payloads
  pointwise [Cert.Vec.mom1]

theorem final5 (c : Dev nD) : (dats m 0 c).arrAt 5 (cfgs 0).N
    = Cert.Vec.mom1At Cert.Vec.placeOut (m ((c : Thread nD τ).loc main_arg1)) (m ((c : Thread nD τ).loc main_arg2)) := by
  refine (dats m 0 c).arrAt_eq_of_covers 5 _ (by decide +kernel) fun t hf y => ?_
  blk_simp
  rw [after0_5, e5]
  refine (p5 _ _ _ _ y).trans ?_
  rw [b1 m c t (y 1) (y 2), b2 m c t (y 1) (y 2)]
  rfl

/-- What a point writes to this result, from its blocks. -/
theorem p6 (x0 x1 x2 x3 : FVec Ideal S1x352x1024 .f32) (y : S1x352x1024.Idx) :
    out0_6 (F := Ideal) x0 x1 x2 x3 y = Cert.Vec.mom2 (x1 (ix3 0 (y 1 : Fin 352) (y 2 : Fin 1024))) (x3 (ix3 0 (y 1 : Fin 352) (y 2 : Fin 1024))) := by
  unfold out0_6
  frame_out
  idx_vars y
  open_payloads
  pointwise [Cert.Vec.mom2]

theorem final6 (c : Dev nD) : (dats m 0 c).arrAt 6 (cfgs 0).N
    = Cert.Vec.mom2At Cert.Vec.placeOut (m ((c : Thread nD τ).loc main_arg1)) (m ((c : Thread nD τ).loc main_arg3)) := by
  refine (dats m 0 c).arrAt_eq_of_covers 6 _ (by decide +kernel) fun t hf y => ?_
  blk_simp
  rw [after0_6, e6]
  refine (p6 _ _ _ _ y).trans ?_
  rw [b1 m c t (y 1) (y 2), b3 m c t (y 1) (y 2)]
  rfl

end Cert.AdamOutIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.Dwout
public import proofs.«01_k».proof.Proof.Gen.Dwout.Skeleton
public import proofs.«01_k».proof.Proof.Gen.Dwout.Launch
public import proofs.«01_k».proof.Proof.Gen.Dwout.Points
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.DwoutIdeal.Value
public import proofs.«01_k».proof.Proof.Gen.DwoutRefIdeal
public import proofs.«01_k».proof.Proof.Gen.DwoutRefIdeal.Run
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.FoxIn
public import proofs.«01_k».proof.Proof.Gen.FoxIn.Skeleton
public import proofs.«01_k».proof.Proof.Gen.FoxIn.Launch
public import proofs.«01_k».proof.Proof.Gen.FoxIn.Points
public import proofs.«01_k».proof.Proof.Gen.FoxIn.Frame
public import proofs.«01_k».proof.Proof.Gen.FoxInIdeal
public import proofs.«01_k».proof.Proof.Gen.FoxInIdeal.Skeleton
public import proofs.«01_k».proof.Proof.Gen.FoxInIdeal.Launch
public import proofs.«01_k».proof.Proof.Gen.FoxInIdeal.Points
public import proofs.«01_k».proof.Proof.Gen.FoxInIdeal.Frame
public import proofs.«01_k».proof.Proof.Gen.FoxInIdeal.Value
public import proofs.«01_k».proof.Proof.Gen.FoxInRefIdeal
public import proofs.«01_k».proof.Proof.Gen.FoxInRefIdeal.Run
public import proofs.«01_k».proof.Proof.Gen.SbIn
public import proofs.«01_k».proof.Proof.Gen.SbIn.Skeleton
public import proofs.«01_k».proof.Proof.Gen.SbIn.Launch
public import proofs.«01_k».proof.Proof.Gen.SbIn.Points
public import proofs.«01_k».proof.Proof.Gen.SbIn.Frame
public import proofs.«01_k».proof.Proof.Gen.SbInIdeal
public import proofs.«01_k».proof.Proof.Gen.SbInIdeal.Skeleton
public import proofs.«01_k».proof.Proof.Gen.SbInIdeal.Launch
public import proofs.«01_k».proof.Proof.Gen.SbInIdeal.Points
public import proofs.«01_k».proof.Proof.Gen.SbInIdeal.Frame
public import proofs.«01_k».proof.Proof.Gen.SbInIdeal.Value
public import proofs.«01_k».proof.Proof.Gen.SbInRefIdeal
public import proofs.«01_k».proof.Proof.Gen.SbInRefIdeal.Run
public import proofs.«01_k».proof.Proof.Gen.GmIn
public import proofs.«01_k».proof.Proof.Gen.GmIn.Skeleton
public import proofs.«01_k».proof.Proof.Gen.GmIn.Launch
public import proofs.«01_k».proof.Proof.Gen.GmIn.Points
public import proofs.«01_k».proof.Proof.Gen.GmIn.Frame
public import proofs.«01_k».proof.Proof.Gen.GmInIdeal
public import proofs.«01_k».proof.Proof.Gen.GmInIdeal.Skeleton
public import proofs.«01_k».proof.Proof.Gen.GmInIdeal.Launch
public import proofs.«01_k».proof.Proof.Gen.GmInIdeal.Points
public import proofs.«01_k».proof.Proof.Gen.GmInIdeal.Frame
public import proofs.«01_k».proof.Proof.Gen.GmInIdeal.Value
public import proofs.«01_k».proof.Proof.Gen.GmInRefIdeal
public import proofs.«01_k».proof.Proof.Gen.GmInRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixDwout
public import proofs.«01_k».proof.Proof.Gen.MixDwout.Skeleton
public import proofs.«01_k».proof.Proof.Gen.MixDwout.Launch
public import proofs.«01_k».proof.Proof.Gen.MixDwout.Points
public import proofs.«01_k».proof.Proof.Gen.MixDwout.Frame
public import proofs.«01_k».proof.Proof.Gen.MixDwoutIdeal
public import proofs.«01_k».proof.Proof.Gen.MixDwoutIdeal.Skeleton
public import proofs.«01_k».proof.Proof.Gen.MixDwoutIdeal.Launch
public import proofs.«01_k».proof.Proof.Gen.MixDwoutIdeal.Points
public import proofs.«01_k».proof.Proof.Gen.MixDwoutIdeal.Frame
public import proofs.«01_k».proof.Proof.Gen.MixDwoutIdeal.Value
public import proofs.«01_k».proof.Proof.Gen.MixDwoutRefIdeal
public import proofs.«01_k».proof.Proof.Gen.MixDwoutRefIdeal.Run
public import proofs.«01_k».proof.Proof.Gen.GmDwin
public import proofs.«01_k».proof.Proof.Gen.GmDwin.Skeleton
public import proofs.«01_k».proof.Proof.Gen.GmDwin.Launch
public import proofs.«01_k».proof.Proof.Gen.GmDwin.Points
public import proofs.«01_k».proof.Proof.Gen.GmDwin.Frame
public import proofs.«01_k».proof.Proof.Gen.GmDwinIdeal
public import proofs.«01_k».proof.Proof.Gen.GmDwinIdeal.Skeleton
public import proofs.«01_k».proof.Proof.Gen.GmDwinIdeal.Launch
public import proofs.«01_k».proof.Proof.Gen.GmDwinIdeal.Points
public import proofs.«01_k».proof.Proof.Gen.GmDwinIdeal.Frame
public import proofs.«01_k».proof.Proof.Gen.GmDwinIdeal.Value
public import proofs.«01_k».proof.Proof.Gen.GmDwinRefIdeal
public import proofs.«01_k».proof.Proof.Gen.GmDwinRefIdeal.Run
public import proofs.«01_k».proof.Proof.Gen.SbDwin
public import proofs.«01_k».proof.Proof.Gen.SbDwin.Skeleton
public import proofs.«01_k».proof.Proof.Gen.SbDwin.Launch
public import proofs.«01_k».proof.Proof.Gen.SbDwin.Points
public import proofs.«01_k».proof.Proof.Gen.SbDwin.Frame
public import proofs.«01_k».proof.Proof.Gen.SbDwinIdeal
public import proofs.«01_k».proof.Proof.Gen.SbDwinIdeal.Skeleton
public import proofs.«01_k».proof.Proof.Gen.SbDwinIdeal.Launch
public import proofs.«01_k».proof.Proof.Gen.SbDwinIdeal.Points
public import proofs.«01_k».proof.Proof.Gen.SbDwinIdeal.Frame
public import proofs.«01_k».proof.Proof.Gen.SbDwinIdeal.Value
public import proofs.«01_k».proof.Proof.Gen.SbDwinRefIdeal
public import proofs.«01_k».proof.Proof.Gen.SbDwinRefIdeal.Run
public import proofs.«01_k».proof.Proof.Gen.FoxDwin
public import proofs.«01_k».proof.Proof.Gen.FoxDwin.Skeleton
public import proofs.«01_k».proof.Proof.Gen.FoxDwin.Launch
public import proofs.«01_k».proof.Proof.Gen.FoxDwin.Points
public import proofs.«01_k».proof.Proof.Gen.FoxDwin.Frame
public import proofs.«01_k».proof.Proof.Gen.FoxDwinIdeal
public import proofs.«01_k».proof.Proof.Gen.FoxDwinIdeal.Skeleton
public import proofs.«01_k».proof.Proof.Gen.FoxDwinIdeal.Launch
public import proofs.«01_k».proof.Proof.Gen.FoxDwinIdeal.Points
public import proofs.«01_k».proof.Proof.Gen.FoxDwinIdeal.Frame
public import proofs.«01_k».proof.Proof.Gen.FoxDwinIdeal.Value
public import proofs.«01_k».proof.Proof.Gen.FoxDwinRefIdeal
public import proofs.«01_k».proof.Proof.Gen.FoxDwinRefIdeal.Run
public import proofs.«01_k».proof.Proof.Gen.GmDy
public import proofs.«01_k».proof.Proof.Gen.GmDy.Skeleton
public import proofs.«01_k».proof.Proof.Gen.GmDy.Launch
public import proofs.«01_k».proof.Proof.Gen.GmDy.Points
public import proofs.«01_k».proof.Proof.Gen.GmDy.Frame
public import proofs.«01_k».proof.Proof.Gen.GmDyIdeal
public import proofs.«01_k».proof.Proof.Gen.GmDyIdeal.Skeleton
public import proofs.«01_k».proof.Proof.Gen.GmDyIdeal.Launch
public import proofs.«01_k».proof.Proof.Gen.GmDyIdeal.Points
public import proofs.«01_k».proof.Proof.Gen.GmDyIdeal.Frame
public import proofs.«01_k».proof.Proof.Gen.GmDyIdeal.Value
public import proofs.«01_k».proof.Proof.Gen.GmDyRefIdeal
public import proofs.«01_k».proof.Proof.Gen.GmDyRefIdeal.Run
public import proofs.«01_k».proof.Proof.Gen.FoxDo
public import proofs.«01_k».proof.Proof.Gen.FoxDo.Skeleton
public import proofs.«01_k».proof.Proof.Gen.FoxDo.Launch
public import proofs.«01_k».proof.Proof.Gen.FoxDo.Points
public import proofs.«01_k».proof.Proof.Gen.FoxDo.Frame
public import proofs.«01_k».proof.Proof.Gen.FoxDoIdeal
public import proofs.«01_k».proof.Proof.Gen.FoxDoIdeal.Skeleton
public import proofs.«01_k».proof.Proof.Gen.FoxDoIdeal.Launch
public import proofs.«01_k».proof.Proof.Gen.FoxDoIdeal.Points
public import proofs.«01_k».proof.Proof.Gen.FoxDoIdeal.Frame
public import proofs.«01_k».proof.Proof.Gen.FoxDoIdeal.Value
public import proofs.«01_k».proof.Proof.Gen.FoxDoRefIdeal
public import proofs.«01_k».proof.Proof.Gen.FoxDoRefIdeal.Run
public import proofs.«01_k».proof.Proof.Gen.GmDh
public import proofs.«01_k».proof.Proof.Gen.GmDh.Skeleton
public import proofs.«01_k».proof.Proof.Gen.GmDh.Launch
public import proofs.«01_k».proof.Proof.Gen.GmDh.Points
public import proofs.«01_k».proof.Proof.Gen.GmDh.Frame
public import proofs.«01_k».proof.Proof.Gen.GmDhIdeal
public import proofs.«01_k».proof.Proof.Gen.GmDhIdeal.Skeleton
public import proofs.«01_k».proof.Proof.Gen.GmDhIdeal.Launch
public import proofs.«01_k».proof.Proof.Gen.GmDhIdeal.Points
public import proofs.«01_k».proof.Proof.Gen.GmDhIdeal.Frame
public import proofs.«01_k».proof.Proof.Gen.GmDhIdeal.Value
public import proofs.«01_k».proof.Proof.Gen.GmDhRefIdeal
public import proofs.«01_k».proof.Proof.Gen.GmDhRefIdeal.Run
public import proofs.«01_k».proof.Proof.Gen.SbDh
public import proofs.«01_k».proof.Proof.Gen.SbDh.Skeleton
public import proofs.«01_k».proof.Proof.Gen.SbDh.Launch
public import proofs.«01_k».proof.Proof.Gen.SbDh.Points
public import proofs.«01_k».proof.Proof.Gen.SbDh.Frame
public import proofs.«01_k».proof.Proof.Gen.SbDhIdeal
public import proofs.«01_k».proof.Proof.Gen.SbDhIdeal.Skeleton
public import proofs.«01_k».proof.Proof.Gen.SbDhIdeal.Launch
public import proofs.«01_k».proof.Proof.Gen.SbDhIdeal.Points
public import proofs.«01_k».proof.Proof.Gen.SbDhIdeal.Frame
public import proofs.«01_k».proof.Proof.Gen.SbDhIdeal.Value
public import proofs.«01_k».proof.Proof.Gen.SbDhRefIdeal
public import proofs.«01_k».proof.Proof.Gen.SbDhRefIdeal.Run
public import proofs.«01_k».proof.Proof.Gen.FoxDh
public import proofs.«01_k».proof.Proof.Gen.FoxDh.Skeleton
public import proofs.«01_k».proof.Proof.Gen.FoxDh.Launch
public import proofs.«01_k».proof.Proof.Gen.FoxDh.Points
public import proofs.«01_k».proof.Proof.Gen.FoxDh.Frame
public import proofs.«01_k».proof.Proof.Gen.FoxDhIdeal
public import proofs.«01_k».proof.Proof.Gen.FoxDhIdeal.Skeleton
public import proofs.«01_k».proof.Proof.Gen.FoxDhIdeal.Launch
public import proofs.«01_k».proof.Proof.Gen.FoxDhIdeal.Points
public import proofs.«01_k».proof.Proof.Gen.FoxDhIdeal.Frame
public import proofs.«01_k».proof.Proof.Gen.FoxDhIdeal.Value
public import proofs.«01_k».proof.Proof.Gen.FoxDhRefIdeal
public import proofs.«01_k».proof.Proof.Gen.FoxDhRefIdeal.Run
public import proofs.«01_k».proof.Proof.Gen.ModBwd
public import proofs.«01_k».proof.Proof.Gen.ModBwd.Skeleton
public import proofs.«01_k».proof.Proof.Gen.ModBwd.Launch
public import proofs.«01_k».proof.Proof.Gen.ModBwd.Points
public import proofs.«01_k».proof.Proof.Gen.ModBwd.Frame
public import proofs.«01_k».proof.Proof.Gen.ModBwdIdeal
public import proofs.«01_k».proof.Proof.Gen.ModBwdIdeal.Skeleton
public import proofs.«01_k».proof.Proof.Gen.ModBwdIdeal.Launch
public import proofs.«01_k».proof.Proof.Gen.ModBwdIdeal.Points
public import proofs.«01_k».proof.Proof.Gen.ModBwdIdeal.Frame
public import proofs.«01_k».proof.Proof.Gen.ModBwdIdeal.Value
public import proofs.«01_k».proof.Proof.Gen.ModBwdRefIdeal
public import proofs.«01_k».proof.Proof.Gen.ModBwdRefIdeal.Run
public import proofs.«01_k».proof.Proof.Gen.GluBwd
public import proofs.«01_k».proof.Proof.Gen.GluBwd.Skeleton
public import proofs.«01_k».proof.Proof.Gen.GluBwd.Launch
public import proofs.«01_k».proof.Proof.Gen.GluBwd.Points
public import proofs.«01_k».proof.Proof.Gen.GluBwd.Frame
public import proofs.«01_k».proof.Proof.Gen.GluBwdIdeal
public import proofs.«01_k».proof.Proof.Gen.GluBwdIdeal.Skeleton
public import proofs.«01_k».proof.Proof.Gen.GluBwdIdeal.Launch
public import proofs.«01_k».proof.Proof.Gen.GluBwdIdeal.Points
public import proofs.«01_k».proof.Proof.Gen.GluBwdIdeal.Frame
public import proofs.«01_k».proof.Proof.Gen.GluBwdIdeal.Value
public import proofs.«01_k».proof.Proof.Gen.GluBwdRefIdeal
public import proofs.«01_k».proof.Proof.Gen.GluBwdRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.GluRefIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.Spatial
public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import proofs.«01_k».proof.Proof.Gen.SpatialIdeal.Value
public import proofs.«01_k».proof.Proof.Gen.SpatialRefIdeal
public import proofs.«01_k».proof.Proof.Gen.SpatialRefIdeal.Run
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnIdeal.Value
public import proofs.«01_k».proof.Proof.Gen.LnRefIdeal
public import proofs.«01_k».proof.Proof.Gen.LnRefIdeal.Run
public import proofs.«01_k».proof.Proof.Gen.LnAct
public import proofs.«01_k».proof.Proof.Gen.LnAct.Skeleton
public import proofs.«01_k».proof.Proof.Gen.LnAct.Launch
public import proofs.«01_k».proof.Proof.Gen.LnAct.Points
public import proofs.«01_k».proof.Proof.Gen.LnAct.Frame
public import proofs.«01_k».proof.Proof.Gen.LnActIdeal
public import proofs.«01_k».proof.Proof.Gen.LnActIdeal.Skeleton
public import proofs.«01_k».proof.Proof.Gen.LnActIdeal.Launch
public import proofs.«01_k».proof.Proof.Gen.LnActIdeal.Points
public import proofs.«01_k».proof.Proof.Gen.LnActIdeal.Frame
public import proofs.«01_k».proof.Proof.Gen.LnActIdeal.Value
public import proofs.«01_k».proof.Proof.Gen.LnActRefIdeal
public import proofs.«01_k».proof.Proof.Gen.LnActRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.CAct
public import proofs.«01_k».proof.Proof.Gen.CAct.Skeleton
public import proofs.«01_k».proof.Proof.Gen.CAct.Launch
public import proofs.«01_k».proof.Proof.Gen.CAct.Points
public import proofs.«01_k».proof.Proof.Gen.CAct.Frame
public import proofs.«01_k».proof.Proof.Gen.CActIdeal
public import proofs.«01_k».proof.Proof.Gen.CActIdeal.Skeleton
public import proofs.«01_k».proof.Proof.Gen.CActIdeal.Launch
public import proofs.«01_k».proof.Proof.Gen.CActIdeal.Points
public import proofs.«01_k».proof.Proof.Gen.CActIdeal.Frame
public import proofs.«01_k».proof.Proof.Gen.CActIdeal.Value
public import proofs.«01_k».proof.Proof.Gen.CActRefIdeal
public import proofs.«01_k».proof.Proof.Gen.CActRefIdeal.Run
public import proofs.«01_k».proof.Proof.Gen.ModMm
public import proofs.«01_k».proof.Proof.Gen.ModMm.Skeleton
public import proofs.«01_k».proof.Proof.Gen.ModMm.Launch
public import proofs.«01_k».proof.Proof.Gen.ModMm.Points
public import proofs.«01_k».proof.Proof.Gen.ModMm.Frame
public import proofs.«01_k».proof.Proof.Gen.ModMmIdeal
public import proofs.«01_k».proof.Proof.Gen.ModMmIdeal.Skeleton
public import proofs.«01_k».proof.Proof.Gen.ModMmIdeal.Launch
public import proofs.«01_k».proof.Proof.Gen.ModMmIdeal.Points
public import proofs.«01_k».proof.Proof.Gen.ModMmIdeal.Frame
public import proofs.«01_k».proof.Proof.Gen.ModMmIdeal.Value
public import proofs.«01_k».proof.Proof.Gen.ModMmRefIdeal
public import proofs.«01_k».proof.Proof.Gen.ModMmRefIdeal.Run
public import proofs.«01_k».proof.Proof.Gen.ModDw
public import proofs.«01_k».proof.Proof.Gen.ModDw.Skeleton
public import proofs.«01_k».proof.Proof.Gen.ModDw.Launch
public import proofs.«01_k».proof.Proof.Gen.ModDw.Points
public import proofs.«01_k».proof.Proof.Gen.ModDw.Frame
public import proofs.«01_k».proof.Proof.Gen.ModDwIdeal
public import proofs.«01_k».proof.Proof.Gen.ModDwIdeal.Skeleton
public import proofs.«01_k».proof.Proof.Gen.ModDwIdeal.Launch
public import proofs.«01_k».proof.Proof.Gen.ModDwIdeal.Points
public import proofs.«01_k».proof.Proof.Gen.ModDwIdeal.Frame
public import proofs.«01_k».proof.Proof.Gen.ModDwIdeal.Value
public import proofs.«01_k».proof.Proof.Gen.ModDwRefIdeal
public import proofs.«01_k».proof.Proof.Gen.ModDwRefIdeal.Run
public import proofs.«01_k».proof.Proof.Gen.ModBias
public import proofs.«01_k».proof.Proof.Gen.ModBias.Skeleton
public import proofs.«01_k».proof.Proof.Gen.ModBias.Launch
public import proofs.«01_k».proof.Proof.Gen.ModBias.Points
public import proofs.«01_k».proof.Proof.Gen.ModBias.Frame
public import proofs.«01_k».proof.Proof.Gen.ModBiasIdeal
public import proofs.«01_k».proof.Proof.Gen.ModBiasIdeal.Skeleton
public import proofs.«01_k».proof.Proof.Gen.ModBiasIdeal.Launch
public import proofs.«01_k».proof.Proof.Gen.ModBiasIdeal.Points
public import proofs.«01_k».proof.Proof.Gen.ModBiasIdeal.Frame
public import proofs.«01_k».proof.Proof.Gen.ModBiasIdeal.Value
public import proofs.«01_k».proof.Proof.Gen.ModBiasRefIdeal
public import proofs.«01_k».proof.Proof.Gen.ModBiasRefIdeal.Run
public import proofs.«01_k».proof.Proof.Gen.LnB
public import proofs.«01_k».proof.Proof.Gen.LnB.Skeleton
public import proofs.«01_k».proof.Proof.Gen.LnB.Launch
public import proofs.«01_k».proof.Proof.Gen.LnB.Points
public import proofs.«01_k».proof.Proof.Gen.LnB.Frame
public import proofs.«01_k».proof.Proof.Gen.LnBIdeal
public import proofs.«01_k».proof.Proof.Gen.LnBIdeal.Skeleton
public import proofs.«01_k».proof.Proof.Gen.LnBIdeal.Launch
public import proofs.«01_k».proof.Proof.Gen.LnBIdeal.Points
public import proofs.«01_k».proof.Proof.Gen.LnBIdeal.Frame
public import proofs.«01_k».proof.Proof.Gen.LnBIdeal.Value
public import proofs.«01_k».proof.Proof.Gen.LnBRefIdeal
public import proofs.«01_k».proof.Proof.Gen.LnBRefIdeal.Run
public import proofs.«01_k».proof.Proof.Gen.LnLast
public import proofs.«01_k».proof.Proof.Gen.LnLast.Skeleton
public import proofs.«01_k».proof.Proof.Gen.LnLast.Launch
public import proofs.«01_k».proof.Proof.Gen.LnLast.Points
public import proofs.«01_k».proof.Proof.Gen.LnLast.Frame
public import proofs.«01_k».proof.Proof.Gen.LnLastIdeal
public import proofs.«01_k».proof.Proof.Gen.LnLastIdeal.Skeleton
public import proofs.«01_k».proof.Proof.Gen.LnLastIdeal.Launch
public import proofs.«01_k».proof.Proof.Gen.LnLastIdeal.Points
public import proofs.«01_k».proof.Proof.Gen.LnLastIdeal.Frame
public import proofs.«01_k».proof.Proof.Gen.LnLastIdeal.Value
public import proofs.«01_k».proof.Proof.Gen.LnLastRefIdeal
public import proofs.«01_k».proof.Proof.Gen.LnLastRefIdeal.Run
public import proofs.«01_k».proof.Proof.Gen.GmAct
public import proofs.«01_k».proof.Proof.Gen.GmAct.Skeleton
public import proofs.«01_k».proof.Proof.Gen.GmAct.Launch
public import proofs.«01_k».proof.Proof.Gen.GmAct.Points
public import proofs.«01_k».proof.Proof.Gen.GmAct.Frame
public import proofs.«01_k».proof.Proof.Gen.GmActIdeal
public import proofs.«01_k».proof.Proof.Gen.GmActIdeal.Skeleton
public import proofs.«01_k».proof.Proof.Gen.GmActIdeal.Launch
public import proofs.«01_k».proof.Proof.Gen.GmActIdeal.Points
public import proofs.«01_k».proof.Proof.Gen.GmActIdeal.Frame
public import proofs.«01_k».proof.Proof.Gen.GmActRefIdeal
public import proofs.«01_k».proof.Proof.Gen.GmActRefIdeal.Run
public import proofs.«01_k».proof.Proof.Gen.AdamMod
public import proofs.«01_k».proof.Proof.Gen.AdamMod.Skeleton
public import proofs.«01_k».proof.Proof.Gen.AdamMod.Launch
public import proofs.«01_k».proof.Proof.Gen.AdamMod.Points
public import proofs.«01_k».proof.Proof.Gen.AdamMod.Frame
public import proofs.«01_k».proof.Proof.Gen.AdamModIdeal
public import proofs.«01_k».proof.Proof.Gen.AdamModIdeal.Skeleton
public import proofs.«01_k».proof.Proof.Gen.AdamModIdeal.Launch
public import proofs.«01_k».proof.Proof.Gen.AdamModIdeal.Points
public import proofs.«01_k».proof.Proof.Gen.AdamModIdeal.Frame
public import proofs.«01_k».proof.Proof.Gen.AdamModIdeal.Value
public import proofs.«01_k».proof.Proof.Gen.AdamModRefIdeal
public import proofs.«01_k».proof.Proof.Gen.AdamModRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.GmRef
public import proofs.«01_k».proof.Proof.GmFinal
public import proofs.«01_k».proof.Proof.GateRef
public import proofs.«01_k».proof.Proof.GateVal
public import proofs.«01_k».proof.Proof.DhRef
public import proofs.«01_k».proof.Proof.DhVal
public import proofs.«01_k».proof.Proof.DwinRef
public import proofs.«01_k».proof.Proof.DwinVal
public import proofs.«01_k».proof.Proof.DwoutRef
public import proofs.«01_k».proof.Proof.DwoutVal
public import proofs.«01_k».proof.Proof.ActRef
public import proofs.«01_k».proof.Proof.ActVal
public import proofs.«01_k».proof.Proof.OutRef
public import proofs.«01_k».proof.Proof.OutVal
public import proofs.«01_k».proof.Proof.FoxInRef
public import proofs.«01_k».proof.Proof.FoxInVal
public import proofs.«01_k».proof.Proof.SbInRef
public import proofs.«01_k».proof.Proof.SbInVal
public import proofs.«01_k».proof.Proof.GmInRef
public import proofs.«01_k».proof.Proof.GmInVal
public import proofs.«01_k».proof.Proof.MixOutRef
public import proofs.«01_k».proof.Proof.MixOutVal
public import proofs.«01_k».proof.Proof.MixDwoutRef
public import proofs.«01_k».proof.Proof.MixDwoutVal
public import proofs.«01_k».proof.Proof.GmDwinRef
public import proofs.«01_k».proof.Proof.GmDwinVal
public import proofs.«01_k».proof.Proof.SbDwinRef
public import proofs.«01_k».proof.Proof.SbDwinVal
public import proofs.«01_k».proof.Proof.FoxDwinRef
public import proofs.«01_k».proof.Proof.FoxDwinVal
public import proofs.«01_k».proof.Proof.GmDyRef
public import proofs.«01_k».proof.Proof.GmDyVal
public import proofs.«01_k».proof.Proof.FoxDoRef
public import proofs.«01_k».proof.Proof.FoxDoVal
public import proofs.«01_k».proof.Proof.GmDhRef
public import proofs.«01_k».proof.Proof.GmDhVal
public import proofs.«01_k».proof.Proof.SbDhRef
public import proofs.«01_k».proof.Proof.SbDhVal
public import proofs.«01_k».proof.Proof.FoxDhRef
public import proofs.«01_k».proof.Proof.FoxDhVal
public import proofs.«01_k».proof.Proof.ModBwdRef
public import proofs.«01_k».proof.Proof.ModBwdVal
public import proofs.«01_k».proof.Proof.GluBwdRef
public import proofs.«01_k».proof.Proof.GluBwdVal
public import proofs.«01_k».proof.Proof.GluRef
public import proofs.«01_k».proof.Proof.GluVal
public import proofs.«01_k».proof.Proof.ModRef
public import proofs.«01_k».proof.Proof.ModVal
public import proofs.«01_k».proof.Proof.SpatialRef
public import proofs.«01_k».proof.Proof.SpatialVal
public import proofs.«01_k».proof.Proof.LnRef
public import proofs.«01_k».proof.Proof.LnVal
public import proofs.«01_k».proof.Proof.LnActRef
public import proofs.«01_k».proof.Proof.LnActVal
public import proofs.«01_k».proof.Proof.LossRef
public import proofs.«01_k».proof.Proof.LossVal
public import proofs.«01_k».proof.Proof.AdamRef
public import proofs.«01_k».proof.Proof.AdamVal
public import proofs.«01_k».proof.Proof.ConvRef
public import proofs.«01_k».proof.Proof.ConvVal
public import proofs.«01_k».proof.Proof.ConvFwdRef
public import proofs.«01_k».proof.Proof.ConvFwdVal
public import proofs.«01_k».proof.Proof.CActRef
public import proofs.«01_k».proof.Proof.CActVal
public import proofs.«01_k».proof.Proof.ModMmRef
public import proofs.«01_k».proof.Proof.ModMmVal
public import proofs.«01_k».proof.Proof.ModDwRef
public import proofs.«01_k».proof.Proof.ModDwVal
public import proofs.«01_k».proof.Proof.ModBiasRef
public import proofs.«01_k».proof.Proof.ModBiasVal
public import proofs.«01_k».proof.Proof.LnBRef
public import proofs.«01_k».proof.Proof.LnBVal
public import proofs.«01_k».proof.Proof.LnLastRef
public import proofs.«01_k».proof.Proof.LnLastVal
public import proofs.«01_k».proof.Proof.GmActRef
public import proofs.«01_k».proof.Proof.GmActVal
public import proofs.«01_k».proof.Proof.AdamModRef
public import proofs.«01_k».proof.Proof.AdamModVal
public import proofs.«01_k».proof.Proof.AdamOutRef
public import proofs.«01_k».proof.Proof.AdamOutVal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The spatial gate's gradient kernel at bit-exact floats stops, keeps its arguments, leaves no count. -/
theorem gm_frame : Cert.quiescent_Kernel := fun m g _ => Cert.Kernel.Gen.frame m g

/-- The same for its ideal reading. -/
theorem gm_frame_ideal : Cert.quiescent_KernelIdeal := fun m g _ => Cert.KernelIdeal.Gen.frame m g

/-- The plain gradient stops, keeps its arguments, leaves no count. -/
theorem gm_frame_ref : Cert.quiescent_ReferenceIdeal := by
  intro m g _
  refine (θ_run _ _ _).mono (fun r h => ⟨fun c => (h c).2.2.2.2, ?_⟩) (Cert.ReferenceIdeal.Value.run m g)
  exact sem_eq_zero_of_no_sems rfl _

/-- Over the extended reals the kernel's four gradients are the plain gradient's, from equal arguments. -/
theorem gm_algebraic : Cert.algebraic_KernelIdeal_ReferenceIdeal := by
  intro m g m' g' _ hagree
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N, (θ_run _ _ _).mono (fun r h c => ?_) (Cert.KernelIdeal.Value.run_blocks m g),
    (θ_run _ _ _).mono (fun r h c => ?_) (Cert.ReferenceIdeal.Gm.run m' g')⟩
  · exact h c
  · obtain ⟨h5, h6, h7, h8, k0, k1, k2, k3, k4⟩ := h c
    obtain ⟨a0, a1, a2, a3, a4⟩ := hagree c
    refine ⟨h5.trans ?_, h6.trans ?_, h7.trans ?_, h8.trans ?_, k0, k1, k2, k3, k4⟩
    · rw [a0, a2, a3, a4]; exact (Cert.KernelIdeal.Gm.final5 m c).symm
    · rw [a0, a1, a3]; exact (Cert.KernelIdeal.Gm.final6 m c).symm
    · rw [a0, a1, a2]; exact (Cert.KernelIdeal.Gm.final7 m c).symm
    · rw [a0, a1]; exact (Cert.KernelIdeal.Gm.final8 m c).symm

/-- The side conditions of the precondition's own operations. -/
theorem preFacts : Cert.Pre_finite.Facts :=
  ⟨by decide, by decide, by decide, by decide, by decide, by decide, by decide, by decide⟩

/-- The kernel of the gradient through the output product and the activation at bit-exact floats stops, keeps its arguments, leaves no count. -/
theorem gate_frame : Cert.quiescent_Gate := fun m g _ => Cert.Gate.Gen.frame m g

/-- The same for its ideal reading. -/
theorem gate_frame_ideal : Cert.quiescent_GateIdeal := fun m g _ => Cert.GateIdeal.Gen.frame m g

/-- Its reference stops, keeps its arguments, leaves no count. -/
theorem gate_frame_ref : Cert.quiescent_GateRefIdeal := by
  intro m g _
  refine (θ_run _ _ _).mono (fun r h => ⟨fun c => (h c).2.2, ?_⟩) (Cert.GateRefIdeal.Value.run m g)
  exact sem_eq_zero_of_no_sems rfl _

/-- Over the extended reals the kernel of the gradient through the output product and the activation gives the reference's results, from equal finite arguments. -/
theorem gate_algebraic : Cert.algebraic_GateIdeal_GateRefIdeal_pre_finite (hPre_finite := preFacts) := by
  intro m g m' g' hpre hagree
  have hp : ∀ c : Dev Cert.GateRefIdeal.nD, Cert.GateRefIdeal.Val.Fin3 (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg3)) := fun c => by
    obtain ⟨a0, a1, a2, a3⟩ := hagree c
    rw [a0, a1, a3]
    letI := preFacts
    exact Cert.GateRefIdeal.Val.fin_of _ _ _ _ (hpre c)
  refine ⟨fun c => (Cert.GateIdeal.Gen.dats m 0 c).arrAt 4 Cert.GateIdeal.cfg0.N, fun c => (Cert.GateIdeal.Gen.dats m 0 c).arrAt 5 Cert.GateIdeal.cfg0.N, (θ_run _ _ _).mono (fun r h c => ?_) (Cert.GateIdeal.Value.run_blocks m g),
    (θ_run _ _ _).mono (fun r h c => ?_) (Cert.GateRefIdeal.Val.run m' g' hp)⟩
  · exact h c
  · obtain ⟨h4, h5, k0, k1, k2, k3⟩ := h c
    obtain ⟨a0, a1, a2, a3⟩ := hagree c
    refine ⟨h4.trans ?_, h5.trans ?_, k0, k1, k2, k3⟩
    · rw [a0, a1, a2, a3]; exact (Cert.GateIdeal.Val.final4 m c).symm
    · rw [a0, a1, a2]; exact (Cert.GateIdeal.Val.final5 m c).symm

/-- The kernel of the gradient of the input at bit-exact floats stops, keeps its arguments, leaves no count. -/
theorem dh_frame : Cert.quiescent_Dh := fun m g _ => Cert.Dh.Gen.frame m g

/-- The same for its ideal reading. -/
theorem dh_frame_ideal : Cert.quiescent_DhIdeal := fun m g _ => Cert.DhIdeal.Gen.frame m g

/-- Its reference stops, keeps its arguments, leaves no count. -/
theorem dh_frame_ref : Cert.quiescent_DhRefIdeal := by
  intro m g _
  refine (θ_run _ _ _).mono (fun r h => ⟨fun c => (h c).2, ?_⟩) (Cert.DhRefIdeal.Value.run m g)
  exact sem_eq_zero_of_no_sems rfl _

/-- Over the extended reals the kernel of the gradient of the input gives the reference's results, from equal arguments. -/
theorem dh_algebraic : Cert.algebraic_DhIdeal_DhRefIdeal := by
  intro m g m' g' _ hagree
  refine ⟨fun c => (Cert.DhIdeal.Gen.dats m 0 c).arrAt 4 Cert.DhIdeal.cfg0.N, (θ_run _ _ _).mono (fun r h c => ?_) (Cert.DhIdeal.Value.run_blocks m g),
    (θ_run _ _ _).mono (fun r h c => ?_) (Cert.DhRefIdeal.Val.run m' g')⟩
  · exact h c
  · obtain ⟨h4, k0, k1, k2⟩ := h c
    obtain ⟨a0, a1, a2⟩ := hagree c
    refine ⟨h4.trans ?_, k0, k1, k2⟩
    · rw [a0, a1, a2]; exact (Cert.DhIdeal.Val.final4 m c).symm

/-- The kernel of the gradient of the input matrix at bit-exact floats stops, keeps its arguments, leaves no count. -/
theorem dwin_frame : Cert.quiescent_Dwin := fun m g _ => Cert.Dwin.Gen.frame m g

/-- The same for its ideal reading. -/
theorem dwin_frame_ideal : Cert.quiescent_DwinIdeal := fun m g _ => Cert.DwinIdeal.Gen.frame m g

/-- Its reference stops, keeps its arguments, leaves no count. -/
theorem dwin_frame_ref : Cert.quiescent_DwinRefIdeal := by
  intro m g _
  refine (θ_run _ _ _).mono (fun r h => ⟨fun c => (h c).2, ?_⟩) (Cert.DwinRefIdeal.Value.run m g)
  exact sem_eq_zero_of_no_sems rfl _

/-- Over the extended reals the kernel of the gradient of the input matrix gives the reference's results, from equal arguments. -/
theorem dwin_algebraic : Cert.algebraic_DwinIdeal_DwinRefIdeal := by
  intro m g m' g' _ hagree
  refine ⟨fun c => (Cert.DwinIdeal.Gen.dats m 0 c).arrAt 2 Cert.DwinIdeal.cfg0.N, (θ_run _ _ _).mono (fun r h c => ?_) (Cert.DwinIdeal.Value.run_blocks m g),
    (θ_run _ _ _).mono (fun r h c => ?_) (Cert.DwinRefIdeal.Val.run m' g')⟩
  · exact h c
  · obtain ⟨h2, k0, k1⟩ := h c
    obtain ⟨a0, a1⟩ := hagree c
    refine ⟨h2.trans ?_, k0, k1⟩
    · rw [a0, a1]; exact (Cert.DwinIdeal.Val.final2 m c).symm

/-- The kernel of the gradient of the output matrix at bit-exact floats stops, keeps its arguments, leaves no count. -/
theorem dwout_frame : Cert.quiescent_Dwout := fun m g _ => Cert.Dwout.Gen.frame m g

/-- The same for its ideal reading. -/
theorem dwout_frame_ideal : Cert.quiescent_DwoutIdeal := fun m g _ => Cert.DwoutIdeal.Gen.frame m g

/-- Its reference stops, keeps its arguments, leaves no count. -/
theorem dwout_frame_ref : Cert.quiescent_DwoutRefIdeal := by
  intro m g _
  refine (θ_run _ _ _).mono (fun r h => ⟨fun c => (h c).2, ?_⟩) (Cert.DwoutRefIdeal.Value.run m g)
  exact sem_eq_zero_of_no_sems rfl _

/-- Over the extended reals the kernel of the gradient of the output matrix gives the reference's results, from equal arguments. -/
theorem dwout_algebraic : Cert.algebraic_DwoutIdeal_DwoutRefIdeal := by
  intro m g m' g' _ hagree
  refine ⟨fun c => (Cert.DwoutIdeal.Gen.dats m 0 c).arrAt 2 Cert.DwoutIdeal.cfg0.N, (θ_run _ _ _).mono (fun r h c => ?_) (Cert.DwoutIdeal.Value.run_blocks m g),
    (θ_run _ _ _).mono (fun r h c => ?_) (Cert.DwoutRefIdeal.Val.run m' g')⟩
  · exact h c
  · obtain ⟨h2, k0, k1⟩ := h c
    obtain ⟨a0, a1⟩ := hagree c
    refine ⟨h2.trans ?_, k0, k1⟩
    · rw [a0, a1]; exact (Cert.DwoutIdeal.Val.final2 m c).symm

/-- The kernel of the input product and the activation at bit-exact floats stops, keeps its arguments, leaves no count. -/
theorem act_frame : Cert.quiescent_Act := fun m g _ => Cert.Act.Gen.frame m g

/-- The same for its ideal reading. -/
theorem act_frame_ideal : Cert.quiescent_ActIdeal := fun m g _ => Cert.ActIdeal.Gen.frame m g

/-- Its reference stops, keeps its arguments, leaves no count. -/
theorem act_frame_ref : Cert.quiescent_ActRefIdeal := by
  intro m g _
  refine (θ_run _ _ _).mono (fun r h => ⟨fun c => (h c).2.2.2, ?_⟩) (Cert.ActRefIdeal.Value.run m g)
  exact sem_eq_zero_of_no_sems rfl _

/-- Over the extended reals the kernel of the input product and the activation gives the reference's results, from equal arguments. -/
theorem act_algebraic : Cert.algebraic_ActIdeal_ActRefIdeal := by
  intro m g m' g' _ hagree
  refine ⟨fun c => (Cert.ActIdeal.Gen.dats m 0 c).arrAt 3 Cert.ActIdeal.cfg0.N, fun c => (Cert.ActIdeal.Gen.dats m 0 c).arrAt 4 Cert.ActIdeal.cfg0.N, fun c => (Cert.ActIdeal.Gen.dats m 0 c).arrAt 5 Cert.ActIdeal.cfg0.N, (θ_run _ _ _).mono (fun r h c => ?_) (Cert.ActIdeal.Value.run_blocks m g),
    (θ_run _ _ _).mono (fun r h c => ?_) (Cert.ActRefIdeal.Val.run m' g')⟩
  · exact h c
  · obtain ⟨h3, h4, h5, k0, k1⟩ := h c
    obtain ⟨a0, a1⟩ := hagree c
    refine ⟨h3.trans ?_, h4.trans ?_, h5.trans ?_, k0, k1⟩
    · rw [a0, a1]; exact (Cert.ActIdeal.Val.final3 m c).symm
    · rw [a0, a1]; exact (Cert.ActIdeal.Val.final4 m c).symm
    · rw [a0, a1]; exact (Cert.ActIdeal.Val.final5 m c).symm

/-- The kernel of the output product at bit-exact floats stops, keeps its arguments, leaves no count. -/
theorem out_frame : Cert.quiescent_Out := fun m g _ => Cert.Out.Gen.frame m g

/-- The same for its ideal reading. -/
theorem out_frame_ideal : Cert.quiescent_OutIdeal := fun m g _ => Cert.OutIdeal.Gen.frame m g

/-- Its reference stops, keeps its arguments, leaves no count. -/
theorem out_frame_ref : Cert.quiescent_OutRefIdeal := by
  intro m g _
  refine (θ_run _ _ _).mono (fun r h => ⟨fun c => (h c).2, ?_⟩) (Cert.OutRefIdeal.Value.run m g)
  exact sem_eq_zero_of_no_sems rfl _

/-- Over the extended reals the kernel of the output product gives the reference's results, from equal arguments. -/
theorem out_algebraic : Cert.algebraic_OutIdeal_OutRefIdeal := by
  intro m g m' g' _ hagree
  refine ⟨fun c => (Cert.OutIdeal.Gen.dats m 0 c).arrAt 2 Cert.OutIdeal.cfg0.N, (θ_run _ _ _).mono (fun r h c => ?_) (Cert.OutIdeal.Value.run_blocks m g),
    (θ_run _ _ _).mono (fun r h c => ?_) (Cert.OutRefIdeal.Val.run m' g')⟩
  · exact h c
  · obtain ⟨h2, k0, k1⟩ := h c
    obtain ⟨a0, a1⟩ := hagree c
    refine ⟨h2.trans ?_, k0, k1⟩
    · rw [a0, a1]; exact (Cert.OutIdeal.Val.final2 m c).symm

/-- The kernel of the forgetting attention's input projection (the matrix with its gate columns padded to 128) at bit-exact floats stops, keeps its arguments, leaves no count. -/
theorem foxIn_frame : Cert.quiescent_FoxIn := fun m g _ => Cert.FoxIn.Gen.frame m g

/-- The same for its ideal reading. -/
theorem foxIn_frame_ideal : Cert.quiescent_FoxInIdeal := fun m g _ => Cert.FoxInIdeal.Gen.frame m g

/-- Its reference stops, keeps its arguments, leaves no count. -/
theorem foxIn_frame_ref : Cert.quiescent_FoxInRefIdeal := by
  intro m g _
  refine (θ_run _ _ _).mono (fun r h => ⟨fun c => (h c).2, ?_⟩) (Cert.FoxInRefIdeal.Value.run m g)
  exact sem_eq_zero_of_no_sems rfl _

/-- Over the extended reals the kernel of the forgetting attention's input projection (the matrix with its gate columns padded to 128) gives the reference's results, from equal arguments. -/
theorem foxIn_algebraic : Cert.algebraic_FoxInIdeal_FoxInRefIdeal := by
  intro m g m' g' _ hagree
  refine ⟨fun c => (Cert.FoxInIdeal.Gen.dats m 0 c).arrAt 2 Cert.FoxInIdeal.cfg0.N, (θ_run _ _ _).mono (fun r h c => ?_) (Cert.FoxInIdeal.Value.run_blocks m g),
    (θ_run _ _ _).mono (fun r h c => ?_) (Cert.FoxInRefIdeal.Val.run m' g')⟩
  · exact h c
  · obtain ⟨h2, k0, k1⟩ := h c
    obtain ⟨a0, a1⟩ := hagree c
    refine ⟨h2.trans ?_, k0, k1⟩
    · rw [a0, a1]; exact (Cert.FoxInIdeal.Val.final2 m c).symm

/-- The kernel of the stick-breaking attention's input projection at bit-exact floats stops, keeps its arguments, leaves no count. -/
theorem sbIn_frame : Cert.quiescent_SbIn := fun m g _ => Cert.SbIn.Gen.frame m g

/-- The same for its ideal reading. -/
theorem sbIn_frame_ideal : Cert.quiescent_SbInIdeal := fun m g _ => Cert.SbInIdeal.Gen.frame m g

/-- Its reference stops, keeps its arguments, leaves no count. -/
theorem sbIn_frame_ref : Cert.quiescent_SbInRefIdeal := by
  intro m g _
  refine (θ_run _ _ _).mono (fun r h => ⟨fun c => (h c).2, ?_⟩) (Cert.SbInRefIdeal.Value.run m g)
  exact sem_eq_zero_of_no_sems rfl _

/-- Over the extended reals the kernel of the stick-breaking attention's input projection gives the reference's results, from equal arguments. -/
theorem sbIn_algebraic : Cert.algebraic_SbInIdeal_SbInRefIdeal := by
  intro m g m' g' _ hagree
  refine ⟨fun c => (Cert.SbInIdeal.Gen.dats m 0 c).arrAt 2 Cert.SbInIdeal.cfg0.N, (θ_run _ _ _).mono (fun r h c => ?_) (Cert.SbInIdeal.Value.run_blocks m g),
    (θ_run _ _ _).mono (fun r h c => ?_) (Cert.SbInRefIdeal.Val.run m' g')⟩
  · exact h c
  · obtain ⟨h2, k0, k1⟩ := h c
    obtain ⟨a0, a1⟩ := hagree c
    refine ⟨h2.trans ?_, k0, k1⟩
    · rw [a0, a1]; exact (Cert.SbInIdeal.Val.final2 m c).symm

/-- The kernel of the input projection of the gMLP mixer and of the convolution mixer at bit-exact floats stops, keeps its arguments, leaves no count. -/
theorem gmIn_frame : Cert.quiescent_GmIn := fun m g _ => Cert.GmIn.Gen.frame m g

/-- The same for its ideal reading. -/
theorem gmIn_frame_ideal : Cert.quiescent_GmInIdeal := fun m g _ => Cert.GmInIdeal.Gen.frame m g

/-- Its reference stops, keeps its arguments, leaves no count. -/
theorem gmIn_frame_ref : Cert.quiescent_GmInRefIdeal := by
  intro m g _
  refine (θ_run _ _ _).mono (fun r h => ⟨fun c => (h c).2, ?_⟩) (Cert.GmInRefIdeal.Value.run m g)
  exact sem_eq_zero_of_no_sems rfl _

/-- Over the extended reals the kernel of the input projection of the gMLP mixer and of the convolution mixer gives the reference's results, from equal arguments. -/
theorem gmIn_algebraic : Cert.algebraic_GmInIdeal_GmInRefIdeal := by
  intro m g m' g' _ hagree
  refine ⟨fun c => (Cert.GmInIdeal.Gen.dats m 0 c).arrAt 2 Cert.GmInIdeal.cfg0.N, (θ_run _ _ _).mono (fun r h c => ?_) (Cert.GmInIdeal.Value.run_blocks m g),
    (θ_run _ _ _).mono (fun r h c => ?_) (Cert.GmInRefIdeal.Val.run m' g')⟩
  · exact h c
  · obtain ⟨h2, k0, k1⟩ := h c
    obtain ⟨a0, a1⟩ := hagree c
    refine ⟨h2.trans ?_, k0, k1⟩
    · rw [a0, a1]; exact (Cert.GmInIdeal.Val.final2 m c).symm

/-- The kernel of the output projection of every mixer at bit-exact floats stops, keeps its arguments, leaves no count. -/
theorem mixOut_frame : Cert.quiescent_MixOut := fun m g _ => Cert.MixOut.Gen.frame m g

/-- The same for its ideal reading. -/
theorem mixOut_frame_ideal : Cert.quiescent_MixOutIdeal := fun m g _ => Cert.MixOutIdeal.Gen.frame m g

/-- Its reference stops, keeps its arguments, leaves no count. -/
theorem mixOut_frame_ref : Cert.quiescent_MixOutRefIdeal := by
  intro m g _
  refine (θ_run _ _ _).mono (fun r h => ⟨fun c => (h c).2, ?_⟩) (Cert.MixOutRefIdeal.Value.run m g)
  exact sem_eq_zero_of_no_sems rfl _

/-- Over the extended reals the kernel of the output projection of every mixer gives the reference's results, from equal arguments. -/
theorem mixOut_algebraic : Cert.algebraic_MixOutIdeal_MixOutRefIdeal := by
  intro m g m' g' _ hagree
  refine ⟨fun c => (Cert.MixOutIdeal.Gen.dats m 0 c).arrAt 2 Cert.MixOutIdeal.cfg0.N, (θ_run _ _ _).mono (fun r h c => ?_) (Cert.MixOutIdeal.Value.run_blocks m g),
    (θ_run _ _ _).mono (fun r h c => ?_) (Cert.MixOutRefIdeal.Val.run m' g')⟩
  · exact h c
  · obtain ⟨h2, k0, k1⟩ := h c
    obtain ⟨a0, a1⟩ := hagree c
    refine ⟨h2.trans ?_, k0, k1⟩
    · rw [a0, a1]; exact (Cert.MixOutIdeal.Val.final2 m c).symm

/-- The kernel of the gradient of every mixer's output matrix at bit-exact floats stops, keeps its arguments, leaves no count. -/
theorem mixDwout_frame : Cert.quiescent_MixDwout := fun m g _ => Cert.MixDwout.Gen.frame m g

/-- The same for its ideal reading. -/
theorem mixDwout_frame_ideal : Cert.quiescent_MixDwoutIdeal := fun m g _ => Cert.MixDwoutIdeal.Gen.frame m g

/-- Its reference stops, keeps its arguments, leaves no count. -/
theorem mixDwout_frame_ref : Cert.quiescent_MixDwoutRefIdeal := by
  intro m g _
  refine (θ_run _ _ _).mono (fun r h => ⟨fun c => (h c).2, ?_⟩) (Cert.MixDwoutRefIdeal.Value.run m g)
  exact sem_eq_zero_of_no_sems rfl _

/-- Over the extended reals the kernel of the gradient of every mixer's output matrix gives the reference's results, from equal arguments. -/
theorem mixDwout_algebraic : Cert.algebraic_MixDwoutIdeal_MixDwoutRefIdeal := by
  intro m g m' g' _ hagree
  refine ⟨fun c => (Cert.MixDwoutIdeal.Gen.dats m 0 c).arrAt 2 Cert.MixDwoutIdeal.cfg0.N, (θ_run _ _ _).mono (fun r h c => ?_) (Cert.MixDwoutIdeal.Value.run_blocks m g),
    (θ_run _ _ _).mono (fun r h c => ?_) (Cert.MixDwoutRefIdeal.Val.run m' g')⟩
  · exact h c
  · obtain ⟨h2, k0, k1⟩ := h c
    obtain ⟨a0, a1⟩ := hagree c
    refine ⟨h2.trans ?_, k0, k1⟩
    · rw [a0, a1]; exact (Cert.MixDwoutIdeal.Val.final2 m c).symm

/-- The kernel of the gradient of the gMLP and convolution mixers' input matrix at bit-exact floats stops, keeps its arguments, leaves no count. -/
theorem gmDwin_frame : Cert.quiescent_GmDwin := fun m g _ => Cert.GmDwin.Gen.frame m g

/-- The same for its ideal reading. -/
theorem gmDwin_frame_ideal : Cert.quiescent_GmDwinIdeal := fun m g _ => Cert.GmDwinIdeal.Gen.frame m g

/-- Its reference stops, keeps its arguments, leaves no count. -/
theorem gmDwin_frame_ref : Cert.quiescent_GmDwinRefIdeal := by
  intro m g _
  refine (θ_run _ _ _).mono (fun r h => ⟨fun c => (h c).2, ?_⟩) (Cert.GmDwinRefIdeal.Value.run m g)
  exact sem_eq_zero_of_no_sems rfl _

/-- Over the extended reals the kernel of the gradient of the gMLP and convolution mixers' input matrix gives the reference's results, from equal arguments. -/
theorem gmDwin_algebraic : Cert.algebraic_GmDwinIdeal_GmDwinRefIdeal := by
  intro m g m' g' _ hagree
  refine ⟨fun c => (Cert.GmDwinIdeal.Gen.dats m 0 c).arrAt 2 Cert.GmDwinIdeal.cfg0.N, (θ_run _ _ _).mono (fun r h c => ?_) (Cert.GmDwinIdeal.Value.run_blocks m g),
    (θ_run _ _ _).mono (fun r h c => ?_) (Cert.GmDwinRefIdeal.Val.run m' g')⟩
  · exact h c
  · obtain ⟨h2, k0, k1⟩ := h c
    obtain ⟨a0, a1⟩ := hagree c
    refine ⟨h2.trans ?_, k0, k1⟩
    · rw [a0, a1]; exact (Cert.GmDwinIdeal.Val.final2 m c).symm

/-- The kernel of the gradient of the stick-breaking attention's input matrix at bit-exact floats stops, keeps its arguments, leaves no count. -/
theorem sbDwin_frame : Cert.quiescent_SbDwin := fun m g _ => Cert.SbDwin.Gen.frame m g

/-- The same for its ideal reading. -/
theorem sbDwin_frame_ideal : Cert.quiescent_SbDwinIdeal := fun m g _ => Cert.SbDwinIdeal.Gen.frame m g

/-- Its reference stops, keeps its arguments, leaves no count. -/
theorem sbDwin_frame_ref : Cert.quiescent_SbDwinRefIdeal := by
  intro m g _
  refine (θ_run _ _ _).mono (fun r h => ⟨fun c => (h c).2, ?_⟩) (Cert.SbDwinRefIdeal.Value.run m g)
  exact sem_eq_zero_of_no_sems rfl _

/-- Over the extended reals the kernel of the gradient of the stick-breaking attention's input matrix gives the reference's results, from equal arguments. -/
theorem sbDwin_algebraic : Cert.algebraic_SbDwinIdeal_SbDwinRefIdeal := by
  intro m g m' g' _ hagree
  refine ⟨fun c => (Cert.SbDwinIdeal.Gen.dats m 0 c).arrAt 2 Cert.SbDwinIdeal.cfg0.N, (θ_run _ _ _).mono (fun r h c => ?_) (Cert.SbDwinIdeal.Value.run_blocks m g),
    (θ_run _ _ _).mono (fun r h c => ?_) (Cert.SbDwinRefIdeal.Val.run m' g')⟩
  · exact h c
  · obtain ⟨h2, k0, k1⟩ := h c
    obtain ⟨a0, a1⟩ := hagree c
    refine ⟨h2.trans ?_, k0, k1⟩
    · rw [a0, a1]; exact (Cert.SbDwinIdeal.Val.final2 m c).symm

/-- The kernel of the gradient of the forgetting attention's input matrix at bit-exact floats stops, keeps its arguments, leaves no count. -/
theorem foxDwin_frame : Cert.quiescent_FoxDwin := fun m g _ => Cert.FoxDwin.Gen.frame m g

/-- The same for its ideal reading. -/
theorem foxDwin_frame_ideal : Cert.quiescent_FoxDwinIdeal := fun m g _ => Cert.FoxDwinIdeal.Gen.frame m g

/-- Its reference stops, keeps its arguments, leaves no count. -/
theorem foxDwin_frame_ref : Cert.quiescent_FoxDwinRefIdeal := by
  intro m g _
  refine (θ_run _ _ _).mono (fun r h => ⟨fun c => (h c).2, ?_⟩) (Cert.FoxDwinRefIdeal.Value.run m g)
  exact sem_eq_zero_of_no_sems rfl _

/-- Over the extended reals the kernel of the gradient of the forgetting attention's input matrix gives the reference's results, from equal arguments. -/
theorem foxDwin_algebraic : Cert.algebraic_FoxDwinIdeal_FoxDwinRefIdeal := by
  intro m g m' g' _ hagree
  refine ⟨fun c => (Cert.FoxDwinIdeal.Gen.dats m 0 c).arrAt 2 Cert.FoxDwinIdeal.cfg0.N, (θ_run _ _ _).mono (fun r h c => ?_) (Cert.FoxDwinIdeal.Value.run_blocks m g),
    (θ_run _ _ _).mono (fun r h c => ?_) (Cert.FoxDwinRefIdeal.Val.run m' g')⟩
  · exact h c
  · obtain ⟨h2, k0, k1⟩ := h c
    obtain ⟨a0, a1⟩ := hagree c
    refine ⟨h2.trans ?_, k0, k1⟩
    · rw [a0, a1]; exact (Cert.FoxDwinIdeal.Val.final2 m c).symm

/-- The kernel of the gradient of the gMLP and convolution mixers' output, through the output matrix at bit-exact floats stops, keeps its arguments, leaves no count. -/
theorem gmDy_frame : Cert.quiescent_GmDy := fun m g _ => Cert.GmDy.Gen.frame m g

/-- The same for its ideal reading. -/
theorem gmDy_frame_ideal : Cert.quiescent_GmDyIdeal := fun m g _ => Cert.GmDyIdeal.Gen.frame m g

/-- Its reference stops, keeps its arguments, leaves no count. -/
theorem gmDy_frame_ref : Cert.quiescent_GmDyRefIdeal := by
  intro m g _
  refine (θ_run _ _ _).mono (fun r h => ⟨fun c => (h c).2, ?_⟩) (Cert.GmDyRefIdeal.Value.run m g)
  exact sem_eq_zero_of_no_sems rfl _

/-- Over the extended reals the kernel of the gradient of the gMLP and convolution mixers' output, through the output matrix gives the reference's results, from equal arguments. -/
theorem gmDy_algebraic : Cert.algebraic_GmDyIdeal_GmDyRefIdeal := by
  intro m g m' g' _ hagree
  refine ⟨fun c => (Cert.GmDyIdeal.Gen.dats m 0 c).arrAt 2 Cert.GmDyIdeal.cfg0.N, (θ_run _ _ _).mono (fun r h c => ?_) (Cert.GmDyIdeal.Value.run_blocks m g),
    (θ_run _ _ _).mono (fun r h c => ?_) (Cert.GmDyRefIdeal.Val.run m' g')⟩
  · exact h c
  · obtain ⟨h2, k0, k1⟩ := h c
    obtain ⟨a0, a1⟩ := hagree c
    refine ⟨h2.trans ?_, k0, k1⟩
    · rw [a0, a1]; exact (Cert.GmDyIdeal.Val.final2 m c).symm

/-- The kernel of the gradient of either attention's output, through the output matrix at bit-exact floats stops, keeps its arguments, leaves no count. -/
theorem foxDo_frame : Cert.quiescent_FoxDo := fun m g _ => Cert.FoxDo.Gen.frame m g

/-- The same for its ideal reading. -/
theorem foxDo_frame_ideal : Cert.quiescent_FoxDoIdeal := fun m g _ => Cert.FoxDoIdeal.Gen.frame m g

/-- Its reference stops, keeps its arguments, leaves no count. -/
theorem foxDo_frame_ref : Cert.quiescent_FoxDoRefIdeal := by
  intro m g _
  refine (θ_run _ _ _).mono (fun r h => ⟨fun c => (h c).2, ?_⟩) (Cert.FoxDoRefIdeal.Value.run m g)
  exact sem_eq_zero_of_no_sems rfl _

/-- Over the extended reals the kernel of the gradient of either attention's output, through the output matrix gives the reference's results, from equal arguments. -/
theorem foxDo_algebraic : Cert.algebraic_FoxDoIdeal_FoxDoRefIdeal := by
  intro m g m' g' _ hagree
  refine ⟨fun c => (Cert.FoxDoIdeal.Gen.dats m 0 c).arrAt 2 Cert.FoxDoIdeal.cfg0.N, (θ_run _ _ _).mono (fun r h c => ?_) (Cert.FoxDoIdeal.Value.run_blocks m g),
    (θ_run _ _ _).mono (fun r h c => ?_) (Cert.FoxDoRefIdeal.Val.run m' g')⟩
  · exact h c
  · obtain ⟨h2, k0, k1⟩ := h c
    obtain ⟨a0, a1⟩ := hagree c
    refine ⟨h2.trans ?_, k0, k1⟩
    · rw [a0, a1]; exact (Cert.FoxDoIdeal.Val.final2 m c).symm

/-- The kernel of the gradient of the gMLP and convolution mixers' input at bit-exact floats stops, keeps its arguments, leaves no count. -/
theorem gmDh_frame : Cert.quiescent_GmDh := fun m g _ => Cert.GmDh.Gen.frame m g

/-- The same for its ideal reading. -/
theorem gmDh_frame_ideal : Cert.quiescent_GmDhIdeal := fun m g _ => Cert.GmDhIdeal.Gen.frame m g

/-- Its reference stops, keeps its arguments, leaves no count. -/
theorem gmDh_frame_ref : Cert.quiescent_GmDhRefIdeal := by
  intro m g _
  refine (θ_run _ _ _).mono (fun r h => ⟨fun c => (h c).2, ?_⟩) (Cert.GmDhRefIdeal.Value.run m g)
  exact sem_eq_zero_of_no_sems rfl _

/-- Over the extended reals the kernel of the gradient of the gMLP and convolution mixers' input gives the reference's results, from equal arguments. -/
theorem gmDh_algebraic : Cert.algebraic_GmDhIdeal_GmDhRefIdeal := by
  intro m g m' g' _ hagree
  refine ⟨fun c => (Cert.GmDhIdeal.Gen.dats m 0 c).arrAt 2 Cert.GmDhIdeal.cfg0.N, (θ_run _ _ _).mono (fun r h c => ?_) (Cert.GmDhIdeal.Value.run_blocks m g),
    (θ_run _ _ _).mono (fun r h c => ?_) (Cert.GmDhRefIdeal.Val.run m' g')⟩
  · exact h c
  · obtain ⟨h2, k0, k1⟩ := h c
    obtain ⟨a0, a1⟩ := hagree c
    refine ⟨h2.trans ?_, k0, k1⟩
    · rw [a0, a1]; exact (Cert.GmDhIdeal.Val.final2 m c).symm

/-- The kernel of the gradient of the stick-breaking attention's input at bit-exact floats stops, keeps its arguments, leaves no count. -/
theorem sbDh_frame : Cert.quiescent_SbDh := fun m g _ => Cert.SbDh.Gen.frame m g

/-- The same for its ideal reading. -/
theorem sbDh_frame_ideal : Cert.quiescent_SbDhIdeal := fun m g _ => Cert.SbDhIdeal.Gen.frame m g

/-- Its reference stops, keeps its arguments, leaves no count. -/
theorem sbDh_frame_ref : Cert.quiescent_SbDhRefIdeal := by
  intro m g _
  refine (θ_run _ _ _).mono (fun r h => ⟨fun c => (h c).2, ?_⟩) (Cert.SbDhRefIdeal.Value.run m g)
  exact sem_eq_zero_of_no_sems rfl _

/-- Over the extended reals the kernel of the gradient of the stick-breaking attention's input gives the reference's results, from equal arguments. -/
theorem sbDh_algebraic : Cert.algebraic_SbDhIdeal_SbDhRefIdeal := by
  intro m g m' g' _ hagree
  refine ⟨fun c => (Cert.SbDhIdeal.Gen.dats m 0 c).arrAt 2 Cert.SbDhIdeal.cfg0.N, (θ_run _ _ _).mono (fun r h c => ?_) (Cert.SbDhIdeal.Value.run_blocks m g),
    (θ_run _ _ _).mono (fun r h c => ?_) (Cert.SbDhRefIdeal.Val.run m' g')⟩
  · exact h c
  · obtain ⟨h2, k0, k1⟩ := h c
    obtain ⟨a0, a1⟩ := hagree c
    refine ⟨h2.trans ?_, k0, k1⟩
    · rw [a0, a1]; exact (Cert.SbDhIdeal.Val.final2 m c).symm

/-- The kernel of the gradient of the forgetting attention's input at bit-exact floats stops, keeps its arguments, leaves no count. -/
theorem foxDh_frame : Cert.quiescent_FoxDh := fun m g _ => Cert.FoxDh.Gen.frame m g

/-- The same for its ideal reading. -/
theorem foxDh_frame_ideal : Cert.quiescent_FoxDhIdeal := fun m g _ => Cert.FoxDhIdeal.Gen.frame m g

/-- Its reference stops, keeps its arguments, leaves no count. -/
theorem foxDh_frame_ref : Cert.quiescent_FoxDhRefIdeal := by
  intro m g _
  refine (θ_run _ _ _).mono (fun r h => ⟨fun c => (h c).2, ?_⟩) (Cert.FoxDhRefIdeal.Value.run m g)
  exact sem_eq_zero_of_no_sems rfl _

/-- Over the extended reals the kernel of the gradient of the forgetting attention's input gives the reference's results, from equal arguments. -/
theorem foxDh_algebraic : Cert.algebraic_FoxDhIdeal_FoxDhRefIdeal := by
  intro m g m' g' _ hagree
  refine ⟨fun c => (Cert.FoxDhIdeal.Gen.dats m 0 c).arrAt 2 Cert.FoxDhIdeal.cfg0.N, (θ_run _ _ _).mono (fun r h c => ?_) (Cert.FoxDhIdeal.Value.run_blocks m g),
    (θ_run _ _ _).mono (fun r h c => ?_) (Cert.FoxDhRefIdeal.Val.run m' g')⟩
  · exact h c
  · obtain ⟨h2, k0, k1⟩ := h c
    obtain ⟨a0, a1⟩ := hagree c
    refine ⟨h2.trans ?_, k0, k1⟩
    · rw [a0, a1]; exact (Cert.FoxDhIdeal.Val.final2 m c).symm

/-- The kernel of the modulation's gradient at bit-exact floats stops, keeps its arguments, leaves no count. -/
theorem modBwd_frame : Cert.quiescent_ModBwd := fun m g _ => Cert.ModBwd.Gen.frame m g

/-- The same for its ideal reading. -/
theorem modBwd_frame_ideal : Cert.quiescent_ModBwdIdeal := fun m g _ => Cert.ModBwdIdeal.Gen.frame m g

/-- Its reference stops, keeps its arguments, leaves no count. -/
theorem modBwd_frame_ref : Cert.quiescent_ModBwdRefIdeal := by
  intro m g _
  refine (θ_run _ _ _).mono (fun r h => ⟨fun c => (h c).2.2.2, ?_⟩) (Cert.ModBwdRefIdeal.Value.run m g)
  exact sem_eq_zero_of_no_sems rfl _

/-- Over the extended reals the kernel of the modulation's gradient gives the reference's results, from equal arguments. -/
theorem modBwd_algebraic : Cert.algebraic_ModBwdIdeal_ModBwdRefIdeal := by
  intro m g m' g' _ hagree
  refine ⟨fun c => (Cert.ModBwdIdeal.Gen.dats m 0 c).arrAt 4 Cert.ModBwdIdeal.cfg0.N, fun c => (Cert.ModBwdIdeal.Gen.dats m 0 c).arrAt 5 Cert.ModBwdIdeal.cfg0.N, fun c => (Cert.ModBwdIdeal.Gen.dats m 0 c).arrAt 6 Cert.ModBwdIdeal.cfg0.N, (θ_run _ _ _).mono (fun r h c => ?_) (Cert.ModBwdIdeal.Value.run_blocks m g),
    (θ_run _ _ _).mono (fun r h c => ?_) (Cert.ModBwdRefIdeal.Val.run m' g')⟩
  · exact h c
  · obtain ⟨h4, h5, h6, k0, k1, k2, k3⟩ := h c
    obtain ⟨a0, a1, a2, a3⟩ := hagree c
    refine ⟨h4.trans ?_, h5.trans ?_, h6.trans ?_, k0, k1, k2, k3⟩
    · rw [a0, a1, a3]; exact (Cert.ModBwdIdeal.Val.final4 m c).symm
    · rw [a0, a2]; exact (Cert.ModBwdIdeal.Val.final5 m c).symm
    · rw [a0]; exact (Cert.ModBwdIdeal.Val.final6 m c).symm

/-- The kernel of the gated linear unit's gradient at bit-exact floats stops, keeps its arguments, leaves no count. -/
theorem gluBwd_frame : Cert.quiescent_GluBwd := fun m g _ => Cert.GluBwd.Gen.frame m g

/-- The same for its ideal reading. -/
theorem gluBwd_frame_ideal : Cert.quiescent_GluBwdIdeal := fun m g _ => Cert.GluBwdIdeal.Gen.frame m g

/-- Its reference stops, keeps its arguments, leaves no count. -/
theorem gluBwd_frame_ref : Cert.quiescent_GluBwdRefIdeal := by
  intro m g _
  refine (θ_run _ _ _).mono (fun r h => ⟨fun c => (h c).2.2, ?_⟩) (Cert.GluBwdRefIdeal.Value.run m g)
  exact sem_eq_zero_of_no_sems rfl _

/-- Over the extended reals the kernel of the gated linear unit's gradient gives the reference's results, from equal arguments. -/
theorem gluBwd_algebraic : Cert.algebraic_GluBwdIdeal_GluBwdRefIdeal := by
  intro m g m' g' _ hagree
  refine ⟨fun c => (Cert.GluBwdIdeal.Gen.dats m 0 c).arrAt 3 Cert.GluBwdIdeal.cfg0.N, fun c => (Cert.GluBwdIdeal.Gen.dats m 0 c).arrAt 4 Cert.GluBwdIdeal.cfg0.N, (θ_run _ _ _).mono (fun r h c => ?_) (Cert.GluBwdIdeal.Value.run_blocks m g),
    (θ_run _ _ _).mono (fun r h c => ?_) (Cert.GluBwdRefIdeal.Val.run m' g')⟩
  · exact h c
  · obtain ⟨h3, h4, k0, k1, k2⟩ := h c
    obtain ⟨a0, a1, a2⟩ := hagree c
    refine ⟨h3.trans ?_, h4.trans ?_, k0, k1, k2⟩
    · rw [a0, a1, a2]; exact (Cert.GluBwdIdeal.Val.final3 m c).symm
    · rw [a0, a1, a2]; exact (Cert.GluBwdIdeal.Val.final4 m c).symm

/-- The kernel of the gated linear unit at bit-exact floats stops, keeps its arguments, leaves no count. -/
theorem glu_frame : Cert.quiescent_Glu := fun m g _ => Cert.Glu.Gen.frame m g

/-- The same for its ideal reading. -/
theorem glu_frame_ideal : Cert.quiescent_GluIdeal := fun m g _ => Cert.GluIdeal.Gen.frame m g

/-- Its reference stops, keeps its arguments, leaves no count. -/
theorem glu_frame_ref : Cert.quiescent_GluRefIdeal := by
  intro m g _
  refine (θ_run _ _ _).mono (fun r h => ⟨fun c => (h c).2, ?_⟩) (Cert.GluRefIdeal.Value.run m g)
  exact sem_eq_zero_of_no_sems rfl _

/-- Over the extended reals the kernel of the gated linear unit gives the reference's results, from equal arguments. -/
theorem glu_algebraic : Cert.algebraic_GluIdeal_GluRefIdeal := by
  intro m g m' g' _ hagree
  refine ⟨fun c => (Cert.GluIdeal.Gen.dats m 0 c).arrAt 2 Cert.GluIdeal.cfg0.N, (θ_run _ _ _).mono (fun r h c => ?_) (Cert.GluIdeal.Val.run_blocks m g),
    (θ_run _ _ _).mono (fun r h c => ?_) (Cert.GluRefIdeal.Val.run m' g')⟩
  · exact h c
  · obtain ⟨h2, k0, k1⟩ := h c
    obtain ⟨a0, a1⟩ := hagree c
    refine ⟨h2.trans ?_, k0, k1⟩
    · rw [a0, a1]; exact (Cert.GluIdeal.Val.final2 m c).symm

/-- The kernel of the modulation at bit-exact floats stops, keeps its arguments, leaves no count. -/
theorem mod_frame : Cert.quiescent_Mod := fun m g _ => Cert.Mod.Gen.frame m g

/-- The same for its ideal reading. -/
theorem mod_frame_ideal : Cert.quiescent_ModIdeal := fun m g _ => Cert.ModIdeal.Gen.frame m g

/-- Its reference stops, keeps its arguments, leaves no count. -/
theorem mod_frame_ref : Cert.quiescent_ModRefIdeal := by
  intro m g _
  refine (θ_run _ _ _).mono (fun r h => ⟨fun c => (h c).2, ?_⟩) (Cert.ModRefIdeal.Value.run m g)
  exact sem_eq_zero_of_no_sems rfl _

/-- Over the extended reals the kernel of the modulation gives the reference's results, from equal arguments. -/
theorem mod_algebraic : Cert.algebraic_ModIdeal_ModRefIdeal := by
  intro m g m' g' _ hagree
  refine ⟨fun c => (Cert.ModIdeal.Gen.dats m 0 c).arrAt 3 Cert.ModIdeal.cfg0.N, (θ_run _ _ _).mono (fun r h c => ?_) (Cert.ModIdeal.Value.run_blocks m g),
    (θ_run _ _ _).mono (fun r h c => ?_) (Cert.ModRefIdeal.Val.run m' g')⟩
  · exact h c
  · obtain ⟨h3, k0, k1, k2⟩ := h c
    obtain ⟨a0, a1, a2⟩ := hagree c
    refine ⟨h3.trans ?_, k0, k1, k2⟩
    · rw [a0, a1, a2]; exact (Cert.ModIdeal.Val.final3 m c).symm

/-- The kernel of the spatial gate at bit-exact floats stops, keeps its arguments, leaves no count. -/
theorem spatial_frame : Cert.quiescent_Spatial := fun m g _ => Cert.Spatial.Gen.frame m g

/-- The same for its ideal reading. -/
theorem spatial_frame_ideal : Cert.quiescent_SpatialIdeal := fun m g _ => Cert.SpatialIdeal.Gen.frame m g

/-- Its reference stops, keeps its arguments, leaves no count. -/
theorem spatial_frame_ref : Cert.quiescent_SpatialRefIdeal := by
  intro m g _
  refine (θ_run _ _ _).mono (fun r h => ⟨fun c => (h c).2, ?_⟩) (Cert.SpatialRefIdeal.Value.run m g)
  exact sem_eq_zero_of_no_sems rfl _

/-- Over the extended reals the kernel of the spatial gate gives the reference's results, from equal arguments. -/
theorem spatial_algebraic : Cert.algebraic_SpatialIdeal_SpatialRefIdeal := by
  intro m g m' g' _ hagree
  refine ⟨fun c => (Cert.SpatialIdeal.Gen.dats m 0 c).arrAt 4 Cert.SpatialIdeal.cfg0.N, (θ_run _ _ _).mono (fun r h c => ?_) (Cert.SpatialIdeal.Value.run_blocks m g),
    (θ_run _ _ _).mono (fun r h c => ?_) (Cert.SpatialRefIdeal.Val.run m' g')⟩
  · exact h c
  · obtain ⟨h4, k0, k1, k2, k3⟩ := h c
    obtain ⟨a0, a1, a2, a3⟩ := hagree c
    refine ⟨h4.trans ?_, k0, k1, k2, k3⟩
    · rw [a0, a1, a2, a3]; exact (Cert.SpatialIdeal.Val.final4 m c).symm

/-- The kernel of a residual's norm and the next modulation at bit-exact floats stops, keeps its arguments, leaves no count. -/
theorem ln_frame : Cert.quiescent_Ln := fun m g _ => Cert.Ln.Gen.frame m g

/-- The same for its ideal reading. -/
theorem ln_frame_ideal : Cert.quiescent_LnIdeal := fun m g _ => Cert.LnIdeal.Gen.frame m g

/-- Its reference stops, keeps its arguments, leaves no count. -/
theorem ln_frame_ref : Cert.quiescent_LnRefIdeal := by
  intro m g _
  refine (θ_run _ _ _).mono (fun r h => ⟨fun c => (h c).2.2, ?_⟩) (Cert.LnRefIdeal.Value.run m g)
  exact sem_eq_zero_of_no_sems rfl _

/-- Over the extended reals the kernel of a residual's norm and the next modulation gives the reference's results, from equal arguments. -/
theorem ln_algebraic : Cert.algebraic_LnIdeal_LnRefIdeal := by
  intro m g m' g' _ hagree
  refine ⟨fun c => (Cert.LnIdeal.Gen.dats m 0 c).arrAt 7 Cert.LnIdeal.cfg0.N, fun c => (Cert.LnIdeal.Gen.dats m 0 c).arrAt 8 Cert.LnIdeal.cfg0.N, (θ_run _ _ _).mono (fun r h c => ?_) (Cert.LnIdeal.Value.run_blocks m g),
    (θ_run _ _ _).mono (fun r h c => ?_) (Cert.LnRefIdeal.Val.run m' g')⟩
  · exact h c
  · obtain ⟨h7, h8, k0, k1, k2, k3, k4, k5, k6⟩ := h c
    obtain ⟨a0, a1, a2, a3, a4, a5, a6⟩ := hagree c
    refine ⟨h7.trans ?_, h8.trans ?_, k0, k1, k2, k3, k4, k5, k6⟩
    · rw [a0, a1, a2, a3, a4]; exact (Cert.LnIdeal.Val.final7 m c).symm
    · rw [a0, a1, a2, a3, a4, a5, a6]; exact (Cert.LnIdeal.Val.final8 m c).symm

/-- The kernel of the convolution block's norm and activation at bit-exact floats stops, keeps its arguments, leaves no count. -/
theorem lnAct_frame : Cert.quiescent_LnAct := fun m g _ => Cert.LnAct.Gen.frame m g

/-- The same for its ideal reading. -/
theorem lnAct_frame_ideal : Cert.quiescent_LnActIdeal := fun m g _ => Cert.LnActIdeal.Gen.frame m g

/-- Its reference stops, keeps its arguments, leaves no count. -/
theorem lnAct_frame_ref : Cert.quiescent_LnActRefIdeal := by
  intro m g _
  refine (θ_run _ _ _).mono (fun r h => ⟨fun c => (h c).2, ?_⟩) (Cert.LnActRefIdeal.Value.run m g)
  exact sem_eq_zero_of_no_sems rfl _

/-- Over the extended reals the kernel of the convolution block's norm and activation gives the reference's results, from equal arguments. -/
theorem lnAct_algebraic : Cert.algebraic_LnActIdeal_LnActRefIdeal := by
  intro m g m' g' _ hagree
  refine ⟨fun c => (Cert.LnActIdeal.Gen.dats m 0 c).arrAt 3 Cert.LnActIdeal.cfg0.N, (θ_run _ _ _).mono (fun r h c => ?_) (Cert.LnActIdeal.Value.run_blocks m g),
    (θ_run _ _ _).mono (fun r h c => ?_) (Cert.LnActRefIdeal.Val.run m' g')⟩
  · exact h c
  · obtain ⟨h3, k0, k1, k2⟩ := h c
    obtain ⟨a0, a1, a2⟩ := hagree c
    refine ⟨h3.trans ?_, k0, k1, k2⟩
    · rw [a0, a1, a2]; exact (Cert.LnActIdeal.Val.final3 m c).symm

/-- The kernel of the loss head at bit-exact floats stops, keeps its arguments, leaves no count. -/
theorem loss_frame : Cert.quiescent_Loss := fun m g _ => Cert.Loss.Gen.frame m g

/-- The same for its ideal reading. -/
theorem loss_frame_ideal : Cert.quiescent_LossIdeal := fun m g _ => Cert.LossIdeal.Gen.frame m g

/-- Its reference stops, keeps its arguments, leaves no count. -/
theorem loss_frame_ref : Cert.quiescent_LossRefIdeal := by
  intro m g _
  refine (θ_run _ _ _).mono (fun r h => ⟨fun c => (h c).2.2, ?_⟩) (Cert.LossRefIdeal.Value.run m g)
  exact sem_eq_zero_of_no_sems rfl _

/-- Over the extended reals the kernel of the loss head gives the reference's results, from equal arguments. -/
theorem loss_algebraic : Cert.algebraic_LossIdeal_LossRefIdeal := by
  intro m g m' g' _ hagree
  refine ⟨fun c => (Cert.LossIdeal.Gen.dats m 0 c).arrAt 2 Cert.LossIdeal.cfg0.N, fun c => (Cert.LossIdeal.Gen.dats m 0 c).arrAt 3 Cert.LossIdeal.cfg0.N, (θ_run _ _ _).mono (fun r h c => ?_) (Cert.LossIdeal.Value.run_blocks m g),
    (θ_run _ _ _).mono (fun r h c => ?_) (Cert.LossRefIdeal.Val.run m' g')⟩
  · exact h c
  · obtain ⟨h2, h3, k0, k1⟩ := h c
    obtain ⟨a0, a1⟩ := hagree c
    refine ⟨h2.trans ?_, h3.trans ?_, k0, k1⟩
    · rw [a0, a1]; exact (Cert.LossIdeal.Val.final2 m c).symm
    · rw [a0, a1]; exact (Cert.LossIdeal.Val.final3 m c).symm

/-- The kernel of the optimiser's update at bit-exact floats stops, keeps its arguments, leaves no count. -/
theorem adam_frame : Cert.quiescent_Adam := fun m g _ => Cert.Adam.Gen.frame m g

/-- The same for its ideal reading. -/
theorem adam_frame_ideal : Cert.quiescent_AdamIdeal := fun m g _ => Cert.AdamIdeal.Gen.frame m g

/-- Its reference stops, keeps its arguments, leaves no count. -/
theorem adam_frame_ref : Cert.quiescent_AdamRefIdeal := by
  intro m g _
  refine (θ_run _ _ _).mono (fun r h => ⟨fun c => (h c).2.2.2, ?_⟩) (Cert.AdamRefIdeal.Value.run m g)
  exact sem_eq_zero_of_no_sems rfl _

/-- Over the extended reals the kernel of the optimiser's update gives the reference's results, from equal arguments. -/
theorem adam_algebraic : Cert.algebraic_AdamIdeal_AdamRefIdeal := by
  intro m g m' g' _ hagree
  refine ⟨fun c => (Cert.AdamIdeal.Gen.dats m 0 c).arrAt 4 Cert.AdamIdeal.cfg0.N, fun c => (Cert.AdamIdeal.Gen.dats m 0 c).arrAt 5 Cert.AdamIdeal.cfg0.N, fun c => (Cert.AdamIdeal.Gen.dats m 0 c).arrAt 6 Cert.AdamIdeal.cfg0.N, (θ_run _ _ _).mono (fun r h c => ?_) (Cert.AdamIdeal.Value.run_blocks m g),
    (θ_run _ _ _).mono (fun r h c => ?_) (Cert.AdamRefIdeal.Val.run m' g')⟩
  · exact h c
  · obtain ⟨h4, h5, h6, k0, k1, k2, k3⟩ := h c
    obtain ⟨a0, a1, a2, a3⟩ := hagree c
    refine ⟨h4.trans ?_, h5.trans ?_, h6.trans ?_, k0, k1, k2, k3⟩
    · rw [a0, a1, a2, a3]; exact (Cert.AdamIdeal.Val.final4 m c).symm
    · rw [a1, a2]; exact (Cert.AdamIdeal.Val.final5 m c).symm
    · rw [a1, a3]; exact (Cert.AdamIdeal.Val.final6 m c).symm

/-- The kernel of the depthwise convolution's gradient at bit-exact floats stops, keeps its arguments, leaves no count. -/
theorem conv_frame : Cert.quiescent_Conv := fun m g _ => Cert.Conv.Gen.frame m g

/-- The same for its ideal reading. -/
theorem conv_frame_ideal : Cert.quiescent_ConvIdeal := fun m g _ => Cert.ConvIdeal.Gen.frame m g

/-- Its reference stops, keeps its arguments, leaves no count. -/
theorem conv_frame_ref : Cert.quiescent_ConvRefIdeal := by
  intro m g _
  refine (θ_run _ _ _).mono (fun r h => ⟨fun c => (h c).2.2, ?_⟩) (Cert.ConvRefIdeal.Value.run m g)
  exact sem_eq_zero_of_no_sems rfl _

/-- Over the extended reals the kernel of the depthwise convolution's gradient gives the reference's results, from equal arguments. -/
theorem conv_algebraic : Cert.algebraic_ConvIdeal_ConvRefIdeal := by
  intro m g m' g' _ hagree
  refine ⟨fun c => (Cert.ConvIdeal.Gen.dats m 0 c).arrAt 5 Cert.ConvIdeal.cfg0.N, fun c => (Cert.ConvIdeal.Gen.dats m 0 c).arrAt 6 Cert.ConvIdeal.cfg0.N, (θ_run _ _ _).mono (fun r h c => ?_) (Cert.ConvIdeal.Value.run_blocks m g),
    (θ_run _ _ _).mono (fun r h c => ?_) (Cert.ConvRefIdeal.Val.run m' g')⟩
  · exact h c
  · obtain ⟨h5, h6, k0, k1, k2⟩ := h c
    obtain ⟨a0, a1, a2⟩ := hagree c
    refine ⟨h5.trans ?_, h6.trans ?_, k0, k1, k2⟩
    · rw [a0, a2]; exact (Cert.ConvIdeal.Val.final5 m c).symm
    · rw [a0, a1]; exact (Cert.ConvIdeal.Val.final6 m c).symm

/-- The kernel of the depthwise convolution at bit-exact floats stops, keeps its arguments, leaves no count. -/
theorem convFwd_frame : Cert.quiescent_ConvFwd := fun m g _ => Cert.ConvFwd.Gen.frame m g

/-- The same for its ideal reading. -/
theorem convFwd_frame_ideal : Cert.quiescent_ConvFwdIdeal := fun m g _ => Cert.ConvFwdIdeal.Gen.frame m g

/-- Its reference stops, keeps its arguments, leaves no count. -/
theorem convFwd_frame_ref : Cert.quiescent_ConvFwdRefIdeal := by
  intro m g _
  refine (θ_run _ _ _).mono (fun r h => ⟨fun c => (h c).2, ?_⟩) (Cert.ConvFwdRefIdeal.Value.run m g)
  exact sem_eq_zero_of_no_sems rfl _

/-- Over the extended reals the kernel of the depthwise convolution gives the reference's results, from equal arguments. -/
theorem convFwd_algebraic : Cert.algebraic_ConvFwdIdeal_ConvFwdRefIdeal := by
  intro m g m' g' _ hagree
  refine ⟨fun c => (Cert.ConvFwdIdeal.Gen.dats m 0 c).arrAt 4 Cert.ConvFwdIdeal.cfg0.N, (θ_run _ _ _).mono (fun r h c => ?_) (Cert.ConvFwdIdeal.Value.run_blocks m g),
    (θ_run _ _ _).mono (fun r h c => ?_) (Cert.ConvFwdRefIdeal.Val.run m' g')⟩
  · exact h c
  · obtain ⟨h4, k0, k1, k2⟩ := h c
    obtain ⟨a0, a1, a2⟩ := hagree c
    refine ⟨h4.trans ?_, k0, k1, k2⟩
    · rw [a0, a1, a2]; exact (Cert.ConvFwdIdeal.Val.final4 m c).symm

/-- The kernel of the conditioning's activation at bit-exact floats stops, keeps its arguments, leaves no count. -/
theorem cAct_frame : Cert.quiescent_CAct := fun m g _ => Cert.CAct.Gen.frame m g

/-- The same for its ideal reading. -/
theorem cAct_frame_ideal : Cert.quiescent_CActIdeal := fun m g _ => Cert.CActIdeal.Gen.frame m g

/-- Its reference stops, keeps its arguments, leaves no count. -/
theorem cAct_frame_ref : Cert.quiescent_CActRefIdeal := by
  intro m g _
  refine (θ_run _ _ _).mono (fun r h => ⟨fun c => (h c).2, ?_⟩) (Cert.CActRefIdeal.Value.run m g)
  exact sem_eq_zero_of_no_sems rfl _

/-- Over the extended reals the kernel of the conditioning's activation gives the reference's results, from equal arguments. -/
theorem cAct_algebraic : Cert.algebraic_CActIdeal_CActRefIdeal := by
  intro m g m' g' _ hagree
  refine ⟨fun c => (Cert.CActIdeal.Gen.dats m 0 c).arrAt 1 Cert.CActIdeal.cfg0.N, (θ_run _ _ _).mono (fun r h c => ?_) (Cert.CActIdeal.Value.run_blocks m g),
    (θ_run _ _ _).mono (fun r h c => ?_) (Cert.CActRefIdeal.Val.run m' g')⟩
  · exact h c
  · obtain ⟨h1, k0⟩ := h c
    have a0 := hagree c
    refine ⟨h1.trans ?_, k0⟩
    · rw [a0]; exact (Cert.CActIdeal.Val.final1 m c).symm

/-- The kernel of the modulation's product at bit-exact floats stops, keeps its arguments, leaves no count. -/
theorem modMm_frame : Cert.quiescent_ModMm := fun m g _ => Cert.ModMm.Gen.frame m g

/-- The same for its ideal reading. -/
theorem modMm_frame_ideal : Cert.quiescent_ModMmIdeal := fun m g _ => Cert.ModMmIdeal.Gen.frame m g

/-- Its reference stops, keeps its arguments, leaves no count. -/
theorem modMm_frame_ref : Cert.quiescent_ModMmRefIdeal := by
  intro m g _
  refine (θ_run _ _ _).mono (fun r h => ⟨fun c => (h c).2, ?_⟩) (Cert.ModMmRefIdeal.Value.run m g)
  exact sem_eq_zero_of_no_sems rfl _

/-- Over the extended reals the kernel of the modulation's product gives the reference's results, from equal arguments. -/
theorem modMm_algebraic : Cert.algebraic_ModMmIdeal_ModMmRefIdeal := by
  intro m g m' g' _ hagree
  refine ⟨fun c => (Cert.ModMmIdeal.Gen.dats m 0 c).arrAt 2 Cert.ModMmIdeal.cfg0.N, (θ_run _ _ _).mono (fun r h c => ?_) (Cert.ModMmIdeal.Value.run_blocks m g),
    (θ_run _ _ _).mono (fun r h c => ?_) (Cert.ModMmRefIdeal.Val.run m' g')⟩
  · exact h c
  · obtain ⟨h2, k0, k1⟩ := h c
    obtain ⟨a0, a1⟩ := hagree c
    refine ⟨h2.trans ?_, k0, k1⟩
    · rw [a0, a1]; exact (Cert.ModMmIdeal.Val.final2 m c).symm

/-- The kernel of the gradient of the modulation's matrix at bit-exact floats stops, keeps its arguments, leaves no count. -/
theorem modDw_frame : Cert.quiescent_ModDw := fun m g _ => Cert.ModDw.Gen.frame m g

/-- The same for its ideal reading. -/
theorem modDw_frame_ideal : Cert.quiescent_ModDwIdeal := fun m g _ => Cert.ModDwIdeal.Gen.frame m g

/-- Its reference stops, keeps its arguments, leaves no count. -/
theorem modDw_frame_ref : Cert.quiescent_ModDwRefIdeal := by
  intro m g _
  refine (θ_run _ _ _).mono (fun r h => ⟨fun c => (h c).2, ?_⟩) (Cert.ModDwRefIdeal.Value.run m g)
  exact sem_eq_zero_of_no_sems rfl _

/-- Over the extended reals the kernel of the gradient of the modulation's matrix gives the reference's results, from equal arguments. -/
theorem modDw_algebraic : Cert.algebraic_ModDwIdeal_ModDwRefIdeal := by
  intro m g m' g' _ hagree
  refine ⟨fun c => (Cert.ModDwIdeal.Gen.dats m 0 c).arrAt 2 Cert.ModDwIdeal.cfg0.N, (θ_run _ _ _).mono (fun r h c => ?_) (Cert.ModDwIdeal.Value.run_blocks m g),
    (θ_run _ _ _).mono (fun r h c => ?_) (Cert.ModDwRefIdeal.Val.run m' g')⟩
  · exact h c
  · obtain ⟨h2, k0, k1⟩ := h c
    obtain ⟨a0, a1⟩ := hagree c
    refine ⟨h2.trans ?_, k0, k1⟩
    · rw [a0, a1]; exact (Cert.ModDwIdeal.Val.final2 m c).symm

/-- The kernel of the modulation's bias at bit-exact floats stops, keeps its arguments, leaves no count. -/
theorem modBias_frame : Cert.quiescent_ModBias := fun m g _ => Cert.ModBias.Gen.frame m g

/-- The same for its ideal reading. -/
theorem modBias_frame_ideal : Cert.quiescent_ModBiasIdeal := fun m g _ => Cert.ModBiasIdeal.Gen.frame m g

/-- Its reference stops, keeps its arguments, leaves no count. -/
theorem modBias_frame_ref : Cert.quiescent_ModBiasRefIdeal := by
  intro m g _
  refine (θ_run _ _ _).mono (fun r h => ⟨fun c => (h c).2, ?_⟩) (Cert.ModBiasRefIdeal.Value.run m g)
  exact sem_eq_zero_of_no_sems rfl _

/-- Over the extended reals the kernel of the modulation's bias gives the reference's results, from equal arguments. -/
theorem modBias_algebraic : Cert.algebraic_ModBiasIdeal_ModBiasRefIdeal := by
  intro m g m' g' _ hagree
  refine ⟨fun c => (Cert.ModBiasIdeal.Gen.dats m 0 c).arrAt 2 Cert.ModBiasIdeal.cfg0.N, (θ_run _ _ _).mono (fun r h c => ?_) (Cert.ModBiasIdeal.Value.run_blocks m g),
    (θ_run _ _ _).mono (fun r h c => ?_) (Cert.ModBiasRefIdeal.Val.run m' g')⟩
  · exact h c
  · obtain ⟨h2, k0, k1⟩ := h c
    obtain ⟨a0, a1⟩ := hagree c
    refine ⟨h2.trans ?_, k0, k1⟩
    · rw [a0, a1]; exact (Cert.ModBiasIdeal.Val.final2 m c).symm

/-- The kernel of a biased residual's norm and the next modulation at bit-exact floats stops, keeps its arguments, leaves no count. -/
theorem lnB_frame : Cert.quiescent_LnB := fun m g _ => Cert.LnB.Gen.frame m g

/-- The same for its ideal reading. -/
theorem lnB_frame_ideal : Cert.quiescent_LnBIdeal := fun m g _ => Cert.LnBIdeal.Gen.frame m g

/-- Its reference stops, keeps its arguments, leaves no count. -/
theorem lnB_frame_ref : Cert.quiescent_LnBRefIdeal := by
  intro m g _
  refine (θ_run _ _ _).mono (fun r h => ⟨fun c => (h c).2.2, ?_⟩) (Cert.LnBRefIdeal.Value.run m g)
  exact sem_eq_zero_of_no_sems rfl _

/-- Over the extended reals the kernel of a biased residual's norm and the next modulation gives the reference's results, from equal arguments. -/
theorem lnB_algebraic : Cert.algebraic_LnBIdeal_LnBRefIdeal := by
  intro m g m' g' _ hagree
  refine ⟨fun c => (Cert.LnBIdeal.Gen.dats m 0 c).arrAt 8 Cert.LnBIdeal.cfg0.N, fun c => (Cert.LnBIdeal.Gen.dats m 0 c).arrAt 9 Cert.LnBIdeal.cfg0.N, (θ_run _ _ _).mono (fun r h c => ?_) (Cert.LnBIdeal.Value.run_blocks m g),
    (θ_run _ _ _).mono (fun r h c => ?_) (Cert.LnBRefIdeal.Val.run m' g')⟩
  · exact h c
  · obtain ⟨h8, h9, k0, k1, k2, k3, k4, k5, k6, k7⟩ := h c
    obtain ⟨a0, a1, a2, a3, a4, a5, a6, a7⟩ := hagree c
    refine ⟨h8.trans ?_, h9.trans ?_, k0, k1, k2, k3, k4, k5, k6, k7⟩
    · rw [a0, a1, a2, a3, a4, a5]; exact (Cert.LnBIdeal.Val.final8 m c).symm
    · rw [a0, a1, a2, a3, a4, a5, a6, a7]; exact (Cert.LnBIdeal.Val.final9 m c).symm

/-- The kernel of the last residual's norm at bit-exact floats stops, keeps its arguments, leaves no count. -/
theorem lnLast_frame : Cert.quiescent_LnLast := fun m g _ => Cert.LnLast.Gen.frame m g

/-- The same for its ideal reading. -/
theorem lnLast_frame_ideal : Cert.quiescent_LnLastIdeal := fun m g _ => Cert.LnLastIdeal.Gen.frame m g

/-- Its reference stops, keeps its arguments, leaves no count. -/
theorem lnLast_frame_ref : Cert.quiescent_LnLastRefIdeal := by
  intro m g _
  refine (θ_run _ _ _).mono (fun r h => ⟨fun c => (h c).2, ?_⟩) (Cert.LnLastRefIdeal.Value.run m g)
  exact sem_eq_zero_of_no_sems rfl _

/-- Over the extended reals the kernel of the last residual's norm gives the reference's results, from equal arguments. -/
theorem lnLast_algebraic : Cert.algebraic_LnLastIdeal_LnLastRefIdeal := by
  intro m g m' g' _ hagree
  refine ⟨fun c => (Cert.LnLastIdeal.Gen.dats m 0 c).arrAt 5 Cert.LnLastIdeal.cfg0.N, (θ_run _ _ _).mono (fun r h c => ?_) (Cert.LnLastIdeal.Value.run_blocks m g),
    (θ_run _ _ _).mono (fun r h c => ?_) (Cert.LnLastRefIdeal.Val.run m' g')⟩
  · exact h c
  · obtain ⟨h5, k0, k1, k2, k3, k4⟩ := h c
    obtain ⟨a0, a1, a2, a3, a4⟩ := hagree c
    refine ⟨h5.trans ?_, k0, k1, k2, k3, k4⟩
    · rw [a0, a1, a2, a3, a4]; exact (Cert.LnLastIdeal.Val.final5 m c).symm

/-- The kernel of the gMLP's activation and norm at bit-exact floats stops, keeps its arguments, leaves no count. -/
theorem gmAct_frame : Cert.quiescent_GmAct := fun m g _ => Cert.GmAct.Gen.frame m g

/-- The same for its ideal reading. -/
theorem gmAct_frame_ideal : Cert.quiescent_GmActIdeal := fun m g _ => Cert.GmActIdeal.Gen.frame m g

/-- Its reference stops, keeps its arguments, leaves no count. -/
theorem gmAct_frame_ref : Cert.quiescent_GmActRefIdeal := by
  intro m g _
  refine (θ_run _ _ _).mono (fun r h => ⟨fun c => (h c).2.2, ?_⟩) (Cert.GmActRefIdeal.Value.run m g)
  exact sem_eq_zero_of_no_sems rfl _

/-- Over the extended reals the kernel of the gMLP's activation and norm gives the reference's results, from equal arguments. -/
theorem gmAct_algebraic : Cert.algebraic_GmActIdeal_GmActRefIdeal := by
  intro m g m' g' _ hagree
  refine ⟨fun c => (Cert.GmActIdeal.Gen.dats m 0 c).arrAt 4 Cert.GmActIdeal.cfg0.N, fun c => (Cert.GmActIdeal.Gen.dats m 0 c).arrAt 5 Cert.GmActIdeal.cfg0.N, (θ_run _ _ _).mono (fun r h c => ?_) (Cert.GmActIdeal.Val.run_blocks m g),
    (θ_run _ _ _).mono (fun r h c => ?_) (Cert.GmActRefIdeal.Val.run m' g')⟩
  · exact h c
  · obtain ⟨h4, h5, k0, k1, k2, k3⟩ := h c
    obtain ⟨a0, a1, a2, a3⟩ := hagree c
    refine ⟨h4.trans ?_, h5.trans ?_, k0, k1, k2, k3⟩
    · rw [a0, a1]; exact (Cert.GmActIdeal.Val.final4 m c).symm
    · rw [a0, a1, a2, a3]; exact (Cert.GmActIdeal.Val.final5 m c).symm

/-- The kernel of the optimiser's update of the modulation's matrix at bit-exact floats stops, keeps its arguments, leaves no count. -/
theorem adamMod_frame : Cert.quiescent_AdamMod := fun m g _ => Cert.AdamMod.Gen.frame m g

/-- The same for its ideal reading. -/
theorem adamMod_frame_ideal : Cert.quiescent_AdamModIdeal := fun m g _ => Cert.AdamModIdeal.Gen.frame m g

/-- Its reference stops, keeps its arguments, leaves no count. -/
theorem adamMod_frame_ref : Cert.quiescent_AdamModRefIdeal := by
  intro m g _
  refine (θ_run _ _ _).mono (fun r h => ⟨fun c => (h c).2.2.2, ?_⟩) (Cert.AdamModRefIdeal.Value.run m g)
  exact sem_eq_zero_of_no_sems rfl _

/-- Over the extended reals the kernel of the optimiser's update of the modulation's matrix gives the reference's results, from equal arguments. -/
theorem adamMod_algebraic : Cert.algebraic_AdamModIdeal_AdamModRefIdeal := by
  intro m g m' g' _ hagree
  refine ⟨fun c => (Cert.AdamModIdeal.Gen.dats m 0 c).arrAt 4 Cert.AdamModIdeal.cfg0.N, fun c => (Cert.AdamModIdeal.Gen.dats m 0 c).arrAt 5 Cert.AdamModIdeal.cfg0.N, fun c => (Cert.AdamModIdeal.Gen.dats m 0 c).arrAt 6 Cert.AdamModIdeal.cfg0.N, (θ_run _ _ _).mono (fun r h c => ?_) (Cert.AdamModIdeal.Value.run_blocks m g),
    (θ_run _ _ _).mono (fun r h c => ?_) (Cert.AdamModRefIdeal.Val.run m' g')⟩
  · exact h c
  · obtain ⟨h4, h5, h6, k0, k1, k2, k3⟩ := h c
    obtain ⟨a0, a1, a2, a3⟩ := hagree c
    refine ⟨h4.trans ?_, h5.trans ?_, h6.trans ?_, k0, k1, k2, k3⟩
    · rw [a0, a1, a2, a3]; exact (Cert.AdamModIdeal.Val.final4 m c).symm
    · rw [a1, a2]; exact (Cert.AdamModIdeal.Val.final5 m c).symm
    · rw [a1, a3]; exact (Cert.AdamModIdeal.Val.final6 m c).symm

/-- The kernel of the optimiser's update of the output matrix at bit-exact floats stops, keeps its arguments, leaves no count. -/
theorem adamOut_frame : Cert.quiescent_AdamOut := fun m g _ => Cert.AdamOut.Gen.frame m g

/-- The same for its ideal reading. -/
theorem adamOut_frame_ideal : Cert.quiescent_AdamOutIdeal := fun m g _ => Cert.AdamOutIdeal.Gen.frame m g

/-- Its reference stops, keeps its arguments, leaves no count. -/
theorem adamOut_frame_ref : Cert.quiescent_AdamOutRefIdeal := by
  intro m g _
  refine (θ_run _ _ _).mono (fun r h => ⟨fun c => (h c).2.2.2, ?_⟩) (Cert.AdamOutRefIdeal.Value.run m g)
  exact sem_eq_zero_of_no_sems rfl _

/-- Over the extended reals the kernel of the optimiser's update of the output matrix gives the reference's results, from equal arguments. -/
theorem adamOut_algebraic : Cert.algebraic_AdamOutIdeal_AdamOutRefIdeal := by
  intro m g m' g' _ hagree
  refine ⟨fun c => (Cert.AdamOutIdeal.Gen.dats m 0 c).arrAt 4 Cert.AdamOutIdeal.cfg0.N, fun c => (Cert.AdamOutIdeal.Gen.dats m 0 c).arrAt 5 Cert.AdamOutIdeal.cfg0.N, fun c => (Cert.AdamOutIdeal.Gen.dats m 0 c).arrAt 6 Cert.AdamOutIdeal.cfg0.N, (θ_run _ _ _).mono (fun r h c => ?_) (Cert.AdamOutIdeal.Value.run_blocks m g),
    (θ_run _ _ _).mono (fun r h c => ?_) (Cert.AdamOutRefIdeal.Val.run m' g')⟩
  · exact h c
  · obtain ⟨h4, h5, h6, k0, k1, k2, k3⟩ := h c
    obtain ⟨a0, a1, a2, a3⟩ := hagree c
    refine ⟨h4.trans ?_, h5.trans ?_, h6.trans ?_, k0, k1, k2, k3⟩
    · rw [a0, a1, a2, a3]; exact (Cert.AdamOutIdeal.Val.final4 m c).symm
    · rw [a1, a2]; exact (Cert.AdamOutIdeal.Val.final5 m c).symm
    · rw [a1, a3]; exact (Cert.AdamOutIdeal.Val.final6 m c).symm

/-- Every claim of the certificate. -/
theorem claim : Cert.Claim :=
  ⟨Cert.Kernel.Gen.facts, Cert.KernelIdeal.Gen.facts, Cert.ReferenceIdeal.Gen.facts, Cert.Gate.Gen.facts, Cert.GateIdeal.Gen.facts, Cert.GateRefIdeal.Gen.facts, Cert.Dh.Gen.facts, Cert.DhIdeal.Gen.facts, Cert.DhRefIdeal.Gen.facts, Cert.Dwin.Gen.facts, Cert.DwinIdeal.Gen.facts, Cert.DwinRefIdeal.Gen.facts, Cert.Dwout.Gen.facts, Cert.DwoutIdeal.Gen.facts, Cert.DwoutRefIdeal.Gen.facts, Cert.Act.Gen.facts, Cert.ActIdeal.Gen.facts, Cert.ActRefIdeal.Gen.facts, Cert.Out.Gen.facts, Cert.OutIdeal.Gen.facts, Cert.OutRefIdeal.Gen.facts, Cert.FoxIn.Gen.facts, Cert.FoxInIdeal.Gen.facts, Cert.FoxInRefIdeal.Gen.facts, Cert.SbIn.Gen.facts, Cert.SbInIdeal.Gen.facts, Cert.SbInRefIdeal.Gen.facts, Cert.GmIn.Gen.facts, Cert.GmInIdeal.Gen.facts, Cert.GmInRefIdeal.Gen.facts, Cert.MixOut.Gen.facts, Cert.MixOutIdeal.Gen.facts, Cert.MixOutRefIdeal.Gen.facts, Cert.MixDwout.Gen.facts, Cert.MixDwoutIdeal.Gen.facts, Cert.MixDwoutRefIdeal.Gen.facts, Cert.GmDwin.Gen.facts, Cert.GmDwinIdeal.Gen.facts, Cert.GmDwinRefIdeal.Gen.facts, Cert.SbDwin.Gen.facts, Cert.SbDwinIdeal.Gen.facts, Cert.SbDwinRefIdeal.Gen.facts, Cert.FoxDwin.Gen.facts, Cert.FoxDwinIdeal.Gen.facts, Cert.FoxDwinRefIdeal.Gen.facts, Cert.GmDy.Gen.facts, Cert.GmDyIdeal.Gen.facts, Cert.GmDyRefIdeal.Gen.facts, Cert.FoxDo.Gen.facts, Cert.FoxDoIdeal.Gen.facts, Cert.FoxDoRefIdeal.Gen.facts, Cert.GmDh.Gen.facts, Cert.GmDhIdeal.Gen.facts, Cert.GmDhRefIdeal.Gen.facts, Cert.SbDh.Gen.facts, Cert.SbDhIdeal.Gen.facts, Cert.SbDhRefIdeal.Gen.facts, Cert.FoxDh.Gen.facts, Cert.FoxDhIdeal.Gen.facts, Cert.FoxDhRefIdeal.Gen.facts, Cert.ModBwd.Gen.facts, Cert.ModBwdIdeal.Gen.facts, Cert.ModBwdRefIdeal.Gen.facts, Cert.GluBwd.Gen.facts, Cert.GluBwdIdeal.Gen.facts, Cert.GluBwdRefIdeal.Gen.facts, Cert.Glu.Gen.facts, Cert.GluIdeal.Gen.facts, Cert.GluRefIdeal.Gen.facts, Cert.Mod.Gen.facts, Cert.ModIdeal.Gen.facts, Cert.ModRefIdeal.Gen.facts, Cert.Spatial.Gen.facts, Cert.SpatialIdeal.Gen.facts, Cert.SpatialRefIdeal.Gen.facts, Cert.Ln.Gen.facts, Cert.LnIdeal.Gen.facts, Cert.LnRefIdeal.Gen.facts, Cert.LnAct.Gen.facts, Cert.LnActIdeal.Gen.facts, Cert.LnActRefIdeal.Gen.facts, Cert.Loss.Gen.facts, Cert.LossIdeal.Gen.facts, Cert.LossRefIdeal.Gen.facts, Cert.Adam.Gen.facts, Cert.AdamIdeal.Gen.facts, Cert.AdamRefIdeal.Gen.facts, Cert.Conv.Gen.facts, Cert.ConvIdeal.Gen.facts, Cert.ConvRefIdeal.Gen.facts, Cert.ConvFwd.Gen.facts, Cert.ConvFwdIdeal.Gen.facts, Cert.ConvFwdRefIdeal.Gen.facts, Cert.CAct.Gen.facts, Cert.CActIdeal.Gen.facts, Cert.CActRefIdeal.Gen.facts, Cert.ModMm.Gen.facts, Cert.ModMmIdeal.Gen.facts, Cert.ModMmRefIdeal.Gen.facts, Cert.ModDw.Gen.facts, Cert.ModDwIdeal.Gen.facts, Cert.ModDwRefIdeal.Gen.facts, Cert.ModBias.Gen.facts, Cert.ModBiasIdeal.Gen.facts, Cert.ModBiasRefIdeal.Gen.facts, Cert.LnB.Gen.facts, Cert.LnBIdeal.Gen.facts, Cert.LnBRefIdeal.Gen.facts, Cert.LnLast.Gen.facts, Cert.LnLastIdeal.Gen.facts, Cert.LnLastRefIdeal.Gen.facts, Cert.GmAct.Gen.facts, Cert.GmActIdeal.Gen.facts, Cert.GmActRefIdeal.Gen.facts, Cert.AdamMod.Gen.facts, Cert.AdamModIdeal.Gen.facts, Cert.AdamModRefIdeal.Gen.facts, Cert.AdamOut.Gen.facts, Cert.AdamOutIdeal.Gen.facts, Cert.AdamOutRefIdeal.Gen.facts, preFacts,
    gm_frame, gm_frame_ideal, gm_frame_ref, gate_frame, gate_frame_ideal, (fun m g _ => gate_frame_ideal m g trivial), gate_frame_ref, (fun m g _ => gate_frame_ref m g trivial), dh_frame, dh_frame_ideal, dh_frame_ref, dwin_frame, dwin_frame_ideal, dwin_frame_ref, dwout_frame, dwout_frame_ideal, dwout_frame_ref, act_frame, act_frame_ideal, act_frame_ref, out_frame, out_frame_ideal, out_frame_ref, foxIn_frame, foxIn_frame_ideal, foxIn_frame_ref, sbIn_frame, sbIn_frame_ideal, sbIn_frame_ref, gmIn_frame, gmIn_frame_ideal, gmIn_frame_ref, mixOut_frame, mixOut_frame_ideal, mixOut_frame_ref, mixDwout_frame, mixDwout_frame_ideal, mixDwout_frame_ref, gmDwin_frame, gmDwin_frame_ideal, gmDwin_frame_ref, sbDwin_frame, sbDwin_frame_ideal, sbDwin_frame_ref, foxDwin_frame, foxDwin_frame_ideal, foxDwin_frame_ref, gmDy_frame, gmDy_frame_ideal, gmDy_frame_ref, foxDo_frame, foxDo_frame_ideal, foxDo_frame_ref, gmDh_frame, gmDh_frame_ideal, gmDh_frame_ref, sbDh_frame, sbDh_frame_ideal, sbDh_frame_ref, foxDh_frame, foxDh_frame_ideal, foxDh_frame_ref, modBwd_frame, modBwd_frame_ideal, modBwd_frame_ref, gluBwd_frame, gluBwd_frame_ideal, gluBwd_frame_ref, glu_frame, glu_frame_ideal, glu_frame_ref, mod_frame, mod_frame_ideal, mod_frame_ref, spatial_frame, spatial_frame_ideal, spatial_frame_ref, ln_frame, ln_frame_ideal, ln_frame_ref, lnAct_frame, lnAct_frame_ideal, lnAct_frame_ref, loss_frame, loss_frame_ideal, loss_frame_ref, adam_frame, adam_frame_ideal, adam_frame_ref, conv_frame, conv_frame_ideal, conv_frame_ref, convFwd_frame, convFwd_frame_ideal, convFwd_frame_ref, cAct_frame, cAct_frame_ideal, cAct_frame_ref, modMm_frame, modMm_frame_ideal, modMm_frame_ref, modDw_frame, modDw_frame_ideal, modDw_frame_ref, modBias_frame, modBias_frame_ideal, modBias_frame_ref, lnB_frame, lnB_frame_ideal, lnB_frame_ref, lnLast_frame, lnLast_frame_ideal, lnLast_frame_ref, gmAct_frame, gmAct_frame_ideal, gmAct_frame_ref, adamMod_frame, adamMod_frame_ideal, adamMod_frame_ref, adamOut_frame, adamOut_frame_ideal, adamOut_frame_ref,
    trivial, gm_algebraic, trivial, gate_algebraic, trivial, dh_algebraic, trivial, dwin_algebraic, trivial, dwout_algebraic, trivial, act_algebraic, trivial, out_algebraic, trivial, foxIn_algebraic, trivial, sbIn_algebraic, trivial, gmIn_algebraic, trivial, mixOut_algebraic, trivial, mixDwout_algebraic, trivial, gmDwin_algebraic, trivial, sbDwin_algebraic, trivial, foxDwin_algebraic, trivial, gmDy_algebraic, trivial, foxDo_algebraic, trivial, gmDh_algebraic, trivial, sbDh_algebraic, trivial, foxDh_algebraic, trivial, modBwd_algebraic, trivial, gluBwd_algebraic, trivial, glu_algebraic, trivial, mod_algebraic, trivial, spatial_algebraic, trivial, ln_algebraic, trivial, lnAct_algebraic, trivial, loss_algebraic, trivial, adam_algebraic, trivial, conv_algebraic, trivial, convFwd_algebraic, trivial, cAct_algebraic, trivial, modMm_algebraic, trivial, modDw_algebraic, trivial, modBias_algebraic, trivial, lnB_algebraic, trivial, lnLast_algebraic, trivial, gmAct_algebraic, trivial, adamMod_algebraic, trivial, adamOut_algebraic⟩

end Cert.Proof

end
